-- ==== Defs.lean ====
def Pre_Kernel [hPre_in_range_Kernel : Cert.Pre_in_range_Kernel.Facts] (m : (ℓ : Loc Cert.Kernel.nD Cert.Kernel.τ Cert.Kernel.sig) → Buf (Elt Bits) ℓ) : Prop :=
  ∀ c : Dev Cert.Kernel.nD,
    (Cert.Pre_in_range_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range_Kernel : Cert.Pre_in_range_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range_Kernel : Cert.Pre_in_range_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range_Kernel : Cert.Pre_in_range_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range_Kernel : Cert.Pre_in_range_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range_Kernel : Cert.Pre_in_range_Kernel.Facts) (hPre_in_range_ReferenceIdeal : Cert.Pre_in_range_ReferenceIdeal.Facts),
    quiescent_Kernel (hKernel := hKernel) (hPre_in_range_Kernel := hPre_in_range_Kernel)
    ∧ quiescent_KernelIdeal (hKernelIdeal := hKernelIdeal) (hPre_in_range_Kernel := hPre_in_range_Kernel)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal (hKernelIdeal := hKernelIdeal) (hReferenceIdeal := hReferenceIdeal) (hPre_in_range_Kernel := hPre_in_range_Kernel)
-- ==== Pre_in_range_Kernel.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x512 .f32) (main_arg1 : FVec F S512x128 .f32) (main_arg2 : IVec S1024x1 32) (main_arg3 : FVec F S4x512x1024 .f32) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 128#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  main_v5
-- ==== Pre_in_range_ReferenceIdeal.lean ====
abbrev S1024x512 : Shape := ⟨2, ![1024, 512]⟩
abbrev S512x128 : Shape := ⟨2, ![512, 128]⟩
abbrev S1024x1 : Shape := ⟨2, ![1024, 1]⟩
abbrev S128x512x1024 : Shape := ⟨3, ![128, 512, 1024]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x512 .f32) (main_arg1 : FVec F S512x128 .f32) (main_arg2 : IVec S1024x1 32) (main_arg3 : FVec F S128x512x1024 .f32) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 128#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  main_v5
-- ==== Kernel.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S1024 : Shape := ⟨1, ![1024]⟩
abbrev S128 : Shape := ⟨1, ![128]⟩
abbrev S1x128 : Shape := ⟨2, ![1, 128]⟩
abbrev S1024x128 : Shape := ⟨2, ![1024, 128]⟩
abbrev S_ : Shape := ⟨0, ![]⟩
abbrev S1x1024 : Shape := ⟨2, ![1, 1024]⟩
abbrev S768 : Shape := ⟨1, ![768]⟩
abbrev S768x1 : Shape := ⟨2, ![768, 1]⟩
abbrev S768x1024 : Shape := ⟨2, ![768, 1024]⟩
abbrev S32x24 : Shape := ⟨2, ![32, 24]⟩
abbrev S1024x1024 : Shape := ⟨2, ![1024, 1024]⟩
abbrev S32x24x1024 : Shape := ⟨3, ![32, 24, 1024]⟩
abbrev S24x512 : Shape := ⟨2, ![24, 512]⟩
abbrev S24x1024 : Shape := ⟨2, ![24, 1024]⟩
abbrev S1032x1024 : Shape := ⟨2, ![1032, 1024]⟩
abbrev S32 : Shape := ⟨1, ![32]⟩
abbrev S1x1 : Shape := ⟨2, ![1, 1]⟩
abbrev S1x512 : Shape := ⟨2, ![1, 512]⟩
abbrev S6x512 : Shape := ⟨2, ![6, 512]⟩
abbrev S1x512x1024 : Shape := ⟨3, ![1, 512, 1024]⟩
abbrev S512x1024 : Shape := ⟨2, ![512, 1024]⟩
abbrev S6x1024 : Shape := ⟨2, ![6, 1024]⟩
abbrev S1x6x1024 : Shape := ⟨3, ![1, 6, 1024]⟩
abbrev S1 : Shape := ⟨1, ![1]⟩
abbrev S1x24x1024 : Shape := ⟨3, ![1, 24, 1024]⟩

abbrev nBuf : Space → Nat
  | .hbm => 61
  | .vmem => 7
  | .smem => 1
  | _ => 0

abbrev bufTy : (tb : Table) → Fin (tcTables nBuf tb) → BufTy
  | .hbm, ⟨0, _⟩ => ⟨S1024x512, .f32⟩
  | .hbm, ⟨1, _⟩ => ⟨S512x128, .f32⟩
  | .hbm, ⟨2, _⟩ => ⟨S1024x1, .i32⟩
  | .hbm, ⟨3, _⟩ => ⟨S4x512x1024, .f32⟩
  | .hbm, ⟨4, _⟩ => ⟨S1024, .i32⟩
  | .hbm, ⟨5, _⟩ => ⟨S1024x1, .i32⟩
  | .hbm, ⟨6, _⟩ => ⟨S128, .i32⟩
  | .hbm, ⟨7, _⟩ => ⟨S1x128, .i32⟩
  | .hbm, ⟨8, _⟩ => ⟨S1024x128, .i32⟩
  | .hbm, ⟨9, _⟩ => ⟨S1024x128, .i32⟩
  | .hbm, ⟨10, _⟩ => ⟨S1024x128, .i1⟩
  | .hbm, ⟨11, _⟩ => ⟨S1024x128, .i32⟩
  | .hbm, ⟨12, _⟩ => ⟨S_, .i32⟩
  | .hbm, ⟨13, _⟩ => ⟨S_, .i32⟩
  | .hbm, ⟨14, _⟩ => ⟨S1024x128, .i32⟩
  | .hbm, ⟨15, _⟩ => ⟨S1024x128, .i32⟩
  | .hbm, ⟨16, _⟩ => ⟨S_, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1x1024, .i32⟩
  | .hbm, ⟨33, _⟩ => ⟨S768, .i32⟩
  | .hbm, ⟨34, _⟩ => ⟨S768x1, .i32⟩
  | .hbm, ⟨35, _⟩ => ⟨S768x1024, .i32⟩
  | .hbm, ⟨36, _⟩ => ⟨S768x1024, .i32⟩
  | .hbm, ⟨37, _⟩ => ⟨S768x1024, .i1⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i32⟩
  | .hbm, ⟨42, _⟩ => ⟨S_, .i32⟩
  | .hbm, ⟨43, _⟩ => ⟨S_, .i32⟩
  | .hbm, ⟨44, _⟩ => ⟨S768x1024, .i32⟩
  | .hbm, ⟨45, _⟩ => ⟨S768x1024, .i32⟩
  | .hbm, ⟨46, _⟩ => ⟨S768x1024, .i32⟩
  | .hbm, ⟨47, _⟩ => ⟨S_, .i32⟩
  | .hbm, ⟨48, _⟩ => ⟨S768, .i32⟩
  | .hbm, ⟨49, _⟩ => ⟨S_, .i32⟩
  | .hbm, ⟨50, _⟩ => ⟨S768, .i32⟩
  | .hbm, ⟨51, _⟩ => ⟨S768, .i32⟩
  | .hbm, ⟨52, _⟩ => ⟨S_, .i32⟩
  | .hbm, ⟨53, _⟩ => ⟨S768, .i32⟩
  | .hbm, ⟨54, _⟩ => ⟨S768, .i1⟩
  | .hbm, ⟨55, _⟩ => ⟨S_, .i32⟩
  | .hbm, ⟨56, _⟩ => ⟨S_, .i32⟩
  | .hbm, ⟨57, _⟩ => ⟨S768, .i32⟩
  | .hbm, ⟨58, _⟩ => ⟨S768, .i32⟩
  | .hbm, ⟨59, _⟩ => ⟨S32x24, .i32⟩
  | .hbm, ⟨60, _⟩ => ⟨S1024x1024, .f32⟩
  | .local _ .vmem, ⟨0, _⟩ => ⟨S1024x512, .f32⟩
  | .local _ .vmem, ⟨1, _⟩ => ⟨S4x512x1024, .f32⟩
  | .local _ .vmem, ⟨2, _⟩ => ⟨S1024x1024, .f32⟩
  | .local _ .vmem, ⟨3, _⟩ => ⟨S32x24x1024, .bf16⟩
  | .local _ .vmem, ⟨4, _⟩ => ⟨S24x512, .f32⟩
  | .local _ .vmem, ⟨5, _⟩ => ⟨S24x1024, .f32⟩
  | .local _ .vmem, ⟨6, _⟩ => ⟨S1032x1024, .f32⟩
  | .local _ .smem, ⟨0, _⟩ => ⟨S32x24, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_call0_c : Ref sig .tc := ⟨.hbm, 12, rfl⟩
abbrev main_call0_call0_v0 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_call1_v0 : Ref sig .tc := ⟨.hbm, 29, rfl⟩
abbrev main_call1_v1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_call3_v0 : Ref sig .tc := ⟨.hbm, 56, rfl⟩
abbrev main_call3_v1 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v128 : Index := Scalar.indexCast v2
  let c0 : Index := 0#32
  ![v128.toNat, 0]
def k0_off2 (v129 : BitVec 32) : Fin 2 → Nat :=
  let v6669 : Index := Scalar.indexCast v129
  let c0_4154 : Index := 0#32
  ![v6669.toNat, 0]
def k0_cond1 (v129 : BitVec 32) : BitVec 1 :=
  let c1024_i32 : BitVec 32 := 1024#32
  let v130 : BitVec 1 := Scalar.cmpi .slt v129 c1024_i32
  let v131 : BitVec 32 := Scalar.extui v130
  let c0_i32_124 : BitVec 32 := 0#32
  let v132 : BitVec 1 := Scalar.cmpi .ne v131 c0_i32_124
  v132

def k0_chk1 (v129 : BitVec 32) : Prop :=
  (∀ (k0_h1 : k0_cond1 v129 = 1#1), ∀ a, (k0_off2 v129) a + S1x512.size a ≤ S1024x512.size a)
theorem k0_off2_inb : ∀ (v129 : BitVec 32) (k0_hw1 : k0_chk1 v129), ∀ (k0_h1 : k0_cond1 v129 = 1#1), ∀ a, (k0_off2 v129) a + S1x512.size a ≤ S1024x512.size a := fun v129 k0_hw1 k0_h1 => k0_hw1 k0_h1

def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v133 : Index := Scalar.indexCast v2
  let c1 : Index := 1#32
  ![v133.toNat, 1]
def k0_off4 (v134 : BitVec 32) : Fin 2 → Nat :=
  let v6669 : Index := Scalar.indexCast v134
  let c0_4154 : Index := 0#32
  ![v6669.toNat, 0]
def k0_cond2 (v134 : BitVec 32) : BitVec 1 :=
  let c1024_i32_125 : BitVec 32 := 1024#32
  let v135 : BitVec 1 := Scalar.cmpi .slt v134 c1024_i32_125
  let v136 : BitVec 32 := Scalar.extui v135
  let c0_i32_126 : BitVec 32 := 0#32
  let v137 : BitVec 1 := Scalar.cmpi .ne v136 c0_i32_126
  v137

def k0_chk2 (v134 : BitVec 32) : Prop :=
  (∀ (k0_h2 : k0_cond2 v134 = 1#1), ∀ a, (k0_off4 v134) a + S1x512.size a ≤ S1024x512.size a)
theorem k0_off4_inb : ∀ (v134 : BitVec 32) (k0_hw2 : k0_chk2 v134), ∀ (k0_h2 : k0_cond2 v134 = 1#1), ∀ a, (k0_off4 v134) a + S1x512.size a ≤ S1024x512.size a := fun v134 k0_hw2 k0_h2 => k0_hw2 k0_h2

def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v138 : Index := Scalar.indexCast v2
  let c2 : Index := 2#32
  ![v138.toNat, 2]
def k0_off6 (v139 : BitVec 32) : Fin 2 → Nat :=
  let v6669 : Index := Scalar.indexCast v139
  let c0_4154 : Index := 0#32
  ![v6669.toNat, 0]
def k0_cond3 (v139 : BitVec 32) : BitVec 1 :=
  let c1024_i32_127 : BitVec 32 := 1024#32
  let v140 : BitVec 1 := Scalar.cmpi .slt v139 c1024_i32_127
  let v141 : BitVec 32 := Scalar.extui v140
  let c0_i32_128 : BitVec 32 := 0#32
  let v142 : BitVec 1 := Scalar.cmpi .ne v141 c0_i32_128
  v142

def k0_chk3 (v139 : BitVec 32) : Prop :=
  (∀ (k0_h3 : k0_cond3 v139 = 1#1), ∀ a, (k0_off6 v139) a + S1x512.size a ≤ S1024x512.size a)
theorem k0_off6_inb : ∀ (v139 : BitVec 32) (k0_hw3 : k0_chk3 v139), ∀ (k0_h3 : k0_cond3 v139 = 1#1), ∀ a, (k0_off6 v139) a + S1x512.size a ≤ S1024x512.size a := fun v139 k0_hw3 k0_h3 => k0_hw3 k0_h3

def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v143 : Index := Scalar.indexCast v2
  let c3 : Index := 3#32
  ![v143.toNat, 3]
def k0_off8 (v144 : BitVec 32) : Fin 2 → Nat :=
  let v6669 : Index := Scalar.indexCast v144
  let c0_4154 : Index := 0#32
  ![v6669.toNat, 0]
def k0_cond4 (v144 : BitVec 32) : BitVec 1 :=
  let c1024_i32_129 : BitVec 32 := 1024#32
  let v145 : BitVec 1 := Scalar.cmpi .slt v144 c1024_i32_129
  let v146 : BitVec 32 := Scalar.extui v145
  let c0_i32_130 : BitVec 32 := 0#32
  let v147 : BitVec 1 := Scalar.cmpi .ne v146 c0_i32_130
  v147

def k0_chk4 (v144 : BitVec 32) : Prop :=
  (∀ (k0_h4 : k0_cond4 v144 = 1#1), ∀ a, (k0_off8 v144) a + S1x512.size a ≤ S1024x512.size a)
theorem k0_off8_inb : ∀ (v144 : BitVec 32) (k0_hw4 : k0_chk4 v144), ∀ (k0_h4 : k0_cond4 v144 = 1#1), ∀ a, (k0_off8 v144) a + S1x512.size a ≤ S1024x512.size a := fun v144 k0_hw4 k0_h4 => k0_hw4 k0_h4

def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v148 : Index := Scalar.indexCast v2
  let c4 : Index := 4#32
  ![v148.toNat, 4]
def k0_off10 (v149 : BitVec 32) : Fin 2 → Nat :=
  let v6669 : Index := Scalar.indexCast v149
  let c0_4154 : Index := 0#32
  ![v6669.toNat, 0]
def k0_cond5 (v149 : BitVec 32) : BitVec 1 :=
  let c1024_i32_131 : BitVec 32 := 1024#32
  let v150 : BitVec 1 := Scalar.cmpi .slt v149 c1024_i32_131
  let v151 : BitVec 32 := Scalar.extui v150
  let c0_i32_132 : BitVec 32 := 0#32
  let v152 : BitVec 1 := Scalar.cmpi .ne v151 c0_i32_132
  v152

def k0_chk5 (v149 : BitVec 32) : Prop :=
  (∀ (k0_h5 : k0_cond5 v149 = 1#1), ∀ a, (k0_off10 v149) a + S1x512.size a ≤ S1024x512.size a)
theorem k0_off10_inb : ∀ (v149 : BitVec 32) (k0_hw5 : k0_chk5 v149), ∀ (k0_h5 : k0_cond5 v149 = 1#1), ∀ a, (k0_off10 v149) a + S1x512.size a ≤ S1024x512.size a := fun v149 k0_hw5 k0_h5 => k0_hw5 k0_h5

def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v153 : Index := Scalar.indexCast v2
  let c5 : Index := 5#32
  ![v153.toNat, 5]
def k0_off12 (v154 : BitVec 32) : Fin 2 → Nat :=
  let v6669 : Index := Scalar.indexCast v154
  let c0_4154 : Index := 0#32
  ![v6669.toNat, 0]
def k0_cond6 (v154 : BitVec 32) : BitVec 1 :=
  let c1024_i32_133 : BitVec 32 := 1024#32
  let v155 : BitVec 1 := Scalar.cmpi .slt v154 c1024_i32_133
  let v156 : BitVec 32 := Scalar.extui v155
  let c0_i32_134 : BitVec 32 := 0#32
  let v157 : BitVec 1 := Scalar.cmpi .ne v156 c0_i32_134
  v157

def k0_chk6 (v154 : BitVec 32) : Prop :=
  (∀ (k0_h6 : k0_cond6 v154 = 1#1), ∀ a, (k0_off12 v154) a + S1x512.size a ≤ S1024x512.size a)
theorem k0_off12_inb : ∀ (v154 : BitVec 32) (k0_hw6 : k0_chk6 v154), ∀ (k0_h6 : k0_cond6 v154 = 1#1), ∀ a, (k0_off12 v154) a + S1x512.size a ≤ S1024x512.size a := fun v154 k0_hw6 k0_h6 => k0_hw6 k0_h6

def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v158 : Index := Scalar.indexCast v2
  let c6 : Index := 6#32
  ![v158.toNat, 6]
def k0_off14 (v159 : BitVec 32) : Fin 2 → Nat :=
  let v6669 : Index := Scalar.indexCast v159
  let c0_4154 : Index := 0#32
  ![v6669.toNat, 0]
def k0_cond7 (v159 : BitVec 32) : BitVec 1 :=
  let c1024_i32_135 : BitVec 32 := 1024#32
  let v160 : BitVec 1 := Scalar.cmpi .slt v159 c1024_i32_135
  let v161 : BitVec 32 := Scalar.extui v160
  let c0_i32_136 : BitVec 32 := 0#32
  let v162 : BitVec 1 := Scalar.cmpi .ne v161 c0_i32_136
  v162

def k0_chk7 (v159 : BitVec 32) : Prop :=
  (∀ (k0_h7 : k0_cond7 v159 = 1#1), ∀ a, (k0_off14 v159) a + S1x512.size a ≤ S1024x512.size a)
theorem k0_off14_inb : ∀ (v159 : BitVec 32) (k0_hw7 : k0_chk7 v159), ∀ (k0_h7 : k0_cond7 v159 = 1#1), ∀ a, (k0_off14 v159) a + S1x512.size a ≤ S1024x512.size a := fun v159 k0_hw7 k0_h7 => k0_hw7 k0_h7

def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v163 : Index := Scalar.indexCast v2
  let c7 : Index := 7#32
  ![v163.toNat, 7]
def k0_off16 (v164 : BitVec 32) : Fin 2 → Nat :=
  let v6669 : Index := Scalar.indexCast v164
  let c0_4154 : Index := 0#32
  ![v6669.toNat, 0]
def k0_cond8 (v164 : BitVec 32) : BitVec 1 :=
  let c1024_i32_137 : BitVec 32 := 1024#32
  let v165 : BitVec 1 := Scalar.cmpi .slt v164 c1024_i32_137
  let v166 : BitVec 32 := Scalar.extui v165
  let c0_i32_138 : BitVec 32 := 0#32
  let v167 : BitVec 1 := Scalar.cmpi .ne v166 c0_i32_138
  v167

def k0_chk8 (v164 : BitVec 32) : Prop :=
  (∀ (k0_h8 : k0_cond8 v164 = 1#1), ∀ a, (k0_off16 v164) a + S1x512.size a ≤ S1024x512.size a)
theorem k0_off16_inb : ∀ (v164 : BitVec 32) (k0_hw8 : k0_chk8 v164), ∀ (k0_h8 : k0_cond8 v164 = 1#1), ∀ a, (k0_off16 v164) a + S1x512.size a ≤ S1024x512.size a := fun v164 k0_hw8 k0_h8 => k0_hw8 k0_h8

def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v168 : Index := Scalar.indexCast v2
  let c8 : Index := 8#32
  ![v168.toNat, 8]
def k0_off18 (v169 : BitVec 32) : Fin 2 → Nat :=
  let v6669 : Index := Scalar.indexCast v169
  let c0_4154 : Index := 0#32
  ![v6669.toNat, 0]
def k0_cond9 (v169 : BitVec 32) : BitVec 1 :=
  let c1024_i32_139 : BitVec 32 := 1024#32
  let v170 : BitVec 1 := Scalar.cmpi .slt v169 c1024_i32_139
  let v171 : BitVec 32 := Scalar.extui v170
  let c0_i32_140 : BitVec 32 := 0#32
  let v172 : BitVec 1 := Scalar.cmpi .ne v171 c0_i32_140
  v172

def k0_chk9 (v169 : BitVec 32) : Prop :=
  (∀ (k0_h9 : k0_cond9 v169 = 1#1), ∀ a, (k0_off18 v169) a + S1x512.size a ≤ S1024x512.size a)
theorem k0_off18_inb : ∀ (v169 : BitVec 32) (k0_hw9 : k0_chk9 v169), ∀ (k0_h9 : k0_cond9 v169 = 1#1), ∀ a, (k0_off18 v169) a + S1x512.size a ≤ S1024x512.size a := fun v169 k0_hw9 k0_h9 => k0_hw9 k0_h9

def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v173 : Index := Scalar.indexCast v2
  let c9 : Index := 9#32
  ![v173.toNat, 9]
def k0_off20 (v174 : BitVec 32) : Fin 2 → Nat :=
  let v6669 : Index := Scalar.indexCast v174
  let c0_4154 : Index := 0#32
  ![v6669.toNat, 0]
def k0_cond10 (v174 : BitVec 32) : BitVec 1 :=
  let c1024_i32_141 : BitVec 32 := 1024#32
  let v175 : BitVec 1 := Scalar.cmpi .slt v174 c1024_i32_141
  let v176 : BitVec 32 := Scalar.extui v175
  let c0_i32_142 : BitVec 32 := 0#32
  let v177 : BitVec 1 := Scalar.cmpi .ne v176 c0_i32_142
  v177

def k0_chk10 (v174 : BitVec 32) : Prop :=
  (∀ (k0_h10 : k0_cond10 v174 = 1#1), ∀ a, (k0_off20 v174) a + S1x512.size a ≤ S1024x512.size a)
theorem k0_off20_inb : ∀ (v174 : BitVec 32) (k0_hw10 : k0_chk10 v174), ∀ (k0_h10 : k0_cond10 v174 = 1#1), ∀ a, (k0_off20 v174) a + S1x512.size a ≤ S1024x512.size a := fun v174 k0_hw10 k0_h10 => k0_hw10 k0_h10

def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v178 : Index := Scalar.indexCast v2
  let c10 : Index := 10#32
  ![v178.toNat, 10]
def k0_off22 (v179 : BitVec 32) : Fin 2 → Nat :=
  let v6669 : Index := Scalar.indexCast v179
  let c0_4154 : Index := 0#32
  ![v6669.toNat, 0]
def k0_cond11 (v179 : BitVec 32) : BitVec 1 :=
  let c1024_i32_143 : BitVec 32 := 1024#32
  let v180 : BitVec 1 := Scalar.cmpi .slt v179 c1024_i32_143
  let v181 : BitVec 32 := Scalar.extui v180
  let c0_i32_144 : BitVec 32 := 0#32
  let v182 : BitVec 1 := Scalar.cmpi .ne v181 c0_i32_144
  v182

def k0_chk11 (v179 : BitVec 32) : Prop :=
  (∀ (k0_h11 : k0_cond11 v179 = 1#1), ∀ a, (k0_off22 v179) a + S1x512.size a ≤ S1024x512.size a)
theorem k0_off22_inb : ∀ (v179 : BitVec 32) (k0_hw11 : k0_chk11 v179), ∀ (k0_h11 : k0_cond11 v179 = 1#1), ∀ a, (k0_off22 v179) a + S1x512.size a ≤ S1024x512.size a := fun v179 k0_hw11 k0_h11 => k0_hw11 k0_h11

def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v183 : Index := Scalar.indexCast v2
  let c11 : Index := 11#32
  ![v183.toNat, 11]
def k0_off24 (v184 : BitVec 32) : Fin 2 → Nat :=
  let v6669 : Index := Scalar.indexCast v184
  let c0_4154 : Index := 0#32
  ![v6669.toNat, 0]
def k0_cond12 (v184 : BitVec 32) : BitVec 1 :=
  let c1024_i32_145 : BitVec 32 := 1024#32
  let v185 : BitVec 1 := Scalar.cmpi .slt v184 c1024_i32_145
  let v186 : BitVec 32 := Scalar.extui v185
  let c0_i32_146 : BitVec 32 := 0#32
  let v187 : BitVec 1 := Scalar.cmpi .ne v186 c0_i32_146
  v187

def k0_chk12 (v184 : BitVec 32) : Prop :=
  (∀ (k0_h12 : k0_cond12 v184 = 1#1), ∀ a, (k0_off24 v184) a + S1x512.size a ≤ S1024x512.size a)
theorem k0_off24_inb : ∀ (v184 : BitVec 32) (k0_hw12 : k0_chk12 v184), ∀ (k0_h12 : k0_cond12 v184 = 1#1), ∀ a, (k0_off24 v184) a + S1x512.size a ≤ S1024x512.size a := fun v184 k0_hw12 k0_h12 => k0_hw12 k0_h12

def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v188 : Index := Scalar.indexCast v2
  let c12 : Index := 12#32
  ![v188.toNat, 12]
def k0_off26 (v189 : BitVec 32) : Fin 2 → Nat :=
  let v6669 : Index := Scalar.indexCast v189
  let c0_4154 : Index := 0#32
  ![v6669.toNat, 0]
def k0_cond13 (v189 : BitVec 32) : BitVec 1 :=
  let c1024_i32_147 : BitVec 32 := 1024#32
  let v190 : BitVec 1 := Scalar.cmpi .slt v189 c1024_i32_147
  let v191 : BitVec 32 := Scalar.extui v190
  let c0_i32_148 : BitVec 32 := 0#32
  let v192 : BitVec 1 := Scalar.cmpi .ne v191 c0_i32_148
  v192

def k0_chk13 (v189 : BitVec 32) : Prop :=
  (∀ (k0_h13 : k0_cond13 v189 = 1#1), ∀ a, (k0_off26 v189) a + S1x512.size a ≤ S1024x512.size a)
theorem k0_off26_inb : ∀ (v189 : BitVec 32) (k0_hw13 : k0_chk13 v189), ∀ (k0_h13 : k0_cond13 v189 = 1#1), ∀ a, (k0_off26 v189) a + S1x512.size a ≤ S1024x512.size a := fun v189 k0_hw13 k0_h13 => k0_hw13 k0_h13

def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v193 : Index := Scalar.indexCast v2
  let c13 : Index := 13#32
  ![v193.toNat, 13]
def k0_off28 (v194 : BitVec 32) : Fin 2 → Nat :=
  let v6669 : Index := Scalar.indexCast v194
  let c0_4154 : Index := 0#32
  ![v6669.toNat, 0]
def k0_cond14 (v194 : BitVec 32) : BitVec 1 :=
  let c1024_i32_149 : BitVec 32 := 1024#32
  let v195 : BitVec 1 := Scalar.cmpi .slt v194 c1024_i32_149
  let v196 : BitVec 32 := Scalar.extui v195
  let c0_i32_150 : BitVec 32 := 0#32
  let v197 : BitVec 1 := Scalar.cmpi .ne v196 c0_i32_150
  v197

def k0_chk14 (v194 : BitVec 32) : Prop :=
  (∀ (k0_h14 : k0_cond14 v194 = 1#1), ∀ a, (k0_off28 v194) a + S1x512.size a ≤ S1024x512.size a)
theorem k0_off28_inb : ∀ (v194 : BitVec 32) (k0_hw14 : k0_chk14 v194), ∀ (k0_h14 : k0_cond14 v194 = 1#1), ∀ a, (k0_off28 v194) a + S1x512.size a ≤ S1024x512.size a := fun v194 k0_hw14 k0_h14 => k0_hw14 k0_h14

def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v198 : Index := Scalar.indexCast v2
  let c14 : Index := 14#32
  ![v198.toNat, 14]
def k0_off30 (v199 : BitVec 32) : Fin 2 → Nat :=
  let v6669 : Index := Scalar.indexCast v199
  let c0_4154 : Index := 0#32
  ![v6669.toNat, 0]
def k0_cond15 (v199 : BitVec 32) : BitVec 1 :=
  let c1024_i32_151 : BitVec 32 := 1024#32
  let v200 : BitVec 1 := Scalar.cmpi .slt v199 c1024_i32_151
  let v201 : BitVec 32 := Scalar.extui v200
  let c0_i32_152 : BitVec 32 := 0#32
  let v202 : BitVec 1 := Scalar.cmpi .ne v201 c0_i32_152
  v202

def k0_chk15 (v199 : BitVec 32) : Prop :=
  (∀ (k0_h15 : k0_cond15 v199 = 1#1), ∀ a, (k0_off30 v199) a + S1x512.size a ≤ S1024x512.size a)
theorem k0_off30_inb : ∀ (v199 : BitVec 32) (k0_hw15 : k0_chk15 v199), ∀ (k0_h15 : k0_cond15 v199 = 1#1), ∀ a, (k0_off30 v199) a + S1x512.size a ≤ S1024x512.size a := fun v199 k0_hw15 k0_h15 => k0_hw15 k0_h15

def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v203 : Index := Scalar.indexCast v2
  let c15 : Index := 15#32
  ![v203.toNat, 15]
def k0_off32 (v204 : BitVec 32) : Fin 2 → Nat :=
  let v6669 : Index := Scalar.indexCast v204
  let c0_4154 : Index := 0#32
  ![v6669.toNat, 0]
def k0_cond16 (v204 : BitVec 32) : BitVec 1 :=
  let c1024_i32_153 : BitVec 32 := 1024#32
  let v205 : BitVec 1 := Scalar.cmpi .slt v204 c1024_i32_153
  let v206 : BitVec 32 := Scalar.extui v205
  let c0_i32_154 : BitVec 32 := 0#32
  let v207 : BitVec 1 := Scalar.cmpi .ne v206 c0_i32_154
  v207

def k0_chk16 (v204 : BitVec 32) : Prop :=
  (∀ (k0_h16 : k0_cond16 v204 = 1#1), ∀ a, (k0_off32 v204) a + S1x512.size a ≤ S1024x512.size a)
theorem k0_off32_inb : ∀ (v204 : BitVec 32) (k0_hw16 : k0_chk16 v204), ∀ (k0_h16 : k0_cond16 v204 = 1#1), ∀ a, (k0_off32 v204) a + S1x512.size a ≤ S1024x512.size a := fun v204 k0_hw16 k0_h16 => k0_hw16 k0_h16

def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v208 : Index := Scalar.indexCast v2
  let c16 : Index := 16#32
  ![v208.toNat, 16]
def k0_off34 (v209 : BitVec 32) : Fin 2 → Nat :=
  let v6669 : Index := Scalar.indexCast v209
  let c0_4154 : Index := 0#32
  ![v6669.toNat, 0]
def k0_cond17 (v209 : BitVec 32) : BitVec 1 :=
  let c1024_i32_155 : BitVec 32 := 1024#32
  let v210 : BitVec 1 := Scalar.cmpi .slt v209 c1024_i32_155
  let v211 : BitVec 32 := Scalar.extui v210
  let c0_i32_156 : BitVec 32 := 0#32
  let v212 : BitVec 1 := Scalar.cmpi .ne v211 c0_i32_156
  v212

def k0_chk17 (v209 : BitVec 32) : Prop :=
  (∀ (k0_h17 : k0_cond17 v209 = 1#1), ∀ a, (k0_off34 v209) a + S1x512.size a ≤ S1024x512.size a)
theorem k0_off34_inb : ∀ (v209 : BitVec 32) (k0_hw17 : k0_chk17 v209), ∀ (k0_h17 : k0_cond17 v209 = 1#1), ∀ a, (k0_off34 v209) a + S1x512.size a ≤ S1024x512.size a := fun v209 k0_hw17 k0_h17 => k0_hw17 k0_h17

def k0_off35 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v213 : Index := Scalar.indexCast v2
  let c17 : Index := 17#32
  ![v213.toNat, 17]
def k0_off36 (v214 : BitVec 32) : Fin 2 → Nat :=
  let v6669 : Index := Scalar.indexCast v214
  let c0_4154 : Index := 0#32
  ![v6669.toNat, 0]
def k0_cond18 (v214 : BitVec 32) : BitVec 1 :=
  let c1024_i32_157 : BitVec 32 := 1024#32
  let v215 : BitVec 1 := Scalar.cmpi .slt v214 c1024_i32_157
  let v216 : BitVec 32 := Scalar.extui v215
  let c0_i32_158 : BitVec 32 := 0#32
  let v217 : BitVec 1 := Scalar.cmpi .ne v216 c0_i32_158
  v217

def k0_chk18 (v214 : BitVec 32) : Prop :=
  (∀ (k0_h18 : k0_cond18 v214 = 1#1), ∀ a, (k0_off36 v214) a + S1x512.size a ≤ S1024x512.size a)
theorem k0_off36_inb : ∀ (v214 : BitVec 32) (k0_hw18 : k0_chk18 v214), ∀ (k0_h18 : k0_cond18 v214 = 1#1), ∀ a, (k0_off36 v214) a + S1x512.size a ≤ S1024x512.size a := fun v214 k0_hw18 k0_h18 => k0_hw18 k0_h18

def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v218 : Index := Scalar.indexCast v2
  let c18 : Index := 18#32
  ![v218.toNat, 18]
def k0_off38 (v219 : BitVec 32) : Fin 2 → Nat :=
  let v6669 : Index := Scalar.indexCast v219
  let c0_4154 : Index := 0#32
  ![v6669.toNat, 0]
def k0_cond19 (v219 : BitVec 32) : BitVec 1 :=
  let c1024_i32_159 : BitVec 32 := 1024#32
  let v220 : BitVec 1 := Scalar.cmpi .slt v219 c1024_i32_159
  let v221 : BitVec 32 := Scalar.extui v220
  let c0_i32_160 : BitVec 32 := 0#32
  let v222 : BitVec 1 := Scalar.cmpi .ne v221 c0_i32_160
  v222

def k0_chk19 (v219 : BitVec 32) : Prop :=
  (∀ (k0_h19 : k0_cond19 v219 = 1#1), ∀ a, (k0_off38 v219) a + S1x512.size a ≤ S1024x512.size a)
theorem k0_off38_inb : ∀ (v219 : BitVec 32) (k0_hw19 : k0_chk19 v219), ∀ (k0_h19 : k0_cond19 v219 = 1#1), ∀ a, (k0_off38 v219) a + S1x512.size a ≤ S1024x512.size a := fun v219 k0_hw19 k0_h19 => k0_hw19 k0_h19

def k0_off39 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v223 : Index := Scalar.indexCast v2
  let c19 : Index := 19#32
  ![v223.toNat, 19]
def k0_off40 (v224 : BitVec 32) : Fin 2 → Nat :=
  let v6669 : Index := Scalar.indexCast v224
  let c0_4154 : Index := 0#32
  ![v6669.toNat, 0]
def k0_cond20 (v224 : BitVec 32) : BitVec 1 :=
  let c1024_i32_161 : BitVec 32 := 1024#32
  let v225 : BitVec 1 := Scalar.cmpi .slt v224 c1024_i32_161
  let v226 : BitVec 32 := Scalar.extui v225
  let c0_i32_162 : BitVec 32 := 0#32
  let v227 : BitVec 1 := Scalar.cmpi .ne v226 c0_i32_162
  v227

def k0_chk20 (v224 : BitVec 32) : Prop :=
  (∀ (k0_h20 : k0_cond20 v224 = 1#1), ∀ a, (k0_off40 v224) a + S1x512.size a ≤ S1024x512.size a)
theorem k0_off40_inb : ∀ (v224 : BitVec 32) (k0_hw20 : k0_chk20 v224), ∀ (k0_h20 : k0_cond20 v224 = 1#1), ∀ a, (k0_off40 v224) a + S1x512.size a ≤ S1024x512.size a := fun v224 k0_hw20 k0_h20 => k0_hw20 k0_h20

def k0_off41 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v228 : Index := Scalar.indexCast v2
  let c20 : Index := 20#32
  ![v228.toNat, 20]
def k0_off42 (v229 : BitVec 32) : Fin 2 → Nat :=
  let v6669 : Index := Scalar.indexCast v229
  let c0_4154 : Index := 0#32
  ![v6669.toNat, 0]
def k0_cond21 (v229 : BitVec 32) : BitVec 1 :=
  let c1024_i32_163 : BitVec 32 := 1024#32
  let v230 : BitVec 1 := Scalar.cmpi .slt v229 c1024_i32_163
  let v231 : BitVec 32 := Scalar.extui v230
  let c0_i32_164 : BitVec 32 := 0#32
  let v232 : BitVec 1 := Scalar.cmpi .ne v231 c0_i32_164
  v232

def k0_chk21 (v229 : BitVec 32) : Prop :=
  (∀ (k0_h21 : k0_cond21 v229 = 1#1), ∀ a, (k0_off42 v229) a + S1x512.size a ≤ S1024x512.size a)
theorem k0_off42_inb : ∀ (v229 : BitVec 32) (k0_hw21 : k0_chk21 v229), ∀ (k0_h21 : k0_cond21 v229 = 1#1), ∀ a, (k0_off42 v229) a + S1x512.size a ≤ S1024x512.size a := fun v229 k0_hw21 k0_h21 => k0_hw21 k0_h21

def k0_off43 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v233 : Index := Scalar.indexCast v2
  let c21 : Index := 21#32
  ![v233.toNat, 21]
def k0_off44 (v234 : BitVec 32) : Fin 2 → Nat :=
  let v6669 : Index := Scalar.indexCast v234
  let c0_4154 : Index := 0#32
  ![v6669.toNat, 0]
def k0_cond22 (v234 : BitVec 32) : BitVec 1 :=
  let c1024_i32_165 : BitVec 32 := 1024#32
  let v235 : BitVec 1 := Scalar.cmpi .slt v234 c1024_i32_165
  let v236 : BitVec 32 := Scalar.extui v235
  let c0_i32_166 : BitVec 32 := 0#32
  let v237 : BitVec 1 := Scalar.cmpi .ne v236 c0_i32_166
  v237

def k0_chk22 (v234 : BitVec 32) : Prop :=
  (∀ (k0_h22 : k0_cond22 v234 = 1#1), ∀ a, (k0_off44 v234) a + S1x512.size a ≤ S1024x512.size a)
theorem k0_off44_inb : ∀ (v234 : BitVec 32) (k0_hw22 : k0_chk22 v234), ∀ (k0_h22 : k0_cond22 v234 = 1#1), ∀ a, (k0_off44 v234) a + S1x512.size a ≤ S1024x512.size a := fun v234 k0_hw22 k0_h22 => k0_hw22 k0_h22

def k0_off45 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v238 : Index := Scalar.indexCast v2
  let c22 : Index := 22#32
  ![v238.toNat, 22]
def k0_off46 (v239 : BitVec 32) : Fin 2 → Nat :=
  let v6669 : Index := Scalar.indexCast v239
  let c0_4154 : Index := 0#32
  ![v6669.toNat, 0]
def k0_cond23 (v239 : BitVec 32) : BitVec 1 :=
  let c1024_i32_167 : BitVec 32 := 1024#32
  let v240 : BitVec 1 := Scalar.cmpi .slt v239 c1024_i32_167
  let v241 : BitVec 32 := Scalar.extui v240
  let c0_i32_168 : BitVec 32 := 0#32
  let v242 : BitVec 1 := Scalar.cmpi .ne v241 c0_i32_168
  v242

def k0_chk23 (v239 : BitVec 32) : Prop :=
  (∀ (k0_h23 : k0_cond23 v239 = 1#1), ∀ a, (k0_off46 v239) a + S1x512.size a ≤ S1024x512.size a)
theorem k0_off46_inb : ∀ (v239 : BitVec 32) (k0_hw23 : k0_chk23 v239), ∀ (k0_h23 : k0_cond23 v239 = 1#1), ∀ a, (k0_off46 v239) a + S1x512.size a ≤ S1024x512.size a := fun v239 k0_hw23 k0_h23 => k0_hw23 k0_h23

def k0_off47 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v243 : Index := Scalar.indexCast v2
  let c23 : Index := 23#32
  ![v243.toNat, 23]
def k0_off48 (v244 : BitVec 32) : Fin 2 → Nat :=
  let v6669 : Index := Scalar.indexCast v244
  let c0_4154 : Index := 0#32
  ![v6669.toNat, 0]
def k0_cond24 (v244 : BitVec 32) : BitVec 1 :=
  let c1024_i32_169 : BitVec 32 := 1024#32
  let v245 : BitVec 1 := Scalar.cmpi .slt v244 c1024_i32_169
  let v246 : BitVec 32 := Scalar.extui v245
  let c0_i32_170 : BitVec 32 := 0#32
  let v247 : BitVec 1 := Scalar.cmpi .ne v246 c0_i32_170
  v247

def k0_chk24 (v244 : BitVec 32) : Prop :=
  (∀ (k0_h24 : k0_cond24 v244 = 1#1), ∀ a, (k0_off48 v244) a + S1x512.size a ≤ S1024x512.size a)
theorem k0_off48_inb : ∀ (v244 : BitVec 32) (k0_hw24 : k0_chk24 v244), ∀ (k0_h24 : k0_cond24 v244 = 1#1), ∀ a, (k0_off48 v244) a + S1x512.size a ≤ S1024x512.size a := fun v244 k0_hw24 k0_h24 => k0_hw24 k0_h24

def k0_off49 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v254 : Index := Scalar.indexCast v2
  let c0_176 : Index := 0#32
  let c0_177 : Index := 0#32
  ![v254.toNat, 0, 0]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v264 : Index := Scalar.indexCast v2
  let c6_184 : Index := 6#32
  let c0_185 : Index := 0#32
  ![v264.toNat, 6, 0]
def k0_off51 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v274 : Index := Scalar.indexCast v2
  let c12_192 : Index := 12#32
  let c0_193 : Index := 0#32
  ![v274.toNat, 12, 0]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v284 : Index := Scalar.indexCast v2
  let c18_200 : Index := 18#32
  let c0_201 : Index := 0#32
  ![v284.toNat, 18, 0]
def k0_off53 (d0 : Dev nD) (c1_i32_203 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v288 : BitVec 32 := Scalar.addi v2 c1_i32_203
  let c32_i32_204 : BitVec 32 := 32#32
  let v289 : BitVec 32 := Scalar.remsi v288 c32_i32_204
  ![v289.toNat]
def k0_off54 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_207 : BitVec 32 := 0#32
  let c0_i32_208 : BitVec 32 := 0#32
  ![v2.toNat, 0, 0]
def k0_dev32 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_203 : BitVec 32 := 1#32
  let v288 : BitVec 32 := Scalar.addi v2 c1_i32_203
  let c32_i32_204 : BitVec 32 := 32#32
  let v289 : BitVec 32 := Scalar.remsi v288 c32_i32_204
  let c1_i32_205 : BitVec 32 := 1#32
  let v290 : BitVec 32 := Scalar.muli v289 c1_i32_205
  let v291 : BitVec 32 := Scalar.addi c0_i32_206 v290
  v291.toNat
def k0_dev33 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_211 : BitVec 32 := 2#32
  let v298 : BitVec 32 := Scalar.addi v2 c2_i32_211
  let c32_i32_212 : BitVec 32 := 32#32
  let v299 : BitVec 32 := Scalar.remsi v298 c32_i32_212
  let c1_i32_213 : BitVec 32 := 1#32
  let v300 : BitVec 32 := Scalar.muli v299 c1_i32_213
  let v301 : BitVec 32 := Scalar.addi c0_i32_214 v300
  v301.toNat
def k0_dev34 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_219 : BitVec 32 := 3#32
  let v308 : BitVec 32 := Scalar.addi v2 c3_i32_219
  let c32_i32_220 : BitVec 32 := 32#32
  let v309 : BitVec 32 := Scalar.remsi v308 c32_i32_220
  let c1_i32_221 : BitVec 32 := 1#32
  let v310 : BitVec 32 := Scalar.muli v309 c1_i32_221
  let v311 : BitVec 32 := Scalar.addi c0_i32_222 v310
  v311.toNat
def k0_dev35 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_227 : BitVec 32 := 4#32
  let v318 : BitVec 32 := Scalar.addi v2 c4_i32_227
  let c32_i32_228 : BitVec 32 := 32#32
  let v319 : BitVec 32 := Scalar.remsi v318 c32_i32_228
  let c1_i32_229 : BitVec 32 := 1#32
  let v320 : BitVec 32 := Scalar.muli v319 c1_i32_229
  let v321 : BitVec 32 := Scalar.addi c0_i32_230 v320
  v321.toNat
def k0_dev36 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_235 : BitVec 32 := 5#32
  let v328 : BitVec 32 := Scalar.addi v2 c5_i32_235
  let c32_i32_236 : BitVec 32 := 32#32
  let v329 : BitVec 32 := Scalar.remsi v328 c32_i32_236
  let c1_i32_237 : BitVec 32 := 1#32
  let v330 : BitVec 32 := Scalar.muli v329 c1_i32_237
  let v331 : BitVec 32 := Scalar.addi c0_i32_238 v330
  v331.toNat
def k0_dev37 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_243 : BitVec 32 := 6#32
  let v338 : BitVec 32 := Scalar.addi v2 c6_i32_243
  let c32_i32_244 : BitVec 32 := 32#32
  let v339 : BitVec 32 := Scalar.remsi v338 c32_i32_244
  let c1_i32_245 : BitVec 32 := 1#32
  let v340 : BitVec 32 := Scalar.muli v339 c1_i32_245
  let v341 : BitVec 32 := Scalar.addi c0_i32_246 v340
  v341.toNat
def k0_dev38 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_251 : BitVec 32 := 7#32
  let v348 : BitVec 32 := Scalar.addi v2 c7_i32_251
  let c32_i32_252 : BitVec 32 := 32#32
  let v349 : BitVec 32 := Scalar.remsi v348 c32_i32_252
  let c1_i32_253 : BitVec 32 := 1#32
  let v350 : BitVec 32 := Scalar.muli v349 c1_i32_253
  let v351 : BitVec 32 := Scalar.addi c0_i32_254 v350
  v351.toNat
def k0_dev39 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_259 : BitVec 32 := 8#32
  let v358 : BitVec 32 := Scalar.addi v2 c8_i32_259
  let c32_i32_260 : BitVec 32 := 32#32
  let v359 : BitVec 32 := Scalar.remsi v358 c32_i32_260
  let c1_i32_261 : BitVec 32 := 1#32
  let v360 : BitVec 32 := Scalar.muli v359 c1_i32_261
  let v361 : BitVec 32 := Scalar.addi c0_i32_262 v360
  v361.toNat
def k0_dev40 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_267 : BitVec 32 := 9#32
  let v368 : BitVec 32 := Scalar.addi v2 c9_i32_267
  let c32_i32_268 : BitVec 32 := 32#32
  let v369 : BitVec 32 := Scalar.remsi v368 c32_i32_268
  let c1_i32_269 : BitVec 32 := 1#32
  let v370 : BitVec 32 := Scalar.muli v369 c1_i32_269
  let v371 : BitVec 32 := Scalar.addi c0_i32_270 v370
  v371.toNat
def k0_dev41 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_275 : BitVec 32 := 10#32
  let v378 : BitVec 32 := Scalar.addi v2 c10_i32_275
  let c32_i32_276 : BitVec 32 := 32#32
  let v379 : BitVec 32 := Scalar.remsi v378 c32_i32_276
  let c1_i32_277 : BitVec 32 := 1#32
  let v380 : BitVec 32 := Scalar.muli v379 c1_i32_277
  let v381 : BitVec 32 := Scalar.addi c0_i32_278 v380
  v381.toNat
def k0_dev42 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_283 : BitVec 32 := 11#32
  let v388 : BitVec 32 := Scalar.addi v2 c11_i32_283
  let c32_i32_284 : BitVec 32 := 32#32
  let v389 : BitVec 32 := Scalar.remsi v388 c32_i32_284
  let c1_i32_285 : BitVec 32 := 1#32
  let v390 : BitVec 32 := Scalar.muli v389 c1_i32_285
  let v391 : BitVec 32 := Scalar.addi c0_i32_286 v390
  v391.toNat
def k0_dev43 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_291 : BitVec 32 := 12#32
  let v398 : BitVec 32 := Scalar.addi v2 c12_i32_291
  let c32_i32_292 : BitVec 32 := 32#32
  let v399 : BitVec 32 := Scalar.remsi v398 c32_i32_292
  let c1_i32_293 : BitVec 32 := 1#32
  let v400 : BitVec 32 := Scalar.muli v399 c1_i32_293
  let v401 : BitVec 32 := Scalar.addi c0_i32_294 v400
  v401.toNat
def k0_dev44 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_299 : BitVec 32 := 13#32
  let v408 : BitVec 32 := Scalar.addi v2 c13_i32_299
  let c32_i32_300 : BitVec 32 := 32#32
  let v409 : BitVec 32 := Scalar.remsi v408 c32_i32_300
  let c1_i32_301 : BitVec 32 := 1#32
  let v410 : BitVec 32 := Scalar.muli v409 c1_i32_301
  let v411 : BitVec 32 := Scalar.addi c0_i32_302 v410
  v411.toNat
def k0_dev45 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_307 : BitVec 32 := 14#32
  let v418 : BitVec 32 := Scalar.addi v2 c14_i32_307
  let c32_i32_308 : BitVec 32 := 32#32
  let v419 : BitVec 32 := Scalar.remsi v418 c32_i32_308
  let c1_i32_309 : BitVec 32 := 1#32
  let v420 : BitVec 32 := Scalar.muli v419 c1_i32_309
  let v421 : BitVec 32 := Scalar.addi c0_i32_310 v420
  v421.toNat
def k0_dev46 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_315 : BitVec 32 := 15#32
  let v428 : BitVec 32 := Scalar.addi v2 c15_i32_315
  let c32_i32_316 : BitVec 32 := 32#32
  let v429 : BitVec 32 := Scalar.remsi v428 c32_i32_316
  let c1_i32_317 : BitVec 32 := 1#32
  let v430 : BitVec 32 := Scalar.muli v429 c1_i32_317
  let v431 : BitVec 32 := Scalar.addi c0_i32_318 v430
  v431.toNat
def k0_dev47 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_323 : BitVec 32 := 16#32
  let v438 : BitVec 32 := Scalar.addi v2 c16_i32_323
  let c32_i32_324 : BitVec 32 := 32#32
  let v439 : BitVec 32 := Scalar.remsi v438 c32_i32_324
  let c1_i32_325 : BitVec 32 := 1#32
  let v440 : BitVec 32 := Scalar.muli v439 c1_i32_325
  let v441 : BitVec 32 := Scalar.addi c0_i32_326 v440
  v441.toNat
def k0_dev48 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_331 : BitVec 32 := 17#32
  let v448 : BitVec 32 := Scalar.addi v2 c17_i32_331
  let c32_i32_332 : BitVec 32 := 32#32
  let v449 : BitVec 32 := Scalar.remsi v448 c32_i32_332
  let c1_i32_333 : BitVec 32 := 1#32
  let v450 : BitVec 32 := Scalar.muli v449 c1_i32_333
  let v451 : BitVec 32 := Scalar.addi c0_i32_334 v450
  v451.toNat
def k0_dev49 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_339 : BitVec 32 := 18#32
  let v458 : BitVec 32 := Scalar.addi v2 c18_i32_339
  let c32_i32_340 : BitVec 32 := 32#32
  let v459 : BitVec 32 := Scalar.remsi v458 c32_i32_340
  let c1_i32_341 : BitVec 32 := 1#32
  let v460 : BitVec 32 := Scalar.muli v459 c1_i32_341
  let v461 : BitVec 32 := Scalar.addi c0_i32_342 v460
  v461.toNat
def k0_dev50 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_347 : BitVec 32 := 19#32
  let v468 : BitVec 32 := Scalar.addi v2 c19_i32_347
  let c32_i32_348 : BitVec 32 := 32#32
  let v469 : BitVec 32 := Scalar.remsi v468 c32_i32_348
  let c1_i32_349 : BitVec 32 := 1#32
  let v470 : BitVec 32 := Scalar.muli v469 c1_i32_349
  let v471 : BitVec 32 := Scalar.addi c0_i32_350 v470
  v471.toNat
def k0_dev51 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_355 : BitVec 32 := 20#32
  let v478 : BitVec 32 := Scalar.addi v2 c20_i32_355
  let c32_i32_356 : BitVec 32 := 32#32
  let v479 : BitVec 32 := Scalar.remsi v478 c32_i32_356
  let c1_i32_357 : BitVec 32 := 1#32
  let v480 : BitVec 32 := Scalar.muli v479 c1_i32_357
  let v481 : BitVec 32 := Scalar.addi c0_i32_358 v480
  v481.toNat
def k0_dev52 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_363 : BitVec 32 := 21#32
  let v488 : BitVec 32 := Scalar.addi v2 c21_i32_363
  let c32_i32_364 : BitVec 32 := 32#32
  let v489 : BitVec 32 := Scalar.remsi v488 c32_i32_364
  let c1_i32_365 : BitVec 32 := 1#32
  let v490 : BitVec 32 := Scalar.muli v489 c1_i32_365
  let v491 : BitVec 32 := Scalar.addi c0_i32_366 v490
  v491.toNat
def k0_dev53 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_371 : BitVec 32 := 22#32
  let v498 : BitVec 32 := Scalar.addi v2 c22_i32_371
  let c32_i32_372 : BitVec 32 := 32#32
  let v499 : BitVec 32 := Scalar.remsi v498 c32_i32_372
  let c1_i32_373 : BitVec 32 := 1#32
  let v500 : BitVec 32 := Scalar.muli v499 c1_i32_373
  let v501 : BitVec 32 := Scalar.addi c0_i32_374 v500
  v501.toNat
def k0_dev54 (d0 : Dev nD) : Nat :=
  let c0_i32_382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_379 : BitVec 32 := 23#32
  let v508 : BitVec 32 := Scalar.addi v2 c23_i32_379
  let c32_i32_380 : BitVec 32 := 32#32
  let v509 : BitVec 32 := Scalar.remsi v508 c32_i32_380
  let c1_i32_381 : BitVec 32 := 1#32
  let v510 : BitVec 32 := Scalar.muli v509 c1_i32_381
  let v511 : BitVec 32 := Scalar.addi c0_i32_382 v510
  v511.toNat
def k0_dev55 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_387 : BitVec 32 := 24#32
  let v518 : BitVec 32 := Scalar.addi v2 c24_i32_387
  let c32_i32_388 : BitVec 32 := 32#32
  let v519 : BitVec 32 := Scalar.remsi v518 c32_i32_388
  let c1_i32_389 : BitVec 32 := 1#32
  let v520 : BitVec 32 := Scalar.muli v519 c1_i32_389
  let v521 : BitVec 32 := Scalar.addi c0_i32_390 v520
  v521.toNat
def k0_dev56 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_395 : BitVec 32 := 25#32
  let v528 : BitVec 32 := Scalar.addi v2 c25_i32_395
  let c32_i32_396 : BitVec 32 := 32#32
  let v529 : BitVec 32 := Scalar.remsi v528 c32_i32_396
  let c1_i32_397 : BitVec 32 := 1#32
  let v530 : BitVec 32 := Scalar.muli v529 c1_i32_397
  let v531 : BitVec 32 := Scalar.addi c0_i32_398 v530
  v531.toNat
def k0_dev57 (d0 : Dev nD) : Nat :=
  let c0_i32_406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_403 : BitVec 32 := 26#32
  let v538 : BitVec 32 := Scalar.addi v2 c26_i32_403
  let c32_i32_404 : BitVec 32 := 32#32
  let v539 : BitVec 32 := Scalar.remsi v538 c32_i32_404
  let c1_i32_405 : BitVec 32 := 1#32
  let v540 : BitVec 32 := Scalar.muli v539 c1_i32_405
  let v541 : BitVec 32 := Scalar.addi c0_i32_406 v540
  v541.toNat
def k0_dev58 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_411 : BitVec 32 := 27#32
  let v548 : BitVec 32 := Scalar.addi v2 c27_i32_411
  let c32_i32_412 : BitVec 32 := 32#32
  let v549 : BitVec 32 := Scalar.remsi v548 c32_i32_412
  let c1_i32_413 : BitVec 32 := 1#32
  let v550 : BitVec 32 := Scalar.muli v549 c1_i32_413
  let v551 : BitVec 32 := Scalar.addi c0_i32_414 v550
  v551.toNat
def k0_dev59 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_419 : BitVec 32 := 28#32
  let v558 : BitVec 32 := Scalar.addi v2 c28_i32_419
  let c32_i32_420 : BitVec 32 := 32#32
  let v559 : BitVec 32 := Scalar.remsi v558 c32_i32_420
  let c1_i32_421 : BitVec 32 := 1#32
  let v560 : BitVec 32 := Scalar.muli v559 c1_i32_421
  let v561 : BitVec 32 := Scalar.addi c0_i32_422 v560
  v561.toNat
def k0_dev60 (d0 : Dev nD) : Nat :=
  let c0_i32_430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_427 : BitVec 32 := 29#32
  let v568 : BitVec 32 := Scalar.addi v2 c29_i32_427
  let c32_i32_428 : BitVec 32 := 32#32
  let v569 : BitVec 32 := Scalar.remsi v568 c32_i32_428
  let c1_i32_429 : BitVec 32 := 1#32
  let v570 : BitVec 32 := Scalar.muli v569 c1_i32_429
  let v571 : BitVec 32 := Scalar.addi c0_i32_430 v570
  v571.toNat
def k0_dev61 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_435 : BitVec 32 := 30#32
  let v578 : BitVec 32 := Scalar.addi v2 c30_i32_435
  let c32_i32_436 : BitVec 32 := 32#32
  let v579 : BitVec 32 := Scalar.remsi v578 c32_i32_436
  let c1_i32_437 : BitVec 32 := 1#32
  let v580 : BitVec 32 := Scalar.muli v579 c1_i32_437
  let v581 : BitVec 32 := Scalar.addi c0_i32_438 v580
  v581.toNat
def k0_dev62 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_443 : BitVec 32 := 31#32
  let v588 : BitVec 32 := Scalar.addi v2 c31_i32_443
  let c32_i32_444 : BitVec 32 := 32#32
  let v589 : BitVec 32 := Scalar.remsi v588 c32_i32_444
  let c1_i32_445 : BitVec 32 := 1#32
  let v590 : BitVec 32 := Scalar.muli v589 c1_i32_445
  let v591 : BitVec 32 := Scalar.addi c0_i32_446 v590
  v591.toNat
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v602 : Index := Scalar.indexCast v2
  let c0_454 : Index := 0#32
  let c0_455 : Index := 0#32
  ![v602.toNat, 0, 0]
def k0_off57 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v609 : Index := Scalar.indexCast v2
  let c0_458 : Index := 0#32
  ![v609.toNat, 0]
def k0_off58 (v610 : BitVec 32) : Fin 2 → Nat :=
  let v612 : Index := Scalar.indexCast v610
  let c0_461 : Index := 0#32
  ![v612.toNat, 0]

def k0_chk25 (v610 : BitVec 32) : Prop :=
  (∀ a, (k0_off58 v610) a + S1x1024.size a ≤ S1032x1024.size a)
theorem k0_off58_inb : ∀ (v610 : BitVec 32) (k0_hw25 : k0_chk25 v610), ∀ a, (k0_off58 v610) a + S1x1024.size a ≤ S1032x1024.size a := fun v610 k0_hw25 => k0_hw25

def k0_off59 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v616 : Index := Scalar.indexCast v2
  let c1_462 : Index := 1#32
  ![v616.toNat, 1]
def k0_off60 (v617 : BitVec 32) : Fin 2 → Nat :=
  let v619 : Index := Scalar.indexCast v617
  let c0_465 : Index := 0#32
  ![v619.toNat, 0]

def k0_chk26 (v617 : BitVec 32) : Prop :=
  (∀ a, (k0_off60 v617) a + S1x1024.size a ≤ S1032x1024.size a)
theorem k0_off60_inb : ∀ (v617 : BitVec 32) (k0_hw26 : k0_chk26 v617), ∀ a, (k0_off60 v617) a + S1x1024.size a ≤ S1032x1024.size a := fun v617 k0_hw26 => k0_hw26

def k0_off61 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v623 : Index := Scalar.indexCast v2
  let c2_466 : Index := 2#32
  ![v623.toNat, 2]
def k0_off62 (v624 : BitVec 32) : Fin 2 → Nat :=
  let v626 : Index := Scalar.indexCast v624
  let c0_469 : Index := 0#32
  ![v626.toNat, 0]

def k0_chk27 (v624 : BitVec 32) : Prop :=
  (∀ a, (k0_off62 v624) a + S1x1024.size a ≤ S1032x1024.size a)
theorem k0_off62_inb : ∀ (v624 : BitVec 32) (k0_hw27 : k0_chk27 v624), ∀ a, (k0_off62 v624) a + S1x1024.size a ≤ S1032x1024.size a := fun v624 k0_hw27 => k0_hw27

def k0_off63 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v630 : Index := Scalar.indexCast v2
  let c3_470 : Index := 3#32
  ![v630.toNat, 3]
def k0_off64 (v631 : BitVec 32) : Fin 2 → Nat :=
  let v633 : Index := Scalar.indexCast v631
  let c0_473 : Index := 0#32
  ![v633.toNat, 0]

def k0_chk28 (v631 : BitVec 32) : Prop :=
  (∀ a, (k0_off64 v631) a + S1x1024.size a ≤ S1032x1024.size a)
theorem k0_off64_inb : ∀ (v631 : BitVec 32) (k0_hw28 : k0_chk28 v631), ∀ a, (k0_off64 v631) a + S1x1024.size a ≤ S1032x1024.size a := fun v631 k0_hw28 => k0_hw28

def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v637 : Index := Scalar.indexCast v2
  let c4_474 : Index := 4#32
  ![v637.toNat, 4]
def k0_off66 (v638 : BitVec 32) : Fin 2 → Nat :=
  let v640 : Index := Scalar.indexCast v638
  let c0_477 : Index := 0#32
  ![v640.toNat, 0]

def k0_chk29 (v638 : BitVec 32) : Prop :=
  (∀ a, (k0_off66 v638) a + S1x1024.size a ≤ S1032x1024.size a)
theorem k0_off66_inb : ∀ (v638 : BitVec 32) (k0_hw29 : k0_chk29 v638), ∀ a, (k0_off66 v638) a + S1x1024.size a ≤ S1032x1024.size a := fun v638 k0_hw29 => k0_hw29

def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v644 : Index := Scalar.indexCast v2
  let c5_478 : Index := 5#32
  ![v644.toNat, 5]
def k0_off68 (v645 : BitVec 32) : Fin 2 → Nat :=
  let v647 : Index := Scalar.indexCast v645
  let c0_481 : Index := 0#32
  ![v647.toNat, 0]

def k0_chk30 (v645 : BitVec 32) : Prop :=
  (∀ a, (k0_off68 v645) a + S1x1024.size a ≤ S1032x1024.size a)
theorem k0_off68_inb : ∀ (v645 : BitVec 32) (k0_hw30 : k0_chk30 v645), ∀ a, (k0_off68 v645) a + S1x1024.size a ≤ S1032x1024.size a := fun v645 k0_hw30 => k0_hw30

def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v651 : Index := Scalar.indexCast v2
  let c6_482 : Index := 6#32
  ![v651.toNat, 6]
def k0_off70 (v652 : BitVec 32) : Fin 2 → Nat :=
  let v654 : Index := Scalar.indexCast v652
  let c0_485 : Index := 0#32
  ![v654.toNat, 0]

def k0_chk31 (v652 : BitVec 32) : Prop :=
  (∀ a, (k0_off70 v652) a + S1x1024.size a ≤ S1032x1024.size a)
theorem k0_off70_inb : ∀ (v652 : BitVec 32) (k0_hw31 : k0_chk31 v652), ∀ a, (k0_off70 v652) a + S1x1024.size a ≤ S1032x1024.size a := fun v652 k0_hw31 => k0_hw31

def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v658 : Index := Scalar.indexCast v2
  let c7_486 : Index := 7#32
  ![v658.toNat, 7]
def k0_off72 (v659 : BitVec 32) : Fin 2 → Nat :=
  let v661 : Index := Scalar.indexCast v659
  let c0_489 : Index := 0#32
  ![v661.toNat, 0]

def k0_chk32 (v659 : BitVec 32) : Prop :=
  (∀ a, (k0_off72 v659) a + S1x1024.size a ≤ S1032x1024.size a)
theorem k0_off72_inb : ∀ (v659 : BitVec 32) (k0_hw32 : k0_chk32 v659), ∀ a, (k0_off72 v659) a + S1x1024.size a ≤ S1032x1024.size a := fun v659 k0_hw32 => k0_hw32

def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v665 : Index := Scalar.indexCast v2
  let c8_490 : Index := 8#32
  ![v665.toNat, 8]
def k0_off74 (v666 : BitVec 32) : Fin 2 → Nat :=
  let v668 : Index := Scalar.indexCast v666
  let c0_493 : Index := 0#32
  ![v668.toNat, 0]

def k0_chk33 (v666 : BitVec 32) : Prop :=
  (∀ a, (k0_off74 v666) a + S1x1024.size a ≤ S1032x1024.size a)
theorem k0_off74_inb : ∀ (v666 : BitVec 32) (k0_hw33 : k0_chk33 v666), ∀ a, (k0_off74 v666) a + S1x1024.size a ≤ S1032x1024.size a := fun v666 k0_hw33 => k0_hw33

def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v672 : Index := Scalar.indexCast v2
  let c9_494 : Index := 9#32
  ![v672.toNat, 9]
def k0_off76 (v673 : BitVec 32) : Fin 2 → Nat :=
  let v675 : Index := Scalar.indexCast v673
  let c0_497 : Index := 0#32
  ![v675.toNat, 0]

def k0_chk34 (v673 : BitVec 32) : Prop :=
  (∀ a, (k0_off76 v673) a + S1x1024.size a ≤ S1032x1024.size a)
theorem k0_off76_inb : ∀ (v673 : BitVec 32) (k0_hw34 : k0_chk34 v673), ∀ a, (k0_off76 v673) a + S1x1024.size a ≤ S1032x1024.size a := fun v673 k0_hw34 => k0_hw34

def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v679 : Index := Scalar.indexCast v2
  let c10_498 : Index := 10#32
  ![v679.toNat, 10]
def k0_off78 (v680 : BitVec 32) : Fin 2 → Nat :=
  let v682 : Index := Scalar.indexCast v680
  let c0_501 : Index := 0#32
  ![v682.toNat, 0]

def k0_chk35 (v680 : BitVec 32) : Prop :=
  (∀ a, (k0_off78 v680) a + S1x1024.size a ≤ S1032x1024.size a)
theorem k0_off78_inb : ∀ (v680 : BitVec 32) (k0_hw35 : k0_chk35 v680), ∀ a, (k0_off78 v680) a + S1x1024.size a ≤ S1032x1024.size a := fun v680 k0_hw35 => k0_hw35

def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v686 : Index := Scalar.indexCast v2
  let c11_502 : Index := 11#32
  ![v686.toNat, 11]
def k0_off80 (v687 : BitVec 32) : Fin 2 → Nat :=
  let v689 : Index := Scalar.indexCast v687
  let c0_505 : Index := 0#32
  ![v689.toNat, 0]

def k0_chk36 (v687 : BitVec 32) : Prop :=
  (∀ a, (k0_off80 v687) a + S1x1024.size a ≤ S1032x1024.size a)
theorem k0_off80_inb : ∀ (v687 : BitVec 32) (k0_hw36 : k0_chk36 v687), ∀ a, (k0_off80 v687) a + S1x1024.size a ≤ S1032x1024.size a := fun v687 k0_hw36 => k0_hw36

def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v693 : Index := Scalar.indexCast v2
  let c12_506 : Index := 12#32
  ![v693.toNat, 12]
def k0_off82 (v694 : BitVec 32) : Fin 2 → Nat :=
  let v696 : Index := Scalar.indexCast v694
  let c0_509 : Index := 0#32
  ![v696.toNat, 0]

def k0_chk37 (v694 : BitVec 32) : Prop :=
  (∀ a, (k0_off82 v694) a + S1x1024.size a ≤ S1032x1024.size a)
theorem k0_off82_inb : ∀ (v694 : BitVec 32) (k0_hw37 : k0_chk37 v694), ∀ a, (k0_off82 v694) a + S1x1024.size a ≤ S1032x1024.size a := fun v694 k0_hw37 => k0_hw37

def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v700 : Index := Scalar.indexCast v2
  let c13_510 : Index := 13#32
  ![v700.toNat, 13]
def k0_off84 (v701 : BitVec 32) : Fin 2 → Nat :=
  let v703 : Index := Scalar.indexCast v701
  let c0_513 : Index := 0#32
  ![v703.toNat, 0]

def k0_chk38 (v701 : BitVec 32) : Prop :=
  (∀ a, (k0_off84 v701) a + S1x1024.size a ≤ S1032x1024.size a)
theorem k0_off84_inb : ∀ (v701 : BitVec 32) (k0_hw38 : k0_chk38 v701), ∀ a, (k0_off84 v701) a + S1x1024.size a ≤ S1032x1024.size a := fun v701 k0_hw38 => k0_hw38

def k0_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v707 : Index := Scalar.indexCast v2
  let c14_514 : Index := 14#32
  ![v707.toNat, 14]
def k0_off86 (v708 : BitVec 32) : Fin 2 → Nat :=
  let v710 : Index := Scalar.indexCast v708
  let c0_517 : Index := 0#32
  ![v710.toNat, 0]

def k0_chk39 (v708 : BitVec 32) : Prop :=
  (∀ a, (k0_off86 v708) a + S1x1024.size a ≤ S1032x1024.size a)
theorem k0_off86_inb : ∀ (v708 : BitVec 32) (k0_hw39 : k0_chk39 v708), ∀ a, (k0_off86 v708) a + S1x1024.size a ≤ S1032x1024.size a := fun v708 k0_hw39 => k0_hw39

def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v714 : Index := Scalar.indexCast v2
  let c15_518 : Index := 15#32
  ![v714.toNat, 15]
def k0_off88 (v715 : BitVec 32) : Fin 2 → Nat :=
  let v717 : Index := Scalar.indexCast v715
  let c0_521 : Index := 0#32
  ![v717.toNat, 0]

def k0_chk40 (v715 : BitVec 32) : Prop :=
  (∀ a, (k0_off88 v715) a + S1x1024.size a ≤ S1032x1024.size a)
theorem k0_off88_inb : ∀ (v715 : BitVec 32) (k0_hw40 : k0_chk40 v715), ∀ a, (k0_off88 v715) a + S1x1024.size a ≤ S1032x1024.size a := fun v715 k0_hw40 => k0_hw40

def k0_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v721 : Index := Scalar.indexCast v2
  let c16_522 : Index := 16#32
  ![v721.toNat, 16]
def k0_off90 (v722 : BitVec 32) : Fin 2 → Nat :=
  let v724 : Index := Scalar.indexCast v722
  let c0_525 : Index := 0#32
  ![v724.toNat, 0]

def k0_chk41 (v722 : BitVec 32) : Prop :=
  (∀ a, (k0_off90 v722) a + S1x1024.size a ≤ S1032x1024.size a)
theorem k0_off90_inb : ∀ (v722 : BitVec 32) (k0_hw41 : k0_chk41 v722), ∀ a, (k0_off90 v722) a + S1x1024.size a ≤ S1032x1024.size a := fun v722 k0_hw41 => k0_hw41

def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v728 : Index := Scalar.indexCast v2
  let c17_526 : Index := 17#32
  ![v728.toNat, 17]
def k0_off92 (v729 : BitVec 32) : Fin 2 → Nat :=
  let v731 : Index := Scalar.indexCast v729
  let c0_529 : Index := 0#32
  ![v731.toNat, 0]

def k0_chk42 (v729 : BitVec 32) : Prop :=
  (∀ a, (k0_off92 v729) a + S1x1024.size a ≤ S1032x1024.size a)
theorem k0_off92_inb : ∀ (v729 : BitVec 32) (k0_hw42 : k0_chk42 v729), ∀ a, (k0_off92 v729) a + S1x1024.size a ≤ S1032x1024.size a := fun v729 k0_hw42 => k0_hw42

def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v735 : Index := Scalar.indexCast v2
  let c18_530 : Index := 18#32
  ![v735.toNat, 18]
def k0_off94 (v736 : BitVec 32) : Fin 2 → Nat :=
  let v738 : Index := Scalar.indexCast v736
  let c0_533 : Index := 0#32
  ![v738.toNat, 0]

def k0_chk43 (v736 : BitVec 32) : Prop :=
  (∀ a, (k0_off94 v736) a + S1x1024.size a ≤ S1032x1024.size a)
theorem k0_off94_inb : ∀ (v736 : BitVec 32) (k0_hw43 : k0_chk43 v736), ∀ a, (k0_off94 v736) a + S1x1024.size a ≤ S1032x1024.size a := fun v736 k0_hw43 => k0_hw43

def k0_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v742 : Index := Scalar.indexCast v2
  let c19_534 : Index := 19#32
  ![v742.toNat, 19]
def k0_off96 (v743 : BitVec 32) : Fin 2 → Nat :=
  let v745 : Index := Scalar.indexCast v743
  let c0_537 : Index := 0#32
  ![v745.toNat, 0]

def k0_chk44 (v743 : BitVec 32) : Prop :=
  (∀ a, (k0_off96 v743) a + S1x1024.size a ≤ S1032x1024.size a)
theorem k0_off96_inb : ∀ (v743 : BitVec 32) (k0_hw44 : k0_chk44 v743), ∀ a, (k0_off96 v743) a + S1x1024.size a ≤ S1032x1024.size a := fun v743 k0_hw44 => k0_hw44

def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v749 : Index := Scalar.indexCast v2
  let c20_538 : Index := 20#32
  ![v749.toNat, 20]
def k0_off98 (v750 : BitVec 32) : Fin 2 → Nat :=
  let v752 : Index := Scalar.indexCast v750
  let c0_541 : Index := 0#32
  ![v752.toNat, 0]

def k0_chk45 (v750 : BitVec 32) : Prop :=
  (∀ a, (k0_off98 v750) a + S1x1024.size a ≤ S1032x1024.size a)
theorem k0_off98_inb : ∀ (v750 : BitVec 32) (k0_hw45 : k0_chk45 v750), ∀ a, (k0_off98 v750) a + S1x1024.size a ≤ S1032x1024.size a := fun v750 k0_hw45 => k0_hw45

def k0_off99 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v756 : Index := Scalar.indexCast v2
  let c21_542 : Index := 21#32
  ![v756.toNat, 21]
def k0_off100 (v757 : BitVec 32) : Fin 2 → Nat :=
  let v759 : Index := Scalar.indexCast v757
  let c0_545 : Index := 0#32
  ![v759.toNat, 0]

def k0_chk46 (v757 : BitVec 32) : Prop :=
  (∀ a, (k0_off100 v757) a + S1x1024.size a ≤ S1032x1024.size a)
theorem k0_off100_inb : ∀ (v757 : BitVec 32) (k0_hw46 : k0_chk46 v757), ∀ a, (k0_off100 v757) a + S1x1024.size a ≤ S1032x1024.size a := fun v757 k0_hw46 => k0_hw46

def k0_off101 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v763 : Index := Scalar.indexCast v2
  let c22_546 : Index := 22#32
  ![v763.toNat, 22]
def k0_off102 (v764 : BitVec 32) : Fin 2 → Nat :=
  let v766 : Index := Scalar.indexCast v764
  let c0_549 : Index := 0#32
  ![v766.toNat, 0]

def k0_chk47 (v764 : BitVec 32) : Prop :=
  (∀ a, (k0_off102 v764) a + S1x1024.size a ≤ S1032x1024.size a)
theorem k0_off102_inb : ∀ (v764 : BitVec 32) (k0_hw47 : k0_chk47 v764), ∀ a, (k0_off102 v764) a + S1x1024.size a ≤ S1032x1024.size a := fun v764 k0_hw47 => k0_hw47

def k0_off103 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v770 : Index := Scalar.indexCast v2
  let c23_550 : Index := 23#32
  ![v770.toNat, 23]
def k0_off104 (v771 : BitVec 32) : Fin 2 → Nat :=
  let v773 : Index := Scalar.indexCast v771
  let c0_553 : Index := 0#32
  ![v773.toNat, 0]

def k0_chk48 (v771 : BitVec 32) : Prop :=
  (∀ a, (k0_off104 v771) a + S1x1024.size a ≤ S1032x1024.size a)
theorem k0_off104_inb : ∀ (v771 : BitVec 32) (k0_hw48 : k0_chk48 v771), ∀ a, (k0_off104 v771) a + S1x1024.size a ≤ S1032x1024.size a := fun v771 k0_hw48 => k0_hw48

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  ![v779.toNat]
def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let c0_i32_559 : BitVec 32 := 0#32
  let c0_i32_560 : BitVec 32 := 0#32
  ![v779.toNat, 0, 0]
def k0_off107 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v786 : Index := Scalar.indexCast v779
  let c0_563 : Index := 0#32
  let c0_564 : Index := 0#32
  ![v786.toNat, 0, 0]
def k0_off108 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v793 : Index := Scalar.indexCast v779
  let c0_567 : Index := 0#32
  ![v793.toNat, 0]
def k0_off109 (v794 : BitVec 32) : Fin 2 → Nat :=
  let v796 : Index := Scalar.indexCast v794
  let c0_570 : Index := 0#32
  ![v796.toNat, 0]

def k0_chk49 (v794 : BitVec 32) : Prop :=
  (∀ a, (k0_off109 v794) a + S1x1024.size a ≤ S1032x1024.size a)
theorem k0_off109_inb : ∀ (v794 : BitVec 32) (k0_hw49 : k0_chk49 v794), ∀ a, (k0_off109 v794) a + S1x1024.size a ≤ S1032x1024.size a := fun v794 k0_hw49 => k0_hw49

def k0_off110 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v800 : Index := Scalar.indexCast v779
  let c1_571 : Index := 1#32
  ![v800.toNat, 1]
def k0_off111 (v801 : BitVec 32) : Fin 2 → Nat :=
  let v803 : Index := Scalar.indexCast v801
  let c0_574 : Index := 0#32
  ![v803.toNat, 0]

def k0_chk50 (v801 : BitVec 32) : Prop :=
  (∀ a, (k0_off111 v801) a + S1x1024.size a ≤ S1032x1024.size a)
theorem k0_off111_inb : ∀ (v801 : BitVec 32) (k0_hw50 : k0_chk50 v801), ∀ a, (k0_off111 v801) a + S1x1024.size a ≤ S1032x1024.size a := fun v801 k0_hw50 => k0_hw50

def k0_off112 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v807 : Index := Scalar.indexCast v779
  let c2_575 : Index := 2#32
  ![v807.toNat, 2]
def k0_off113 (v808 : BitVec 32) : Fin 2 → Nat :=
  let v810 : Index := Scalar.indexCast v808
  let c0_578 : Index := 0#32
  ![v810.toNat, 0]

def k0_chk51 (v808 : BitVec 32) : Prop :=
  (∀ a, (k0_off113 v808) a + S1x1024.size a ≤ S1032x1024.size a)
theorem k0_off113_inb : ∀ (v808 : BitVec 32) (k0_hw51 : k0_chk51 v808), ∀ a, (k0_off113 v808) a + S1x1024.size a ≤ S1032x1024.size a := fun v808 k0_hw51 => k0_hw51

def k0_off114 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v814 : Index := Scalar.indexCast v779
  let c3_579 : Index := 3#32
  ![v814.toNat, 3]
def k0_off115 (v815 : BitVec 32) : Fin 2 → Nat :=
  let v817 : Index := Scalar.indexCast v815
  let c0_582 : Index := 0#32
  ![v817.toNat, 0]

def k0_chk52 (v815 : BitVec 32) : Prop :=
  (∀ a, (k0_off115 v815) a + S1x1024.size a ≤ S1032x1024.size a)
theorem k0_off115_inb : ∀ (v815 : BitVec 32) (k0_hw52 : k0_chk52 v815), ∀ a, (k0_off115 v815) a + S1x1024.size a ≤ S1032x1024.size a := fun v815 k0_hw52 => k0_hw52

def k0_off116 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v821 : Index := Scalar.indexCast v779
  let c4_583 : Index := 4#32
  ![v821.toNat, 4]
def k0_off117 (v822 : BitVec 32) : Fin 2 → Nat :=
  let v824 : Index := Scalar.indexCast v822
  let c0_586 : Index := 0#32
  ![v824.toNat, 0]

def k0_chk53 (v822 : BitVec 32) : Prop :=
  (∀ a, (k0_off117 v822) a + S1x1024.size a ≤ S1032x1024.size a)
theorem k0_off117_inb : ∀ (v822 : BitVec 32) (k0_hw53 : k0_chk53 v822), ∀ a, (k0_off117 v822) a + S1x1024.size a ≤ S1032x1024.size a := fun v822 k0_hw53 => k0_hw53

def k0_off118 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v828 : Index := Scalar.indexCast v779
  let c5_587 : Index := 5#32
  ![v828.toNat, 5]
def k0_off119 (v829 : BitVec 32) : Fin 2 → Nat :=
  let v831 : Index := Scalar.indexCast v829
  let c0_590 : Index := 0#32
  ![v831.toNat, 0]

def k0_chk54 (v829 : BitVec 32) : Prop :=
  (∀ a, (k0_off119 v829) a + S1x1024.size a ≤ S1032x1024.size a)
theorem k0_off119_inb : ∀ (v829 : BitVec 32) (k0_hw54 : k0_chk54 v829), ∀ a, (k0_off119 v829) a + S1x1024.size a ≤ S1032x1024.size a := fun v829 k0_hw54 => k0_hw54

def k0_off120 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v835 : Index := Scalar.indexCast v779
  let c6_591 : Index := 6#32
  ![v835.toNat, 6]
def k0_off121 (v836 : BitVec 32) : Fin 2 → Nat :=
  let v838 : Index := Scalar.indexCast v836
  let c0_594 : Index := 0#32
  ![v838.toNat, 0]

def k0_chk55 (v836 : BitVec 32) : Prop :=
  (∀ a, (k0_off121 v836) a + S1x1024.size a ≤ S1032x1024.size a)
theorem k0_off121_inb : ∀ (v836 : BitVec 32) (k0_hw55 : k0_chk55 v836), ∀ a, (k0_off121 v836) a + S1x1024.size a ≤ S1032x1024.size a := fun v836 k0_hw55 => k0_hw55

def k0_off122 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v842 : Index := Scalar.indexCast v779
  let c7_595 : Index := 7#32
  ![v842.toNat, 7]
def k0_off123 (v843 : BitVec 32) : Fin 2 → Nat :=
  let v845 : Index := Scalar.indexCast v843
  let c0_598 : Index := 0#32
  ![v845.toNat, 0]

def k0_chk56 (v843 : BitVec 32) : Prop :=
  (∀ a, (k0_off123 v843) a + S1x1024.size a ≤ S1032x1024.size a)
theorem k0_off123_inb : ∀ (v843 : BitVec 32) (k0_hw56 : k0_chk56 v843), ∀ a, (k0_off123 v843) a + S1x1024.size a ≤ S1032x1024.size a := fun v843 k0_hw56 => k0_hw56

def k0_off124 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v849 : Index := Scalar.indexCast v779
  let c8_599 : Index := 8#32
  ![v849.toNat, 8]
def k0_off125 (v850 : BitVec 32) : Fin 2 → Nat :=
  let v852 : Index := Scalar.indexCast v850
  let c0_602 : Index := 0#32
  ![v852.toNat, 0]

def k0_chk57 (v850 : BitVec 32) : Prop :=
  (∀ a, (k0_off125 v850) a + S1x1024.size a ≤ S1032x1024.size a)
theorem k0_off125_inb : ∀ (v850 : BitVec 32) (k0_hw57 : k0_chk57 v850), ∀ a, (k0_off125 v850) a + S1x1024.size a ≤ S1032x1024.size a := fun v850 k0_hw57 => k0_hw57

def k0_off126 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v856 : Index := Scalar.indexCast v779
  let c9_603 : Index := 9#32
  ![v856.toNat, 9]
def k0_off127 (v857 : BitVec 32) : Fin 2 → Nat :=
  let v859 : Index := Scalar.indexCast v857
  let c0_606 : Index := 0#32
  ![v859.toNat, 0]

def k0_chk58 (v857 : BitVec 32) : Prop :=
  (∀ a, (k0_off127 v857) a + S1x1024.size a ≤ S1032x1024.size a)
theorem k0_off127_inb : ∀ (v857 : BitVec 32) (k0_hw58 : k0_chk58 v857), ∀ a, (k0_off127 v857) a + S1x1024.size a ≤ S1032x1024.size a := fun v857 k0_hw58 => k0_hw58

def k0_off128 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v863 : Index := Scalar.indexCast v779
  let c10_607 : Index := 10#32
  ![v863.toNat, 10]
def k0_off129 (v864 : BitVec 32) : Fin 2 → Nat :=
  let v866 : Index := Scalar.indexCast v864
  let c0_610 : Index := 0#32
  ![v866.toNat, 0]

def k0_chk59 (v864 : BitVec 32) : Prop :=
  (∀ a, (k0_off129 v864) a + S1x1024.size a ≤ S1032x1024.size a)
theorem k0_off129_inb : ∀ (v864 : BitVec 32) (k0_hw59 : k0_chk59 v864), ∀ a, (k0_off129 v864) a + S1x1024.size a ≤ S1032x1024.size a := fun v864 k0_hw59 => k0_hw59

def k0_off130 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v870 : Index := Scalar.indexCast v779
  let c11_611 : Index := 11#32
  ![v870.toNat, 11]
def k0_off131 (v871 : BitVec 32) : Fin 2 → Nat :=
  let v873 : Index := Scalar.indexCast v871
  let c0_614 : Index := 0#32
  ![v873.toNat, 0]

def k0_chk60 (v871 : BitVec 32) : Prop :=
  (∀ a, (k0_off131 v871) a + S1x1024.size a ≤ S1032x1024.size a)
theorem k0_off131_inb : ∀ (v871 : BitVec 32) (k0_hw60 : k0_chk60 v871), ∀ a, (k0_off131 v871) a + S1x1024.size a ≤ S1032x1024.size a := fun v871 k0_hw60 => k0_hw60

def k0_off132 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v877 : Index := Scalar.indexCast v779
  let c12_615 : Index := 12#32
  ![v877.toNat, 12]
def k0_off133 (v878 : BitVec 32) : Fin 2 → Nat :=
  let v880 : Index := Scalar.indexCast v878
  let c0_618 : Index := 0#32
  ![v880.toNat, 0]

def k0_chk61 (v878 : BitVec 32) : Prop :=
  (∀ a, (k0_off133 v878) a + S1x1024.size a ≤ S1032x1024.size a)
theorem k0_off133_inb : ∀ (v878 : BitVec 32) (k0_hw61 : k0_chk61 v878), ∀ a, (k0_off133 v878) a + S1x1024.size a ≤ S1032x1024.size a := fun v878 k0_hw61 => k0_hw61

def k0_off134 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v884 : Index := Scalar.indexCast v779
  let c13_619 : Index := 13#32
  ![v884.toNat, 13]
def k0_off135 (v885 : BitVec 32) : Fin 2 → Nat :=
  let v887 : Index := Scalar.indexCast v885
  let c0_622 : Index := 0#32
  ![v887.toNat, 0]

def k0_chk62 (v885 : BitVec 32) : Prop :=
  (∀ a, (k0_off135 v885) a + S1x1024.size a ≤ S1032x1024.size a)
theorem k0_off135_inb : ∀ (v885 : BitVec 32) (k0_hw62 : k0_chk62 v885), ∀ a, (k0_off135 v885) a + S1x1024.size a ≤ S1032x1024.size a := fun v885 k0_hw62 => k0_hw62

def k0_off136 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v891 : Index := Scalar.indexCast v779
  let c14_623 : Index := 14#32
  ![v891.toNat, 14]
def k0_off137 (v892 : BitVec 32) : Fin 2 → Nat :=
  let v894 : Index := Scalar.indexCast v892
  let c0_626 : Index := 0#32
  ![v894.toNat, 0]

def k0_chk63 (v892 : BitVec 32) : Prop :=
  (∀ a, (k0_off137 v892) a + S1x1024.size a ≤ S1032x1024.size a)
theorem k0_off137_inb : ∀ (v892 : BitVec 32) (k0_hw63 : k0_chk63 v892), ∀ a, (k0_off137 v892) a + S1x1024.size a ≤ S1032x1024.size a := fun v892 k0_hw63 => k0_hw63

def k0_off138 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v898 : Index := Scalar.indexCast v779
  let c15_627 : Index := 15#32
  ![v898.toNat, 15]
def k0_off139 (v899 : BitVec 32) : Fin 2 → Nat :=
  let v901 : Index := Scalar.indexCast v899
  let c0_630 : Index := 0#32
  ![v901.toNat, 0]

def k0_chk64 (v899 : BitVec 32) : Prop :=
  (∀ a, (k0_off139 v899) a + S1x1024.size a ≤ S1032x1024.size a)
theorem k0_off139_inb : ∀ (v899 : BitVec 32) (k0_hw64 : k0_chk64 v899), ∀ a, (k0_off139 v899) a + S1x1024.size a ≤ S1032x1024.size a := fun v899 k0_hw64 => k0_hw64

def k0_off140 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v905 : Index := Scalar.indexCast v779
  let c16_631 : Index := 16#32
  ![v905.toNat, 16]
def k0_off141 (v906 : BitVec 32) : Fin 2 → Nat :=
  let v908 : Index := Scalar.indexCast v906
  let c0_634 : Index := 0#32
  ![v908.toNat, 0]

def k0_chk65 (v906 : BitVec 32) : Prop :=
  (∀ a, (k0_off141 v906) a + S1x1024.size a ≤ S1032x1024.size a)
theorem k0_off141_inb : ∀ (v906 : BitVec 32) (k0_hw65 : k0_chk65 v906), ∀ a, (k0_off141 v906) a + S1x1024.size a ≤ S1032x1024.size a := fun v906 k0_hw65 => k0_hw65

def k0_off142 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v912 : Index := Scalar.indexCast v779
  let c17_635 : Index := 17#32
  ![v912.toNat, 17]
def k0_off143 (v913 : BitVec 32) : Fin 2 → Nat :=
  let v915 : Index := Scalar.indexCast v913
  let c0_638 : Index := 0#32
  ![v915.toNat, 0]

def k0_chk66 (v913 : BitVec 32) : Prop :=
  (∀ a, (k0_off143 v913) a + S1x1024.size a ≤ S1032x1024.size a)
theorem k0_off143_inb : ∀ (v913 : BitVec 32) (k0_hw66 : k0_chk66 v913), ∀ a, (k0_off143 v913) a + S1x1024.size a ≤ S1032x1024.size a := fun v913 k0_hw66 => k0_hw66

def k0_off144 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v919 : Index := Scalar.indexCast v779
  let c18_639 : Index := 18#32
  ![v919.toNat, 18]
def k0_off145 (v920 : BitVec 32) : Fin 2 → Nat :=
  let v922 : Index := Scalar.indexCast v920
  let c0_642 : Index := 0#32
  ![v922.toNat, 0]

def k0_chk67 (v920 : BitVec 32) : Prop :=
  (∀ a, (k0_off145 v920) a + S1x1024.size a ≤ S1032x1024.size a)
theorem k0_off145_inb : ∀ (v920 : BitVec 32) (k0_hw67 : k0_chk67 v920), ∀ a, (k0_off145 v920) a + S1x1024.size a ≤ S1032x1024.size a := fun v920 k0_hw67 => k0_hw67

def k0_off146 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v926 : Index := Scalar.indexCast v779
  let c19_643 : Index := 19#32
  ![v926.toNat, 19]
def k0_off147 (v927 : BitVec 32) : Fin 2 → Nat :=
  let v929 : Index := Scalar.indexCast v927
  let c0_646 : Index := 0#32
  ![v929.toNat, 0]

def k0_chk68 (v927 : BitVec 32) : Prop :=
  (∀ a, (k0_off147 v927) a + S1x1024.size a ≤ S1032x1024.size a)
theorem k0_off147_inb : ∀ (v927 : BitVec 32) (k0_hw68 : k0_chk68 v927), ∀ a, (k0_off147 v927) a + S1x1024.size a ≤ S1032x1024.size a := fun v927 k0_hw68 => k0_hw68

def k0_off148 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v933 : Index := Scalar.indexCast v779
  let c20_647 : Index := 20#32
  ![v933.toNat, 20]
def k0_off149 (v934 : BitVec 32) : Fin 2 → Nat :=
  let v936 : Index := Scalar.indexCast v934
  let c0_650 : Index := 0#32
  ![v936.toNat, 0]

def k0_chk69 (v934 : BitVec 32) : Prop :=
  (∀ a, (k0_off149 v934) a + S1x1024.size a ≤ S1032x1024.size a)
theorem k0_off149_inb : ∀ (v934 : BitVec 32) (k0_hw69 : k0_chk69 v934), ∀ a, (k0_off149 v934) a + S1x1024.size a ≤ S1032x1024.size a := fun v934 k0_hw69 => k0_hw69

def k0_off150 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v940 : Index := Scalar.indexCast v779
  let c21_651 : Index := 21#32
  ![v940.toNat, 21]
def k0_off151 (v941 : BitVec 32) : Fin 2 → Nat :=
  let v943 : Index := Scalar.indexCast v941
  let c0_654 : Index := 0#32
  ![v943.toNat, 0]

def k0_chk70 (v941 : BitVec 32) : Prop :=
  (∀ a, (k0_off151 v941) a + S1x1024.size a ≤ S1032x1024.size a)
theorem k0_off151_inb : ∀ (v941 : BitVec 32) (k0_hw70 : k0_chk70 v941), ∀ a, (k0_off151 v941) a + S1x1024.size a ≤ S1032x1024.size a := fun v941 k0_hw70 => k0_hw70

def k0_off152 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v947 : Index := Scalar.indexCast v779
  let c22_655 : Index := 22#32
  ![v947.toNat, 22]
def k0_off153 (v948 : BitVec 32) : Fin 2 → Nat :=
  let v950 : Index := Scalar.indexCast v948
  let c0_658 : Index := 0#32
  ![v950.toNat, 0]

def k0_chk71 (v948 : BitVec 32) : Prop :=
  (∀ a, (k0_off153 v948) a + S1x1024.size a ≤ S1032x1024.size a)
theorem k0_off153_inb : ∀ (v948 : BitVec 32) (k0_hw71 : k0_chk71 v948), ∀ a, (k0_off153 v948) a + S1x1024.size a ≤ S1032x1024.size a := fun v948 k0_hw71 => k0_hw71

def k0_off154 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_554 : BitVec 32 := 1#32
  let v777 : BitVec 32 := Scalar.subi v2 c1_i32_554
  let c32_i32_555 : BitVec 32 := 32#32
  let v778 : BitVec 32 := Scalar.addi v777 c32_i32_555
  let c32_i32_556 : BitVec 32 := 32#32
  let v779 : BitVec 32 := Scalar.remsi v778 c32_i32_556
  let v954 : Index := Scalar.indexCast v779
  let c23_659 : Index := 23#32
  ![v954.toNat, 23]
def k0_off155 (v955 : BitVec 32) : Fin 2 → Nat :=
  let v957 : Index := Scalar.indexCast v955
  let c0_662 : Index := 0#32
  ![v957.toNat, 0]

def k0_chk72 (v955 : BitVec 32) : Prop :=
  (∀ a, (k0_off155 v955) a + S1x1024.size a ≤ S1032x1024.size a)
theorem k0_off155_inb : ∀ (v955 : BitVec 32) (k0_hw72 : k0_chk72 v955), ∀ a, (k0_off155 v955) a + S1x1024.size a ≤ S1032x1024.size a := fun v955 k0_hw72 => k0_hw72

def k0_off156 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  ![v963.toNat]
def k0_off157 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let c0_i32_668 : BitVec 32 := 0#32
  let c0_i32_669 : BitVec 32 := 0#32
  ![v963.toNat, 0, 0]
def k0_off158 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v970 : Index := Scalar.indexCast v963
  let c0_672 : Index := 0#32
  let c0_673 : Index := 0#32
  ![v970.toNat, 0, 0]
def k0_off159 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v977 : Index := Scalar.indexCast v963
  let c0_676 : Index := 0#32
  ![v977.toNat, 0]
def k0_off160 (v978 : BitVec 32) : Fin 2 → Nat :=
  let v980 : Index := Scalar.indexCast v978
  let c0_679 : Index := 0#32
  ![v980.toNat, 0]

def k0_chk73 (v978 : BitVec 32) : Prop :=
  (∀ a, (k0_off160 v978) a + S1x1024.size a ≤ S1032x1024.size a)
theorem k0_off160_inb : ∀ (v978 : BitVec 32) (k0_hw73 : k0_chk73 v978), ∀ a, (k0_off160 v978) a + S1x1024.size a ≤ S1032x1024.size a := fun v978 k0_hw73 => k0_hw73

def k0_off161 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v984 : Index := Scalar.indexCast v963
  let c1_680 : Index := 1#32
  ![v984.toNat, 1]
def k0_off162 (v985 : BitVec 32) : Fin 2 → Nat :=
  let v987 : Index := Scalar.indexCast v985
  let c0_683 : Index := 0#32
  ![v987.toNat, 0]

def k0_chk74 (v985 : BitVec 32) : Prop :=
  (∀ a, (k0_off162 v985) a + S1x1024.size a ≤ S1032x1024.size a)
theorem k0_off162_inb : ∀ (v985 : BitVec 32) (k0_hw74 : k0_chk74 v985), ∀ a, (k0_off162 v985) a + S1x1024.size a ≤ S1032x1024.size a := fun v985 k0_hw74 => k0_hw74

def k0_off163 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v991 : Index := Scalar.indexCast v963
  let c2_684 : Index := 2#32
  ![v991.toNat, 2]
def k0_off164 (v992 : BitVec 32) : Fin 2 → Nat :=
  let v994 : Index := Scalar.indexCast v992
  let c0_687 : Index := 0#32
  ![v994.toNat, 0]

def k0_chk75 (v992 : BitVec 32) : Prop :=
  (∀ a, (k0_off164 v992) a + S1x1024.size a ≤ S1032x1024.size a)
theorem k0_off164_inb : ∀ (v992 : BitVec 32) (k0_hw75 : k0_chk75 v992), ∀ a, (k0_off164 v992) a + S1x1024.size a ≤ S1032x1024.size a := fun v992 k0_hw75 => k0_hw75

def k0_off165 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v998 : Index := Scalar.indexCast v963
  let c3_688 : Index := 3#32
  ![v998.toNat, 3]
def k0_off166 (v999 : BitVec 32) : Fin 2 → Nat :=
  let v1001 : Index := Scalar.indexCast v999
  let c0_691 : Index := 0#32
  ![v1001.toNat, 0]

def k0_chk76 (v999 : BitVec 32) : Prop :=
  (∀ a, (k0_off166 v999) a + S1x1024.size a ≤ S1032x1024.size a)
theorem k0_off166_inb : ∀ (v999 : BitVec 32) (k0_hw76 : k0_chk76 v999), ∀ a, (k0_off166 v999) a + S1x1024.size a ≤ S1032x1024.size a := fun v999 k0_hw76 => k0_hw76

def k0_off167 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1005 : Index := Scalar.indexCast v963
  let c4_692 : Index := 4#32
  ![v1005.toNat, 4]
def k0_off168 (v1006 : BitVec 32) : Fin 2 → Nat :=
  let v1008 : Index := Scalar.indexCast v1006
  let c0_695 : Index := 0#32
  ![v1008.toNat, 0]

def k0_chk77 (v1006 : BitVec 32) : Prop :=
  (∀ a, (k0_off168 v1006) a + S1x1024.size a ≤ S1032x1024.size a)
theorem k0_off168_inb : ∀ (v1006 : BitVec 32) (k0_hw77 : k0_chk77 v1006), ∀ a, (k0_off168 v1006) a + S1x1024.size a ≤ S1032x1024.size a := fun v1006 k0_hw77 => k0_hw77

def k0_off169 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1012 : Index := Scalar.indexCast v963
  let c5_696 : Index := 5#32
  ![v1012.toNat, 5]
def k0_off170 (v1013 : BitVec 32) : Fin 2 → Nat :=
  let v1015 : Index := Scalar.indexCast v1013
  let c0_699 : Index := 0#32
  ![v1015.toNat, 0]

def k0_chk78 (v1013 : BitVec 32) : Prop :=
  (∀ a, (k0_off170 v1013) a + S1x1024.size a ≤ S1032x1024.size a)
theorem k0_off170_inb : ∀ (v1013 : BitVec 32) (k0_hw78 : k0_chk78 v1013), ∀ a, (k0_off170 v1013) a + S1x1024.size a ≤ S1032x1024.size a := fun v1013 k0_hw78 => k0_hw78

def k0_off171 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1019 : Index := Scalar.indexCast v963
  let c6_700 : Index := 6#32
  ![v1019.toNat, 6]
def k0_off172 (v1020 : BitVec 32) : Fin 2 → Nat :=
  let v1022 : Index := Scalar.indexCast v1020
  let c0_703 : Index := 0#32
  ![v1022.toNat, 0]

def k0_chk79 (v1020 : BitVec 32) : Prop :=
  (∀ a, (k0_off172 v1020) a + S1x1024.size a ≤ S1032x1024.size a)
theorem k0_off172_inb : ∀ (v1020 : BitVec 32) (k0_hw79 : k0_chk79 v1020), ∀ a, (k0_off172 v1020) a + S1x1024.size a ≤ S1032x1024.size a := fun v1020 k0_hw79 => k0_hw79

def k0_off173 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1026 : Index := Scalar.indexCast v963
  let c7_704 : Index := 7#32
  ![v1026.toNat, 7]
def k0_off174 (v1027 : BitVec 32) : Fin 2 → Nat :=
  let v1029 : Index := Scalar.indexCast v1027
  let c0_707 : Index := 0#32
  ![v1029.toNat, 0]

def k0_chk80 (v1027 : BitVec 32) : Prop :=
  (∀ a, (k0_off174 v1027) a + S1x1024.size a ≤ S1032x1024.size a)
theorem k0_off174_inb : ∀ (v1027 : BitVec 32) (k0_hw80 : k0_chk80 v1027), ∀ a, (k0_off174 v1027) a + S1x1024.size a ≤ S1032x1024.size a := fun v1027 k0_hw80 => k0_hw80

def k0_off175 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1033 : Index := Scalar.indexCast v963
  let c8_708 : Index := 8#32
  ![v1033.toNat, 8]
def k0_off176 (v1034 : BitVec 32) : Fin 2 → Nat :=
  let v1036 : Index := Scalar.indexCast v1034
  let c0_711 : Index := 0#32
  ![v1036.toNat, 0]

def k0_chk81 (v1034 : BitVec 32) : Prop :=
  (∀ a, (k0_off176 v1034) a + S1x1024.size a ≤ S1032x1024.size a)
theorem k0_off176_inb : ∀ (v1034 : BitVec 32) (k0_hw81 : k0_chk81 v1034), ∀ a, (k0_off176 v1034) a + S1x1024.size a ≤ S1032x1024.size a := fun v1034 k0_hw81 => k0_hw81

def k0_off177 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1040 : Index := Scalar.indexCast v963
  let c9_712 : Index := 9#32
  ![v1040.toNat, 9]
def k0_off178 (v1041 : BitVec 32) : Fin 2 → Nat :=
  let v1043 : Index := Scalar.indexCast v1041
  let c0_715 : Index := 0#32
  ![v1043.toNat, 0]

def k0_chk82 (v1041 : BitVec 32) : Prop :=
  (∀ a, (k0_off178 v1041) a + S1x1024.size a ≤ S1032x1024.size a)
theorem k0_off178_inb : ∀ (v1041 : BitVec 32) (k0_hw82 : k0_chk82 v1041), ∀ a, (k0_off178 v1041) a + S1x1024.size a ≤ S1032x1024.size a := fun v1041 k0_hw82 => k0_hw82

def k0_off179 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1047 : Index := Scalar.indexCast v963
  let c10_716 : Index := 10#32
  ![v1047.toNat, 10]
def k0_off180 (v1048 : BitVec 32) : Fin 2 → Nat :=
  let v1050 : Index := Scalar.indexCast v1048
  let c0_719 : Index := 0#32
  ![v1050.toNat, 0]

def k0_chk83 (v1048 : BitVec 32) : Prop :=
  (∀ a, (k0_off180 v1048) a + S1x1024.size a ≤ S1032x1024.size a)
theorem k0_off180_inb : ∀ (v1048 : BitVec 32) (k0_hw83 : k0_chk83 v1048), ∀ a, (k0_off180 v1048) a + S1x1024.size a ≤ S1032x1024.size a := fun v1048 k0_hw83 => k0_hw83

def k0_off181 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1054 : Index := Scalar.indexCast v963
  let c11_720 : Index := 11#32
  ![v1054.toNat, 11]
def k0_off182 (v1055 : BitVec 32) : Fin 2 → Nat :=
  let v1057 : Index := Scalar.indexCast v1055
  let c0_723 : Index := 0#32
  ![v1057.toNat, 0]

def k0_chk84 (v1055 : BitVec 32) : Prop :=
  (∀ a, (k0_off182 v1055) a + S1x1024.size a ≤ S1032x1024.size a)
theorem k0_off182_inb : ∀ (v1055 : BitVec 32) (k0_hw84 : k0_chk84 v1055), ∀ a, (k0_off182 v1055) a + S1x1024.size a ≤ S1032x1024.size a := fun v1055 k0_hw84 => k0_hw84

def k0_off183 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1061 : Index := Scalar.indexCast v963
  let c12_724 : Index := 12#32
  ![v1061.toNat, 12]
def k0_off184 (v1062 : BitVec 32) : Fin 2 → Nat :=
  let v1064 : Index := Scalar.indexCast v1062
  let c0_727 : Index := 0#32
  ![v1064.toNat, 0]

def k0_chk85 (v1062 : BitVec 32) : Prop :=
  (∀ a, (k0_off184 v1062) a + S1x1024.size a ≤ S1032x1024.size a)
theorem k0_off184_inb : ∀ (v1062 : BitVec 32) (k0_hw85 : k0_chk85 v1062), ∀ a, (k0_off184 v1062) a + S1x1024.size a ≤ S1032x1024.size a := fun v1062 k0_hw85 => k0_hw85

def k0_off185 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1068 : Index := Scalar.indexCast v963
  let c13_728 : Index := 13#32
  ![v1068.toNat, 13]
def k0_off186 (v1069 : BitVec 32) : Fin 2 → Nat :=
  let v1071 : Index := Scalar.indexCast v1069
  let c0_731 : Index := 0#32
  ![v1071.toNat, 0]

def k0_chk86 (v1069 : BitVec 32) : Prop :=
  (∀ a, (k0_off186 v1069) a + S1x1024.size a ≤ S1032x1024.size a)
theorem k0_off186_inb : ∀ (v1069 : BitVec 32) (k0_hw86 : k0_chk86 v1069), ∀ a, (k0_off186 v1069) a + S1x1024.size a ≤ S1032x1024.size a := fun v1069 k0_hw86 => k0_hw86

def k0_off187 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1075 : Index := Scalar.indexCast v963
  let c14_732 : Index := 14#32
  ![v1075.toNat, 14]
def k0_off188 (v1076 : BitVec 32) : Fin 2 → Nat :=
  let v1078 : Index := Scalar.indexCast v1076
  let c0_735 : Index := 0#32
  ![v1078.toNat, 0]

def k0_chk87 (v1076 : BitVec 32) : Prop :=
  (∀ a, (k0_off188 v1076) a + S1x1024.size a ≤ S1032x1024.size a)
theorem k0_off188_inb : ∀ (v1076 : BitVec 32) (k0_hw87 : k0_chk87 v1076), ∀ a, (k0_off188 v1076) a + S1x1024.size a ≤ S1032x1024.size a := fun v1076 k0_hw87 => k0_hw87

def k0_off189 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1082 : Index := Scalar.indexCast v963
  let c15_736 : Index := 15#32
  ![v1082.toNat, 15]
def k0_off190 (v1083 : BitVec 32) : Fin 2 → Nat :=
  let v1085 : Index := Scalar.indexCast v1083
  let c0_739 : Index := 0#32
  ![v1085.toNat, 0]

def k0_chk88 (v1083 : BitVec 32) : Prop :=
  (∀ a, (k0_off190 v1083) a + S1x1024.size a ≤ S1032x1024.size a)
theorem k0_off190_inb : ∀ (v1083 : BitVec 32) (k0_hw88 : k0_chk88 v1083), ∀ a, (k0_off190 v1083) a + S1x1024.size a ≤ S1032x1024.size a := fun v1083 k0_hw88 => k0_hw88

def k0_off191 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1089 : Index := Scalar.indexCast v963
  let c16_740 : Index := 16#32
  ![v1089.toNat, 16]
def k0_off192 (v1090 : BitVec 32) : Fin 2 → Nat :=
  let v1092 : Index := Scalar.indexCast v1090
  let c0_743 : Index := 0#32
  ![v1092.toNat, 0]

def k0_chk89 (v1090 : BitVec 32) : Prop :=
  (∀ a, (k0_off192 v1090) a + S1x1024.size a ≤ S1032x1024.size a)
theorem k0_off192_inb : ∀ (v1090 : BitVec 32) (k0_hw89 : k0_chk89 v1090), ∀ a, (k0_off192 v1090) a + S1x1024.size a ≤ S1032x1024.size a := fun v1090 k0_hw89 => k0_hw89

def k0_off193 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1096 : Index := Scalar.indexCast v963
  let c17_744 : Index := 17#32
  ![v1096.toNat, 17]
def k0_off194 (v1097 : BitVec 32) : Fin 2 → Nat :=
  let v1099 : Index := Scalar.indexCast v1097
  let c0_747 : Index := 0#32
  ![v1099.toNat, 0]

def k0_chk90 (v1097 : BitVec 32) : Prop :=
  (∀ a, (k0_off194 v1097) a + S1x1024.size a ≤ S1032x1024.size a)
theorem k0_off194_inb : ∀ (v1097 : BitVec 32) (k0_hw90 : k0_chk90 v1097), ∀ a, (k0_off194 v1097) a + S1x1024.size a ≤ S1032x1024.size a := fun v1097 k0_hw90 => k0_hw90

def k0_off195 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1103 : Index := Scalar.indexCast v963
  let c18_748 : Index := 18#32
  ![v1103.toNat, 18]
def k0_off196 (v1104 : BitVec 32) : Fin 2 → Nat :=
  let v1106 : Index := Scalar.indexCast v1104
  let c0_751 : Index := 0#32
  ![v1106.toNat, 0]

def k0_chk91 (v1104 : BitVec 32) : Prop :=
  (∀ a, (k0_off196 v1104) a + S1x1024.size a ≤ S1032x1024.size a)
theorem k0_off196_inb : ∀ (v1104 : BitVec 32) (k0_hw91 : k0_chk91 v1104), ∀ a, (k0_off196 v1104) a + S1x1024.size a ≤ S1032x1024.size a := fun v1104 k0_hw91 => k0_hw91

def k0_off197 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1110 : Index := Scalar.indexCast v963
  let c19_752 : Index := 19#32
  ![v1110.toNat, 19]
def k0_off198 (v1111 : BitVec 32) : Fin 2 → Nat :=
  let v1113 : Index := Scalar.indexCast v1111
  let c0_755 : Index := 0#32
  ![v1113.toNat, 0]

def k0_chk92 (v1111 : BitVec 32) : Prop :=
  (∀ a, (k0_off198 v1111) a + S1x1024.size a ≤ S1032x1024.size a)
theorem k0_off198_inb : ∀ (v1111 : BitVec 32) (k0_hw92 : k0_chk92 v1111), ∀ a, (k0_off198 v1111) a + S1x1024.size a ≤ S1032x1024.size a := fun v1111 k0_hw92 => k0_hw92

def k0_off199 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1117 : Index := Scalar.indexCast v963
  let c20_756 : Index := 20#32
  ![v1117.toNat, 20]
def k0_off200 (v1118 : BitVec 32) : Fin 2 → Nat :=
  let v1120 : Index := Scalar.indexCast v1118
  let c0_759 : Index := 0#32
  ![v1120.toNat, 0]

def k0_chk93 (v1118 : BitVec 32) : Prop :=
  (∀ a, (k0_off200 v1118) a + S1x1024.size a ≤ S1032x1024.size a)
theorem k0_off200_inb : ∀ (v1118 : BitVec 32) (k0_hw93 : k0_chk93 v1118), ∀ a, (k0_off200 v1118) a + S1x1024.size a ≤ S1032x1024.size a := fun v1118 k0_hw93 => k0_hw93

def k0_off201 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1124 : Index := Scalar.indexCast v963
  let c21_760 : Index := 21#32
  ![v1124.toNat, 21]
def k0_off202 (v1125 : BitVec 32) : Fin 2 → Nat :=
  let v1127 : Index := Scalar.indexCast v1125
  let c0_763 : Index := 0#32
  ![v1127.toNat, 0]

def k0_chk94 (v1125 : BitVec 32) : Prop :=
  (∀ a, (k0_off202 v1125) a + S1x1024.size a ≤ S1032x1024.size a)
theorem k0_off202_inb : ∀ (v1125 : BitVec 32) (k0_hw94 : k0_chk94 v1125), ∀ a, (k0_off202 v1125) a + S1x1024.size a ≤ S1032x1024.size a := fun v1125 k0_hw94 => k0_hw94

def k0_off203 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1131 : Index := Scalar.indexCast v963
  let c22_764 : Index := 22#32
  ![v1131.toNat, 22]
def k0_off204 (v1132 : BitVec 32) : Fin 2 → Nat :=
  let v1134 : Index := Scalar.indexCast v1132
  let c0_767 : Index := 0#32
  ![v1134.toNat, 0]

def k0_chk95 (v1132 : BitVec 32) : Prop :=
  (∀ a, (k0_off204 v1132) a + S1x1024.size a ≤ S1032x1024.size a)
theorem k0_off204_inb : ∀ (v1132 : BitVec 32) (k0_hw95 : k0_chk95 v1132), ∀ a, (k0_off204 v1132) a + S1x1024.size a ≤ S1032x1024.size a := fun v1132 k0_hw95 => k0_hw95

def k0_off205 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_663 : BitVec 32 := 2#32
  let v961 : BitVec 32 := Scalar.subi v2 c2_i32_663
  let c32_i32_664 : BitVec 32 := 32#32
  let v962 : BitVec 32 := Scalar.addi v961 c32_i32_664
  let c32_i32_665 : BitVec 32 := 32#32
  let v963 : BitVec 32 := Scalar.remsi v962 c32_i32_665
  let v1138 : Index := Scalar.indexCast v963
  let c23_768 : Index := 23#32
  ![v1138.toNat, 23]
def k0_off206 (v1139 : BitVec 32) : Fin 2 → Nat :=
  let v1141 : Index := Scalar.indexCast v1139
  let c0_771 : Index := 0#32
  ![v1141.toNat, 0]

def k0_chk96 (v1139 : BitVec 32) : Prop :=
  (∀ a, (k0_off206 v1139) a + S1x1024.size a ≤ S1032x1024.size a)
theorem k0_off206_inb : ∀ (v1139 : BitVec 32) (k0_hw96 : k0_chk96 v1139), ∀ a, (k0_off206 v1139) a + S1x1024.size a ≤ S1032x1024.size a := fun v1139 k0_hw96 => k0_hw96

def k0_off207 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  ![v1147.toNat]
def k0_off208 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let c0_i32_777 : BitVec 32 := 0#32
  let c0_i32_778 : BitVec 32 := 0#32
  ![v1147.toNat, 0, 0]
def k0_off209 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1154 : Index := Scalar.indexCast v1147
  let c0_781 : Index := 0#32
  let c0_782 : Index := 0#32
  ![v1154.toNat, 0, 0]
def k0_off210 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1161 : Index := Scalar.indexCast v1147
  let c0_785 : Index := 0#32
  ![v1161.toNat, 0]
def k0_off211 (v1162 : BitVec 32) : Fin 2 → Nat :=
  let v1164 : Index := Scalar.indexCast v1162
  let c0_788 : Index := 0#32
  ![v1164.toNat, 0]

def k0_chk97 (v1162 : BitVec 32) : Prop :=
  (∀ a, (k0_off211 v1162) a + S1x1024.size a ≤ S1032x1024.size a)
theorem k0_off211_inb : ∀ (v1162 : BitVec 32) (k0_hw97 : k0_chk97 v1162), ∀ a, (k0_off211 v1162) a + S1x1024.size a ≤ S1032x1024.size a := fun v1162 k0_hw97 => k0_hw97

def k0_off212 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1168 : Index := Scalar.indexCast v1147
  let c1_789 : Index := 1#32
  ![v1168.toNat, 1]
def k0_off213 (v1169 : BitVec 32) : Fin 2 → Nat :=
  let v1171 : Index := Scalar.indexCast v1169
  let c0_792 : Index := 0#32
  ![v1171.toNat, 0]

def k0_chk98 (v1169 : BitVec 32) : Prop :=
  (∀ a, (k0_off213 v1169) a + S1x1024.size a ≤ S1032x1024.size a)
theorem k0_off213_inb : ∀ (v1169 : BitVec 32) (k0_hw98 : k0_chk98 v1169), ∀ a, (k0_off213 v1169) a + S1x1024.size a ≤ S1032x1024.size a := fun v1169 k0_hw98 => k0_hw98

def k0_off214 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1175 : Index := Scalar.indexCast v1147
  let c2_793 : Index := 2#32
  ![v1175.toNat, 2]
def k0_off215 (v1176 : BitVec 32) : Fin 2 → Nat :=
  let v1178 : Index := Scalar.indexCast v1176
  let c0_796 : Index := 0#32
  ![v1178.toNat, 0]

def k0_chk99 (v1176 : BitVec 32) : Prop :=
  (∀ a, (k0_off215 v1176) a + S1x1024.size a ≤ S1032x1024.size a)
theorem k0_off215_inb : ∀ (v1176 : BitVec 32) (k0_hw99 : k0_chk99 v1176), ∀ a, (k0_off215 v1176) a + S1x1024.size a ≤ S1032x1024.size a := fun v1176 k0_hw99 => k0_hw99

def k0_off216 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1182 : Index := Scalar.indexCast v1147
  let c3_797 : Index := 3#32
  ![v1182.toNat, 3]
def k0_off217 (v1183 : BitVec 32) : Fin 2 → Nat :=
  let v1185 : Index := Scalar.indexCast v1183
  let c0_800 : Index := 0#32
  ![v1185.toNat, 0]

def k0_chk100 (v1183 : BitVec 32) : Prop :=
  (∀ a, (k0_off217 v1183) a + S1x1024.size a ≤ S1032x1024.size a)
theorem k0_off217_inb : ∀ (v1183 : BitVec 32) (k0_hw100 : k0_chk100 v1183), ∀ a, (k0_off217 v1183) a + S1x1024.size a ≤ S1032x1024.size a := fun v1183 k0_hw100 => k0_hw100

def k0_off218 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1189 : Index := Scalar.indexCast v1147
  let c4_801 : Index := 4#32
  ![v1189.toNat, 4]
def k0_off219 (v1190 : BitVec 32) : Fin 2 → Nat :=
  let v1192 : Index := Scalar.indexCast v1190
  let c0_804 : Index := 0#32
  ![v1192.toNat, 0]

def k0_chk101 (v1190 : BitVec 32) : Prop :=
  (∀ a, (k0_off219 v1190) a + S1x1024.size a ≤ S1032x1024.size a)
theorem k0_off219_inb : ∀ (v1190 : BitVec 32) (k0_hw101 : k0_chk101 v1190), ∀ a, (k0_off219 v1190) a + S1x1024.size a ≤ S1032x1024.size a := fun v1190 k0_hw101 => k0_hw101

def k0_off220 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1196 : Index := Scalar.indexCast v1147
  let c5_805 : Index := 5#32
  ![v1196.toNat, 5]
def k0_off221 (v1197 : BitVec 32) : Fin 2 → Nat :=
  let v1199 : Index := Scalar.indexCast v1197
  let c0_808 : Index := 0#32
  ![v1199.toNat, 0]

def k0_chk102 (v1197 : BitVec 32) : Prop :=
  (∀ a, (k0_off221 v1197) a + S1x1024.size a ≤ S1032x1024.size a)
theorem k0_off221_inb : ∀ (v1197 : BitVec 32) (k0_hw102 : k0_chk102 v1197), ∀ a, (k0_off221 v1197) a + S1x1024.size a ≤ S1032x1024.size a := fun v1197 k0_hw102 => k0_hw102

def k0_off222 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1203 : Index := Scalar.indexCast v1147
  let c6_809 : Index := 6#32
  ![v1203.toNat, 6]
def k0_off223 (v1204 : BitVec 32) : Fin 2 → Nat :=
  let v1206 : Index := Scalar.indexCast v1204
  let c0_812 : Index := 0#32
  ![v1206.toNat, 0]

def k0_chk103 (v1204 : BitVec 32) : Prop :=
  (∀ a, (k0_off223 v1204) a + S1x1024.size a ≤ S1032x1024.size a)
theorem k0_off223_inb : ∀ (v1204 : BitVec 32) (k0_hw103 : k0_chk103 v1204), ∀ a, (k0_off223 v1204) a + S1x1024.size a ≤ S1032x1024.size a := fun v1204 k0_hw103 => k0_hw103

def k0_off224 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1210 : Index := Scalar.indexCast v1147
  let c7_813 : Index := 7#32
  ![v1210.toNat, 7]
def k0_off225 (v1211 : BitVec 32) : Fin 2 → Nat :=
  let v1213 : Index := Scalar.indexCast v1211
  let c0_816 : Index := 0#32
  ![v1213.toNat, 0]

def k0_chk104 (v1211 : BitVec 32) : Prop :=
  (∀ a, (k0_off225 v1211) a + S1x1024.size a ≤ S1032x1024.size a)
theorem k0_off225_inb : ∀ (v1211 : BitVec 32) (k0_hw104 : k0_chk104 v1211), ∀ a, (k0_off225 v1211) a + S1x1024.size a ≤ S1032x1024.size a := fun v1211 k0_hw104 => k0_hw104

def k0_off226 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1217 : Index := Scalar.indexCast v1147
  let c8_817 : Index := 8#32
  ![v1217.toNat, 8]
def k0_off227 (v1218 : BitVec 32) : Fin 2 → Nat :=
  let v1220 : Index := Scalar.indexCast v1218
  let c0_820 : Index := 0#32
  ![v1220.toNat, 0]

def k0_chk105 (v1218 : BitVec 32) : Prop :=
  (∀ a, (k0_off227 v1218) a + S1x1024.size a ≤ S1032x1024.size a)
theorem k0_off227_inb : ∀ (v1218 : BitVec 32) (k0_hw105 : k0_chk105 v1218), ∀ a, (k0_off227 v1218) a + S1x1024.size a ≤ S1032x1024.size a := fun v1218 k0_hw105 => k0_hw105

def k0_off228 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1224 : Index := Scalar.indexCast v1147
  let c9_821 : Index := 9#32
  ![v1224.toNat, 9]
def k0_off229 (v1225 : BitVec 32) : Fin 2 → Nat :=
  let v1227 : Index := Scalar.indexCast v1225
  let c0_824 : Index := 0#32
  ![v1227.toNat, 0]

def k0_chk106 (v1225 : BitVec 32) : Prop :=
  (∀ a, (k0_off229 v1225) a + S1x1024.size a ≤ S1032x1024.size a)
theorem k0_off229_inb : ∀ (v1225 : BitVec 32) (k0_hw106 : k0_chk106 v1225), ∀ a, (k0_off229 v1225) a + S1x1024.size a ≤ S1032x1024.size a := fun v1225 k0_hw106 => k0_hw106

def k0_off230 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1231 : Index := Scalar.indexCast v1147
  let c10_825 : Index := 10#32
  ![v1231.toNat, 10]
def k0_off231 (v1232 : BitVec 32) : Fin 2 → Nat :=
  let v1234 : Index := Scalar.indexCast v1232
  let c0_828 : Index := 0#32
  ![v1234.toNat, 0]

def k0_chk107 (v1232 : BitVec 32) : Prop :=
  (∀ a, (k0_off231 v1232) a + S1x1024.size a ≤ S1032x1024.size a)
theorem k0_off231_inb : ∀ (v1232 : BitVec 32) (k0_hw107 : k0_chk107 v1232), ∀ a, (k0_off231 v1232) a + S1x1024.size a ≤ S1032x1024.size a := fun v1232 k0_hw107 => k0_hw107

def k0_off232 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1238 : Index := Scalar.indexCast v1147
  let c11_829 : Index := 11#32
  ![v1238.toNat, 11]
def k0_off233 (v1239 : BitVec 32) : Fin 2 → Nat :=
  let v1241 : Index := Scalar.indexCast v1239
  let c0_832 : Index := 0#32
  ![v1241.toNat, 0]

def k0_chk108 (v1239 : BitVec 32) : Prop :=
  (∀ a, (k0_off233 v1239) a + S1x1024.size a ≤ S1032x1024.size a)
theorem k0_off233_inb : ∀ (v1239 : BitVec 32) (k0_hw108 : k0_chk108 v1239), ∀ a, (k0_off233 v1239) a + S1x1024.size a ≤ S1032x1024.size a := fun v1239 k0_hw108 => k0_hw108

def k0_off234 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1245 : Index := Scalar.indexCast v1147
  let c12_833 : Index := 12#32
  ![v1245.toNat, 12]
def k0_off235 (v1246 : BitVec 32) : Fin 2 → Nat :=
  let v1248 : Index := Scalar.indexCast v1246
  let c0_836 : Index := 0#32
  ![v1248.toNat, 0]

def k0_chk109 (v1246 : BitVec 32) : Prop :=
  (∀ a, (k0_off235 v1246) a + S1x1024.size a ≤ S1032x1024.size a)
theorem k0_off235_inb : ∀ (v1246 : BitVec 32) (k0_hw109 : k0_chk109 v1246), ∀ a, (k0_off235 v1246) a + S1x1024.size a ≤ S1032x1024.size a := fun v1246 k0_hw109 => k0_hw109

def k0_off236 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1252 : Index := Scalar.indexCast v1147
  let c13_837 : Index := 13#32
  ![v1252.toNat, 13]
def k0_off237 (v1253 : BitVec 32) : Fin 2 → Nat :=
  let v1255 : Index := Scalar.indexCast v1253
  let c0_840 : Index := 0#32
  ![v1255.toNat, 0]

def k0_chk110 (v1253 : BitVec 32) : Prop :=
  (∀ a, (k0_off237 v1253) a + S1x1024.size a ≤ S1032x1024.size a)
theorem k0_off237_inb : ∀ (v1253 : BitVec 32) (k0_hw110 : k0_chk110 v1253), ∀ a, (k0_off237 v1253) a + S1x1024.size a ≤ S1032x1024.size a := fun v1253 k0_hw110 => k0_hw110

def k0_off238 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1259 : Index := Scalar.indexCast v1147
  let c14_841 : Index := 14#32
  ![v1259.toNat, 14]
def k0_off239 (v1260 : BitVec 32) : Fin 2 → Nat :=
  let v1262 : Index := Scalar.indexCast v1260
  let c0_844 : Index := 0#32
  ![v1262.toNat, 0]

def k0_chk111 (v1260 : BitVec 32) : Prop :=
  (∀ a, (k0_off239 v1260) a + S1x1024.size a ≤ S1032x1024.size a)
theorem k0_off239_inb : ∀ (v1260 : BitVec 32) (k0_hw111 : k0_chk111 v1260), ∀ a, (k0_off239 v1260) a + S1x1024.size a ≤ S1032x1024.size a := fun v1260 k0_hw111 => k0_hw111

def k0_off240 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1266 : Index := Scalar.indexCast v1147
  let c15_845 : Index := 15#32
  ![v1266.toNat, 15]
def k0_off241 (v1267 : BitVec 32) : Fin 2 → Nat :=
  let v1269 : Index := Scalar.indexCast v1267
  let c0_848 : Index := 0#32
  ![v1269.toNat, 0]

def k0_chk112 (v1267 : BitVec 32) : Prop :=
  (∀ a, (k0_off241 v1267) a + S1x1024.size a ≤ S1032x1024.size a)
theorem k0_off241_inb : ∀ (v1267 : BitVec 32) (k0_hw112 : k0_chk112 v1267), ∀ a, (k0_off241 v1267) a + S1x1024.size a ≤ S1032x1024.size a := fun v1267 k0_hw112 => k0_hw112

def k0_off242 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1273 : Index := Scalar.indexCast v1147
  let c16_849 : Index := 16#32
  ![v1273.toNat, 16]
def k0_off243 (v1274 : BitVec 32) : Fin 2 → Nat :=
  let v1276 : Index := Scalar.indexCast v1274
  let c0_852 : Index := 0#32
  ![v1276.toNat, 0]

def k0_chk113 (v1274 : BitVec 32) : Prop :=
  (∀ a, (k0_off243 v1274) a + S1x1024.size a ≤ S1032x1024.size a)
theorem k0_off243_inb : ∀ (v1274 : BitVec 32) (k0_hw113 : k0_chk113 v1274), ∀ a, (k0_off243 v1274) a + S1x1024.size a ≤ S1032x1024.size a := fun v1274 k0_hw113 => k0_hw113

def k0_off244 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1280 : Index := Scalar.indexCast v1147
  let c17_853 : Index := 17#32
  ![v1280.toNat, 17]
def k0_off245 (v1281 : BitVec 32) : Fin 2 → Nat :=
  let v1283 : Index := Scalar.indexCast v1281
  let c0_856 : Index := 0#32
  ![v1283.toNat, 0]

def k0_chk114 (v1281 : BitVec 32) : Prop :=
  (∀ a, (k0_off245 v1281) a + S1x1024.size a ≤ S1032x1024.size a)
theorem k0_off245_inb : ∀ (v1281 : BitVec 32) (k0_hw114 : k0_chk114 v1281), ∀ a, (k0_off245 v1281) a + S1x1024.size a ≤ S1032x1024.size a := fun v1281 k0_hw114 => k0_hw114

def k0_off246 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1287 : Index := Scalar.indexCast v1147
  let c18_857 : Index := 18#32
  ![v1287.toNat, 18]
def k0_off247 (v1288 : BitVec 32) : Fin 2 → Nat :=
  let v1290 : Index := Scalar.indexCast v1288
  let c0_860 : Index := 0#32
  ![v1290.toNat, 0]

def k0_chk115 (v1288 : BitVec 32) : Prop :=
  (∀ a, (k0_off247 v1288) a + S1x1024.size a ≤ S1032x1024.size a)
theorem k0_off247_inb : ∀ (v1288 : BitVec 32) (k0_hw115 : k0_chk115 v1288), ∀ a, (k0_off247 v1288) a + S1x1024.size a ≤ S1032x1024.size a := fun v1288 k0_hw115 => k0_hw115

def k0_off248 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1294 : Index := Scalar.indexCast v1147
  let c19_861 : Index := 19#32
  ![v1294.toNat, 19]
def k0_off249 (v1295 : BitVec 32) : Fin 2 → Nat :=
  let v1297 : Index := Scalar.indexCast v1295
  let c0_864 : Index := 0#32
  ![v1297.toNat, 0]

def k0_chk116 (v1295 : BitVec 32) : Prop :=
  (∀ a, (k0_off249 v1295) a + S1x1024.size a ≤ S1032x1024.size a)
theorem k0_off249_inb : ∀ (v1295 : BitVec 32) (k0_hw116 : k0_chk116 v1295), ∀ a, (k0_off249 v1295) a + S1x1024.size a ≤ S1032x1024.size a := fun v1295 k0_hw116 => k0_hw116

def k0_off250 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1301 : Index := Scalar.indexCast v1147
  let c20_865 : Index := 20#32
  ![v1301.toNat, 20]
def k0_off251 (v1302 : BitVec 32) : Fin 2 → Nat :=
  let v1304 : Index := Scalar.indexCast v1302
  let c0_868 : Index := 0#32
  ![v1304.toNat, 0]

def k0_chk117 (v1302 : BitVec 32) : Prop :=
  (∀ a, (k0_off251 v1302) a + S1x1024.size a ≤ S1032x1024.size a)
theorem k0_off251_inb : ∀ (v1302 : BitVec 32) (k0_hw117 : k0_chk117 v1302), ∀ a, (k0_off251 v1302) a + S1x1024.size a ≤ S1032x1024.size a := fun v1302 k0_hw117 => k0_hw117

def k0_off252 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1308 : Index := Scalar.indexCast v1147
  let c21_869 : Index := 21#32
  ![v1308.toNat, 21]
def k0_off253 (v1309 : BitVec 32) : Fin 2 → Nat :=
  let v1311 : Index := Scalar.indexCast v1309
  let c0_872 : Index := 0#32
  ![v1311.toNat, 0]

def k0_chk118 (v1309 : BitVec 32) : Prop :=
  (∀ a, (k0_off253 v1309) a + S1x1024.size a ≤ S1032x1024.size a)
theorem k0_off253_inb : ∀ (v1309 : BitVec 32) (k0_hw118 : k0_chk118 v1309), ∀ a, (k0_off253 v1309) a + S1x1024.size a ≤ S1032x1024.size a := fun v1309 k0_hw118 => k0_hw118

def k0_off254 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1315 : Index := Scalar.indexCast v1147
  let c22_873 : Index := 22#32
  ![v1315.toNat, 22]
def k0_off255 (v1316 : BitVec 32) : Fin 2 → Nat :=
  let v1318 : Index := Scalar.indexCast v1316
  let c0_876 : Index := 0#32
  ![v1318.toNat, 0]

def k0_chk119 (v1316 : BitVec 32) : Prop :=
  (∀ a, (k0_off255 v1316) a + S1x1024.size a ≤ S1032x1024.size a)
theorem k0_off255_inb : ∀ (v1316 : BitVec 32) (k0_hw119 : k0_chk119 v1316), ∀ a, (k0_off255 v1316) a + S1x1024.size a ≤ S1032x1024.size a := fun v1316 k0_hw119 => k0_hw119

def k0_off256 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v1145 : BitVec 32 := Scalar.subi v2 c3_i32_772
  let c32_i32_773 : BitVec 32 := 32#32
  let v1146 : BitVec 32 := Scalar.addi v1145 c32_i32_773
  let c32_i32_774 : BitVec 32 := 32#32
  let v1147 : BitVec 32 := Scalar.remsi v1146 c32_i32_774
  let v1322 : Index := Scalar.indexCast v1147
  let c23_877 : Index := 23#32
  ![v1322.toNat, 23]
def k0_off257 (v1323 : BitVec 32) : Fin 2 → Nat :=
  let v1325 : Index := Scalar.indexCast v1323
  let c0_880 : Index := 0#32
  ![v1325.toNat, 0]

def k0_chk120 (v1323 : BitVec 32) : Prop :=
  (∀ a, (k0_off257 v1323) a + S1x1024.size a ≤ S1032x1024.size a)
theorem k0_off257_inb : ∀ (v1323 : BitVec 32) (k0_hw120 : k0_chk120 v1323), ∀ a, (k0_off257 v1323) a + S1x1024.size a ≤ S1032x1024.size a := fun v1323 k0_hw120 => k0_hw120

def k0_off258 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  ![v1331.toNat]
def k0_off259 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let c0_i32_886 : BitVec 32 := 0#32
  let c0_i32_887 : BitVec 32 := 0#32
  ![v1331.toNat, 0, 0]
def k0_off260 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1338 : Index := Scalar.indexCast v1331
  let c0_890 : Index := 0#32
  let c0_891 : Index := 0#32
  ![v1338.toNat, 0, 0]
def k0_off261 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1345 : Index := Scalar.indexCast v1331
  let c0_894 : Index := 0#32
  ![v1345.toNat, 0]
def k0_off262 (v1346 : BitVec 32) : Fin 2 → Nat :=
  let v1348 : Index := Scalar.indexCast v1346
  let c0_897 : Index := 0#32
  ![v1348.toNat, 0]

def k0_chk121 (v1346 : BitVec 32) : Prop :=
  (∀ a, (k0_off262 v1346) a + S1x1024.size a ≤ S1032x1024.size a)
theorem k0_off262_inb : ∀ (v1346 : BitVec 32) (k0_hw121 : k0_chk121 v1346), ∀ a, (k0_off262 v1346) a + S1x1024.size a ≤ S1032x1024.size a := fun v1346 k0_hw121 => k0_hw121

def k0_off263 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1352 : Index := Scalar.indexCast v1331
  let c1_898 : Index := 1#32
  ![v1352.toNat, 1]
def k0_off264 (v1353 : BitVec 32) : Fin 2 → Nat :=
  let v1355 : Index := Scalar.indexCast v1353
  let c0_901 : Index := 0#32
  ![v1355.toNat, 0]

def k0_chk122 (v1353 : BitVec 32) : Prop :=
  (∀ a, (k0_off264 v1353) a + S1x1024.size a ≤ S1032x1024.size a)
theorem k0_off264_inb : ∀ (v1353 : BitVec 32) (k0_hw122 : k0_chk122 v1353), ∀ a, (k0_off264 v1353) a + S1x1024.size a ≤ S1032x1024.size a := fun v1353 k0_hw122 => k0_hw122

def k0_off265 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1359 : Index := Scalar.indexCast v1331
  let c2_902 : Index := 2#32
  ![v1359.toNat, 2]
def k0_off266 (v1360 : BitVec 32) : Fin 2 → Nat :=
  let v1362 : Index := Scalar.indexCast v1360
  let c0_905 : Index := 0#32
  ![v1362.toNat, 0]

def k0_chk123 (v1360 : BitVec 32) : Prop :=
  (∀ a, (k0_off266 v1360) a + S1x1024.size a ≤ S1032x1024.size a)
theorem k0_off266_inb : ∀ (v1360 : BitVec 32) (k0_hw123 : k0_chk123 v1360), ∀ a, (k0_off266 v1360) a + S1x1024.size a ≤ S1032x1024.size a := fun v1360 k0_hw123 => k0_hw123

def k0_off267 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1366 : Index := Scalar.indexCast v1331
  let c3_906 : Index := 3#32
  ![v1366.toNat, 3]
def k0_off268 (v1367 : BitVec 32) : Fin 2 → Nat :=
  let v1369 : Index := Scalar.indexCast v1367
  let c0_909 : Index := 0#32
  ![v1369.toNat, 0]

def k0_chk124 (v1367 : BitVec 32) : Prop :=
  (∀ a, (k0_off268 v1367) a + S1x1024.size a ≤ S1032x1024.size a)
theorem k0_off268_inb : ∀ (v1367 : BitVec 32) (k0_hw124 : k0_chk124 v1367), ∀ a, (k0_off268 v1367) a + S1x1024.size a ≤ S1032x1024.size a := fun v1367 k0_hw124 => k0_hw124

def k0_off269 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1373 : Index := Scalar.indexCast v1331
  let c4_910 : Index := 4#32
  ![v1373.toNat, 4]
def k0_off270 (v1374 : BitVec 32) : Fin 2 → Nat :=
  let v1376 : Index := Scalar.indexCast v1374
  let c0_913 : Index := 0#32
  ![v1376.toNat, 0]

def k0_chk125 (v1374 : BitVec 32) : Prop :=
  (∀ a, (k0_off270 v1374) a + S1x1024.size a ≤ S1032x1024.size a)
theorem k0_off270_inb : ∀ (v1374 : BitVec 32) (k0_hw125 : k0_chk125 v1374), ∀ a, (k0_off270 v1374) a + S1x1024.size a ≤ S1032x1024.size a := fun v1374 k0_hw125 => k0_hw125

def k0_off271 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1380 : Index := Scalar.indexCast v1331
  let c5_914 : Index := 5#32
  ![v1380.toNat, 5]
def k0_off272 (v1381 : BitVec 32) : Fin 2 → Nat :=
  let v1383 : Index := Scalar.indexCast v1381
  let c0_917 : Index := 0#32
  ![v1383.toNat, 0]

def k0_chk126 (v1381 : BitVec 32) : Prop :=
  (∀ a, (k0_off272 v1381) a + S1x1024.size a ≤ S1032x1024.size a)
theorem k0_off272_inb : ∀ (v1381 : BitVec 32) (k0_hw126 : k0_chk126 v1381), ∀ a, (k0_off272 v1381) a + S1x1024.size a ≤ S1032x1024.size a := fun v1381 k0_hw126 => k0_hw126

def k0_off273 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1387 : Index := Scalar.indexCast v1331
  let c6_918 : Index := 6#32
  ![v1387.toNat, 6]
def k0_off274 (v1388 : BitVec 32) : Fin 2 → Nat :=
  let v1390 : Index := Scalar.indexCast v1388
  let c0_921 : Index := 0#32
  ![v1390.toNat, 0]

def k0_chk127 (v1388 : BitVec 32) : Prop :=
  (∀ a, (k0_off274 v1388) a + S1x1024.size a ≤ S1032x1024.size a)
theorem k0_off274_inb : ∀ (v1388 : BitVec 32) (k0_hw127 : k0_chk127 v1388), ∀ a, (k0_off274 v1388) a + S1x1024.size a ≤ S1032x1024.size a := fun v1388 k0_hw127 => k0_hw127

def k0_off275 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1394 : Index := Scalar.indexCast v1331
  let c7_922 : Index := 7#32
  ![v1394.toNat, 7]
def k0_off276 (v1395 : BitVec 32) : Fin 2 → Nat :=
  let v1397 : Index := Scalar.indexCast v1395
  let c0_925 : Index := 0#32
  ![v1397.toNat, 0]

def k0_chk128 (v1395 : BitVec 32) : Prop :=
  (∀ a, (k0_off276 v1395) a + S1x1024.size a ≤ S1032x1024.size a)
theorem k0_off276_inb : ∀ (v1395 : BitVec 32) (k0_hw128 : k0_chk128 v1395), ∀ a, (k0_off276 v1395) a + S1x1024.size a ≤ S1032x1024.size a := fun v1395 k0_hw128 => k0_hw128

def k0_off277 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1401 : Index := Scalar.indexCast v1331
  let c8_926 : Index := 8#32
  ![v1401.toNat, 8]
def k0_off278 (v1402 : BitVec 32) : Fin 2 → Nat :=
  let v1404 : Index := Scalar.indexCast v1402
  let c0_929 : Index := 0#32
  ![v1404.toNat, 0]

def k0_chk129 (v1402 : BitVec 32) : Prop :=
  (∀ a, (k0_off278 v1402) a + S1x1024.size a ≤ S1032x1024.size a)
theorem k0_off278_inb : ∀ (v1402 : BitVec 32) (k0_hw129 : k0_chk129 v1402), ∀ a, (k0_off278 v1402) a + S1x1024.size a ≤ S1032x1024.size a := fun v1402 k0_hw129 => k0_hw129

def k0_off279 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1408 : Index := Scalar.indexCast v1331
  let c9_930 : Index := 9#32
  ![v1408.toNat, 9]
def k0_off280 (v1409 : BitVec 32) : Fin 2 → Nat :=
  let v1411 : Index := Scalar.indexCast v1409
  let c0_933 : Index := 0#32
  ![v1411.toNat, 0]

def k0_chk130 (v1409 : BitVec 32) : Prop :=
  (∀ a, (k0_off280 v1409) a + S1x1024.size a ≤ S1032x1024.size a)
theorem k0_off280_inb : ∀ (v1409 : BitVec 32) (k0_hw130 : k0_chk130 v1409), ∀ a, (k0_off280 v1409) a + S1x1024.size a ≤ S1032x1024.size a := fun v1409 k0_hw130 => k0_hw130

def k0_off281 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1415 : Index := Scalar.indexCast v1331
  let c10_934 : Index := 10#32
  ![v1415.toNat, 10]
def k0_off282 (v1416 : BitVec 32) : Fin 2 → Nat :=
  let v1418 : Index := Scalar.indexCast v1416
  let c0_937 : Index := 0#32
  ![v1418.toNat, 0]

def k0_chk131 (v1416 : BitVec 32) : Prop :=
  (∀ a, (k0_off282 v1416) a + S1x1024.size a ≤ S1032x1024.size a)
theorem k0_off282_inb : ∀ (v1416 : BitVec 32) (k0_hw131 : k0_chk131 v1416), ∀ a, (k0_off282 v1416) a + S1x1024.size a ≤ S1032x1024.size a := fun v1416 k0_hw131 => k0_hw131

def k0_off283 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1422 : Index := Scalar.indexCast v1331
  let c11_938 : Index := 11#32
  ![v1422.toNat, 11]
def k0_off284 (v1423 : BitVec 32) : Fin 2 → Nat :=
  let v1425 : Index := Scalar.indexCast v1423
  let c0_941 : Index := 0#32
  ![v1425.toNat, 0]

def k0_chk132 (v1423 : BitVec 32) : Prop :=
  (∀ a, (k0_off284 v1423) a + S1x1024.size a ≤ S1032x1024.size a)
theorem k0_off284_inb : ∀ (v1423 : BitVec 32) (k0_hw132 : k0_chk132 v1423), ∀ a, (k0_off284 v1423) a + S1x1024.size a ≤ S1032x1024.size a := fun v1423 k0_hw132 => k0_hw132

def k0_off285 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1429 : Index := Scalar.indexCast v1331
  let c12_942 : Index := 12#32
  ![v1429.toNat, 12]
def k0_off286 (v1430 : BitVec 32) : Fin 2 → Nat :=
  let v1432 : Index := Scalar.indexCast v1430
  let c0_945 : Index := 0#32
  ![v1432.toNat, 0]

def k0_chk133 (v1430 : BitVec 32) : Prop :=
  (∀ a, (k0_off286 v1430) a + S1x1024.size a ≤ S1032x1024.size a)
theorem k0_off286_inb : ∀ (v1430 : BitVec 32) (k0_hw133 : k0_chk133 v1430), ∀ a, (k0_off286 v1430) a + S1x1024.size a ≤ S1032x1024.size a := fun v1430 k0_hw133 => k0_hw133

def k0_off287 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1436 : Index := Scalar.indexCast v1331
  let c13_946 : Index := 13#32
  ![v1436.toNat, 13]
def k0_off288 (v1437 : BitVec 32) : Fin 2 → Nat :=
  let v1439 : Index := Scalar.indexCast v1437
  let c0_949 : Index := 0#32
  ![v1439.toNat, 0]

def k0_chk134 (v1437 : BitVec 32) : Prop :=
  (∀ a, (k0_off288 v1437) a + S1x1024.size a ≤ S1032x1024.size a)
theorem k0_off288_inb : ∀ (v1437 : BitVec 32) (k0_hw134 : k0_chk134 v1437), ∀ a, (k0_off288 v1437) a + S1x1024.size a ≤ S1032x1024.size a := fun v1437 k0_hw134 => k0_hw134

def k0_off289 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1443 : Index := Scalar.indexCast v1331
  let c14_950 : Index := 14#32
  ![v1443.toNat, 14]
def k0_off290 (v1444 : BitVec 32) : Fin 2 → Nat :=
  let v1446 : Index := Scalar.indexCast v1444
  let c0_953 : Index := 0#32
  ![v1446.toNat, 0]

def k0_chk135 (v1444 : BitVec 32) : Prop :=
  (∀ a, (k0_off290 v1444) a + S1x1024.size a ≤ S1032x1024.size a)
theorem k0_off290_inb : ∀ (v1444 : BitVec 32) (k0_hw135 : k0_chk135 v1444), ∀ a, (k0_off290 v1444) a + S1x1024.size a ≤ S1032x1024.size a := fun v1444 k0_hw135 => k0_hw135

def k0_off291 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1450 : Index := Scalar.indexCast v1331
  let c15_954 : Index := 15#32
  ![v1450.toNat, 15]
def k0_off292 (v1451 : BitVec 32) : Fin 2 → Nat :=
  let v1453 : Index := Scalar.indexCast v1451
  let c0_957 : Index := 0#32
  ![v1453.toNat, 0]

def k0_chk136 (v1451 : BitVec 32) : Prop :=
  (∀ a, (k0_off292 v1451) a + S1x1024.size a ≤ S1032x1024.size a)
theorem k0_off292_inb : ∀ (v1451 : BitVec 32) (k0_hw136 : k0_chk136 v1451), ∀ a, (k0_off292 v1451) a + S1x1024.size a ≤ S1032x1024.size a := fun v1451 k0_hw136 => k0_hw136

def k0_off293 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1457 : Index := Scalar.indexCast v1331
  let c16_958 : Index := 16#32
  ![v1457.toNat, 16]
def k0_off294 (v1458 : BitVec 32) : Fin 2 → Nat :=
  let v1460 : Index := Scalar.indexCast v1458
  let c0_961 : Index := 0#32
  ![v1460.toNat, 0]

def k0_chk137 (v1458 : BitVec 32) : Prop :=
  (∀ a, (k0_off294 v1458) a + S1x1024.size a ≤ S1032x1024.size a)
theorem k0_off294_inb : ∀ (v1458 : BitVec 32) (k0_hw137 : k0_chk137 v1458), ∀ a, (k0_off294 v1458) a + S1x1024.size a ≤ S1032x1024.size a := fun v1458 k0_hw137 => k0_hw137

def k0_off295 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1464 : Index := Scalar.indexCast v1331
  let c17_962 : Index := 17#32
  ![v1464.toNat, 17]
def k0_off296 (v1465 : BitVec 32) : Fin 2 → Nat :=
  let v1467 : Index := Scalar.indexCast v1465
  let c0_965 : Index := 0#32
  ![v1467.toNat, 0]

def k0_chk138 (v1465 : BitVec 32) : Prop :=
  (∀ a, (k0_off296 v1465) a + S1x1024.size a ≤ S1032x1024.size a)
theorem k0_off296_inb : ∀ (v1465 : BitVec 32) (k0_hw138 : k0_chk138 v1465), ∀ a, (k0_off296 v1465) a + S1x1024.size a ≤ S1032x1024.size a := fun v1465 k0_hw138 => k0_hw138

def k0_off297 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1471 : Index := Scalar.indexCast v1331
  let c18_966 : Index := 18#32
  ![v1471.toNat, 18]
def k0_off298 (v1472 : BitVec 32) : Fin 2 → Nat :=
  let v1474 : Index := Scalar.indexCast v1472
  let c0_969 : Index := 0#32
  ![v1474.toNat, 0]

def k0_chk139 (v1472 : BitVec 32) : Prop :=
  (∀ a, (k0_off298 v1472) a + S1x1024.size a ≤ S1032x1024.size a)
theorem k0_off298_inb : ∀ (v1472 : BitVec 32) (k0_hw139 : k0_chk139 v1472), ∀ a, (k0_off298 v1472) a + S1x1024.size a ≤ S1032x1024.size a := fun v1472 k0_hw139 => k0_hw139

def k0_off299 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1478 : Index := Scalar.indexCast v1331
  let c19_970 : Index := 19#32
  ![v1478.toNat, 19]
def k0_off300 (v1479 : BitVec 32) : Fin 2 → Nat :=
  let v1481 : Index := Scalar.indexCast v1479
  let c0_973 : Index := 0#32
  ![v1481.toNat, 0]

def k0_chk140 (v1479 : BitVec 32) : Prop :=
  (∀ a, (k0_off300 v1479) a + S1x1024.size a ≤ S1032x1024.size a)
theorem k0_off300_inb : ∀ (v1479 : BitVec 32) (k0_hw140 : k0_chk140 v1479), ∀ a, (k0_off300 v1479) a + S1x1024.size a ≤ S1032x1024.size a := fun v1479 k0_hw140 => k0_hw140

def k0_off301 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1485 : Index := Scalar.indexCast v1331
  let c20_974 : Index := 20#32
  ![v1485.toNat, 20]
def k0_off302 (v1486 : BitVec 32) : Fin 2 → Nat :=
  let v1488 : Index := Scalar.indexCast v1486
  let c0_977 : Index := 0#32
  ![v1488.toNat, 0]

def k0_chk141 (v1486 : BitVec 32) : Prop :=
  (∀ a, (k0_off302 v1486) a + S1x1024.size a ≤ S1032x1024.size a)
theorem k0_off302_inb : ∀ (v1486 : BitVec 32) (k0_hw141 : k0_chk141 v1486), ∀ a, (k0_off302 v1486) a + S1x1024.size a ≤ S1032x1024.size a := fun v1486 k0_hw141 => k0_hw141

def k0_off303 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1492 : Index := Scalar.indexCast v1331
  let c21_978 : Index := 21#32
  ![v1492.toNat, 21]
def k0_off304 (v1493 : BitVec 32) : Fin 2 → Nat :=
  let v1495 : Index := Scalar.indexCast v1493
  let c0_981 : Index := 0#32
  ![v1495.toNat, 0]

def k0_chk142 (v1493 : BitVec 32) : Prop :=
  (∀ a, (k0_off304 v1493) a + S1x1024.size a ≤ S1032x1024.size a)
theorem k0_off304_inb : ∀ (v1493 : BitVec 32) (k0_hw142 : k0_chk142 v1493), ∀ a, (k0_off304 v1493) a + S1x1024.size a ≤ S1032x1024.size a := fun v1493 k0_hw142 => k0_hw142

def k0_off305 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1499 : Index := Scalar.indexCast v1331
  let c22_982 : Index := 22#32
  ![v1499.toNat, 22]
def k0_off306 (v1500 : BitVec 32) : Fin 2 → Nat :=
  let v1502 : Index := Scalar.indexCast v1500
  let c0_985 : Index := 0#32
  ![v1502.toNat, 0]

def k0_chk143 (v1500 : BitVec 32) : Prop :=
  (∀ a, (k0_off306 v1500) a + S1x1024.size a ≤ S1032x1024.size a)
theorem k0_off306_inb : ∀ (v1500 : BitVec 32) (k0_hw143 : k0_chk143 v1500), ∀ a, (k0_off306 v1500) a + S1x1024.size a ≤ S1032x1024.size a := fun v1500 k0_hw143 => k0_hw143

def k0_off307 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_881 : BitVec 32 := 4#32
  let v1329 : BitVec 32 := Scalar.subi v2 c4_i32_881
  let c32_i32_882 : BitVec 32 := 32#32
  let v1330 : BitVec 32 := Scalar.addi v1329 c32_i32_882
  let c32_i32_883 : BitVec 32 := 32#32
  let v1331 : BitVec 32 := Scalar.remsi v1330 c32_i32_883
  let v1506 : Index := Scalar.indexCast v1331
  let c23_986 : Index := 23#32
  ![v1506.toNat, 23]
def k0_off308 (v1507 : BitVec 32) : Fin 2 → Nat :=
  let v1509 : Index := Scalar.indexCast v1507
  let c0_989 : Index := 0#32
  ![v1509.toNat, 0]

def k0_chk144 (v1507 : BitVec 32) : Prop :=
  (∀ a, (k0_off308 v1507) a + S1x1024.size a ≤ S1032x1024.size a)
theorem k0_off308_inb : ∀ (v1507 : BitVec 32) (k0_hw144 : k0_chk144 v1507), ∀ a, (k0_off308 v1507) a + S1x1024.size a ≤ S1032x1024.size a := fun v1507 k0_hw144 => k0_hw144

def k0_off309 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  ![v1515.toNat]
def k0_off310 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let c0_i32_995 : BitVec 32 := 0#32
  let c0_i32_996 : BitVec 32 := 0#32
  ![v1515.toNat, 0, 0]
def k0_off311 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1522 : Index := Scalar.indexCast v1515
  let c0_999 : Index := 0#32
  let c0_1000 : Index := 0#32
  ![v1522.toNat, 0, 0]
def k0_off312 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1529 : Index := Scalar.indexCast v1515
  let c0_1003 : Index := 0#32
  ![v1529.toNat, 0]
def k0_off313 (v1530 : BitVec 32) : Fin 2 → Nat :=
  let v1532 : Index := Scalar.indexCast v1530
  let c0_1006 : Index := 0#32
  ![v1532.toNat, 0]

def k0_chk145 (v1530 : BitVec 32) : Prop :=
  (∀ a, (k0_off313 v1530) a + S1x1024.size a ≤ S1032x1024.size a)
theorem k0_off313_inb : ∀ (v1530 : BitVec 32) (k0_hw145 : k0_chk145 v1530), ∀ a, (k0_off313 v1530) a + S1x1024.size a ≤ S1032x1024.size a := fun v1530 k0_hw145 => k0_hw145

def k0_off314 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1536 : Index := Scalar.indexCast v1515
  let c1_1007 : Index := 1#32
  ![v1536.toNat, 1]
def k0_off315 (v1537 : BitVec 32) : Fin 2 → Nat :=
  let v1539 : Index := Scalar.indexCast v1537
  let c0_1010 : Index := 0#32
  ![v1539.toNat, 0]

def k0_chk146 (v1537 : BitVec 32) : Prop :=
  (∀ a, (k0_off315 v1537) a + S1x1024.size a ≤ S1032x1024.size a)
theorem k0_off315_inb : ∀ (v1537 : BitVec 32) (k0_hw146 : k0_chk146 v1537), ∀ a, (k0_off315 v1537) a + S1x1024.size a ≤ S1032x1024.size a := fun v1537 k0_hw146 => k0_hw146

def k0_off316 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1543 : Index := Scalar.indexCast v1515
  let c2_1011 : Index := 2#32
  ![v1543.toNat, 2]
def k0_off317 (v1544 : BitVec 32) : Fin 2 → Nat :=
  let v1546 : Index := Scalar.indexCast v1544
  let c0_1014 : Index := 0#32
  ![v1546.toNat, 0]

def k0_chk147 (v1544 : BitVec 32) : Prop :=
  (∀ a, (k0_off317 v1544) a + S1x1024.size a ≤ S1032x1024.size a)
theorem k0_off317_inb : ∀ (v1544 : BitVec 32) (k0_hw147 : k0_chk147 v1544), ∀ a, (k0_off317 v1544) a + S1x1024.size a ≤ S1032x1024.size a := fun v1544 k0_hw147 => k0_hw147

def k0_off318 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1550 : Index := Scalar.indexCast v1515
  let c3_1015 : Index := 3#32
  ![v1550.toNat, 3]
def k0_off319 (v1551 : BitVec 32) : Fin 2 → Nat :=
  let v1553 : Index := Scalar.indexCast v1551
  let c0_1018 : Index := 0#32
  ![v1553.toNat, 0]

def k0_chk148 (v1551 : BitVec 32) : Prop :=
  (∀ a, (k0_off319 v1551) a + S1x1024.size a ≤ S1032x1024.size a)
theorem k0_off319_inb : ∀ (v1551 : BitVec 32) (k0_hw148 : k0_chk148 v1551), ∀ a, (k0_off319 v1551) a + S1x1024.size a ≤ S1032x1024.size a := fun v1551 k0_hw148 => k0_hw148

def k0_off320 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1557 : Index := Scalar.indexCast v1515
  let c4_1019 : Index := 4#32
  ![v1557.toNat, 4]
def k0_off321 (v1558 : BitVec 32) : Fin 2 → Nat :=
  let v1560 : Index := Scalar.indexCast v1558
  let c0_1022 : Index := 0#32
  ![v1560.toNat, 0]

def k0_chk149 (v1558 : BitVec 32) : Prop :=
  (∀ a, (k0_off321 v1558) a + S1x1024.size a ≤ S1032x1024.size a)
theorem k0_off321_inb : ∀ (v1558 : BitVec 32) (k0_hw149 : k0_chk149 v1558), ∀ a, (k0_off321 v1558) a + S1x1024.size a ≤ S1032x1024.size a := fun v1558 k0_hw149 => k0_hw149

def k0_off322 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1564 : Index := Scalar.indexCast v1515
  let c5_1023 : Index := 5#32
  ![v1564.toNat, 5]
def k0_off323 (v1565 : BitVec 32) : Fin 2 → Nat :=
  let v1567 : Index := Scalar.indexCast v1565
  let c0_1026 : Index := 0#32
  ![v1567.toNat, 0]

def k0_chk150 (v1565 : BitVec 32) : Prop :=
  (∀ a, (k0_off323 v1565) a + S1x1024.size a ≤ S1032x1024.size a)
theorem k0_off323_inb : ∀ (v1565 : BitVec 32) (k0_hw150 : k0_chk150 v1565), ∀ a, (k0_off323 v1565) a + S1x1024.size a ≤ S1032x1024.size a := fun v1565 k0_hw150 => k0_hw150

def k0_off324 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1571 : Index := Scalar.indexCast v1515
  let c6_1027 : Index := 6#32
  ![v1571.toNat, 6]
def k0_off325 (v1572 : BitVec 32) : Fin 2 → Nat :=
  let v1574 : Index := Scalar.indexCast v1572
  let c0_1030 : Index := 0#32
  ![v1574.toNat, 0]

def k0_chk151 (v1572 : BitVec 32) : Prop :=
  (∀ a, (k0_off325 v1572) a + S1x1024.size a ≤ S1032x1024.size a)
theorem k0_off325_inb : ∀ (v1572 : BitVec 32) (k0_hw151 : k0_chk151 v1572), ∀ a, (k0_off325 v1572) a + S1x1024.size a ≤ S1032x1024.size a := fun v1572 k0_hw151 => k0_hw151

def k0_off326 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1578 : Index := Scalar.indexCast v1515
  let c7_1031 : Index := 7#32
  ![v1578.toNat, 7]
def k0_off327 (v1579 : BitVec 32) : Fin 2 → Nat :=
  let v1581 : Index := Scalar.indexCast v1579
  let c0_1034 : Index := 0#32
  ![v1581.toNat, 0]

def k0_chk152 (v1579 : BitVec 32) : Prop :=
  (∀ a, (k0_off327 v1579) a + S1x1024.size a ≤ S1032x1024.size a)
theorem k0_off327_inb : ∀ (v1579 : BitVec 32) (k0_hw152 : k0_chk152 v1579), ∀ a, (k0_off327 v1579) a + S1x1024.size a ≤ S1032x1024.size a := fun v1579 k0_hw152 => k0_hw152

def k0_off328 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1585 : Index := Scalar.indexCast v1515
  let c8_1035 : Index := 8#32
  ![v1585.toNat, 8]
def k0_off329 (v1586 : BitVec 32) : Fin 2 → Nat :=
  let v1588 : Index := Scalar.indexCast v1586
  let c0_1038 : Index := 0#32
  ![v1588.toNat, 0]

def k0_chk153 (v1586 : BitVec 32) : Prop :=
  (∀ a, (k0_off329 v1586) a + S1x1024.size a ≤ S1032x1024.size a)
theorem k0_off329_inb : ∀ (v1586 : BitVec 32) (k0_hw153 : k0_chk153 v1586), ∀ a, (k0_off329 v1586) a + S1x1024.size a ≤ S1032x1024.size a := fun v1586 k0_hw153 => k0_hw153

def k0_off330 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1592 : Index := Scalar.indexCast v1515
  let c9_1039 : Index := 9#32
  ![v1592.toNat, 9]
def k0_off331 (v1593 : BitVec 32) : Fin 2 → Nat :=
  let v1595 : Index := Scalar.indexCast v1593
  let c0_1042 : Index := 0#32
  ![v1595.toNat, 0]

def k0_chk154 (v1593 : BitVec 32) : Prop :=
  (∀ a, (k0_off331 v1593) a + S1x1024.size a ≤ S1032x1024.size a)
theorem k0_off331_inb : ∀ (v1593 : BitVec 32) (k0_hw154 : k0_chk154 v1593), ∀ a, (k0_off331 v1593) a + S1x1024.size a ≤ S1032x1024.size a := fun v1593 k0_hw154 => k0_hw154

def k0_off332 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1599 : Index := Scalar.indexCast v1515
  let c10_1043 : Index := 10#32
  ![v1599.toNat, 10]
def k0_off333 (v1600 : BitVec 32) : Fin 2 → Nat :=
  let v1602 : Index := Scalar.indexCast v1600
  let c0_1046 : Index := 0#32
  ![v1602.toNat, 0]

def k0_chk155 (v1600 : BitVec 32) : Prop :=
  (∀ a, (k0_off333 v1600) a + S1x1024.size a ≤ S1032x1024.size a)
theorem k0_off333_inb : ∀ (v1600 : BitVec 32) (k0_hw155 : k0_chk155 v1600), ∀ a, (k0_off333 v1600) a + S1x1024.size a ≤ S1032x1024.size a := fun v1600 k0_hw155 => k0_hw155

def k0_off334 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1606 : Index := Scalar.indexCast v1515
  let c11_1047 : Index := 11#32
  ![v1606.toNat, 11]
def k0_off335 (v1607 : BitVec 32) : Fin 2 → Nat :=
  let v1609 : Index := Scalar.indexCast v1607
  let c0_1050 : Index := 0#32
  ![v1609.toNat, 0]

def k0_chk156 (v1607 : BitVec 32) : Prop :=
  (∀ a, (k0_off335 v1607) a + S1x1024.size a ≤ S1032x1024.size a)
theorem k0_off335_inb : ∀ (v1607 : BitVec 32) (k0_hw156 : k0_chk156 v1607), ∀ a, (k0_off335 v1607) a + S1x1024.size a ≤ S1032x1024.size a := fun v1607 k0_hw156 => k0_hw156

def k0_off336 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1613 : Index := Scalar.indexCast v1515
  let c12_1051 : Index := 12#32
  ![v1613.toNat, 12]
def k0_off337 (v1614 : BitVec 32) : Fin 2 → Nat :=
  let v1616 : Index := Scalar.indexCast v1614
  let c0_1054 : Index := 0#32
  ![v1616.toNat, 0]

def k0_chk157 (v1614 : BitVec 32) : Prop :=
  (∀ a, (k0_off337 v1614) a + S1x1024.size a ≤ S1032x1024.size a)
theorem k0_off337_inb : ∀ (v1614 : BitVec 32) (k0_hw157 : k0_chk157 v1614), ∀ a, (k0_off337 v1614) a + S1x1024.size a ≤ S1032x1024.size a := fun v1614 k0_hw157 => k0_hw157

def k0_off338 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1620 : Index := Scalar.indexCast v1515
  let c13_1055 : Index := 13#32
  ![v1620.toNat, 13]
def k0_off339 (v1621 : BitVec 32) : Fin 2 → Nat :=
  let v1623 : Index := Scalar.indexCast v1621
  let c0_1058 : Index := 0#32
  ![v1623.toNat, 0]

def k0_chk158 (v1621 : BitVec 32) : Prop :=
  (∀ a, (k0_off339 v1621) a + S1x1024.size a ≤ S1032x1024.size a)
theorem k0_off339_inb : ∀ (v1621 : BitVec 32) (k0_hw158 : k0_chk158 v1621), ∀ a, (k0_off339 v1621) a + S1x1024.size a ≤ S1032x1024.size a := fun v1621 k0_hw158 => k0_hw158

def k0_off340 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1627 : Index := Scalar.indexCast v1515
  let c14_1059 : Index := 14#32
  ![v1627.toNat, 14]
def k0_off341 (v1628 : BitVec 32) : Fin 2 → Nat :=
  let v1630 : Index := Scalar.indexCast v1628
  let c0_1062 : Index := 0#32
  ![v1630.toNat, 0]

def k0_chk159 (v1628 : BitVec 32) : Prop :=
  (∀ a, (k0_off341 v1628) a + S1x1024.size a ≤ S1032x1024.size a)
theorem k0_off341_inb : ∀ (v1628 : BitVec 32) (k0_hw159 : k0_chk159 v1628), ∀ a, (k0_off341 v1628) a + S1x1024.size a ≤ S1032x1024.size a := fun v1628 k0_hw159 => k0_hw159

def k0_off342 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1634 : Index := Scalar.indexCast v1515
  let c15_1063 : Index := 15#32
  ![v1634.toNat, 15]
def k0_off343 (v1635 : BitVec 32) : Fin 2 → Nat :=
  let v1637 : Index := Scalar.indexCast v1635
  let c0_1066 : Index := 0#32
  ![v1637.toNat, 0]

def k0_chk160 (v1635 : BitVec 32) : Prop :=
  (∀ a, (k0_off343 v1635) a + S1x1024.size a ≤ S1032x1024.size a)
theorem k0_off343_inb : ∀ (v1635 : BitVec 32) (k0_hw160 : k0_chk160 v1635), ∀ a, (k0_off343 v1635) a + S1x1024.size a ≤ S1032x1024.size a := fun v1635 k0_hw160 => k0_hw160

def k0_off344 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1641 : Index := Scalar.indexCast v1515
  let c16_1067 : Index := 16#32
  ![v1641.toNat, 16]
def k0_off345 (v1642 : BitVec 32) : Fin 2 → Nat :=
  let v1644 : Index := Scalar.indexCast v1642
  let c0_1070 : Index := 0#32
  ![v1644.toNat, 0]

def k0_chk161 (v1642 : BitVec 32) : Prop :=
  (∀ a, (k0_off345 v1642) a + S1x1024.size a ≤ S1032x1024.size a)
theorem k0_off345_inb : ∀ (v1642 : BitVec 32) (k0_hw161 : k0_chk161 v1642), ∀ a, (k0_off345 v1642) a + S1x1024.size a ≤ S1032x1024.size a := fun v1642 k0_hw161 => k0_hw161

def k0_off346 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1648 : Index := Scalar.indexCast v1515
  let c17_1071 : Index := 17#32
  ![v1648.toNat, 17]
def k0_off347 (v1649 : BitVec 32) : Fin 2 → Nat :=
  let v1651 : Index := Scalar.indexCast v1649
  let c0_1074 : Index := 0#32
  ![v1651.toNat, 0]

def k0_chk162 (v1649 : BitVec 32) : Prop :=
  (∀ a, (k0_off347 v1649) a + S1x1024.size a ≤ S1032x1024.size a)
theorem k0_off347_inb : ∀ (v1649 : BitVec 32) (k0_hw162 : k0_chk162 v1649), ∀ a, (k0_off347 v1649) a + S1x1024.size a ≤ S1032x1024.size a := fun v1649 k0_hw162 => k0_hw162

def k0_off348 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1655 : Index := Scalar.indexCast v1515
  let c18_1075 : Index := 18#32
  ![v1655.toNat, 18]
def k0_off349 (v1656 : BitVec 32) : Fin 2 → Nat :=
  let v1658 : Index := Scalar.indexCast v1656
  let c0_1078 : Index := 0#32
  ![v1658.toNat, 0]

def k0_chk163 (v1656 : BitVec 32) : Prop :=
  (∀ a, (k0_off349 v1656) a + S1x1024.size a ≤ S1032x1024.size a)
theorem k0_off349_inb : ∀ (v1656 : BitVec 32) (k0_hw163 : k0_chk163 v1656), ∀ a, (k0_off349 v1656) a + S1x1024.size a ≤ S1032x1024.size a := fun v1656 k0_hw163 => k0_hw163

def k0_off350 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1662 : Index := Scalar.indexCast v1515
  let c19_1079 : Index := 19#32
  ![v1662.toNat, 19]
def k0_off351 (v1663 : BitVec 32) : Fin 2 → Nat :=
  let v1665 : Index := Scalar.indexCast v1663
  let c0_1082 : Index := 0#32
  ![v1665.toNat, 0]

def k0_chk164 (v1663 : BitVec 32) : Prop :=
  (∀ a, (k0_off351 v1663) a + S1x1024.size a ≤ S1032x1024.size a)
theorem k0_off351_inb : ∀ (v1663 : BitVec 32) (k0_hw164 : k0_chk164 v1663), ∀ a, (k0_off351 v1663) a + S1x1024.size a ≤ S1032x1024.size a := fun v1663 k0_hw164 => k0_hw164

def k0_off352 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1669 : Index := Scalar.indexCast v1515
  let c20_1083 : Index := 20#32
  ![v1669.toNat, 20]
def k0_off353 (v1670 : BitVec 32) : Fin 2 → Nat :=
  let v1672 : Index := Scalar.indexCast v1670
  let c0_1086 : Index := 0#32
  ![v1672.toNat, 0]

def k0_chk165 (v1670 : BitVec 32) : Prop :=
  (∀ a, (k0_off353 v1670) a + S1x1024.size a ≤ S1032x1024.size a)
theorem k0_off353_inb : ∀ (v1670 : BitVec 32) (k0_hw165 : k0_chk165 v1670), ∀ a, (k0_off353 v1670) a + S1x1024.size a ≤ S1032x1024.size a := fun v1670 k0_hw165 => k0_hw165

def k0_off354 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1676 : Index := Scalar.indexCast v1515
  let c21_1087 : Index := 21#32
  ![v1676.toNat, 21]
def k0_off355 (v1677 : BitVec 32) : Fin 2 → Nat :=
  let v1679 : Index := Scalar.indexCast v1677
  let c0_1090 : Index := 0#32
  ![v1679.toNat, 0]

def k0_chk166 (v1677 : BitVec 32) : Prop :=
  (∀ a, (k0_off355 v1677) a + S1x1024.size a ≤ S1032x1024.size a)
theorem k0_off355_inb : ∀ (v1677 : BitVec 32) (k0_hw166 : k0_chk166 v1677), ∀ a, (k0_off355 v1677) a + S1x1024.size a ≤ S1032x1024.size a := fun v1677 k0_hw166 => k0_hw166

def k0_off356 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1683 : Index := Scalar.indexCast v1515
  let c22_1091 : Index := 22#32
  ![v1683.toNat, 22]
def k0_off357 (v1684 : BitVec 32) : Fin 2 → Nat :=
  let v1686 : Index := Scalar.indexCast v1684
  let c0_1094 : Index := 0#32
  ![v1686.toNat, 0]

def k0_chk167 (v1684 : BitVec 32) : Prop :=
  (∀ a, (k0_off357 v1684) a + S1x1024.size a ≤ S1032x1024.size a)
theorem k0_off357_inb : ∀ (v1684 : BitVec 32) (k0_hw167 : k0_chk167 v1684), ∀ a, (k0_off357 v1684) a + S1x1024.size a ≤ S1032x1024.size a := fun v1684 k0_hw167 => k0_hw167

def k0_off358 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_990 : BitVec 32 := 5#32
  let v1513 : BitVec 32 := Scalar.subi v2 c5_i32_990
  let c32_i32_991 : BitVec 32 := 32#32
  let v1514 : BitVec 32 := Scalar.addi v1513 c32_i32_991
  let c32_i32_992 : BitVec 32 := 32#32
  let v1515 : BitVec 32 := Scalar.remsi v1514 c32_i32_992
  let v1690 : Index := Scalar.indexCast v1515
  let c23_1095 : Index := 23#32
  ![v1690.toNat, 23]
def k0_off359 (v1691 : BitVec 32) : Fin 2 → Nat :=
  let v1693 : Index := Scalar.indexCast v1691
  let c0_1098 : Index := 0#32
  ![v1693.toNat, 0]

def k0_chk168 (v1691 : BitVec 32) : Prop :=
  (∀ a, (k0_off359 v1691) a + S1x1024.size a ≤ S1032x1024.size a)
theorem k0_off359_inb : ∀ (v1691 : BitVec 32) (k0_hw168 : k0_chk168 v1691), ∀ a, (k0_off359 v1691) a + S1x1024.size a ≤ S1032x1024.size a := fun v1691 k0_hw168 => k0_hw168

def k0_off360 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  ![v1699.toNat]
def k0_off361 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let c0_i32_1104 : BitVec 32 := 0#32
  let c0_i32_1105 : BitVec 32 := 0#32
  ![v1699.toNat, 0, 0]
def k0_off362 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1706 : Index := Scalar.indexCast v1699
  let c0_1108 : Index := 0#32
  let c0_1109 : Index := 0#32
  ![v1706.toNat, 0, 0]
def k0_off363 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1713 : Index := Scalar.indexCast v1699
  let c0_1112 : Index := 0#32
  ![v1713.toNat, 0]
def k0_off364 (v1714 : BitVec 32) : Fin 2 → Nat :=
  let v1716 : Index := Scalar.indexCast v1714
  let c0_1115 : Index := 0#32
  ![v1716.toNat, 0]

def k0_chk169 (v1714 : BitVec 32) : Prop :=
  (∀ a, (k0_off364 v1714) a + S1x1024.size a ≤ S1032x1024.size a)
theorem k0_off364_inb : ∀ (v1714 : BitVec 32) (k0_hw169 : k0_chk169 v1714), ∀ a, (k0_off364 v1714) a + S1x1024.size a ≤ S1032x1024.size a := fun v1714 k0_hw169 => k0_hw169

def k0_off365 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1720 : Index := Scalar.indexCast v1699
  let c1_1116 : Index := 1#32
  ![v1720.toNat, 1]
def k0_off366 (v1721 : BitVec 32) : Fin 2 → Nat :=
  let v1723 : Index := Scalar.indexCast v1721
  let c0_1119 : Index := 0#32
  ![v1723.toNat, 0]

def k0_chk170 (v1721 : BitVec 32) : Prop :=
  (∀ a, (k0_off366 v1721) a + S1x1024.size a ≤ S1032x1024.size a)
theorem k0_off366_inb : ∀ (v1721 : BitVec 32) (k0_hw170 : k0_chk170 v1721), ∀ a, (k0_off366 v1721) a + S1x1024.size a ≤ S1032x1024.size a := fun v1721 k0_hw170 => k0_hw170

def k0_off367 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1727 : Index := Scalar.indexCast v1699
  let c2_1120 : Index := 2#32
  ![v1727.toNat, 2]
def k0_off368 (v1728 : BitVec 32) : Fin 2 → Nat :=
  let v1730 : Index := Scalar.indexCast v1728
  let c0_1123 : Index := 0#32
  ![v1730.toNat, 0]

def k0_chk171 (v1728 : BitVec 32) : Prop :=
  (∀ a, (k0_off368 v1728) a + S1x1024.size a ≤ S1032x1024.size a)
theorem k0_off368_inb : ∀ (v1728 : BitVec 32) (k0_hw171 : k0_chk171 v1728), ∀ a, (k0_off368 v1728) a + S1x1024.size a ≤ S1032x1024.size a := fun v1728 k0_hw171 => k0_hw171

def k0_off369 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1734 : Index := Scalar.indexCast v1699
  let c3_1124 : Index := 3#32
  ![v1734.toNat, 3]
def k0_off370 (v1735 : BitVec 32) : Fin 2 → Nat :=
  let v1737 : Index := Scalar.indexCast v1735
  let c0_1127 : Index := 0#32
  ![v1737.toNat, 0]

def k0_chk172 (v1735 : BitVec 32) : Prop :=
  (∀ a, (k0_off370 v1735) a + S1x1024.size a ≤ S1032x1024.size a)
theorem k0_off370_inb : ∀ (v1735 : BitVec 32) (k0_hw172 : k0_chk172 v1735), ∀ a, (k0_off370 v1735) a + S1x1024.size a ≤ S1032x1024.size a := fun v1735 k0_hw172 => k0_hw172

def k0_off371 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1741 : Index := Scalar.indexCast v1699
  let c4_1128 : Index := 4#32
  ![v1741.toNat, 4]
def k0_off372 (v1742 : BitVec 32) : Fin 2 → Nat :=
  let v1744 : Index := Scalar.indexCast v1742
  let c0_1131 : Index := 0#32
  ![v1744.toNat, 0]

def k0_chk173 (v1742 : BitVec 32) : Prop :=
  (∀ a, (k0_off372 v1742) a + S1x1024.size a ≤ S1032x1024.size a)
theorem k0_off372_inb : ∀ (v1742 : BitVec 32) (k0_hw173 : k0_chk173 v1742), ∀ a, (k0_off372 v1742) a + S1x1024.size a ≤ S1032x1024.size a := fun v1742 k0_hw173 => k0_hw173

def k0_off373 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1748 : Index := Scalar.indexCast v1699
  let c5_1132 : Index := 5#32
  ![v1748.toNat, 5]
def k0_off374 (v1749 : BitVec 32) : Fin 2 → Nat :=
  let v1751 : Index := Scalar.indexCast v1749
  let c0_1135 : Index := 0#32
  ![v1751.toNat, 0]

def k0_chk174 (v1749 : BitVec 32) : Prop :=
  (∀ a, (k0_off374 v1749) a + S1x1024.size a ≤ S1032x1024.size a)
theorem k0_off374_inb : ∀ (v1749 : BitVec 32) (k0_hw174 : k0_chk174 v1749), ∀ a, (k0_off374 v1749) a + S1x1024.size a ≤ S1032x1024.size a := fun v1749 k0_hw174 => k0_hw174

def k0_off375 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1755 : Index := Scalar.indexCast v1699
  let c6_1136 : Index := 6#32
  ![v1755.toNat, 6]
def k0_off376 (v1756 : BitVec 32) : Fin 2 → Nat :=
  let v1758 : Index := Scalar.indexCast v1756
  let c0_1139 : Index := 0#32
  ![v1758.toNat, 0]

def k0_chk175 (v1756 : BitVec 32) : Prop :=
  (∀ a, (k0_off376 v1756) a + S1x1024.size a ≤ S1032x1024.size a)
theorem k0_off376_inb : ∀ (v1756 : BitVec 32) (k0_hw175 : k0_chk175 v1756), ∀ a, (k0_off376 v1756) a + S1x1024.size a ≤ S1032x1024.size a := fun v1756 k0_hw175 => k0_hw175

def k0_off377 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1762 : Index := Scalar.indexCast v1699
  let c7_1140 : Index := 7#32
  ![v1762.toNat, 7]
def k0_off378 (v1763 : BitVec 32) : Fin 2 → Nat :=
  let v1765 : Index := Scalar.indexCast v1763
  let c0_1143 : Index := 0#32
  ![v1765.toNat, 0]

def k0_chk176 (v1763 : BitVec 32) : Prop :=
  (∀ a, (k0_off378 v1763) a + S1x1024.size a ≤ S1032x1024.size a)
theorem k0_off378_inb : ∀ (v1763 : BitVec 32) (k0_hw176 : k0_chk176 v1763), ∀ a, (k0_off378 v1763) a + S1x1024.size a ≤ S1032x1024.size a := fun v1763 k0_hw176 => k0_hw176

def k0_off379 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1769 : Index := Scalar.indexCast v1699
  let c8_1144 : Index := 8#32
  ![v1769.toNat, 8]
def k0_off380 (v1770 : BitVec 32) : Fin 2 → Nat :=
  let v1772 : Index := Scalar.indexCast v1770
  let c0_1147 : Index := 0#32
  ![v1772.toNat, 0]

def k0_chk177 (v1770 : BitVec 32) : Prop :=
  (∀ a, (k0_off380 v1770) a + S1x1024.size a ≤ S1032x1024.size a)
theorem k0_off380_inb : ∀ (v1770 : BitVec 32) (k0_hw177 : k0_chk177 v1770), ∀ a, (k0_off380 v1770) a + S1x1024.size a ≤ S1032x1024.size a := fun v1770 k0_hw177 => k0_hw177

def k0_off381 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1776 : Index := Scalar.indexCast v1699
  let c9_1148 : Index := 9#32
  ![v1776.toNat, 9]
def k0_off382 (v1777 : BitVec 32) : Fin 2 → Nat :=
  let v1779 : Index := Scalar.indexCast v1777
  let c0_1151 : Index := 0#32
  ![v1779.toNat, 0]

def k0_chk178 (v1777 : BitVec 32) : Prop :=
  (∀ a, (k0_off382 v1777) a + S1x1024.size a ≤ S1032x1024.size a)
theorem k0_off382_inb : ∀ (v1777 : BitVec 32) (k0_hw178 : k0_chk178 v1777), ∀ a, (k0_off382 v1777) a + S1x1024.size a ≤ S1032x1024.size a := fun v1777 k0_hw178 => k0_hw178

def k0_off383 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1783 : Index := Scalar.indexCast v1699
  let c10_1152 : Index := 10#32
  ![v1783.toNat, 10]
def k0_off384 (v1784 : BitVec 32) : Fin 2 → Nat :=
  let v1786 : Index := Scalar.indexCast v1784
  let c0_1155 : Index := 0#32
  ![v1786.toNat, 0]

def k0_chk179 (v1784 : BitVec 32) : Prop :=
  (∀ a, (k0_off384 v1784) a + S1x1024.size a ≤ S1032x1024.size a)
theorem k0_off384_inb : ∀ (v1784 : BitVec 32) (k0_hw179 : k0_chk179 v1784), ∀ a, (k0_off384 v1784) a + S1x1024.size a ≤ S1032x1024.size a := fun v1784 k0_hw179 => k0_hw179

def k0_off385 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1790 : Index := Scalar.indexCast v1699
  let c11_1156 : Index := 11#32
  ![v1790.toNat, 11]
def k0_off386 (v1791 : BitVec 32) : Fin 2 → Nat :=
  let v1793 : Index := Scalar.indexCast v1791
  let c0_1159 : Index := 0#32
  ![v1793.toNat, 0]

def k0_chk180 (v1791 : BitVec 32) : Prop :=
  (∀ a, (k0_off386 v1791) a + S1x1024.size a ≤ S1032x1024.size a)
theorem k0_off386_inb : ∀ (v1791 : BitVec 32) (k0_hw180 : k0_chk180 v1791), ∀ a, (k0_off386 v1791) a + S1x1024.size a ≤ S1032x1024.size a := fun v1791 k0_hw180 => k0_hw180

def k0_off387 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1797 : Index := Scalar.indexCast v1699
  let c12_1160 : Index := 12#32
  ![v1797.toNat, 12]
def k0_off388 (v1798 : BitVec 32) : Fin 2 → Nat :=
  let v1800 : Index := Scalar.indexCast v1798
  let c0_1163 : Index := 0#32
  ![v1800.toNat, 0]

def k0_chk181 (v1798 : BitVec 32) : Prop :=
  (∀ a, (k0_off388 v1798) a + S1x1024.size a ≤ S1032x1024.size a)
theorem k0_off388_inb : ∀ (v1798 : BitVec 32) (k0_hw181 : k0_chk181 v1798), ∀ a, (k0_off388 v1798) a + S1x1024.size a ≤ S1032x1024.size a := fun v1798 k0_hw181 => k0_hw181

def k0_off389 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1804 : Index := Scalar.indexCast v1699
  let c13_1164 : Index := 13#32
  ![v1804.toNat, 13]
def k0_off390 (v1805 : BitVec 32) : Fin 2 → Nat :=
  let v1807 : Index := Scalar.indexCast v1805
  let c0_1167 : Index := 0#32
  ![v1807.toNat, 0]

def k0_chk182 (v1805 : BitVec 32) : Prop :=
  (∀ a, (k0_off390 v1805) a + S1x1024.size a ≤ S1032x1024.size a)
theorem k0_off390_inb : ∀ (v1805 : BitVec 32) (k0_hw182 : k0_chk182 v1805), ∀ a, (k0_off390 v1805) a + S1x1024.size a ≤ S1032x1024.size a := fun v1805 k0_hw182 => k0_hw182

def k0_off391 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1811 : Index := Scalar.indexCast v1699
  let c14_1168 : Index := 14#32
  ![v1811.toNat, 14]
def k0_off392 (v1812 : BitVec 32) : Fin 2 → Nat :=
  let v1814 : Index := Scalar.indexCast v1812
  let c0_1171 : Index := 0#32
  ![v1814.toNat, 0]

def k0_chk183 (v1812 : BitVec 32) : Prop :=
  (∀ a, (k0_off392 v1812) a + S1x1024.size a ≤ S1032x1024.size a)
theorem k0_off392_inb : ∀ (v1812 : BitVec 32) (k0_hw183 : k0_chk183 v1812), ∀ a, (k0_off392 v1812) a + S1x1024.size a ≤ S1032x1024.size a := fun v1812 k0_hw183 => k0_hw183

def k0_off393 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1818 : Index := Scalar.indexCast v1699
  let c15_1172 : Index := 15#32
  ![v1818.toNat, 15]
def k0_off394 (v1819 : BitVec 32) : Fin 2 → Nat :=
  let v1821 : Index := Scalar.indexCast v1819
  let c0_1175 : Index := 0#32
  ![v1821.toNat, 0]

def k0_chk184 (v1819 : BitVec 32) : Prop :=
  (∀ a, (k0_off394 v1819) a + S1x1024.size a ≤ S1032x1024.size a)
theorem k0_off394_inb : ∀ (v1819 : BitVec 32) (k0_hw184 : k0_chk184 v1819), ∀ a, (k0_off394 v1819) a + S1x1024.size a ≤ S1032x1024.size a := fun v1819 k0_hw184 => k0_hw184

def k0_off395 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1825 : Index := Scalar.indexCast v1699
  let c16_1176 : Index := 16#32
  ![v1825.toNat, 16]
def k0_off396 (v1826 : BitVec 32) : Fin 2 → Nat :=
  let v1828 : Index := Scalar.indexCast v1826
  let c0_1179 : Index := 0#32
  ![v1828.toNat, 0]

def k0_chk185 (v1826 : BitVec 32) : Prop :=
  (∀ a, (k0_off396 v1826) a + S1x1024.size a ≤ S1032x1024.size a)
theorem k0_off396_inb : ∀ (v1826 : BitVec 32) (k0_hw185 : k0_chk185 v1826), ∀ a, (k0_off396 v1826) a + S1x1024.size a ≤ S1032x1024.size a := fun v1826 k0_hw185 => k0_hw185

def k0_off397 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1832 : Index := Scalar.indexCast v1699
  let c17_1180 : Index := 17#32
  ![v1832.toNat, 17]
def k0_off398 (v1833 : BitVec 32) : Fin 2 → Nat :=
  let v1835 : Index := Scalar.indexCast v1833
  let c0_1183 : Index := 0#32
  ![v1835.toNat, 0]

def k0_chk186 (v1833 : BitVec 32) : Prop :=
  (∀ a, (k0_off398 v1833) a + S1x1024.size a ≤ S1032x1024.size a)
theorem k0_off398_inb : ∀ (v1833 : BitVec 32) (k0_hw186 : k0_chk186 v1833), ∀ a, (k0_off398 v1833) a + S1x1024.size a ≤ S1032x1024.size a := fun v1833 k0_hw186 => k0_hw186

def k0_off399 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1839 : Index := Scalar.indexCast v1699
  let c18_1184 : Index := 18#32
  ![v1839.toNat, 18]
def k0_off400 (v1840 : BitVec 32) : Fin 2 → Nat :=
  let v1842 : Index := Scalar.indexCast v1840
  let c0_1187 : Index := 0#32
  ![v1842.toNat, 0]

def k0_chk187 (v1840 : BitVec 32) : Prop :=
  (∀ a, (k0_off400 v1840) a + S1x1024.size a ≤ S1032x1024.size a)
theorem k0_off400_inb : ∀ (v1840 : BitVec 32) (k0_hw187 : k0_chk187 v1840), ∀ a, (k0_off400 v1840) a + S1x1024.size a ≤ S1032x1024.size a := fun v1840 k0_hw187 => k0_hw187

def k0_off401 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1846 : Index := Scalar.indexCast v1699
  let c19_1188 : Index := 19#32
  ![v1846.toNat, 19]
def k0_off402 (v1847 : BitVec 32) : Fin 2 → Nat :=
  let v1849 : Index := Scalar.indexCast v1847
  let c0_1191 : Index := 0#32
  ![v1849.toNat, 0]

def k0_chk188 (v1847 : BitVec 32) : Prop :=
  (∀ a, (k0_off402 v1847) a + S1x1024.size a ≤ S1032x1024.size a)
theorem k0_off402_inb : ∀ (v1847 : BitVec 32) (k0_hw188 : k0_chk188 v1847), ∀ a, (k0_off402 v1847) a + S1x1024.size a ≤ S1032x1024.size a := fun v1847 k0_hw188 => k0_hw188

def k0_off403 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1853 : Index := Scalar.indexCast v1699
  let c20_1192 : Index := 20#32
  ![v1853.toNat, 20]
def k0_off404 (v1854 : BitVec 32) : Fin 2 → Nat :=
  let v1856 : Index := Scalar.indexCast v1854
  let c0_1195 : Index := 0#32
  ![v1856.toNat, 0]

def k0_chk189 (v1854 : BitVec 32) : Prop :=
  (∀ a, (k0_off404 v1854) a + S1x1024.size a ≤ S1032x1024.size a)
theorem k0_off404_inb : ∀ (v1854 : BitVec 32) (k0_hw189 : k0_chk189 v1854), ∀ a, (k0_off404 v1854) a + S1x1024.size a ≤ S1032x1024.size a := fun v1854 k0_hw189 => k0_hw189

def k0_off405 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1860 : Index := Scalar.indexCast v1699
  let c21_1196 : Index := 21#32
  ![v1860.toNat, 21]
def k0_off406 (v1861 : BitVec 32) : Fin 2 → Nat :=
  let v1863 : Index := Scalar.indexCast v1861
  let c0_1199 : Index := 0#32
  ![v1863.toNat, 0]

def k0_chk190 (v1861 : BitVec 32) : Prop :=
  (∀ a, (k0_off406 v1861) a + S1x1024.size a ≤ S1032x1024.size a)
theorem k0_off406_inb : ∀ (v1861 : BitVec 32) (k0_hw190 : k0_chk190 v1861), ∀ a, (k0_off406 v1861) a + S1x1024.size a ≤ S1032x1024.size a := fun v1861 k0_hw190 => k0_hw190

def k0_off407 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1867 : Index := Scalar.indexCast v1699
  let c22_1200 : Index := 22#32
  ![v1867.toNat, 22]
def k0_off408 (v1868 : BitVec 32) : Fin 2 → Nat :=
  let v1870 : Index := Scalar.indexCast v1868
  let c0_1203 : Index := 0#32
  ![v1870.toNat, 0]

def k0_chk191 (v1868 : BitVec 32) : Prop :=
  (∀ a, (k0_off408 v1868) a + S1x1024.size a ≤ S1032x1024.size a)
theorem k0_off408_inb : ∀ (v1868 : BitVec 32) (k0_hw191 : k0_chk191 v1868), ∀ a, (k0_off408 v1868) a + S1x1024.size a ≤ S1032x1024.size a := fun v1868 k0_hw191 => k0_hw191

def k0_off409 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1099 : BitVec 32 := 6#32
  let v1697 : BitVec 32 := Scalar.subi v2 c6_i32_1099
  let c32_i32_1100 : BitVec 32 := 32#32
  let v1698 : BitVec 32 := Scalar.addi v1697 c32_i32_1100
  let c32_i32_1101 : BitVec 32 := 32#32
  let v1699 : BitVec 32 := Scalar.remsi v1698 c32_i32_1101
  let v1874 : Index := Scalar.indexCast v1699
  let c23_1204 : Index := 23#32
  ![v1874.toNat, 23]
def k0_off410 (v1875 : BitVec 32) : Fin 2 → Nat :=
  let v1877 : Index := Scalar.indexCast v1875
  let c0_1207 : Index := 0#32
  ![v1877.toNat, 0]

def k0_chk192 (v1875 : BitVec 32) : Prop :=
  (∀ a, (k0_off410 v1875) a + S1x1024.size a ≤ S1032x1024.size a)
theorem k0_off410_inb : ∀ (v1875 : BitVec 32) (k0_hw192 : k0_chk192 v1875), ∀ a, (k0_off410 v1875) a + S1x1024.size a ≤ S1032x1024.size a := fun v1875 k0_hw192 => k0_hw192

def k0_off411 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  ![v1883.toNat]
def k0_off412 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let c0_i32_1213 : BitVec 32 := 0#32
  let c0_i32_1214 : BitVec 32 := 0#32
  ![v1883.toNat, 0, 0]
def k0_off413 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v1890 : Index := Scalar.indexCast v1883
  let c0_1217 : Index := 0#32
  let c0_1218 : Index := 0#32
  ![v1890.toNat, 0, 0]
def k0_off414 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v1897 : Index := Scalar.indexCast v1883
  let c0_1221 : Index := 0#32
  ![v1897.toNat, 0]
def k0_off415 (v1898 : BitVec 32) : Fin 2 → Nat :=
  let v1900 : Index := Scalar.indexCast v1898
  let c0_1224 : Index := 0#32
  ![v1900.toNat, 0]

def k0_chk193 (v1898 : BitVec 32) : Prop :=
  (∀ a, (k0_off415 v1898) a + S1x1024.size a ≤ S1032x1024.size a)
theorem k0_off415_inb : ∀ (v1898 : BitVec 32) (k0_hw193 : k0_chk193 v1898), ∀ a, (k0_off415 v1898) a + S1x1024.size a ≤ S1032x1024.size a := fun v1898 k0_hw193 => k0_hw193

def k0_off416 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v1904 : Index := Scalar.indexCast v1883
  let c1_1225 : Index := 1#32
  ![v1904.toNat, 1]
def k0_off417 (v1905 : BitVec 32) : Fin 2 → Nat :=
  let v1907 : Index := Scalar.indexCast v1905
  let c0_1228 : Index := 0#32
  ![v1907.toNat, 0]

def k0_chk194 (v1905 : BitVec 32) : Prop :=
  (∀ a, (k0_off417 v1905) a + S1x1024.size a ≤ S1032x1024.size a)
theorem k0_off417_inb : ∀ (v1905 : BitVec 32) (k0_hw194 : k0_chk194 v1905), ∀ a, (k0_off417 v1905) a + S1x1024.size a ≤ S1032x1024.size a := fun v1905 k0_hw194 => k0_hw194

def k0_off418 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v1911 : Index := Scalar.indexCast v1883
  let c2_1229 : Index := 2#32
  ![v1911.toNat, 2]
def k0_off419 (v1912 : BitVec 32) : Fin 2 → Nat :=
  let v1914 : Index := Scalar.indexCast v1912
  let c0_1232 : Index := 0#32
  ![v1914.toNat, 0]

def k0_chk195 (v1912 : BitVec 32) : Prop :=
  (∀ a, (k0_off419 v1912) a + S1x1024.size a ≤ S1032x1024.size a)
theorem k0_off419_inb : ∀ (v1912 : BitVec 32) (k0_hw195 : k0_chk195 v1912), ∀ a, (k0_off419 v1912) a + S1x1024.size a ≤ S1032x1024.size a := fun v1912 k0_hw195 => k0_hw195

def k0_off420 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v1918 : Index := Scalar.indexCast v1883
  let c3_1233 : Index := 3#32
  ![v1918.toNat, 3]
def k0_off421 (v1919 : BitVec 32) : Fin 2 → Nat :=
  let v1921 : Index := Scalar.indexCast v1919
  let c0_1236 : Index := 0#32
  ![v1921.toNat, 0]

def k0_chk196 (v1919 : BitVec 32) : Prop :=
  (∀ a, (k0_off421 v1919) a + S1x1024.size a ≤ S1032x1024.size a)
theorem k0_off421_inb : ∀ (v1919 : BitVec 32) (k0_hw196 : k0_chk196 v1919), ∀ a, (k0_off421 v1919) a + S1x1024.size a ≤ S1032x1024.size a := fun v1919 k0_hw196 => k0_hw196

def k0_off422 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v1925 : Index := Scalar.indexCast v1883
  let c4_1237 : Index := 4#32
  ![v1925.toNat, 4]
def k0_off423 (v1926 : BitVec 32) : Fin 2 → Nat :=
  let v1928 : Index := Scalar.indexCast v1926
  let c0_1240 : Index := 0#32
  ![v1928.toNat, 0]

def k0_chk197 (v1926 : BitVec 32) : Prop :=
  (∀ a, (k0_off423 v1926) a + S1x1024.size a ≤ S1032x1024.size a)
theorem k0_off423_inb : ∀ (v1926 : BitVec 32) (k0_hw197 : k0_chk197 v1926), ∀ a, (k0_off423 v1926) a + S1x1024.size a ≤ S1032x1024.size a := fun v1926 k0_hw197 => k0_hw197

def k0_off424 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v1932 : Index := Scalar.indexCast v1883
  let c5_1241 : Index := 5#32
  ![v1932.toNat, 5]
def k0_off425 (v1933 : BitVec 32) : Fin 2 → Nat :=
  let v1935 : Index := Scalar.indexCast v1933
  let c0_1244 : Index := 0#32
  ![v1935.toNat, 0]

def k0_chk198 (v1933 : BitVec 32) : Prop :=
  (∀ a, (k0_off425 v1933) a + S1x1024.size a ≤ S1032x1024.size a)
theorem k0_off425_inb : ∀ (v1933 : BitVec 32) (k0_hw198 : k0_chk198 v1933), ∀ a, (k0_off425 v1933) a + S1x1024.size a ≤ S1032x1024.size a := fun v1933 k0_hw198 => k0_hw198

def k0_off426 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v1939 : Index := Scalar.indexCast v1883
  let c6_1245 : Index := 6#32
  ![v1939.toNat, 6]
def k0_off427 (v1940 : BitVec 32) : Fin 2 → Nat :=
  let v1942 : Index := Scalar.indexCast v1940
  let c0_1248 : Index := 0#32
  ![v1942.toNat, 0]

def k0_chk199 (v1940 : BitVec 32) : Prop :=
  (∀ a, (k0_off427 v1940) a + S1x1024.size a ≤ S1032x1024.size a)
theorem k0_off427_inb : ∀ (v1940 : BitVec 32) (k0_hw199 : k0_chk199 v1940), ∀ a, (k0_off427 v1940) a + S1x1024.size a ≤ S1032x1024.size a := fun v1940 k0_hw199 => k0_hw199

def k0_off428 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v1946 : Index := Scalar.indexCast v1883
  let c7_1249 : Index := 7#32
  ![v1946.toNat, 7]
def k0_off429 (v1947 : BitVec 32) : Fin 2 → Nat :=
  let v1949 : Index := Scalar.indexCast v1947
  let c0_1252 : Index := 0#32
  ![v1949.toNat, 0]

def k0_chk200 (v1947 : BitVec 32) : Prop :=
  (∀ a, (k0_off429 v1947) a + S1x1024.size a ≤ S1032x1024.size a)
theorem k0_off429_inb : ∀ (v1947 : BitVec 32) (k0_hw200 : k0_chk200 v1947), ∀ a, (k0_off429 v1947) a + S1x1024.size a ≤ S1032x1024.size a := fun v1947 k0_hw200 => k0_hw200

def k0_off430 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v1953 : Index := Scalar.indexCast v1883
  let c8_1253 : Index := 8#32
  ![v1953.toNat, 8]
def k0_off431 (v1954 : BitVec 32) : Fin 2 → Nat :=
  let v1956 : Index := Scalar.indexCast v1954
  let c0_1256 : Index := 0#32
  ![v1956.toNat, 0]

def k0_chk201 (v1954 : BitVec 32) : Prop :=
  (∀ a, (k0_off431 v1954) a + S1x1024.size a ≤ S1032x1024.size a)
theorem k0_off431_inb : ∀ (v1954 : BitVec 32) (k0_hw201 : k0_chk201 v1954), ∀ a, (k0_off431 v1954) a + S1x1024.size a ≤ S1032x1024.size a := fun v1954 k0_hw201 => k0_hw201

def k0_off432 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v1960 : Index := Scalar.indexCast v1883
  let c9_1257 : Index := 9#32
  ![v1960.toNat, 9]
def k0_off433 (v1961 : BitVec 32) : Fin 2 → Nat :=
  let v1963 : Index := Scalar.indexCast v1961
  let c0_1260 : Index := 0#32
  ![v1963.toNat, 0]

def k0_chk202 (v1961 : BitVec 32) : Prop :=
  (∀ a, (k0_off433 v1961) a + S1x1024.size a ≤ S1032x1024.size a)
theorem k0_off433_inb : ∀ (v1961 : BitVec 32) (k0_hw202 : k0_chk202 v1961), ∀ a, (k0_off433 v1961) a + S1x1024.size a ≤ S1032x1024.size a := fun v1961 k0_hw202 => k0_hw202

def k0_off434 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v1967 : Index := Scalar.indexCast v1883
  let c10_1261 : Index := 10#32
  ![v1967.toNat, 10]
def k0_off435 (v1968 : BitVec 32) : Fin 2 → Nat :=
  let v1970 : Index := Scalar.indexCast v1968
  let c0_1264 : Index := 0#32
  ![v1970.toNat, 0]

def k0_chk203 (v1968 : BitVec 32) : Prop :=
  (∀ a, (k0_off435 v1968) a + S1x1024.size a ≤ S1032x1024.size a)
theorem k0_off435_inb : ∀ (v1968 : BitVec 32) (k0_hw203 : k0_chk203 v1968), ∀ a, (k0_off435 v1968) a + S1x1024.size a ≤ S1032x1024.size a := fun v1968 k0_hw203 => k0_hw203

def k0_off436 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v1974 : Index := Scalar.indexCast v1883
  let c11_1265 : Index := 11#32
  ![v1974.toNat, 11]
def k0_off437 (v1975 : BitVec 32) : Fin 2 → Nat :=
  let v1977 : Index := Scalar.indexCast v1975
  let c0_1268 : Index := 0#32
  ![v1977.toNat, 0]

def k0_chk204 (v1975 : BitVec 32) : Prop :=
  (∀ a, (k0_off437 v1975) a + S1x1024.size a ≤ S1032x1024.size a)
theorem k0_off437_inb : ∀ (v1975 : BitVec 32) (k0_hw204 : k0_chk204 v1975), ∀ a, (k0_off437 v1975) a + S1x1024.size a ≤ S1032x1024.size a := fun v1975 k0_hw204 => k0_hw204

def k0_off438 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v1981 : Index := Scalar.indexCast v1883
  let c12_1269 : Index := 12#32
  ![v1981.toNat, 12]
def k0_off439 (v1982 : BitVec 32) : Fin 2 → Nat :=
  let v1984 : Index := Scalar.indexCast v1982
  let c0_1272 : Index := 0#32
  ![v1984.toNat, 0]

def k0_chk205 (v1982 : BitVec 32) : Prop :=
  (∀ a, (k0_off439 v1982) a + S1x1024.size a ≤ S1032x1024.size a)
theorem k0_off439_inb : ∀ (v1982 : BitVec 32) (k0_hw205 : k0_chk205 v1982), ∀ a, (k0_off439 v1982) a + S1x1024.size a ≤ S1032x1024.size a := fun v1982 k0_hw205 => k0_hw205

def k0_off440 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v1988 : Index := Scalar.indexCast v1883
  let c13_1273 : Index := 13#32
  ![v1988.toNat, 13]
def k0_off441 (v1989 : BitVec 32) : Fin 2 → Nat :=
  let v1991 : Index := Scalar.indexCast v1989
  let c0_1276 : Index := 0#32
  ![v1991.toNat, 0]

def k0_chk206 (v1989 : BitVec 32) : Prop :=
  (∀ a, (k0_off441 v1989) a + S1x1024.size a ≤ S1032x1024.size a)
theorem k0_off441_inb : ∀ (v1989 : BitVec 32) (k0_hw206 : k0_chk206 v1989), ∀ a, (k0_off441 v1989) a + S1x1024.size a ≤ S1032x1024.size a := fun v1989 k0_hw206 => k0_hw206

def k0_off442 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v1995 : Index := Scalar.indexCast v1883
  let c14_1277 : Index := 14#32
  ![v1995.toNat, 14]
def k0_off443 (v1996 : BitVec 32) : Fin 2 → Nat :=
  let v1998 : Index := Scalar.indexCast v1996
  let c0_1280 : Index := 0#32
  ![v1998.toNat, 0]

def k0_chk207 (v1996 : BitVec 32) : Prop :=
  (∀ a, (k0_off443 v1996) a + S1x1024.size a ≤ S1032x1024.size a)
theorem k0_off443_inb : ∀ (v1996 : BitVec 32) (k0_hw207 : k0_chk207 v1996), ∀ a, (k0_off443 v1996) a + S1x1024.size a ≤ S1032x1024.size a := fun v1996 k0_hw207 => k0_hw207

def k0_off444 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v2002 : Index := Scalar.indexCast v1883
  let c15_1281 : Index := 15#32
  ![v2002.toNat, 15]
def k0_off445 (v2003 : BitVec 32) : Fin 2 → Nat :=
  let v2005 : Index := Scalar.indexCast v2003
  let c0_1284 : Index := 0#32
  ![v2005.toNat, 0]

def k0_chk208 (v2003 : BitVec 32) : Prop :=
  (∀ a, (k0_off445 v2003) a + S1x1024.size a ≤ S1032x1024.size a)
theorem k0_off445_inb : ∀ (v2003 : BitVec 32) (k0_hw208 : k0_chk208 v2003), ∀ a, (k0_off445 v2003) a + S1x1024.size a ≤ S1032x1024.size a := fun v2003 k0_hw208 => k0_hw208

def k0_off446 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v2009 : Index := Scalar.indexCast v1883
  let c16_1285 : Index := 16#32
  ![v2009.toNat, 16]
def k0_off447 (v2010 : BitVec 32) : Fin 2 → Nat :=
  let v2012 : Index := Scalar.indexCast v2010
  let c0_1288 : Index := 0#32
  ![v2012.toNat, 0]

def k0_chk209 (v2010 : BitVec 32) : Prop :=
  (∀ a, (k0_off447 v2010) a + S1x1024.size a ≤ S1032x1024.size a)
theorem k0_off447_inb : ∀ (v2010 : BitVec 32) (k0_hw209 : k0_chk209 v2010), ∀ a, (k0_off447 v2010) a + S1x1024.size a ≤ S1032x1024.size a := fun v2010 k0_hw209 => k0_hw209

def k0_off448 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v2016 : Index := Scalar.indexCast v1883
  let c17_1289 : Index := 17#32
  ![v2016.toNat, 17]
def k0_off449 (v2017 : BitVec 32) : Fin 2 → Nat :=
  let v2019 : Index := Scalar.indexCast v2017
  let c0_1292 : Index := 0#32
  ![v2019.toNat, 0]

def k0_chk210 (v2017 : BitVec 32) : Prop :=
  (∀ a, (k0_off449 v2017) a + S1x1024.size a ≤ S1032x1024.size a)
theorem k0_off449_inb : ∀ (v2017 : BitVec 32) (k0_hw210 : k0_chk210 v2017), ∀ a, (k0_off449 v2017) a + S1x1024.size a ≤ S1032x1024.size a := fun v2017 k0_hw210 => k0_hw210

def k0_off450 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v2023 : Index := Scalar.indexCast v1883
  let c18_1293 : Index := 18#32
  ![v2023.toNat, 18]
def k0_off451 (v2024 : BitVec 32) : Fin 2 → Nat :=
  let v2026 : Index := Scalar.indexCast v2024
  let c0_1296 : Index := 0#32
  ![v2026.toNat, 0]

def k0_chk211 (v2024 : BitVec 32) : Prop :=
  (∀ a, (k0_off451 v2024) a + S1x1024.size a ≤ S1032x1024.size a)
theorem k0_off451_inb : ∀ (v2024 : BitVec 32) (k0_hw211 : k0_chk211 v2024), ∀ a, (k0_off451 v2024) a + S1x1024.size a ≤ S1032x1024.size a := fun v2024 k0_hw211 => k0_hw211

def k0_off452 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v2030 : Index := Scalar.indexCast v1883
  let c19_1297 : Index := 19#32
  ![v2030.toNat, 19]
def k0_off453 (v2031 : BitVec 32) : Fin 2 → Nat :=
  let v2033 : Index := Scalar.indexCast v2031
  let c0_1300 : Index := 0#32
  ![v2033.toNat, 0]

def k0_chk212 (v2031 : BitVec 32) : Prop :=
  (∀ a, (k0_off453 v2031) a + S1x1024.size a ≤ S1032x1024.size a)
theorem k0_off453_inb : ∀ (v2031 : BitVec 32) (k0_hw212 : k0_chk212 v2031), ∀ a, (k0_off453 v2031) a + S1x1024.size a ≤ S1032x1024.size a := fun v2031 k0_hw212 => k0_hw212

def k0_off454 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v2037 : Index := Scalar.indexCast v1883
  let c20_1301 : Index := 20#32
  ![v2037.toNat, 20]
def k0_off455 (v2038 : BitVec 32) : Fin 2 → Nat :=
  let v2040 : Index := Scalar.indexCast v2038
  let c0_1304 : Index := 0#32
  ![v2040.toNat, 0]

def k0_chk213 (v2038 : BitVec 32) : Prop :=
  (∀ a, (k0_off455 v2038) a + S1x1024.size a ≤ S1032x1024.size a)
theorem k0_off455_inb : ∀ (v2038 : BitVec 32) (k0_hw213 : k0_chk213 v2038), ∀ a, (k0_off455 v2038) a + S1x1024.size a ≤ S1032x1024.size a := fun v2038 k0_hw213 => k0_hw213

def k0_off456 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v2044 : Index := Scalar.indexCast v1883
  let c21_1305 : Index := 21#32
  ![v2044.toNat, 21]
def k0_off457 (v2045 : BitVec 32) : Fin 2 → Nat :=
  let v2047 : Index := Scalar.indexCast v2045
  let c0_1308 : Index := 0#32
  ![v2047.toNat, 0]

def k0_chk214 (v2045 : BitVec 32) : Prop :=
  (∀ a, (k0_off457 v2045) a + S1x1024.size a ≤ S1032x1024.size a)
theorem k0_off457_inb : ∀ (v2045 : BitVec 32) (k0_hw214 : k0_chk214 v2045), ∀ a, (k0_off457 v2045) a + S1x1024.size a ≤ S1032x1024.size a := fun v2045 k0_hw214 => k0_hw214

def k0_off458 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v2051 : Index := Scalar.indexCast v1883
  let c22_1309 : Index := 22#32
  ![v2051.toNat, 22]
def k0_off459 (v2052 : BitVec 32) : Fin 2 → Nat :=
  let v2054 : Index := Scalar.indexCast v2052
  let c0_1312 : Index := 0#32
  ![v2054.toNat, 0]

def k0_chk215 (v2052 : BitVec 32) : Prop :=
  (∀ a, (k0_off459 v2052) a + S1x1024.size a ≤ S1032x1024.size a)
theorem k0_off459_inb : ∀ (v2052 : BitVec 32) (k0_hw215 : k0_chk215 v2052), ∀ a, (k0_off459 v2052) a + S1x1024.size a ≤ S1032x1024.size a := fun v2052 k0_hw215 => k0_hw215

def k0_off460 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1208 : BitVec 32 := 7#32
  let v1881 : BitVec 32 := Scalar.subi v2 c7_i32_1208
  let c32_i32_1209 : BitVec 32 := 32#32
  let v1882 : BitVec 32 := Scalar.addi v1881 c32_i32_1209
  let c32_i32_1210 : BitVec 32 := 32#32
  let v1883 : BitVec 32 := Scalar.remsi v1882 c32_i32_1210
  let v2058 : Index := Scalar.indexCast v1883
  let c23_1313 : Index := 23#32
  ![v2058.toNat, 23]
def k0_off461 (v2059 : BitVec 32) : Fin 2 → Nat :=
  let v2061 : Index := Scalar.indexCast v2059
  let c0_1316 : Index := 0#32
  ![v2061.toNat, 0]

def k0_chk216 (v2059 : BitVec 32) : Prop :=
  (∀ a, (k0_off461 v2059) a + S1x1024.size a ≤ S1032x1024.size a)
theorem k0_off461_inb : ∀ (v2059 : BitVec 32) (k0_hw216 : k0_chk216 v2059), ∀ a, (k0_off461 v2059) a + S1x1024.size a ≤ S1032x1024.size a := fun v2059 k0_hw216 => k0_hw216

def k0_off462 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  ![v2067.toNat]
def k0_off463 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let c0_i32_1322 : BitVec 32 := 0#32
  let c0_i32_1323 : BitVec 32 := 0#32
  ![v2067.toNat, 0, 0]
def k0_off464 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2074 : Index := Scalar.indexCast v2067
  let c0_1326 : Index := 0#32
  let c0_1327 : Index := 0#32
  ![v2074.toNat, 0, 0]
def k0_off465 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2081 : Index := Scalar.indexCast v2067
  let c0_1330 : Index := 0#32
  ![v2081.toNat, 0]
def k0_off466 (v2082 : BitVec 32) : Fin 2 → Nat :=
  let v2084 : Index := Scalar.indexCast v2082
  let c0_1333 : Index := 0#32
  ![v2084.toNat, 0]

def k0_chk217 (v2082 : BitVec 32) : Prop :=
  (∀ a, (k0_off466 v2082) a + S1x1024.size a ≤ S1032x1024.size a)
theorem k0_off466_inb : ∀ (v2082 : BitVec 32) (k0_hw217 : k0_chk217 v2082), ∀ a, (k0_off466 v2082) a + S1x1024.size a ≤ S1032x1024.size a := fun v2082 k0_hw217 => k0_hw217

def k0_off467 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2088 : Index := Scalar.indexCast v2067
  let c1_1334 : Index := 1#32
  ![v2088.toNat, 1]
def k0_off468 (v2089 : BitVec 32) : Fin 2 → Nat :=
  let v2091 : Index := Scalar.indexCast v2089
  let c0_1337 : Index := 0#32
  ![v2091.toNat, 0]

def k0_chk218 (v2089 : BitVec 32) : Prop :=
  (∀ a, (k0_off468 v2089) a + S1x1024.size a ≤ S1032x1024.size a)
theorem k0_off468_inb : ∀ (v2089 : BitVec 32) (k0_hw218 : k0_chk218 v2089), ∀ a, (k0_off468 v2089) a + S1x1024.size a ≤ S1032x1024.size a := fun v2089 k0_hw218 => k0_hw218

def k0_off469 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2095 : Index := Scalar.indexCast v2067
  let c2_1338 : Index := 2#32
  ![v2095.toNat, 2]
def k0_off470 (v2096 : BitVec 32) : Fin 2 → Nat :=
  let v2098 : Index := Scalar.indexCast v2096
  let c0_1341 : Index := 0#32
  ![v2098.toNat, 0]

def k0_chk219 (v2096 : BitVec 32) : Prop :=
  (∀ a, (k0_off470 v2096) a + S1x1024.size a ≤ S1032x1024.size a)
theorem k0_off470_inb : ∀ (v2096 : BitVec 32) (k0_hw219 : k0_chk219 v2096), ∀ a, (k0_off470 v2096) a + S1x1024.size a ≤ S1032x1024.size a := fun v2096 k0_hw219 => k0_hw219

def k0_off471 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2102 : Index := Scalar.indexCast v2067
  let c3_1342 : Index := 3#32
  ![v2102.toNat, 3]
def k0_off472 (v2103 : BitVec 32) : Fin 2 → Nat :=
  let v2105 : Index := Scalar.indexCast v2103
  let c0_1345 : Index := 0#32
  ![v2105.toNat, 0]

def k0_chk220 (v2103 : BitVec 32) : Prop :=
  (∀ a, (k0_off472 v2103) a + S1x1024.size a ≤ S1032x1024.size a)
theorem k0_off472_inb : ∀ (v2103 : BitVec 32) (k0_hw220 : k0_chk220 v2103), ∀ a, (k0_off472 v2103) a + S1x1024.size a ≤ S1032x1024.size a := fun v2103 k0_hw220 => k0_hw220

def k0_off473 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2109 : Index := Scalar.indexCast v2067
  let c4_1346 : Index := 4#32
  ![v2109.toNat, 4]
def k0_off474 (v2110 : BitVec 32) : Fin 2 → Nat :=
  let v2112 : Index := Scalar.indexCast v2110
  let c0_1349 : Index := 0#32
  ![v2112.toNat, 0]

def k0_chk221 (v2110 : BitVec 32) : Prop :=
  (∀ a, (k0_off474 v2110) a + S1x1024.size a ≤ S1032x1024.size a)
theorem k0_off474_inb : ∀ (v2110 : BitVec 32) (k0_hw221 : k0_chk221 v2110), ∀ a, (k0_off474 v2110) a + S1x1024.size a ≤ S1032x1024.size a := fun v2110 k0_hw221 => k0_hw221

def k0_off475 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2116 : Index := Scalar.indexCast v2067
  let c5_1350 : Index := 5#32
  ![v2116.toNat, 5]
def k0_off476 (v2117 : BitVec 32) : Fin 2 → Nat :=
  let v2119 : Index := Scalar.indexCast v2117
  let c0_1353 : Index := 0#32
  ![v2119.toNat, 0]

def k0_chk222 (v2117 : BitVec 32) : Prop :=
  (∀ a, (k0_off476 v2117) a + S1x1024.size a ≤ S1032x1024.size a)
theorem k0_off476_inb : ∀ (v2117 : BitVec 32) (k0_hw222 : k0_chk222 v2117), ∀ a, (k0_off476 v2117) a + S1x1024.size a ≤ S1032x1024.size a := fun v2117 k0_hw222 => k0_hw222

def k0_off477 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2123 : Index := Scalar.indexCast v2067
  let c6_1354 : Index := 6#32
  ![v2123.toNat, 6]
def k0_off478 (v2124 : BitVec 32) : Fin 2 → Nat :=
  let v2126 : Index := Scalar.indexCast v2124
  let c0_1357 : Index := 0#32
  ![v2126.toNat, 0]

def k0_chk223 (v2124 : BitVec 32) : Prop :=
  (∀ a, (k0_off478 v2124) a + S1x1024.size a ≤ S1032x1024.size a)
theorem k0_off478_inb : ∀ (v2124 : BitVec 32) (k0_hw223 : k0_chk223 v2124), ∀ a, (k0_off478 v2124) a + S1x1024.size a ≤ S1032x1024.size a := fun v2124 k0_hw223 => k0_hw223

def k0_off479 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2130 : Index := Scalar.indexCast v2067
  let c7_1358 : Index := 7#32
  ![v2130.toNat, 7]
def k0_off480 (v2131 : BitVec 32) : Fin 2 → Nat :=
  let v2133 : Index := Scalar.indexCast v2131
  let c0_1361 : Index := 0#32
  ![v2133.toNat, 0]

def k0_chk224 (v2131 : BitVec 32) : Prop :=
  (∀ a, (k0_off480 v2131) a + S1x1024.size a ≤ S1032x1024.size a)
theorem k0_off480_inb : ∀ (v2131 : BitVec 32) (k0_hw224 : k0_chk224 v2131), ∀ a, (k0_off480 v2131) a + S1x1024.size a ≤ S1032x1024.size a := fun v2131 k0_hw224 => k0_hw224

def k0_off481 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2137 : Index := Scalar.indexCast v2067
  let c8_1362 : Index := 8#32
  ![v2137.toNat, 8]
def k0_off482 (v2138 : BitVec 32) : Fin 2 → Nat :=
  let v2140 : Index := Scalar.indexCast v2138
  let c0_1365 : Index := 0#32
  ![v2140.toNat, 0]

def k0_chk225 (v2138 : BitVec 32) : Prop :=
  (∀ a, (k0_off482 v2138) a + S1x1024.size a ≤ S1032x1024.size a)
theorem k0_off482_inb : ∀ (v2138 : BitVec 32) (k0_hw225 : k0_chk225 v2138), ∀ a, (k0_off482 v2138) a + S1x1024.size a ≤ S1032x1024.size a := fun v2138 k0_hw225 => k0_hw225

def k0_off483 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2144 : Index := Scalar.indexCast v2067
  let c9_1366 : Index := 9#32
  ![v2144.toNat, 9]
def k0_off484 (v2145 : BitVec 32) : Fin 2 → Nat :=
  let v2147 : Index := Scalar.indexCast v2145
  let c0_1369 : Index := 0#32
  ![v2147.toNat, 0]

def k0_chk226 (v2145 : BitVec 32) : Prop :=
  (∀ a, (k0_off484 v2145) a + S1x1024.size a ≤ S1032x1024.size a)
theorem k0_off484_inb : ∀ (v2145 : BitVec 32) (k0_hw226 : k0_chk226 v2145), ∀ a, (k0_off484 v2145) a + S1x1024.size a ≤ S1032x1024.size a := fun v2145 k0_hw226 => k0_hw226

def k0_off485 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2151 : Index := Scalar.indexCast v2067
  let c10_1370 : Index := 10#32
  ![v2151.toNat, 10]
def k0_off486 (v2152 : BitVec 32) : Fin 2 → Nat :=
  let v2154 : Index := Scalar.indexCast v2152
  let c0_1373 : Index := 0#32
  ![v2154.toNat, 0]

def k0_chk227 (v2152 : BitVec 32) : Prop :=
  (∀ a, (k0_off486 v2152) a + S1x1024.size a ≤ S1032x1024.size a)
theorem k0_off486_inb : ∀ (v2152 : BitVec 32) (k0_hw227 : k0_chk227 v2152), ∀ a, (k0_off486 v2152) a + S1x1024.size a ≤ S1032x1024.size a := fun v2152 k0_hw227 => k0_hw227

def k0_off487 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2158 : Index := Scalar.indexCast v2067
  let c11_1374 : Index := 11#32
  ![v2158.toNat, 11]
def k0_off488 (v2159 : BitVec 32) : Fin 2 → Nat :=
  let v2161 : Index := Scalar.indexCast v2159
  let c0_1377 : Index := 0#32
  ![v2161.toNat, 0]

def k0_chk228 (v2159 : BitVec 32) : Prop :=
  (∀ a, (k0_off488 v2159) a + S1x1024.size a ≤ S1032x1024.size a)
theorem k0_off488_inb : ∀ (v2159 : BitVec 32) (k0_hw228 : k0_chk228 v2159), ∀ a, (k0_off488 v2159) a + S1x1024.size a ≤ S1032x1024.size a := fun v2159 k0_hw228 => k0_hw228

def k0_off489 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2165 : Index := Scalar.indexCast v2067
  let c12_1378 : Index := 12#32
  ![v2165.toNat, 12]
def k0_off490 (v2166 : BitVec 32) : Fin 2 → Nat :=
  let v2168 : Index := Scalar.indexCast v2166
  let c0_1381 : Index := 0#32
  ![v2168.toNat, 0]

def k0_chk229 (v2166 : BitVec 32) : Prop :=
  (∀ a, (k0_off490 v2166) a + S1x1024.size a ≤ S1032x1024.size a)
theorem k0_off490_inb : ∀ (v2166 : BitVec 32) (k0_hw229 : k0_chk229 v2166), ∀ a, (k0_off490 v2166) a + S1x1024.size a ≤ S1032x1024.size a := fun v2166 k0_hw229 => k0_hw229

def k0_off491 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2172 : Index := Scalar.indexCast v2067
  let c13_1382 : Index := 13#32
  ![v2172.toNat, 13]
def k0_off492 (v2173 : BitVec 32) : Fin 2 → Nat :=
  let v2175 : Index := Scalar.indexCast v2173
  let c0_1385 : Index := 0#32
  ![v2175.toNat, 0]

def k0_chk230 (v2173 : BitVec 32) : Prop :=
  (∀ a, (k0_off492 v2173) a + S1x1024.size a ≤ S1032x1024.size a)
theorem k0_off492_inb : ∀ (v2173 : BitVec 32) (k0_hw230 : k0_chk230 v2173), ∀ a, (k0_off492 v2173) a + S1x1024.size a ≤ S1032x1024.size a := fun v2173 k0_hw230 => k0_hw230

def k0_off493 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2179 : Index := Scalar.indexCast v2067
  let c14_1386 : Index := 14#32
  ![v2179.toNat, 14]
def k0_off494 (v2180 : BitVec 32) : Fin 2 → Nat :=
  let v2182 : Index := Scalar.indexCast v2180
  let c0_1389 : Index := 0#32
  ![v2182.toNat, 0]

def k0_chk231 (v2180 : BitVec 32) : Prop :=
  (∀ a, (k0_off494 v2180) a + S1x1024.size a ≤ S1032x1024.size a)
theorem k0_off494_inb : ∀ (v2180 : BitVec 32) (k0_hw231 : k0_chk231 v2180), ∀ a, (k0_off494 v2180) a + S1x1024.size a ≤ S1032x1024.size a := fun v2180 k0_hw231 => k0_hw231

def k0_off495 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2186 : Index := Scalar.indexCast v2067
  let c15_1390 : Index := 15#32
  ![v2186.toNat, 15]
def k0_off496 (v2187 : BitVec 32) : Fin 2 → Nat :=
  let v2189 : Index := Scalar.indexCast v2187
  let c0_1393 : Index := 0#32
  ![v2189.toNat, 0]

def k0_chk232 (v2187 : BitVec 32) : Prop :=
  (∀ a, (k0_off496 v2187) a + S1x1024.size a ≤ S1032x1024.size a)
theorem k0_off496_inb : ∀ (v2187 : BitVec 32) (k0_hw232 : k0_chk232 v2187), ∀ a, (k0_off496 v2187) a + S1x1024.size a ≤ S1032x1024.size a := fun v2187 k0_hw232 => k0_hw232

def k0_off497 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2193 : Index := Scalar.indexCast v2067
  let c16_1394 : Index := 16#32
  ![v2193.toNat, 16]
def k0_off498 (v2194 : BitVec 32) : Fin 2 → Nat :=
  let v2196 : Index := Scalar.indexCast v2194
  let c0_1397 : Index := 0#32
  ![v2196.toNat, 0]

def k0_chk233 (v2194 : BitVec 32) : Prop :=
  (∀ a, (k0_off498 v2194) a + S1x1024.size a ≤ S1032x1024.size a)
theorem k0_off498_inb : ∀ (v2194 : BitVec 32) (k0_hw233 : k0_chk233 v2194), ∀ a, (k0_off498 v2194) a + S1x1024.size a ≤ S1032x1024.size a := fun v2194 k0_hw233 => k0_hw233

def k0_off499 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2200 : Index := Scalar.indexCast v2067
  let c17_1398 : Index := 17#32
  ![v2200.toNat, 17]
def k0_off500 (v2201 : BitVec 32) : Fin 2 → Nat :=
  let v2203 : Index := Scalar.indexCast v2201
  let c0_1401 : Index := 0#32
  ![v2203.toNat, 0]

def k0_chk234 (v2201 : BitVec 32) : Prop :=
  (∀ a, (k0_off500 v2201) a + S1x1024.size a ≤ S1032x1024.size a)
theorem k0_off500_inb : ∀ (v2201 : BitVec 32) (k0_hw234 : k0_chk234 v2201), ∀ a, (k0_off500 v2201) a + S1x1024.size a ≤ S1032x1024.size a := fun v2201 k0_hw234 => k0_hw234

def k0_off501 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2207 : Index := Scalar.indexCast v2067
  let c18_1402 : Index := 18#32
  ![v2207.toNat, 18]
def k0_off502 (v2208 : BitVec 32) : Fin 2 → Nat :=
  let v2210 : Index := Scalar.indexCast v2208
  let c0_1405 : Index := 0#32
  ![v2210.toNat, 0]

def k0_chk235 (v2208 : BitVec 32) : Prop :=
  (∀ a, (k0_off502 v2208) a + S1x1024.size a ≤ S1032x1024.size a)
theorem k0_off502_inb : ∀ (v2208 : BitVec 32) (k0_hw235 : k0_chk235 v2208), ∀ a, (k0_off502 v2208) a + S1x1024.size a ≤ S1032x1024.size a := fun v2208 k0_hw235 => k0_hw235

def k0_off503 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2214 : Index := Scalar.indexCast v2067
  let c19_1406 : Index := 19#32
  ![v2214.toNat, 19]
def k0_off504 (v2215 : BitVec 32) : Fin 2 → Nat :=
  let v2217 : Index := Scalar.indexCast v2215
  let c0_1409 : Index := 0#32
  ![v2217.toNat, 0]

def k0_chk236 (v2215 : BitVec 32) : Prop :=
  (∀ a, (k0_off504 v2215) a + S1x1024.size a ≤ S1032x1024.size a)
theorem k0_off504_inb : ∀ (v2215 : BitVec 32) (k0_hw236 : k0_chk236 v2215), ∀ a, (k0_off504 v2215) a + S1x1024.size a ≤ S1032x1024.size a := fun v2215 k0_hw236 => k0_hw236

def k0_off505 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2221 : Index := Scalar.indexCast v2067
  let c20_1410 : Index := 20#32
  ![v2221.toNat, 20]
def k0_off506 (v2222 : BitVec 32) : Fin 2 → Nat :=
  let v2224 : Index := Scalar.indexCast v2222
  let c0_1413 : Index := 0#32
  ![v2224.toNat, 0]

def k0_chk237 (v2222 : BitVec 32) : Prop :=
  (∀ a, (k0_off506 v2222) a + S1x1024.size a ≤ S1032x1024.size a)
theorem k0_off506_inb : ∀ (v2222 : BitVec 32) (k0_hw237 : k0_chk237 v2222), ∀ a, (k0_off506 v2222) a + S1x1024.size a ≤ S1032x1024.size a := fun v2222 k0_hw237 => k0_hw237

def k0_off507 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2228 : Index := Scalar.indexCast v2067
  let c21_1414 : Index := 21#32
  ![v2228.toNat, 21]
def k0_off508 (v2229 : BitVec 32) : Fin 2 → Nat :=
  let v2231 : Index := Scalar.indexCast v2229
  let c0_1417 : Index := 0#32
  ![v2231.toNat, 0]

def k0_chk238 (v2229 : BitVec 32) : Prop :=
  (∀ a, (k0_off508 v2229) a + S1x1024.size a ≤ S1032x1024.size a)
theorem k0_off508_inb : ∀ (v2229 : BitVec 32) (k0_hw238 : k0_chk238 v2229), ∀ a, (k0_off508 v2229) a + S1x1024.size a ≤ S1032x1024.size a := fun v2229 k0_hw238 => k0_hw238

def k0_off509 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2235 : Index := Scalar.indexCast v2067
  let c22_1418 : Index := 22#32
  ![v2235.toNat, 22]
def k0_off510 (v2236 : BitVec 32) : Fin 2 → Nat :=
  let v2238 : Index := Scalar.indexCast v2236
  let c0_1421 : Index := 0#32
  ![v2238.toNat, 0]

def k0_chk239 (v2236 : BitVec 32) : Prop :=
  (∀ a, (k0_off510 v2236) a + S1x1024.size a ≤ S1032x1024.size a)
theorem k0_off510_inb : ∀ (v2236 : BitVec 32) (k0_hw239 : k0_chk239 v2236), ∀ a, (k0_off510 v2236) a + S1x1024.size a ≤ S1032x1024.size a := fun v2236 k0_hw239 => k0_hw239

def k0_off511 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v2065 : BitVec 32 := Scalar.subi v2 c8_i32_1317
  let c32_i32_1318 : BitVec 32 := 32#32
  let v2066 : BitVec 32 := Scalar.addi v2065 c32_i32_1318
  let c32_i32_1319 : BitVec 32 := 32#32
  let v2067 : BitVec 32 := Scalar.remsi v2066 c32_i32_1319
  let v2242 : Index := Scalar.indexCast v2067
  let c23_1422 : Index := 23#32
  ![v2242.toNat, 23]
def k0_off512 (v2243 : BitVec 32) : Fin 2 → Nat :=
  let v2245 : Index := Scalar.indexCast v2243
  let c0_1425 : Index := 0#32
  ![v2245.toNat, 0]

def k0_chk240 (v2243 : BitVec 32) : Prop :=
  (∀ a, (k0_off512 v2243) a + S1x1024.size a ≤ S1032x1024.size a)
theorem k0_off512_inb : ∀ (v2243 : BitVec 32) (k0_hw240 : k0_chk240 v2243), ∀ a, (k0_off512 v2243) a + S1x1024.size a ≤ S1032x1024.size a := fun v2243 k0_hw240 => k0_hw240

def k0_off513 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  ![v2251.toNat]
def k0_off514 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let c0_i32_1431 : BitVec 32 := 0#32
  let c0_i32_1432 : BitVec 32 := 0#32
  ![v2251.toNat, 0, 0]
def k0_off515 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2258 : Index := Scalar.indexCast v2251
  let c0_1435 : Index := 0#32
  let c0_1436 : Index := 0#32
  ![v2258.toNat, 0, 0]
def k0_off516 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2265 : Index := Scalar.indexCast v2251
  let c0_1439 : Index := 0#32
  ![v2265.toNat, 0]
def k0_off517 (v2266 : BitVec 32) : Fin 2 → Nat :=
  let v2268 : Index := Scalar.indexCast v2266
  let c0_1442 : Index := 0#32
  ![v2268.toNat, 0]

def k0_chk241 (v2266 : BitVec 32) : Prop :=
  (∀ a, (k0_off517 v2266) a + S1x1024.size a ≤ S1032x1024.size a)
theorem k0_off517_inb : ∀ (v2266 : BitVec 32) (k0_hw241 : k0_chk241 v2266), ∀ a, (k0_off517 v2266) a + S1x1024.size a ≤ S1032x1024.size a := fun v2266 k0_hw241 => k0_hw241

def k0_off518 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2272 : Index := Scalar.indexCast v2251
  let c1_1443 : Index := 1#32
  ![v2272.toNat, 1]
def k0_off519 (v2273 : BitVec 32) : Fin 2 → Nat :=
  let v2275 : Index := Scalar.indexCast v2273
  let c0_1446 : Index := 0#32
  ![v2275.toNat, 0]

def k0_chk242 (v2273 : BitVec 32) : Prop :=
  (∀ a, (k0_off519 v2273) a + S1x1024.size a ≤ S1032x1024.size a)
theorem k0_off519_inb : ∀ (v2273 : BitVec 32) (k0_hw242 : k0_chk242 v2273), ∀ a, (k0_off519 v2273) a + S1x1024.size a ≤ S1032x1024.size a := fun v2273 k0_hw242 => k0_hw242

def k0_off520 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2279 : Index := Scalar.indexCast v2251
  let c2_1447 : Index := 2#32
  ![v2279.toNat, 2]
def k0_off521 (v2280 : BitVec 32) : Fin 2 → Nat :=
  let v2282 : Index := Scalar.indexCast v2280
  let c0_1450 : Index := 0#32
  ![v2282.toNat, 0]

def k0_chk243 (v2280 : BitVec 32) : Prop :=
  (∀ a, (k0_off521 v2280) a + S1x1024.size a ≤ S1032x1024.size a)
theorem k0_off521_inb : ∀ (v2280 : BitVec 32) (k0_hw243 : k0_chk243 v2280), ∀ a, (k0_off521 v2280) a + S1x1024.size a ≤ S1032x1024.size a := fun v2280 k0_hw243 => k0_hw243

def k0_off522 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2286 : Index := Scalar.indexCast v2251
  let c3_1451 : Index := 3#32
  ![v2286.toNat, 3]
def k0_off523 (v2287 : BitVec 32) : Fin 2 → Nat :=
  let v2289 : Index := Scalar.indexCast v2287
  let c0_1454 : Index := 0#32
  ![v2289.toNat, 0]

def k0_chk244 (v2287 : BitVec 32) : Prop :=
  (∀ a, (k0_off523 v2287) a + S1x1024.size a ≤ S1032x1024.size a)
theorem k0_off523_inb : ∀ (v2287 : BitVec 32) (k0_hw244 : k0_chk244 v2287), ∀ a, (k0_off523 v2287) a + S1x1024.size a ≤ S1032x1024.size a := fun v2287 k0_hw244 => k0_hw244

def k0_off524 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2293 : Index := Scalar.indexCast v2251
  let c4_1455 : Index := 4#32
  ![v2293.toNat, 4]
def k0_off525 (v2294 : BitVec 32) : Fin 2 → Nat :=
  let v2296 : Index := Scalar.indexCast v2294
  let c0_1458 : Index := 0#32
  ![v2296.toNat, 0]

def k0_chk245 (v2294 : BitVec 32) : Prop :=
  (∀ a, (k0_off525 v2294) a + S1x1024.size a ≤ S1032x1024.size a)
theorem k0_off525_inb : ∀ (v2294 : BitVec 32) (k0_hw245 : k0_chk245 v2294), ∀ a, (k0_off525 v2294) a + S1x1024.size a ≤ S1032x1024.size a := fun v2294 k0_hw245 => k0_hw245

def k0_off526 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2300 : Index := Scalar.indexCast v2251
  let c5_1459 : Index := 5#32
  ![v2300.toNat, 5]
def k0_off527 (v2301 : BitVec 32) : Fin 2 → Nat :=
  let v2303 : Index := Scalar.indexCast v2301
  let c0_1462 : Index := 0#32
  ![v2303.toNat, 0]

def k0_chk246 (v2301 : BitVec 32) : Prop :=
  (∀ a, (k0_off527 v2301) a + S1x1024.size a ≤ S1032x1024.size a)
theorem k0_off527_inb : ∀ (v2301 : BitVec 32) (k0_hw246 : k0_chk246 v2301), ∀ a, (k0_off527 v2301) a + S1x1024.size a ≤ S1032x1024.size a := fun v2301 k0_hw246 => k0_hw246

def k0_off528 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2307 : Index := Scalar.indexCast v2251
  let c6_1463 : Index := 6#32
  ![v2307.toNat, 6]
def k0_off529 (v2308 : BitVec 32) : Fin 2 → Nat :=
  let v2310 : Index := Scalar.indexCast v2308
  let c0_1466 : Index := 0#32
  ![v2310.toNat, 0]

def k0_chk247 (v2308 : BitVec 32) : Prop :=
  (∀ a, (k0_off529 v2308) a + S1x1024.size a ≤ S1032x1024.size a)
theorem k0_off529_inb : ∀ (v2308 : BitVec 32) (k0_hw247 : k0_chk247 v2308), ∀ a, (k0_off529 v2308) a + S1x1024.size a ≤ S1032x1024.size a := fun v2308 k0_hw247 => k0_hw247

def k0_off530 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2314 : Index := Scalar.indexCast v2251
  let c7_1467 : Index := 7#32
  ![v2314.toNat, 7]
def k0_off531 (v2315 : BitVec 32) : Fin 2 → Nat :=
  let v2317 : Index := Scalar.indexCast v2315
  let c0_1470 : Index := 0#32
  ![v2317.toNat, 0]

def k0_chk248 (v2315 : BitVec 32) : Prop :=
  (∀ a, (k0_off531 v2315) a + S1x1024.size a ≤ S1032x1024.size a)
theorem k0_off531_inb : ∀ (v2315 : BitVec 32) (k0_hw248 : k0_chk248 v2315), ∀ a, (k0_off531 v2315) a + S1x1024.size a ≤ S1032x1024.size a := fun v2315 k0_hw248 => k0_hw248

def k0_off532 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2321 : Index := Scalar.indexCast v2251
  let c8_1471 : Index := 8#32
  ![v2321.toNat, 8]
def k0_off533 (v2322 : BitVec 32) : Fin 2 → Nat :=
  let v2324 : Index := Scalar.indexCast v2322
  let c0_1474 : Index := 0#32
  ![v2324.toNat, 0]

def k0_chk249 (v2322 : BitVec 32) : Prop :=
  (∀ a, (k0_off533 v2322) a + S1x1024.size a ≤ S1032x1024.size a)
theorem k0_off533_inb : ∀ (v2322 : BitVec 32) (k0_hw249 : k0_chk249 v2322), ∀ a, (k0_off533 v2322) a + S1x1024.size a ≤ S1032x1024.size a := fun v2322 k0_hw249 => k0_hw249

def k0_off534 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2328 : Index := Scalar.indexCast v2251
  let c9_1475 : Index := 9#32
  ![v2328.toNat, 9]
def k0_off535 (v2329 : BitVec 32) : Fin 2 → Nat :=
  let v2331 : Index := Scalar.indexCast v2329
  let c0_1478 : Index := 0#32
  ![v2331.toNat, 0]

def k0_chk250 (v2329 : BitVec 32) : Prop :=
  (∀ a, (k0_off535 v2329) a + S1x1024.size a ≤ S1032x1024.size a)
theorem k0_off535_inb : ∀ (v2329 : BitVec 32) (k0_hw250 : k0_chk250 v2329), ∀ a, (k0_off535 v2329) a + S1x1024.size a ≤ S1032x1024.size a := fun v2329 k0_hw250 => k0_hw250

def k0_off536 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2335 : Index := Scalar.indexCast v2251
  let c10_1479 : Index := 10#32
  ![v2335.toNat, 10]
def k0_off537 (v2336 : BitVec 32) : Fin 2 → Nat :=
  let v2338 : Index := Scalar.indexCast v2336
  let c0_1482 : Index := 0#32
  ![v2338.toNat, 0]

def k0_chk251 (v2336 : BitVec 32) : Prop :=
  (∀ a, (k0_off537 v2336) a + S1x1024.size a ≤ S1032x1024.size a)
theorem k0_off537_inb : ∀ (v2336 : BitVec 32) (k0_hw251 : k0_chk251 v2336), ∀ a, (k0_off537 v2336) a + S1x1024.size a ≤ S1032x1024.size a := fun v2336 k0_hw251 => k0_hw251

def k0_off538 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2342 : Index := Scalar.indexCast v2251
  let c11_1483 : Index := 11#32
  ![v2342.toNat, 11]
def k0_off539 (v2343 : BitVec 32) : Fin 2 → Nat :=
  let v2345 : Index := Scalar.indexCast v2343
  let c0_1486 : Index := 0#32
  ![v2345.toNat, 0]

def k0_chk252 (v2343 : BitVec 32) : Prop :=
  (∀ a, (k0_off539 v2343) a + S1x1024.size a ≤ S1032x1024.size a)
theorem k0_off539_inb : ∀ (v2343 : BitVec 32) (k0_hw252 : k0_chk252 v2343), ∀ a, (k0_off539 v2343) a + S1x1024.size a ≤ S1032x1024.size a := fun v2343 k0_hw252 => k0_hw252

def k0_off540 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2349 : Index := Scalar.indexCast v2251
  let c12_1487 : Index := 12#32
  ![v2349.toNat, 12]
def k0_off541 (v2350 : BitVec 32) : Fin 2 → Nat :=
  let v2352 : Index := Scalar.indexCast v2350
  let c0_1490 : Index := 0#32
  ![v2352.toNat, 0]

def k0_chk253 (v2350 : BitVec 32) : Prop :=
  (∀ a, (k0_off541 v2350) a + S1x1024.size a ≤ S1032x1024.size a)
theorem k0_off541_inb : ∀ (v2350 : BitVec 32) (k0_hw253 : k0_chk253 v2350), ∀ a, (k0_off541 v2350) a + S1x1024.size a ≤ S1032x1024.size a := fun v2350 k0_hw253 => k0_hw253

def k0_off542 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2356 : Index := Scalar.indexCast v2251
  let c13_1491 : Index := 13#32
  ![v2356.toNat, 13]
def k0_off543 (v2357 : BitVec 32) : Fin 2 → Nat :=
  let v2359 : Index := Scalar.indexCast v2357
  let c0_1494 : Index := 0#32
  ![v2359.toNat, 0]

def k0_chk254 (v2357 : BitVec 32) : Prop :=
  (∀ a, (k0_off543 v2357) a + S1x1024.size a ≤ S1032x1024.size a)
theorem k0_off543_inb : ∀ (v2357 : BitVec 32) (k0_hw254 : k0_chk254 v2357), ∀ a, (k0_off543 v2357) a + S1x1024.size a ≤ S1032x1024.size a := fun v2357 k0_hw254 => k0_hw254

def k0_off544 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2363 : Index := Scalar.indexCast v2251
  let c14_1495 : Index := 14#32
  ![v2363.toNat, 14]
def k0_off545 (v2364 : BitVec 32) : Fin 2 → Nat :=
  let v2366 : Index := Scalar.indexCast v2364
  let c0_1498 : Index := 0#32
  ![v2366.toNat, 0]

def k0_chk255 (v2364 : BitVec 32) : Prop :=
  (∀ a, (k0_off545 v2364) a + S1x1024.size a ≤ S1032x1024.size a)
theorem k0_off545_inb : ∀ (v2364 : BitVec 32) (k0_hw255 : k0_chk255 v2364), ∀ a, (k0_off545 v2364) a + S1x1024.size a ≤ S1032x1024.size a := fun v2364 k0_hw255 => k0_hw255

def k0_off546 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2370 : Index := Scalar.indexCast v2251
  let c15_1499 : Index := 15#32
  ![v2370.toNat, 15]
def k0_off547 (v2371 : BitVec 32) : Fin 2 → Nat :=
  let v2373 : Index := Scalar.indexCast v2371
  let c0_1502 : Index := 0#32
  ![v2373.toNat, 0]

def k0_chk256 (v2371 : BitVec 32) : Prop :=
  (∀ a, (k0_off547 v2371) a + S1x1024.size a ≤ S1032x1024.size a)
theorem k0_off547_inb : ∀ (v2371 : BitVec 32) (k0_hw256 : k0_chk256 v2371), ∀ a, (k0_off547 v2371) a + S1x1024.size a ≤ S1032x1024.size a := fun v2371 k0_hw256 => k0_hw256

def k0_off548 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2377 : Index := Scalar.indexCast v2251
  let c16_1503 : Index := 16#32
  ![v2377.toNat, 16]
def k0_off549 (v2378 : BitVec 32) : Fin 2 → Nat :=
  let v2380 : Index := Scalar.indexCast v2378
  let c0_1506 : Index := 0#32
  ![v2380.toNat, 0]

def k0_chk257 (v2378 : BitVec 32) : Prop :=
  (∀ a, (k0_off549 v2378) a + S1x1024.size a ≤ S1032x1024.size a)
theorem k0_off549_inb : ∀ (v2378 : BitVec 32) (k0_hw257 : k0_chk257 v2378), ∀ a, (k0_off549 v2378) a + S1x1024.size a ≤ S1032x1024.size a := fun v2378 k0_hw257 => k0_hw257

def k0_off550 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2384 : Index := Scalar.indexCast v2251
  let c17_1507 : Index := 17#32
  ![v2384.toNat, 17]
def k0_off551 (v2385 : BitVec 32) : Fin 2 → Nat :=
  let v2387 : Index := Scalar.indexCast v2385
  let c0_1510 : Index := 0#32
  ![v2387.toNat, 0]

def k0_chk258 (v2385 : BitVec 32) : Prop :=
  (∀ a, (k0_off551 v2385) a + S1x1024.size a ≤ S1032x1024.size a)
theorem k0_off551_inb : ∀ (v2385 : BitVec 32) (k0_hw258 : k0_chk258 v2385), ∀ a, (k0_off551 v2385) a + S1x1024.size a ≤ S1032x1024.size a := fun v2385 k0_hw258 => k0_hw258

def k0_off552 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2391 : Index := Scalar.indexCast v2251
  let c18_1511 : Index := 18#32
  ![v2391.toNat, 18]
def k0_off553 (v2392 : BitVec 32) : Fin 2 → Nat :=
  let v2394 : Index := Scalar.indexCast v2392
  let c0_1514 : Index := 0#32
  ![v2394.toNat, 0]

def k0_chk259 (v2392 : BitVec 32) : Prop :=
  (∀ a, (k0_off553 v2392) a + S1x1024.size a ≤ S1032x1024.size a)
theorem k0_off553_inb : ∀ (v2392 : BitVec 32) (k0_hw259 : k0_chk259 v2392), ∀ a, (k0_off553 v2392) a + S1x1024.size a ≤ S1032x1024.size a := fun v2392 k0_hw259 => k0_hw259

def k0_off554 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2398 : Index := Scalar.indexCast v2251
  let c19_1515 : Index := 19#32
  ![v2398.toNat, 19]
def k0_off555 (v2399 : BitVec 32) : Fin 2 → Nat :=
  let v2401 : Index := Scalar.indexCast v2399
  let c0_1518 : Index := 0#32
  ![v2401.toNat, 0]

def k0_chk260 (v2399 : BitVec 32) : Prop :=
  (∀ a, (k0_off555 v2399) a + S1x1024.size a ≤ S1032x1024.size a)
theorem k0_off555_inb : ∀ (v2399 : BitVec 32) (k0_hw260 : k0_chk260 v2399), ∀ a, (k0_off555 v2399) a + S1x1024.size a ≤ S1032x1024.size a := fun v2399 k0_hw260 => k0_hw260

def k0_off556 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2405 : Index := Scalar.indexCast v2251
  let c20_1519 : Index := 20#32
  ![v2405.toNat, 20]
def k0_off557 (v2406 : BitVec 32) : Fin 2 → Nat :=
  let v2408 : Index := Scalar.indexCast v2406
  let c0_1522 : Index := 0#32
  ![v2408.toNat, 0]

def k0_chk261 (v2406 : BitVec 32) : Prop :=
  (∀ a, (k0_off557 v2406) a + S1x1024.size a ≤ S1032x1024.size a)
theorem k0_off557_inb : ∀ (v2406 : BitVec 32) (k0_hw261 : k0_chk261 v2406), ∀ a, (k0_off557 v2406) a + S1x1024.size a ≤ S1032x1024.size a := fun v2406 k0_hw261 => k0_hw261

def k0_off558 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2412 : Index := Scalar.indexCast v2251
  let c21_1523 : Index := 21#32
  ![v2412.toNat, 21]
def k0_off559 (v2413 : BitVec 32) : Fin 2 → Nat :=
  let v2415 : Index := Scalar.indexCast v2413
  let c0_1526 : Index := 0#32
  ![v2415.toNat, 0]

def k0_chk262 (v2413 : BitVec 32) : Prop :=
  (∀ a, (k0_off559 v2413) a + S1x1024.size a ≤ S1032x1024.size a)
theorem k0_off559_inb : ∀ (v2413 : BitVec 32) (k0_hw262 : k0_chk262 v2413), ∀ a, (k0_off559 v2413) a + S1x1024.size a ≤ S1032x1024.size a := fun v2413 k0_hw262 => k0_hw262

def k0_off560 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2419 : Index := Scalar.indexCast v2251
  let c22_1527 : Index := 22#32
  ![v2419.toNat, 22]
def k0_off561 (v2420 : BitVec 32) : Fin 2 → Nat :=
  let v2422 : Index := Scalar.indexCast v2420
  let c0_1530 : Index := 0#32
  ![v2422.toNat, 0]

def k0_chk263 (v2420 : BitVec 32) : Prop :=
  (∀ a, (k0_off561 v2420) a + S1x1024.size a ≤ S1032x1024.size a)
theorem k0_off561_inb : ∀ (v2420 : BitVec 32) (k0_hw263 : k0_chk263 v2420), ∀ a, (k0_off561 v2420) a + S1x1024.size a ≤ S1032x1024.size a := fun v2420 k0_hw263 => k0_hw263

def k0_off562 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1426 : BitVec 32 := 9#32
  let v2249 : BitVec 32 := Scalar.subi v2 c9_i32_1426
  let c32_i32_1427 : BitVec 32 := 32#32
  let v2250 : BitVec 32 := Scalar.addi v2249 c32_i32_1427
  let c32_i32_1428 : BitVec 32 := 32#32
  let v2251 : BitVec 32 := Scalar.remsi v2250 c32_i32_1428
  let v2426 : Index := Scalar.indexCast v2251
  let c23_1531 : Index := 23#32
  ![v2426.toNat, 23]
def k0_off563 (v2427 : BitVec 32) : Fin 2 → Nat :=
  let v2429 : Index := Scalar.indexCast v2427
  let c0_1534 : Index := 0#32
  ![v2429.toNat, 0]

def k0_chk264 (v2427 : BitVec 32) : Prop :=
  (∀ a, (k0_off563 v2427) a + S1x1024.size a ≤ S1032x1024.size a)
theorem k0_off563_inb : ∀ (v2427 : BitVec 32) (k0_hw264 : k0_chk264 v2427), ∀ a, (k0_off563 v2427) a + S1x1024.size a ≤ S1032x1024.size a := fun v2427 k0_hw264 => k0_hw264

def k0_off564 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  ![v2435.toNat]
def k0_off565 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let c0_i32_1540 : BitVec 32 := 0#32
  let c0_i32_1541 : BitVec 32 := 0#32
  ![v2435.toNat, 0, 0]
def k0_off566 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2442 : Index := Scalar.indexCast v2435
  let c0_1544 : Index := 0#32
  let c0_1545 : Index := 0#32
  ![v2442.toNat, 0, 0]
def k0_off567 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2449 : Index := Scalar.indexCast v2435
  let c0_1548 : Index := 0#32
  ![v2449.toNat, 0]
def k0_off568 (v2450 : BitVec 32) : Fin 2 → Nat :=
  let v2452 : Index := Scalar.indexCast v2450
  let c0_1551 : Index := 0#32
  ![v2452.toNat, 0]

def k0_chk265 (v2450 : BitVec 32) : Prop :=
  (∀ a, (k0_off568 v2450) a + S1x1024.size a ≤ S1032x1024.size a)
theorem k0_off568_inb : ∀ (v2450 : BitVec 32) (k0_hw265 : k0_chk265 v2450), ∀ a, (k0_off568 v2450) a + S1x1024.size a ≤ S1032x1024.size a := fun v2450 k0_hw265 => k0_hw265

def k0_off569 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2456 : Index := Scalar.indexCast v2435
  let c1_1552 : Index := 1#32
  ![v2456.toNat, 1]
def k0_off570 (v2457 : BitVec 32) : Fin 2 → Nat :=
  let v2459 : Index := Scalar.indexCast v2457
  let c0_1555 : Index := 0#32
  ![v2459.toNat, 0]

def k0_chk266 (v2457 : BitVec 32) : Prop :=
  (∀ a, (k0_off570 v2457) a + S1x1024.size a ≤ S1032x1024.size a)
theorem k0_off570_inb : ∀ (v2457 : BitVec 32) (k0_hw266 : k0_chk266 v2457), ∀ a, (k0_off570 v2457) a + S1x1024.size a ≤ S1032x1024.size a := fun v2457 k0_hw266 => k0_hw266

def k0_off571 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2463 : Index := Scalar.indexCast v2435
  let c2_1556 : Index := 2#32
  ![v2463.toNat, 2]
def k0_off572 (v2464 : BitVec 32) : Fin 2 → Nat :=
  let v2466 : Index := Scalar.indexCast v2464
  let c0_1559 : Index := 0#32
  ![v2466.toNat, 0]

def k0_chk267 (v2464 : BitVec 32) : Prop :=
  (∀ a, (k0_off572 v2464) a + S1x1024.size a ≤ S1032x1024.size a)
theorem k0_off572_inb : ∀ (v2464 : BitVec 32) (k0_hw267 : k0_chk267 v2464), ∀ a, (k0_off572 v2464) a + S1x1024.size a ≤ S1032x1024.size a := fun v2464 k0_hw267 => k0_hw267

def k0_off573 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2470 : Index := Scalar.indexCast v2435
  let c3_1560 : Index := 3#32
  ![v2470.toNat, 3]
def k0_off574 (v2471 : BitVec 32) : Fin 2 → Nat :=
  let v2473 : Index := Scalar.indexCast v2471
  let c0_1563 : Index := 0#32
  ![v2473.toNat, 0]

def k0_chk268 (v2471 : BitVec 32) : Prop :=
  (∀ a, (k0_off574 v2471) a + S1x1024.size a ≤ S1032x1024.size a)
theorem k0_off574_inb : ∀ (v2471 : BitVec 32) (k0_hw268 : k0_chk268 v2471), ∀ a, (k0_off574 v2471) a + S1x1024.size a ≤ S1032x1024.size a := fun v2471 k0_hw268 => k0_hw268

def k0_off575 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2477 : Index := Scalar.indexCast v2435
  let c4_1564 : Index := 4#32
  ![v2477.toNat, 4]
def k0_off576 (v2478 : BitVec 32) : Fin 2 → Nat :=
  let v2480 : Index := Scalar.indexCast v2478
  let c0_1567 : Index := 0#32
  ![v2480.toNat, 0]

def k0_chk269 (v2478 : BitVec 32) : Prop :=
  (∀ a, (k0_off576 v2478) a + S1x1024.size a ≤ S1032x1024.size a)
theorem k0_off576_inb : ∀ (v2478 : BitVec 32) (k0_hw269 : k0_chk269 v2478), ∀ a, (k0_off576 v2478) a + S1x1024.size a ≤ S1032x1024.size a := fun v2478 k0_hw269 => k0_hw269

def k0_off577 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2484 : Index := Scalar.indexCast v2435
  let c5_1568 : Index := 5#32
  ![v2484.toNat, 5]
def k0_off578 (v2485 : BitVec 32) : Fin 2 → Nat :=
  let v2487 : Index := Scalar.indexCast v2485
  let c0_1571 : Index := 0#32
  ![v2487.toNat, 0]

def k0_chk270 (v2485 : BitVec 32) : Prop :=
  (∀ a, (k0_off578 v2485) a + S1x1024.size a ≤ S1032x1024.size a)
theorem k0_off578_inb : ∀ (v2485 : BitVec 32) (k0_hw270 : k0_chk270 v2485), ∀ a, (k0_off578 v2485) a + S1x1024.size a ≤ S1032x1024.size a := fun v2485 k0_hw270 => k0_hw270

def k0_off579 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2491 : Index := Scalar.indexCast v2435
  let c6_1572 : Index := 6#32
  ![v2491.toNat, 6]
def k0_off580 (v2492 : BitVec 32) : Fin 2 → Nat :=
  let v2494 : Index := Scalar.indexCast v2492
  let c0_1575 : Index := 0#32
  ![v2494.toNat, 0]

def k0_chk271 (v2492 : BitVec 32) : Prop :=
  (∀ a, (k0_off580 v2492) a + S1x1024.size a ≤ S1032x1024.size a)
theorem k0_off580_inb : ∀ (v2492 : BitVec 32) (k0_hw271 : k0_chk271 v2492), ∀ a, (k0_off580 v2492) a + S1x1024.size a ≤ S1032x1024.size a := fun v2492 k0_hw271 => k0_hw271

def k0_off581 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2498 : Index := Scalar.indexCast v2435
  let c7_1576 : Index := 7#32
  ![v2498.toNat, 7]
def k0_off582 (v2499 : BitVec 32) : Fin 2 → Nat :=
  let v2501 : Index := Scalar.indexCast v2499
  let c0_1579 : Index := 0#32
  ![v2501.toNat, 0]

def k0_chk272 (v2499 : BitVec 32) : Prop :=
  (∀ a, (k0_off582 v2499) a + S1x1024.size a ≤ S1032x1024.size a)
theorem k0_off582_inb : ∀ (v2499 : BitVec 32) (k0_hw272 : k0_chk272 v2499), ∀ a, (k0_off582 v2499) a + S1x1024.size a ≤ S1032x1024.size a := fun v2499 k0_hw272 => k0_hw272

def k0_off583 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2505 : Index := Scalar.indexCast v2435
  let c8_1580 : Index := 8#32
  ![v2505.toNat, 8]
def k0_off584 (v2506 : BitVec 32) : Fin 2 → Nat :=
  let v2508 : Index := Scalar.indexCast v2506
  let c0_1583 : Index := 0#32
  ![v2508.toNat, 0]

def k0_chk273 (v2506 : BitVec 32) : Prop :=
  (∀ a, (k0_off584 v2506) a + S1x1024.size a ≤ S1032x1024.size a)
theorem k0_off584_inb : ∀ (v2506 : BitVec 32) (k0_hw273 : k0_chk273 v2506), ∀ a, (k0_off584 v2506) a + S1x1024.size a ≤ S1032x1024.size a := fun v2506 k0_hw273 => k0_hw273

def k0_off585 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2512 : Index := Scalar.indexCast v2435
  let c9_1584 : Index := 9#32
  ![v2512.toNat, 9]
def k0_off586 (v2513 : BitVec 32) : Fin 2 → Nat :=
  let v2515 : Index := Scalar.indexCast v2513
  let c0_1587 : Index := 0#32
  ![v2515.toNat, 0]

def k0_chk274 (v2513 : BitVec 32) : Prop :=
  (∀ a, (k0_off586 v2513) a + S1x1024.size a ≤ S1032x1024.size a)
theorem k0_off586_inb : ∀ (v2513 : BitVec 32) (k0_hw274 : k0_chk274 v2513), ∀ a, (k0_off586 v2513) a + S1x1024.size a ≤ S1032x1024.size a := fun v2513 k0_hw274 => k0_hw274

def k0_off587 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2519 : Index := Scalar.indexCast v2435
  let c10_1588 : Index := 10#32
  ![v2519.toNat, 10]
def k0_off588 (v2520 : BitVec 32) : Fin 2 → Nat :=
  let v2522 : Index := Scalar.indexCast v2520
  let c0_1591 : Index := 0#32
  ![v2522.toNat, 0]

def k0_chk275 (v2520 : BitVec 32) : Prop :=
  (∀ a, (k0_off588 v2520) a + S1x1024.size a ≤ S1032x1024.size a)
theorem k0_off588_inb : ∀ (v2520 : BitVec 32) (k0_hw275 : k0_chk275 v2520), ∀ a, (k0_off588 v2520) a + S1x1024.size a ≤ S1032x1024.size a := fun v2520 k0_hw275 => k0_hw275

def k0_off589 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2526 : Index := Scalar.indexCast v2435
  let c11_1592 : Index := 11#32
  ![v2526.toNat, 11]
def k0_off590 (v2527 : BitVec 32) : Fin 2 → Nat :=
  let v2529 : Index := Scalar.indexCast v2527
  let c0_1595 : Index := 0#32
  ![v2529.toNat, 0]

def k0_chk276 (v2527 : BitVec 32) : Prop :=
  (∀ a, (k0_off590 v2527) a + S1x1024.size a ≤ S1032x1024.size a)
theorem k0_off590_inb : ∀ (v2527 : BitVec 32) (k0_hw276 : k0_chk276 v2527), ∀ a, (k0_off590 v2527) a + S1x1024.size a ≤ S1032x1024.size a := fun v2527 k0_hw276 => k0_hw276

def k0_off591 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2533 : Index := Scalar.indexCast v2435
  let c12_1596 : Index := 12#32
  ![v2533.toNat, 12]
def k0_off592 (v2534 : BitVec 32) : Fin 2 → Nat :=
  let v2536 : Index := Scalar.indexCast v2534
  let c0_1599 : Index := 0#32
  ![v2536.toNat, 0]

def k0_chk277 (v2534 : BitVec 32) : Prop :=
  (∀ a, (k0_off592 v2534) a + S1x1024.size a ≤ S1032x1024.size a)
theorem k0_off592_inb : ∀ (v2534 : BitVec 32) (k0_hw277 : k0_chk277 v2534), ∀ a, (k0_off592 v2534) a + S1x1024.size a ≤ S1032x1024.size a := fun v2534 k0_hw277 => k0_hw277

def k0_off593 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2540 : Index := Scalar.indexCast v2435
  let c13_1600 : Index := 13#32
  ![v2540.toNat, 13]
def k0_off594 (v2541 : BitVec 32) : Fin 2 → Nat :=
  let v2543 : Index := Scalar.indexCast v2541
  let c0_1603 : Index := 0#32
  ![v2543.toNat, 0]

def k0_chk278 (v2541 : BitVec 32) : Prop :=
  (∀ a, (k0_off594 v2541) a + S1x1024.size a ≤ S1032x1024.size a)
theorem k0_off594_inb : ∀ (v2541 : BitVec 32) (k0_hw278 : k0_chk278 v2541), ∀ a, (k0_off594 v2541) a + S1x1024.size a ≤ S1032x1024.size a := fun v2541 k0_hw278 => k0_hw278

def k0_off595 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2547 : Index := Scalar.indexCast v2435
  let c14_1604 : Index := 14#32
  ![v2547.toNat, 14]
def k0_off596 (v2548 : BitVec 32) : Fin 2 → Nat :=
  let v2550 : Index := Scalar.indexCast v2548
  let c0_1607 : Index := 0#32
  ![v2550.toNat, 0]

def k0_chk279 (v2548 : BitVec 32) : Prop :=
  (∀ a, (k0_off596 v2548) a + S1x1024.size a ≤ S1032x1024.size a)
theorem k0_off596_inb : ∀ (v2548 : BitVec 32) (k0_hw279 : k0_chk279 v2548), ∀ a, (k0_off596 v2548) a + S1x1024.size a ≤ S1032x1024.size a := fun v2548 k0_hw279 => k0_hw279

def k0_off597 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2554 : Index := Scalar.indexCast v2435
  let c15_1608 : Index := 15#32
  ![v2554.toNat, 15]
def k0_off598 (v2555 : BitVec 32) : Fin 2 → Nat :=
  let v2557 : Index := Scalar.indexCast v2555
  let c0_1611 : Index := 0#32
  ![v2557.toNat, 0]

def k0_chk280 (v2555 : BitVec 32) : Prop :=
  (∀ a, (k0_off598 v2555) a + S1x1024.size a ≤ S1032x1024.size a)
theorem k0_off598_inb : ∀ (v2555 : BitVec 32) (k0_hw280 : k0_chk280 v2555), ∀ a, (k0_off598 v2555) a + S1x1024.size a ≤ S1032x1024.size a := fun v2555 k0_hw280 => k0_hw280

def k0_off599 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2561 : Index := Scalar.indexCast v2435
  let c16_1612 : Index := 16#32
  ![v2561.toNat, 16]
def k0_off600 (v2562 : BitVec 32) : Fin 2 → Nat :=
  let v2564 : Index := Scalar.indexCast v2562
  let c0_1615 : Index := 0#32
  ![v2564.toNat, 0]

def k0_chk281 (v2562 : BitVec 32) : Prop :=
  (∀ a, (k0_off600 v2562) a + S1x1024.size a ≤ S1032x1024.size a)
theorem k0_off600_inb : ∀ (v2562 : BitVec 32) (k0_hw281 : k0_chk281 v2562), ∀ a, (k0_off600 v2562) a + S1x1024.size a ≤ S1032x1024.size a := fun v2562 k0_hw281 => k0_hw281

def k0_off601 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2568 : Index := Scalar.indexCast v2435
  let c17_1616 : Index := 17#32
  ![v2568.toNat, 17]
def k0_off602 (v2569 : BitVec 32) : Fin 2 → Nat :=
  let v2571 : Index := Scalar.indexCast v2569
  let c0_1619 : Index := 0#32
  ![v2571.toNat, 0]

def k0_chk282 (v2569 : BitVec 32) : Prop :=
  (∀ a, (k0_off602 v2569) a + S1x1024.size a ≤ S1032x1024.size a)
theorem k0_off602_inb : ∀ (v2569 : BitVec 32) (k0_hw282 : k0_chk282 v2569), ∀ a, (k0_off602 v2569) a + S1x1024.size a ≤ S1032x1024.size a := fun v2569 k0_hw282 => k0_hw282

def k0_off603 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2575 : Index := Scalar.indexCast v2435
  let c18_1620 : Index := 18#32
  ![v2575.toNat, 18]
def k0_off604 (v2576 : BitVec 32) : Fin 2 → Nat :=
  let v2578 : Index := Scalar.indexCast v2576
  let c0_1623 : Index := 0#32
  ![v2578.toNat, 0]

def k0_chk283 (v2576 : BitVec 32) : Prop :=
  (∀ a, (k0_off604 v2576) a + S1x1024.size a ≤ S1032x1024.size a)
theorem k0_off604_inb : ∀ (v2576 : BitVec 32) (k0_hw283 : k0_chk283 v2576), ∀ a, (k0_off604 v2576) a + S1x1024.size a ≤ S1032x1024.size a := fun v2576 k0_hw283 => k0_hw283

def k0_off605 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2582 : Index := Scalar.indexCast v2435
  let c19_1624 : Index := 19#32
  ![v2582.toNat, 19]
def k0_off606 (v2583 : BitVec 32) : Fin 2 → Nat :=
  let v2585 : Index := Scalar.indexCast v2583
  let c0_1627 : Index := 0#32
  ![v2585.toNat, 0]

def k0_chk284 (v2583 : BitVec 32) : Prop :=
  (∀ a, (k0_off606 v2583) a + S1x1024.size a ≤ S1032x1024.size a)
theorem k0_off606_inb : ∀ (v2583 : BitVec 32) (k0_hw284 : k0_chk284 v2583), ∀ a, (k0_off606 v2583) a + S1x1024.size a ≤ S1032x1024.size a := fun v2583 k0_hw284 => k0_hw284

def k0_off607 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2589 : Index := Scalar.indexCast v2435
  let c20_1628 : Index := 20#32
  ![v2589.toNat, 20]
def k0_off608 (v2590 : BitVec 32) : Fin 2 → Nat :=
  let v2592 : Index := Scalar.indexCast v2590
  let c0_1631 : Index := 0#32
  ![v2592.toNat, 0]

def k0_chk285 (v2590 : BitVec 32) : Prop :=
  (∀ a, (k0_off608 v2590) a + S1x1024.size a ≤ S1032x1024.size a)
theorem k0_off608_inb : ∀ (v2590 : BitVec 32) (k0_hw285 : k0_chk285 v2590), ∀ a, (k0_off608 v2590) a + S1x1024.size a ≤ S1032x1024.size a := fun v2590 k0_hw285 => k0_hw285

def k0_off609 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2596 : Index := Scalar.indexCast v2435
  let c21_1632 : Index := 21#32
  ![v2596.toNat, 21]
def k0_off610 (v2597 : BitVec 32) : Fin 2 → Nat :=
  let v2599 : Index := Scalar.indexCast v2597
  let c0_1635 : Index := 0#32
  ![v2599.toNat, 0]

def k0_chk286 (v2597 : BitVec 32) : Prop :=
  (∀ a, (k0_off610 v2597) a + S1x1024.size a ≤ S1032x1024.size a)
theorem k0_off610_inb : ∀ (v2597 : BitVec 32) (k0_hw286 : k0_chk286 v2597), ∀ a, (k0_off610 v2597) a + S1x1024.size a ≤ S1032x1024.size a := fun v2597 k0_hw286 => k0_hw286

def k0_off611 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2603 : Index := Scalar.indexCast v2435
  let c22_1636 : Index := 22#32
  ![v2603.toNat, 22]
def k0_off612 (v2604 : BitVec 32) : Fin 2 → Nat :=
  let v2606 : Index := Scalar.indexCast v2604
  let c0_1639 : Index := 0#32
  ![v2606.toNat, 0]

def k0_chk287 (v2604 : BitVec 32) : Prop :=
  (∀ a, (k0_off612 v2604) a + S1x1024.size a ≤ S1032x1024.size a)
theorem k0_off612_inb : ∀ (v2604 : BitVec 32) (k0_hw287 : k0_chk287 v2604), ∀ a, (k0_off612 v2604) a + S1x1024.size a ≤ S1032x1024.size a := fun v2604 k0_hw287 => k0_hw287

def k0_off613 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1535 : BitVec 32 := 10#32
  let v2433 : BitVec 32 := Scalar.subi v2 c10_i32_1535
  let c32_i32_1536 : BitVec 32 := 32#32
  let v2434 : BitVec 32 := Scalar.addi v2433 c32_i32_1536
  let c32_i32_1537 : BitVec 32 := 32#32
  let v2435 : BitVec 32 := Scalar.remsi v2434 c32_i32_1537
  let v2610 : Index := Scalar.indexCast v2435
  let c23_1640 : Index := 23#32
  ![v2610.toNat, 23]
def k0_off614 (v2611 : BitVec 32) : Fin 2 → Nat :=
  let v2613 : Index := Scalar.indexCast v2611
  let c0_1643 : Index := 0#32
  ![v2613.toNat, 0]

def k0_chk288 (v2611 : BitVec 32) : Prop :=
  (∀ a, (k0_off614 v2611) a + S1x1024.size a ≤ S1032x1024.size a)
theorem k0_off614_inb : ∀ (v2611 : BitVec 32) (k0_hw288 : k0_chk288 v2611), ∀ a, (k0_off614 v2611) a + S1x1024.size a ≤ S1032x1024.size a := fun v2611 k0_hw288 => k0_hw288

def k0_off615 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  ![v2619.toNat]
def k0_off616 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let c0_i32_1649 : BitVec 32 := 0#32
  let c0_i32_1650 : BitVec 32 := 0#32
  ![v2619.toNat, 0, 0]
def k0_off617 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2626 : Index := Scalar.indexCast v2619
  let c0_1653 : Index := 0#32
  let c0_1654 : Index := 0#32
  ![v2626.toNat, 0, 0]
def k0_off618 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2633 : Index := Scalar.indexCast v2619
  let c0_1657 : Index := 0#32
  ![v2633.toNat, 0]
def k0_off619 (v2634 : BitVec 32) : Fin 2 → Nat :=
  let v2636 : Index := Scalar.indexCast v2634
  let c0_1660 : Index := 0#32
  ![v2636.toNat, 0]

def k0_chk289 (v2634 : BitVec 32) : Prop :=
  (∀ a, (k0_off619 v2634) a + S1x1024.size a ≤ S1032x1024.size a)
theorem k0_off619_inb : ∀ (v2634 : BitVec 32) (k0_hw289 : k0_chk289 v2634), ∀ a, (k0_off619 v2634) a + S1x1024.size a ≤ S1032x1024.size a := fun v2634 k0_hw289 => k0_hw289

def k0_off620 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2640 : Index := Scalar.indexCast v2619
  let c1_1661 : Index := 1#32
  ![v2640.toNat, 1]
def k0_off621 (v2641 : BitVec 32) : Fin 2 → Nat :=
  let v2643 : Index := Scalar.indexCast v2641
  let c0_1664 : Index := 0#32
  ![v2643.toNat, 0]

def k0_chk290 (v2641 : BitVec 32) : Prop :=
  (∀ a, (k0_off621 v2641) a + S1x1024.size a ≤ S1032x1024.size a)
theorem k0_off621_inb : ∀ (v2641 : BitVec 32) (k0_hw290 : k0_chk290 v2641), ∀ a, (k0_off621 v2641) a + S1x1024.size a ≤ S1032x1024.size a := fun v2641 k0_hw290 => k0_hw290

def k0_off622 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2647 : Index := Scalar.indexCast v2619
  let c2_1665 : Index := 2#32
  ![v2647.toNat, 2]
def k0_off623 (v2648 : BitVec 32) : Fin 2 → Nat :=
  let v2650 : Index := Scalar.indexCast v2648
  let c0_1668 : Index := 0#32
  ![v2650.toNat, 0]

def k0_chk291 (v2648 : BitVec 32) : Prop :=
  (∀ a, (k0_off623 v2648) a + S1x1024.size a ≤ S1032x1024.size a)
theorem k0_off623_inb : ∀ (v2648 : BitVec 32) (k0_hw291 : k0_chk291 v2648), ∀ a, (k0_off623 v2648) a + S1x1024.size a ≤ S1032x1024.size a := fun v2648 k0_hw291 => k0_hw291

def k0_off624 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2654 : Index := Scalar.indexCast v2619
  let c3_1669 : Index := 3#32
  ![v2654.toNat, 3]
def k0_off625 (v2655 : BitVec 32) : Fin 2 → Nat :=
  let v2657 : Index := Scalar.indexCast v2655
  let c0_1672 : Index := 0#32
  ![v2657.toNat, 0]

def k0_chk292 (v2655 : BitVec 32) : Prop :=
  (∀ a, (k0_off625 v2655) a + S1x1024.size a ≤ S1032x1024.size a)
theorem k0_off625_inb : ∀ (v2655 : BitVec 32) (k0_hw292 : k0_chk292 v2655), ∀ a, (k0_off625 v2655) a + S1x1024.size a ≤ S1032x1024.size a := fun v2655 k0_hw292 => k0_hw292

def k0_off626 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2661 : Index := Scalar.indexCast v2619
  let c4_1673 : Index := 4#32
  ![v2661.toNat, 4]
def k0_off627 (v2662 : BitVec 32) : Fin 2 → Nat :=
  let v2664 : Index := Scalar.indexCast v2662
  let c0_1676 : Index := 0#32
  ![v2664.toNat, 0]

def k0_chk293 (v2662 : BitVec 32) : Prop :=
  (∀ a, (k0_off627 v2662) a + S1x1024.size a ≤ S1032x1024.size a)
theorem k0_off627_inb : ∀ (v2662 : BitVec 32) (k0_hw293 : k0_chk293 v2662), ∀ a, (k0_off627 v2662) a + S1x1024.size a ≤ S1032x1024.size a := fun v2662 k0_hw293 => k0_hw293

def k0_off628 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2668 : Index := Scalar.indexCast v2619
  let c5_1677 : Index := 5#32
  ![v2668.toNat, 5]
def k0_off629 (v2669 : BitVec 32) : Fin 2 → Nat :=
  let v2671 : Index := Scalar.indexCast v2669
  let c0_1680 : Index := 0#32
  ![v2671.toNat, 0]

def k0_chk294 (v2669 : BitVec 32) : Prop :=
  (∀ a, (k0_off629 v2669) a + S1x1024.size a ≤ S1032x1024.size a)
theorem k0_off629_inb : ∀ (v2669 : BitVec 32) (k0_hw294 : k0_chk294 v2669), ∀ a, (k0_off629 v2669) a + S1x1024.size a ≤ S1032x1024.size a := fun v2669 k0_hw294 => k0_hw294

def k0_off630 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2675 : Index := Scalar.indexCast v2619
  let c6_1681 : Index := 6#32
  ![v2675.toNat, 6]
def k0_off631 (v2676 : BitVec 32) : Fin 2 → Nat :=
  let v2678 : Index := Scalar.indexCast v2676
  let c0_1684 : Index := 0#32
  ![v2678.toNat, 0]

def k0_chk295 (v2676 : BitVec 32) : Prop :=
  (∀ a, (k0_off631 v2676) a + S1x1024.size a ≤ S1032x1024.size a)
theorem k0_off631_inb : ∀ (v2676 : BitVec 32) (k0_hw295 : k0_chk295 v2676), ∀ a, (k0_off631 v2676) a + S1x1024.size a ≤ S1032x1024.size a := fun v2676 k0_hw295 => k0_hw295

def k0_off632 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2682 : Index := Scalar.indexCast v2619
  let c7_1685 : Index := 7#32
  ![v2682.toNat, 7]
def k0_off633 (v2683 : BitVec 32) : Fin 2 → Nat :=
  let v2685 : Index := Scalar.indexCast v2683
  let c0_1688 : Index := 0#32
  ![v2685.toNat, 0]

def k0_chk296 (v2683 : BitVec 32) : Prop :=
  (∀ a, (k0_off633 v2683) a + S1x1024.size a ≤ S1032x1024.size a)
theorem k0_off633_inb : ∀ (v2683 : BitVec 32) (k0_hw296 : k0_chk296 v2683), ∀ a, (k0_off633 v2683) a + S1x1024.size a ≤ S1032x1024.size a := fun v2683 k0_hw296 => k0_hw296

def k0_off634 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2689 : Index := Scalar.indexCast v2619
  let c8_1689 : Index := 8#32
  ![v2689.toNat, 8]
def k0_off635 (v2690 : BitVec 32) : Fin 2 → Nat :=
  let v2692 : Index := Scalar.indexCast v2690
  let c0_1692 : Index := 0#32
  ![v2692.toNat, 0]

def k0_chk297 (v2690 : BitVec 32) : Prop :=
  (∀ a, (k0_off635 v2690) a + S1x1024.size a ≤ S1032x1024.size a)
theorem k0_off635_inb : ∀ (v2690 : BitVec 32) (k0_hw297 : k0_chk297 v2690), ∀ a, (k0_off635 v2690) a + S1x1024.size a ≤ S1032x1024.size a := fun v2690 k0_hw297 => k0_hw297

def k0_off636 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2696 : Index := Scalar.indexCast v2619
  let c9_1693 : Index := 9#32
  ![v2696.toNat, 9]
def k0_off637 (v2697 : BitVec 32) : Fin 2 → Nat :=
  let v2699 : Index := Scalar.indexCast v2697
  let c0_1696 : Index := 0#32
  ![v2699.toNat, 0]

def k0_chk298 (v2697 : BitVec 32) : Prop :=
  (∀ a, (k0_off637 v2697) a + S1x1024.size a ≤ S1032x1024.size a)
theorem k0_off637_inb : ∀ (v2697 : BitVec 32) (k0_hw298 : k0_chk298 v2697), ∀ a, (k0_off637 v2697) a + S1x1024.size a ≤ S1032x1024.size a := fun v2697 k0_hw298 => k0_hw298

def k0_off638 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2703 : Index := Scalar.indexCast v2619
  let c10_1697 : Index := 10#32
  ![v2703.toNat, 10]
def k0_off639 (v2704 : BitVec 32) : Fin 2 → Nat :=
  let v2706 : Index := Scalar.indexCast v2704
  let c0_1700 : Index := 0#32
  ![v2706.toNat, 0]

def k0_chk299 (v2704 : BitVec 32) : Prop :=
  (∀ a, (k0_off639 v2704) a + S1x1024.size a ≤ S1032x1024.size a)
theorem k0_off639_inb : ∀ (v2704 : BitVec 32) (k0_hw299 : k0_chk299 v2704), ∀ a, (k0_off639 v2704) a + S1x1024.size a ≤ S1032x1024.size a := fun v2704 k0_hw299 => k0_hw299

def k0_off640 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2710 : Index := Scalar.indexCast v2619
  let c11_1701 : Index := 11#32
  ![v2710.toNat, 11]
def k0_off641 (v2711 : BitVec 32) : Fin 2 → Nat :=
  let v2713 : Index := Scalar.indexCast v2711
  let c0_1704 : Index := 0#32
  ![v2713.toNat, 0]

def k0_chk300 (v2711 : BitVec 32) : Prop :=
  (∀ a, (k0_off641 v2711) a + S1x1024.size a ≤ S1032x1024.size a)
theorem k0_off641_inb : ∀ (v2711 : BitVec 32) (k0_hw300 : k0_chk300 v2711), ∀ a, (k0_off641 v2711) a + S1x1024.size a ≤ S1032x1024.size a := fun v2711 k0_hw300 => k0_hw300

def k0_off642 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2717 : Index := Scalar.indexCast v2619
  let c12_1705 : Index := 12#32
  ![v2717.toNat, 12]
def k0_off643 (v2718 : BitVec 32) : Fin 2 → Nat :=
  let v2720 : Index := Scalar.indexCast v2718
  let c0_1708 : Index := 0#32
  ![v2720.toNat, 0]

def k0_chk301 (v2718 : BitVec 32) : Prop :=
  (∀ a, (k0_off643 v2718) a + S1x1024.size a ≤ S1032x1024.size a)
theorem k0_off643_inb : ∀ (v2718 : BitVec 32) (k0_hw301 : k0_chk301 v2718), ∀ a, (k0_off643 v2718) a + S1x1024.size a ≤ S1032x1024.size a := fun v2718 k0_hw301 => k0_hw301

def k0_off644 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2724 : Index := Scalar.indexCast v2619
  let c13_1709 : Index := 13#32
  ![v2724.toNat, 13]
def k0_off645 (v2725 : BitVec 32) : Fin 2 → Nat :=
  let v2727 : Index := Scalar.indexCast v2725
  let c0_1712 : Index := 0#32
  ![v2727.toNat, 0]

def k0_chk302 (v2725 : BitVec 32) : Prop :=
  (∀ a, (k0_off645 v2725) a + S1x1024.size a ≤ S1032x1024.size a)
theorem k0_off645_inb : ∀ (v2725 : BitVec 32) (k0_hw302 : k0_chk302 v2725), ∀ a, (k0_off645 v2725) a + S1x1024.size a ≤ S1032x1024.size a := fun v2725 k0_hw302 => k0_hw302

def k0_off646 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2731 : Index := Scalar.indexCast v2619
  let c14_1713 : Index := 14#32
  ![v2731.toNat, 14]
def k0_off647 (v2732 : BitVec 32) : Fin 2 → Nat :=
  let v2734 : Index := Scalar.indexCast v2732
  let c0_1716 : Index := 0#32
  ![v2734.toNat, 0]

def k0_chk303 (v2732 : BitVec 32) : Prop :=
  (∀ a, (k0_off647 v2732) a + S1x1024.size a ≤ S1032x1024.size a)
theorem k0_off647_inb : ∀ (v2732 : BitVec 32) (k0_hw303 : k0_chk303 v2732), ∀ a, (k0_off647 v2732) a + S1x1024.size a ≤ S1032x1024.size a := fun v2732 k0_hw303 => k0_hw303

def k0_off648 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2738 : Index := Scalar.indexCast v2619
  let c15_1717 : Index := 15#32
  ![v2738.toNat, 15]
def k0_off649 (v2739 : BitVec 32) : Fin 2 → Nat :=
  let v2741 : Index := Scalar.indexCast v2739
  let c0_1720 : Index := 0#32
  ![v2741.toNat, 0]

def k0_chk304 (v2739 : BitVec 32) : Prop :=
  (∀ a, (k0_off649 v2739) a + S1x1024.size a ≤ S1032x1024.size a)
theorem k0_off649_inb : ∀ (v2739 : BitVec 32) (k0_hw304 : k0_chk304 v2739), ∀ a, (k0_off649 v2739) a + S1x1024.size a ≤ S1032x1024.size a := fun v2739 k0_hw304 => k0_hw304

def k0_off650 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2745 : Index := Scalar.indexCast v2619
  let c16_1721 : Index := 16#32
  ![v2745.toNat, 16]
def k0_off651 (v2746 : BitVec 32) : Fin 2 → Nat :=
  let v2748 : Index := Scalar.indexCast v2746
  let c0_1724 : Index := 0#32
  ![v2748.toNat, 0]

def k0_chk305 (v2746 : BitVec 32) : Prop :=
  (∀ a, (k0_off651 v2746) a + S1x1024.size a ≤ S1032x1024.size a)
theorem k0_off651_inb : ∀ (v2746 : BitVec 32) (k0_hw305 : k0_chk305 v2746), ∀ a, (k0_off651 v2746) a + S1x1024.size a ≤ S1032x1024.size a := fun v2746 k0_hw305 => k0_hw305

def k0_off652 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2752 : Index := Scalar.indexCast v2619
  let c17_1725 : Index := 17#32
  ![v2752.toNat, 17]
def k0_off653 (v2753 : BitVec 32) : Fin 2 → Nat :=
  let v2755 : Index := Scalar.indexCast v2753
  let c0_1728 : Index := 0#32
  ![v2755.toNat, 0]

def k0_chk306 (v2753 : BitVec 32) : Prop :=
  (∀ a, (k0_off653 v2753) a + S1x1024.size a ≤ S1032x1024.size a)
theorem k0_off653_inb : ∀ (v2753 : BitVec 32) (k0_hw306 : k0_chk306 v2753), ∀ a, (k0_off653 v2753) a + S1x1024.size a ≤ S1032x1024.size a := fun v2753 k0_hw306 => k0_hw306

def k0_off654 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2759 : Index := Scalar.indexCast v2619
  let c18_1729 : Index := 18#32
  ![v2759.toNat, 18]
def k0_off655 (v2760 : BitVec 32) : Fin 2 → Nat :=
  let v2762 : Index := Scalar.indexCast v2760
  let c0_1732 : Index := 0#32
  ![v2762.toNat, 0]

def k0_chk307 (v2760 : BitVec 32) : Prop :=
  (∀ a, (k0_off655 v2760) a + S1x1024.size a ≤ S1032x1024.size a)
theorem k0_off655_inb : ∀ (v2760 : BitVec 32) (k0_hw307 : k0_chk307 v2760), ∀ a, (k0_off655 v2760) a + S1x1024.size a ≤ S1032x1024.size a := fun v2760 k0_hw307 => k0_hw307

def k0_off656 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2766 : Index := Scalar.indexCast v2619
  let c19_1733 : Index := 19#32
  ![v2766.toNat, 19]
def k0_off657 (v2767 : BitVec 32) : Fin 2 → Nat :=
  let v2769 : Index := Scalar.indexCast v2767
  let c0_1736 : Index := 0#32
  ![v2769.toNat, 0]

def k0_chk308 (v2767 : BitVec 32) : Prop :=
  (∀ a, (k0_off657 v2767) a + S1x1024.size a ≤ S1032x1024.size a)
theorem k0_off657_inb : ∀ (v2767 : BitVec 32) (k0_hw308 : k0_chk308 v2767), ∀ a, (k0_off657 v2767) a + S1x1024.size a ≤ S1032x1024.size a := fun v2767 k0_hw308 => k0_hw308

def k0_off658 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2773 : Index := Scalar.indexCast v2619
  let c20_1737 : Index := 20#32
  ![v2773.toNat, 20]
def k0_off659 (v2774 : BitVec 32) : Fin 2 → Nat :=
  let v2776 : Index := Scalar.indexCast v2774
  let c0_1740 : Index := 0#32
  ![v2776.toNat, 0]

def k0_chk309 (v2774 : BitVec 32) : Prop :=
  (∀ a, (k0_off659 v2774) a + S1x1024.size a ≤ S1032x1024.size a)
theorem k0_off659_inb : ∀ (v2774 : BitVec 32) (k0_hw309 : k0_chk309 v2774), ∀ a, (k0_off659 v2774) a + S1x1024.size a ≤ S1032x1024.size a := fun v2774 k0_hw309 => k0_hw309

def k0_off660 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2780 : Index := Scalar.indexCast v2619
  let c21_1741 : Index := 21#32
  ![v2780.toNat, 21]
def k0_off661 (v2781 : BitVec 32) : Fin 2 → Nat :=
  let v2783 : Index := Scalar.indexCast v2781
  let c0_1744 : Index := 0#32
  ![v2783.toNat, 0]

def k0_chk310 (v2781 : BitVec 32) : Prop :=
  (∀ a, (k0_off661 v2781) a + S1x1024.size a ≤ S1032x1024.size a)
theorem k0_off661_inb : ∀ (v2781 : BitVec 32) (k0_hw310 : k0_chk310 v2781), ∀ a, (k0_off661 v2781) a + S1x1024.size a ≤ S1032x1024.size a := fun v2781 k0_hw310 => k0_hw310

def k0_off662 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2787 : Index := Scalar.indexCast v2619
  let c22_1745 : Index := 22#32
  ![v2787.toNat, 22]
def k0_off663 (v2788 : BitVec 32) : Fin 2 → Nat :=
  let v2790 : Index := Scalar.indexCast v2788
  let c0_1748 : Index := 0#32
  ![v2790.toNat, 0]

def k0_chk311 (v2788 : BitVec 32) : Prop :=
  (∀ a, (k0_off663 v2788) a + S1x1024.size a ≤ S1032x1024.size a)
theorem k0_off663_inb : ∀ (v2788 : BitVec 32) (k0_hw311 : k0_chk311 v2788), ∀ a, (k0_off663 v2788) a + S1x1024.size a ≤ S1032x1024.size a := fun v2788 k0_hw311 => k0_hw311

def k0_off664 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1644 : BitVec 32 := 11#32
  let v2617 : BitVec 32 := Scalar.subi v2 c11_i32_1644
  let c32_i32_1645 : BitVec 32 := 32#32
  let v2618 : BitVec 32 := Scalar.addi v2617 c32_i32_1645
  let c32_i32_1646 : BitVec 32 := 32#32
  let v2619 : BitVec 32 := Scalar.remsi v2618 c32_i32_1646
  let v2794 : Index := Scalar.indexCast v2619
  let c23_1749 : Index := 23#32
  ![v2794.toNat, 23]
def k0_off665 (v2795 : BitVec 32) : Fin 2 → Nat :=
  let v2797 : Index := Scalar.indexCast v2795
  let c0_1752 : Index := 0#32
  ![v2797.toNat, 0]

def k0_chk312 (v2795 : BitVec 32) : Prop :=
  (∀ a, (k0_off665 v2795) a + S1x1024.size a ≤ S1032x1024.size a)
theorem k0_off665_inb : ∀ (v2795 : BitVec 32) (k0_hw312 : k0_chk312 v2795), ∀ a, (k0_off665 v2795) a + S1x1024.size a ≤ S1032x1024.size a := fun v2795 k0_hw312 => k0_hw312

def k0_off666 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  ![v2803.toNat]
def k0_off667 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let c0_i32_1758 : BitVec 32 := 0#32
  let c0_i32_1759 : BitVec 32 := 0#32
  ![v2803.toNat, 0, 0]
def k0_off668 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2810 : Index := Scalar.indexCast v2803
  let c0_1762 : Index := 0#32
  let c0_1763 : Index := 0#32
  ![v2810.toNat, 0, 0]
def k0_off669 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2817 : Index := Scalar.indexCast v2803
  let c0_1766 : Index := 0#32
  ![v2817.toNat, 0]
def k0_off670 (v2818 : BitVec 32) : Fin 2 → Nat :=
  let v2820 : Index := Scalar.indexCast v2818
  let c0_1769 : Index := 0#32
  ![v2820.toNat, 0]

def k0_chk313 (v2818 : BitVec 32) : Prop :=
  (∀ a, (k0_off670 v2818) a + S1x1024.size a ≤ S1032x1024.size a)
theorem k0_off670_inb : ∀ (v2818 : BitVec 32) (k0_hw313 : k0_chk313 v2818), ∀ a, (k0_off670 v2818) a + S1x1024.size a ≤ S1032x1024.size a := fun v2818 k0_hw313 => k0_hw313

def k0_off671 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2824 : Index := Scalar.indexCast v2803
  let c1_1770 : Index := 1#32
  ![v2824.toNat, 1]
def k0_off672 (v2825 : BitVec 32) : Fin 2 → Nat :=
  let v2827 : Index := Scalar.indexCast v2825
  let c0_1773 : Index := 0#32
  ![v2827.toNat, 0]

def k0_chk314 (v2825 : BitVec 32) : Prop :=
  (∀ a, (k0_off672 v2825) a + S1x1024.size a ≤ S1032x1024.size a)
theorem k0_off672_inb : ∀ (v2825 : BitVec 32) (k0_hw314 : k0_chk314 v2825), ∀ a, (k0_off672 v2825) a + S1x1024.size a ≤ S1032x1024.size a := fun v2825 k0_hw314 => k0_hw314

def k0_off673 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2831 : Index := Scalar.indexCast v2803
  let c2_1774 : Index := 2#32
  ![v2831.toNat, 2]
def k0_off674 (v2832 : BitVec 32) : Fin 2 → Nat :=
  let v2834 : Index := Scalar.indexCast v2832
  let c0_1777 : Index := 0#32
  ![v2834.toNat, 0]

def k0_chk315 (v2832 : BitVec 32) : Prop :=
  (∀ a, (k0_off674 v2832) a + S1x1024.size a ≤ S1032x1024.size a)
theorem k0_off674_inb : ∀ (v2832 : BitVec 32) (k0_hw315 : k0_chk315 v2832), ∀ a, (k0_off674 v2832) a + S1x1024.size a ≤ S1032x1024.size a := fun v2832 k0_hw315 => k0_hw315

def k0_off675 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2838 : Index := Scalar.indexCast v2803
  let c3_1778 : Index := 3#32
  ![v2838.toNat, 3]
def k0_off676 (v2839 : BitVec 32) : Fin 2 → Nat :=
  let v2841 : Index := Scalar.indexCast v2839
  let c0_1781 : Index := 0#32
  ![v2841.toNat, 0]

def k0_chk316 (v2839 : BitVec 32) : Prop :=
  (∀ a, (k0_off676 v2839) a + S1x1024.size a ≤ S1032x1024.size a)
theorem k0_off676_inb : ∀ (v2839 : BitVec 32) (k0_hw316 : k0_chk316 v2839), ∀ a, (k0_off676 v2839) a + S1x1024.size a ≤ S1032x1024.size a := fun v2839 k0_hw316 => k0_hw316

def k0_off677 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2845 : Index := Scalar.indexCast v2803
  let c4_1782 : Index := 4#32
  ![v2845.toNat, 4]
def k0_off678 (v2846 : BitVec 32) : Fin 2 → Nat :=
  let v2848 : Index := Scalar.indexCast v2846
  let c0_1785 : Index := 0#32
  ![v2848.toNat, 0]

def k0_chk317 (v2846 : BitVec 32) : Prop :=
  (∀ a, (k0_off678 v2846) a + S1x1024.size a ≤ S1032x1024.size a)
theorem k0_off678_inb : ∀ (v2846 : BitVec 32) (k0_hw317 : k0_chk317 v2846), ∀ a, (k0_off678 v2846) a + S1x1024.size a ≤ S1032x1024.size a := fun v2846 k0_hw317 => k0_hw317

def k0_off679 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2852 : Index := Scalar.indexCast v2803
  let c5_1786 : Index := 5#32
  ![v2852.toNat, 5]
def k0_off680 (v2853 : BitVec 32) : Fin 2 → Nat :=
  let v2855 : Index := Scalar.indexCast v2853
  let c0_1789 : Index := 0#32
  ![v2855.toNat, 0]

def k0_chk318 (v2853 : BitVec 32) : Prop :=
  (∀ a, (k0_off680 v2853) a + S1x1024.size a ≤ S1032x1024.size a)
theorem k0_off680_inb : ∀ (v2853 : BitVec 32) (k0_hw318 : k0_chk318 v2853), ∀ a, (k0_off680 v2853) a + S1x1024.size a ≤ S1032x1024.size a := fun v2853 k0_hw318 => k0_hw318

def k0_off681 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2859 : Index := Scalar.indexCast v2803
  let c6_1790 : Index := 6#32
  ![v2859.toNat, 6]
def k0_off682 (v2860 : BitVec 32) : Fin 2 → Nat :=
  let v2862 : Index := Scalar.indexCast v2860
  let c0_1793 : Index := 0#32
  ![v2862.toNat, 0]

def k0_chk319 (v2860 : BitVec 32) : Prop :=
  (∀ a, (k0_off682 v2860) a + S1x1024.size a ≤ S1032x1024.size a)
theorem k0_off682_inb : ∀ (v2860 : BitVec 32) (k0_hw319 : k0_chk319 v2860), ∀ a, (k0_off682 v2860) a + S1x1024.size a ≤ S1032x1024.size a := fun v2860 k0_hw319 => k0_hw319

def k0_off683 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2866 : Index := Scalar.indexCast v2803
  let c7_1794 : Index := 7#32
  ![v2866.toNat, 7]
def k0_off684 (v2867 : BitVec 32) : Fin 2 → Nat :=
  let v2869 : Index := Scalar.indexCast v2867
  let c0_1797 : Index := 0#32
  ![v2869.toNat, 0]

def k0_chk320 (v2867 : BitVec 32) : Prop :=
  (∀ a, (k0_off684 v2867) a + S1x1024.size a ≤ S1032x1024.size a)
theorem k0_off684_inb : ∀ (v2867 : BitVec 32) (k0_hw320 : k0_chk320 v2867), ∀ a, (k0_off684 v2867) a + S1x1024.size a ≤ S1032x1024.size a := fun v2867 k0_hw320 => k0_hw320

def k0_off685 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2873 : Index := Scalar.indexCast v2803
  let c8_1798 : Index := 8#32
  ![v2873.toNat, 8]
def k0_off686 (v2874 : BitVec 32) : Fin 2 → Nat :=
  let v2876 : Index := Scalar.indexCast v2874
  let c0_1801 : Index := 0#32
  ![v2876.toNat, 0]

def k0_chk321 (v2874 : BitVec 32) : Prop :=
  (∀ a, (k0_off686 v2874) a + S1x1024.size a ≤ S1032x1024.size a)
theorem k0_off686_inb : ∀ (v2874 : BitVec 32) (k0_hw321 : k0_chk321 v2874), ∀ a, (k0_off686 v2874) a + S1x1024.size a ≤ S1032x1024.size a := fun v2874 k0_hw321 => k0_hw321

def k0_off687 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2880 : Index := Scalar.indexCast v2803
  let c9_1802 : Index := 9#32
  ![v2880.toNat, 9]
def k0_off688 (v2881 : BitVec 32) : Fin 2 → Nat :=
  let v2883 : Index := Scalar.indexCast v2881
  let c0_1805 : Index := 0#32
  ![v2883.toNat, 0]

def k0_chk322 (v2881 : BitVec 32) : Prop :=
  (∀ a, (k0_off688 v2881) a + S1x1024.size a ≤ S1032x1024.size a)
theorem k0_off688_inb : ∀ (v2881 : BitVec 32) (k0_hw322 : k0_chk322 v2881), ∀ a, (k0_off688 v2881) a + S1x1024.size a ≤ S1032x1024.size a := fun v2881 k0_hw322 => k0_hw322

def k0_off689 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2887 : Index := Scalar.indexCast v2803
  let c10_1806 : Index := 10#32
  ![v2887.toNat, 10]
def k0_off690 (v2888 : BitVec 32) : Fin 2 → Nat :=
  let v2890 : Index := Scalar.indexCast v2888
  let c0_1809 : Index := 0#32
  ![v2890.toNat, 0]

def k0_chk323 (v2888 : BitVec 32) : Prop :=
  (∀ a, (k0_off690 v2888) a + S1x1024.size a ≤ S1032x1024.size a)
theorem k0_off690_inb : ∀ (v2888 : BitVec 32) (k0_hw323 : k0_chk323 v2888), ∀ a, (k0_off690 v2888) a + S1x1024.size a ≤ S1032x1024.size a := fun v2888 k0_hw323 => k0_hw323

def k0_off691 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2894 : Index := Scalar.indexCast v2803
  let c11_1810 : Index := 11#32
  ![v2894.toNat, 11]
def k0_off692 (v2895 : BitVec 32) : Fin 2 → Nat :=
  let v2897 : Index := Scalar.indexCast v2895
  let c0_1813 : Index := 0#32
  ![v2897.toNat, 0]

def k0_chk324 (v2895 : BitVec 32) : Prop :=
  (∀ a, (k0_off692 v2895) a + S1x1024.size a ≤ S1032x1024.size a)
theorem k0_off692_inb : ∀ (v2895 : BitVec 32) (k0_hw324 : k0_chk324 v2895), ∀ a, (k0_off692 v2895) a + S1x1024.size a ≤ S1032x1024.size a := fun v2895 k0_hw324 => k0_hw324

def k0_off693 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2901 : Index := Scalar.indexCast v2803
  let c12_1814 : Index := 12#32
  ![v2901.toNat, 12]
def k0_off694 (v2902 : BitVec 32) : Fin 2 → Nat :=
  let v2904 : Index := Scalar.indexCast v2902
  let c0_1817 : Index := 0#32
  ![v2904.toNat, 0]

def k0_chk325 (v2902 : BitVec 32) : Prop :=
  (∀ a, (k0_off694 v2902) a + S1x1024.size a ≤ S1032x1024.size a)
theorem k0_off694_inb : ∀ (v2902 : BitVec 32) (k0_hw325 : k0_chk325 v2902), ∀ a, (k0_off694 v2902) a + S1x1024.size a ≤ S1032x1024.size a := fun v2902 k0_hw325 => k0_hw325

def k0_off695 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2908 : Index := Scalar.indexCast v2803
  let c13_1818 : Index := 13#32
  ![v2908.toNat, 13]
def k0_off696 (v2909 : BitVec 32) : Fin 2 → Nat :=
  let v2911 : Index := Scalar.indexCast v2909
  let c0_1821 : Index := 0#32
  ![v2911.toNat, 0]

def k0_chk326 (v2909 : BitVec 32) : Prop :=
  (∀ a, (k0_off696 v2909) a + S1x1024.size a ≤ S1032x1024.size a)
theorem k0_off696_inb : ∀ (v2909 : BitVec 32) (k0_hw326 : k0_chk326 v2909), ∀ a, (k0_off696 v2909) a + S1x1024.size a ≤ S1032x1024.size a := fun v2909 k0_hw326 => k0_hw326

def k0_off697 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2915 : Index := Scalar.indexCast v2803
  let c14_1822 : Index := 14#32
  ![v2915.toNat, 14]
def k0_off698 (v2916 : BitVec 32) : Fin 2 → Nat :=
  let v2918 : Index := Scalar.indexCast v2916
  let c0_1825 : Index := 0#32
  ![v2918.toNat, 0]

def k0_chk327 (v2916 : BitVec 32) : Prop :=
  (∀ a, (k0_off698 v2916) a + S1x1024.size a ≤ S1032x1024.size a)
theorem k0_off698_inb : ∀ (v2916 : BitVec 32) (k0_hw327 : k0_chk327 v2916), ∀ a, (k0_off698 v2916) a + S1x1024.size a ≤ S1032x1024.size a := fun v2916 k0_hw327 => k0_hw327

def k0_off699 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2922 : Index := Scalar.indexCast v2803
  let c15_1826 : Index := 15#32
  ![v2922.toNat, 15]
def k0_off700 (v2923 : BitVec 32) : Fin 2 → Nat :=
  let v2925 : Index := Scalar.indexCast v2923
  let c0_1829 : Index := 0#32
  ![v2925.toNat, 0]

def k0_chk328 (v2923 : BitVec 32) : Prop :=
  (∀ a, (k0_off700 v2923) a + S1x1024.size a ≤ S1032x1024.size a)
theorem k0_off700_inb : ∀ (v2923 : BitVec 32) (k0_hw328 : k0_chk328 v2923), ∀ a, (k0_off700 v2923) a + S1x1024.size a ≤ S1032x1024.size a := fun v2923 k0_hw328 => k0_hw328

def k0_off701 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2929 : Index := Scalar.indexCast v2803
  let c16_1830 : Index := 16#32
  ![v2929.toNat, 16]
def k0_off702 (v2930 : BitVec 32) : Fin 2 → Nat :=
  let v2932 : Index := Scalar.indexCast v2930
  let c0_1833 : Index := 0#32
  ![v2932.toNat, 0]

def k0_chk329 (v2930 : BitVec 32) : Prop :=
  (∀ a, (k0_off702 v2930) a + S1x1024.size a ≤ S1032x1024.size a)
theorem k0_off702_inb : ∀ (v2930 : BitVec 32) (k0_hw329 : k0_chk329 v2930), ∀ a, (k0_off702 v2930) a + S1x1024.size a ≤ S1032x1024.size a := fun v2930 k0_hw329 => k0_hw329

def k0_off703 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2936 : Index := Scalar.indexCast v2803
  let c17_1834 : Index := 17#32
  ![v2936.toNat, 17]
def k0_off704 (v2937 : BitVec 32) : Fin 2 → Nat :=
  let v2939 : Index := Scalar.indexCast v2937
  let c0_1837 : Index := 0#32
  ![v2939.toNat, 0]

def k0_chk330 (v2937 : BitVec 32) : Prop :=
  (∀ a, (k0_off704 v2937) a + S1x1024.size a ≤ S1032x1024.size a)
theorem k0_off704_inb : ∀ (v2937 : BitVec 32) (k0_hw330 : k0_chk330 v2937), ∀ a, (k0_off704 v2937) a + S1x1024.size a ≤ S1032x1024.size a := fun v2937 k0_hw330 => k0_hw330

def k0_off705 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2943 : Index := Scalar.indexCast v2803
  let c18_1838 : Index := 18#32
  ![v2943.toNat, 18]
def k0_off706 (v2944 : BitVec 32) : Fin 2 → Nat :=
  let v2946 : Index := Scalar.indexCast v2944
  let c0_1841 : Index := 0#32
  ![v2946.toNat, 0]

def k0_chk331 (v2944 : BitVec 32) : Prop :=
  (∀ a, (k0_off706 v2944) a + S1x1024.size a ≤ S1032x1024.size a)
theorem k0_off706_inb : ∀ (v2944 : BitVec 32) (k0_hw331 : k0_chk331 v2944), ∀ a, (k0_off706 v2944) a + S1x1024.size a ≤ S1032x1024.size a := fun v2944 k0_hw331 => k0_hw331

def k0_off707 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2950 : Index := Scalar.indexCast v2803
  let c19_1842 : Index := 19#32
  ![v2950.toNat, 19]
def k0_off708 (v2951 : BitVec 32) : Fin 2 → Nat :=
  let v2953 : Index := Scalar.indexCast v2951
  let c0_1845 : Index := 0#32
  ![v2953.toNat, 0]

def k0_chk332 (v2951 : BitVec 32) : Prop :=
  (∀ a, (k0_off708 v2951) a + S1x1024.size a ≤ S1032x1024.size a)
theorem k0_off708_inb : ∀ (v2951 : BitVec 32) (k0_hw332 : k0_chk332 v2951), ∀ a, (k0_off708 v2951) a + S1x1024.size a ≤ S1032x1024.size a := fun v2951 k0_hw332 => k0_hw332

def k0_off709 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2957 : Index := Scalar.indexCast v2803
  let c20_1846 : Index := 20#32
  ![v2957.toNat, 20]
def k0_off710 (v2958 : BitVec 32) : Fin 2 → Nat :=
  let v2960 : Index := Scalar.indexCast v2958
  let c0_1849 : Index := 0#32
  ![v2960.toNat, 0]

def k0_chk333 (v2958 : BitVec 32) : Prop :=
  (∀ a, (k0_off710 v2958) a + S1x1024.size a ≤ S1032x1024.size a)
theorem k0_off710_inb : ∀ (v2958 : BitVec 32) (k0_hw333 : k0_chk333 v2958), ∀ a, (k0_off710 v2958) a + S1x1024.size a ≤ S1032x1024.size a := fun v2958 k0_hw333 => k0_hw333

def k0_off711 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2964 : Index := Scalar.indexCast v2803
  let c21_1850 : Index := 21#32
  ![v2964.toNat, 21]
def k0_off712 (v2965 : BitVec 32) : Fin 2 → Nat :=
  let v2967 : Index := Scalar.indexCast v2965
  let c0_1853 : Index := 0#32
  ![v2967.toNat, 0]

def k0_chk334 (v2965 : BitVec 32) : Prop :=
  (∀ a, (k0_off712 v2965) a + S1x1024.size a ≤ S1032x1024.size a)
theorem k0_off712_inb : ∀ (v2965 : BitVec 32) (k0_hw334 : k0_chk334 v2965), ∀ a, (k0_off712 v2965) a + S1x1024.size a ≤ S1032x1024.size a := fun v2965 k0_hw334 => k0_hw334

def k0_off713 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2971 : Index := Scalar.indexCast v2803
  let c22_1854 : Index := 22#32
  ![v2971.toNat, 22]
def k0_off714 (v2972 : BitVec 32) : Fin 2 → Nat :=
  let v2974 : Index := Scalar.indexCast v2972
  let c0_1857 : Index := 0#32
  ![v2974.toNat, 0]

def k0_chk335 (v2972 : BitVec 32) : Prop :=
  (∀ a, (k0_off714 v2972) a + S1x1024.size a ≤ S1032x1024.size a)
theorem k0_off714_inb : ∀ (v2972 : BitVec 32) (k0_hw335 : k0_chk335 v2972), ∀ a, (k0_off714 v2972) a + S1x1024.size a ≤ S1032x1024.size a := fun v2972 k0_hw335 => k0_hw335

def k0_off715 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1753 : BitVec 32 := 12#32
  let v2801 : BitVec 32 := Scalar.subi v2 c12_i32_1753
  let c32_i32_1754 : BitVec 32 := 32#32
  let v2802 : BitVec 32 := Scalar.addi v2801 c32_i32_1754
  let c32_i32_1755 : BitVec 32 := 32#32
  let v2803 : BitVec 32 := Scalar.remsi v2802 c32_i32_1755
  let v2978 : Index := Scalar.indexCast v2803
  let c23_1858 : Index := 23#32
  ![v2978.toNat, 23]
def k0_off716 (v2979 : BitVec 32) : Fin 2 → Nat :=
  let v2981 : Index := Scalar.indexCast v2979
  let c0_1861 : Index := 0#32
  ![v2981.toNat, 0]

def k0_chk336 (v2979 : BitVec 32) : Prop :=
  (∀ a, (k0_off716 v2979) a + S1x1024.size a ≤ S1032x1024.size a)
theorem k0_off716_inb : ∀ (v2979 : BitVec 32) (k0_hw336 : k0_chk336 v2979), ∀ a, (k0_off716 v2979) a + S1x1024.size a ≤ S1032x1024.size a := fun v2979 k0_hw336 => k0_hw336

def k0_off717 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  ![v2987.toNat]
def k0_off718 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let c0_i32_1867 : BitVec 32 := 0#32
  let c0_i32_1868 : BitVec 32 := 0#32
  ![v2987.toNat, 0, 0]
def k0_off719 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v2994 : Index := Scalar.indexCast v2987
  let c0_1871 : Index := 0#32
  let c0_1872 : Index := 0#32
  ![v2994.toNat, 0, 0]
def k0_off720 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3001 : Index := Scalar.indexCast v2987
  let c0_1875 : Index := 0#32
  ![v3001.toNat, 0]
def k0_off721 (v3002 : BitVec 32) : Fin 2 → Nat :=
  let v3004 : Index := Scalar.indexCast v3002
  let c0_1878 : Index := 0#32
  ![v3004.toNat, 0]

def k0_chk337 (v3002 : BitVec 32) : Prop :=
  (∀ a, (k0_off721 v3002) a + S1x1024.size a ≤ S1032x1024.size a)
theorem k0_off721_inb : ∀ (v3002 : BitVec 32) (k0_hw337 : k0_chk337 v3002), ∀ a, (k0_off721 v3002) a + S1x1024.size a ≤ S1032x1024.size a := fun v3002 k0_hw337 => k0_hw337

def k0_off722 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3008 : Index := Scalar.indexCast v2987
  let c1_1879 : Index := 1#32
  ![v3008.toNat, 1]
def k0_off723 (v3009 : BitVec 32) : Fin 2 → Nat :=
  let v3011 : Index := Scalar.indexCast v3009
  let c0_1882 : Index := 0#32
  ![v3011.toNat, 0]

def k0_chk338 (v3009 : BitVec 32) : Prop :=
  (∀ a, (k0_off723 v3009) a + S1x1024.size a ≤ S1032x1024.size a)
theorem k0_off723_inb : ∀ (v3009 : BitVec 32) (k0_hw338 : k0_chk338 v3009), ∀ a, (k0_off723 v3009) a + S1x1024.size a ≤ S1032x1024.size a := fun v3009 k0_hw338 => k0_hw338

def k0_off724 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3015 : Index := Scalar.indexCast v2987
  let c2_1883 : Index := 2#32
  ![v3015.toNat, 2]
def k0_off725 (v3016 : BitVec 32) : Fin 2 → Nat :=
  let v3018 : Index := Scalar.indexCast v3016
  let c0_1886 : Index := 0#32
  ![v3018.toNat, 0]

def k0_chk339 (v3016 : BitVec 32) : Prop :=
  (∀ a, (k0_off725 v3016) a + S1x1024.size a ≤ S1032x1024.size a)
theorem k0_off725_inb : ∀ (v3016 : BitVec 32) (k0_hw339 : k0_chk339 v3016), ∀ a, (k0_off725 v3016) a + S1x1024.size a ≤ S1032x1024.size a := fun v3016 k0_hw339 => k0_hw339

def k0_off726 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3022 : Index := Scalar.indexCast v2987
  let c3_1887 : Index := 3#32
  ![v3022.toNat, 3]
def k0_off727 (v3023 : BitVec 32) : Fin 2 → Nat :=
  let v3025 : Index := Scalar.indexCast v3023
  let c0_1890 : Index := 0#32
  ![v3025.toNat, 0]

def k0_chk340 (v3023 : BitVec 32) : Prop :=
  (∀ a, (k0_off727 v3023) a + S1x1024.size a ≤ S1032x1024.size a)
theorem k0_off727_inb : ∀ (v3023 : BitVec 32) (k0_hw340 : k0_chk340 v3023), ∀ a, (k0_off727 v3023) a + S1x1024.size a ≤ S1032x1024.size a := fun v3023 k0_hw340 => k0_hw340

def k0_off728 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3029 : Index := Scalar.indexCast v2987
  let c4_1891 : Index := 4#32
  ![v3029.toNat, 4]
def k0_off729 (v3030 : BitVec 32) : Fin 2 → Nat :=
  let v3032 : Index := Scalar.indexCast v3030
  let c0_1894 : Index := 0#32
  ![v3032.toNat, 0]

def k0_chk341 (v3030 : BitVec 32) : Prop :=
  (∀ a, (k0_off729 v3030) a + S1x1024.size a ≤ S1032x1024.size a)
theorem k0_off729_inb : ∀ (v3030 : BitVec 32) (k0_hw341 : k0_chk341 v3030), ∀ a, (k0_off729 v3030) a + S1x1024.size a ≤ S1032x1024.size a := fun v3030 k0_hw341 => k0_hw341

def k0_off730 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3036 : Index := Scalar.indexCast v2987
  let c5_1895 : Index := 5#32
  ![v3036.toNat, 5]
def k0_off731 (v3037 : BitVec 32) : Fin 2 → Nat :=
  let v3039 : Index := Scalar.indexCast v3037
  let c0_1898 : Index := 0#32
  ![v3039.toNat, 0]

def k0_chk342 (v3037 : BitVec 32) : Prop :=
  (∀ a, (k0_off731 v3037) a + S1x1024.size a ≤ S1032x1024.size a)
theorem k0_off731_inb : ∀ (v3037 : BitVec 32) (k0_hw342 : k0_chk342 v3037), ∀ a, (k0_off731 v3037) a + S1x1024.size a ≤ S1032x1024.size a := fun v3037 k0_hw342 => k0_hw342

def k0_off732 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3043 : Index := Scalar.indexCast v2987
  let c6_1899 : Index := 6#32
  ![v3043.toNat, 6]
def k0_off733 (v3044 : BitVec 32) : Fin 2 → Nat :=
  let v3046 : Index := Scalar.indexCast v3044
  let c0_1902 : Index := 0#32
  ![v3046.toNat, 0]

def k0_chk343 (v3044 : BitVec 32) : Prop :=
  (∀ a, (k0_off733 v3044) a + S1x1024.size a ≤ S1032x1024.size a)
theorem k0_off733_inb : ∀ (v3044 : BitVec 32) (k0_hw343 : k0_chk343 v3044), ∀ a, (k0_off733 v3044) a + S1x1024.size a ≤ S1032x1024.size a := fun v3044 k0_hw343 => k0_hw343

def k0_off734 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3050 : Index := Scalar.indexCast v2987
  let c7_1903 : Index := 7#32
  ![v3050.toNat, 7]
def k0_off735 (v3051 : BitVec 32) : Fin 2 → Nat :=
  let v3053 : Index := Scalar.indexCast v3051
  let c0_1906 : Index := 0#32
  ![v3053.toNat, 0]

def k0_chk344 (v3051 : BitVec 32) : Prop :=
  (∀ a, (k0_off735 v3051) a + S1x1024.size a ≤ S1032x1024.size a)
theorem k0_off735_inb : ∀ (v3051 : BitVec 32) (k0_hw344 : k0_chk344 v3051), ∀ a, (k0_off735 v3051) a + S1x1024.size a ≤ S1032x1024.size a := fun v3051 k0_hw344 => k0_hw344

def k0_off736 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3057 : Index := Scalar.indexCast v2987
  let c8_1907 : Index := 8#32
  ![v3057.toNat, 8]
def k0_off737 (v3058 : BitVec 32) : Fin 2 → Nat :=
  let v3060 : Index := Scalar.indexCast v3058
  let c0_1910 : Index := 0#32
  ![v3060.toNat, 0]

def k0_chk345 (v3058 : BitVec 32) : Prop :=
  (∀ a, (k0_off737 v3058) a + S1x1024.size a ≤ S1032x1024.size a)
theorem k0_off737_inb : ∀ (v3058 : BitVec 32) (k0_hw345 : k0_chk345 v3058), ∀ a, (k0_off737 v3058) a + S1x1024.size a ≤ S1032x1024.size a := fun v3058 k0_hw345 => k0_hw345

def k0_off738 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3064 : Index := Scalar.indexCast v2987
  let c9_1911 : Index := 9#32
  ![v3064.toNat, 9]
def k0_off739 (v3065 : BitVec 32) : Fin 2 → Nat :=
  let v3067 : Index := Scalar.indexCast v3065
  let c0_1914 : Index := 0#32
  ![v3067.toNat, 0]

def k0_chk346 (v3065 : BitVec 32) : Prop :=
  (∀ a, (k0_off739 v3065) a + S1x1024.size a ≤ S1032x1024.size a)
theorem k0_off739_inb : ∀ (v3065 : BitVec 32) (k0_hw346 : k0_chk346 v3065), ∀ a, (k0_off739 v3065) a + S1x1024.size a ≤ S1032x1024.size a := fun v3065 k0_hw346 => k0_hw346

def k0_off740 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3071 : Index := Scalar.indexCast v2987
  let c10_1915 : Index := 10#32
  ![v3071.toNat, 10]
def k0_off741 (v3072 : BitVec 32) : Fin 2 → Nat :=
  let v3074 : Index := Scalar.indexCast v3072
  let c0_1918 : Index := 0#32
  ![v3074.toNat, 0]

def k0_chk347 (v3072 : BitVec 32) : Prop :=
  (∀ a, (k0_off741 v3072) a + S1x1024.size a ≤ S1032x1024.size a)
theorem k0_off741_inb : ∀ (v3072 : BitVec 32) (k0_hw347 : k0_chk347 v3072), ∀ a, (k0_off741 v3072) a + S1x1024.size a ≤ S1032x1024.size a := fun v3072 k0_hw347 => k0_hw347

def k0_off742 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3078 : Index := Scalar.indexCast v2987
  let c11_1919 : Index := 11#32
  ![v3078.toNat, 11]
def k0_off743 (v3079 : BitVec 32) : Fin 2 → Nat :=
  let v3081 : Index := Scalar.indexCast v3079
  let c0_1922 : Index := 0#32
  ![v3081.toNat, 0]

def k0_chk348 (v3079 : BitVec 32) : Prop :=
  (∀ a, (k0_off743 v3079) a + S1x1024.size a ≤ S1032x1024.size a)
theorem k0_off743_inb : ∀ (v3079 : BitVec 32) (k0_hw348 : k0_chk348 v3079), ∀ a, (k0_off743 v3079) a + S1x1024.size a ≤ S1032x1024.size a := fun v3079 k0_hw348 => k0_hw348

def k0_off744 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3085 : Index := Scalar.indexCast v2987
  let c12_1923 : Index := 12#32
  ![v3085.toNat, 12]
def k0_off745 (v3086 : BitVec 32) : Fin 2 → Nat :=
  let v3088 : Index := Scalar.indexCast v3086
  let c0_1926 : Index := 0#32
  ![v3088.toNat, 0]

def k0_chk349 (v3086 : BitVec 32) : Prop :=
  (∀ a, (k0_off745 v3086) a + S1x1024.size a ≤ S1032x1024.size a)
theorem k0_off745_inb : ∀ (v3086 : BitVec 32) (k0_hw349 : k0_chk349 v3086), ∀ a, (k0_off745 v3086) a + S1x1024.size a ≤ S1032x1024.size a := fun v3086 k0_hw349 => k0_hw349

def k0_off746 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3092 : Index := Scalar.indexCast v2987
  let c13_1927 : Index := 13#32
  ![v3092.toNat, 13]
def k0_off747 (v3093 : BitVec 32) : Fin 2 → Nat :=
  let v3095 : Index := Scalar.indexCast v3093
  let c0_1930 : Index := 0#32
  ![v3095.toNat, 0]

def k0_chk350 (v3093 : BitVec 32) : Prop :=
  (∀ a, (k0_off747 v3093) a + S1x1024.size a ≤ S1032x1024.size a)
theorem k0_off747_inb : ∀ (v3093 : BitVec 32) (k0_hw350 : k0_chk350 v3093), ∀ a, (k0_off747 v3093) a + S1x1024.size a ≤ S1032x1024.size a := fun v3093 k0_hw350 => k0_hw350

def k0_off748 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3099 : Index := Scalar.indexCast v2987
  let c14_1931 : Index := 14#32
  ![v3099.toNat, 14]
def k0_off749 (v3100 : BitVec 32) : Fin 2 → Nat :=
  let v3102 : Index := Scalar.indexCast v3100
  let c0_1934 : Index := 0#32
  ![v3102.toNat, 0]

def k0_chk351 (v3100 : BitVec 32) : Prop :=
  (∀ a, (k0_off749 v3100) a + S1x1024.size a ≤ S1032x1024.size a)
theorem k0_off749_inb : ∀ (v3100 : BitVec 32) (k0_hw351 : k0_chk351 v3100), ∀ a, (k0_off749 v3100) a + S1x1024.size a ≤ S1032x1024.size a := fun v3100 k0_hw351 => k0_hw351

def k0_off750 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3106 : Index := Scalar.indexCast v2987
  let c15_1935 : Index := 15#32
  ![v3106.toNat, 15]
def k0_off751 (v3107 : BitVec 32) : Fin 2 → Nat :=
  let v3109 : Index := Scalar.indexCast v3107
  let c0_1938 : Index := 0#32
  ![v3109.toNat, 0]

def k0_chk352 (v3107 : BitVec 32) : Prop :=
  (∀ a, (k0_off751 v3107) a + S1x1024.size a ≤ S1032x1024.size a)
theorem k0_off751_inb : ∀ (v3107 : BitVec 32) (k0_hw352 : k0_chk352 v3107), ∀ a, (k0_off751 v3107) a + S1x1024.size a ≤ S1032x1024.size a := fun v3107 k0_hw352 => k0_hw352

def k0_off752 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3113 : Index := Scalar.indexCast v2987
  let c16_1939 : Index := 16#32
  ![v3113.toNat, 16]
def k0_off753 (v3114 : BitVec 32) : Fin 2 → Nat :=
  let v3116 : Index := Scalar.indexCast v3114
  let c0_1942 : Index := 0#32
  ![v3116.toNat, 0]

def k0_chk353 (v3114 : BitVec 32) : Prop :=
  (∀ a, (k0_off753 v3114) a + S1x1024.size a ≤ S1032x1024.size a)
theorem k0_off753_inb : ∀ (v3114 : BitVec 32) (k0_hw353 : k0_chk353 v3114), ∀ a, (k0_off753 v3114) a + S1x1024.size a ≤ S1032x1024.size a := fun v3114 k0_hw353 => k0_hw353

def k0_off754 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3120 : Index := Scalar.indexCast v2987
  let c17_1943 : Index := 17#32
  ![v3120.toNat, 17]
def k0_off755 (v3121 : BitVec 32) : Fin 2 → Nat :=
  let v3123 : Index := Scalar.indexCast v3121
  let c0_1946 : Index := 0#32
  ![v3123.toNat, 0]

def k0_chk354 (v3121 : BitVec 32) : Prop :=
  (∀ a, (k0_off755 v3121) a + S1x1024.size a ≤ S1032x1024.size a)
theorem k0_off755_inb : ∀ (v3121 : BitVec 32) (k0_hw354 : k0_chk354 v3121), ∀ a, (k0_off755 v3121) a + S1x1024.size a ≤ S1032x1024.size a := fun v3121 k0_hw354 => k0_hw354

def k0_off756 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3127 : Index := Scalar.indexCast v2987
  let c18_1947 : Index := 18#32
  ![v3127.toNat, 18]
def k0_off757 (v3128 : BitVec 32) : Fin 2 → Nat :=
  let v3130 : Index := Scalar.indexCast v3128
  let c0_1950 : Index := 0#32
  ![v3130.toNat, 0]

def k0_chk355 (v3128 : BitVec 32) : Prop :=
  (∀ a, (k0_off757 v3128) a + S1x1024.size a ≤ S1032x1024.size a)
theorem k0_off757_inb : ∀ (v3128 : BitVec 32) (k0_hw355 : k0_chk355 v3128), ∀ a, (k0_off757 v3128) a + S1x1024.size a ≤ S1032x1024.size a := fun v3128 k0_hw355 => k0_hw355

def k0_off758 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3134 : Index := Scalar.indexCast v2987
  let c19_1951 : Index := 19#32
  ![v3134.toNat, 19]
def k0_off759 (v3135 : BitVec 32) : Fin 2 → Nat :=
  let v3137 : Index := Scalar.indexCast v3135
  let c0_1954 : Index := 0#32
  ![v3137.toNat, 0]

def k0_chk356 (v3135 : BitVec 32) : Prop :=
  (∀ a, (k0_off759 v3135) a + S1x1024.size a ≤ S1032x1024.size a)
theorem k0_off759_inb : ∀ (v3135 : BitVec 32) (k0_hw356 : k0_chk356 v3135), ∀ a, (k0_off759 v3135) a + S1x1024.size a ≤ S1032x1024.size a := fun v3135 k0_hw356 => k0_hw356

def k0_off760 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3141 : Index := Scalar.indexCast v2987
  let c20_1955 : Index := 20#32
  ![v3141.toNat, 20]
def k0_off761 (v3142 : BitVec 32) : Fin 2 → Nat :=
  let v3144 : Index := Scalar.indexCast v3142
  let c0_1958 : Index := 0#32
  ![v3144.toNat, 0]

def k0_chk357 (v3142 : BitVec 32) : Prop :=
  (∀ a, (k0_off761 v3142) a + S1x1024.size a ≤ S1032x1024.size a)
theorem k0_off761_inb : ∀ (v3142 : BitVec 32) (k0_hw357 : k0_chk357 v3142), ∀ a, (k0_off761 v3142) a + S1x1024.size a ≤ S1032x1024.size a := fun v3142 k0_hw357 => k0_hw357

def k0_off762 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3148 : Index := Scalar.indexCast v2987
  let c21_1959 : Index := 21#32
  ![v3148.toNat, 21]
def k0_off763 (v3149 : BitVec 32) : Fin 2 → Nat :=
  let v3151 : Index := Scalar.indexCast v3149
  let c0_1962 : Index := 0#32
  ![v3151.toNat, 0]

def k0_chk358 (v3149 : BitVec 32) : Prop :=
  (∀ a, (k0_off763 v3149) a + S1x1024.size a ≤ S1032x1024.size a)
theorem k0_off763_inb : ∀ (v3149 : BitVec 32) (k0_hw358 : k0_chk358 v3149), ∀ a, (k0_off763 v3149) a + S1x1024.size a ≤ S1032x1024.size a := fun v3149 k0_hw358 => k0_hw358

def k0_off764 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3155 : Index := Scalar.indexCast v2987
  let c22_1963 : Index := 22#32
  ![v3155.toNat, 22]
def k0_off765 (v3156 : BitVec 32) : Fin 2 → Nat :=
  let v3158 : Index := Scalar.indexCast v3156
  let c0_1966 : Index := 0#32
  ![v3158.toNat, 0]

def k0_chk359 (v3156 : BitVec 32) : Prop :=
  (∀ a, (k0_off765 v3156) a + S1x1024.size a ≤ S1032x1024.size a)
theorem k0_off765_inb : ∀ (v3156 : BitVec 32) (k0_hw359 : k0_chk359 v3156), ∀ a, (k0_off765 v3156) a + S1x1024.size a ≤ S1032x1024.size a := fun v3156 k0_hw359 => k0_hw359

def k0_off766 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1862 : BitVec 32 := 13#32
  let v2985 : BitVec 32 := Scalar.subi v2 c13_i32_1862
  let c32_i32_1863 : BitVec 32 := 32#32
  let v2986 : BitVec 32 := Scalar.addi v2985 c32_i32_1863
  let c32_i32_1864 : BitVec 32 := 32#32
  let v2987 : BitVec 32 := Scalar.remsi v2986 c32_i32_1864
  let v3162 : Index := Scalar.indexCast v2987
  let c23_1967 : Index := 23#32
  ![v3162.toNat, 23]
def k0_off767 (v3163 : BitVec 32) : Fin 2 → Nat :=
  let v3165 : Index := Scalar.indexCast v3163
  let c0_1970 : Index := 0#32
  ![v3165.toNat, 0]

def k0_chk360 (v3163 : BitVec 32) : Prop :=
  (∀ a, (k0_off767 v3163) a + S1x1024.size a ≤ S1032x1024.size a)
theorem k0_off767_inb : ∀ (v3163 : BitVec 32) (k0_hw360 : k0_chk360 v3163), ∀ a, (k0_off767 v3163) a + S1x1024.size a ≤ S1032x1024.size a := fun v3163 k0_hw360 => k0_hw360

def k0_off768 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  ![v3171.toNat]
def k0_off769 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let c0_i32_1976 : BitVec 32 := 0#32
  let c0_i32_1977 : BitVec 32 := 0#32
  ![v3171.toNat, 0, 0]
def k0_off770 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3178 : Index := Scalar.indexCast v3171
  let c0_1980 : Index := 0#32
  let c0_1981 : Index := 0#32
  ![v3178.toNat, 0, 0]
def k0_off771 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3185 : Index := Scalar.indexCast v3171
  let c0_1984 : Index := 0#32
  ![v3185.toNat, 0]
def k0_off772 (v3186 : BitVec 32) : Fin 2 → Nat :=
  let v3188 : Index := Scalar.indexCast v3186
  let c0_1987 : Index := 0#32
  ![v3188.toNat, 0]

def k0_chk361 (v3186 : BitVec 32) : Prop :=
  (∀ a, (k0_off772 v3186) a + S1x1024.size a ≤ S1032x1024.size a)
theorem k0_off772_inb : ∀ (v3186 : BitVec 32) (k0_hw361 : k0_chk361 v3186), ∀ a, (k0_off772 v3186) a + S1x1024.size a ≤ S1032x1024.size a := fun v3186 k0_hw361 => k0_hw361

def k0_off773 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3192 : Index := Scalar.indexCast v3171
  let c1_1988 : Index := 1#32
  ![v3192.toNat, 1]
def k0_off774 (v3193 : BitVec 32) : Fin 2 → Nat :=
  let v3195 : Index := Scalar.indexCast v3193
  let c0_1991 : Index := 0#32
  ![v3195.toNat, 0]

def k0_chk362 (v3193 : BitVec 32) : Prop :=
  (∀ a, (k0_off774 v3193) a + S1x1024.size a ≤ S1032x1024.size a)
theorem k0_off774_inb : ∀ (v3193 : BitVec 32) (k0_hw362 : k0_chk362 v3193), ∀ a, (k0_off774 v3193) a + S1x1024.size a ≤ S1032x1024.size a := fun v3193 k0_hw362 => k0_hw362

def k0_off775 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3199 : Index := Scalar.indexCast v3171
  let c2_1992 : Index := 2#32
  ![v3199.toNat, 2]
def k0_off776 (v3200 : BitVec 32) : Fin 2 → Nat :=
  let v3202 : Index := Scalar.indexCast v3200
  let c0_1995 : Index := 0#32
  ![v3202.toNat, 0]

def k0_chk363 (v3200 : BitVec 32) : Prop :=
  (∀ a, (k0_off776 v3200) a + S1x1024.size a ≤ S1032x1024.size a)
theorem k0_off776_inb : ∀ (v3200 : BitVec 32) (k0_hw363 : k0_chk363 v3200), ∀ a, (k0_off776 v3200) a + S1x1024.size a ≤ S1032x1024.size a := fun v3200 k0_hw363 => k0_hw363

def k0_off777 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3206 : Index := Scalar.indexCast v3171
  let c3_1996 : Index := 3#32
  ![v3206.toNat, 3]
def k0_off778 (v3207 : BitVec 32) : Fin 2 → Nat :=
  let v3209 : Index := Scalar.indexCast v3207
  let c0_1999 : Index := 0#32
  ![v3209.toNat, 0]

def k0_chk364 (v3207 : BitVec 32) : Prop :=
  (∀ a, (k0_off778 v3207) a + S1x1024.size a ≤ S1032x1024.size a)
theorem k0_off778_inb : ∀ (v3207 : BitVec 32) (k0_hw364 : k0_chk364 v3207), ∀ a, (k0_off778 v3207) a + S1x1024.size a ≤ S1032x1024.size a := fun v3207 k0_hw364 => k0_hw364

def k0_off779 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3213 : Index := Scalar.indexCast v3171
  let c4_2000 : Index := 4#32
  ![v3213.toNat, 4]
def k0_off780 (v3214 : BitVec 32) : Fin 2 → Nat :=
  let v3216 : Index := Scalar.indexCast v3214
  let c0_2003 : Index := 0#32
  ![v3216.toNat, 0]

def k0_chk365 (v3214 : BitVec 32) : Prop :=
  (∀ a, (k0_off780 v3214) a + S1x1024.size a ≤ S1032x1024.size a)
theorem k0_off780_inb : ∀ (v3214 : BitVec 32) (k0_hw365 : k0_chk365 v3214), ∀ a, (k0_off780 v3214) a + S1x1024.size a ≤ S1032x1024.size a := fun v3214 k0_hw365 => k0_hw365

def k0_off781 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3220 : Index := Scalar.indexCast v3171
  let c5_2004 : Index := 5#32
  ![v3220.toNat, 5]
def k0_off782 (v3221 : BitVec 32) : Fin 2 → Nat :=
  let v3223 : Index := Scalar.indexCast v3221
  let c0_2007 : Index := 0#32
  ![v3223.toNat, 0]

def k0_chk366 (v3221 : BitVec 32) : Prop :=
  (∀ a, (k0_off782 v3221) a + S1x1024.size a ≤ S1032x1024.size a)
theorem k0_off782_inb : ∀ (v3221 : BitVec 32) (k0_hw366 : k0_chk366 v3221), ∀ a, (k0_off782 v3221) a + S1x1024.size a ≤ S1032x1024.size a := fun v3221 k0_hw366 => k0_hw366

def k0_off783 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3227 : Index := Scalar.indexCast v3171
  let c6_2008 : Index := 6#32
  ![v3227.toNat, 6]
def k0_off784 (v3228 : BitVec 32) : Fin 2 → Nat :=
  let v3230 : Index := Scalar.indexCast v3228
  let c0_2011 : Index := 0#32
  ![v3230.toNat, 0]

def k0_chk367 (v3228 : BitVec 32) : Prop :=
  (∀ a, (k0_off784 v3228) a + S1x1024.size a ≤ S1032x1024.size a)
theorem k0_off784_inb : ∀ (v3228 : BitVec 32) (k0_hw367 : k0_chk367 v3228), ∀ a, (k0_off784 v3228) a + S1x1024.size a ≤ S1032x1024.size a := fun v3228 k0_hw367 => k0_hw367

def k0_off785 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3234 : Index := Scalar.indexCast v3171
  let c7_2012 : Index := 7#32
  ![v3234.toNat, 7]
def k0_off786 (v3235 : BitVec 32) : Fin 2 → Nat :=
  let v3237 : Index := Scalar.indexCast v3235
  let c0_2015 : Index := 0#32
  ![v3237.toNat, 0]

def k0_chk368 (v3235 : BitVec 32) : Prop :=
  (∀ a, (k0_off786 v3235) a + S1x1024.size a ≤ S1032x1024.size a)
theorem k0_off786_inb : ∀ (v3235 : BitVec 32) (k0_hw368 : k0_chk368 v3235), ∀ a, (k0_off786 v3235) a + S1x1024.size a ≤ S1032x1024.size a := fun v3235 k0_hw368 => k0_hw368

def k0_off787 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3241 : Index := Scalar.indexCast v3171
  let c8_2016 : Index := 8#32
  ![v3241.toNat, 8]
def k0_off788 (v3242 : BitVec 32) : Fin 2 → Nat :=
  let v3244 : Index := Scalar.indexCast v3242
  let c0_2019 : Index := 0#32
  ![v3244.toNat, 0]

def k0_chk369 (v3242 : BitVec 32) : Prop :=
  (∀ a, (k0_off788 v3242) a + S1x1024.size a ≤ S1032x1024.size a)
theorem k0_off788_inb : ∀ (v3242 : BitVec 32) (k0_hw369 : k0_chk369 v3242), ∀ a, (k0_off788 v3242) a + S1x1024.size a ≤ S1032x1024.size a := fun v3242 k0_hw369 => k0_hw369

def k0_off789 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3248 : Index := Scalar.indexCast v3171
  let c9_2020 : Index := 9#32
  ![v3248.toNat, 9]
def k0_off790 (v3249 : BitVec 32) : Fin 2 → Nat :=
  let v3251 : Index := Scalar.indexCast v3249
  let c0_2023 : Index := 0#32
  ![v3251.toNat, 0]

def k0_chk370 (v3249 : BitVec 32) : Prop :=
  (∀ a, (k0_off790 v3249) a + S1x1024.size a ≤ S1032x1024.size a)
theorem k0_off790_inb : ∀ (v3249 : BitVec 32) (k0_hw370 : k0_chk370 v3249), ∀ a, (k0_off790 v3249) a + S1x1024.size a ≤ S1032x1024.size a := fun v3249 k0_hw370 => k0_hw370

def k0_off791 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3255 : Index := Scalar.indexCast v3171
  let c10_2024 : Index := 10#32
  ![v3255.toNat, 10]
def k0_off792 (v3256 : BitVec 32) : Fin 2 → Nat :=
  let v3258 : Index := Scalar.indexCast v3256
  let c0_2027 : Index := 0#32
  ![v3258.toNat, 0]

def k0_chk371 (v3256 : BitVec 32) : Prop :=
  (∀ a, (k0_off792 v3256) a + S1x1024.size a ≤ S1032x1024.size a)
theorem k0_off792_inb : ∀ (v3256 : BitVec 32) (k0_hw371 : k0_chk371 v3256), ∀ a, (k0_off792 v3256) a + S1x1024.size a ≤ S1032x1024.size a := fun v3256 k0_hw371 => k0_hw371

def k0_off793 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3262 : Index := Scalar.indexCast v3171
  let c11_2028 : Index := 11#32
  ![v3262.toNat, 11]
def k0_off794 (v3263 : BitVec 32) : Fin 2 → Nat :=
  let v3265 : Index := Scalar.indexCast v3263
  let c0_2031 : Index := 0#32
  ![v3265.toNat, 0]

def k0_chk372 (v3263 : BitVec 32) : Prop :=
  (∀ a, (k0_off794 v3263) a + S1x1024.size a ≤ S1032x1024.size a)
theorem k0_off794_inb : ∀ (v3263 : BitVec 32) (k0_hw372 : k0_chk372 v3263), ∀ a, (k0_off794 v3263) a + S1x1024.size a ≤ S1032x1024.size a := fun v3263 k0_hw372 => k0_hw372

def k0_off795 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3269 : Index := Scalar.indexCast v3171
  let c12_2032 : Index := 12#32
  ![v3269.toNat, 12]
def k0_off796 (v3270 : BitVec 32) : Fin 2 → Nat :=
  let v3272 : Index := Scalar.indexCast v3270
  let c0_2035 : Index := 0#32
  ![v3272.toNat, 0]

def k0_chk373 (v3270 : BitVec 32) : Prop :=
  (∀ a, (k0_off796 v3270) a + S1x1024.size a ≤ S1032x1024.size a)
theorem k0_off796_inb : ∀ (v3270 : BitVec 32) (k0_hw373 : k0_chk373 v3270), ∀ a, (k0_off796 v3270) a + S1x1024.size a ≤ S1032x1024.size a := fun v3270 k0_hw373 => k0_hw373

def k0_off797 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3276 : Index := Scalar.indexCast v3171
  let c13_2036 : Index := 13#32
  ![v3276.toNat, 13]
def k0_off798 (v3277 : BitVec 32) : Fin 2 → Nat :=
  let v3279 : Index := Scalar.indexCast v3277
  let c0_2039 : Index := 0#32
  ![v3279.toNat, 0]

def k0_chk374 (v3277 : BitVec 32) : Prop :=
  (∀ a, (k0_off798 v3277) a + S1x1024.size a ≤ S1032x1024.size a)
theorem k0_off798_inb : ∀ (v3277 : BitVec 32) (k0_hw374 : k0_chk374 v3277), ∀ a, (k0_off798 v3277) a + S1x1024.size a ≤ S1032x1024.size a := fun v3277 k0_hw374 => k0_hw374

def k0_off799 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3283 : Index := Scalar.indexCast v3171
  let c14_2040 : Index := 14#32
  ![v3283.toNat, 14]
def k0_off800 (v3284 : BitVec 32) : Fin 2 → Nat :=
  let v3286 : Index := Scalar.indexCast v3284
  let c0_2043 : Index := 0#32
  ![v3286.toNat, 0]

def k0_chk375 (v3284 : BitVec 32) : Prop :=
  (∀ a, (k0_off800 v3284) a + S1x1024.size a ≤ S1032x1024.size a)
theorem k0_off800_inb : ∀ (v3284 : BitVec 32) (k0_hw375 : k0_chk375 v3284), ∀ a, (k0_off800 v3284) a + S1x1024.size a ≤ S1032x1024.size a := fun v3284 k0_hw375 => k0_hw375

def k0_off801 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3290 : Index := Scalar.indexCast v3171
  let c15_2044 : Index := 15#32
  ![v3290.toNat, 15]
def k0_off802 (v3291 : BitVec 32) : Fin 2 → Nat :=
  let v3293 : Index := Scalar.indexCast v3291
  let c0_2047 : Index := 0#32
  ![v3293.toNat, 0]

def k0_chk376 (v3291 : BitVec 32) : Prop :=
  (∀ a, (k0_off802 v3291) a + S1x1024.size a ≤ S1032x1024.size a)
theorem k0_off802_inb : ∀ (v3291 : BitVec 32) (k0_hw376 : k0_chk376 v3291), ∀ a, (k0_off802 v3291) a + S1x1024.size a ≤ S1032x1024.size a := fun v3291 k0_hw376 => k0_hw376

def k0_off803 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3297 : Index := Scalar.indexCast v3171
  let c16_2048 : Index := 16#32
  ![v3297.toNat, 16]
def k0_off804 (v3298 : BitVec 32) : Fin 2 → Nat :=
  let v3300 : Index := Scalar.indexCast v3298
  let c0_2051 : Index := 0#32
  ![v3300.toNat, 0]

def k0_chk377 (v3298 : BitVec 32) : Prop :=
  (∀ a, (k0_off804 v3298) a + S1x1024.size a ≤ S1032x1024.size a)
theorem k0_off804_inb : ∀ (v3298 : BitVec 32) (k0_hw377 : k0_chk377 v3298), ∀ a, (k0_off804 v3298) a + S1x1024.size a ≤ S1032x1024.size a := fun v3298 k0_hw377 => k0_hw377

def k0_off805 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3304 : Index := Scalar.indexCast v3171
  let c17_2052 : Index := 17#32
  ![v3304.toNat, 17]
def k0_off806 (v3305 : BitVec 32) : Fin 2 → Nat :=
  let v3307 : Index := Scalar.indexCast v3305
  let c0_2055 : Index := 0#32
  ![v3307.toNat, 0]

def k0_chk378 (v3305 : BitVec 32) : Prop :=
  (∀ a, (k0_off806 v3305) a + S1x1024.size a ≤ S1032x1024.size a)
theorem k0_off806_inb : ∀ (v3305 : BitVec 32) (k0_hw378 : k0_chk378 v3305), ∀ a, (k0_off806 v3305) a + S1x1024.size a ≤ S1032x1024.size a := fun v3305 k0_hw378 => k0_hw378

def k0_off807 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3311 : Index := Scalar.indexCast v3171
  let c18_2056 : Index := 18#32
  ![v3311.toNat, 18]
def k0_off808 (v3312 : BitVec 32) : Fin 2 → Nat :=
  let v3314 : Index := Scalar.indexCast v3312
  let c0_2059 : Index := 0#32
  ![v3314.toNat, 0]

def k0_chk379 (v3312 : BitVec 32) : Prop :=
  (∀ a, (k0_off808 v3312) a + S1x1024.size a ≤ S1032x1024.size a)
theorem k0_off808_inb : ∀ (v3312 : BitVec 32) (k0_hw379 : k0_chk379 v3312), ∀ a, (k0_off808 v3312) a + S1x1024.size a ≤ S1032x1024.size a := fun v3312 k0_hw379 => k0_hw379

def k0_off809 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3318 : Index := Scalar.indexCast v3171
  let c19_2060 : Index := 19#32
  ![v3318.toNat, 19]
def k0_off810 (v3319 : BitVec 32) : Fin 2 → Nat :=
  let v3321 : Index := Scalar.indexCast v3319
  let c0_2063 : Index := 0#32
  ![v3321.toNat, 0]

def k0_chk380 (v3319 : BitVec 32) : Prop :=
  (∀ a, (k0_off810 v3319) a + S1x1024.size a ≤ S1032x1024.size a)
theorem k0_off810_inb : ∀ (v3319 : BitVec 32) (k0_hw380 : k0_chk380 v3319), ∀ a, (k0_off810 v3319) a + S1x1024.size a ≤ S1032x1024.size a := fun v3319 k0_hw380 => k0_hw380

def k0_off811 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3325 : Index := Scalar.indexCast v3171
  let c20_2064 : Index := 20#32
  ![v3325.toNat, 20]
def k0_off812 (v3326 : BitVec 32) : Fin 2 → Nat :=
  let v3328 : Index := Scalar.indexCast v3326
  let c0_2067 : Index := 0#32
  ![v3328.toNat, 0]

def k0_chk381 (v3326 : BitVec 32) : Prop :=
  (∀ a, (k0_off812 v3326) a + S1x1024.size a ≤ S1032x1024.size a)
theorem k0_off812_inb : ∀ (v3326 : BitVec 32) (k0_hw381 : k0_chk381 v3326), ∀ a, (k0_off812 v3326) a + S1x1024.size a ≤ S1032x1024.size a := fun v3326 k0_hw381 => k0_hw381

def k0_off813 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3332 : Index := Scalar.indexCast v3171
  let c21_2068 : Index := 21#32
  ![v3332.toNat, 21]
def k0_off814 (v3333 : BitVec 32) : Fin 2 → Nat :=
  let v3335 : Index := Scalar.indexCast v3333
  let c0_2071 : Index := 0#32
  ![v3335.toNat, 0]

def k0_chk382 (v3333 : BitVec 32) : Prop :=
  (∀ a, (k0_off814 v3333) a + S1x1024.size a ≤ S1032x1024.size a)
theorem k0_off814_inb : ∀ (v3333 : BitVec 32) (k0_hw382 : k0_chk382 v3333), ∀ a, (k0_off814 v3333) a + S1x1024.size a ≤ S1032x1024.size a := fun v3333 k0_hw382 => k0_hw382

def k0_off815 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3339 : Index := Scalar.indexCast v3171
  let c22_2072 : Index := 22#32
  ![v3339.toNat, 22]
def k0_off816 (v3340 : BitVec 32) : Fin 2 → Nat :=
  let v3342 : Index := Scalar.indexCast v3340
  let c0_2075 : Index := 0#32
  ![v3342.toNat, 0]

def k0_chk383 (v3340 : BitVec 32) : Prop :=
  (∀ a, (k0_off816 v3340) a + S1x1024.size a ≤ S1032x1024.size a)
theorem k0_off816_inb : ∀ (v3340 : BitVec 32) (k0_hw383 : k0_chk383 v3340), ∀ a, (k0_off816 v3340) a + S1x1024.size a ≤ S1032x1024.size a := fun v3340 k0_hw383 => k0_hw383

def k0_off817 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1971 : BitVec 32 := 14#32
  let v3169 : BitVec 32 := Scalar.subi v2 c14_i32_1971
  let c32_i32_1972 : BitVec 32 := 32#32
  let v3170 : BitVec 32 := Scalar.addi v3169 c32_i32_1972
  let c32_i32_1973 : BitVec 32 := 32#32
  let v3171 : BitVec 32 := Scalar.remsi v3170 c32_i32_1973
  let v3346 : Index := Scalar.indexCast v3171
  let c23_2076 : Index := 23#32
  ![v3346.toNat, 23]
def k0_off818 (v3347 : BitVec 32) : Fin 2 → Nat :=
  let v3349 : Index := Scalar.indexCast v3347
  let c0_2079 : Index := 0#32
  ![v3349.toNat, 0]

def k0_chk384 (v3347 : BitVec 32) : Prop :=
  (∀ a, (k0_off818 v3347) a + S1x1024.size a ≤ S1032x1024.size a)
theorem k0_off818_inb : ∀ (v3347 : BitVec 32) (k0_hw384 : k0_chk384 v3347), ∀ a, (k0_off818 v3347) a + S1x1024.size a ≤ S1032x1024.size a := fun v3347 k0_hw384 => k0_hw384

def k0_off819 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  ![v3355.toNat]
def k0_off820 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let c0_i32_2085 : BitVec 32 := 0#32
  let c0_i32_2086 : BitVec 32 := 0#32
  ![v3355.toNat, 0, 0]
def k0_off821 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3362 : Index := Scalar.indexCast v3355
  let c0_2089 : Index := 0#32
  let c0_2090 : Index := 0#32
  ![v3362.toNat, 0, 0]
def k0_off822 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3369 : Index := Scalar.indexCast v3355
  let c0_2093 : Index := 0#32
  ![v3369.toNat, 0]
def k0_off823 (v3370 : BitVec 32) : Fin 2 → Nat :=
  let v3372 : Index := Scalar.indexCast v3370
  let c0_2096 : Index := 0#32
  ![v3372.toNat, 0]

def k0_chk385 (v3370 : BitVec 32) : Prop :=
  (∀ a, (k0_off823 v3370) a + S1x1024.size a ≤ S1032x1024.size a)
theorem k0_off823_inb : ∀ (v3370 : BitVec 32) (k0_hw385 : k0_chk385 v3370), ∀ a, (k0_off823 v3370) a + S1x1024.size a ≤ S1032x1024.size a := fun v3370 k0_hw385 => k0_hw385

def k0_off824 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3376 : Index := Scalar.indexCast v3355
  let c1_2097 : Index := 1#32
  ![v3376.toNat, 1]
def k0_off825 (v3377 : BitVec 32) : Fin 2 → Nat :=
  let v3379 : Index := Scalar.indexCast v3377
  let c0_2100 : Index := 0#32
  ![v3379.toNat, 0]

def k0_chk386 (v3377 : BitVec 32) : Prop :=
  (∀ a, (k0_off825 v3377) a + S1x1024.size a ≤ S1032x1024.size a)
theorem k0_off825_inb : ∀ (v3377 : BitVec 32) (k0_hw386 : k0_chk386 v3377), ∀ a, (k0_off825 v3377) a + S1x1024.size a ≤ S1032x1024.size a := fun v3377 k0_hw386 => k0_hw386

def k0_off826 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3383 : Index := Scalar.indexCast v3355
  let c2_2101 : Index := 2#32
  ![v3383.toNat, 2]
def k0_off827 (v3384 : BitVec 32) : Fin 2 → Nat :=
  let v3386 : Index := Scalar.indexCast v3384
  let c0_2104 : Index := 0#32
  ![v3386.toNat, 0]

def k0_chk387 (v3384 : BitVec 32) : Prop :=
  (∀ a, (k0_off827 v3384) a + S1x1024.size a ≤ S1032x1024.size a)
theorem k0_off827_inb : ∀ (v3384 : BitVec 32) (k0_hw387 : k0_chk387 v3384), ∀ a, (k0_off827 v3384) a + S1x1024.size a ≤ S1032x1024.size a := fun v3384 k0_hw387 => k0_hw387

def k0_off828 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3390 : Index := Scalar.indexCast v3355
  let c3_2105 : Index := 3#32
  ![v3390.toNat, 3]
def k0_off829 (v3391 : BitVec 32) : Fin 2 → Nat :=
  let v3393 : Index := Scalar.indexCast v3391
  let c0_2108 : Index := 0#32
  ![v3393.toNat, 0]

def k0_chk388 (v3391 : BitVec 32) : Prop :=
  (∀ a, (k0_off829 v3391) a + S1x1024.size a ≤ S1032x1024.size a)
theorem k0_off829_inb : ∀ (v3391 : BitVec 32) (k0_hw388 : k0_chk388 v3391), ∀ a, (k0_off829 v3391) a + S1x1024.size a ≤ S1032x1024.size a := fun v3391 k0_hw388 => k0_hw388

def k0_off830 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3397 : Index := Scalar.indexCast v3355
  let c4_2109 : Index := 4#32
  ![v3397.toNat, 4]
def k0_off831 (v3398 : BitVec 32) : Fin 2 → Nat :=
  let v3400 : Index := Scalar.indexCast v3398
  let c0_2112 : Index := 0#32
  ![v3400.toNat, 0]

def k0_chk389 (v3398 : BitVec 32) : Prop :=
  (∀ a, (k0_off831 v3398) a + S1x1024.size a ≤ S1032x1024.size a)
theorem k0_off831_inb : ∀ (v3398 : BitVec 32) (k0_hw389 : k0_chk389 v3398), ∀ a, (k0_off831 v3398) a + S1x1024.size a ≤ S1032x1024.size a := fun v3398 k0_hw389 => k0_hw389

def k0_off832 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3404 : Index := Scalar.indexCast v3355
  let c5_2113 : Index := 5#32
  ![v3404.toNat, 5]
def k0_off833 (v3405 : BitVec 32) : Fin 2 → Nat :=
  let v3407 : Index := Scalar.indexCast v3405
  let c0_2116 : Index := 0#32
  ![v3407.toNat, 0]

def k0_chk390 (v3405 : BitVec 32) : Prop :=
  (∀ a, (k0_off833 v3405) a + S1x1024.size a ≤ S1032x1024.size a)
theorem k0_off833_inb : ∀ (v3405 : BitVec 32) (k0_hw390 : k0_chk390 v3405), ∀ a, (k0_off833 v3405) a + S1x1024.size a ≤ S1032x1024.size a := fun v3405 k0_hw390 => k0_hw390

def k0_off834 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3411 : Index := Scalar.indexCast v3355
  let c6_2117 : Index := 6#32
  ![v3411.toNat, 6]
def k0_off835 (v3412 : BitVec 32) : Fin 2 → Nat :=
  let v3414 : Index := Scalar.indexCast v3412
  let c0_2120 : Index := 0#32
  ![v3414.toNat, 0]

def k0_chk391 (v3412 : BitVec 32) : Prop :=
  (∀ a, (k0_off835 v3412) a + S1x1024.size a ≤ S1032x1024.size a)
theorem k0_off835_inb : ∀ (v3412 : BitVec 32) (k0_hw391 : k0_chk391 v3412), ∀ a, (k0_off835 v3412) a + S1x1024.size a ≤ S1032x1024.size a := fun v3412 k0_hw391 => k0_hw391

def k0_off836 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3418 : Index := Scalar.indexCast v3355
  let c7_2121 : Index := 7#32
  ![v3418.toNat, 7]
def k0_off837 (v3419 : BitVec 32) : Fin 2 → Nat :=
  let v3421 : Index := Scalar.indexCast v3419
  let c0_2124 : Index := 0#32
  ![v3421.toNat, 0]

def k0_chk392 (v3419 : BitVec 32) : Prop :=
  (∀ a, (k0_off837 v3419) a + S1x1024.size a ≤ S1032x1024.size a)
theorem k0_off837_inb : ∀ (v3419 : BitVec 32) (k0_hw392 : k0_chk392 v3419), ∀ a, (k0_off837 v3419) a + S1x1024.size a ≤ S1032x1024.size a := fun v3419 k0_hw392 => k0_hw392

def k0_off838 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3425 : Index := Scalar.indexCast v3355
  let c8_2125 : Index := 8#32
  ![v3425.toNat, 8]
def k0_off839 (v3426 : BitVec 32) : Fin 2 → Nat :=
  let v3428 : Index := Scalar.indexCast v3426
  let c0_2128 : Index := 0#32
  ![v3428.toNat, 0]

def k0_chk393 (v3426 : BitVec 32) : Prop :=
  (∀ a, (k0_off839 v3426) a + S1x1024.size a ≤ S1032x1024.size a)
theorem k0_off839_inb : ∀ (v3426 : BitVec 32) (k0_hw393 : k0_chk393 v3426), ∀ a, (k0_off839 v3426) a + S1x1024.size a ≤ S1032x1024.size a := fun v3426 k0_hw393 => k0_hw393

def k0_off840 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3432 : Index := Scalar.indexCast v3355
  let c9_2129 : Index := 9#32
  ![v3432.toNat, 9]
def k0_off841 (v3433 : BitVec 32) : Fin 2 → Nat :=
  let v3435 : Index := Scalar.indexCast v3433
  let c0_2132 : Index := 0#32
  ![v3435.toNat, 0]

def k0_chk394 (v3433 : BitVec 32) : Prop :=
  (∀ a, (k0_off841 v3433) a + S1x1024.size a ≤ S1032x1024.size a)
theorem k0_off841_inb : ∀ (v3433 : BitVec 32) (k0_hw394 : k0_chk394 v3433), ∀ a, (k0_off841 v3433) a + S1x1024.size a ≤ S1032x1024.size a := fun v3433 k0_hw394 => k0_hw394

def k0_off842 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3439 : Index := Scalar.indexCast v3355
  let c10_2133 : Index := 10#32
  ![v3439.toNat, 10]
def k0_off843 (v3440 : BitVec 32) : Fin 2 → Nat :=
  let v3442 : Index := Scalar.indexCast v3440
  let c0_2136 : Index := 0#32
  ![v3442.toNat, 0]

def k0_chk395 (v3440 : BitVec 32) : Prop :=
  (∀ a, (k0_off843 v3440) a + S1x1024.size a ≤ S1032x1024.size a)
theorem k0_off843_inb : ∀ (v3440 : BitVec 32) (k0_hw395 : k0_chk395 v3440), ∀ a, (k0_off843 v3440) a + S1x1024.size a ≤ S1032x1024.size a := fun v3440 k0_hw395 => k0_hw395

def k0_off844 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3446 : Index := Scalar.indexCast v3355
  let c11_2137 : Index := 11#32
  ![v3446.toNat, 11]
def k0_off845 (v3447 : BitVec 32) : Fin 2 → Nat :=
  let v3449 : Index := Scalar.indexCast v3447
  let c0_2140 : Index := 0#32
  ![v3449.toNat, 0]

def k0_chk396 (v3447 : BitVec 32) : Prop :=
  (∀ a, (k0_off845 v3447) a + S1x1024.size a ≤ S1032x1024.size a)
theorem k0_off845_inb : ∀ (v3447 : BitVec 32) (k0_hw396 : k0_chk396 v3447), ∀ a, (k0_off845 v3447) a + S1x1024.size a ≤ S1032x1024.size a := fun v3447 k0_hw396 => k0_hw396

def k0_off846 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3453 : Index := Scalar.indexCast v3355
  let c12_2141 : Index := 12#32
  ![v3453.toNat, 12]
def k0_off847 (v3454 : BitVec 32) : Fin 2 → Nat :=
  let v3456 : Index := Scalar.indexCast v3454
  let c0_2144 : Index := 0#32
  ![v3456.toNat, 0]

def k0_chk397 (v3454 : BitVec 32) : Prop :=
  (∀ a, (k0_off847 v3454) a + S1x1024.size a ≤ S1032x1024.size a)
theorem k0_off847_inb : ∀ (v3454 : BitVec 32) (k0_hw397 : k0_chk397 v3454), ∀ a, (k0_off847 v3454) a + S1x1024.size a ≤ S1032x1024.size a := fun v3454 k0_hw397 => k0_hw397

def k0_off848 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3460 : Index := Scalar.indexCast v3355
  let c13_2145 : Index := 13#32
  ![v3460.toNat, 13]
def k0_off849 (v3461 : BitVec 32) : Fin 2 → Nat :=
  let v3463 : Index := Scalar.indexCast v3461
  let c0_2148 : Index := 0#32
  ![v3463.toNat, 0]

def k0_chk398 (v3461 : BitVec 32) : Prop :=
  (∀ a, (k0_off849 v3461) a + S1x1024.size a ≤ S1032x1024.size a)
theorem k0_off849_inb : ∀ (v3461 : BitVec 32) (k0_hw398 : k0_chk398 v3461), ∀ a, (k0_off849 v3461) a + S1x1024.size a ≤ S1032x1024.size a := fun v3461 k0_hw398 => k0_hw398

def k0_off850 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3467 : Index := Scalar.indexCast v3355
  let c14_2149 : Index := 14#32
  ![v3467.toNat, 14]
def k0_off851 (v3468 : BitVec 32) : Fin 2 → Nat :=
  let v3470 : Index := Scalar.indexCast v3468
  let c0_2152 : Index := 0#32
  ![v3470.toNat, 0]

def k0_chk399 (v3468 : BitVec 32) : Prop :=
  (∀ a, (k0_off851 v3468) a + S1x1024.size a ≤ S1032x1024.size a)
theorem k0_off851_inb : ∀ (v3468 : BitVec 32) (k0_hw399 : k0_chk399 v3468), ∀ a, (k0_off851 v3468) a + S1x1024.size a ≤ S1032x1024.size a := fun v3468 k0_hw399 => k0_hw399

def k0_off852 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3474 : Index := Scalar.indexCast v3355
  let c15_2153 : Index := 15#32
  ![v3474.toNat, 15]
def k0_off853 (v3475 : BitVec 32) : Fin 2 → Nat :=
  let v3477 : Index := Scalar.indexCast v3475
  let c0_2156 : Index := 0#32
  ![v3477.toNat, 0]

def k0_chk400 (v3475 : BitVec 32) : Prop :=
  (∀ a, (k0_off853 v3475) a + S1x1024.size a ≤ S1032x1024.size a)
theorem k0_off853_inb : ∀ (v3475 : BitVec 32) (k0_hw400 : k0_chk400 v3475), ∀ a, (k0_off853 v3475) a + S1x1024.size a ≤ S1032x1024.size a := fun v3475 k0_hw400 => k0_hw400

def k0_off854 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3481 : Index := Scalar.indexCast v3355
  let c16_2157 : Index := 16#32
  ![v3481.toNat, 16]
def k0_off855 (v3482 : BitVec 32) : Fin 2 → Nat :=
  let v3484 : Index := Scalar.indexCast v3482
  let c0_2160 : Index := 0#32
  ![v3484.toNat, 0]

def k0_chk401 (v3482 : BitVec 32) : Prop :=
  (∀ a, (k0_off855 v3482) a + S1x1024.size a ≤ S1032x1024.size a)
theorem k0_off855_inb : ∀ (v3482 : BitVec 32) (k0_hw401 : k0_chk401 v3482), ∀ a, (k0_off855 v3482) a + S1x1024.size a ≤ S1032x1024.size a := fun v3482 k0_hw401 => k0_hw401

def k0_off856 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3488 : Index := Scalar.indexCast v3355
  let c17_2161 : Index := 17#32
  ![v3488.toNat, 17]
def k0_off857 (v3489 : BitVec 32) : Fin 2 → Nat :=
  let v3491 : Index := Scalar.indexCast v3489
  let c0_2164 : Index := 0#32
  ![v3491.toNat, 0]

def k0_chk402 (v3489 : BitVec 32) : Prop :=
  (∀ a, (k0_off857 v3489) a + S1x1024.size a ≤ S1032x1024.size a)
theorem k0_off857_inb : ∀ (v3489 : BitVec 32) (k0_hw402 : k0_chk402 v3489), ∀ a, (k0_off857 v3489) a + S1x1024.size a ≤ S1032x1024.size a := fun v3489 k0_hw402 => k0_hw402

def k0_off858 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3495 : Index := Scalar.indexCast v3355
  let c18_2165 : Index := 18#32
  ![v3495.toNat, 18]
def k0_off859 (v3496 : BitVec 32) : Fin 2 → Nat :=
  let v3498 : Index := Scalar.indexCast v3496
  let c0_2168 : Index := 0#32
  ![v3498.toNat, 0]

def k0_chk403 (v3496 : BitVec 32) : Prop :=
  (∀ a, (k0_off859 v3496) a + S1x1024.size a ≤ S1032x1024.size a)
theorem k0_off859_inb : ∀ (v3496 : BitVec 32) (k0_hw403 : k0_chk403 v3496), ∀ a, (k0_off859 v3496) a + S1x1024.size a ≤ S1032x1024.size a := fun v3496 k0_hw403 => k0_hw403

def k0_off860 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3502 : Index := Scalar.indexCast v3355
  let c19_2169 : Index := 19#32
  ![v3502.toNat, 19]
def k0_off861 (v3503 : BitVec 32) : Fin 2 → Nat :=
  let v3505 : Index := Scalar.indexCast v3503
  let c0_2172 : Index := 0#32
  ![v3505.toNat, 0]

def k0_chk404 (v3503 : BitVec 32) : Prop :=
  (∀ a, (k0_off861 v3503) a + S1x1024.size a ≤ S1032x1024.size a)
theorem k0_off861_inb : ∀ (v3503 : BitVec 32) (k0_hw404 : k0_chk404 v3503), ∀ a, (k0_off861 v3503) a + S1x1024.size a ≤ S1032x1024.size a := fun v3503 k0_hw404 => k0_hw404

def k0_off862 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3509 : Index := Scalar.indexCast v3355
  let c20_2173 : Index := 20#32
  ![v3509.toNat, 20]
def k0_off863 (v3510 : BitVec 32) : Fin 2 → Nat :=
  let v3512 : Index := Scalar.indexCast v3510
  let c0_2176 : Index := 0#32
  ![v3512.toNat, 0]

def k0_chk405 (v3510 : BitVec 32) : Prop :=
  (∀ a, (k0_off863 v3510) a + S1x1024.size a ≤ S1032x1024.size a)
theorem k0_off863_inb : ∀ (v3510 : BitVec 32) (k0_hw405 : k0_chk405 v3510), ∀ a, (k0_off863 v3510) a + S1x1024.size a ≤ S1032x1024.size a := fun v3510 k0_hw405 => k0_hw405

def k0_off864 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3516 : Index := Scalar.indexCast v3355
  let c21_2177 : Index := 21#32
  ![v3516.toNat, 21]
def k0_off865 (v3517 : BitVec 32) : Fin 2 → Nat :=
  let v3519 : Index := Scalar.indexCast v3517
  let c0_2180 : Index := 0#32
  ![v3519.toNat, 0]

def k0_chk406 (v3517 : BitVec 32) : Prop :=
  (∀ a, (k0_off865 v3517) a + S1x1024.size a ≤ S1032x1024.size a)
theorem k0_off865_inb : ∀ (v3517 : BitVec 32) (k0_hw406 : k0_chk406 v3517), ∀ a, (k0_off865 v3517) a + S1x1024.size a ≤ S1032x1024.size a := fun v3517 k0_hw406 => k0_hw406

def k0_off866 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3523 : Index := Scalar.indexCast v3355
  let c22_2181 : Index := 22#32
  ![v3523.toNat, 22]
def k0_off867 (v3524 : BitVec 32) : Fin 2 → Nat :=
  let v3526 : Index := Scalar.indexCast v3524
  let c0_2184 : Index := 0#32
  ![v3526.toNat, 0]

def k0_chk407 (v3524 : BitVec 32) : Prop :=
  (∀ a, (k0_off867 v3524) a + S1x1024.size a ≤ S1032x1024.size a)
theorem k0_off867_inb : ∀ (v3524 : BitVec 32) (k0_hw407 : k0_chk407 v3524), ∀ a, (k0_off867 v3524) a + S1x1024.size a ≤ S1032x1024.size a := fun v3524 k0_hw407 => k0_hw407

def k0_off868 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2080 : BitVec 32 := 15#32
  let v3353 : BitVec 32 := Scalar.subi v2 c15_i32_2080
  let c32_i32_2081 : BitVec 32 := 32#32
  let v3354 : BitVec 32 := Scalar.addi v3353 c32_i32_2081
  let c32_i32_2082 : BitVec 32 := 32#32
  let v3355 : BitVec 32 := Scalar.remsi v3354 c32_i32_2082
  let v3530 : Index := Scalar.indexCast v3355
  let c23_2185 : Index := 23#32
  ![v3530.toNat, 23]
def k0_off869 (v3531 : BitVec 32) : Fin 2 → Nat :=
  let v3533 : Index := Scalar.indexCast v3531
  let c0_2188 : Index := 0#32
  ![v3533.toNat, 0]

def k0_chk408 (v3531 : BitVec 32) : Prop :=
  (∀ a, (k0_off869 v3531) a + S1x1024.size a ≤ S1032x1024.size a)
theorem k0_off869_inb : ∀ (v3531 : BitVec 32) (k0_hw408 : k0_chk408 v3531), ∀ a, (k0_off869 v3531) a + S1x1024.size a ≤ S1032x1024.size a := fun v3531 k0_hw408 => k0_hw408

def k0_off870 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  ![v3539.toNat]
def k0_off871 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let c0_i32_2194 : BitVec 32 := 0#32
  let c0_i32_2195 : BitVec 32 := 0#32
  ![v3539.toNat, 0, 0]
def k0_off872 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3546 : Index := Scalar.indexCast v3539
  let c0_2198 : Index := 0#32
  let c0_2199 : Index := 0#32
  ![v3546.toNat, 0, 0]
def k0_off873 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3553 : Index := Scalar.indexCast v3539
  let c0_2202 : Index := 0#32
  ![v3553.toNat, 0]
def k0_off874 (v3554 : BitVec 32) : Fin 2 → Nat :=
  let v3556 : Index := Scalar.indexCast v3554
  let c0_2205 : Index := 0#32
  ![v3556.toNat, 0]

def k0_chk409 (v3554 : BitVec 32) : Prop :=
  (∀ a, (k0_off874 v3554) a + S1x1024.size a ≤ S1032x1024.size a)
theorem k0_off874_inb : ∀ (v3554 : BitVec 32) (k0_hw409 : k0_chk409 v3554), ∀ a, (k0_off874 v3554) a + S1x1024.size a ≤ S1032x1024.size a := fun v3554 k0_hw409 => k0_hw409

def k0_off875 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3560 : Index := Scalar.indexCast v3539
  let c1_2206 : Index := 1#32
  ![v3560.toNat, 1]
def k0_off876 (v3561 : BitVec 32) : Fin 2 → Nat :=
  let v3563 : Index := Scalar.indexCast v3561
  let c0_2209 : Index := 0#32
  ![v3563.toNat, 0]

def k0_chk410 (v3561 : BitVec 32) : Prop :=
  (∀ a, (k0_off876 v3561) a + S1x1024.size a ≤ S1032x1024.size a)
theorem k0_off876_inb : ∀ (v3561 : BitVec 32) (k0_hw410 : k0_chk410 v3561), ∀ a, (k0_off876 v3561) a + S1x1024.size a ≤ S1032x1024.size a := fun v3561 k0_hw410 => k0_hw410

def k0_off877 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3567 : Index := Scalar.indexCast v3539
  let c2_2210 : Index := 2#32
  ![v3567.toNat, 2]
def k0_off878 (v3568 : BitVec 32) : Fin 2 → Nat :=
  let v3570 : Index := Scalar.indexCast v3568
  let c0_2213 : Index := 0#32
  ![v3570.toNat, 0]

def k0_chk411 (v3568 : BitVec 32) : Prop :=
  (∀ a, (k0_off878 v3568) a + S1x1024.size a ≤ S1032x1024.size a)
theorem k0_off878_inb : ∀ (v3568 : BitVec 32) (k0_hw411 : k0_chk411 v3568), ∀ a, (k0_off878 v3568) a + S1x1024.size a ≤ S1032x1024.size a := fun v3568 k0_hw411 => k0_hw411

def k0_off879 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3574 : Index := Scalar.indexCast v3539
  let c3_2214 : Index := 3#32
  ![v3574.toNat, 3]
def k0_off880 (v3575 : BitVec 32) : Fin 2 → Nat :=
  let v3577 : Index := Scalar.indexCast v3575
  let c0_2217 : Index := 0#32
  ![v3577.toNat, 0]

def k0_chk412 (v3575 : BitVec 32) : Prop :=
  (∀ a, (k0_off880 v3575) a + S1x1024.size a ≤ S1032x1024.size a)
theorem k0_off880_inb : ∀ (v3575 : BitVec 32) (k0_hw412 : k0_chk412 v3575), ∀ a, (k0_off880 v3575) a + S1x1024.size a ≤ S1032x1024.size a := fun v3575 k0_hw412 => k0_hw412

def k0_off881 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3581 : Index := Scalar.indexCast v3539
  let c4_2218 : Index := 4#32
  ![v3581.toNat, 4]
def k0_off882 (v3582 : BitVec 32) : Fin 2 → Nat :=
  let v3584 : Index := Scalar.indexCast v3582
  let c0_2221 : Index := 0#32
  ![v3584.toNat, 0]

def k0_chk413 (v3582 : BitVec 32) : Prop :=
  (∀ a, (k0_off882 v3582) a + S1x1024.size a ≤ S1032x1024.size a)
theorem k0_off882_inb : ∀ (v3582 : BitVec 32) (k0_hw413 : k0_chk413 v3582), ∀ a, (k0_off882 v3582) a + S1x1024.size a ≤ S1032x1024.size a := fun v3582 k0_hw413 => k0_hw413

def k0_off883 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3588 : Index := Scalar.indexCast v3539
  let c5_2222 : Index := 5#32
  ![v3588.toNat, 5]
def k0_off884 (v3589 : BitVec 32) : Fin 2 → Nat :=
  let v3591 : Index := Scalar.indexCast v3589
  let c0_2225 : Index := 0#32
  ![v3591.toNat, 0]

def k0_chk414 (v3589 : BitVec 32) : Prop :=
  (∀ a, (k0_off884 v3589) a + S1x1024.size a ≤ S1032x1024.size a)
theorem k0_off884_inb : ∀ (v3589 : BitVec 32) (k0_hw414 : k0_chk414 v3589), ∀ a, (k0_off884 v3589) a + S1x1024.size a ≤ S1032x1024.size a := fun v3589 k0_hw414 => k0_hw414

def k0_off885 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3595 : Index := Scalar.indexCast v3539
  let c6_2226 : Index := 6#32
  ![v3595.toNat, 6]
def k0_off886 (v3596 : BitVec 32) : Fin 2 → Nat :=
  let v3598 : Index := Scalar.indexCast v3596
  let c0_2229 : Index := 0#32
  ![v3598.toNat, 0]

def k0_chk415 (v3596 : BitVec 32) : Prop :=
  (∀ a, (k0_off886 v3596) a + S1x1024.size a ≤ S1032x1024.size a)
theorem k0_off886_inb : ∀ (v3596 : BitVec 32) (k0_hw415 : k0_chk415 v3596), ∀ a, (k0_off886 v3596) a + S1x1024.size a ≤ S1032x1024.size a := fun v3596 k0_hw415 => k0_hw415

def k0_off887 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3602 : Index := Scalar.indexCast v3539
  let c7_2230 : Index := 7#32
  ![v3602.toNat, 7]
def k0_off888 (v3603 : BitVec 32) : Fin 2 → Nat :=
  let v3605 : Index := Scalar.indexCast v3603
  let c0_2233 : Index := 0#32
  ![v3605.toNat, 0]

def k0_chk416 (v3603 : BitVec 32) : Prop :=
  (∀ a, (k0_off888 v3603) a + S1x1024.size a ≤ S1032x1024.size a)
theorem k0_off888_inb : ∀ (v3603 : BitVec 32) (k0_hw416 : k0_chk416 v3603), ∀ a, (k0_off888 v3603) a + S1x1024.size a ≤ S1032x1024.size a := fun v3603 k0_hw416 => k0_hw416

def k0_off889 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3609 : Index := Scalar.indexCast v3539
  let c8_2234 : Index := 8#32
  ![v3609.toNat, 8]
def k0_off890 (v3610 : BitVec 32) : Fin 2 → Nat :=
  let v3612 : Index := Scalar.indexCast v3610
  let c0_2237 : Index := 0#32
  ![v3612.toNat, 0]

def k0_chk417 (v3610 : BitVec 32) : Prop :=
  (∀ a, (k0_off890 v3610) a + S1x1024.size a ≤ S1032x1024.size a)
theorem k0_off890_inb : ∀ (v3610 : BitVec 32) (k0_hw417 : k0_chk417 v3610), ∀ a, (k0_off890 v3610) a + S1x1024.size a ≤ S1032x1024.size a := fun v3610 k0_hw417 => k0_hw417

def k0_off891 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3616 : Index := Scalar.indexCast v3539
  let c9_2238 : Index := 9#32
  ![v3616.toNat, 9]
def k0_off892 (v3617 : BitVec 32) : Fin 2 → Nat :=
  let v3619 : Index := Scalar.indexCast v3617
  let c0_2241 : Index := 0#32
  ![v3619.toNat, 0]

def k0_chk418 (v3617 : BitVec 32) : Prop :=
  (∀ a, (k0_off892 v3617) a + S1x1024.size a ≤ S1032x1024.size a)
theorem k0_off892_inb : ∀ (v3617 : BitVec 32) (k0_hw418 : k0_chk418 v3617), ∀ a, (k0_off892 v3617) a + S1x1024.size a ≤ S1032x1024.size a := fun v3617 k0_hw418 => k0_hw418

def k0_off893 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3623 : Index := Scalar.indexCast v3539
  let c10_2242 : Index := 10#32
  ![v3623.toNat, 10]
def k0_off894 (v3624 : BitVec 32) : Fin 2 → Nat :=
  let v3626 : Index := Scalar.indexCast v3624
  let c0_2245 : Index := 0#32
  ![v3626.toNat, 0]

def k0_chk419 (v3624 : BitVec 32) : Prop :=
  (∀ a, (k0_off894 v3624) a + S1x1024.size a ≤ S1032x1024.size a)
theorem k0_off894_inb : ∀ (v3624 : BitVec 32) (k0_hw419 : k0_chk419 v3624), ∀ a, (k0_off894 v3624) a + S1x1024.size a ≤ S1032x1024.size a := fun v3624 k0_hw419 => k0_hw419

def k0_off895 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3630 : Index := Scalar.indexCast v3539
  let c11_2246 : Index := 11#32
  ![v3630.toNat, 11]
def k0_off896 (v3631 : BitVec 32) : Fin 2 → Nat :=
  let v3633 : Index := Scalar.indexCast v3631
  let c0_2249 : Index := 0#32
  ![v3633.toNat, 0]

def k0_chk420 (v3631 : BitVec 32) : Prop :=
  (∀ a, (k0_off896 v3631) a + S1x1024.size a ≤ S1032x1024.size a)
theorem k0_off896_inb : ∀ (v3631 : BitVec 32) (k0_hw420 : k0_chk420 v3631), ∀ a, (k0_off896 v3631) a + S1x1024.size a ≤ S1032x1024.size a := fun v3631 k0_hw420 => k0_hw420

def k0_off897 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3637 : Index := Scalar.indexCast v3539
  let c12_2250 : Index := 12#32
  ![v3637.toNat, 12]
def k0_off898 (v3638 : BitVec 32) : Fin 2 → Nat :=
  let v3640 : Index := Scalar.indexCast v3638
  let c0_2253 : Index := 0#32
  ![v3640.toNat, 0]

def k0_chk421 (v3638 : BitVec 32) : Prop :=
  (∀ a, (k0_off898 v3638) a + S1x1024.size a ≤ S1032x1024.size a)
theorem k0_off898_inb : ∀ (v3638 : BitVec 32) (k0_hw421 : k0_chk421 v3638), ∀ a, (k0_off898 v3638) a + S1x1024.size a ≤ S1032x1024.size a := fun v3638 k0_hw421 => k0_hw421

def k0_off899 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3644 : Index := Scalar.indexCast v3539
  let c13_2254 : Index := 13#32
  ![v3644.toNat, 13]
def k0_off900 (v3645 : BitVec 32) : Fin 2 → Nat :=
  let v3647 : Index := Scalar.indexCast v3645
  let c0_2257 : Index := 0#32
  ![v3647.toNat, 0]

def k0_chk422 (v3645 : BitVec 32) : Prop :=
  (∀ a, (k0_off900 v3645) a + S1x1024.size a ≤ S1032x1024.size a)
theorem k0_off900_inb : ∀ (v3645 : BitVec 32) (k0_hw422 : k0_chk422 v3645), ∀ a, (k0_off900 v3645) a + S1x1024.size a ≤ S1032x1024.size a := fun v3645 k0_hw422 => k0_hw422

def k0_off901 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3651 : Index := Scalar.indexCast v3539
  let c14_2258 : Index := 14#32
  ![v3651.toNat, 14]
def k0_off902 (v3652 : BitVec 32) : Fin 2 → Nat :=
  let v3654 : Index := Scalar.indexCast v3652
  let c0_2261 : Index := 0#32
  ![v3654.toNat, 0]

def k0_chk423 (v3652 : BitVec 32) : Prop :=
  (∀ a, (k0_off902 v3652) a + S1x1024.size a ≤ S1032x1024.size a)
theorem k0_off902_inb : ∀ (v3652 : BitVec 32) (k0_hw423 : k0_chk423 v3652), ∀ a, (k0_off902 v3652) a + S1x1024.size a ≤ S1032x1024.size a := fun v3652 k0_hw423 => k0_hw423

def k0_off903 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3658 : Index := Scalar.indexCast v3539
  let c15_2262 : Index := 15#32
  ![v3658.toNat, 15]
def k0_off904 (v3659 : BitVec 32) : Fin 2 → Nat :=
  let v3661 : Index := Scalar.indexCast v3659
  let c0_2265 : Index := 0#32
  ![v3661.toNat, 0]

def k0_chk424 (v3659 : BitVec 32) : Prop :=
  (∀ a, (k0_off904 v3659) a + S1x1024.size a ≤ S1032x1024.size a)
theorem k0_off904_inb : ∀ (v3659 : BitVec 32) (k0_hw424 : k0_chk424 v3659), ∀ a, (k0_off904 v3659) a + S1x1024.size a ≤ S1032x1024.size a := fun v3659 k0_hw424 => k0_hw424

def k0_off905 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3665 : Index := Scalar.indexCast v3539
  let c16_2266 : Index := 16#32
  ![v3665.toNat, 16]
def k0_off906 (v3666 : BitVec 32) : Fin 2 → Nat :=
  let v3668 : Index := Scalar.indexCast v3666
  let c0_2269 : Index := 0#32
  ![v3668.toNat, 0]

def k0_chk425 (v3666 : BitVec 32) : Prop :=
  (∀ a, (k0_off906 v3666) a + S1x1024.size a ≤ S1032x1024.size a)
theorem k0_off906_inb : ∀ (v3666 : BitVec 32) (k0_hw425 : k0_chk425 v3666), ∀ a, (k0_off906 v3666) a + S1x1024.size a ≤ S1032x1024.size a := fun v3666 k0_hw425 => k0_hw425

def k0_off907 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3672 : Index := Scalar.indexCast v3539
  let c17_2270 : Index := 17#32
  ![v3672.toNat, 17]
def k0_off908 (v3673 : BitVec 32) : Fin 2 → Nat :=
  let v3675 : Index := Scalar.indexCast v3673
  let c0_2273 : Index := 0#32
  ![v3675.toNat, 0]

def k0_chk426 (v3673 : BitVec 32) : Prop :=
  (∀ a, (k0_off908 v3673) a + S1x1024.size a ≤ S1032x1024.size a)
theorem k0_off908_inb : ∀ (v3673 : BitVec 32) (k0_hw426 : k0_chk426 v3673), ∀ a, (k0_off908 v3673) a + S1x1024.size a ≤ S1032x1024.size a := fun v3673 k0_hw426 => k0_hw426

def k0_off909 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3679 : Index := Scalar.indexCast v3539
  let c18_2274 : Index := 18#32
  ![v3679.toNat, 18]
def k0_off910 (v3680 : BitVec 32) : Fin 2 → Nat :=
  let v3682 : Index := Scalar.indexCast v3680
  let c0_2277 : Index := 0#32
  ![v3682.toNat, 0]

def k0_chk427 (v3680 : BitVec 32) : Prop :=
  (∀ a, (k0_off910 v3680) a + S1x1024.size a ≤ S1032x1024.size a)
theorem k0_off910_inb : ∀ (v3680 : BitVec 32) (k0_hw427 : k0_chk427 v3680), ∀ a, (k0_off910 v3680) a + S1x1024.size a ≤ S1032x1024.size a := fun v3680 k0_hw427 => k0_hw427

def k0_off911 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3686 : Index := Scalar.indexCast v3539
  let c19_2278 : Index := 19#32
  ![v3686.toNat, 19]
def k0_off912 (v3687 : BitVec 32) : Fin 2 → Nat :=
  let v3689 : Index := Scalar.indexCast v3687
  let c0_2281 : Index := 0#32
  ![v3689.toNat, 0]

def k0_chk428 (v3687 : BitVec 32) : Prop :=
  (∀ a, (k0_off912 v3687) a + S1x1024.size a ≤ S1032x1024.size a)
theorem k0_off912_inb : ∀ (v3687 : BitVec 32) (k0_hw428 : k0_chk428 v3687), ∀ a, (k0_off912 v3687) a + S1x1024.size a ≤ S1032x1024.size a := fun v3687 k0_hw428 => k0_hw428

def k0_off913 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3693 : Index := Scalar.indexCast v3539
  let c20_2282 : Index := 20#32
  ![v3693.toNat, 20]
def k0_off914 (v3694 : BitVec 32) : Fin 2 → Nat :=
  let v3696 : Index := Scalar.indexCast v3694
  let c0_2285 : Index := 0#32
  ![v3696.toNat, 0]

def k0_chk429 (v3694 : BitVec 32) : Prop :=
  (∀ a, (k0_off914 v3694) a + S1x1024.size a ≤ S1032x1024.size a)
theorem k0_off914_inb : ∀ (v3694 : BitVec 32) (k0_hw429 : k0_chk429 v3694), ∀ a, (k0_off914 v3694) a + S1x1024.size a ≤ S1032x1024.size a := fun v3694 k0_hw429 => k0_hw429

def k0_off915 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3700 : Index := Scalar.indexCast v3539
  let c21_2286 : Index := 21#32
  ![v3700.toNat, 21]
def k0_off916 (v3701 : BitVec 32) : Fin 2 → Nat :=
  let v3703 : Index := Scalar.indexCast v3701
  let c0_2289 : Index := 0#32
  ![v3703.toNat, 0]

def k0_chk430 (v3701 : BitVec 32) : Prop :=
  (∀ a, (k0_off916 v3701) a + S1x1024.size a ≤ S1032x1024.size a)
theorem k0_off916_inb : ∀ (v3701 : BitVec 32) (k0_hw430 : k0_chk430 v3701), ∀ a, (k0_off916 v3701) a + S1x1024.size a ≤ S1032x1024.size a := fun v3701 k0_hw430 => k0_hw430

def k0_off917 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3707 : Index := Scalar.indexCast v3539
  let c22_2290 : Index := 22#32
  ![v3707.toNat, 22]
def k0_off918 (v3708 : BitVec 32) : Fin 2 → Nat :=
  let v3710 : Index := Scalar.indexCast v3708
  let c0_2293 : Index := 0#32
  ![v3710.toNat, 0]

def k0_chk431 (v3708 : BitVec 32) : Prop :=
  (∀ a, (k0_off918 v3708) a + S1x1024.size a ≤ S1032x1024.size a)
theorem k0_off918_inb : ∀ (v3708 : BitVec 32) (k0_hw431 : k0_chk431 v3708), ∀ a, (k0_off918 v3708) a + S1x1024.size a ≤ S1032x1024.size a := fun v3708 k0_hw431 => k0_hw431

def k0_off919 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2189 : BitVec 32 := 16#32
  let v3537 : BitVec 32 := Scalar.subi v2 c16_i32_2189
  let c32_i32_2190 : BitVec 32 := 32#32
  let v3538 : BitVec 32 := Scalar.addi v3537 c32_i32_2190
  let c32_i32_2191 : BitVec 32 := 32#32
  let v3539 : BitVec 32 := Scalar.remsi v3538 c32_i32_2191
  let v3714 : Index := Scalar.indexCast v3539
  let c23_2294 : Index := 23#32
  ![v3714.toNat, 23]
def k0_off920 (v3715 : BitVec 32) : Fin 2 → Nat :=
  let v3717 : Index := Scalar.indexCast v3715
  let c0_2297 : Index := 0#32
  ![v3717.toNat, 0]

def k0_chk432 (v3715 : BitVec 32) : Prop :=
  (∀ a, (k0_off920 v3715) a + S1x1024.size a ≤ S1032x1024.size a)
theorem k0_off920_inb : ∀ (v3715 : BitVec 32) (k0_hw432 : k0_chk432 v3715), ∀ a, (k0_off920 v3715) a + S1x1024.size a ≤ S1032x1024.size a := fun v3715 k0_hw432 => k0_hw432

def k0_off921 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  ![v3723.toNat]
def k0_off922 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let c0_i32_2303 : BitVec 32 := 0#32
  let c0_i32_2304 : BitVec 32 := 0#32
  ![v3723.toNat, 0, 0]
def k0_off923 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3730 : Index := Scalar.indexCast v3723
  let c0_2307 : Index := 0#32
  let c0_2308 : Index := 0#32
  ![v3730.toNat, 0, 0]
def k0_off924 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3737 : Index := Scalar.indexCast v3723
  let c0_2311 : Index := 0#32
  ![v3737.toNat, 0]
def k0_off925 (v3738 : BitVec 32) : Fin 2 → Nat :=
  let v3740 : Index := Scalar.indexCast v3738
  let c0_2314 : Index := 0#32
  ![v3740.toNat, 0]

def k0_chk433 (v3738 : BitVec 32) : Prop :=
  (∀ a, (k0_off925 v3738) a + S1x1024.size a ≤ S1032x1024.size a)
theorem k0_off925_inb : ∀ (v3738 : BitVec 32) (k0_hw433 : k0_chk433 v3738), ∀ a, (k0_off925 v3738) a + S1x1024.size a ≤ S1032x1024.size a := fun v3738 k0_hw433 => k0_hw433

def k0_off926 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3744 : Index := Scalar.indexCast v3723
  let c1_2315 : Index := 1#32
  ![v3744.toNat, 1]
def k0_off927 (v3745 : BitVec 32) : Fin 2 → Nat :=
  let v3747 : Index := Scalar.indexCast v3745
  let c0_2318 : Index := 0#32
  ![v3747.toNat, 0]

def k0_chk434 (v3745 : BitVec 32) : Prop :=
  (∀ a, (k0_off927 v3745) a + S1x1024.size a ≤ S1032x1024.size a)
theorem k0_off927_inb : ∀ (v3745 : BitVec 32) (k0_hw434 : k0_chk434 v3745), ∀ a, (k0_off927 v3745) a + S1x1024.size a ≤ S1032x1024.size a := fun v3745 k0_hw434 => k0_hw434

def k0_off928 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3751 : Index := Scalar.indexCast v3723
  let c2_2319 : Index := 2#32
  ![v3751.toNat, 2]
def k0_off929 (v3752 : BitVec 32) : Fin 2 → Nat :=
  let v3754 : Index := Scalar.indexCast v3752
  let c0_2322 : Index := 0#32
  ![v3754.toNat, 0]

def k0_chk435 (v3752 : BitVec 32) : Prop :=
  (∀ a, (k0_off929 v3752) a + S1x1024.size a ≤ S1032x1024.size a)
theorem k0_off929_inb : ∀ (v3752 : BitVec 32) (k0_hw435 : k0_chk435 v3752), ∀ a, (k0_off929 v3752) a + S1x1024.size a ≤ S1032x1024.size a := fun v3752 k0_hw435 => k0_hw435

def k0_off930 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3758 : Index := Scalar.indexCast v3723
  let c3_2323 : Index := 3#32
  ![v3758.toNat, 3]
def k0_off931 (v3759 : BitVec 32) : Fin 2 → Nat :=
  let v3761 : Index := Scalar.indexCast v3759
  let c0_2326 : Index := 0#32
  ![v3761.toNat, 0]

def k0_chk436 (v3759 : BitVec 32) : Prop :=
  (∀ a, (k0_off931 v3759) a + S1x1024.size a ≤ S1032x1024.size a)
theorem k0_off931_inb : ∀ (v3759 : BitVec 32) (k0_hw436 : k0_chk436 v3759), ∀ a, (k0_off931 v3759) a + S1x1024.size a ≤ S1032x1024.size a := fun v3759 k0_hw436 => k0_hw436

def k0_off932 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3765 : Index := Scalar.indexCast v3723
  let c4_2327 : Index := 4#32
  ![v3765.toNat, 4]
def k0_off933 (v3766 : BitVec 32) : Fin 2 → Nat :=
  let v3768 : Index := Scalar.indexCast v3766
  let c0_2330 : Index := 0#32
  ![v3768.toNat, 0]

def k0_chk437 (v3766 : BitVec 32) : Prop :=
  (∀ a, (k0_off933 v3766) a + S1x1024.size a ≤ S1032x1024.size a)
theorem k0_off933_inb : ∀ (v3766 : BitVec 32) (k0_hw437 : k0_chk437 v3766), ∀ a, (k0_off933 v3766) a + S1x1024.size a ≤ S1032x1024.size a := fun v3766 k0_hw437 => k0_hw437

def k0_off934 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3772 : Index := Scalar.indexCast v3723
  let c5_2331 : Index := 5#32
  ![v3772.toNat, 5]
def k0_off935 (v3773 : BitVec 32) : Fin 2 → Nat :=
  let v3775 : Index := Scalar.indexCast v3773
  let c0_2334 : Index := 0#32
  ![v3775.toNat, 0]

def k0_chk438 (v3773 : BitVec 32) : Prop :=
  (∀ a, (k0_off935 v3773) a + S1x1024.size a ≤ S1032x1024.size a)
theorem k0_off935_inb : ∀ (v3773 : BitVec 32) (k0_hw438 : k0_chk438 v3773), ∀ a, (k0_off935 v3773) a + S1x1024.size a ≤ S1032x1024.size a := fun v3773 k0_hw438 => k0_hw438

def k0_off936 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3779 : Index := Scalar.indexCast v3723
  let c6_2335 : Index := 6#32
  ![v3779.toNat, 6]
def k0_off937 (v3780 : BitVec 32) : Fin 2 → Nat :=
  let v3782 : Index := Scalar.indexCast v3780
  let c0_2338 : Index := 0#32
  ![v3782.toNat, 0]

def k0_chk439 (v3780 : BitVec 32) : Prop :=
  (∀ a, (k0_off937 v3780) a + S1x1024.size a ≤ S1032x1024.size a)
theorem k0_off937_inb : ∀ (v3780 : BitVec 32) (k0_hw439 : k0_chk439 v3780), ∀ a, (k0_off937 v3780) a + S1x1024.size a ≤ S1032x1024.size a := fun v3780 k0_hw439 => k0_hw439

def k0_off938 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3786 : Index := Scalar.indexCast v3723
  let c7_2339 : Index := 7#32
  ![v3786.toNat, 7]
def k0_off939 (v3787 : BitVec 32) : Fin 2 → Nat :=
  let v3789 : Index := Scalar.indexCast v3787
  let c0_2342 : Index := 0#32
  ![v3789.toNat, 0]

def k0_chk440 (v3787 : BitVec 32) : Prop :=
  (∀ a, (k0_off939 v3787) a + S1x1024.size a ≤ S1032x1024.size a)
theorem k0_off939_inb : ∀ (v3787 : BitVec 32) (k0_hw440 : k0_chk440 v3787), ∀ a, (k0_off939 v3787) a + S1x1024.size a ≤ S1032x1024.size a := fun v3787 k0_hw440 => k0_hw440

def k0_off940 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3793 : Index := Scalar.indexCast v3723
  let c8_2343 : Index := 8#32
  ![v3793.toNat, 8]
def k0_off941 (v3794 : BitVec 32) : Fin 2 → Nat :=
  let v3796 : Index := Scalar.indexCast v3794
  let c0_2346 : Index := 0#32
  ![v3796.toNat, 0]

def k0_chk441 (v3794 : BitVec 32) : Prop :=
  (∀ a, (k0_off941 v3794) a + S1x1024.size a ≤ S1032x1024.size a)
theorem k0_off941_inb : ∀ (v3794 : BitVec 32) (k0_hw441 : k0_chk441 v3794), ∀ a, (k0_off941 v3794) a + S1x1024.size a ≤ S1032x1024.size a := fun v3794 k0_hw441 => k0_hw441

def k0_off942 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3800 : Index := Scalar.indexCast v3723
  let c9_2347 : Index := 9#32
  ![v3800.toNat, 9]
def k0_off943 (v3801 : BitVec 32) : Fin 2 → Nat :=
  let v3803 : Index := Scalar.indexCast v3801
  let c0_2350 : Index := 0#32
  ![v3803.toNat, 0]

def k0_chk442 (v3801 : BitVec 32) : Prop :=
  (∀ a, (k0_off943 v3801) a + S1x1024.size a ≤ S1032x1024.size a)
theorem k0_off943_inb : ∀ (v3801 : BitVec 32) (k0_hw442 : k0_chk442 v3801), ∀ a, (k0_off943 v3801) a + S1x1024.size a ≤ S1032x1024.size a := fun v3801 k0_hw442 => k0_hw442

def k0_off944 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3807 : Index := Scalar.indexCast v3723
  let c10_2351 : Index := 10#32
  ![v3807.toNat, 10]
def k0_off945 (v3808 : BitVec 32) : Fin 2 → Nat :=
  let v3810 : Index := Scalar.indexCast v3808
  let c0_2354 : Index := 0#32
  ![v3810.toNat, 0]

def k0_chk443 (v3808 : BitVec 32) : Prop :=
  (∀ a, (k0_off945 v3808) a + S1x1024.size a ≤ S1032x1024.size a)
theorem k0_off945_inb : ∀ (v3808 : BitVec 32) (k0_hw443 : k0_chk443 v3808), ∀ a, (k0_off945 v3808) a + S1x1024.size a ≤ S1032x1024.size a := fun v3808 k0_hw443 => k0_hw443

def k0_off946 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3814 : Index := Scalar.indexCast v3723
  let c11_2355 : Index := 11#32
  ![v3814.toNat, 11]
def k0_off947 (v3815 : BitVec 32) : Fin 2 → Nat :=
  let v3817 : Index := Scalar.indexCast v3815
  let c0_2358 : Index := 0#32
  ![v3817.toNat, 0]

def k0_chk444 (v3815 : BitVec 32) : Prop :=
  (∀ a, (k0_off947 v3815) a + S1x1024.size a ≤ S1032x1024.size a)
theorem k0_off947_inb : ∀ (v3815 : BitVec 32) (k0_hw444 : k0_chk444 v3815), ∀ a, (k0_off947 v3815) a + S1x1024.size a ≤ S1032x1024.size a := fun v3815 k0_hw444 => k0_hw444

def k0_off948 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3821 : Index := Scalar.indexCast v3723
  let c12_2359 : Index := 12#32
  ![v3821.toNat, 12]
def k0_off949 (v3822 : BitVec 32) : Fin 2 → Nat :=
  let v3824 : Index := Scalar.indexCast v3822
  let c0_2362 : Index := 0#32
  ![v3824.toNat, 0]

def k0_chk445 (v3822 : BitVec 32) : Prop :=
  (∀ a, (k0_off949 v3822) a + S1x1024.size a ≤ S1032x1024.size a)
theorem k0_off949_inb : ∀ (v3822 : BitVec 32) (k0_hw445 : k0_chk445 v3822), ∀ a, (k0_off949 v3822) a + S1x1024.size a ≤ S1032x1024.size a := fun v3822 k0_hw445 => k0_hw445

def k0_off950 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3828 : Index := Scalar.indexCast v3723
  let c13_2363 : Index := 13#32
  ![v3828.toNat, 13]
def k0_off951 (v3829 : BitVec 32) : Fin 2 → Nat :=
  let v3831 : Index := Scalar.indexCast v3829
  let c0_2366 : Index := 0#32
  ![v3831.toNat, 0]

def k0_chk446 (v3829 : BitVec 32) : Prop :=
  (∀ a, (k0_off951 v3829) a + S1x1024.size a ≤ S1032x1024.size a)
theorem k0_off951_inb : ∀ (v3829 : BitVec 32) (k0_hw446 : k0_chk446 v3829), ∀ a, (k0_off951 v3829) a + S1x1024.size a ≤ S1032x1024.size a := fun v3829 k0_hw446 => k0_hw446

def k0_off952 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3835 : Index := Scalar.indexCast v3723
  let c14_2367 : Index := 14#32
  ![v3835.toNat, 14]
def k0_off953 (v3836 : BitVec 32) : Fin 2 → Nat :=
  let v3838 : Index := Scalar.indexCast v3836
  let c0_2370 : Index := 0#32
  ![v3838.toNat, 0]

def k0_chk447 (v3836 : BitVec 32) : Prop :=
  (∀ a, (k0_off953 v3836) a + S1x1024.size a ≤ S1032x1024.size a)
theorem k0_off953_inb : ∀ (v3836 : BitVec 32) (k0_hw447 : k0_chk447 v3836), ∀ a, (k0_off953 v3836) a + S1x1024.size a ≤ S1032x1024.size a := fun v3836 k0_hw447 => k0_hw447

def k0_off954 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3842 : Index := Scalar.indexCast v3723
  let c15_2371 : Index := 15#32
  ![v3842.toNat, 15]
def k0_off955 (v3843 : BitVec 32) : Fin 2 → Nat :=
  let v3845 : Index := Scalar.indexCast v3843
  let c0_2374 : Index := 0#32
  ![v3845.toNat, 0]

def k0_chk448 (v3843 : BitVec 32) : Prop :=
  (∀ a, (k0_off955 v3843) a + S1x1024.size a ≤ S1032x1024.size a)
theorem k0_off955_inb : ∀ (v3843 : BitVec 32) (k0_hw448 : k0_chk448 v3843), ∀ a, (k0_off955 v3843) a + S1x1024.size a ≤ S1032x1024.size a := fun v3843 k0_hw448 => k0_hw448

def k0_off956 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3849 : Index := Scalar.indexCast v3723
  let c16_2375 : Index := 16#32
  ![v3849.toNat, 16]
def k0_off957 (v3850 : BitVec 32) : Fin 2 → Nat :=
  let v3852 : Index := Scalar.indexCast v3850
  let c0_2378 : Index := 0#32
  ![v3852.toNat, 0]

def k0_chk449 (v3850 : BitVec 32) : Prop :=
  (∀ a, (k0_off957 v3850) a + S1x1024.size a ≤ S1032x1024.size a)
theorem k0_off957_inb : ∀ (v3850 : BitVec 32) (k0_hw449 : k0_chk449 v3850), ∀ a, (k0_off957 v3850) a + S1x1024.size a ≤ S1032x1024.size a := fun v3850 k0_hw449 => k0_hw449

def k0_off958 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3856 : Index := Scalar.indexCast v3723
  let c17_2379 : Index := 17#32
  ![v3856.toNat, 17]
def k0_off959 (v3857 : BitVec 32) : Fin 2 → Nat :=
  let v3859 : Index := Scalar.indexCast v3857
  let c0_2382 : Index := 0#32
  ![v3859.toNat, 0]

def k0_chk450 (v3857 : BitVec 32) : Prop :=
  (∀ a, (k0_off959 v3857) a + S1x1024.size a ≤ S1032x1024.size a)
theorem k0_off959_inb : ∀ (v3857 : BitVec 32) (k0_hw450 : k0_chk450 v3857), ∀ a, (k0_off959 v3857) a + S1x1024.size a ≤ S1032x1024.size a := fun v3857 k0_hw450 => k0_hw450

def k0_off960 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3863 : Index := Scalar.indexCast v3723
  let c18_2383 : Index := 18#32
  ![v3863.toNat, 18]
def k0_off961 (v3864 : BitVec 32) : Fin 2 → Nat :=
  let v3866 : Index := Scalar.indexCast v3864
  let c0_2386 : Index := 0#32
  ![v3866.toNat, 0]

def k0_chk451 (v3864 : BitVec 32) : Prop :=
  (∀ a, (k0_off961 v3864) a + S1x1024.size a ≤ S1032x1024.size a)
theorem k0_off961_inb : ∀ (v3864 : BitVec 32) (k0_hw451 : k0_chk451 v3864), ∀ a, (k0_off961 v3864) a + S1x1024.size a ≤ S1032x1024.size a := fun v3864 k0_hw451 => k0_hw451

def k0_off962 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3870 : Index := Scalar.indexCast v3723
  let c19_2387 : Index := 19#32
  ![v3870.toNat, 19]
def k0_off963 (v3871 : BitVec 32) : Fin 2 → Nat :=
  let v3873 : Index := Scalar.indexCast v3871
  let c0_2390 : Index := 0#32
  ![v3873.toNat, 0]

def k0_chk452 (v3871 : BitVec 32) : Prop :=
  (∀ a, (k0_off963 v3871) a + S1x1024.size a ≤ S1032x1024.size a)
theorem k0_off963_inb : ∀ (v3871 : BitVec 32) (k0_hw452 : k0_chk452 v3871), ∀ a, (k0_off963 v3871) a + S1x1024.size a ≤ S1032x1024.size a := fun v3871 k0_hw452 => k0_hw452

def k0_off964 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3877 : Index := Scalar.indexCast v3723
  let c20_2391 : Index := 20#32
  ![v3877.toNat, 20]
def k0_off965 (v3878 : BitVec 32) : Fin 2 → Nat :=
  let v3880 : Index := Scalar.indexCast v3878
  let c0_2394 : Index := 0#32
  ![v3880.toNat, 0]

def k0_chk453 (v3878 : BitVec 32) : Prop :=
  (∀ a, (k0_off965 v3878) a + S1x1024.size a ≤ S1032x1024.size a)
theorem k0_off965_inb : ∀ (v3878 : BitVec 32) (k0_hw453 : k0_chk453 v3878), ∀ a, (k0_off965 v3878) a + S1x1024.size a ≤ S1032x1024.size a := fun v3878 k0_hw453 => k0_hw453

def k0_off966 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3884 : Index := Scalar.indexCast v3723
  let c21_2395 : Index := 21#32
  ![v3884.toNat, 21]
def k0_off967 (v3885 : BitVec 32) : Fin 2 → Nat :=
  let v3887 : Index := Scalar.indexCast v3885
  let c0_2398 : Index := 0#32
  ![v3887.toNat, 0]

def k0_chk454 (v3885 : BitVec 32) : Prop :=
  (∀ a, (k0_off967 v3885) a + S1x1024.size a ≤ S1032x1024.size a)
theorem k0_off967_inb : ∀ (v3885 : BitVec 32) (k0_hw454 : k0_chk454 v3885), ∀ a, (k0_off967 v3885) a + S1x1024.size a ≤ S1032x1024.size a := fun v3885 k0_hw454 => k0_hw454

def k0_off968 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3891 : Index := Scalar.indexCast v3723
  let c22_2399 : Index := 22#32
  ![v3891.toNat, 22]
def k0_off969 (v3892 : BitVec 32) : Fin 2 → Nat :=
  let v3894 : Index := Scalar.indexCast v3892
  let c0_2402 : Index := 0#32
  ![v3894.toNat, 0]

def k0_chk455 (v3892 : BitVec 32) : Prop :=
  (∀ a, (k0_off969 v3892) a + S1x1024.size a ≤ S1032x1024.size a)
theorem k0_off969_inb : ∀ (v3892 : BitVec 32) (k0_hw455 : k0_chk455 v3892), ∀ a, (k0_off969 v3892) a + S1x1024.size a ≤ S1032x1024.size a := fun v3892 k0_hw455 => k0_hw455

def k0_off970 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2298 : BitVec 32 := 17#32
  let v3721 : BitVec 32 := Scalar.subi v2 c17_i32_2298
  let c32_i32_2299 : BitVec 32 := 32#32
  let v3722 : BitVec 32 := Scalar.addi v3721 c32_i32_2299
  let c32_i32_2300 : BitVec 32 := 32#32
  let v3723 : BitVec 32 := Scalar.remsi v3722 c32_i32_2300
  let v3898 : Index := Scalar.indexCast v3723
  let c23_2403 : Index := 23#32
  ![v3898.toNat, 23]
def k0_off971 (v3899 : BitVec 32) : Fin 2 → Nat :=
  let v3901 : Index := Scalar.indexCast v3899
  let c0_2406 : Index := 0#32
  ![v3901.toNat, 0]

def k0_chk456 (v3899 : BitVec 32) : Prop :=
  (∀ a, (k0_off971 v3899) a + S1x1024.size a ≤ S1032x1024.size a)
theorem k0_off971_inb : ∀ (v3899 : BitVec 32) (k0_hw456 : k0_chk456 v3899), ∀ a, (k0_off971 v3899) a + S1x1024.size a ≤ S1032x1024.size a := fun v3899 k0_hw456 => k0_hw456

def k0_off972 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  ![v3907.toNat]
def k0_off973 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let c0_i32_2412 : BitVec 32 := 0#32
  let c0_i32_2413 : BitVec 32 := 0#32
  ![v3907.toNat, 0, 0]
def k0_off974 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v3914 : Index := Scalar.indexCast v3907
  let c0_2416 : Index := 0#32
  let c0_2417 : Index := 0#32
  ![v3914.toNat, 0, 0]
def k0_off975 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v3921 : Index := Scalar.indexCast v3907
  let c0_2420 : Index := 0#32
  ![v3921.toNat, 0]
def k0_off976 (v3922 : BitVec 32) : Fin 2 → Nat :=
  let v3924 : Index := Scalar.indexCast v3922
  let c0_2423 : Index := 0#32
  ![v3924.toNat, 0]

def k0_chk457 (v3922 : BitVec 32) : Prop :=
  (∀ a, (k0_off976 v3922) a + S1x1024.size a ≤ S1032x1024.size a)
theorem k0_off976_inb : ∀ (v3922 : BitVec 32) (k0_hw457 : k0_chk457 v3922), ∀ a, (k0_off976 v3922) a + S1x1024.size a ≤ S1032x1024.size a := fun v3922 k0_hw457 => k0_hw457

def k0_off977 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v3928 : Index := Scalar.indexCast v3907
  let c1_2424 : Index := 1#32
  ![v3928.toNat, 1]
def k0_off978 (v3929 : BitVec 32) : Fin 2 → Nat :=
  let v3931 : Index := Scalar.indexCast v3929
  let c0_2427 : Index := 0#32
  ![v3931.toNat, 0]

def k0_chk458 (v3929 : BitVec 32) : Prop :=
  (∀ a, (k0_off978 v3929) a + S1x1024.size a ≤ S1032x1024.size a)
theorem k0_off978_inb : ∀ (v3929 : BitVec 32) (k0_hw458 : k0_chk458 v3929), ∀ a, (k0_off978 v3929) a + S1x1024.size a ≤ S1032x1024.size a := fun v3929 k0_hw458 => k0_hw458

def k0_off979 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v3935 : Index := Scalar.indexCast v3907
  let c2_2428 : Index := 2#32
  ![v3935.toNat, 2]
def k0_off980 (v3936 : BitVec 32) : Fin 2 → Nat :=
  let v3938 : Index := Scalar.indexCast v3936
  let c0_2431 : Index := 0#32
  ![v3938.toNat, 0]

def k0_chk459 (v3936 : BitVec 32) : Prop :=
  (∀ a, (k0_off980 v3936) a + S1x1024.size a ≤ S1032x1024.size a)
theorem k0_off980_inb : ∀ (v3936 : BitVec 32) (k0_hw459 : k0_chk459 v3936), ∀ a, (k0_off980 v3936) a + S1x1024.size a ≤ S1032x1024.size a := fun v3936 k0_hw459 => k0_hw459

def k0_off981 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v3942 : Index := Scalar.indexCast v3907
  let c3_2432 : Index := 3#32
  ![v3942.toNat, 3]
def k0_off982 (v3943 : BitVec 32) : Fin 2 → Nat :=
  let v3945 : Index := Scalar.indexCast v3943
  let c0_2435 : Index := 0#32
  ![v3945.toNat, 0]

def k0_chk460 (v3943 : BitVec 32) : Prop :=
  (∀ a, (k0_off982 v3943) a + S1x1024.size a ≤ S1032x1024.size a)
theorem k0_off982_inb : ∀ (v3943 : BitVec 32) (k0_hw460 : k0_chk460 v3943), ∀ a, (k0_off982 v3943) a + S1x1024.size a ≤ S1032x1024.size a := fun v3943 k0_hw460 => k0_hw460

def k0_off983 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v3949 : Index := Scalar.indexCast v3907
  let c4_2436 : Index := 4#32
  ![v3949.toNat, 4]
def k0_off984 (v3950 : BitVec 32) : Fin 2 → Nat :=
  let v3952 : Index := Scalar.indexCast v3950
  let c0_2439 : Index := 0#32
  ![v3952.toNat, 0]

def k0_chk461 (v3950 : BitVec 32) : Prop :=
  (∀ a, (k0_off984 v3950) a + S1x1024.size a ≤ S1032x1024.size a)
theorem k0_off984_inb : ∀ (v3950 : BitVec 32) (k0_hw461 : k0_chk461 v3950), ∀ a, (k0_off984 v3950) a + S1x1024.size a ≤ S1032x1024.size a := fun v3950 k0_hw461 => k0_hw461

def k0_off985 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v3956 : Index := Scalar.indexCast v3907
  let c5_2440 : Index := 5#32
  ![v3956.toNat, 5]
def k0_off986 (v3957 : BitVec 32) : Fin 2 → Nat :=
  let v3959 : Index := Scalar.indexCast v3957
  let c0_2443 : Index := 0#32
  ![v3959.toNat, 0]

def k0_chk462 (v3957 : BitVec 32) : Prop :=
  (∀ a, (k0_off986 v3957) a + S1x1024.size a ≤ S1032x1024.size a)
theorem k0_off986_inb : ∀ (v3957 : BitVec 32) (k0_hw462 : k0_chk462 v3957), ∀ a, (k0_off986 v3957) a + S1x1024.size a ≤ S1032x1024.size a := fun v3957 k0_hw462 => k0_hw462

def k0_off987 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v3963 : Index := Scalar.indexCast v3907
  let c6_2444 : Index := 6#32
  ![v3963.toNat, 6]
def k0_off988 (v3964 : BitVec 32) : Fin 2 → Nat :=
  let v3966 : Index := Scalar.indexCast v3964
  let c0_2447 : Index := 0#32
  ![v3966.toNat, 0]

def k0_chk463 (v3964 : BitVec 32) : Prop :=
  (∀ a, (k0_off988 v3964) a + S1x1024.size a ≤ S1032x1024.size a)
theorem k0_off988_inb : ∀ (v3964 : BitVec 32) (k0_hw463 : k0_chk463 v3964), ∀ a, (k0_off988 v3964) a + S1x1024.size a ≤ S1032x1024.size a := fun v3964 k0_hw463 => k0_hw463

def k0_off989 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v3970 : Index := Scalar.indexCast v3907
  let c7_2448 : Index := 7#32
  ![v3970.toNat, 7]
def k0_off990 (v3971 : BitVec 32) : Fin 2 → Nat :=
  let v3973 : Index := Scalar.indexCast v3971
  let c0_2451 : Index := 0#32
  ![v3973.toNat, 0]

def k0_chk464 (v3971 : BitVec 32) : Prop :=
  (∀ a, (k0_off990 v3971) a + S1x1024.size a ≤ S1032x1024.size a)
theorem k0_off990_inb : ∀ (v3971 : BitVec 32) (k0_hw464 : k0_chk464 v3971), ∀ a, (k0_off990 v3971) a + S1x1024.size a ≤ S1032x1024.size a := fun v3971 k0_hw464 => k0_hw464

def k0_off991 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v3977 : Index := Scalar.indexCast v3907
  let c8_2452 : Index := 8#32
  ![v3977.toNat, 8]
def k0_off992 (v3978 : BitVec 32) : Fin 2 → Nat :=
  let v3980 : Index := Scalar.indexCast v3978
  let c0_2455 : Index := 0#32
  ![v3980.toNat, 0]

def k0_chk465 (v3978 : BitVec 32) : Prop :=
  (∀ a, (k0_off992 v3978) a + S1x1024.size a ≤ S1032x1024.size a)
theorem k0_off992_inb : ∀ (v3978 : BitVec 32) (k0_hw465 : k0_chk465 v3978), ∀ a, (k0_off992 v3978) a + S1x1024.size a ≤ S1032x1024.size a := fun v3978 k0_hw465 => k0_hw465

def k0_off993 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v3984 : Index := Scalar.indexCast v3907
  let c9_2456 : Index := 9#32
  ![v3984.toNat, 9]
def k0_off994 (v3985 : BitVec 32) : Fin 2 → Nat :=
  let v3987 : Index := Scalar.indexCast v3985
  let c0_2459 : Index := 0#32
  ![v3987.toNat, 0]

def k0_chk466 (v3985 : BitVec 32) : Prop :=
  (∀ a, (k0_off994 v3985) a + S1x1024.size a ≤ S1032x1024.size a)
theorem k0_off994_inb : ∀ (v3985 : BitVec 32) (k0_hw466 : k0_chk466 v3985), ∀ a, (k0_off994 v3985) a + S1x1024.size a ≤ S1032x1024.size a := fun v3985 k0_hw466 => k0_hw466

def k0_off995 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v3991 : Index := Scalar.indexCast v3907
  let c10_2460 : Index := 10#32
  ![v3991.toNat, 10]
def k0_off996 (v3992 : BitVec 32) : Fin 2 → Nat :=
  let v3994 : Index := Scalar.indexCast v3992
  let c0_2463 : Index := 0#32
  ![v3994.toNat, 0]

def k0_chk467 (v3992 : BitVec 32) : Prop :=
  (∀ a, (k0_off996 v3992) a + S1x1024.size a ≤ S1032x1024.size a)
theorem k0_off996_inb : ∀ (v3992 : BitVec 32) (k0_hw467 : k0_chk467 v3992), ∀ a, (k0_off996 v3992) a + S1x1024.size a ≤ S1032x1024.size a := fun v3992 k0_hw467 => k0_hw467

def k0_off997 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v3998 : Index := Scalar.indexCast v3907
  let c11_2464 : Index := 11#32
  ![v3998.toNat, 11]
def k0_off998 (v3999 : BitVec 32) : Fin 2 → Nat :=
  let v4001 : Index := Scalar.indexCast v3999
  let c0_2467 : Index := 0#32
  ![v4001.toNat, 0]

def k0_chk468 (v3999 : BitVec 32) : Prop :=
  (∀ a, (k0_off998 v3999) a + S1x1024.size a ≤ S1032x1024.size a)
theorem k0_off998_inb : ∀ (v3999 : BitVec 32) (k0_hw468 : k0_chk468 v3999), ∀ a, (k0_off998 v3999) a + S1x1024.size a ≤ S1032x1024.size a := fun v3999 k0_hw468 => k0_hw468

def k0_off999 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v4005 : Index := Scalar.indexCast v3907
  let c12_2468 : Index := 12#32
  ![v4005.toNat, 12]
def k0_off1000 (v4006 : BitVec 32) : Fin 2 → Nat :=
  let v4008 : Index := Scalar.indexCast v4006
  let c0_2471 : Index := 0#32
  ![v4008.toNat, 0]

def k0_chk469 (v4006 : BitVec 32) : Prop :=
  (∀ a, (k0_off1000 v4006) a + S1x1024.size a ≤ S1032x1024.size a)
theorem k0_off1000_inb : ∀ (v4006 : BitVec 32) (k0_hw469 : k0_chk469 v4006), ∀ a, (k0_off1000 v4006) a + S1x1024.size a ≤ S1032x1024.size a := fun v4006 k0_hw469 => k0_hw469

def k0_off1001 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v4012 : Index := Scalar.indexCast v3907
  let c13_2472 : Index := 13#32
  ![v4012.toNat, 13]
def k0_off1002 (v4013 : BitVec 32) : Fin 2 → Nat :=
  let v4015 : Index := Scalar.indexCast v4013
  let c0_2475 : Index := 0#32
  ![v4015.toNat, 0]

def k0_chk470 (v4013 : BitVec 32) : Prop :=
  (∀ a, (k0_off1002 v4013) a + S1x1024.size a ≤ S1032x1024.size a)
theorem k0_off1002_inb : ∀ (v4013 : BitVec 32) (k0_hw470 : k0_chk470 v4013), ∀ a, (k0_off1002 v4013) a + S1x1024.size a ≤ S1032x1024.size a := fun v4013 k0_hw470 => k0_hw470

def k0_off1003 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v4019 : Index := Scalar.indexCast v3907
  let c14_2476 : Index := 14#32
  ![v4019.toNat, 14]
def k0_off1004 (v4020 : BitVec 32) : Fin 2 → Nat :=
  let v4022 : Index := Scalar.indexCast v4020
  let c0_2479 : Index := 0#32
  ![v4022.toNat, 0]

def k0_chk471 (v4020 : BitVec 32) : Prop :=
  (∀ a, (k0_off1004 v4020) a + S1x1024.size a ≤ S1032x1024.size a)
theorem k0_off1004_inb : ∀ (v4020 : BitVec 32) (k0_hw471 : k0_chk471 v4020), ∀ a, (k0_off1004 v4020) a + S1x1024.size a ≤ S1032x1024.size a := fun v4020 k0_hw471 => k0_hw471

def k0_off1005 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v4026 : Index := Scalar.indexCast v3907
  let c15_2480 : Index := 15#32
  ![v4026.toNat, 15]
def k0_off1006 (v4027 : BitVec 32) : Fin 2 → Nat :=
  let v4029 : Index := Scalar.indexCast v4027
  let c0_2483 : Index := 0#32
  ![v4029.toNat, 0]

def k0_chk472 (v4027 : BitVec 32) : Prop :=
  (∀ a, (k0_off1006 v4027) a + S1x1024.size a ≤ S1032x1024.size a)
theorem k0_off1006_inb : ∀ (v4027 : BitVec 32) (k0_hw472 : k0_chk472 v4027), ∀ a, (k0_off1006 v4027) a + S1x1024.size a ≤ S1032x1024.size a := fun v4027 k0_hw472 => k0_hw472

def k0_off1007 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v4033 : Index := Scalar.indexCast v3907
  let c16_2484 : Index := 16#32
  ![v4033.toNat, 16]
def k0_off1008 (v4034 : BitVec 32) : Fin 2 → Nat :=
  let v4036 : Index := Scalar.indexCast v4034
  let c0_2487 : Index := 0#32
  ![v4036.toNat, 0]

def k0_chk473 (v4034 : BitVec 32) : Prop :=
  (∀ a, (k0_off1008 v4034) a + S1x1024.size a ≤ S1032x1024.size a)
theorem k0_off1008_inb : ∀ (v4034 : BitVec 32) (k0_hw473 : k0_chk473 v4034), ∀ a, (k0_off1008 v4034) a + S1x1024.size a ≤ S1032x1024.size a := fun v4034 k0_hw473 => k0_hw473

def k0_off1009 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v4040 : Index := Scalar.indexCast v3907
  let c17_2488 : Index := 17#32
  ![v4040.toNat, 17]
def k0_off1010 (v4041 : BitVec 32) : Fin 2 → Nat :=
  let v4043 : Index := Scalar.indexCast v4041
  let c0_2491 : Index := 0#32
  ![v4043.toNat, 0]

def k0_chk474 (v4041 : BitVec 32) : Prop :=
  (∀ a, (k0_off1010 v4041) a + S1x1024.size a ≤ S1032x1024.size a)
theorem k0_off1010_inb : ∀ (v4041 : BitVec 32) (k0_hw474 : k0_chk474 v4041), ∀ a, (k0_off1010 v4041) a + S1x1024.size a ≤ S1032x1024.size a := fun v4041 k0_hw474 => k0_hw474

def k0_off1011 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v4047 : Index := Scalar.indexCast v3907
  let c18_2492 : Index := 18#32
  ![v4047.toNat, 18]
def k0_off1012 (v4048 : BitVec 32) : Fin 2 → Nat :=
  let v4050 : Index := Scalar.indexCast v4048
  let c0_2495 : Index := 0#32
  ![v4050.toNat, 0]

def k0_chk475 (v4048 : BitVec 32) : Prop :=
  (∀ a, (k0_off1012 v4048) a + S1x1024.size a ≤ S1032x1024.size a)
theorem k0_off1012_inb : ∀ (v4048 : BitVec 32) (k0_hw475 : k0_chk475 v4048), ∀ a, (k0_off1012 v4048) a + S1x1024.size a ≤ S1032x1024.size a := fun v4048 k0_hw475 => k0_hw475

def k0_off1013 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v4054 : Index := Scalar.indexCast v3907
  let c19_2496 : Index := 19#32
  ![v4054.toNat, 19]
def k0_off1014 (v4055 : BitVec 32) : Fin 2 → Nat :=
  let v4057 : Index := Scalar.indexCast v4055
  let c0_2499 : Index := 0#32
  ![v4057.toNat, 0]

def k0_chk476 (v4055 : BitVec 32) : Prop :=
  (∀ a, (k0_off1014 v4055) a + S1x1024.size a ≤ S1032x1024.size a)
theorem k0_off1014_inb : ∀ (v4055 : BitVec 32) (k0_hw476 : k0_chk476 v4055), ∀ a, (k0_off1014 v4055) a + S1x1024.size a ≤ S1032x1024.size a := fun v4055 k0_hw476 => k0_hw476

def k0_off1015 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v4061 : Index := Scalar.indexCast v3907
  let c20_2500 : Index := 20#32
  ![v4061.toNat, 20]
def k0_off1016 (v4062 : BitVec 32) : Fin 2 → Nat :=
  let v4064 : Index := Scalar.indexCast v4062
  let c0_2503 : Index := 0#32
  ![v4064.toNat, 0]

def k0_chk477 (v4062 : BitVec 32) : Prop :=
  (∀ a, (k0_off1016 v4062) a + S1x1024.size a ≤ S1032x1024.size a)
theorem k0_off1016_inb : ∀ (v4062 : BitVec 32) (k0_hw477 : k0_chk477 v4062), ∀ a, (k0_off1016 v4062) a + S1x1024.size a ≤ S1032x1024.size a := fun v4062 k0_hw477 => k0_hw477

def k0_off1017 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v4068 : Index := Scalar.indexCast v3907
  let c21_2504 : Index := 21#32
  ![v4068.toNat, 21]
def k0_off1018 (v4069 : BitVec 32) : Fin 2 → Nat :=
  let v4071 : Index := Scalar.indexCast v4069
  let c0_2507 : Index := 0#32
  ![v4071.toNat, 0]

def k0_chk478 (v4069 : BitVec 32) : Prop :=
  (∀ a, (k0_off1018 v4069) a + S1x1024.size a ≤ S1032x1024.size a)
theorem k0_off1018_inb : ∀ (v4069 : BitVec 32) (k0_hw478 : k0_chk478 v4069), ∀ a, (k0_off1018 v4069) a + S1x1024.size a ≤ S1032x1024.size a := fun v4069 k0_hw478 => k0_hw478

def k0_off1019 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v4075 : Index := Scalar.indexCast v3907
  let c22_2508 : Index := 22#32
  ![v4075.toNat, 22]
def k0_off1020 (v4076 : BitVec 32) : Fin 2 → Nat :=
  let v4078 : Index := Scalar.indexCast v4076
  let c0_2511 : Index := 0#32
  ![v4078.toNat, 0]

def k0_chk479 (v4076 : BitVec 32) : Prop :=
  (∀ a, (k0_off1020 v4076) a + S1x1024.size a ≤ S1032x1024.size a)
theorem k0_off1020_inb : ∀ (v4076 : BitVec 32) (k0_hw479 : k0_chk479 v4076), ∀ a, (k0_off1020 v4076) a + S1x1024.size a ≤ S1032x1024.size a := fun v4076 k0_hw479 => k0_hw479

def k0_off1021 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2407 : BitVec 32 := 18#32
  let v3905 : BitVec 32 := Scalar.subi v2 c18_i32_2407
  let c32_i32_2408 : BitVec 32 := 32#32
  let v3906 : BitVec 32 := Scalar.addi v3905 c32_i32_2408
  let c32_i32_2409 : BitVec 32 := 32#32
  let v3907 : BitVec 32 := Scalar.remsi v3906 c32_i32_2409
  let v4082 : Index := Scalar.indexCast v3907
  let c23_2512 : Index := 23#32
  ![v4082.toNat, 23]
def k0_off1022 (v4083 : BitVec 32) : Fin 2 → Nat :=
  let v4085 : Index := Scalar.indexCast v4083
  let c0_2515 : Index := 0#32
  ![v4085.toNat, 0]

def k0_chk480 (v4083 : BitVec 32) : Prop :=
  (∀ a, (k0_off1022 v4083) a + S1x1024.size a ≤ S1032x1024.size a)
theorem k0_off1022_inb : ∀ (v4083 : BitVec 32) (k0_hw480 : k0_chk480 v4083), ∀ a, (k0_off1022 v4083) a + S1x1024.size a ≤ S1032x1024.size a := fun v4083 k0_hw480 => k0_hw480

def k0_off1023 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  ![v4091.toNat]
def k0_off1024 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let c0_i32_2521 : BitVec 32 := 0#32
  let c0_i32_2522 : BitVec 32 := 0#32
  ![v4091.toNat, 0, 0]
def k0_off1025 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4098 : Index := Scalar.indexCast v4091
  let c0_2525 : Index := 0#32
  let c0_2526 : Index := 0#32
  ![v4098.toNat, 0, 0]
def k0_off1026 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4105 : Index := Scalar.indexCast v4091
  let c0_2529 : Index := 0#32
  ![v4105.toNat, 0]
def k0_off1027 (v4106 : BitVec 32) : Fin 2 → Nat :=
  let v4108 : Index := Scalar.indexCast v4106
  let c0_2532 : Index := 0#32
  ![v4108.toNat, 0]

def k0_chk481 (v4106 : BitVec 32) : Prop :=
  (∀ a, (k0_off1027 v4106) a + S1x1024.size a ≤ S1032x1024.size a)
theorem k0_off1027_inb : ∀ (v4106 : BitVec 32) (k0_hw481 : k0_chk481 v4106), ∀ a, (k0_off1027 v4106) a + S1x1024.size a ≤ S1032x1024.size a := fun v4106 k0_hw481 => k0_hw481

def k0_off1028 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4112 : Index := Scalar.indexCast v4091
  let c1_2533 : Index := 1#32
  ![v4112.toNat, 1]
def k0_off1029 (v4113 : BitVec 32) : Fin 2 → Nat :=
  let v4115 : Index := Scalar.indexCast v4113
  let c0_2536 : Index := 0#32
  ![v4115.toNat, 0]

def k0_chk482 (v4113 : BitVec 32) : Prop :=
  (∀ a, (k0_off1029 v4113) a + S1x1024.size a ≤ S1032x1024.size a)
theorem k0_off1029_inb : ∀ (v4113 : BitVec 32) (k0_hw482 : k0_chk482 v4113), ∀ a, (k0_off1029 v4113) a + S1x1024.size a ≤ S1032x1024.size a := fun v4113 k0_hw482 => k0_hw482

def k0_off1030 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4119 : Index := Scalar.indexCast v4091
  let c2_2537 : Index := 2#32
  ![v4119.toNat, 2]
def k0_off1031 (v4120 : BitVec 32) : Fin 2 → Nat :=
  let v4122 : Index := Scalar.indexCast v4120
  let c0_2540 : Index := 0#32
  ![v4122.toNat, 0]

def k0_chk483 (v4120 : BitVec 32) : Prop :=
  (∀ a, (k0_off1031 v4120) a + S1x1024.size a ≤ S1032x1024.size a)
theorem k0_off1031_inb : ∀ (v4120 : BitVec 32) (k0_hw483 : k0_chk483 v4120), ∀ a, (k0_off1031 v4120) a + S1x1024.size a ≤ S1032x1024.size a := fun v4120 k0_hw483 => k0_hw483

def k0_off1032 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4126 : Index := Scalar.indexCast v4091
  let c3_2541 : Index := 3#32
  ![v4126.toNat, 3]
def k0_off1033 (v4127 : BitVec 32) : Fin 2 → Nat :=
  let v4129 : Index := Scalar.indexCast v4127
  let c0_2544 : Index := 0#32
  ![v4129.toNat, 0]

def k0_chk484 (v4127 : BitVec 32) : Prop :=
  (∀ a, (k0_off1033 v4127) a + S1x1024.size a ≤ S1032x1024.size a)
theorem k0_off1033_inb : ∀ (v4127 : BitVec 32) (k0_hw484 : k0_chk484 v4127), ∀ a, (k0_off1033 v4127) a + S1x1024.size a ≤ S1032x1024.size a := fun v4127 k0_hw484 => k0_hw484

def k0_off1034 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4133 : Index := Scalar.indexCast v4091
  let c4_2545 : Index := 4#32
  ![v4133.toNat, 4]
def k0_off1035 (v4134 : BitVec 32) : Fin 2 → Nat :=
  let v4136 : Index := Scalar.indexCast v4134
  let c0_2548 : Index := 0#32
  ![v4136.toNat, 0]

def k0_chk485 (v4134 : BitVec 32) : Prop :=
  (∀ a, (k0_off1035 v4134) a + S1x1024.size a ≤ S1032x1024.size a)
theorem k0_off1035_inb : ∀ (v4134 : BitVec 32) (k0_hw485 : k0_chk485 v4134), ∀ a, (k0_off1035 v4134) a + S1x1024.size a ≤ S1032x1024.size a := fun v4134 k0_hw485 => k0_hw485

def k0_off1036 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4140 : Index := Scalar.indexCast v4091
  let c5_2549 : Index := 5#32
  ![v4140.toNat, 5]
def k0_off1037 (v4141 : BitVec 32) : Fin 2 → Nat :=
  let v4143 : Index := Scalar.indexCast v4141
  let c0_2552 : Index := 0#32
  ![v4143.toNat, 0]

def k0_chk486 (v4141 : BitVec 32) : Prop :=
  (∀ a, (k0_off1037 v4141) a + S1x1024.size a ≤ S1032x1024.size a)
theorem k0_off1037_inb : ∀ (v4141 : BitVec 32) (k0_hw486 : k0_chk486 v4141), ∀ a, (k0_off1037 v4141) a + S1x1024.size a ≤ S1032x1024.size a := fun v4141 k0_hw486 => k0_hw486

def k0_off1038 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4147 : Index := Scalar.indexCast v4091
  let c6_2553 : Index := 6#32
  ![v4147.toNat, 6]
def k0_off1039 (v4148 : BitVec 32) : Fin 2 → Nat :=
  let v4150 : Index := Scalar.indexCast v4148
  let c0_2556 : Index := 0#32
  ![v4150.toNat, 0]

def k0_chk487 (v4148 : BitVec 32) : Prop :=
  (∀ a, (k0_off1039 v4148) a + S1x1024.size a ≤ S1032x1024.size a)
theorem k0_off1039_inb : ∀ (v4148 : BitVec 32) (k0_hw487 : k0_chk487 v4148), ∀ a, (k0_off1039 v4148) a + S1x1024.size a ≤ S1032x1024.size a := fun v4148 k0_hw487 => k0_hw487

def k0_off1040 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4154 : Index := Scalar.indexCast v4091
  let c7_2557 : Index := 7#32
  ![v4154.toNat, 7]
def k0_off1041 (v4155 : BitVec 32) : Fin 2 → Nat :=
  let v4157 : Index := Scalar.indexCast v4155
  let c0_2560 : Index := 0#32
  ![v4157.toNat, 0]

def k0_chk488 (v4155 : BitVec 32) : Prop :=
  (∀ a, (k0_off1041 v4155) a + S1x1024.size a ≤ S1032x1024.size a)
theorem k0_off1041_inb : ∀ (v4155 : BitVec 32) (k0_hw488 : k0_chk488 v4155), ∀ a, (k0_off1041 v4155) a + S1x1024.size a ≤ S1032x1024.size a := fun v4155 k0_hw488 => k0_hw488

def k0_off1042 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4161 : Index := Scalar.indexCast v4091
  let c8_2561 : Index := 8#32
  ![v4161.toNat, 8]
def k0_off1043 (v4162 : BitVec 32) : Fin 2 → Nat :=
  let v4164 : Index := Scalar.indexCast v4162
  let c0_2564 : Index := 0#32
  ![v4164.toNat, 0]

def k0_chk489 (v4162 : BitVec 32) : Prop :=
  (∀ a, (k0_off1043 v4162) a + S1x1024.size a ≤ S1032x1024.size a)
theorem k0_off1043_inb : ∀ (v4162 : BitVec 32) (k0_hw489 : k0_chk489 v4162), ∀ a, (k0_off1043 v4162) a + S1x1024.size a ≤ S1032x1024.size a := fun v4162 k0_hw489 => k0_hw489

def k0_off1044 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4168 : Index := Scalar.indexCast v4091
  let c9_2565 : Index := 9#32
  ![v4168.toNat, 9]
def k0_off1045 (v4169 : BitVec 32) : Fin 2 → Nat :=
  let v4171 : Index := Scalar.indexCast v4169
  let c0_2568 : Index := 0#32
  ![v4171.toNat, 0]

def k0_chk490 (v4169 : BitVec 32) : Prop :=
  (∀ a, (k0_off1045 v4169) a + S1x1024.size a ≤ S1032x1024.size a)
theorem k0_off1045_inb : ∀ (v4169 : BitVec 32) (k0_hw490 : k0_chk490 v4169), ∀ a, (k0_off1045 v4169) a + S1x1024.size a ≤ S1032x1024.size a := fun v4169 k0_hw490 => k0_hw490

def k0_off1046 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4175 : Index := Scalar.indexCast v4091
  let c10_2569 : Index := 10#32
  ![v4175.toNat, 10]
def k0_off1047 (v4176 : BitVec 32) : Fin 2 → Nat :=
  let v4178 : Index := Scalar.indexCast v4176
  let c0_2572 : Index := 0#32
  ![v4178.toNat, 0]

def k0_chk491 (v4176 : BitVec 32) : Prop :=
  (∀ a, (k0_off1047 v4176) a + S1x1024.size a ≤ S1032x1024.size a)
theorem k0_off1047_inb : ∀ (v4176 : BitVec 32) (k0_hw491 : k0_chk491 v4176), ∀ a, (k0_off1047 v4176) a + S1x1024.size a ≤ S1032x1024.size a := fun v4176 k0_hw491 => k0_hw491

def k0_off1048 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4182 : Index := Scalar.indexCast v4091
  let c11_2573 : Index := 11#32
  ![v4182.toNat, 11]
def k0_off1049 (v4183 : BitVec 32) : Fin 2 → Nat :=
  let v4185 : Index := Scalar.indexCast v4183
  let c0_2576 : Index := 0#32
  ![v4185.toNat, 0]

def k0_chk492 (v4183 : BitVec 32) : Prop :=
  (∀ a, (k0_off1049 v4183) a + S1x1024.size a ≤ S1032x1024.size a)
theorem k0_off1049_inb : ∀ (v4183 : BitVec 32) (k0_hw492 : k0_chk492 v4183), ∀ a, (k0_off1049 v4183) a + S1x1024.size a ≤ S1032x1024.size a := fun v4183 k0_hw492 => k0_hw492

def k0_off1050 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4189 : Index := Scalar.indexCast v4091
  let c12_2577 : Index := 12#32
  ![v4189.toNat, 12]
def k0_off1051 (v4190 : BitVec 32) : Fin 2 → Nat :=
  let v4192 : Index := Scalar.indexCast v4190
  let c0_2580 : Index := 0#32
  ![v4192.toNat, 0]

def k0_chk493 (v4190 : BitVec 32) : Prop :=
  (∀ a, (k0_off1051 v4190) a + S1x1024.size a ≤ S1032x1024.size a)
theorem k0_off1051_inb : ∀ (v4190 : BitVec 32) (k0_hw493 : k0_chk493 v4190), ∀ a, (k0_off1051 v4190) a + S1x1024.size a ≤ S1032x1024.size a := fun v4190 k0_hw493 => k0_hw493

def k0_off1052 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4196 : Index := Scalar.indexCast v4091
  let c13_2581 : Index := 13#32
  ![v4196.toNat, 13]
def k0_off1053 (v4197 : BitVec 32) : Fin 2 → Nat :=
  let v4199 : Index := Scalar.indexCast v4197
  let c0_2584 : Index := 0#32
  ![v4199.toNat, 0]

def k0_chk494 (v4197 : BitVec 32) : Prop :=
  (∀ a, (k0_off1053 v4197) a + S1x1024.size a ≤ S1032x1024.size a)
theorem k0_off1053_inb : ∀ (v4197 : BitVec 32) (k0_hw494 : k0_chk494 v4197), ∀ a, (k0_off1053 v4197) a + S1x1024.size a ≤ S1032x1024.size a := fun v4197 k0_hw494 => k0_hw494

def k0_off1054 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4203 : Index := Scalar.indexCast v4091
  let c14_2585 : Index := 14#32
  ![v4203.toNat, 14]
def k0_off1055 (v4204 : BitVec 32) : Fin 2 → Nat :=
  let v4206 : Index := Scalar.indexCast v4204
  let c0_2588 : Index := 0#32
  ![v4206.toNat, 0]

def k0_chk495 (v4204 : BitVec 32) : Prop :=
  (∀ a, (k0_off1055 v4204) a + S1x1024.size a ≤ S1032x1024.size a)
theorem k0_off1055_inb : ∀ (v4204 : BitVec 32) (k0_hw495 : k0_chk495 v4204), ∀ a, (k0_off1055 v4204) a + S1x1024.size a ≤ S1032x1024.size a := fun v4204 k0_hw495 => k0_hw495

def k0_off1056 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4210 : Index := Scalar.indexCast v4091
  let c15_2589 : Index := 15#32
  ![v4210.toNat, 15]
def k0_off1057 (v4211 : BitVec 32) : Fin 2 → Nat :=
  let v4213 : Index := Scalar.indexCast v4211
  let c0_2592 : Index := 0#32
  ![v4213.toNat, 0]

def k0_chk496 (v4211 : BitVec 32) : Prop :=
  (∀ a, (k0_off1057 v4211) a + S1x1024.size a ≤ S1032x1024.size a)
theorem k0_off1057_inb : ∀ (v4211 : BitVec 32) (k0_hw496 : k0_chk496 v4211), ∀ a, (k0_off1057 v4211) a + S1x1024.size a ≤ S1032x1024.size a := fun v4211 k0_hw496 => k0_hw496

def k0_off1058 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4217 : Index := Scalar.indexCast v4091
  let c16_2593 : Index := 16#32
  ![v4217.toNat, 16]
def k0_off1059 (v4218 : BitVec 32) : Fin 2 → Nat :=
  let v4220 : Index := Scalar.indexCast v4218
  let c0_2596 : Index := 0#32
  ![v4220.toNat, 0]

def k0_chk497 (v4218 : BitVec 32) : Prop :=
  (∀ a, (k0_off1059 v4218) a + S1x1024.size a ≤ S1032x1024.size a)
theorem k0_off1059_inb : ∀ (v4218 : BitVec 32) (k0_hw497 : k0_chk497 v4218), ∀ a, (k0_off1059 v4218) a + S1x1024.size a ≤ S1032x1024.size a := fun v4218 k0_hw497 => k0_hw497

def k0_off1060 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4224 : Index := Scalar.indexCast v4091
  let c17_2597 : Index := 17#32
  ![v4224.toNat, 17]
def k0_off1061 (v4225 : BitVec 32) : Fin 2 → Nat :=
  let v4227 : Index := Scalar.indexCast v4225
  let c0_2600 : Index := 0#32
  ![v4227.toNat, 0]

def k0_chk498 (v4225 : BitVec 32) : Prop :=
  (∀ a, (k0_off1061 v4225) a + S1x1024.size a ≤ S1032x1024.size a)
theorem k0_off1061_inb : ∀ (v4225 : BitVec 32) (k0_hw498 : k0_chk498 v4225), ∀ a, (k0_off1061 v4225) a + S1x1024.size a ≤ S1032x1024.size a := fun v4225 k0_hw498 => k0_hw498

def k0_off1062 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4231 : Index := Scalar.indexCast v4091
  let c18_2601 : Index := 18#32
  ![v4231.toNat, 18]
def k0_off1063 (v4232 : BitVec 32) : Fin 2 → Nat :=
  let v4234 : Index := Scalar.indexCast v4232
  let c0_2604 : Index := 0#32
  ![v4234.toNat, 0]

def k0_chk499 (v4232 : BitVec 32) : Prop :=
  (∀ a, (k0_off1063 v4232) a + S1x1024.size a ≤ S1032x1024.size a)
theorem k0_off1063_inb : ∀ (v4232 : BitVec 32) (k0_hw499 : k0_chk499 v4232), ∀ a, (k0_off1063 v4232) a + S1x1024.size a ≤ S1032x1024.size a := fun v4232 k0_hw499 => k0_hw499

def k0_off1064 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4238 : Index := Scalar.indexCast v4091
  let c19_2605 : Index := 19#32
  ![v4238.toNat, 19]
def k0_off1065 (v4239 : BitVec 32) : Fin 2 → Nat :=
  let v4241 : Index := Scalar.indexCast v4239
  let c0_2608 : Index := 0#32
  ![v4241.toNat, 0]

def k0_chk500 (v4239 : BitVec 32) : Prop :=
  (∀ a, (k0_off1065 v4239) a + S1x1024.size a ≤ S1032x1024.size a)
theorem k0_off1065_inb : ∀ (v4239 : BitVec 32) (k0_hw500 : k0_chk500 v4239), ∀ a, (k0_off1065 v4239) a + S1x1024.size a ≤ S1032x1024.size a := fun v4239 k0_hw500 => k0_hw500

def k0_off1066 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4245 : Index := Scalar.indexCast v4091
  let c20_2609 : Index := 20#32
  ![v4245.toNat, 20]
def k0_off1067 (v4246 : BitVec 32) : Fin 2 → Nat :=
  let v4248 : Index := Scalar.indexCast v4246
  let c0_2612 : Index := 0#32
  ![v4248.toNat, 0]

def k0_chk501 (v4246 : BitVec 32) : Prop :=
  (∀ a, (k0_off1067 v4246) a + S1x1024.size a ≤ S1032x1024.size a)
theorem k0_off1067_inb : ∀ (v4246 : BitVec 32) (k0_hw501 : k0_chk501 v4246), ∀ a, (k0_off1067 v4246) a + S1x1024.size a ≤ S1032x1024.size a := fun v4246 k0_hw501 => k0_hw501

def k0_off1068 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4252 : Index := Scalar.indexCast v4091
  let c21_2613 : Index := 21#32
  ![v4252.toNat, 21]
def k0_off1069 (v4253 : BitVec 32) : Fin 2 → Nat :=
  let v4255 : Index := Scalar.indexCast v4253
  let c0_2616 : Index := 0#32
  ![v4255.toNat, 0]

def k0_chk502 (v4253 : BitVec 32) : Prop :=
  (∀ a, (k0_off1069 v4253) a + S1x1024.size a ≤ S1032x1024.size a)
theorem k0_off1069_inb : ∀ (v4253 : BitVec 32) (k0_hw502 : k0_chk502 v4253), ∀ a, (k0_off1069 v4253) a + S1x1024.size a ≤ S1032x1024.size a := fun v4253 k0_hw502 => k0_hw502

def k0_off1070 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4259 : Index := Scalar.indexCast v4091
  let c22_2617 : Index := 22#32
  ![v4259.toNat, 22]
def k0_off1071 (v4260 : BitVec 32) : Fin 2 → Nat :=
  let v4262 : Index := Scalar.indexCast v4260
  let c0_2620 : Index := 0#32
  ![v4262.toNat, 0]

def k0_chk503 (v4260 : BitVec 32) : Prop :=
  (∀ a, (k0_off1071 v4260) a + S1x1024.size a ≤ S1032x1024.size a)
theorem k0_off1071_inb : ∀ (v4260 : BitVec 32) (k0_hw503 : k0_chk503 v4260), ∀ a, (k0_off1071 v4260) a + S1x1024.size a ≤ S1032x1024.size a := fun v4260 k0_hw503 => k0_hw503

def k0_off1072 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2516 : BitVec 32 := 19#32
  let v4089 : BitVec 32 := Scalar.subi v2 c19_i32_2516
  let c32_i32_2517 : BitVec 32 := 32#32
  let v4090 : BitVec 32 := Scalar.addi v4089 c32_i32_2517
  let c32_i32_2518 : BitVec 32 := 32#32
  let v4091 : BitVec 32 := Scalar.remsi v4090 c32_i32_2518
  let v4266 : Index := Scalar.indexCast v4091
  let c23_2621 : Index := 23#32
  ![v4266.toNat, 23]
def k0_off1073 (v4267 : BitVec 32) : Fin 2 → Nat :=
  let v4269 : Index := Scalar.indexCast v4267
  let c0_2624 : Index := 0#32
  ![v4269.toNat, 0]

def k0_chk504 (v4267 : BitVec 32) : Prop :=
  (∀ a, (k0_off1073 v4267) a + S1x1024.size a ≤ S1032x1024.size a)
theorem k0_off1073_inb : ∀ (v4267 : BitVec 32) (k0_hw504 : k0_chk504 v4267), ∀ a, (k0_off1073 v4267) a + S1x1024.size a ≤ S1032x1024.size a := fun v4267 k0_hw504 => k0_hw504

def k0_off1074 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  ![v4275.toNat]
def k0_off1075 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let c0_i32_2630 : BitVec 32 := 0#32
  let c0_i32_2631 : BitVec 32 := 0#32
  ![v4275.toNat, 0, 0]
def k0_off1076 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4282 : Index := Scalar.indexCast v4275
  let c0_2634 : Index := 0#32
  let c0_2635 : Index := 0#32
  ![v4282.toNat, 0, 0]
def k0_off1077 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4289 : Index := Scalar.indexCast v4275
  let c0_2638 : Index := 0#32
  ![v4289.toNat, 0]
def k0_off1078 (v4290 : BitVec 32) : Fin 2 → Nat :=
  let v4292 : Index := Scalar.indexCast v4290
  let c0_2641 : Index := 0#32
  ![v4292.toNat, 0]

def k0_chk505 (v4290 : BitVec 32) : Prop :=
  (∀ a, (k0_off1078 v4290) a + S1x1024.size a ≤ S1032x1024.size a)
theorem k0_off1078_inb : ∀ (v4290 : BitVec 32) (k0_hw505 : k0_chk505 v4290), ∀ a, (k0_off1078 v4290) a + S1x1024.size a ≤ S1032x1024.size a := fun v4290 k0_hw505 => k0_hw505

def k0_off1079 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4296 : Index := Scalar.indexCast v4275
  let c1_2642 : Index := 1#32
  ![v4296.toNat, 1]
def k0_off1080 (v4297 : BitVec 32) : Fin 2 → Nat :=
  let v4299 : Index := Scalar.indexCast v4297
  let c0_2645 : Index := 0#32
  ![v4299.toNat, 0]

def k0_chk506 (v4297 : BitVec 32) : Prop :=
  (∀ a, (k0_off1080 v4297) a + S1x1024.size a ≤ S1032x1024.size a)
theorem k0_off1080_inb : ∀ (v4297 : BitVec 32) (k0_hw506 : k0_chk506 v4297), ∀ a, (k0_off1080 v4297) a + S1x1024.size a ≤ S1032x1024.size a := fun v4297 k0_hw506 => k0_hw506

def k0_off1081 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4303 : Index := Scalar.indexCast v4275
  let c2_2646 : Index := 2#32
  ![v4303.toNat, 2]
def k0_off1082 (v4304 : BitVec 32) : Fin 2 → Nat :=
  let v4306 : Index := Scalar.indexCast v4304
  let c0_2649 : Index := 0#32
  ![v4306.toNat, 0]

def k0_chk507 (v4304 : BitVec 32) : Prop :=
  (∀ a, (k0_off1082 v4304) a + S1x1024.size a ≤ S1032x1024.size a)
theorem k0_off1082_inb : ∀ (v4304 : BitVec 32) (k0_hw507 : k0_chk507 v4304), ∀ a, (k0_off1082 v4304) a + S1x1024.size a ≤ S1032x1024.size a := fun v4304 k0_hw507 => k0_hw507

def k0_off1083 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4310 : Index := Scalar.indexCast v4275
  let c3_2650 : Index := 3#32
  ![v4310.toNat, 3]
def k0_off1084 (v4311 : BitVec 32) : Fin 2 → Nat :=
  let v4313 : Index := Scalar.indexCast v4311
  let c0_2653 : Index := 0#32
  ![v4313.toNat, 0]

def k0_chk508 (v4311 : BitVec 32) : Prop :=
  (∀ a, (k0_off1084 v4311) a + S1x1024.size a ≤ S1032x1024.size a)
theorem k0_off1084_inb : ∀ (v4311 : BitVec 32) (k0_hw508 : k0_chk508 v4311), ∀ a, (k0_off1084 v4311) a + S1x1024.size a ≤ S1032x1024.size a := fun v4311 k0_hw508 => k0_hw508

def k0_off1085 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4317 : Index := Scalar.indexCast v4275
  let c4_2654 : Index := 4#32
  ![v4317.toNat, 4]
def k0_off1086 (v4318 : BitVec 32) : Fin 2 → Nat :=
  let v4320 : Index := Scalar.indexCast v4318
  let c0_2657 : Index := 0#32
  ![v4320.toNat, 0]

def k0_chk509 (v4318 : BitVec 32) : Prop :=
  (∀ a, (k0_off1086 v4318) a + S1x1024.size a ≤ S1032x1024.size a)
theorem k0_off1086_inb : ∀ (v4318 : BitVec 32) (k0_hw509 : k0_chk509 v4318), ∀ a, (k0_off1086 v4318) a + S1x1024.size a ≤ S1032x1024.size a := fun v4318 k0_hw509 => k0_hw509

def k0_off1087 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4324 : Index := Scalar.indexCast v4275
  let c5_2658 : Index := 5#32
  ![v4324.toNat, 5]
def k0_off1088 (v4325 : BitVec 32) : Fin 2 → Nat :=
  let v4327 : Index := Scalar.indexCast v4325
  let c0_2661 : Index := 0#32
  ![v4327.toNat, 0]

def k0_chk510 (v4325 : BitVec 32) : Prop :=
  (∀ a, (k0_off1088 v4325) a + S1x1024.size a ≤ S1032x1024.size a)
theorem k0_off1088_inb : ∀ (v4325 : BitVec 32) (k0_hw510 : k0_chk510 v4325), ∀ a, (k0_off1088 v4325) a + S1x1024.size a ≤ S1032x1024.size a := fun v4325 k0_hw510 => k0_hw510

def k0_off1089 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4331 : Index := Scalar.indexCast v4275
  let c6_2662 : Index := 6#32
  ![v4331.toNat, 6]
def k0_off1090 (v4332 : BitVec 32) : Fin 2 → Nat :=
  let v4334 : Index := Scalar.indexCast v4332
  let c0_2665 : Index := 0#32
  ![v4334.toNat, 0]

def k0_chk511 (v4332 : BitVec 32) : Prop :=
  (∀ a, (k0_off1090 v4332) a + S1x1024.size a ≤ S1032x1024.size a)
theorem k0_off1090_inb : ∀ (v4332 : BitVec 32) (k0_hw511 : k0_chk511 v4332), ∀ a, (k0_off1090 v4332) a + S1x1024.size a ≤ S1032x1024.size a := fun v4332 k0_hw511 => k0_hw511

def k0_off1091 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4338 : Index := Scalar.indexCast v4275
  let c7_2666 : Index := 7#32
  ![v4338.toNat, 7]
def k0_off1092 (v4339 : BitVec 32) : Fin 2 → Nat :=
  let v4341 : Index := Scalar.indexCast v4339
  let c0_2669 : Index := 0#32
  ![v4341.toNat, 0]

def k0_chk512 (v4339 : BitVec 32) : Prop :=
  (∀ a, (k0_off1092 v4339) a + S1x1024.size a ≤ S1032x1024.size a)
theorem k0_off1092_inb : ∀ (v4339 : BitVec 32) (k0_hw512 : k0_chk512 v4339), ∀ a, (k0_off1092 v4339) a + S1x1024.size a ≤ S1032x1024.size a := fun v4339 k0_hw512 => k0_hw512

def k0_off1093 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4345 : Index := Scalar.indexCast v4275
  let c8_2670 : Index := 8#32
  ![v4345.toNat, 8]
def k0_off1094 (v4346 : BitVec 32) : Fin 2 → Nat :=
  let v4348 : Index := Scalar.indexCast v4346
  let c0_2673 : Index := 0#32
  ![v4348.toNat, 0]

def k0_chk513 (v4346 : BitVec 32) : Prop :=
  (∀ a, (k0_off1094 v4346) a + S1x1024.size a ≤ S1032x1024.size a)
theorem k0_off1094_inb : ∀ (v4346 : BitVec 32) (k0_hw513 : k0_chk513 v4346), ∀ a, (k0_off1094 v4346) a + S1x1024.size a ≤ S1032x1024.size a := fun v4346 k0_hw513 => k0_hw513

def k0_off1095 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4352 : Index := Scalar.indexCast v4275
  let c9_2674 : Index := 9#32
  ![v4352.toNat, 9]
def k0_off1096 (v4353 : BitVec 32) : Fin 2 → Nat :=
  let v4355 : Index := Scalar.indexCast v4353
  let c0_2677 : Index := 0#32
  ![v4355.toNat, 0]

def k0_chk514 (v4353 : BitVec 32) : Prop :=
  (∀ a, (k0_off1096 v4353) a + S1x1024.size a ≤ S1032x1024.size a)
theorem k0_off1096_inb : ∀ (v4353 : BitVec 32) (k0_hw514 : k0_chk514 v4353), ∀ a, (k0_off1096 v4353) a + S1x1024.size a ≤ S1032x1024.size a := fun v4353 k0_hw514 => k0_hw514

def k0_off1097 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4359 : Index := Scalar.indexCast v4275
  let c10_2678 : Index := 10#32
  ![v4359.toNat, 10]
def k0_off1098 (v4360 : BitVec 32) : Fin 2 → Nat :=
  let v4362 : Index := Scalar.indexCast v4360
  let c0_2681 : Index := 0#32
  ![v4362.toNat, 0]

def k0_chk515 (v4360 : BitVec 32) : Prop :=
  (∀ a, (k0_off1098 v4360) a + S1x1024.size a ≤ S1032x1024.size a)
theorem k0_off1098_inb : ∀ (v4360 : BitVec 32) (k0_hw515 : k0_chk515 v4360), ∀ a, (k0_off1098 v4360) a + S1x1024.size a ≤ S1032x1024.size a := fun v4360 k0_hw515 => k0_hw515

def k0_off1099 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4366 : Index := Scalar.indexCast v4275
  let c11_2682 : Index := 11#32
  ![v4366.toNat, 11]
def k0_off1100 (v4367 : BitVec 32) : Fin 2 → Nat :=
  let v4369 : Index := Scalar.indexCast v4367
  let c0_2685 : Index := 0#32
  ![v4369.toNat, 0]

def k0_chk516 (v4367 : BitVec 32) : Prop :=
  (∀ a, (k0_off1100 v4367) a + S1x1024.size a ≤ S1032x1024.size a)
theorem k0_off1100_inb : ∀ (v4367 : BitVec 32) (k0_hw516 : k0_chk516 v4367), ∀ a, (k0_off1100 v4367) a + S1x1024.size a ≤ S1032x1024.size a := fun v4367 k0_hw516 => k0_hw516

def k0_off1101 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4373 : Index := Scalar.indexCast v4275
  let c12_2686 : Index := 12#32
  ![v4373.toNat, 12]
def k0_off1102 (v4374 : BitVec 32) : Fin 2 → Nat :=
  let v4376 : Index := Scalar.indexCast v4374
  let c0_2689 : Index := 0#32
  ![v4376.toNat, 0]

def k0_chk517 (v4374 : BitVec 32) : Prop :=
  (∀ a, (k0_off1102 v4374) a + S1x1024.size a ≤ S1032x1024.size a)
theorem k0_off1102_inb : ∀ (v4374 : BitVec 32) (k0_hw517 : k0_chk517 v4374), ∀ a, (k0_off1102 v4374) a + S1x1024.size a ≤ S1032x1024.size a := fun v4374 k0_hw517 => k0_hw517

def k0_off1103 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4380 : Index := Scalar.indexCast v4275
  let c13_2690 : Index := 13#32
  ![v4380.toNat, 13]
def k0_off1104 (v4381 : BitVec 32) : Fin 2 → Nat :=
  let v4383 : Index := Scalar.indexCast v4381
  let c0_2693 : Index := 0#32
  ![v4383.toNat, 0]

def k0_chk518 (v4381 : BitVec 32) : Prop :=
  (∀ a, (k0_off1104 v4381) a + S1x1024.size a ≤ S1032x1024.size a)
theorem k0_off1104_inb : ∀ (v4381 : BitVec 32) (k0_hw518 : k0_chk518 v4381), ∀ a, (k0_off1104 v4381) a + S1x1024.size a ≤ S1032x1024.size a := fun v4381 k0_hw518 => k0_hw518

def k0_off1105 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4387 : Index := Scalar.indexCast v4275
  let c14_2694 : Index := 14#32
  ![v4387.toNat, 14]
def k0_off1106 (v4388 : BitVec 32) : Fin 2 → Nat :=
  let v4390 : Index := Scalar.indexCast v4388
  let c0_2697 : Index := 0#32
  ![v4390.toNat, 0]

def k0_chk519 (v4388 : BitVec 32) : Prop :=
  (∀ a, (k0_off1106 v4388) a + S1x1024.size a ≤ S1032x1024.size a)
theorem k0_off1106_inb : ∀ (v4388 : BitVec 32) (k0_hw519 : k0_chk519 v4388), ∀ a, (k0_off1106 v4388) a + S1x1024.size a ≤ S1032x1024.size a := fun v4388 k0_hw519 => k0_hw519

def k0_off1107 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4394 : Index := Scalar.indexCast v4275
  let c15_2698 : Index := 15#32
  ![v4394.toNat, 15]
def k0_off1108 (v4395 : BitVec 32) : Fin 2 → Nat :=
  let v4397 : Index := Scalar.indexCast v4395
  let c0_2701 : Index := 0#32
  ![v4397.toNat, 0]

def k0_chk520 (v4395 : BitVec 32) : Prop :=
  (∀ a, (k0_off1108 v4395) a + S1x1024.size a ≤ S1032x1024.size a)
theorem k0_off1108_inb : ∀ (v4395 : BitVec 32) (k0_hw520 : k0_chk520 v4395), ∀ a, (k0_off1108 v4395) a + S1x1024.size a ≤ S1032x1024.size a := fun v4395 k0_hw520 => k0_hw520

def k0_off1109 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4401 : Index := Scalar.indexCast v4275
  let c16_2702 : Index := 16#32
  ![v4401.toNat, 16]
def k0_off1110 (v4402 : BitVec 32) : Fin 2 → Nat :=
  let v4404 : Index := Scalar.indexCast v4402
  let c0_2705 : Index := 0#32
  ![v4404.toNat, 0]

def k0_chk521 (v4402 : BitVec 32) : Prop :=
  (∀ a, (k0_off1110 v4402) a + S1x1024.size a ≤ S1032x1024.size a)
theorem k0_off1110_inb : ∀ (v4402 : BitVec 32) (k0_hw521 : k0_chk521 v4402), ∀ a, (k0_off1110 v4402) a + S1x1024.size a ≤ S1032x1024.size a := fun v4402 k0_hw521 => k0_hw521

def k0_off1111 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4408 : Index := Scalar.indexCast v4275
  let c17_2706 : Index := 17#32
  ![v4408.toNat, 17]
def k0_off1112 (v4409 : BitVec 32) : Fin 2 → Nat :=
  let v4411 : Index := Scalar.indexCast v4409
  let c0_2709 : Index := 0#32
  ![v4411.toNat, 0]

def k0_chk522 (v4409 : BitVec 32) : Prop :=
  (∀ a, (k0_off1112 v4409) a + S1x1024.size a ≤ S1032x1024.size a)
theorem k0_off1112_inb : ∀ (v4409 : BitVec 32) (k0_hw522 : k0_chk522 v4409), ∀ a, (k0_off1112 v4409) a + S1x1024.size a ≤ S1032x1024.size a := fun v4409 k0_hw522 => k0_hw522

def k0_off1113 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4415 : Index := Scalar.indexCast v4275
  let c18_2710 : Index := 18#32
  ![v4415.toNat, 18]
def k0_off1114 (v4416 : BitVec 32) : Fin 2 → Nat :=
  let v4418 : Index := Scalar.indexCast v4416
  let c0_2713 : Index := 0#32
  ![v4418.toNat, 0]

def k0_chk523 (v4416 : BitVec 32) : Prop :=
  (∀ a, (k0_off1114 v4416) a + S1x1024.size a ≤ S1032x1024.size a)
theorem k0_off1114_inb : ∀ (v4416 : BitVec 32) (k0_hw523 : k0_chk523 v4416), ∀ a, (k0_off1114 v4416) a + S1x1024.size a ≤ S1032x1024.size a := fun v4416 k0_hw523 => k0_hw523

def k0_off1115 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4422 : Index := Scalar.indexCast v4275
  let c19_2714 : Index := 19#32
  ![v4422.toNat, 19]
def k0_off1116 (v4423 : BitVec 32) : Fin 2 → Nat :=
  let v4425 : Index := Scalar.indexCast v4423
  let c0_2717 : Index := 0#32
  ![v4425.toNat, 0]

def k0_chk524 (v4423 : BitVec 32) : Prop :=
  (∀ a, (k0_off1116 v4423) a + S1x1024.size a ≤ S1032x1024.size a)
theorem k0_off1116_inb : ∀ (v4423 : BitVec 32) (k0_hw524 : k0_chk524 v4423), ∀ a, (k0_off1116 v4423) a + S1x1024.size a ≤ S1032x1024.size a := fun v4423 k0_hw524 => k0_hw524

def k0_off1117 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4429 : Index := Scalar.indexCast v4275
  let c20_2718 : Index := 20#32
  ![v4429.toNat, 20]
def k0_off1118 (v4430 : BitVec 32) : Fin 2 → Nat :=
  let v4432 : Index := Scalar.indexCast v4430
  let c0_2721 : Index := 0#32
  ![v4432.toNat, 0]

def k0_chk525 (v4430 : BitVec 32) : Prop :=
  (∀ a, (k0_off1118 v4430) a + S1x1024.size a ≤ S1032x1024.size a)
theorem k0_off1118_inb : ∀ (v4430 : BitVec 32) (k0_hw525 : k0_chk525 v4430), ∀ a, (k0_off1118 v4430) a + S1x1024.size a ≤ S1032x1024.size a := fun v4430 k0_hw525 => k0_hw525

def k0_off1119 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4436 : Index := Scalar.indexCast v4275
  let c21_2722 : Index := 21#32
  ![v4436.toNat, 21]
def k0_off1120 (v4437 : BitVec 32) : Fin 2 → Nat :=
  let v4439 : Index := Scalar.indexCast v4437
  let c0_2725 : Index := 0#32
  ![v4439.toNat, 0]

def k0_chk526 (v4437 : BitVec 32) : Prop :=
  (∀ a, (k0_off1120 v4437) a + S1x1024.size a ≤ S1032x1024.size a)
theorem k0_off1120_inb : ∀ (v4437 : BitVec 32) (k0_hw526 : k0_chk526 v4437), ∀ a, (k0_off1120 v4437) a + S1x1024.size a ≤ S1032x1024.size a := fun v4437 k0_hw526 => k0_hw526

def k0_off1121 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4443 : Index := Scalar.indexCast v4275
  let c22_2726 : Index := 22#32
  ![v4443.toNat, 22]
def k0_off1122 (v4444 : BitVec 32) : Fin 2 → Nat :=
  let v4446 : Index := Scalar.indexCast v4444
  let c0_2729 : Index := 0#32
  ![v4446.toNat, 0]

def k0_chk527 (v4444 : BitVec 32) : Prop :=
  (∀ a, (k0_off1122 v4444) a + S1x1024.size a ≤ S1032x1024.size a)
theorem k0_off1122_inb : ∀ (v4444 : BitVec 32) (k0_hw527 : k0_chk527 v4444), ∀ a, (k0_off1122 v4444) a + S1x1024.size a ≤ S1032x1024.size a := fun v4444 k0_hw527 => k0_hw527

def k0_off1123 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2625 : BitVec 32 := 20#32
  let v4273 : BitVec 32 := Scalar.subi v2 c20_i32_2625
  let c32_i32_2626 : BitVec 32 := 32#32
  let v4274 : BitVec 32 := Scalar.addi v4273 c32_i32_2626
  let c32_i32_2627 : BitVec 32 := 32#32
  let v4275 : BitVec 32 := Scalar.remsi v4274 c32_i32_2627
  let v4450 : Index := Scalar.indexCast v4275
  let c23_2730 : Index := 23#32
  ![v4450.toNat, 23]
def k0_off1124 (v4451 : BitVec 32) : Fin 2 → Nat :=
  let v4453 : Index := Scalar.indexCast v4451
  let c0_2733 : Index := 0#32
  ![v4453.toNat, 0]

def k0_chk528 (v4451 : BitVec 32) : Prop :=
  (∀ a, (k0_off1124 v4451) a + S1x1024.size a ≤ S1032x1024.size a)
theorem k0_off1124_inb : ∀ (v4451 : BitVec 32) (k0_hw528 : k0_chk528 v4451), ∀ a, (k0_off1124 v4451) a + S1x1024.size a ≤ S1032x1024.size a := fun v4451 k0_hw528 => k0_hw528

def k0_off1125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  ![v4459.toNat]
def k0_off1126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let c0_i32_2739 : BitVec 32 := 0#32
  let c0_i32_2740 : BitVec 32 := 0#32
  ![v4459.toNat, 0, 0]
def k0_off1127 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4466 : Index := Scalar.indexCast v4459
  let c0_2743 : Index := 0#32
  let c0_2744 : Index := 0#32
  ![v4466.toNat, 0, 0]
def k0_off1128 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4473 : Index := Scalar.indexCast v4459
  let c0_2747 : Index := 0#32
  ![v4473.toNat, 0]
def k0_off1129 (v4474 : BitVec 32) : Fin 2 → Nat :=
  let v4476 : Index := Scalar.indexCast v4474
  let c0_2750 : Index := 0#32
  ![v4476.toNat, 0]

def k0_chk529 (v4474 : BitVec 32) : Prop :=
  (∀ a, (k0_off1129 v4474) a + S1x1024.size a ≤ S1032x1024.size a)
theorem k0_off1129_inb : ∀ (v4474 : BitVec 32) (k0_hw529 : k0_chk529 v4474), ∀ a, (k0_off1129 v4474) a + S1x1024.size a ≤ S1032x1024.size a := fun v4474 k0_hw529 => k0_hw529

def k0_off1130 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4480 : Index := Scalar.indexCast v4459
  let c1_2751 : Index := 1#32
  ![v4480.toNat, 1]
def k0_off1131 (v4481 : BitVec 32) : Fin 2 → Nat :=
  let v4483 : Index := Scalar.indexCast v4481
  let c0_2754 : Index := 0#32
  ![v4483.toNat, 0]

def k0_chk530 (v4481 : BitVec 32) : Prop :=
  (∀ a, (k0_off1131 v4481) a + S1x1024.size a ≤ S1032x1024.size a)
theorem k0_off1131_inb : ∀ (v4481 : BitVec 32) (k0_hw530 : k0_chk530 v4481), ∀ a, (k0_off1131 v4481) a + S1x1024.size a ≤ S1032x1024.size a := fun v4481 k0_hw530 => k0_hw530

def k0_off1132 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4487 : Index := Scalar.indexCast v4459
  let c2_2755 : Index := 2#32
  ![v4487.toNat, 2]
def k0_off1133 (v4488 : BitVec 32) : Fin 2 → Nat :=
  let v4490 : Index := Scalar.indexCast v4488
  let c0_2758 : Index := 0#32
  ![v4490.toNat, 0]

def k0_chk531 (v4488 : BitVec 32) : Prop :=
  (∀ a, (k0_off1133 v4488) a + S1x1024.size a ≤ S1032x1024.size a)
theorem k0_off1133_inb : ∀ (v4488 : BitVec 32) (k0_hw531 : k0_chk531 v4488), ∀ a, (k0_off1133 v4488) a + S1x1024.size a ≤ S1032x1024.size a := fun v4488 k0_hw531 => k0_hw531

def k0_off1134 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4494 : Index := Scalar.indexCast v4459
  let c3_2759 : Index := 3#32
  ![v4494.toNat, 3]
def k0_off1135 (v4495 : BitVec 32) : Fin 2 → Nat :=
  let v4497 : Index := Scalar.indexCast v4495
  let c0_2762 : Index := 0#32
  ![v4497.toNat, 0]

def k0_chk532 (v4495 : BitVec 32) : Prop :=
  (∀ a, (k0_off1135 v4495) a + S1x1024.size a ≤ S1032x1024.size a)
theorem k0_off1135_inb : ∀ (v4495 : BitVec 32) (k0_hw532 : k0_chk532 v4495), ∀ a, (k0_off1135 v4495) a + S1x1024.size a ≤ S1032x1024.size a := fun v4495 k0_hw532 => k0_hw532

def k0_off1136 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4501 : Index := Scalar.indexCast v4459
  let c4_2763 : Index := 4#32
  ![v4501.toNat, 4]
def k0_off1137 (v4502 : BitVec 32) : Fin 2 → Nat :=
  let v4504 : Index := Scalar.indexCast v4502
  let c0_2766 : Index := 0#32
  ![v4504.toNat, 0]

def k0_chk533 (v4502 : BitVec 32) : Prop :=
  (∀ a, (k0_off1137 v4502) a + S1x1024.size a ≤ S1032x1024.size a)
theorem k0_off1137_inb : ∀ (v4502 : BitVec 32) (k0_hw533 : k0_chk533 v4502), ∀ a, (k0_off1137 v4502) a + S1x1024.size a ≤ S1032x1024.size a := fun v4502 k0_hw533 => k0_hw533

def k0_off1138 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4508 : Index := Scalar.indexCast v4459
  let c5_2767 : Index := 5#32
  ![v4508.toNat, 5]
def k0_off1139 (v4509 : BitVec 32) : Fin 2 → Nat :=
  let v4511 : Index := Scalar.indexCast v4509
  let c0_2770 : Index := 0#32
  ![v4511.toNat, 0]

def k0_chk534 (v4509 : BitVec 32) : Prop :=
  (∀ a, (k0_off1139 v4509) a + S1x1024.size a ≤ S1032x1024.size a)
theorem k0_off1139_inb : ∀ (v4509 : BitVec 32) (k0_hw534 : k0_chk534 v4509), ∀ a, (k0_off1139 v4509) a + S1x1024.size a ≤ S1032x1024.size a := fun v4509 k0_hw534 => k0_hw534

def k0_off1140 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4515 : Index := Scalar.indexCast v4459
  let c6_2771 : Index := 6#32
  ![v4515.toNat, 6]
def k0_off1141 (v4516 : BitVec 32) : Fin 2 → Nat :=
  let v4518 : Index := Scalar.indexCast v4516
  let c0_2774 : Index := 0#32
  ![v4518.toNat, 0]

def k0_chk535 (v4516 : BitVec 32) : Prop :=
  (∀ a, (k0_off1141 v4516) a + S1x1024.size a ≤ S1032x1024.size a)
theorem k0_off1141_inb : ∀ (v4516 : BitVec 32) (k0_hw535 : k0_chk535 v4516), ∀ a, (k0_off1141 v4516) a + S1x1024.size a ≤ S1032x1024.size a := fun v4516 k0_hw535 => k0_hw535

def k0_off1142 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4522 : Index := Scalar.indexCast v4459
  let c7_2775 : Index := 7#32
  ![v4522.toNat, 7]
def k0_off1143 (v4523 : BitVec 32) : Fin 2 → Nat :=
  let v4525 : Index := Scalar.indexCast v4523
  let c0_2778 : Index := 0#32
  ![v4525.toNat, 0]

def k0_chk536 (v4523 : BitVec 32) : Prop :=
  (∀ a, (k0_off1143 v4523) a + S1x1024.size a ≤ S1032x1024.size a)
theorem k0_off1143_inb : ∀ (v4523 : BitVec 32) (k0_hw536 : k0_chk536 v4523), ∀ a, (k0_off1143 v4523) a + S1x1024.size a ≤ S1032x1024.size a := fun v4523 k0_hw536 => k0_hw536

def k0_off1144 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4529 : Index := Scalar.indexCast v4459
  let c8_2779 : Index := 8#32
  ![v4529.toNat, 8]
def k0_off1145 (v4530 : BitVec 32) : Fin 2 → Nat :=
  let v4532 : Index := Scalar.indexCast v4530
  let c0_2782 : Index := 0#32
  ![v4532.toNat, 0]

def k0_chk537 (v4530 : BitVec 32) : Prop :=
  (∀ a, (k0_off1145 v4530) a + S1x1024.size a ≤ S1032x1024.size a)
theorem k0_off1145_inb : ∀ (v4530 : BitVec 32) (k0_hw537 : k0_chk537 v4530), ∀ a, (k0_off1145 v4530) a + S1x1024.size a ≤ S1032x1024.size a := fun v4530 k0_hw537 => k0_hw537

def k0_off1146 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4536 : Index := Scalar.indexCast v4459
  let c9_2783 : Index := 9#32
  ![v4536.toNat, 9]
def k0_off1147 (v4537 : BitVec 32) : Fin 2 → Nat :=
  let v4539 : Index := Scalar.indexCast v4537
  let c0_2786 : Index := 0#32
  ![v4539.toNat, 0]

def k0_chk538 (v4537 : BitVec 32) : Prop :=
  (∀ a, (k0_off1147 v4537) a + S1x1024.size a ≤ S1032x1024.size a)
theorem k0_off1147_inb : ∀ (v4537 : BitVec 32) (k0_hw538 : k0_chk538 v4537), ∀ a, (k0_off1147 v4537) a + S1x1024.size a ≤ S1032x1024.size a := fun v4537 k0_hw538 => k0_hw538

def k0_off1148 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4543 : Index := Scalar.indexCast v4459
  let c10_2787 : Index := 10#32
  ![v4543.toNat, 10]
def k0_off1149 (v4544 : BitVec 32) : Fin 2 → Nat :=
  let v4546 : Index := Scalar.indexCast v4544
  let c0_2790 : Index := 0#32
  ![v4546.toNat, 0]

def k0_chk539 (v4544 : BitVec 32) : Prop :=
  (∀ a, (k0_off1149 v4544) a + S1x1024.size a ≤ S1032x1024.size a)
theorem k0_off1149_inb : ∀ (v4544 : BitVec 32) (k0_hw539 : k0_chk539 v4544), ∀ a, (k0_off1149 v4544) a + S1x1024.size a ≤ S1032x1024.size a := fun v4544 k0_hw539 => k0_hw539

def k0_off1150 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4550 : Index := Scalar.indexCast v4459
  let c11_2791 : Index := 11#32
  ![v4550.toNat, 11]
def k0_off1151 (v4551 : BitVec 32) : Fin 2 → Nat :=
  let v4553 : Index := Scalar.indexCast v4551
  let c0_2794 : Index := 0#32
  ![v4553.toNat, 0]

def k0_chk540 (v4551 : BitVec 32) : Prop :=
  (∀ a, (k0_off1151 v4551) a + S1x1024.size a ≤ S1032x1024.size a)
theorem k0_off1151_inb : ∀ (v4551 : BitVec 32) (k0_hw540 : k0_chk540 v4551), ∀ a, (k0_off1151 v4551) a + S1x1024.size a ≤ S1032x1024.size a := fun v4551 k0_hw540 => k0_hw540

def k0_off1152 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4557 : Index := Scalar.indexCast v4459
  let c12_2795 : Index := 12#32
  ![v4557.toNat, 12]
def k0_off1153 (v4558 : BitVec 32) : Fin 2 → Nat :=
  let v4560 : Index := Scalar.indexCast v4558
  let c0_2798 : Index := 0#32
  ![v4560.toNat, 0]

def k0_chk541 (v4558 : BitVec 32) : Prop :=
  (∀ a, (k0_off1153 v4558) a + S1x1024.size a ≤ S1032x1024.size a)
theorem k0_off1153_inb : ∀ (v4558 : BitVec 32) (k0_hw541 : k0_chk541 v4558), ∀ a, (k0_off1153 v4558) a + S1x1024.size a ≤ S1032x1024.size a := fun v4558 k0_hw541 => k0_hw541

def k0_off1154 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4564 : Index := Scalar.indexCast v4459
  let c13_2799 : Index := 13#32
  ![v4564.toNat, 13]
def k0_off1155 (v4565 : BitVec 32) : Fin 2 → Nat :=
  let v4567 : Index := Scalar.indexCast v4565
  let c0_2802 : Index := 0#32
  ![v4567.toNat, 0]

def k0_chk542 (v4565 : BitVec 32) : Prop :=
  (∀ a, (k0_off1155 v4565) a + S1x1024.size a ≤ S1032x1024.size a)
theorem k0_off1155_inb : ∀ (v4565 : BitVec 32) (k0_hw542 : k0_chk542 v4565), ∀ a, (k0_off1155 v4565) a + S1x1024.size a ≤ S1032x1024.size a := fun v4565 k0_hw542 => k0_hw542

def k0_off1156 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4571 : Index := Scalar.indexCast v4459
  let c14_2803 : Index := 14#32
  ![v4571.toNat, 14]
def k0_off1157 (v4572 : BitVec 32) : Fin 2 → Nat :=
  let v4574 : Index := Scalar.indexCast v4572
  let c0_2806 : Index := 0#32
  ![v4574.toNat, 0]

def k0_chk543 (v4572 : BitVec 32) : Prop :=
  (∀ a, (k0_off1157 v4572) a + S1x1024.size a ≤ S1032x1024.size a)
theorem k0_off1157_inb : ∀ (v4572 : BitVec 32) (k0_hw543 : k0_chk543 v4572), ∀ a, (k0_off1157 v4572) a + S1x1024.size a ≤ S1032x1024.size a := fun v4572 k0_hw543 => k0_hw543

def k0_off1158 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4578 : Index := Scalar.indexCast v4459
  let c15_2807 : Index := 15#32
  ![v4578.toNat, 15]
def k0_off1159 (v4579 : BitVec 32) : Fin 2 → Nat :=
  let v4581 : Index := Scalar.indexCast v4579
  let c0_2810 : Index := 0#32
  ![v4581.toNat, 0]

def k0_chk544 (v4579 : BitVec 32) : Prop :=
  (∀ a, (k0_off1159 v4579) a + S1x1024.size a ≤ S1032x1024.size a)
theorem k0_off1159_inb : ∀ (v4579 : BitVec 32) (k0_hw544 : k0_chk544 v4579), ∀ a, (k0_off1159 v4579) a + S1x1024.size a ≤ S1032x1024.size a := fun v4579 k0_hw544 => k0_hw544

def k0_off1160 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4585 : Index := Scalar.indexCast v4459
  let c16_2811 : Index := 16#32
  ![v4585.toNat, 16]
def k0_off1161 (v4586 : BitVec 32) : Fin 2 → Nat :=
  let v4588 : Index := Scalar.indexCast v4586
  let c0_2814 : Index := 0#32
  ![v4588.toNat, 0]

def k0_chk545 (v4586 : BitVec 32) : Prop :=
  (∀ a, (k0_off1161 v4586) a + S1x1024.size a ≤ S1032x1024.size a)
theorem k0_off1161_inb : ∀ (v4586 : BitVec 32) (k0_hw545 : k0_chk545 v4586), ∀ a, (k0_off1161 v4586) a + S1x1024.size a ≤ S1032x1024.size a := fun v4586 k0_hw545 => k0_hw545

def k0_off1162 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4592 : Index := Scalar.indexCast v4459
  let c17_2815 : Index := 17#32
  ![v4592.toNat, 17]
def k0_off1163 (v4593 : BitVec 32) : Fin 2 → Nat :=
  let v4595 : Index := Scalar.indexCast v4593
  let c0_2818 : Index := 0#32
  ![v4595.toNat, 0]

def k0_chk546 (v4593 : BitVec 32) : Prop :=
  (∀ a, (k0_off1163 v4593) a + S1x1024.size a ≤ S1032x1024.size a)
theorem k0_off1163_inb : ∀ (v4593 : BitVec 32) (k0_hw546 : k0_chk546 v4593), ∀ a, (k0_off1163 v4593) a + S1x1024.size a ≤ S1032x1024.size a := fun v4593 k0_hw546 => k0_hw546

def k0_off1164 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4599 : Index := Scalar.indexCast v4459
  let c18_2819 : Index := 18#32
  ![v4599.toNat, 18]
def k0_off1165 (v4600 : BitVec 32) : Fin 2 → Nat :=
  let v4602 : Index := Scalar.indexCast v4600
  let c0_2822 : Index := 0#32
  ![v4602.toNat, 0]

def k0_chk547 (v4600 : BitVec 32) : Prop :=
  (∀ a, (k0_off1165 v4600) a + S1x1024.size a ≤ S1032x1024.size a)
theorem k0_off1165_inb : ∀ (v4600 : BitVec 32) (k0_hw547 : k0_chk547 v4600), ∀ a, (k0_off1165 v4600) a + S1x1024.size a ≤ S1032x1024.size a := fun v4600 k0_hw547 => k0_hw547

def k0_off1166 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4606 : Index := Scalar.indexCast v4459
  let c19_2823 : Index := 19#32
  ![v4606.toNat, 19]
def k0_off1167 (v4607 : BitVec 32) : Fin 2 → Nat :=
  let v4609 : Index := Scalar.indexCast v4607
  let c0_2826 : Index := 0#32
  ![v4609.toNat, 0]

def k0_chk548 (v4607 : BitVec 32) : Prop :=
  (∀ a, (k0_off1167 v4607) a + S1x1024.size a ≤ S1032x1024.size a)
theorem k0_off1167_inb : ∀ (v4607 : BitVec 32) (k0_hw548 : k0_chk548 v4607), ∀ a, (k0_off1167 v4607) a + S1x1024.size a ≤ S1032x1024.size a := fun v4607 k0_hw548 => k0_hw548

def k0_off1168 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4613 : Index := Scalar.indexCast v4459
  let c20_2827 : Index := 20#32
  ![v4613.toNat, 20]
def k0_off1169 (v4614 : BitVec 32) : Fin 2 → Nat :=
  let v4616 : Index := Scalar.indexCast v4614
  let c0_2830 : Index := 0#32
  ![v4616.toNat, 0]

def k0_chk549 (v4614 : BitVec 32) : Prop :=
  (∀ a, (k0_off1169 v4614) a + S1x1024.size a ≤ S1032x1024.size a)
theorem k0_off1169_inb : ∀ (v4614 : BitVec 32) (k0_hw549 : k0_chk549 v4614), ∀ a, (k0_off1169 v4614) a + S1x1024.size a ≤ S1032x1024.size a := fun v4614 k0_hw549 => k0_hw549

def k0_off1170 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4620 : Index := Scalar.indexCast v4459
  let c21_2831 : Index := 21#32
  ![v4620.toNat, 21]
def k0_off1171 (v4621 : BitVec 32) : Fin 2 → Nat :=
  let v4623 : Index := Scalar.indexCast v4621
  let c0_2834 : Index := 0#32
  ![v4623.toNat, 0]

def k0_chk550 (v4621 : BitVec 32) : Prop :=
  (∀ a, (k0_off1171 v4621) a + S1x1024.size a ≤ S1032x1024.size a)
theorem k0_off1171_inb : ∀ (v4621 : BitVec 32) (k0_hw550 : k0_chk550 v4621), ∀ a, (k0_off1171 v4621) a + S1x1024.size a ≤ S1032x1024.size a := fun v4621 k0_hw550 => k0_hw550

def k0_off1172 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4627 : Index := Scalar.indexCast v4459
  let c22_2835 : Index := 22#32
  ![v4627.toNat, 22]
def k0_off1173 (v4628 : BitVec 32) : Fin 2 → Nat :=
  let v4630 : Index := Scalar.indexCast v4628
  let c0_2838 : Index := 0#32
  ![v4630.toNat, 0]

def k0_chk551 (v4628 : BitVec 32) : Prop :=
  (∀ a, (k0_off1173 v4628) a + S1x1024.size a ≤ S1032x1024.size a)
theorem k0_off1173_inb : ∀ (v4628 : BitVec 32) (k0_hw551 : k0_chk551 v4628), ∀ a, (k0_off1173 v4628) a + S1x1024.size a ≤ S1032x1024.size a := fun v4628 k0_hw551 => k0_hw551

def k0_off1174 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2734 : BitVec 32 := 21#32
  let v4457 : BitVec 32 := Scalar.subi v2 c21_i32_2734
  let c32_i32_2735 : BitVec 32 := 32#32
  let v4458 : BitVec 32 := Scalar.addi v4457 c32_i32_2735
  let c32_i32_2736 : BitVec 32 := 32#32
  let v4459 : BitVec 32 := Scalar.remsi v4458 c32_i32_2736
  let v4634 : Index := Scalar.indexCast v4459
  let c23_2839 : Index := 23#32
  ![v4634.toNat, 23]
def k0_off1175 (v4635 : BitVec 32) : Fin 2 → Nat :=
  let v4637 : Index := Scalar.indexCast v4635
  let c0_2842 : Index := 0#32
  ![v4637.toNat, 0]

def k0_chk552 (v4635 : BitVec 32) : Prop :=
  (∀ a, (k0_off1175 v4635) a + S1x1024.size a ≤ S1032x1024.size a)
theorem k0_off1175_inb : ∀ (v4635 : BitVec 32) (k0_hw552 : k0_chk552 v4635), ∀ a, (k0_off1175 v4635) a + S1x1024.size a ≤ S1032x1024.size a := fun v4635 k0_hw552 => k0_hw552

def k0_off1176 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  ![v4643.toNat]
def k0_off1177 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let c0_i32_2848 : BitVec 32 := 0#32
  let c0_i32_2849 : BitVec 32 := 0#32
  ![v4643.toNat, 0, 0]
def k0_off1178 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4650 : Index := Scalar.indexCast v4643
  let c0_2852 : Index := 0#32
  let c0_2853 : Index := 0#32
  ![v4650.toNat, 0, 0]
def k0_off1179 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4657 : Index := Scalar.indexCast v4643
  let c0_2856 : Index := 0#32
  ![v4657.toNat, 0]
def k0_off1180 (v4658 : BitVec 32) : Fin 2 → Nat :=
  let v4660 : Index := Scalar.indexCast v4658
  let c0_2859 : Index := 0#32
  ![v4660.toNat, 0]

def k0_chk553 (v4658 : BitVec 32) : Prop :=
  (∀ a, (k0_off1180 v4658) a + S1x1024.size a ≤ S1032x1024.size a)
theorem k0_off1180_inb : ∀ (v4658 : BitVec 32) (k0_hw553 : k0_chk553 v4658), ∀ a, (k0_off1180 v4658) a + S1x1024.size a ≤ S1032x1024.size a := fun v4658 k0_hw553 => k0_hw553

def k0_off1181 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4664 : Index := Scalar.indexCast v4643
  let c1_2860 : Index := 1#32
  ![v4664.toNat, 1]
def k0_off1182 (v4665 : BitVec 32) : Fin 2 → Nat :=
  let v4667 : Index := Scalar.indexCast v4665
  let c0_2863 : Index := 0#32
  ![v4667.toNat, 0]

def k0_chk554 (v4665 : BitVec 32) : Prop :=
  (∀ a, (k0_off1182 v4665) a + S1x1024.size a ≤ S1032x1024.size a)
theorem k0_off1182_inb : ∀ (v4665 : BitVec 32) (k0_hw554 : k0_chk554 v4665), ∀ a, (k0_off1182 v4665) a + S1x1024.size a ≤ S1032x1024.size a := fun v4665 k0_hw554 => k0_hw554

def k0_off1183 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4671 : Index := Scalar.indexCast v4643
  let c2_2864 : Index := 2#32
  ![v4671.toNat, 2]
def k0_off1184 (v4672 : BitVec 32) : Fin 2 → Nat :=
  let v4674 : Index := Scalar.indexCast v4672
  let c0_2867 : Index := 0#32
  ![v4674.toNat, 0]

def k0_chk555 (v4672 : BitVec 32) : Prop :=
  (∀ a, (k0_off1184 v4672) a + S1x1024.size a ≤ S1032x1024.size a)
theorem k0_off1184_inb : ∀ (v4672 : BitVec 32) (k0_hw555 : k0_chk555 v4672), ∀ a, (k0_off1184 v4672) a + S1x1024.size a ≤ S1032x1024.size a := fun v4672 k0_hw555 => k0_hw555

def k0_off1185 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4678 : Index := Scalar.indexCast v4643
  let c3_2868 : Index := 3#32
  ![v4678.toNat, 3]
def k0_off1186 (v4679 : BitVec 32) : Fin 2 → Nat :=
  let v4681 : Index := Scalar.indexCast v4679
  let c0_2871 : Index := 0#32
  ![v4681.toNat, 0]

def k0_chk556 (v4679 : BitVec 32) : Prop :=
  (∀ a, (k0_off1186 v4679) a + S1x1024.size a ≤ S1032x1024.size a)
theorem k0_off1186_inb : ∀ (v4679 : BitVec 32) (k0_hw556 : k0_chk556 v4679), ∀ a, (k0_off1186 v4679) a + S1x1024.size a ≤ S1032x1024.size a := fun v4679 k0_hw556 => k0_hw556

def k0_off1187 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4685 : Index := Scalar.indexCast v4643
  let c4_2872 : Index := 4#32
  ![v4685.toNat, 4]
def k0_off1188 (v4686 : BitVec 32) : Fin 2 → Nat :=
  let v4688 : Index := Scalar.indexCast v4686
  let c0_2875 : Index := 0#32
  ![v4688.toNat, 0]

def k0_chk557 (v4686 : BitVec 32) : Prop :=
  (∀ a, (k0_off1188 v4686) a + S1x1024.size a ≤ S1032x1024.size a)
theorem k0_off1188_inb : ∀ (v4686 : BitVec 32) (k0_hw557 : k0_chk557 v4686), ∀ a, (k0_off1188 v4686) a + S1x1024.size a ≤ S1032x1024.size a := fun v4686 k0_hw557 => k0_hw557

def k0_off1189 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4692 : Index := Scalar.indexCast v4643
  let c5_2876 : Index := 5#32
  ![v4692.toNat, 5]
def k0_off1190 (v4693 : BitVec 32) : Fin 2 → Nat :=
  let v4695 : Index := Scalar.indexCast v4693
  let c0_2879 : Index := 0#32
  ![v4695.toNat, 0]

def k0_chk558 (v4693 : BitVec 32) : Prop :=
  (∀ a, (k0_off1190 v4693) a + S1x1024.size a ≤ S1032x1024.size a)
theorem k0_off1190_inb : ∀ (v4693 : BitVec 32) (k0_hw558 : k0_chk558 v4693), ∀ a, (k0_off1190 v4693) a + S1x1024.size a ≤ S1032x1024.size a := fun v4693 k0_hw558 => k0_hw558

def k0_off1191 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4699 : Index := Scalar.indexCast v4643
  let c6_2880 : Index := 6#32
  ![v4699.toNat, 6]
def k0_off1192 (v4700 : BitVec 32) : Fin 2 → Nat :=
  let v4702 : Index := Scalar.indexCast v4700
  let c0_2883 : Index := 0#32
  ![v4702.toNat, 0]

def k0_chk559 (v4700 : BitVec 32) : Prop :=
  (∀ a, (k0_off1192 v4700) a + S1x1024.size a ≤ S1032x1024.size a)
theorem k0_off1192_inb : ∀ (v4700 : BitVec 32) (k0_hw559 : k0_chk559 v4700), ∀ a, (k0_off1192 v4700) a + S1x1024.size a ≤ S1032x1024.size a := fun v4700 k0_hw559 => k0_hw559

def k0_off1193 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4706 : Index := Scalar.indexCast v4643
  let c7_2884 : Index := 7#32
  ![v4706.toNat, 7]
def k0_off1194 (v4707 : BitVec 32) : Fin 2 → Nat :=
  let v4709 : Index := Scalar.indexCast v4707
  let c0_2887 : Index := 0#32
  ![v4709.toNat, 0]

def k0_chk560 (v4707 : BitVec 32) : Prop :=
  (∀ a, (k0_off1194 v4707) a + S1x1024.size a ≤ S1032x1024.size a)
theorem k0_off1194_inb : ∀ (v4707 : BitVec 32) (k0_hw560 : k0_chk560 v4707), ∀ a, (k0_off1194 v4707) a + S1x1024.size a ≤ S1032x1024.size a := fun v4707 k0_hw560 => k0_hw560

def k0_off1195 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4713 : Index := Scalar.indexCast v4643
  let c8_2888 : Index := 8#32
  ![v4713.toNat, 8]
def k0_off1196 (v4714 : BitVec 32) : Fin 2 → Nat :=
  let v4716 : Index := Scalar.indexCast v4714
  let c0_2891 : Index := 0#32
  ![v4716.toNat, 0]

def k0_chk561 (v4714 : BitVec 32) : Prop :=
  (∀ a, (k0_off1196 v4714) a + S1x1024.size a ≤ S1032x1024.size a)
theorem k0_off1196_inb : ∀ (v4714 : BitVec 32) (k0_hw561 : k0_chk561 v4714), ∀ a, (k0_off1196 v4714) a + S1x1024.size a ≤ S1032x1024.size a := fun v4714 k0_hw561 => k0_hw561

def k0_off1197 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4720 : Index := Scalar.indexCast v4643
  let c9_2892 : Index := 9#32
  ![v4720.toNat, 9]
def k0_off1198 (v4721 : BitVec 32) : Fin 2 → Nat :=
  let v4723 : Index := Scalar.indexCast v4721
  let c0_2895 : Index := 0#32
  ![v4723.toNat, 0]

def k0_chk562 (v4721 : BitVec 32) : Prop :=
  (∀ a, (k0_off1198 v4721) a + S1x1024.size a ≤ S1032x1024.size a)
theorem k0_off1198_inb : ∀ (v4721 : BitVec 32) (k0_hw562 : k0_chk562 v4721), ∀ a, (k0_off1198 v4721) a + S1x1024.size a ≤ S1032x1024.size a := fun v4721 k0_hw562 => k0_hw562

def k0_off1199 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4727 : Index := Scalar.indexCast v4643
  let c10_2896 : Index := 10#32
  ![v4727.toNat, 10]
def k0_off1200 (v4728 : BitVec 32) : Fin 2 → Nat :=
  let v4730 : Index := Scalar.indexCast v4728
  let c0_2899 : Index := 0#32
  ![v4730.toNat, 0]

def k0_chk563 (v4728 : BitVec 32) : Prop :=
  (∀ a, (k0_off1200 v4728) a + S1x1024.size a ≤ S1032x1024.size a)
theorem k0_off1200_inb : ∀ (v4728 : BitVec 32) (k0_hw563 : k0_chk563 v4728), ∀ a, (k0_off1200 v4728) a + S1x1024.size a ≤ S1032x1024.size a := fun v4728 k0_hw563 => k0_hw563

def k0_off1201 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4734 : Index := Scalar.indexCast v4643
  let c11_2900 : Index := 11#32
  ![v4734.toNat, 11]
def k0_off1202 (v4735 : BitVec 32) : Fin 2 → Nat :=
  let v4737 : Index := Scalar.indexCast v4735
  let c0_2903 : Index := 0#32
  ![v4737.toNat, 0]

def k0_chk564 (v4735 : BitVec 32) : Prop :=
  (∀ a, (k0_off1202 v4735) a + S1x1024.size a ≤ S1032x1024.size a)
theorem k0_off1202_inb : ∀ (v4735 : BitVec 32) (k0_hw564 : k0_chk564 v4735), ∀ a, (k0_off1202 v4735) a + S1x1024.size a ≤ S1032x1024.size a := fun v4735 k0_hw564 => k0_hw564

def k0_off1203 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4741 : Index := Scalar.indexCast v4643
  let c12_2904 : Index := 12#32
  ![v4741.toNat, 12]
def k0_off1204 (v4742 : BitVec 32) : Fin 2 → Nat :=
  let v4744 : Index := Scalar.indexCast v4742
  let c0_2907 : Index := 0#32
  ![v4744.toNat, 0]

def k0_chk565 (v4742 : BitVec 32) : Prop :=
  (∀ a, (k0_off1204 v4742) a + S1x1024.size a ≤ S1032x1024.size a)
theorem k0_off1204_inb : ∀ (v4742 : BitVec 32) (k0_hw565 : k0_chk565 v4742), ∀ a, (k0_off1204 v4742) a + S1x1024.size a ≤ S1032x1024.size a := fun v4742 k0_hw565 => k0_hw565

def k0_off1205 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4748 : Index := Scalar.indexCast v4643
  let c13_2908 : Index := 13#32
  ![v4748.toNat, 13]
def k0_off1206 (v4749 : BitVec 32) : Fin 2 → Nat :=
  let v4751 : Index := Scalar.indexCast v4749
  let c0_2911 : Index := 0#32
  ![v4751.toNat, 0]

def k0_chk566 (v4749 : BitVec 32) : Prop :=
  (∀ a, (k0_off1206 v4749) a + S1x1024.size a ≤ S1032x1024.size a)
theorem k0_off1206_inb : ∀ (v4749 : BitVec 32) (k0_hw566 : k0_chk566 v4749), ∀ a, (k0_off1206 v4749) a + S1x1024.size a ≤ S1032x1024.size a := fun v4749 k0_hw566 => k0_hw566

def k0_off1207 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4755 : Index := Scalar.indexCast v4643
  let c14_2912 : Index := 14#32
  ![v4755.toNat, 14]
def k0_off1208 (v4756 : BitVec 32) : Fin 2 → Nat :=
  let v4758 : Index := Scalar.indexCast v4756
  let c0_2915 : Index := 0#32
  ![v4758.toNat, 0]

def k0_chk567 (v4756 : BitVec 32) : Prop :=
  (∀ a, (k0_off1208 v4756) a + S1x1024.size a ≤ S1032x1024.size a)
theorem k0_off1208_inb : ∀ (v4756 : BitVec 32) (k0_hw567 : k0_chk567 v4756), ∀ a, (k0_off1208 v4756) a + S1x1024.size a ≤ S1032x1024.size a := fun v4756 k0_hw567 => k0_hw567

def k0_off1209 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4762 : Index := Scalar.indexCast v4643
  let c15_2916 : Index := 15#32
  ![v4762.toNat, 15]
def k0_off1210 (v4763 : BitVec 32) : Fin 2 → Nat :=
  let v4765 : Index := Scalar.indexCast v4763
  let c0_2919 : Index := 0#32
  ![v4765.toNat, 0]

def k0_chk568 (v4763 : BitVec 32) : Prop :=
  (∀ a, (k0_off1210 v4763) a + S1x1024.size a ≤ S1032x1024.size a)
theorem k0_off1210_inb : ∀ (v4763 : BitVec 32) (k0_hw568 : k0_chk568 v4763), ∀ a, (k0_off1210 v4763) a + S1x1024.size a ≤ S1032x1024.size a := fun v4763 k0_hw568 => k0_hw568

def k0_off1211 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4769 : Index := Scalar.indexCast v4643
  let c16_2920 : Index := 16#32
  ![v4769.toNat, 16]
def k0_off1212 (v4770 : BitVec 32) : Fin 2 → Nat :=
  let v4772 : Index := Scalar.indexCast v4770
  let c0_2923 : Index := 0#32
  ![v4772.toNat, 0]

def k0_chk569 (v4770 : BitVec 32) : Prop :=
  (∀ a, (k0_off1212 v4770) a + S1x1024.size a ≤ S1032x1024.size a)
theorem k0_off1212_inb : ∀ (v4770 : BitVec 32) (k0_hw569 : k0_chk569 v4770), ∀ a, (k0_off1212 v4770) a + S1x1024.size a ≤ S1032x1024.size a := fun v4770 k0_hw569 => k0_hw569

def k0_off1213 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4776 : Index := Scalar.indexCast v4643
  let c17_2924 : Index := 17#32
  ![v4776.toNat, 17]
def k0_off1214 (v4777 : BitVec 32) : Fin 2 → Nat :=
  let v4779 : Index := Scalar.indexCast v4777
  let c0_2927 : Index := 0#32
  ![v4779.toNat, 0]

def k0_chk570 (v4777 : BitVec 32) : Prop :=
  (∀ a, (k0_off1214 v4777) a + S1x1024.size a ≤ S1032x1024.size a)
theorem k0_off1214_inb : ∀ (v4777 : BitVec 32) (k0_hw570 : k0_chk570 v4777), ∀ a, (k0_off1214 v4777) a + S1x1024.size a ≤ S1032x1024.size a := fun v4777 k0_hw570 => k0_hw570

def k0_off1215 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4783 : Index := Scalar.indexCast v4643
  let c18_2928 : Index := 18#32
  ![v4783.toNat, 18]
def k0_off1216 (v4784 : BitVec 32) : Fin 2 → Nat :=
  let v4786 : Index := Scalar.indexCast v4784
  let c0_2931 : Index := 0#32
  ![v4786.toNat, 0]

def k0_chk571 (v4784 : BitVec 32) : Prop :=
  (∀ a, (k0_off1216 v4784) a + S1x1024.size a ≤ S1032x1024.size a)
theorem k0_off1216_inb : ∀ (v4784 : BitVec 32) (k0_hw571 : k0_chk571 v4784), ∀ a, (k0_off1216 v4784) a + S1x1024.size a ≤ S1032x1024.size a := fun v4784 k0_hw571 => k0_hw571

def k0_off1217 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4790 : Index := Scalar.indexCast v4643
  let c19_2932 : Index := 19#32
  ![v4790.toNat, 19]
def k0_off1218 (v4791 : BitVec 32) : Fin 2 → Nat :=
  let v4793 : Index := Scalar.indexCast v4791
  let c0_2935 : Index := 0#32
  ![v4793.toNat, 0]

def k0_chk572 (v4791 : BitVec 32) : Prop :=
  (∀ a, (k0_off1218 v4791) a + S1x1024.size a ≤ S1032x1024.size a)
theorem k0_off1218_inb : ∀ (v4791 : BitVec 32) (k0_hw572 : k0_chk572 v4791), ∀ a, (k0_off1218 v4791) a + S1x1024.size a ≤ S1032x1024.size a := fun v4791 k0_hw572 => k0_hw572

def k0_off1219 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4797 : Index := Scalar.indexCast v4643
  let c20_2936 : Index := 20#32
  ![v4797.toNat, 20]
def k0_off1220 (v4798 : BitVec 32) : Fin 2 → Nat :=
  let v4800 : Index := Scalar.indexCast v4798
  let c0_2939 : Index := 0#32
  ![v4800.toNat, 0]

def k0_chk573 (v4798 : BitVec 32) : Prop :=
  (∀ a, (k0_off1220 v4798) a + S1x1024.size a ≤ S1032x1024.size a)
theorem k0_off1220_inb : ∀ (v4798 : BitVec 32) (k0_hw573 : k0_chk573 v4798), ∀ a, (k0_off1220 v4798) a + S1x1024.size a ≤ S1032x1024.size a := fun v4798 k0_hw573 => k0_hw573

def k0_off1221 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4804 : Index := Scalar.indexCast v4643
  let c21_2940 : Index := 21#32
  ![v4804.toNat, 21]
def k0_off1222 (v4805 : BitVec 32) : Fin 2 → Nat :=
  let v4807 : Index := Scalar.indexCast v4805
  let c0_2943 : Index := 0#32
  ![v4807.toNat, 0]

def k0_chk574 (v4805 : BitVec 32) : Prop :=
  (∀ a, (k0_off1222 v4805) a + S1x1024.size a ≤ S1032x1024.size a)
theorem k0_off1222_inb : ∀ (v4805 : BitVec 32) (k0_hw574 : k0_chk574 v4805), ∀ a, (k0_off1222 v4805) a + S1x1024.size a ≤ S1032x1024.size a := fun v4805 k0_hw574 => k0_hw574

def k0_off1223 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4811 : Index := Scalar.indexCast v4643
  let c22_2944 : Index := 22#32
  ![v4811.toNat, 22]
def k0_off1224 (v4812 : BitVec 32) : Fin 2 → Nat :=
  let v4814 : Index := Scalar.indexCast v4812
  let c0_2947 : Index := 0#32
  ![v4814.toNat, 0]

def k0_chk575 (v4812 : BitVec 32) : Prop :=
  (∀ a, (k0_off1224 v4812) a + S1x1024.size a ≤ S1032x1024.size a)
theorem k0_off1224_inb : ∀ (v4812 : BitVec 32) (k0_hw575 : k0_chk575 v4812), ∀ a, (k0_off1224 v4812) a + S1x1024.size a ≤ S1032x1024.size a := fun v4812 k0_hw575 => k0_hw575

def k0_off1225 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2843 : BitVec 32 := 22#32
  let v4641 : BitVec 32 := Scalar.subi v2 c22_i32_2843
  let c32_i32_2844 : BitVec 32 := 32#32
  let v4642 : BitVec 32 := Scalar.addi v4641 c32_i32_2844
  let c32_i32_2845 : BitVec 32 := 32#32
  let v4643 : BitVec 32 := Scalar.remsi v4642 c32_i32_2845
  let v4818 : Index := Scalar.indexCast v4643
  let c23_2948 : Index := 23#32
  ![v4818.toNat, 23]
def k0_off1226 (v4819 : BitVec 32) : Fin 2 → Nat :=
  let v4821 : Index := Scalar.indexCast v4819
  let c0_2951 : Index := 0#32
  ![v4821.toNat, 0]

def k0_chk576 (v4819 : BitVec 32) : Prop :=
  (∀ a, (k0_off1226 v4819) a + S1x1024.size a ≤ S1032x1024.size a)
theorem k0_off1226_inb : ∀ (v4819 : BitVec 32) (k0_hw576 : k0_chk576 v4819), ∀ a, (k0_off1226 v4819) a + S1x1024.size a ≤ S1032x1024.size a := fun v4819 k0_hw576 => k0_hw576

def k0_off1227 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  ![v4827.toNat]
def k0_off1228 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let c0_i32_2957 : BitVec 32 := 0#32
  let c0_i32_2958 : BitVec 32 := 0#32
  ![v4827.toNat, 0, 0]
def k0_off1229 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4834 : Index := Scalar.indexCast v4827
  let c0_2961 : Index := 0#32
  let c0_2962 : Index := 0#32
  ![v4834.toNat, 0, 0]
def k0_off1230 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4841 : Index := Scalar.indexCast v4827
  let c0_2965 : Index := 0#32
  ![v4841.toNat, 0]
def k0_off1231 (v4842 : BitVec 32) : Fin 2 → Nat :=
  let v4844 : Index := Scalar.indexCast v4842
  let c0_2968 : Index := 0#32
  ![v4844.toNat, 0]

def k0_chk577 (v4842 : BitVec 32) : Prop :=
  (∀ a, (k0_off1231 v4842) a + S1x1024.size a ≤ S1032x1024.size a)
theorem k0_off1231_inb : ∀ (v4842 : BitVec 32) (k0_hw577 : k0_chk577 v4842), ∀ a, (k0_off1231 v4842) a + S1x1024.size a ≤ S1032x1024.size a := fun v4842 k0_hw577 => k0_hw577

def k0_off1232 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4848 : Index := Scalar.indexCast v4827
  let c1_2969 : Index := 1#32
  ![v4848.toNat, 1]
def k0_off1233 (v4849 : BitVec 32) : Fin 2 → Nat :=
  let v4851 : Index := Scalar.indexCast v4849
  let c0_2972 : Index := 0#32
  ![v4851.toNat, 0]

def k0_chk578 (v4849 : BitVec 32) : Prop :=
  (∀ a, (k0_off1233 v4849) a + S1x1024.size a ≤ S1032x1024.size a)
theorem k0_off1233_inb : ∀ (v4849 : BitVec 32) (k0_hw578 : k0_chk578 v4849), ∀ a, (k0_off1233 v4849) a + S1x1024.size a ≤ S1032x1024.size a := fun v4849 k0_hw578 => k0_hw578

def k0_off1234 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4855 : Index := Scalar.indexCast v4827
  let c2_2973 : Index := 2#32
  ![v4855.toNat, 2]
def k0_off1235 (v4856 : BitVec 32) : Fin 2 → Nat :=
  let v4858 : Index := Scalar.indexCast v4856
  let c0_2976 : Index := 0#32
  ![v4858.toNat, 0]

def k0_chk579 (v4856 : BitVec 32) : Prop :=
  (∀ a, (k0_off1235 v4856) a + S1x1024.size a ≤ S1032x1024.size a)
theorem k0_off1235_inb : ∀ (v4856 : BitVec 32) (k0_hw579 : k0_chk579 v4856), ∀ a, (k0_off1235 v4856) a + S1x1024.size a ≤ S1032x1024.size a := fun v4856 k0_hw579 => k0_hw579

def k0_off1236 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4862 : Index := Scalar.indexCast v4827
  let c3_2977 : Index := 3#32
  ![v4862.toNat, 3]
def k0_off1237 (v4863 : BitVec 32) : Fin 2 → Nat :=
  let v4865 : Index := Scalar.indexCast v4863
  let c0_2980 : Index := 0#32
  ![v4865.toNat, 0]

def k0_chk580 (v4863 : BitVec 32) : Prop :=
  (∀ a, (k0_off1237 v4863) a + S1x1024.size a ≤ S1032x1024.size a)
theorem k0_off1237_inb : ∀ (v4863 : BitVec 32) (k0_hw580 : k0_chk580 v4863), ∀ a, (k0_off1237 v4863) a + S1x1024.size a ≤ S1032x1024.size a := fun v4863 k0_hw580 => k0_hw580

def k0_off1238 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4869 : Index := Scalar.indexCast v4827
  let c4_2981 : Index := 4#32
  ![v4869.toNat, 4]
def k0_off1239 (v4870 : BitVec 32) : Fin 2 → Nat :=
  let v4872 : Index := Scalar.indexCast v4870
  let c0_2984 : Index := 0#32
  ![v4872.toNat, 0]

def k0_chk581 (v4870 : BitVec 32) : Prop :=
  (∀ a, (k0_off1239 v4870) a + S1x1024.size a ≤ S1032x1024.size a)
theorem k0_off1239_inb : ∀ (v4870 : BitVec 32) (k0_hw581 : k0_chk581 v4870), ∀ a, (k0_off1239 v4870) a + S1x1024.size a ≤ S1032x1024.size a := fun v4870 k0_hw581 => k0_hw581

def k0_off1240 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4876 : Index := Scalar.indexCast v4827
  let c5_2985 : Index := 5#32
  ![v4876.toNat, 5]
def k0_off1241 (v4877 : BitVec 32) : Fin 2 → Nat :=
  let v4879 : Index := Scalar.indexCast v4877
  let c0_2988 : Index := 0#32
  ![v4879.toNat, 0]

def k0_chk582 (v4877 : BitVec 32) : Prop :=
  (∀ a, (k0_off1241 v4877) a + S1x1024.size a ≤ S1032x1024.size a)
theorem k0_off1241_inb : ∀ (v4877 : BitVec 32) (k0_hw582 : k0_chk582 v4877), ∀ a, (k0_off1241 v4877) a + S1x1024.size a ≤ S1032x1024.size a := fun v4877 k0_hw582 => k0_hw582

def k0_off1242 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4883 : Index := Scalar.indexCast v4827
  let c6_2989 : Index := 6#32
  ![v4883.toNat, 6]
def k0_off1243 (v4884 : BitVec 32) : Fin 2 → Nat :=
  let v4886 : Index := Scalar.indexCast v4884
  let c0_2992 : Index := 0#32
  ![v4886.toNat, 0]

def k0_chk583 (v4884 : BitVec 32) : Prop :=
  (∀ a, (k0_off1243 v4884) a + S1x1024.size a ≤ S1032x1024.size a)
theorem k0_off1243_inb : ∀ (v4884 : BitVec 32) (k0_hw583 : k0_chk583 v4884), ∀ a, (k0_off1243 v4884) a + S1x1024.size a ≤ S1032x1024.size a := fun v4884 k0_hw583 => k0_hw583

def k0_off1244 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4890 : Index := Scalar.indexCast v4827
  let c7_2993 : Index := 7#32
  ![v4890.toNat, 7]
def k0_off1245 (v4891 : BitVec 32) : Fin 2 → Nat :=
  let v4893 : Index := Scalar.indexCast v4891
  let c0_2996 : Index := 0#32
  ![v4893.toNat, 0]

def k0_chk584 (v4891 : BitVec 32) : Prop :=
  (∀ a, (k0_off1245 v4891) a + S1x1024.size a ≤ S1032x1024.size a)
theorem k0_off1245_inb : ∀ (v4891 : BitVec 32) (k0_hw584 : k0_chk584 v4891), ∀ a, (k0_off1245 v4891) a + S1x1024.size a ≤ S1032x1024.size a := fun v4891 k0_hw584 => k0_hw584

def k0_off1246 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4897 : Index := Scalar.indexCast v4827
  let c8_2997 : Index := 8#32
  ![v4897.toNat, 8]
def k0_off1247 (v4898 : BitVec 32) : Fin 2 → Nat :=
  let v4900 : Index := Scalar.indexCast v4898
  let c0_3000 : Index := 0#32
  ![v4900.toNat, 0]

def k0_chk585 (v4898 : BitVec 32) : Prop :=
  (∀ a, (k0_off1247 v4898) a + S1x1024.size a ≤ S1032x1024.size a)
theorem k0_off1247_inb : ∀ (v4898 : BitVec 32) (k0_hw585 : k0_chk585 v4898), ∀ a, (k0_off1247 v4898) a + S1x1024.size a ≤ S1032x1024.size a := fun v4898 k0_hw585 => k0_hw585

def k0_off1248 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4904 : Index := Scalar.indexCast v4827
  let c9_3001 : Index := 9#32
  ![v4904.toNat, 9]
def k0_off1249 (v4905 : BitVec 32) : Fin 2 → Nat :=
  let v4907 : Index := Scalar.indexCast v4905
  let c0_3004 : Index := 0#32
  ![v4907.toNat, 0]

def k0_chk586 (v4905 : BitVec 32) : Prop :=
  (∀ a, (k0_off1249 v4905) a + S1x1024.size a ≤ S1032x1024.size a)
theorem k0_off1249_inb : ∀ (v4905 : BitVec 32) (k0_hw586 : k0_chk586 v4905), ∀ a, (k0_off1249 v4905) a + S1x1024.size a ≤ S1032x1024.size a := fun v4905 k0_hw586 => k0_hw586

def k0_off1250 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4911 : Index := Scalar.indexCast v4827
  let c10_3005 : Index := 10#32
  ![v4911.toNat, 10]
def k0_off1251 (v4912 : BitVec 32) : Fin 2 → Nat :=
  let v4914 : Index := Scalar.indexCast v4912
  let c0_3008 : Index := 0#32
  ![v4914.toNat, 0]

def k0_chk587 (v4912 : BitVec 32) : Prop :=
  (∀ a, (k0_off1251 v4912) a + S1x1024.size a ≤ S1032x1024.size a)
theorem k0_off1251_inb : ∀ (v4912 : BitVec 32) (k0_hw587 : k0_chk587 v4912), ∀ a, (k0_off1251 v4912) a + S1x1024.size a ≤ S1032x1024.size a := fun v4912 k0_hw587 => k0_hw587

def k0_off1252 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4918 : Index := Scalar.indexCast v4827
  let c11_3009 : Index := 11#32
  ![v4918.toNat, 11]
def k0_off1253 (v4919 : BitVec 32) : Fin 2 → Nat :=
  let v4921 : Index := Scalar.indexCast v4919
  let c0_3012 : Index := 0#32
  ![v4921.toNat, 0]

def k0_chk588 (v4919 : BitVec 32) : Prop :=
  (∀ a, (k0_off1253 v4919) a + S1x1024.size a ≤ S1032x1024.size a)
theorem k0_off1253_inb : ∀ (v4919 : BitVec 32) (k0_hw588 : k0_chk588 v4919), ∀ a, (k0_off1253 v4919) a + S1x1024.size a ≤ S1032x1024.size a := fun v4919 k0_hw588 => k0_hw588

def k0_off1254 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4925 : Index := Scalar.indexCast v4827
  let c12_3013 : Index := 12#32
  ![v4925.toNat, 12]
def k0_off1255 (v4926 : BitVec 32) : Fin 2 → Nat :=
  let v4928 : Index := Scalar.indexCast v4926
  let c0_3016 : Index := 0#32
  ![v4928.toNat, 0]

def k0_chk589 (v4926 : BitVec 32) : Prop :=
  (∀ a, (k0_off1255 v4926) a + S1x1024.size a ≤ S1032x1024.size a)
theorem k0_off1255_inb : ∀ (v4926 : BitVec 32) (k0_hw589 : k0_chk589 v4926), ∀ a, (k0_off1255 v4926) a + S1x1024.size a ≤ S1032x1024.size a := fun v4926 k0_hw589 => k0_hw589

def k0_off1256 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4932 : Index := Scalar.indexCast v4827
  let c13_3017 : Index := 13#32
  ![v4932.toNat, 13]
def k0_off1257 (v4933 : BitVec 32) : Fin 2 → Nat :=
  let v4935 : Index := Scalar.indexCast v4933
  let c0_3020 : Index := 0#32
  ![v4935.toNat, 0]

def k0_chk590 (v4933 : BitVec 32) : Prop :=
  (∀ a, (k0_off1257 v4933) a + S1x1024.size a ≤ S1032x1024.size a)
theorem k0_off1257_inb : ∀ (v4933 : BitVec 32) (k0_hw590 : k0_chk590 v4933), ∀ a, (k0_off1257 v4933) a + S1x1024.size a ≤ S1032x1024.size a := fun v4933 k0_hw590 => k0_hw590

def k0_off1258 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4939 : Index := Scalar.indexCast v4827
  let c14_3021 : Index := 14#32
  ![v4939.toNat, 14]
def k0_off1259 (v4940 : BitVec 32) : Fin 2 → Nat :=
  let v4942 : Index := Scalar.indexCast v4940
  let c0_3024 : Index := 0#32
  ![v4942.toNat, 0]

def k0_chk591 (v4940 : BitVec 32) : Prop :=
  (∀ a, (k0_off1259 v4940) a + S1x1024.size a ≤ S1032x1024.size a)
theorem k0_off1259_inb : ∀ (v4940 : BitVec 32) (k0_hw591 : k0_chk591 v4940), ∀ a, (k0_off1259 v4940) a + S1x1024.size a ≤ S1032x1024.size a := fun v4940 k0_hw591 => k0_hw591

def k0_off1260 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4946 : Index := Scalar.indexCast v4827
  let c15_3025 : Index := 15#32
  ![v4946.toNat, 15]
def k0_off1261 (v4947 : BitVec 32) : Fin 2 → Nat :=
  let v4949 : Index := Scalar.indexCast v4947
  let c0_3028 : Index := 0#32
  ![v4949.toNat, 0]

def k0_chk592 (v4947 : BitVec 32) : Prop :=
  (∀ a, (k0_off1261 v4947) a + S1x1024.size a ≤ S1032x1024.size a)
theorem k0_off1261_inb : ∀ (v4947 : BitVec 32) (k0_hw592 : k0_chk592 v4947), ∀ a, (k0_off1261 v4947) a + S1x1024.size a ≤ S1032x1024.size a := fun v4947 k0_hw592 => k0_hw592

def k0_off1262 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4953 : Index := Scalar.indexCast v4827
  let c16_3029 : Index := 16#32
  ![v4953.toNat, 16]
def k0_off1263 (v4954 : BitVec 32) : Fin 2 → Nat :=
  let v4956 : Index := Scalar.indexCast v4954
  let c0_3032 : Index := 0#32
  ![v4956.toNat, 0]

def k0_chk593 (v4954 : BitVec 32) : Prop :=
  (∀ a, (k0_off1263 v4954) a + S1x1024.size a ≤ S1032x1024.size a)
theorem k0_off1263_inb : ∀ (v4954 : BitVec 32) (k0_hw593 : k0_chk593 v4954), ∀ a, (k0_off1263 v4954) a + S1x1024.size a ≤ S1032x1024.size a := fun v4954 k0_hw593 => k0_hw593

def k0_off1264 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4960 : Index := Scalar.indexCast v4827
  let c17_3033 : Index := 17#32
  ![v4960.toNat, 17]
def k0_off1265 (v4961 : BitVec 32) : Fin 2 → Nat :=
  let v4963 : Index := Scalar.indexCast v4961
  let c0_3036 : Index := 0#32
  ![v4963.toNat, 0]

def k0_chk594 (v4961 : BitVec 32) : Prop :=
  (∀ a, (k0_off1265 v4961) a + S1x1024.size a ≤ S1032x1024.size a)
theorem k0_off1265_inb : ∀ (v4961 : BitVec 32) (k0_hw594 : k0_chk594 v4961), ∀ a, (k0_off1265 v4961) a + S1x1024.size a ≤ S1032x1024.size a := fun v4961 k0_hw594 => k0_hw594

def k0_off1266 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4967 : Index := Scalar.indexCast v4827
  let c18_3037 : Index := 18#32
  ![v4967.toNat, 18]
def k0_off1267 (v4968 : BitVec 32) : Fin 2 → Nat :=
  let v4970 : Index := Scalar.indexCast v4968
  let c0_3040 : Index := 0#32
  ![v4970.toNat, 0]

def k0_chk595 (v4968 : BitVec 32) : Prop :=
  (∀ a, (k0_off1267 v4968) a + S1x1024.size a ≤ S1032x1024.size a)
theorem k0_off1267_inb : ∀ (v4968 : BitVec 32) (k0_hw595 : k0_chk595 v4968), ∀ a, (k0_off1267 v4968) a + S1x1024.size a ≤ S1032x1024.size a := fun v4968 k0_hw595 => k0_hw595

def k0_off1268 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4974 : Index := Scalar.indexCast v4827
  let c19_3041 : Index := 19#32
  ![v4974.toNat, 19]
def k0_off1269 (v4975 : BitVec 32) : Fin 2 → Nat :=
  let v4977 : Index := Scalar.indexCast v4975
  let c0_3044 : Index := 0#32
  ![v4977.toNat, 0]

def k0_chk596 (v4975 : BitVec 32) : Prop :=
  (∀ a, (k0_off1269 v4975) a + S1x1024.size a ≤ S1032x1024.size a)
theorem k0_off1269_inb : ∀ (v4975 : BitVec 32) (k0_hw596 : k0_chk596 v4975), ∀ a, (k0_off1269 v4975) a + S1x1024.size a ≤ S1032x1024.size a := fun v4975 k0_hw596 => k0_hw596

def k0_off1270 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4981 : Index := Scalar.indexCast v4827
  let c20_3045 : Index := 20#32
  ![v4981.toNat, 20]
def k0_off1271 (v4982 : BitVec 32) : Fin 2 → Nat :=
  let v4984 : Index := Scalar.indexCast v4982
  let c0_3048 : Index := 0#32
  ![v4984.toNat, 0]

def k0_chk597 (v4982 : BitVec 32) : Prop :=
  (∀ a, (k0_off1271 v4982) a + S1x1024.size a ≤ S1032x1024.size a)
theorem k0_off1271_inb : ∀ (v4982 : BitVec 32) (k0_hw597 : k0_chk597 v4982), ∀ a, (k0_off1271 v4982) a + S1x1024.size a ≤ S1032x1024.size a := fun v4982 k0_hw597 => k0_hw597

def k0_off1272 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4988 : Index := Scalar.indexCast v4827
  let c21_3049 : Index := 21#32
  ![v4988.toNat, 21]
def k0_off1273 (v4989 : BitVec 32) : Fin 2 → Nat :=
  let v4991 : Index := Scalar.indexCast v4989
  let c0_3052 : Index := 0#32
  ![v4991.toNat, 0]

def k0_chk598 (v4989 : BitVec 32) : Prop :=
  (∀ a, (k0_off1273 v4989) a + S1x1024.size a ≤ S1032x1024.size a)
theorem k0_off1273_inb : ∀ (v4989 : BitVec 32) (k0_hw598 : k0_chk598 v4989), ∀ a, (k0_off1273 v4989) a + S1x1024.size a ≤ S1032x1024.size a := fun v4989 k0_hw598 => k0_hw598

def k0_off1274 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v4995 : Index := Scalar.indexCast v4827
  let c22_3053 : Index := 22#32
  ![v4995.toNat, 22]
def k0_off1275 (v4996 : BitVec 32) : Fin 2 → Nat :=
  let v4998 : Index := Scalar.indexCast v4996
  let c0_3056 : Index := 0#32
  ![v4998.toNat, 0]

def k0_chk599 (v4996 : BitVec 32) : Prop :=
  (∀ a, (k0_off1275 v4996) a + S1x1024.size a ≤ S1032x1024.size a)
theorem k0_off1275_inb : ∀ (v4996 : BitVec 32) (k0_hw599 : k0_chk599 v4996), ∀ a, (k0_off1275 v4996) a + S1x1024.size a ≤ S1032x1024.size a := fun v4996 k0_hw599 => k0_hw599

def k0_off1276 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2952 : BitVec 32 := 23#32
  let v4825 : BitVec 32 := Scalar.subi v2 c23_i32_2952
  let c32_i32_2953 : BitVec 32 := 32#32
  let v4826 : BitVec 32 := Scalar.addi v4825 c32_i32_2953
  let c32_i32_2954 : BitVec 32 := 32#32
  let v4827 : BitVec 32 := Scalar.remsi v4826 c32_i32_2954
  let v5002 : Index := Scalar.indexCast v4827
  let c23_3057 : Index := 23#32
  ![v5002.toNat, 23]
def k0_off1277 (v5003 : BitVec 32) : Fin 2 → Nat :=
  let v5005 : Index := Scalar.indexCast v5003
  let c0_3060 : Index := 0#32
  ![v5005.toNat, 0]

def k0_chk600 (v5003 : BitVec 32) : Prop :=
  (∀ a, (k0_off1277 v5003) a + S1x1024.size a ≤ S1032x1024.size a)
theorem k0_off1277_inb : ∀ (v5003 : BitVec 32) (k0_hw600 : k0_chk600 v5003), ∀ a, (k0_off1277 v5003) a + S1x1024.size a ≤ S1032x1024.size a := fun v5003 k0_hw600 => k0_hw600

def k0_off1278 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  ![v5011.toNat]
def k0_off1279 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let c0_i32_3066 : BitVec 32 := 0#32
  let c0_i32_3067 : BitVec 32 := 0#32
  ![v5011.toNat, 0, 0]
def k0_off1280 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5018 : Index := Scalar.indexCast v5011
  let c0_3070 : Index := 0#32
  let c0_3071 : Index := 0#32
  ![v5018.toNat, 0, 0]
def k0_off1281 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5025 : Index := Scalar.indexCast v5011
  let c0_3074 : Index := 0#32
  ![v5025.toNat, 0]
def k0_off1282 (v5026 : BitVec 32) : Fin 2 → Nat :=
  let v5028 : Index := Scalar.indexCast v5026
  let c0_3077 : Index := 0#32
  ![v5028.toNat, 0]

def k0_chk601 (v5026 : BitVec 32) : Prop :=
  (∀ a, (k0_off1282 v5026) a + S1x1024.size a ≤ S1032x1024.size a)
theorem k0_off1282_inb : ∀ (v5026 : BitVec 32) (k0_hw601 : k0_chk601 v5026), ∀ a, (k0_off1282 v5026) a + S1x1024.size a ≤ S1032x1024.size a := fun v5026 k0_hw601 => k0_hw601

def k0_off1283 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5032 : Index := Scalar.indexCast v5011
  let c1_3078 : Index := 1#32
  ![v5032.toNat, 1]
def k0_off1284 (v5033 : BitVec 32) : Fin 2 → Nat :=
  let v5035 : Index := Scalar.indexCast v5033
  let c0_3081 : Index := 0#32
  ![v5035.toNat, 0]

def k0_chk602 (v5033 : BitVec 32) : Prop :=
  (∀ a, (k0_off1284 v5033) a + S1x1024.size a ≤ S1032x1024.size a)
theorem k0_off1284_inb : ∀ (v5033 : BitVec 32) (k0_hw602 : k0_chk602 v5033), ∀ a, (k0_off1284 v5033) a + S1x1024.size a ≤ S1032x1024.size a := fun v5033 k0_hw602 => k0_hw602

def k0_off1285 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5039 : Index := Scalar.indexCast v5011
  let c2_3082 : Index := 2#32
  ![v5039.toNat, 2]
def k0_off1286 (v5040 : BitVec 32) : Fin 2 → Nat :=
  let v5042 : Index := Scalar.indexCast v5040
  let c0_3085 : Index := 0#32
  ![v5042.toNat, 0]

def k0_chk603 (v5040 : BitVec 32) : Prop :=
  (∀ a, (k0_off1286 v5040) a + S1x1024.size a ≤ S1032x1024.size a)
theorem k0_off1286_inb : ∀ (v5040 : BitVec 32) (k0_hw603 : k0_chk603 v5040), ∀ a, (k0_off1286 v5040) a + S1x1024.size a ≤ S1032x1024.size a := fun v5040 k0_hw603 => k0_hw603

def k0_off1287 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5046 : Index := Scalar.indexCast v5011
  let c3_3086 : Index := 3#32
  ![v5046.toNat, 3]
def k0_off1288 (v5047 : BitVec 32) : Fin 2 → Nat :=
  let v5049 : Index := Scalar.indexCast v5047
  let c0_3089 : Index := 0#32
  ![v5049.toNat, 0]

def k0_chk604 (v5047 : BitVec 32) : Prop :=
  (∀ a, (k0_off1288 v5047) a + S1x1024.size a ≤ S1032x1024.size a)
theorem k0_off1288_inb : ∀ (v5047 : BitVec 32) (k0_hw604 : k0_chk604 v5047), ∀ a, (k0_off1288 v5047) a + S1x1024.size a ≤ S1032x1024.size a := fun v5047 k0_hw604 => k0_hw604

def k0_off1289 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5053 : Index := Scalar.indexCast v5011
  let c4_3090 : Index := 4#32
  ![v5053.toNat, 4]
def k0_off1290 (v5054 : BitVec 32) : Fin 2 → Nat :=
  let v5056 : Index := Scalar.indexCast v5054
  let c0_3093 : Index := 0#32
  ![v5056.toNat, 0]

def k0_chk605 (v5054 : BitVec 32) : Prop :=
  (∀ a, (k0_off1290 v5054) a + S1x1024.size a ≤ S1032x1024.size a)
theorem k0_off1290_inb : ∀ (v5054 : BitVec 32) (k0_hw605 : k0_chk605 v5054), ∀ a, (k0_off1290 v5054) a + S1x1024.size a ≤ S1032x1024.size a := fun v5054 k0_hw605 => k0_hw605

def k0_off1291 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5060 : Index := Scalar.indexCast v5011
  let c5_3094 : Index := 5#32
  ![v5060.toNat, 5]
def k0_off1292 (v5061 : BitVec 32) : Fin 2 → Nat :=
  let v5063 : Index := Scalar.indexCast v5061
  let c0_3097 : Index := 0#32
  ![v5063.toNat, 0]

def k0_chk606 (v5061 : BitVec 32) : Prop :=
  (∀ a, (k0_off1292 v5061) a + S1x1024.size a ≤ S1032x1024.size a)
theorem k0_off1292_inb : ∀ (v5061 : BitVec 32) (k0_hw606 : k0_chk606 v5061), ∀ a, (k0_off1292 v5061) a + S1x1024.size a ≤ S1032x1024.size a := fun v5061 k0_hw606 => k0_hw606

def k0_off1293 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5067 : Index := Scalar.indexCast v5011
  let c6_3098 : Index := 6#32
  ![v5067.toNat, 6]
def k0_off1294 (v5068 : BitVec 32) : Fin 2 → Nat :=
  let v5070 : Index := Scalar.indexCast v5068
  let c0_3101 : Index := 0#32
  ![v5070.toNat, 0]

def k0_chk607 (v5068 : BitVec 32) : Prop :=
  (∀ a, (k0_off1294 v5068) a + S1x1024.size a ≤ S1032x1024.size a)
theorem k0_off1294_inb : ∀ (v5068 : BitVec 32) (k0_hw607 : k0_chk607 v5068), ∀ a, (k0_off1294 v5068) a + S1x1024.size a ≤ S1032x1024.size a := fun v5068 k0_hw607 => k0_hw607

def k0_off1295 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5074 : Index := Scalar.indexCast v5011
  let c7_3102 : Index := 7#32
  ![v5074.toNat, 7]
def k0_off1296 (v5075 : BitVec 32) : Fin 2 → Nat :=
  let v5077 : Index := Scalar.indexCast v5075
  let c0_3105 : Index := 0#32
  ![v5077.toNat, 0]

def k0_chk608 (v5075 : BitVec 32) : Prop :=
  (∀ a, (k0_off1296 v5075) a + S1x1024.size a ≤ S1032x1024.size a)
theorem k0_off1296_inb : ∀ (v5075 : BitVec 32) (k0_hw608 : k0_chk608 v5075), ∀ a, (k0_off1296 v5075) a + S1x1024.size a ≤ S1032x1024.size a := fun v5075 k0_hw608 => k0_hw608

def k0_off1297 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5081 : Index := Scalar.indexCast v5011
  let c8_3106 : Index := 8#32
  ![v5081.toNat, 8]
def k0_off1298 (v5082 : BitVec 32) : Fin 2 → Nat :=
  let v5084 : Index := Scalar.indexCast v5082
  let c0_3109 : Index := 0#32
  ![v5084.toNat, 0]

def k0_chk609 (v5082 : BitVec 32) : Prop :=
  (∀ a, (k0_off1298 v5082) a + S1x1024.size a ≤ S1032x1024.size a)
theorem k0_off1298_inb : ∀ (v5082 : BitVec 32) (k0_hw609 : k0_chk609 v5082), ∀ a, (k0_off1298 v5082) a + S1x1024.size a ≤ S1032x1024.size a := fun v5082 k0_hw609 => k0_hw609

def k0_off1299 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5088 : Index := Scalar.indexCast v5011
  let c9_3110 : Index := 9#32
  ![v5088.toNat, 9]
def k0_off1300 (v5089 : BitVec 32) : Fin 2 → Nat :=
  let v5091 : Index := Scalar.indexCast v5089
  let c0_3113 : Index := 0#32
  ![v5091.toNat, 0]

def k0_chk610 (v5089 : BitVec 32) : Prop :=
  (∀ a, (k0_off1300 v5089) a + S1x1024.size a ≤ S1032x1024.size a)
theorem k0_off1300_inb : ∀ (v5089 : BitVec 32) (k0_hw610 : k0_chk610 v5089), ∀ a, (k0_off1300 v5089) a + S1x1024.size a ≤ S1032x1024.size a := fun v5089 k0_hw610 => k0_hw610

def k0_off1301 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5095 : Index := Scalar.indexCast v5011
  let c10_3114 : Index := 10#32
  ![v5095.toNat, 10]
def k0_off1302 (v5096 : BitVec 32) : Fin 2 → Nat :=
  let v5098 : Index := Scalar.indexCast v5096
  let c0_3117 : Index := 0#32
  ![v5098.toNat, 0]

def k0_chk611 (v5096 : BitVec 32) : Prop :=
  (∀ a, (k0_off1302 v5096) a + S1x1024.size a ≤ S1032x1024.size a)
theorem k0_off1302_inb : ∀ (v5096 : BitVec 32) (k0_hw611 : k0_chk611 v5096), ∀ a, (k0_off1302 v5096) a + S1x1024.size a ≤ S1032x1024.size a := fun v5096 k0_hw611 => k0_hw611

def k0_off1303 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5102 : Index := Scalar.indexCast v5011
  let c11_3118 : Index := 11#32
  ![v5102.toNat, 11]
def k0_off1304 (v5103 : BitVec 32) : Fin 2 → Nat :=
  let v5105 : Index := Scalar.indexCast v5103
  let c0_3121 : Index := 0#32
  ![v5105.toNat, 0]

def k0_chk612 (v5103 : BitVec 32) : Prop :=
  (∀ a, (k0_off1304 v5103) a + S1x1024.size a ≤ S1032x1024.size a)
theorem k0_off1304_inb : ∀ (v5103 : BitVec 32) (k0_hw612 : k0_chk612 v5103), ∀ a, (k0_off1304 v5103) a + S1x1024.size a ≤ S1032x1024.size a := fun v5103 k0_hw612 => k0_hw612

def k0_off1305 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5109 : Index := Scalar.indexCast v5011
  let c12_3122 : Index := 12#32
  ![v5109.toNat, 12]
def k0_off1306 (v5110 : BitVec 32) : Fin 2 → Nat :=
  let v5112 : Index := Scalar.indexCast v5110
  let c0_3125 : Index := 0#32
  ![v5112.toNat, 0]

def k0_chk613 (v5110 : BitVec 32) : Prop :=
  (∀ a, (k0_off1306 v5110) a + S1x1024.size a ≤ S1032x1024.size a)
theorem k0_off1306_inb : ∀ (v5110 : BitVec 32) (k0_hw613 : k0_chk613 v5110), ∀ a, (k0_off1306 v5110) a + S1x1024.size a ≤ S1032x1024.size a := fun v5110 k0_hw613 => k0_hw613

def k0_off1307 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5116 : Index := Scalar.indexCast v5011
  let c13_3126 : Index := 13#32
  ![v5116.toNat, 13]
def k0_off1308 (v5117 : BitVec 32) : Fin 2 → Nat :=
  let v5119 : Index := Scalar.indexCast v5117
  let c0_3129 : Index := 0#32
  ![v5119.toNat, 0]

def k0_chk614 (v5117 : BitVec 32) : Prop :=
  (∀ a, (k0_off1308 v5117) a + S1x1024.size a ≤ S1032x1024.size a)
theorem k0_off1308_inb : ∀ (v5117 : BitVec 32) (k0_hw614 : k0_chk614 v5117), ∀ a, (k0_off1308 v5117) a + S1x1024.size a ≤ S1032x1024.size a := fun v5117 k0_hw614 => k0_hw614

def k0_off1309 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5123 : Index := Scalar.indexCast v5011
  let c14_3130 : Index := 14#32
  ![v5123.toNat, 14]
def k0_off1310 (v5124 : BitVec 32) : Fin 2 → Nat :=
  let v5126 : Index := Scalar.indexCast v5124
  let c0_3133 : Index := 0#32
  ![v5126.toNat, 0]

def k0_chk615 (v5124 : BitVec 32) : Prop :=
  (∀ a, (k0_off1310 v5124) a + S1x1024.size a ≤ S1032x1024.size a)
theorem k0_off1310_inb : ∀ (v5124 : BitVec 32) (k0_hw615 : k0_chk615 v5124), ∀ a, (k0_off1310 v5124) a + S1x1024.size a ≤ S1032x1024.size a := fun v5124 k0_hw615 => k0_hw615

def k0_off1311 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5130 : Index := Scalar.indexCast v5011
  let c15_3134 : Index := 15#32
  ![v5130.toNat, 15]
def k0_off1312 (v5131 : BitVec 32) : Fin 2 → Nat :=
  let v5133 : Index := Scalar.indexCast v5131
  let c0_3137 : Index := 0#32
  ![v5133.toNat, 0]

def k0_chk616 (v5131 : BitVec 32) : Prop :=
  (∀ a, (k0_off1312 v5131) a + S1x1024.size a ≤ S1032x1024.size a)
theorem k0_off1312_inb : ∀ (v5131 : BitVec 32) (k0_hw616 : k0_chk616 v5131), ∀ a, (k0_off1312 v5131) a + S1x1024.size a ≤ S1032x1024.size a := fun v5131 k0_hw616 => k0_hw616

def k0_off1313 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5137 : Index := Scalar.indexCast v5011
  let c16_3138 : Index := 16#32
  ![v5137.toNat, 16]
def k0_off1314 (v5138 : BitVec 32) : Fin 2 → Nat :=
  let v5140 : Index := Scalar.indexCast v5138
  let c0_3141 : Index := 0#32
  ![v5140.toNat, 0]

def k0_chk617 (v5138 : BitVec 32) : Prop :=
  (∀ a, (k0_off1314 v5138) a + S1x1024.size a ≤ S1032x1024.size a)
theorem k0_off1314_inb : ∀ (v5138 : BitVec 32) (k0_hw617 : k0_chk617 v5138), ∀ a, (k0_off1314 v5138) a + S1x1024.size a ≤ S1032x1024.size a := fun v5138 k0_hw617 => k0_hw617

def k0_off1315 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5144 : Index := Scalar.indexCast v5011
  let c17_3142 : Index := 17#32
  ![v5144.toNat, 17]
def k0_off1316 (v5145 : BitVec 32) : Fin 2 → Nat :=
  let v5147 : Index := Scalar.indexCast v5145
  let c0_3145 : Index := 0#32
  ![v5147.toNat, 0]

def k0_chk618 (v5145 : BitVec 32) : Prop :=
  (∀ a, (k0_off1316 v5145) a + S1x1024.size a ≤ S1032x1024.size a)
theorem k0_off1316_inb : ∀ (v5145 : BitVec 32) (k0_hw618 : k0_chk618 v5145), ∀ a, (k0_off1316 v5145) a + S1x1024.size a ≤ S1032x1024.size a := fun v5145 k0_hw618 => k0_hw618

def k0_off1317 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5151 : Index := Scalar.indexCast v5011
  let c18_3146 : Index := 18#32
  ![v5151.toNat, 18]
def k0_off1318 (v5152 : BitVec 32) : Fin 2 → Nat :=
  let v5154 : Index := Scalar.indexCast v5152
  let c0_3149 : Index := 0#32
  ![v5154.toNat, 0]

def k0_chk619 (v5152 : BitVec 32) : Prop :=
  (∀ a, (k0_off1318 v5152) a + S1x1024.size a ≤ S1032x1024.size a)
theorem k0_off1318_inb : ∀ (v5152 : BitVec 32) (k0_hw619 : k0_chk619 v5152), ∀ a, (k0_off1318 v5152) a + S1x1024.size a ≤ S1032x1024.size a := fun v5152 k0_hw619 => k0_hw619

def k0_off1319 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5158 : Index := Scalar.indexCast v5011
  let c19_3150 : Index := 19#32
  ![v5158.toNat, 19]
def k0_off1320 (v5159 : BitVec 32) : Fin 2 → Nat :=
  let v5161 : Index := Scalar.indexCast v5159
  let c0_3153 : Index := 0#32
  ![v5161.toNat, 0]

def k0_chk620 (v5159 : BitVec 32) : Prop :=
  (∀ a, (k0_off1320 v5159) a + S1x1024.size a ≤ S1032x1024.size a)
theorem k0_off1320_inb : ∀ (v5159 : BitVec 32) (k0_hw620 : k0_chk620 v5159), ∀ a, (k0_off1320 v5159) a + S1x1024.size a ≤ S1032x1024.size a := fun v5159 k0_hw620 => k0_hw620

def k0_off1321 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5165 : Index := Scalar.indexCast v5011
  let c20_3154 : Index := 20#32
  ![v5165.toNat, 20]
def k0_off1322 (v5166 : BitVec 32) : Fin 2 → Nat :=
  let v5168 : Index := Scalar.indexCast v5166
  let c0_3157 : Index := 0#32
  ![v5168.toNat, 0]

def k0_chk621 (v5166 : BitVec 32) : Prop :=
  (∀ a, (k0_off1322 v5166) a + S1x1024.size a ≤ S1032x1024.size a)
theorem k0_off1322_inb : ∀ (v5166 : BitVec 32) (k0_hw621 : k0_chk621 v5166), ∀ a, (k0_off1322 v5166) a + S1x1024.size a ≤ S1032x1024.size a := fun v5166 k0_hw621 => k0_hw621

def k0_off1323 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5172 : Index := Scalar.indexCast v5011
  let c21_3158 : Index := 21#32
  ![v5172.toNat, 21]
def k0_off1324 (v5173 : BitVec 32) : Fin 2 → Nat :=
  let v5175 : Index := Scalar.indexCast v5173
  let c0_3161 : Index := 0#32
  ![v5175.toNat, 0]

def k0_chk622 (v5173 : BitVec 32) : Prop :=
  (∀ a, (k0_off1324 v5173) a + S1x1024.size a ≤ S1032x1024.size a)
theorem k0_off1324_inb : ∀ (v5173 : BitVec 32) (k0_hw622 : k0_chk622 v5173), ∀ a, (k0_off1324 v5173) a + S1x1024.size a ≤ S1032x1024.size a := fun v5173 k0_hw622 => k0_hw622

def k0_off1325 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5179 : Index := Scalar.indexCast v5011
  let c22_3162 : Index := 22#32
  ![v5179.toNat, 22]
def k0_off1326 (v5180 : BitVec 32) : Fin 2 → Nat :=
  let v5182 : Index := Scalar.indexCast v5180
  let c0_3165 : Index := 0#32
  ![v5182.toNat, 0]

def k0_chk623 (v5180 : BitVec 32) : Prop :=
  (∀ a, (k0_off1326 v5180) a + S1x1024.size a ≤ S1032x1024.size a)
theorem k0_off1326_inb : ∀ (v5180 : BitVec 32) (k0_hw623 : k0_chk623 v5180), ∀ a, (k0_off1326 v5180) a + S1x1024.size a ≤ S1032x1024.size a := fun v5180 k0_hw623 => k0_hw623

def k0_off1327 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3061 : BitVec 32 := 24#32
  let v5009 : BitVec 32 := Scalar.subi v2 c24_i32_3061
  let c32_i32_3062 : BitVec 32 := 32#32
  let v5010 : BitVec 32 := Scalar.addi v5009 c32_i32_3062
  let c32_i32_3063 : BitVec 32 := 32#32
  let v5011 : BitVec 32 := Scalar.remsi v5010 c32_i32_3063
  let v5186 : Index := Scalar.indexCast v5011
  let c23_3166 : Index := 23#32
  ![v5186.toNat, 23]
def k0_off1328 (v5187 : BitVec 32) : Fin 2 → Nat :=
  let v5189 : Index := Scalar.indexCast v5187
  let c0_3169 : Index := 0#32
  ![v5189.toNat, 0]

def k0_chk624 (v5187 : BitVec 32) : Prop :=
  (∀ a, (k0_off1328 v5187) a + S1x1024.size a ≤ S1032x1024.size a)
theorem k0_off1328_inb : ∀ (v5187 : BitVec 32) (k0_hw624 : k0_chk624 v5187), ∀ a, (k0_off1328 v5187) a + S1x1024.size a ≤ S1032x1024.size a := fun v5187 k0_hw624 => k0_hw624

def k0_off1329 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  ![v5195.toNat]
def k0_off1330 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let c0_i32_3175 : BitVec 32 := 0#32
  let c0_i32_3176 : BitVec 32 := 0#32
  ![v5195.toNat, 0, 0]
def k0_off1331 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5202 : Index := Scalar.indexCast v5195
  let c0_3179 : Index := 0#32
  let c0_3180 : Index := 0#32
  ![v5202.toNat, 0, 0]
def k0_off1332 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5209 : Index := Scalar.indexCast v5195
  let c0_3183 : Index := 0#32
  ![v5209.toNat, 0]
def k0_off1333 (v5210 : BitVec 32) : Fin 2 → Nat :=
  let v5212 : Index := Scalar.indexCast v5210
  let c0_3186 : Index := 0#32
  ![v5212.toNat, 0]

def k0_chk625 (v5210 : BitVec 32) : Prop :=
  (∀ a, (k0_off1333 v5210) a + S1x1024.size a ≤ S1032x1024.size a)
theorem k0_off1333_inb : ∀ (v5210 : BitVec 32) (k0_hw625 : k0_chk625 v5210), ∀ a, (k0_off1333 v5210) a + S1x1024.size a ≤ S1032x1024.size a := fun v5210 k0_hw625 => k0_hw625

def k0_off1334 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5216 : Index := Scalar.indexCast v5195
  let c1_3187 : Index := 1#32
  ![v5216.toNat, 1]
def k0_off1335 (v5217 : BitVec 32) : Fin 2 → Nat :=
  let v5219 : Index := Scalar.indexCast v5217
  let c0_3190 : Index := 0#32
  ![v5219.toNat, 0]

def k0_chk626 (v5217 : BitVec 32) : Prop :=
  (∀ a, (k0_off1335 v5217) a + S1x1024.size a ≤ S1032x1024.size a)
theorem k0_off1335_inb : ∀ (v5217 : BitVec 32) (k0_hw626 : k0_chk626 v5217), ∀ a, (k0_off1335 v5217) a + S1x1024.size a ≤ S1032x1024.size a := fun v5217 k0_hw626 => k0_hw626

def k0_off1336 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5223 : Index := Scalar.indexCast v5195
  let c2_3191 : Index := 2#32
  ![v5223.toNat, 2]
def k0_off1337 (v5224 : BitVec 32) : Fin 2 → Nat :=
  let v5226 : Index := Scalar.indexCast v5224
  let c0_3194 : Index := 0#32
  ![v5226.toNat, 0]

def k0_chk627 (v5224 : BitVec 32) : Prop :=
  (∀ a, (k0_off1337 v5224) a + S1x1024.size a ≤ S1032x1024.size a)
theorem k0_off1337_inb : ∀ (v5224 : BitVec 32) (k0_hw627 : k0_chk627 v5224), ∀ a, (k0_off1337 v5224) a + S1x1024.size a ≤ S1032x1024.size a := fun v5224 k0_hw627 => k0_hw627

def k0_off1338 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5230 : Index := Scalar.indexCast v5195
  let c3_3195 : Index := 3#32
  ![v5230.toNat, 3]
def k0_off1339 (v5231 : BitVec 32) : Fin 2 → Nat :=
  let v5233 : Index := Scalar.indexCast v5231
  let c0_3198 : Index := 0#32
  ![v5233.toNat, 0]

def k0_chk628 (v5231 : BitVec 32) : Prop :=
  (∀ a, (k0_off1339 v5231) a + S1x1024.size a ≤ S1032x1024.size a)
theorem k0_off1339_inb : ∀ (v5231 : BitVec 32) (k0_hw628 : k0_chk628 v5231), ∀ a, (k0_off1339 v5231) a + S1x1024.size a ≤ S1032x1024.size a := fun v5231 k0_hw628 => k0_hw628

def k0_off1340 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5237 : Index := Scalar.indexCast v5195
  let c4_3199 : Index := 4#32
  ![v5237.toNat, 4]
def k0_off1341 (v5238 : BitVec 32) : Fin 2 → Nat :=
  let v5240 : Index := Scalar.indexCast v5238
  let c0_3202 : Index := 0#32
  ![v5240.toNat, 0]

def k0_chk629 (v5238 : BitVec 32) : Prop :=
  (∀ a, (k0_off1341 v5238) a + S1x1024.size a ≤ S1032x1024.size a)
theorem k0_off1341_inb : ∀ (v5238 : BitVec 32) (k0_hw629 : k0_chk629 v5238), ∀ a, (k0_off1341 v5238) a + S1x1024.size a ≤ S1032x1024.size a := fun v5238 k0_hw629 => k0_hw629

def k0_off1342 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5244 : Index := Scalar.indexCast v5195
  let c5_3203 : Index := 5#32
  ![v5244.toNat, 5]
def k0_off1343 (v5245 : BitVec 32) : Fin 2 → Nat :=
  let v5247 : Index := Scalar.indexCast v5245
  let c0_3206 : Index := 0#32
  ![v5247.toNat, 0]

def k0_chk630 (v5245 : BitVec 32) : Prop :=
  (∀ a, (k0_off1343 v5245) a + S1x1024.size a ≤ S1032x1024.size a)
theorem k0_off1343_inb : ∀ (v5245 : BitVec 32) (k0_hw630 : k0_chk630 v5245), ∀ a, (k0_off1343 v5245) a + S1x1024.size a ≤ S1032x1024.size a := fun v5245 k0_hw630 => k0_hw630

def k0_off1344 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5251 : Index := Scalar.indexCast v5195
  let c6_3207 : Index := 6#32
  ![v5251.toNat, 6]
def k0_off1345 (v5252 : BitVec 32) : Fin 2 → Nat :=
  let v5254 : Index := Scalar.indexCast v5252
  let c0_3210 : Index := 0#32
  ![v5254.toNat, 0]

def k0_chk631 (v5252 : BitVec 32) : Prop :=
  (∀ a, (k0_off1345 v5252) a + S1x1024.size a ≤ S1032x1024.size a)
theorem k0_off1345_inb : ∀ (v5252 : BitVec 32) (k0_hw631 : k0_chk631 v5252), ∀ a, (k0_off1345 v5252) a + S1x1024.size a ≤ S1032x1024.size a := fun v5252 k0_hw631 => k0_hw631

def k0_off1346 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5258 : Index := Scalar.indexCast v5195
  let c7_3211 : Index := 7#32
  ![v5258.toNat, 7]
def k0_off1347 (v5259 : BitVec 32) : Fin 2 → Nat :=
  let v5261 : Index := Scalar.indexCast v5259
  let c0_3214 : Index := 0#32
  ![v5261.toNat, 0]

def k0_chk632 (v5259 : BitVec 32) : Prop :=
  (∀ a, (k0_off1347 v5259) a + S1x1024.size a ≤ S1032x1024.size a)
theorem k0_off1347_inb : ∀ (v5259 : BitVec 32) (k0_hw632 : k0_chk632 v5259), ∀ a, (k0_off1347 v5259) a + S1x1024.size a ≤ S1032x1024.size a := fun v5259 k0_hw632 => k0_hw632

def k0_off1348 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5265 : Index := Scalar.indexCast v5195
  let c8_3215 : Index := 8#32
  ![v5265.toNat, 8]
def k0_off1349 (v5266 : BitVec 32) : Fin 2 → Nat :=
  let v5268 : Index := Scalar.indexCast v5266
  let c0_3218 : Index := 0#32
  ![v5268.toNat, 0]

def k0_chk633 (v5266 : BitVec 32) : Prop :=
  (∀ a, (k0_off1349 v5266) a + S1x1024.size a ≤ S1032x1024.size a)
theorem k0_off1349_inb : ∀ (v5266 : BitVec 32) (k0_hw633 : k0_chk633 v5266), ∀ a, (k0_off1349 v5266) a + S1x1024.size a ≤ S1032x1024.size a := fun v5266 k0_hw633 => k0_hw633

def k0_off1350 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5272 : Index := Scalar.indexCast v5195
  let c9_3219 : Index := 9#32
  ![v5272.toNat, 9]
def k0_off1351 (v5273 : BitVec 32) : Fin 2 → Nat :=
  let v5275 : Index := Scalar.indexCast v5273
  let c0_3222 : Index := 0#32
  ![v5275.toNat, 0]

def k0_chk634 (v5273 : BitVec 32) : Prop :=
  (∀ a, (k0_off1351 v5273) a + S1x1024.size a ≤ S1032x1024.size a)
theorem k0_off1351_inb : ∀ (v5273 : BitVec 32) (k0_hw634 : k0_chk634 v5273), ∀ a, (k0_off1351 v5273) a + S1x1024.size a ≤ S1032x1024.size a := fun v5273 k0_hw634 => k0_hw634

def k0_off1352 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5279 : Index := Scalar.indexCast v5195
  let c10_3223 : Index := 10#32
  ![v5279.toNat, 10]
def k0_off1353 (v5280 : BitVec 32) : Fin 2 → Nat :=
  let v5282 : Index := Scalar.indexCast v5280
  let c0_3226 : Index := 0#32
  ![v5282.toNat, 0]

def k0_chk635 (v5280 : BitVec 32) : Prop :=
  (∀ a, (k0_off1353 v5280) a + S1x1024.size a ≤ S1032x1024.size a)
theorem k0_off1353_inb : ∀ (v5280 : BitVec 32) (k0_hw635 : k0_chk635 v5280), ∀ a, (k0_off1353 v5280) a + S1x1024.size a ≤ S1032x1024.size a := fun v5280 k0_hw635 => k0_hw635

def k0_off1354 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5286 : Index := Scalar.indexCast v5195
  let c11_3227 : Index := 11#32
  ![v5286.toNat, 11]
def k0_off1355 (v5287 : BitVec 32) : Fin 2 → Nat :=
  let v5289 : Index := Scalar.indexCast v5287
  let c0_3230 : Index := 0#32
  ![v5289.toNat, 0]

def k0_chk636 (v5287 : BitVec 32) : Prop :=
  (∀ a, (k0_off1355 v5287) a + S1x1024.size a ≤ S1032x1024.size a)
theorem k0_off1355_inb : ∀ (v5287 : BitVec 32) (k0_hw636 : k0_chk636 v5287), ∀ a, (k0_off1355 v5287) a + S1x1024.size a ≤ S1032x1024.size a := fun v5287 k0_hw636 => k0_hw636

def k0_off1356 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5293 : Index := Scalar.indexCast v5195
  let c12_3231 : Index := 12#32
  ![v5293.toNat, 12]
def k0_off1357 (v5294 : BitVec 32) : Fin 2 → Nat :=
  let v5296 : Index := Scalar.indexCast v5294
  let c0_3234 : Index := 0#32
  ![v5296.toNat, 0]

def k0_chk637 (v5294 : BitVec 32) : Prop :=
  (∀ a, (k0_off1357 v5294) a + S1x1024.size a ≤ S1032x1024.size a)
theorem k0_off1357_inb : ∀ (v5294 : BitVec 32) (k0_hw637 : k0_chk637 v5294), ∀ a, (k0_off1357 v5294) a + S1x1024.size a ≤ S1032x1024.size a := fun v5294 k0_hw637 => k0_hw637

def k0_off1358 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5300 : Index := Scalar.indexCast v5195
  let c13_3235 : Index := 13#32
  ![v5300.toNat, 13]
def k0_off1359 (v5301 : BitVec 32) : Fin 2 → Nat :=
  let v5303 : Index := Scalar.indexCast v5301
  let c0_3238 : Index := 0#32
  ![v5303.toNat, 0]

def k0_chk638 (v5301 : BitVec 32) : Prop :=
  (∀ a, (k0_off1359 v5301) a + S1x1024.size a ≤ S1032x1024.size a)
theorem k0_off1359_inb : ∀ (v5301 : BitVec 32) (k0_hw638 : k0_chk638 v5301), ∀ a, (k0_off1359 v5301) a + S1x1024.size a ≤ S1032x1024.size a := fun v5301 k0_hw638 => k0_hw638

def k0_off1360 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5307 : Index := Scalar.indexCast v5195
  let c14_3239 : Index := 14#32
  ![v5307.toNat, 14]
def k0_off1361 (v5308 : BitVec 32) : Fin 2 → Nat :=
  let v5310 : Index := Scalar.indexCast v5308
  let c0_3242 : Index := 0#32
  ![v5310.toNat, 0]

def k0_chk639 (v5308 : BitVec 32) : Prop :=
  (∀ a, (k0_off1361 v5308) a + S1x1024.size a ≤ S1032x1024.size a)
theorem k0_off1361_inb : ∀ (v5308 : BitVec 32) (k0_hw639 : k0_chk639 v5308), ∀ a, (k0_off1361 v5308) a + S1x1024.size a ≤ S1032x1024.size a := fun v5308 k0_hw639 => k0_hw639

def k0_off1362 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5314 : Index := Scalar.indexCast v5195
  let c15_3243 : Index := 15#32
  ![v5314.toNat, 15]
def k0_off1363 (v5315 : BitVec 32) : Fin 2 → Nat :=
  let v5317 : Index := Scalar.indexCast v5315
  let c0_3246 : Index := 0#32
  ![v5317.toNat, 0]

def k0_chk640 (v5315 : BitVec 32) : Prop :=
  (∀ a, (k0_off1363 v5315) a + S1x1024.size a ≤ S1032x1024.size a)
theorem k0_off1363_inb : ∀ (v5315 : BitVec 32) (k0_hw640 : k0_chk640 v5315), ∀ a, (k0_off1363 v5315) a + S1x1024.size a ≤ S1032x1024.size a := fun v5315 k0_hw640 => k0_hw640

def k0_off1364 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5321 : Index := Scalar.indexCast v5195
  let c16_3247 : Index := 16#32
  ![v5321.toNat, 16]
def k0_off1365 (v5322 : BitVec 32) : Fin 2 → Nat :=
  let v5324 : Index := Scalar.indexCast v5322
  let c0_3250 : Index := 0#32
  ![v5324.toNat, 0]

def k0_chk641 (v5322 : BitVec 32) : Prop :=
  (∀ a, (k0_off1365 v5322) a + S1x1024.size a ≤ S1032x1024.size a)
theorem k0_off1365_inb : ∀ (v5322 : BitVec 32) (k0_hw641 : k0_chk641 v5322), ∀ a, (k0_off1365 v5322) a + S1x1024.size a ≤ S1032x1024.size a := fun v5322 k0_hw641 => k0_hw641

def k0_off1366 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5328 : Index := Scalar.indexCast v5195
  let c17_3251 : Index := 17#32
  ![v5328.toNat, 17]
def k0_off1367 (v5329 : BitVec 32) : Fin 2 → Nat :=
  let v5331 : Index := Scalar.indexCast v5329
  let c0_3254 : Index := 0#32
  ![v5331.toNat, 0]

def k0_chk642 (v5329 : BitVec 32) : Prop :=
  (∀ a, (k0_off1367 v5329) a + S1x1024.size a ≤ S1032x1024.size a)
theorem k0_off1367_inb : ∀ (v5329 : BitVec 32) (k0_hw642 : k0_chk642 v5329), ∀ a, (k0_off1367 v5329) a + S1x1024.size a ≤ S1032x1024.size a := fun v5329 k0_hw642 => k0_hw642

def k0_off1368 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5335 : Index := Scalar.indexCast v5195
  let c18_3255 : Index := 18#32
  ![v5335.toNat, 18]
def k0_off1369 (v5336 : BitVec 32) : Fin 2 → Nat :=
  let v5338 : Index := Scalar.indexCast v5336
  let c0_3258 : Index := 0#32
  ![v5338.toNat, 0]

def k0_chk643 (v5336 : BitVec 32) : Prop :=
  (∀ a, (k0_off1369 v5336) a + S1x1024.size a ≤ S1032x1024.size a)
theorem k0_off1369_inb : ∀ (v5336 : BitVec 32) (k0_hw643 : k0_chk643 v5336), ∀ a, (k0_off1369 v5336) a + S1x1024.size a ≤ S1032x1024.size a := fun v5336 k0_hw643 => k0_hw643

def k0_off1370 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5342 : Index := Scalar.indexCast v5195
  let c19_3259 : Index := 19#32
  ![v5342.toNat, 19]
def k0_off1371 (v5343 : BitVec 32) : Fin 2 → Nat :=
  let v5345 : Index := Scalar.indexCast v5343
  let c0_3262 : Index := 0#32
  ![v5345.toNat, 0]

def k0_chk644 (v5343 : BitVec 32) : Prop :=
  (∀ a, (k0_off1371 v5343) a + S1x1024.size a ≤ S1032x1024.size a)
theorem k0_off1371_inb : ∀ (v5343 : BitVec 32) (k0_hw644 : k0_chk644 v5343), ∀ a, (k0_off1371 v5343) a + S1x1024.size a ≤ S1032x1024.size a := fun v5343 k0_hw644 => k0_hw644

def k0_off1372 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5349 : Index := Scalar.indexCast v5195
  let c20_3263 : Index := 20#32
  ![v5349.toNat, 20]
def k0_off1373 (v5350 : BitVec 32) : Fin 2 → Nat :=
  let v5352 : Index := Scalar.indexCast v5350
  let c0_3266 : Index := 0#32
  ![v5352.toNat, 0]

def k0_chk645 (v5350 : BitVec 32) : Prop :=
  (∀ a, (k0_off1373 v5350) a + S1x1024.size a ≤ S1032x1024.size a)
theorem k0_off1373_inb : ∀ (v5350 : BitVec 32) (k0_hw645 : k0_chk645 v5350), ∀ a, (k0_off1373 v5350) a + S1x1024.size a ≤ S1032x1024.size a := fun v5350 k0_hw645 => k0_hw645

def k0_off1374 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5356 : Index := Scalar.indexCast v5195
  let c21_3267 : Index := 21#32
  ![v5356.toNat, 21]
def k0_off1375 (v5357 : BitVec 32) : Fin 2 → Nat :=
  let v5359 : Index := Scalar.indexCast v5357
  let c0_3270 : Index := 0#32
  ![v5359.toNat, 0]

def k0_chk646 (v5357 : BitVec 32) : Prop :=
  (∀ a, (k0_off1375 v5357) a + S1x1024.size a ≤ S1032x1024.size a)
theorem k0_off1375_inb : ∀ (v5357 : BitVec 32) (k0_hw646 : k0_chk646 v5357), ∀ a, (k0_off1375 v5357) a + S1x1024.size a ≤ S1032x1024.size a := fun v5357 k0_hw646 => k0_hw646

def k0_off1376 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5363 : Index := Scalar.indexCast v5195
  let c22_3271 : Index := 22#32
  ![v5363.toNat, 22]
def k0_off1377 (v5364 : BitVec 32) : Fin 2 → Nat :=
  let v5366 : Index := Scalar.indexCast v5364
  let c0_3274 : Index := 0#32
  ![v5366.toNat, 0]

def k0_chk647 (v5364 : BitVec 32) : Prop :=
  (∀ a, (k0_off1377 v5364) a + S1x1024.size a ≤ S1032x1024.size a)
theorem k0_off1377_inb : ∀ (v5364 : BitVec 32) (k0_hw647 : k0_chk647 v5364), ∀ a, (k0_off1377 v5364) a + S1x1024.size a ≤ S1032x1024.size a := fun v5364 k0_hw647 => k0_hw647

def k0_off1378 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3170 : BitVec 32 := 25#32
  let v5193 : BitVec 32 := Scalar.subi v2 c25_i32_3170
  let c32_i32_3171 : BitVec 32 := 32#32
  let v5194 : BitVec 32 := Scalar.addi v5193 c32_i32_3171
  let c32_i32_3172 : BitVec 32 := 32#32
  let v5195 : BitVec 32 := Scalar.remsi v5194 c32_i32_3172
  let v5370 : Index := Scalar.indexCast v5195
  let c23_3275 : Index := 23#32
  ![v5370.toNat, 23]
def k0_off1379 (v5371 : BitVec 32) : Fin 2 → Nat :=
  let v5373 : Index := Scalar.indexCast v5371
  let c0_3278 : Index := 0#32
  ![v5373.toNat, 0]

def k0_chk648 (v5371 : BitVec 32) : Prop :=
  (∀ a, (k0_off1379 v5371) a + S1x1024.size a ≤ S1032x1024.size a)
theorem k0_off1379_inb : ∀ (v5371 : BitVec 32) (k0_hw648 : k0_chk648 v5371), ∀ a, (k0_off1379 v5371) a + S1x1024.size a ≤ S1032x1024.size a := fun v5371 k0_hw648 => k0_hw648

def k0_off1380 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  ![v5379.toNat]
def k0_off1381 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let c0_i32_3284 : BitVec 32 := 0#32
  let c0_i32_3285 : BitVec 32 := 0#32
  ![v5379.toNat, 0, 0]
def k0_off1382 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5386 : Index := Scalar.indexCast v5379
  let c0_3288 : Index := 0#32
  let c0_3289 : Index := 0#32
  ![v5386.toNat, 0, 0]
def k0_off1383 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5393 : Index := Scalar.indexCast v5379
  let c0_3292 : Index := 0#32
  ![v5393.toNat, 0]
def k0_off1384 (v5394 : BitVec 32) : Fin 2 → Nat :=
  let v5396 : Index := Scalar.indexCast v5394
  let c0_3295 : Index := 0#32
  ![v5396.toNat, 0]

def k0_chk649 (v5394 : BitVec 32) : Prop :=
  (∀ a, (k0_off1384 v5394) a + S1x1024.size a ≤ S1032x1024.size a)
theorem k0_off1384_inb : ∀ (v5394 : BitVec 32) (k0_hw649 : k0_chk649 v5394), ∀ a, (k0_off1384 v5394) a + S1x1024.size a ≤ S1032x1024.size a := fun v5394 k0_hw649 => k0_hw649

def k0_off1385 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5400 : Index := Scalar.indexCast v5379
  let c1_3296 : Index := 1#32
  ![v5400.toNat, 1]
def k0_off1386 (v5401 : BitVec 32) : Fin 2 → Nat :=
  let v5403 : Index := Scalar.indexCast v5401
  let c0_3299 : Index := 0#32
  ![v5403.toNat, 0]

def k0_chk650 (v5401 : BitVec 32) : Prop :=
  (∀ a, (k0_off1386 v5401) a + S1x1024.size a ≤ S1032x1024.size a)
theorem k0_off1386_inb : ∀ (v5401 : BitVec 32) (k0_hw650 : k0_chk650 v5401), ∀ a, (k0_off1386 v5401) a + S1x1024.size a ≤ S1032x1024.size a := fun v5401 k0_hw650 => k0_hw650

def k0_off1387 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5407 : Index := Scalar.indexCast v5379
  let c2_3300 : Index := 2#32
  ![v5407.toNat, 2]
def k0_off1388 (v5408 : BitVec 32) : Fin 2 → Nat :=
  let v5410 : Index := Scalar.indexCast v5408
  let c0_3303 : Index := 0#32
  ![v5410.toNat, 0]

def k0_chk651 (v5408 : BitVec 32) : Prop :=
  (∀ a, (k0_off1388 v5408) a + S1x1024.size a ≤ S1032x1024.size a)
theorem k0_off1388_inb : ∀ (v5408 : BitVec 32) (k0_hw651 : k0_chk651 v5408), ∀ a, (k0_off1388 v5408) a + S1x1024.size a ≤ S1032x1024.size a := fun v5408 k0_hw651 => k0_hw651

def k0_off1389 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5414 : Index := Scalar.indexCast v5379
  let c3_3304 : Index := 3#32
  ![v5414.toNat, 3]
def k0_off1390 (v5415 : BitVec 32) : Fin 2 → Nat :=
  let v5417 : Index := Scalar.indexCast v5415
  let c0_3307 : Index := 0#32
  ![v5417.toNat, 0]

def k0_chk652 (v5415 : BitVec 32) : Prop :=
  (∀ a, (k0_off1390 v5415) a + S1x1024.size a ≤ S1032x1024.size a)
theorem k0_off1390_inb : ∀ (v5415 : BitVec 32) (k0_hw652 : k0_chk652 v5415), ∀ a, (k0_off1390 v5415) a + S1x1024.size a ≤ S1032x1024.size a := fun v5415 k0_hw652 => k0_hw652

def k0_off1391 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5421 : Index := Scalar.indexCast v5379
  let c4_3308 : Index := 4#32
  ![v5421.toNat, 4]
def k0_off1392 (v5422 : BitVec 32) : Fin 2 → Nat :=
  let v5424 : Index := Scalar.indexCast v5422
  let c0_3311 : Index := 0#32
  ![v5424.toNat, 0]

def k0_chk653 (v5422 : BitVec 32) : Prop :=
  (∀ a, (k0_off1392 v5422) a + S1x1024.size a ≤ S1032x1024.size a)
theorem k0_off1392_inb : ∀ (v5422 : BitVec 32) (k0_hw653 : k0_chk653 v5422), ∀ a, (k0_off1392 v5422) a + S1x1024.size a ≤ S1032x1024.size a := fun v5422 k0_hw653 => k0_hw653

def k0_off1393 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5428 : Index := Scalar.indexCast v5379
  let c5_3312 : Index := 5#32
  ![v5428.toNat, 5]
def k0_off1394 (v5429 : BitVec 32) : Fin 2 → Nat :=
  let v5431 : Index := Scalar.indexCast v5429
  let c0_3315 : Index := 0#32
  ![v5431.toNat, 0]

def k0_chk654 (v5429 : BitVec 32) : Prop :=
  (∀ a, (k0_off1394 v5429) a + S1x1024.size a ≤ S1032x1024.size a)
theorem k0_off1394_inb : ∀ (v5429 : BitVec 32) (k0_hw654 : k0_chk654 v5429), ∀ a, (k0_off1394 v5429) a + S1x1024.size a ≤ S1032x1024.size a := fun v5429 k0_hw654 => k0_hw654

def k0_off1395 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5435 : Index := Scalar.indexCast v5379
  let c6_3316 : Index := 6#32
  ![v5435.toNat, 6]
def k0_off1396 (v5436 : BitVec 32) : Fin 2 → Nat :=
  let v5438 : Index := Scalar.indexCast v5436
  let c0_3319 : Index := 0#32
  ![v5438.toNat, 0]

def k0_chk655 (v5436 : BitVec 32) : Prop :=
  (∀ a, (k0_off1396 v5436) a + S1x1024.size a ≤ S1032x1024.size a)
theorem k0_off1396_inb : ∀ (v5436 : BitVec 32) (k0_hw655 : k0_chk655 v5436), ∀ a, (k0_off1396 v5436) a + S1x1024.size a ≤ S1032x1024.size a := fun v5436 k0_hw655 => k0_hw655

def k0_off1397 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5442 : Index := Scalar.indexCast v5379
  let c7_3320 : Index := 7#32
  ![v5442.toNat, 7]
def k0_off1398 (v5443 : BitVec 32) : Fin 2 → Nat :=
  let v5445 : Index := Scalar.indexCast v5443
  let c0_3323 : Index := 0#32
  ![v5445.toNat, 0]

def k0_chk656 (v5443 : BitVec 32) : Prop :=
  (∀ a, (k0_off1398 v5443) a + S1x1024.size a ≤ S1032x1024.size a)
theorem k0_off1398_inb : ∀ (v5443 : BitVec 32) (k0_hw656 : k0_chk656 v5443), ∀ a, (k0_off1398 v5443) a + S1x1024.size a ≤ S1032x1024.size a := fun v5443 k0_hw656 => k0_hw656

def k0_off1399 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5449 : Index := Scalar.indexCast v5379
  let c8_3324 : Index := 8#32
  ![v5449.toNat, 8]
def k0_off1400 (v5450 : BitVec 32) : Fin 2 → Nat :=
  let v5452 : Index := Scalar.indexCast v5450
  let c0_3327 : Index := 0#32
  ![v5452.toNat, 0]

def k0_chk657 (v5450 : BitVec 32) : Prop :=
  (∀ a, (k0_off1400 v5450) a + S1x1024.size a ≤ S1032x1024.size a)
theorem k0_off1400_inb : ∀ (v5450 : BitVec 32) (k0_hw657 : k0_chk657 v5450), ∀ a, (k0_off1400 v5450) a + S1x1024.size a ≤ S1032x1024.size a := fun v5450 k0_hw657 => k0_hw657

def k0_off1401 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5456 : Index := Scalar.indexCast v5379
  let c9_3328 : Index := 9#32
  ![v5456.toNat, 9]
def k0_off1402 (v5457 : BitVec 32) : Fin 2 → Nat :=
  let v5459 : Index := Scalar.indexCast v5457
  let c0_3331 : Index := 0#32
  ![v5459.toNat, 0]

def k0_chk658 (v5457 : BitVec 32) : Prop :=
  (∀ a, (k0_off1402 v5457) a + S1x1024.size a ≤ S1032x1024.size a)
theorem k0_off1402_inb : ∀ (v5457 : BitVec 32) (k0_hw658 : k0_chk658 v5457), ∀ a, (k0_off1402 v5457) a + S1x1024.size a ≤ S1032x1024.size a := fun v5457 k0_hw658 => k0_hw658

def k0_off1403 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5463 : Index := Scalar.indexCast v5379
  let c10_3332 : Index := 10#32
  ![v5463.toNat, 10]
def k0_off1404 (v5464 : BitVec 32) : Fin 2 → Nat :=
  let v5466 : Index := Scalar.indexCast v5464
  let c0_3335 : Index := 0#32
  ![v5466.toNat, 0]

def k0_chk659 (v5464 : BitVec 32) : Prop :=
  (∀ a, (k0_off1404 v5464) a + S1x1024.size a ≤ S1032x1024.size a)
theorem k0_off1404_inb : ∀ (v5464 : BitVec 32) (k0_hw659 : k0_chk659 v5464), ∀ a, (k0_off1404 v5464) a + S1x1024.size a ≤ S1032x1024.size a := fun v5464 k0_hw659 => k0_hw659

def k0_off1405 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5470 : Index := Scalar.indexCast v5379
  let c11_3336 : Index := 11#32
  ![v5470.toNat, 11]
def k0_off1406 (v5471 : BitVec 32) : Fin 2 → Nat :=
  let v5473 : Index := Scalar.indexCast v5471
  let c0_3339 : Index := 0#32
  ![v5473.toNat, 0]

def k0_chk660 (v5471 : BitVec 32) : Prop :=
  (∀ a, (k0_off1406 v5471) a + S1x1024.size a ≤ S1032x1024.size a)
theorem k0_off1406_inb : ∀ (v5471 : BitVec 32) (k0_hw660 : k0_chk660 v5471), ∀ a, (k0_off1406 v5471) a + S1x1024.size a ≤ S1032x1024.size a := fun v5471 k0_hw660 => k0_hw660

def k0_off1407 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5477 : Index := Scalar.indexCast v5379
  let c12_3340 : Index := 12#32
  ![v5477.toNat, 12]
def k0_off1408 (v5478 : BitVec 32) : Fin 2 → Nat :=
  let v5480 : Index := Scalar.indexCast v5478
  let c0_3343 : Index := 0#32
  ![v5480.toNat, 0]

def k0_chk661 (v5478 : BitVec 32) : Prop :=
  (∀ a, (k0_off1408 v5478) a + S1x1024.size a ≤ S1032x1024.size a)
theorem k0_off1408_inb : ∀ (v5478 : BitVec 32) (k0_hw661 : k0_chk661 v5478), ∀ a, (k0_off1408 v5478) a + S1x1024.size a ≤ S1032x1024.size a := fun v5478 k0_hw661 => k0_hw661

def k0_off1409 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5484 : Index := Scalar.indexCast v5379
  let c13_3344 : Index := 13#32
  ![v5484.toNat, 13]
def k0_off1410 (v5485 : BitVec 32) : Fin 2 → Nat :=
  let v5487 : Index := Scalar.indexCast v5485
  let c0_3347 : Index := 0#32
  ![v5487.toNat, 0]

def k0_chk662 (v5485 : BitVec 32) : Prop :=
  (∀ a, (k0_off1410 v5485) a + S1x1024.size a ≤ S1032x1024.size a)
theorem k0_off1410_inb : ∀ (v5485 : BitVec 32) (k0_hw662 : k0_chk662 v5485), ∀ a, (k0_off1410 v5485) a + S1x1024.size a ≤ S1032x1024.size a := fun v5485 k0_hw662 => k0_hw662

def k0_off1411 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5491 : Index := Scalar.indexCast v5379
  let c14_3348 : Index := 14#32
  ![v5491.toNat, 14]
def k0_off1412 (v5492 : BitVec 32) : Fin 2 → Nat :=
  let v5494 : Index := Scalar.indexCast v5492
  let c0_3351 : Index := 0#32
  ![v5494.toNat, 0]

def k0_chk663 (v5492 : BitVec 32) : Prop :=
  (∀ a, (k0_off1412 v5492) a + S1x1024.size a ≤ S1032x1024.size a)
theorem k0_off1412_inb : ∀ (v5492 : BitVec 32) (k0_hw663 : k0_chk663 v5492), ∀ a, (k0_off1412 v5492) a + S1x1024.size a ≤ S1032x1024.size a := fun v5492 k0_hw663 => k0_hw663

def k0_off1413 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5498 : Index := Scalar.indexCast v5379
  let c15_3352 : Index := 15#32
  ![v5498.toNat, 15]
def k0_off1414 (v5499 : BitVec 32) : Fin 2 → Nat :=
  let v5501 : Index := Scalar.indexCast v5499
  let c0_3355 : Index := 0#32
  ![v5501.toNat, 0]

def k0_chk664 (v5499 : BitVec 32) : Prop :=
  (∀ a, (k0_off1414 v5499) a + S1x1024.size a ≤ S1032x1024.size a)
theorem k0_off1414_inb : ∀ (v5499 : BitVec 32) (k0_hw664 : k0_chk664 v5499), ∀ a, (k0_off1414 v5499) a + S1x1024.size a ≤ S1032x1024.size a := fun v5499 k0_hw664 => k0_hw664

def k0_off1415 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5505 : Index := Scalar.indexCast v5379
  let c16_3356 : Index := 16#32
  ![v5505.toNat, 16]
def k0_off1416 (v5506 : BitVec 32) : Fin 2 → Nat :=
  let v5508 : Index := Scalar.indexCast v5506
  let c0_3359 : Index := 0#32
  ![v5508.toNat, 0]

def k0_chk665 (v5506 : BitVec 32) : Prop :=
  (∀ a, (k0_off1416 v5506) a + S1x1024.size a ≤ S1032x1024.size a)
theorem k0_off1416_inb : ∀ (v5506 : BitVec 32) (k0_hw665 : k0_chk665 v5506), ∀ a, (k0_off1416 v5506) a + S1x1024.size a ≤ S1032x1024.size a := fun v5506 k0_hw665 => k0_hw665

def k0_off1417 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5512 : Index := Scalar.indexCast v5379
  let c17_3360 : Index := 17#32
  ![v5512.toNat, 17]
def k0_off1418 (v5513 : BitVec 32) : Fin 2 → Nat :=
  let v5515 : Index := Scalar.indexCast v5513
  let c0_3363 : Index := 0#32
  ![v5515.toNat, 0]

def k0_chk666 (v5513 : BitVec 32) : Prop :=
  (∀ a, (k0_off1418 v5513) a + S1x1024.size a ≤ S1032x1024.size a)
theorem k0_off1418_inb : ∀ (v5513 : BitVec 32) (k0_hw666 : k0_chk666 v5513), ∀ a, (k0_off1418 v5513) a + S1x1024.size a ≤ S1032x1024.size a := fun v5513 k0_hw666 => k0_hw666

def k0_off1419 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5519 : Index := Scalar.indexCast v5379
  let c18_3364 : Index := 18#32
  ![v5519.toNat, 18]
def k0_off1420 (v5520 : BitVec 32) : Fin 2 → Nat :=
  let v5522 : Index := Scalar.indexCast v5520
  let c0_3367 : Index := 0#32
  ![v5522.toNat, 0]

def k0_chk667 (v5520 : BitVec 32) : Prop :=
  (∀ a, (k0_off1420 v5520) a + S1x1024.size a ≤ S1032x1024.size a)
theorem k0_off1420_inb : ∀ (v5520 : BitVec 32) (k0_hw667 : k0_chk667 v5520), ∀ a, (k0_off1420 v5520) a + S1x1024.size a ≤ S1032x1024.size a := fun v5520 k0_hw667 => k0_hw667

def k0_off1421 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5526 : Index := Scalar.indexCast v5379
  let c19_3368 : Index := 19#32
  ![v5526.toNat, 19]
def k0_off1422 (v5527 : BitVec 32) : Fin 2 → Nat :=
  let v5529 : Index := Scalar.indexCast v5527
  let c0_3371 : Index := 0#32
  ![v5529.toNat, 0]

def k0_chk668 (v5527 : BitVec 32) : Prop :=
  (∀ a, (k0_off1422 v5527) a + S1x1024.size a ≤ S1032x1024.size a)
theorem k0_off1422_inb : ∀ (v5527 : BitVec 32) (k0_hw668 : k0_chk668 v5527), ∀ a, (k0_off1422 v5527) a + S1x1024.size a ≤ S1032x1024.size a := fun v5527 k0_hw668 => k0_hw668

def k0_off1423 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5533 : Index := Scalar.indexCast v5379
  let c20_3372 : Index := 20#32
  ![v5533.toNat, 20]
def k0_off1424 (v5534 : BitVec 32) : Fin 2 → Nat :=
  let v5536 : Index := Scalar.indexCast v5534
  let c0_3375 : Index := 0#32
  ![v5536.toNat, 0]

def k0_chk669 (v5534 : BitVec 32) : Prop :=
  (∀ a, (k0_off1424 v5534) a + S1x1024.size a ≤ S1032x1024.size a)
theorem k0_off1424_inb : ∀ (v5534 : BitVec 32) (k0_hw669 : k0_chk669 v5534), ∀ a, (k0_off1424 v5534) a + S1x1024.size a ≤ S1032x1024.size a := fun v5534 k0_hw669 => k0_hw669

def k0_off1425 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5540 : Index := Scalar.indexCast v5379
  let c21_3376 : Index := 21#32
  ![v5540.toNat, 21]
def k0_off1426 (v5541 : BitVec 32) : Fin 2 → Nat :=
  let v5543 : Index := Scalar.indexCast v5541
  let c0_3379 : Index := 0#32
  ![v5543.toNat, 0]

def k0_chk670 (v5541 : BitVec 32) : Prop :=
  (∀ a, (k0_off1426 v5541) a + S1x1024.size a ≤ S1032x1024.size a)
theorem k0_off1426_inb : ∀ (v5541 : BitVec 32) (k0_hw670 : k0_chk670 v5541), ∀ a, (k0_off1426 v5541) a + S1x1024.size a ≤ S1032x1024.size a := fun v5541 k0_hw670 => k0_hw670

def k0_off1427 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5547 : Index := Scalar.indexCast v5379
  let c22_3380 : Index := 22#32
  ![v5547.toNat, 22]
def k0_off1428 (v5548 : BitVec 32) : Fin 2 → Nat :=
  let v5550 : Index := Scalar.indexCast v5548
  let c0_3383 : Index := 0#32
  ![v5550.toNat, 0]

def k0_chk671 (v5548 : BitVec 32) : Prop :=
  (∀ a, (k0_off1428 v5548) a + S1x1024.size a ≤ S1032x1024.size a)
theorem k0_off1428_inb : ∀ (v5548 : BitVec 32) (k0_hw671 : k0_chk671 v5548), ∀ a, (k0_off1428 v5548) a + S1x1024.size a ≤ S1032x1024.size a := fun v5548 k0_hw671 => k0_hw671

def k0_off1429 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3279 : BitVec 32 := 26#32
  let v5377 : BitVec 32 := Scalar.subi v2 c26_i32_3279
  let c32_i32_3280 : BitVec 32 := 32#32
  let v5378 : BitVec 32 := Scalar.addi v5377 c32_i32_3280
  let c32_i32_3281 : BitVec 32 := 32#32
  let v5379 : BitVec 32 := Scalar.remsi v5378 c32_i32_3281
  let v5554 : Index := Scalar.indexCast v5379
  let c23_3384 : Index := 23#32
  ![v5554.toNat, 23]
def k0_off1430 (v5555 : BitVec 32) : Fin 2 → Nat :=
  let v5557 : Index := Scalar.indexCast v5555
  let c0_3387 : Index := 0#32
  ![v5557.toNat, 0]

def k0_chk672 (v5555 : BitVec 32) : Prop :=
  (∀ a, (k0_off1430 v5555) a + S1x1024.size a ≤ S1032x1024.size a)
theorem k0_off1430_inb : ∀ (v5555 : BitVec 32) (k0_hw672 : k0_chk672 v5555), ∀ a, (k0_off1430 v5555) a + S1x1024.size a ≤ S1032x1024.size a := fun v5555 k0_hw672 => k0_hw672

def k0_off1431 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  ![v5563.toNat]
def k0_off1432 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let c0_i32_3393 : BitVec 32 := 0#32
  let c0_i32_3394 : BitVec 32 := 0#32
  ![v5563.toNat, 0, 0]
def k0_off1433 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5570 : Index := Scalar.indexCast v5563
  let c0_3397 : Index := 0#32
  let c0_3398 : Index := 0#32
  ![v5570.toNat, 0, 0]
def k0_off1434 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5577 : Index := Scalar.indexCast v5563
  let c0_3401 : Index := 0#32
  ![v5577.toNat, 0]
def k0_off1435 (v5578 : BitVec 32) : Fin 2 → Nat :=
  let v5580 : Index := Scalar.indexCast v5578
  let c0_3404 : Index := 0#32
  ![v5580.toNat, 0]

def k0_chk673 (v5578 : BitVec 32) : Prop :=
  (∀ a, (k0_off1435 v5578) a + S1x1024.size a ≤ S1032x1024.size a)
theorem k0_off1435_inb : ∀ (v5578 : BitVec 32) (k0_hw673 : k0_chk673 v5578), ∀ a, (k0_off1435 v5578) a + S1x1024.size a ≤ S1032x1024.size a := fun v5578 k0_hw673 => k0_hw673

def k0_off1436 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5584 : Index := Scalar.indexCast v5563
  let c1_3405 : Index := 1#32
  ![v5584.toNat, 1]
def k0_off1437 (v5585 : BitVec 32) : Fin 2 → Nat :=
  let v5587 : Index := Scalar.indexCast v5585
  let c0_3408 : Index := 0#32
  ![v5587.toNat, 0]

def k0_chk674 (v5585 : BitVec 32) : Prop :=
  (∀ a, (k0_off1437 v5585) a + S1x1024.size a ≤ S1032x1024.size a)
theorem k0_off1437_inb : ∀ (v5585 : BitVec 32) (k0_hw674 : k0_chk674 v5585), ∀ a, (k0_off1437 v5585) a + S1x1024.size a ≤ S1032x1024.size a := fun v5585 k0_hw674 => k0_hw674

def k0_off1438 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5591 : Index := Scalar.indexCast v5563
  let c2_3409 : Index := 2#32
  ![v5591.toNat, 2]
def k0_off1439 (v5592 : BitVec 32) : Fin 2 → Nat :=
  let v5594 : Index := Scalar.indexCast v5592
  let c0_3412 : Index := 0#32
  ![v5594.toNat, 0]

def k0_chk675 (v5592 : BitVec 32) : Prop :=
  (∀ a, (k0_off1439 v5592) a + S1x1024.size a ≤ S1032x1024.size a)
theorem k0_off1439_inb : ∀ (v5592 : BitVec 32) (k0_hw675 : k0_chk675 v5592), ∀ a, (k0_off1439 v5592) a + S1x1024.size a ≤ S1032x1024.size a := fun v5592 k0_hw675 => k0_hw675

def k0_off1440 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5598 : Index := Scalar.indexCast v5563
  let c3_3413 : Index := 3#32
  ![v5598.toNat, 3]
def k0_off1441 (v5599 : BitVec 32) : Fin 2 → Nat :=
  let v5601 : Index := Scalar.indexCast v5599
  let c0_3416 : Index := 0#32
  ![v5601.toNat, 0]

def k0_chk676 (v5599 : BitVec 32) : Prop :=
  (∀ a, (k0_off1441 v5599) a + S1x1024.size a ≤ S1032x1024.size a)
theorem k0_off1441_inb : ∀ (v5599 : BitVec 32) (k0_hw676 : k0_chk676 v5599), ∀ a, (k0_off1441 v5599) a + S1x1024.size a ≤ S1032x1024.size a := fun v5599 k0_hw676 => k0_hw676

def k0_off1442 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5605 : Index := Scalar.indexCast v5563
  let c4_3417 : Index := 4#32
  ![v5605.toNat, 4]
def k0_off1443 (v5606 : BitVec 32) : Fin 2 → Nat :=
  let v5608 : Index := Scalar.indexCast v5606
  let c0_3420 : Index := 0#32
  ![v5608.toNat, 0]

def k0_chk677 (v5606 : BitVec 32) : Prop :=
  (∀ a, (k0_off1443 v5606) a + S1x1024.size a ≤ S1032x1024.size a)
theorem k0_off1443_inb : ∀ (v5606 : BitVec 32) (k0_hw677 : k0_chk677 v5606), ∀ a, (k0_off1443 v5606) a + S1x1024.size a ≤ S1032x1024.size a := fun v5606 k0_hw677 => k0_hw677

def k0_off1444 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5612 : Index := Scalar.indexCast v5563
  let c5_3421 : Index := 5#32
  ![v5612.toNat, 5]
def k0_off1445 (v5613 : BitVec 32) : Fin 2 → Nat :=
  let v5615 : Index := Scalar.indexCast v5613
  let c0_3424 : Index := 0#32
  ![v5615.toNat, 0]

def k0_chk678 (v5613 : BitVec 32) : Prop :=
  (∀ a, (k0_off1445 v5613) a + S1x1024.size a ≤ S1032x1024.size a)
theorem k0_off1445_inb : ∀ (v5613 : BitVec 32) (k0_hw678 : k0_chk678 v5613), ∀ a, (k0_off1445 v5613) a + S1x1024.size a ≤ S1032x1024.size a := fun v5613 k0_hw678 => k0_hw678

def k0_off1446 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5619 : Index := Scalar.indexCast v5563
  let c6_3425 : Index := 6#32
  ![v5619.toNat, 6]
def k0_off1447 (v5620 : BitVec 32) : Fin 2 → Nat :=
  let v5622 : Index := Scalar.indexCast v5620
  let c0_3428 : Index := 0#32
  ![v5622.toNat, 0]

def k0_chk679 (v5620 : BitVec 32) : Prop :=
  (∀ a, (k0_off1447 v5620) a + S1x1024.size a ≤ S1032x1024.size a)
theorem k0_off1447_inb : ∀ (v5620 : BitVec 32) (k0_hw679 : k0_chk679 v5620), ∀ a, (k0_off1447 v5620) a + S1x1024.size a ≤ S1032x1024.size a := fun v5620 k0_hw679 => k0_hw679

def k0_off1448 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5626 : Index := Scalar.indexCast v5563
  let c7_3429 : Index := 7#32
  ![v5626.toNat, 7]
def k0_off1449 (v5627 : BitVec 32) : Fin 2 → Nat :=
  let v5629 : Index := Scalar.indexCast v5627
  let c0_3432 : Index := 0#32
  ![v5629.toNat, 0]

def k0_chk680 (v5627 : BitVec 32) : Prop :=
  (∀ a, (k0_off1449 v5627) a + S1x1024.size a ≤ S1032x1024.size a)
theorem k0_off1449_inb : ∀ (v5627 : BitVec 32) (k0_hw680 : k0_chk680 v5627), ∀ a, (k0_off1449 v5627) a + S1x1024.size a ≤ S1032x1024.size a := fun v5627 k0_hw680 => k0_hw680

def k0_off1450 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5633 : Index := Scalar.indexCast v5563
  let c8_3433 : Index := 8#32
  ![v5633.toNat, 8]
def k0_off1451 (v5634 : BitVec 32) : Fin 2 → Nat :=
  let v5636 : Index := Scalar.indexCast v5634
  let c0_3436 : Index := 0#32
  ![v5636.toNat, 0]

def k0_chk681 (v5634 : BitVec 32) : Prop :=
  (∀ a, (k0_off1451 v5634) a + S1x1024.size a ≤ S1032x1024.size a)
theorem k0_off1451_inb : ∀ (v5634 : BitVec 32) (k0_hw681 : k0_chk681 v5634), ∀ a, (k0_off1451 v5634) a + S1x1024.size a ≤ S1032x1024.size a := fun v5634 k0_hw681 => k0_hw681

def k0_off1452 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5640 : Index := Scalar.indexCast v5563
  let c9_3437 : Index := 9#32
  ![v5640.toNat, 9]
def k0_off1453 (v5641 : BitVec 32) : Fin 2 → Nat :=
  let v5643 : Index := Scalar.indexCast v5641
  let c0_3440 : Index := 0#32
  ![v5643.toNat, 0]

def k0_chk682 (v5641 : BitVec 32) : Prop :=
  (∀ a, (k0_off1453 v5641) a + S1x1024.size a ≤ S1032x1024.size a)
theorem k0_off1453_inb : ∀ (v5641 : BitVec 32) (k0_hw682 : k0_chk682 v5641), ∀ a, (k0_off1453 v5641) a + S1x1024.size a ≤ S1032x1024.size a := fun v5641 k0_hw682 => k0_hw682

def k0_off1454 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5647 : Index := Scalar.indexCast v5563
  let c10_3441 : Index := 10#32
  ![v5647.toNat, 10]
def k0_off1455 (v5648 : BitVec 32) : Fin 2 → Nat :=
  let v5650 : Index := Scalar.indexCast v5648
  let c0_3444 : Index := 0#32
  ![v5650.toNat, 0]

def k0_chk683 (v5648 : BitVec 32) : Prop :=
  (∀ a, (k0_off1455 v5648) a + S1x1024.size a ≤ S1032x1024.size a)
theorem k0_off1455_inb : ∀ (v5648 : BitVec 32) (k0_hw683 : k0_chk683 v5648), ∀ a, (k0_off1455 v5648) a + S1x1024.size a ≤ S1032x1024.size a := fun v5648 k0_hw683 => k0_hw683

def k0_off1456 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5654 : Index := Scalar.indexCast v5563
  let c11_3445 : Index := 11#32
  ![v5654.toNat, 11]
def k0_off1457 (v5655 : BitVec 32) : Fin 2 → Nat :=
  let v5657 : Index := Scalar.indexCast v5655
  let c0_3448 : Index := 0#32
  ![v5657.toNat, 0]

def k0_chk684 (v5655 : BitVec 32) : Prop :=
  (∀ a, (k0_off1457 v5655) a + S1x1024.size a ≤ S1032x1024.size a)
theorem k0_off1457_inb : ∀ (v5655 : BitVec 32) (k0_hw684 : k0_chk684 v5655), ∀ a, (k0_off1457 v5655) a + S1x1024.size a ≤ S1032x1024.size a := fun v5655 k0_hw684 => k0_hw684

def k0_off1458 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5661 : Index := Scalar.indexCast v5563
  let c12_3449 : Index := 12#32
  ![v5661.toNat, 12]
def k0_off1459 (v5662 : BitVec 32) : Fin 2 → Nat :=
  let v5664 : Index := Scalar.indexCast v5662
  let c0_3452 : Index := 0#32
  ![v5664.toNat, 0]

def k0_chk685 (v5662 : BitVec 32) : Prop :=
  (∀ a, (k0_off1459 v5662) a + S1x1024.size a ≤ S1032x1024.size a)
theorem k0_off1459_inb : ∀ (v5662 : BitVec 32) (k0_hw685 : k0_chk685 v5662), ∀ a, (k0_off1459 v5662) a + S1x1024.size a ≤ S1032x1024.size a := fun v5662 k0_hw685 => k0_hw685

def k0_off1460 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5668 : Index := Scalar.indexCast v5563
  let c13_3453 : Index := 13#32
  ![v5668.toNat, 13]
def k0_off1461 (v5669 : BitVec 32) : Fin 2 → Nat :=
  let v5671 : Index := Scalar.indexCast v5669
  let c0_3456 : Index := 0#32
  ![v5671.toNat, 0]

def k0_chk686 (v5669 : BitVec 32) : Prop :=
  (∀ a, (k0_off1461 v5669) a + S1x1024.size a ≤ S1032x1024.size a)
theorem k0_off1461_inb : ∀ (v5669 : BitVec 32) (k0_hw686 : k0_chk686 v5669), ∀ a, (k0_off1461 v5669) a + S1x1024.size a ≤ S1032x1024.size a := fun v5669 k0_hw686 => k0_hw686

def k0_off1462 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5675 : Index := Scalar.indexCast v5563
  let c14_3457 : Index := 14#32
  ![v5675.toNat, 14]
def k0_off1463 (v5676 : BitVec 32) : Fin 2 → Nat :=
  let v5678 : Index := Scalar.indexCast v5676
  let c0_3460 : Index := 0#32
  ![v5678.toNat, 0]

def k0_chk687 (v5676 : BitVec 32) : Prop :=
  (∀ a, (k0_off1463 v5676) a + S1x1024.size a ≤ S1032x1024.size a)
theorem k0_off1463_inb : ∀ (v5676 : BitVec 32) (k0_hw687 : k0_chk687 v5676), ∀ a, (k0_off1463 v5676) a + S1x1024.size a ≤ S1032x1024.size a := fun v5676 k0_hw687 => k0_hw687

def k0_off1464 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5682 : Index := Scalar.indexCast v5563
  let c15_3461 : Index := 15#32
  ![v5682.toNat, 15]
def k0_off1465 (v5683 : BitVec 32) : Fin 2 → Nat :=
  let v5685 : Index := Scalar.indexCast v5683
  let c0_3464 : Index := 0#32
  ![v5685.toNat, 0]

def k0_chk688 (v5683 : BitVec 32) : Prop :=
  (∀ a, (k0_off1465 v5683) a + S1x1024.size a ≤ S1032x1024.size a)
theorem k0_off1465_inb : ∀ (v5683 : BitVec 32) (k0_hw688 : k0_chk688 v5683), ∀ a, (k0_off1465 v5683) a + S1x1024.size a ≤ S1032x1024.size a := fun v5683 k0_hw688 => k0_hw688

def k0_off1466 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5689 : Index := Scalar.indexCast v5563
  let c16_3465 : Index := 16#32
  ![v5689.toNat, 16]
def k0_off1467 (v5690 : BitVec 32) : Fin 2 → Nat :=
  let v5692 : Index := Scalar.indexCast v5690
  let c0_3468 : Index := 0#32
  ![v5692.toNat, 0]

def k0_chk689 (v5690 : BitVec 32) : Prop :=
  (∀ a, (k0_off1467 v5690) a + S1x1024.size a ≤ S1032x1024.size a)
theorem k0_off1467_inb : ∀ (v5690 : BitVec 32) (k0_hw689 : k0_chk689 v5690), ∀ a, (k0_off1467 v5690) a + S1x1024.size a ≤ S1032x1024.size a := fun v5690 k0_hw689 => k0_hw689

def k0_off1468 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5696 : Index := Scalar.indexCast v5563
  let c17_3469 : Index := 17#32
  ![v5696.toNat, 17]
def k0_off1469 (v5697 : BitVec 32) : Fin 2 → Nat :=
  let v5699 : Index := Scalar.indexCast v5697
  let c0_3472 : Index := 0#32
  ![v5699.toNat, 0]

def k0_chk690 (v5697 : BitVec 32) : Prop :=
  (∀ a, (k0_off1469 v5697) a + S1x1024.size a ≤ S1032x1024.size a)
theorem k0_off1469_inb : ∀ (v5697 : BitVec 32) (k0_hw690 : k0_chk690 v5697), ∀ a, (k0_off1469 v5697) a + S1x1024.size a ≤ S1032x1024.size a := fun v5697 k0_hw690 => k0_hw690

def k0_off1470 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5703 : Index := Scalar.indexCast v5563
  let c18_3473 : Index := 18#32
  ![v5703.toNat, 18]
def k0_off1471 (v5704 : BitVec 32) : Fin 2 → Nat :=
  let v5706 : Index := Scalar.indexCast v5704
  let c0_3476 : Index := 0#32
  ![v5706.toNat, 0]

def k0_chk691 (v5704 : BitVec 32) : Prop :=
  (∀ a, (k0_off1471 v5704) a + S1x1024.size a ≤ S1032x1024.size a)
theorem k0_off1471_inb : ∀ (v5704 : BitVec 32) (k0_hw691 : k0_chk691 v5704), ∀ a, (k0_off1471 v5704) a + S1x1024.size a ≤ S1032x1024.size a := fun v5704 k0_hw691 => k0_hw691

def k0_off1472 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5710 : Index := Scalar.indexCast v5563
  let c19_3477 : Index := 19#32
  ![v5710.toNat, 19]
def k0_off1473 (v5711 : BitVec 32) : Fin 2 → Nat :=
  let v5713 : Index := Scalar.indexCast v5711
  let c0_3480 : Index := 0#32
  ![v5713.toNat, 0]

def k0_chk692 (v5711 : BitVec 32) : Prop :=
  (∀ a, (k0_off1473 v5711) a + S1x1024.size a ≤ S1032x1024.size a)
theorem k0_off1473_inb : ∀ (v5711 : BitVec 32) (k0_hw692 : k0_chk692 v5711), ∀ a, (k0_off1473 v5711) a + S1x1024.size a ≤ S1032x1024.size a := fun v5711 k0_hw692 => k0_hw692

def k0_off1474 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5717 : Index := Scalar.indexCast v5563
  let c20_3481 : Index := 20#32
  ![v5717.toNat, 20]
def k0_off1475 (v5718 : BitVec 32) : Fin 2 → Nat :=
  let v5720 : Index := Scalar.indexCast v5718
  let c0_3484 : Index := 0#32
  ![v5720.toNat, 0]

def k0_chk693 (v5718 : BitVec 32) : Prop :=
  (∀ a, (k0_off1475 v5718) a + S1x1024.size a ≤ S1032x1024.size a)
theorem k0_off1475_inb : ∀ (v5718 : BitVec 32) (k0_hw693 : k0_chk693 v5718), ∀ a, (k0_off1475 v5718) a + S1x1024.size a ≤ S1032x1024.size a := fun v5718 k0_hw693 => k0_hw693

def k0_off1476 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5724 : Index := Scalar.indexCast v5563
  let c21_3485 : Index := 21#32
  ![v5724.toNat, 21]
def k0_off1477 (v5725 : BitVec 32) : Fin 2 → Nat :=
  let v5727 : Index := Scalar.indexCast v5725
  let c0_3488 : Index := 0#32
  ![v5727.toNat, 0]

def k0_chk694 (v5725 : BitVec 32) : Prop :=
  (∀ a, (k0_off1477 v5725) a + S1x1024.size a ≤ S1032x1024.size a)
theorem k0_off1477_inb : ∀ (v5725 : BitVec 32) (k0_hw694 : k0_chk694 v5725), ∀ a, (k0_off1477 v5725) a + S1x1024.size a ≤ S1032x1024.size a := fun v5725 k0_hw694 => k0_hw694

def k0_off1478 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5731 : Index := Scalar.indexCast v5563
  let c22_3489 : Index := 22#32
  ![v5731.toNat, 22]
def k0_off1479 (v5732 : BitVec 32) : Fin 2 → Nat :=
  let v5734 : Index := Scalar.indexCast v5732
  let c0_3492 : Index := 0#32
  ![v5734.toNat, 0]

def k0_chk695 (v5732 : BitVec 32) : Prop :=
  (∀ a, (k0_off1479 v5732) a + S1x1024.size a ≤ S1032x1024.size a)
theorem k0_off1479_inb : ∀ (v5732 : BitVec 32) (k0_hw695 : k0_chk695 v5732), ∀ a, (k0_off1479 v5732) a + S1x1024.size a ≤ S1032x1024.size a := fun v5732 k0_hw695 => k0_hw695

def k0_off1480 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3388 : BitVec 32 := 27#32
  let v5561 : BitVec 32 := Scalar.subi v2 c27_i32_3388
  let c32_i32_3389 : BitVec 32 := 32#32
  let v5562 : BitVec 32 := Scalar.addi v5561 c32_i32_3389
  let c32_i32_3390 : BitVec 32 := 32#32
  let v5563 : BitVec 32 := Scalar.remsi v5562 c32_i32_3390
  let v5738 : Index := Scalar.indexCast v5563
  let c23_3493 : Index := 23#32
  ![v5738.toNat, 23]
def k0_off1481 (v5739 : BitVec 32) : Fin 2 → Nat :=
  let v5741 : Index := Scalar.indexCast v5739
  let c0_3496 : Index := 0#32
  ![v5741.toNat, 0]

def k0_chk696 (v5739 : BitVec 32) : Prop :=
  (∀ a, (k0_off1481 v5739) a + S1x1024.size a ≤ S1032x1024.size a)
theorem k0_off1481_inb : ∀ (v5739 : BitVec 32) (k0_hw696 : k0_chk696 v5739), ∀ a, (k0_off1481 v5739) a + S1x1024.size a ≤ S1032x1024.size a := fun v5739 k0_hw696 => k0_hw696

def k0_off1482 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  ![v5747.toNat]
def k0_off1483 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let c0_i32_3502 : BitVec 32 := 0#32
  let c0_i32_3503 : BitVec 32 := 0#32
  ![v5747.toNat, 0, 0]
def k0_off1484 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5754 : Index := Scalar.indexCast v5747
  let c0_3506 : Index := 0#32
  let c0_3507 : Index := 0#32
  ![v5754.toNat, 0, 0]
def k0_off1485 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5761 : Index := Scalar.indexCast v5747
  let c0_3510 : Index := 0#32
  ![v5761.toNat, 0]
def k0_off1486 (v5762 : BitVec 32) : Fin 2 → Nat :=
  let v5764 : Index := Scalar.indexCast v5762
  let c0_3513 : Index := 0#32
  ![v5764.toNat, 0]

def k0_chk697 (v5762 : BitVec 32) : Prop :=
  (∀ a, (k0_off1486 v5762) a + S1x1024.size a ≤ S1032x1024.size a)
theorem k0_off1486_inb : ∀ (v5762 : BitVec 32) (k0_hw697 : k0_chk697 v5762), ∀ a, (k0_off1486 v5762) a + S1x1024.size a ≤ S1032x1024.size a := fun v5762 k0_hw697 => k0_hw697

def k0_off1487 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5768 : Index := Scalar.indexCast v5747
  let c1_3514 : Index := 1#32
  ![v5768.toNat, 1]
def k0_off1488 (v5769 : BitVec 32) : Fin 2 → Nat :=
  let v5771 : Index := Scalar.indexCast v5769
  let c0_3517 : Index := 0#32
  ![v5771.toNat, 0]

def k0_chk698 (v5769 : BitVec 32) : Prop :=
  (∀ a, (k0_off1488 v5769) a + S1x1024.size a ≤ S1032x1024.size a)
theorem k0_off1488_inb : ∀ (v5769 : BitVec 32) (k0_hw698 : k0_chk698 v5769), ∀ a, (k0_off1488 v5769) a + S1x1024.size a ≤ S1032x1024.size a := fun v5769 k0_hw698 => k0_hw698

def k0_off1489 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5775 : Index := Scalar.indexCast v5747
  let c2_3518 : Index := 2#32
  ![v5775.toNat, 2]
def k0_off1490 (v5776 : BitVec 32) : Fin 2 → Nat :=
  let v5778 : Index := Scalar.indexCast v5776
  let c0_3521 : Index := 0#32
  ![v5778.toNat, 0]

def k0_chk699 (v5776 : BitVec 32) : Prop :=
  (∀ a, (k0_off1490 v5776) a + S1x1024.size a ≤ S1032x1024.size a)
theorem k0_off1490_inb : ∀ (v5776 : BitVec 32) (k0_hw699 : k0_chk699 v5776), ∀ a, (k0_off1490 v5776) a + S1x1024.size a ≤ S1032x1024.size a := fun v5776 k0_hw699 => k0_hw699

def k0_off1491 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5782 : Index := Scalar.indexCast v5747
  let c3_3522 : Index := 3#32
  ![v5782.toNat, 3]
def k0_off1492 (v5783 : BitVec 32) : Fin 2 → Nat :=
  let v5785 : Index := Scalar.indexCast v5783
  let c0_3525 : Index := 0#32
  ![v5785.toNat, 0]

def k0_chk700 (v5783 : BitVec 32) : Prop :=
  (∀ a, (k0_off1492 v5783) a + S1x1024.size a ≤ S1032x1024.size a)
theorem k0_off1492_inb : ∀ (v5783 : BitVec 32) (k0_hw700 : k0_chk700 v5783), ∀ a, (k0_off1492 v5783) a + S1x1024.size a ≤ S1032x1024.size a := fun v5783 k0_hw700 => k0_hw700

def k0_off1493 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5789 : Index := Scalar.indexCast v5747
  let c4_3526 : Index := 4#32
  ![v5789.toNat, 4]
def k0_off1494 (v5790 : BitVec 32) : Fin 2 → Nat :=
  let v5792 : Index := Scalar.indexCast v5790
  let c0_3529 : Index := 0#32
  ![v5792.toNat, 0]

def k0_chk701 (v5790 : BitVec 32) : Prop :=
  (∀ a, (k0_off1494 v5790) a + S1x1024.size a ≤ S1032x1024.size a)
theorem k0_off1494_inb : ∀ (v5790 : BitVec 32) (k0_hw701 : k0_chk701 v5790), ∀ a, (k0_off1494 v5790) a + S1x1024.size a ≤ S1032x1024.size a := fun v5790 k0_hw701 => k0_hw701

def k0_off1495 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5796 : Index := Scalar.indexCast v5747
  let c5_3530 : Index := 5#32
  ![v5796.toNat, 5]
def k0_off1496 (v5797 : BitVec 32) : Fin 2 → Nat :=
  let v5799 : Index := Scalar.indexCast v5797
  let c0_3533 : Index := 0#32
  ![v5799.toNat, 0]

def k0_chk702 (v5797 : BitVec 32) : Prop :=
  (∀ a, (k0_off1496 v5797) a + S1x1024.size a ≤ S1032x1024.size a)
theorem k0_off1496_inb : ∀ (v5797 : BitVec 32) (k0_hw702 : k0_chk702 v5797), ∀ a, (k0_off1496 v5797) a + S1x1024.size a ≤ S1032x1024.size a := fun v5797 k0_hw702 => k0_hw702

def k0_off1497 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5803 : Index := Scalar.indexCast v5747
  let c6_3534 : Index := 6#32
  ![v5803.toNat, 6]
def k0_off1498 (v5804 : BitVec 32) : Fin 2 → Nat :=
  let v5806 : Index := Scalar.indexCast v5804
  let c0_3537 : Index := 0#32
  ![v5806.toNat, 0]

def k0_chk703 (v5804 : BitVec 32) : Prop :=
  (∀ a, (k0_off1498 v5804) a + S1x1024.size a ≤ S1032x1024.size a)
theorem k0_off1498_inb : ∀ (v5804 : BitVec 32) (k0_hw703 : k0_chk703 v5804), ∀ a, (k0_off1498 v5804) a + S1x1024.size a ≤ S1032x1024.size a := fun v5804 k0_hw703 => k0_hw703

def k0_off1499 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5810 : Index := Scalar.indexCast v5747
  let c7_3538 : Index := 7#32
  ![v5810.toNat, 7]
def k0_off1500 (v5811 : BitVec 32) : Fin 2 → Nat :=
  let v5813 : Index := Scalar.indexCast v5811
  let c0_3541 : Index := 0#32
  ![v5813.toNat, 0]

def k0_chk704 (v5811 : BitVec 32) : Prop :=
  (∀ a, (k0_off1500 v5811) a + S1x1024.size a ≤ S1032x1024.size a)
theorem k0_off1500_inb : ∀ (v5811 : BitVec 32) (k0_hw704 : k0_chk704 v5811), ∀ a, (k0_off1500 v5811) a + S1x1024.size a ≤ S1032x1024.size a := fun v5811 k0_hw704 => k0_hw704

def k0_off1501 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5817 : Index := Scalar.indexCast v5747
  let c8_3542 : Index := 8#32
  ![v5817.toNat, 8]
def k0_off1502 (v5818 : BitVec 32) : Fin 2 → Nat :=
  let v5820 : Index := Scalar.indexCast v5818
  let c0_3545 : Index := 0#32
  ![v5820.toNat, 0]

def k0_chk705 (v5818 : BitVec 32) : Prop :=
  (∀ a, (k0_off1502 v5818) a + S1x1024.size a ≤ S1032x1024.size a)
theorem k0_off1502_inb : ∀ (v5818 : BitVec 32) (k0_hw705 : k0_chk705 v5818), ∀ a, (k0_off1502 v5818) a + S1x1024.size a ≤ S1032x1024.size a := fun v5818 k0_hw705 => k0_hw705

def k0_off1503 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5824 : Index := Scalar.indexCast v5747
  let c9_3546 : Index := 9#32
  ![v5824.toNat, 9]
def k0_off1504 (v5825 : BitVec 32) : Fin 2 → Nat :=
  let v5827 : Index := Scalar.indexCast v5825
  let c0_3549 : Index := 0#32
  ![v5827.toNat, 0]

def k0_chk706 (v5825 : BitVec 32) : Prop :=
  (∀ a, (k0_off1504 v5825) a + S1x1024.size a ≤ S1032x1024.size a)
theorem k0_off1504_inb : ∀ (v5825 : BitVec 32) (k0_hw706 : k0_chk706 v5825), ∀ a, (k0_off1504 v5825) a + S1x1024.size a ≤ S1032x1024.size a := fun v5825 k0_hw706 => k0_hw706

def k0_off1505 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5831 : Index := Scalar.indexCast v5747
  let c10_3550 : Index := 10#32
  ![v5831.toNat, 10]
def k0_off1506 (v5832 : BitVec 32) : Fin 2 → Nat :=
  let v5834 : Index := Scalar.indexCast v5832
  let c0_3553 : Index := 0#32
  ![v5834.toNat, 0]

def k0_chk707 (v5832 : BitVec 32) : Prop :=
  (∀ a, (k0_off1506 v5832) a + S1x1024.size a ≤ S1032x1024.size a)
theorem k0_off1506_inb : ∀ (v5832 : BitVec 32) (k0_hw707 : k0_chk707 v5832), ∀ a, (k0_off1506 v5832) a + S1x1024.size a ≤ S1032x1024.size a := fun v5832 k0_hw707 => k0_hw707

def k0_off1507 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5838 : Index := Scalar.indexCast v5747
  let c11_3554 : Index := 11#32
  ![v5838.toNat, 11]
def k0_off1508 (v5839 : BitVec 32) : Fin 2 → Nat :=
  let v5841 : Index := Scalar.indexCast v5839
  let c0_3557 : Index := 0#32
  ![v5841.toNat, 0]

def k0_chk708 (v5839 : BitVec 32) : Prop :=
  (∀ a, (k0_off1508 v5839) a + S1x1024.size a ≤ S1032x1024.size a)
theorem k0_off1508_inb : ∀ (v5839 : BitVec 32) (k0_hw708 : k0_chk708 v5839), ∀ a, (k0_off1508 v5839) a + S1x1024.size a ≤ S1032x1024.size a := fun v5839 k0_hw708 => k0_hw708

def k0_off1509 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5845 : Index := Scalar.indexCast v5747
  let c12_3558 : Index := 12#32
  ![v5845.toNat, 12]
def k0_off1510 (v5846 : BitVec 32) : Fin 2 → Nat :=
  let v5848 : Index := Scalar.indexCast v5846
  let c0_3561 : Index := 0#32
  ![v5848.toNat, 0]

def k0_chk709 (v5846 : BitVec 32) : Prop :=
  (∀ a, (k0_off1510 v5846) a + S1x1024.size a ≤ S1032x1024.size a)
theorem k0_off1510_inb : ∀ (v5846 : BitVec 32) (k0_hw709 : k0_chk709 v5846), ∀ a, (k0_off1510 v5846) a + S1x1024.size a ≤ S1032x1024.size a := fun v5846 k0_hw709 => k0_hw709

def k0_off1511 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5852 : Index := Scalar.indexCast v5747
  let c13_3562 : Index := 13#32
  ![v5852.toNat, 13]
def k0_off1512 (v5853 : BitVec 32) : Fin 2 → Nat :=
  let v5855 : Index := Scalar.indexCast v5853
  let c0_3565 : Index := 0#32
  ![v5855.toNat, 0]

def k0_chk710 (v5853 : BitVec 32) : Prop :=
  (∀ a, (k0_off1512 v5853) a + S1x1024.size a ≤ S1032x1024.size a)
theorem k0_off1512_inb : ∀ (v5853 : BitVec 32) (k0_hw710 : k0_chk710 v5853), ∀ a, (k0_off1512 v5853) a + S1x1024.size a ≤ S1032x1024.size a := fun v5853 k0_hw710 => k0_hw710

def k0_off1513 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5859 : Index := Scalar.indexCast v5747
  let c14_3566 : Index := 14#32
  ![v5859.toNat, 14]
def k0_off1514 (v5860 : BitVec 32) : Fin 2 → Nat :=
  let v5862 : Index := Scalar.indexCast v5860
  let c0_3569 : Index := 0#32
  ![v5862.toNat, 0]

def k0_chk711 (v5860 : BitVec 32) : Prop :=
  (∀ a, (k0_off1514 v5860) a + S1x1024.size a ≤ S1032x1024.size a)
theorem k0_off1514_inb : ∀ (v5860 : BitVec 32) (k0_hw711 : k0_chk711 v5860), ∀ a, (k0_off1514 v5860) a + S1x1024.size a ≤ S1032x1024.size a := fun v5860 k0_hw711 => k0_hw711

def k0_off1515 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5866 : Index := Scalar.indexCast v5747
  let c15_3570 : Index := 15#32
  ![v5866.toNat, 15]
def k0_off1516 (v5867 : BitVec 32) : Fin 2 → Nat :=
  let v5869 : Index := Scalar.indexCast v5867
  let c0_3573 : Index := 0#32
  ![v5869.toNat, 0]

def k0_chk712 (v5867 : BitVec 32) : Prop :=
  (∀ a, (k0_off1516 v5867) a + S1x1024.size a ≤ S1032x1024.size a)
theorem k0_off1516_inb : ∀ (v5867 : BitVec 32) (k0_hw712 : k0_chk712 v5867), ∀ a, (k0_off1516 v5867) a + S1x1024.size a ≤ S1032x1024.size a := fun v5867 k0_hw712 => k0_hw712

def k0_off1517 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5873 : Index := Scalar.indexCast v5747
  let c16_3574 : Index := 16#32
  ![v5873.toNat, 16]
def k0_off1518 (v5874 : BitVec 32) : Fin 2 → Nat :=
  let v5876 : Index := Scalar.indexCast v5874
  let c0_3577 : Index := 0#32
  ![v5876.toNat, 0]

def k0_chk713 (v5874 : BitVec 32) : Prop :=
  (∀ a, (k0_off1518 v5874) a + S1x1024.size a ≤ S1032x1024.size a)
theorem k0_off1518_inb : ∀ (v5874 : BitVec 32) (k0_hw713 : k0_chk713 v5874), ∀ a, (k0_off1518 v5874) a + S1x1024.size a ≤ S1032x1024.size a := fun v5874 k0_hw713 => k0_hw713

def k0_off1519 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5880 : Index := Scalar.indexCast v5747
  let c17_3578 : Index := 17#32
  ![v5880.toNat, 17]
def k0_off1520 (v5881 : BitVec 32) : Fin 2 → Nat :=
  let v5883 : Index := Scalar.indexCast v5881
  let c0_3581 : Index := 0#32
  ![v5883.toNat, 0]

def k0_chk714 (v5881 : BitVec 32) : Prop :=
  (∀ a, (k0_off1520 v5881) a + S1x1024.size a ≤ S1032x1024.size a)
theorem k0_off1520_inb : ∀ (v5881 : BitVec 32) (k0_hw714 : k0_chk714 v5881), ∀ a, (k0_off1520 v5881) a + S1x1024.size a ≤ S1032x1024.size a := fun v5881 k0_hw714 => k0_hw714

def k0_off1521 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5887 : Index := Scalar.indexCast v5747
  let c18_3582 : Index := 18#32
  ![v5887.toNat, 18]
def k0_off1522 (v5888 : BitVec 32) : Fin 2 → Nat :=
  let v5890 : Index := Scalar.indexCast v5888
  let c0_3585 : Index := 0#32
  ![v5890.toNat, 0]

def k0_chk715 (v5888 : BitVec 32) : Prop :=
  (∀ a, (k0_off1522 v5888) a + S1x1024.size a ≤ S1032x1024.size a)
theorem k0_off1522_inb : ∀ (v5888 : BitVec 32) (k0_hw715 : k0_chk715 v5888), ∀ a, (k0_off1522 v5888) a + S1x1024.size a ≤ S1032x1024.size a := fun v5888 k0_hw715 => k0_hw715

def k0_off1523 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5894 : Index := Scalar.indexCast v5747
  let c19_3586 : Index := 19#32
  ![v5894.toNat, 19]
def k0_off1524 (v5895 : BitVec 32) : Fin 2 → Nat :=
  let v5897 : Index := Scalar.indexCast v5895
  let c0_3589 : Index := 0#32
  ![v5897.toNat, 0]

def k0_chk716 (v5895 : BitVec 32) : Prop :=
  (∀ a, (k0_off1524 v5895) a + S1x1024.size a ≤ S1032x1024.size a)
theorem k0_off1524_inb : ∀ (v5895 : BitVec 32) (k0_hw716 : k0_chk716 v5895), ∀ a, (k0_off1524 v5895) a + S1x1024.size a ≤ S1032x1024.size a := fun v5895 k0_hw716 => k0_hw716

def k0_off1525 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5901 : Index := Scalar.indexCast v5747
  let c20_3590 : Index := 20#32
  ![v5901.toNat, 20]
def k0_off1526 (v5902 : BitVec 32) : Fin 2 → Nat :=
  let v5904 : Index := Scalar.indexCast v5902
  let c0_3593 : Index := 0#32
  ![v5904.toNat, 0]

def k0_chk717 (v5902 : BitVec 32) : Prop :=
  (∀ a, (k0_off1526 v5902) a + S1x1024.size a ≤ S1032x1024.size a)
theorem k0_off1526_inb : ∀ (v5902 : BitVec 32) (k0_hw717 : k0_chk717 v5902), ∀ a, (k0_off1526 v5902) a + S1x1024.size a ≤ S1032x1024.size a := fun v5902 k0_hw717 => k0_hw717

def k0_off1527 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5908 : Index := Scalar.indexCast v5747
  let c21_3594 : Index := 21#32
  ![v5908.toNat, 21]
def k0_off1528 (v5909 : BitVec 32) : Fin 2 → Nat :=
  let v5911 : Index := Scalar.indexCast v5909
  let c0_3597 : Index := 0#32
  ![v5911.toNat, 0]

def k0_chk718 (v5909 : BitVec 32) : Prop :=
  (∀ a, (k0_off1528 v5909) a + S1x1024.size a ≤ S1032x1024.size a)
theorem k0_off1528_inb : ∀ (v5909 : BitVec 32) (k0_hw718 : k0_chk718 v5909), ∀ a, (k0_off1528 v5909) a + S1x1024.size a ≤ S1032x1024.size a := fun v5909 k0_hw718 => k0_hw718

def k0_off1529 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5915 : Index := Scalar.indexCast v5747
  let c22_3598 : Index := 22#32
  ![v5915.toNat, 22]
def k0_off1530 (v5916 : BitVec 32) : Fin 2 → Nat :=
  let v5918 : Index := Scalar.indexCast v5916
  let c0_3601 : Index := 0#32
  ![v5918.toNat, 0]

def k0_chk719 (v5916 : BitVec 32) : Prop :=
  (∀ a, (k0_off1530 v5916) a + S1x1024.size a ≤ S1032x1024.size a)
theorem k0_off1530_inb : ∀ (v5916 : BitVec 32) (k0_hw719 : k0_chk719 v5916), ∀ a, (k0_off1530 v5916) a + S1x1024.size a ≤ S1032x1024.size a := fun v5916 k0_hw719 => k0_hw719

def k0_off1531 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3497 : BitVec 32 := 28#32
  let v5745 : BitVec 32 := Scalar.subi v2 c28_i32_3497
  let c32_i32_3498 : BitVec 32 := 32#32
  let v5746 : BitVec 32 := Scalar.addi v5745 c32_i32_3498
  let c32_i32_3499 : BitVec 32 := 32#32
  let v5747 : BitVec 32 := Scalar.remsi v5746 c32_i32_3499
  let v5922 : Index := Scalar.indexCast v5747
  let c23_3602 : Index := 23#32
  ![v5922.toNat, 23]
def k0_off1532 (v5923 : BitVec 32) : Fin 2 → Nat :=
  let v5925 : Index := Scalar.indexCast v5923
  let c0_3605 : Index := 0#32
  ![v5925.toNat, 0]

def k0_chk720 (v5923 : BitVec 32) : Prop :=
  (∀ a, (k0_off1532 v5923) a + S1x1024.size a ≤ S1032x1024.size a)
theorem k0_off1532_inb : ∀ (v5923 : BitVec 32) (k0_hw720 : k0_chk720 v5923), ∀ a, (k0_off1532 v5923) a + S1x1024.size a ≤ S1032x1024.size a := fun v5923 k0_hw720 => k0_hw720

def k0_off1533 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  ![v5931.toNat]
def k0_off1534 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let c0_i32_3611 : BitVec 32 := 0#32
  let c0_i32_3612 : BitVec 32 := 0#32
  ![v5931.toNat, 0, 0]
def k0_off1535 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v5938 : Index := Scalar.indexCast v5931
  let c0_3615 : Index := 0#32
  let c0_3616 : Index := 0#32
  ![v5938.toNat, 0, 0]
def k0_off1536 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v5945 : Index := Scalar.indexCast v5931
  let c0_3619 : Index := 0#32
  ![v5945.toNat, 0]
def k0_off1537 (v5946 : BitVec 32) : Fin 2 → Nat :=
  let v5948 : Index := Scalar.indexCast v5946
  let c0_3622 : Index := 0#32
  ![v5948.toNat, 0]

def k0_chk721 (v5946 : BitVec 32) : Prop :=
  (∀ a, (k0_off1537 v5946) a + S1x1024.size a ≤ S1032x1024.size a)
theorem k0_off1537_inb : ∀ (v5946 : BitVec 32) (k0_hw721 : k0_chk721 v5946), ∀ a, (k0_off1537 v5946) a + S1x1024.size a ≤ S1032x1024.size a := fun v5946 k0_hw721 => k0_hw721

def k0_off1538 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v5952 : Index := Scalar.indexCast v5931
  let c1_3623 : Index := 1#32
  ![v5952.toNat, 1]
def k0_off1539 (v5953 : BitVec 32) : Fin 2 → Nat :=
  let v5955 : Index := Scalar.indexCast v5953
  let c0_3626 : Index := 0#32
  ![v5955.toNat, 0]

def k0_chk722 (v5953 : BitVec 32) : Prop :=
  (∀ a, (k0_off1539 v5953) a + S1x1024.size a ≤ S1032x1024.size a)
theorem k0_off1539_inb : ∀ (v5953 : BitVec 32) (k0_hw722 : k0_chk722 v5953), ∀ a, (k0_off1539 v5953) a + S1x1024.size a ≤ S1032x1024.size a := fun v5953 k0_hw722 => k0_hw722

def k0_off1540 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v5959 : Index := Scalar.indexCast v5931
  let c2_3627 : Index := 2#32
  ![v5959.toNat, 2]
def k0_off1541 (v5960 : BitVec 32) : Fin 2 → Nat :=
  let v5962 : Index := Scalar.indexCast v5960
  let c0_3630 : Index := 0#32
  ![v5962.toNat, 0]

def k0_chk723 (v5960 : BitVec 32) : Prop :=
  (∀ a, (k0_off1541 v5960) a + S1x1024.size a ≤ S1032x1024.size a)
theorem k0_off1541_inb : ∀ (v5960 : BitVec 32) (k0_hw723 : k0_chk723 v5960), ∀ a, (k0_off1541 v5960) a + S1x1024.size a ≤ S1032x1024.size a := fun v5960 k0_hw723 => k0_hw723

def k0_off1542 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v5966 : Index := Scalar.indexCast v5931
  let c3_3631 : Index := 3#32
  ![v5966.toNat, 3]
def k0_off1543 (v5967 : BitVec 32) : Fin 2 → Nat :=
  let v5969 : Index := Scalar.indexCast v5967
  let c0_3634 : Index := 0#32
  ![v5969.toNat, 0]

def k0_chk724 (v5967 : BitVec 32) : Prop :=
  (∀ a, (k0_off1543 v5967) a + S1x1024.size a ≤ S1032x1024.size a)
theorem k0_off1543_inb : ∀ (v5967 : BitVec 32) (k0_hw724 : k0_chk724 v5967), ∀ a, (k0_off1543 v5967) a + S1x1024.size a ≤ S1032x1024.size a := fun v5967 k0_hw724 => k0_hw724

def k0_off1544 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v5973 : Index := Scalar.indexCast v5931
  let c4_3635 : Index := 4#32
  ![v5973.toNat, 4]
def k0_off1545 (v5974 : BitVec 32) : Fin 2 → Nat :=
  let v5976 : Index := Scalar.indexCast v5974
  let c0_3638 : Index := 0#32
  ![v5976.toNat, 0]

def k0_chk725 (v5974 : BitVec 32) : Prop :=
  (∀ a, (k0_off1545 v5974) a + S1x1024.size a ≤ S1032x1024.size a)
theorem k0_off1545_inb : ∀ (v5974 : BitVec 32) (k0_hw725 : k0_chk725 v5974), ∀ a, (k0_off1545 v5974) a + S1x1024.size a ≤ S1032x1024.size a := fun v5974 k0_hw725 => k0_hw725

def k0_off1546 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v5980 : Index := Scalar.indexCast v5931
  let c5_3639 : Index := 5#32
  ![v5980.toNat, 5]
def k0_off1547 (v5981 : BitVec 32) : Fin 2 → Nat :=
  let v5983 : Index := Scalar.indexCast v5981
  let c0_3642 : Index := 0#32
  ![v5983.toNat, 0]

def k0_chk726 (v5981 : BitVec 32) : Prop :=
  (∀ a, (k0_off1547 v5981) a + S1x1024.size a ≤ S1032x1024.size a)
theorem k0_off1547_inb : ∀ (v5981 : BitVec 32) (k0_hw726 : k0_chk726 v5981), ∀ a, (k0_off1547 v5981) a + S1x1024.size a ≤ S1032x1024.size a := fun v5981 k0_hw726 => k0_hw726

def k0_off1548 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v5987 : Index := Scalar.indexCast v5931
  let c6_3643 : Index := 6#32
  ![v5987.toNat, 6]
def k0_off1549 (v5988 : BitVec 32) : Fin 2 → Nat :=
  let v5990 : Index := Scalar.indexCast v5988
  let c0_3646 : Index := 0#32
  ![v5990.toNat, 0]

def k0_chk727 (v5988 : BitVec 32) : Prop :=
  (∀ a, (k0_off1549 v5988) a + S1x1024.size a ≤ S1032x1024.size a)
theorem k0_off1549_inb : ∀ (v5988 : BitVec 32) (k0_hw727 : k0_chk727 v5988), ∀ a, (k0_off1549 v5988) a + S1x1024.size a ≤ S1032x1024.size a := fun v5988 k0_hw727 => k0_hw727

def k0_off1550 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v5994 : Index := Scalar.indexCast v5931
  let c7_3647 : Index := 7#32
  ![v5994.toNat, 7]
def k0_off1551 (v5995 : BitVec 32) : Fin 2 → Nat :=
  let v5997 : Index := Scalar.indexCast v5995
  let c0_3650 : Index := 0#32
  ![v5997.toNat, 0]

def k0_chk728 (v5995 : BitVec 32) : Prop :=
  (∀ a, (k0_off1551 v5995) a + S1x1024.size a ≤ S1032x1024.size a)
theorem k0_off1551_inb : ∀ (v5995 : BitVec 32) (k0_hw728 : k0_chk728 v5995), ∀ a, (k0_off1551 v5995) a + S1x1024.size a ≤ S1032x1024.size a := fun v5995 k0_hw728 => k0_hw728

def k0_off1552 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v6001 : Index := Scalar.indexCast v5931
  let c8_3651 : Index := 8#32
  ![v6001.toNat, 8]
def k0_off1553 (v6002 : BitVec 32) : Fin 2 → Nat :=
  let v6004 : Index := Scalar.indexCast v6002
  let c0_3654 : Index := 0#32
  ![v6004.toNat, 0]

def k0_chk729 (v6002 : BitVec 32) : Prop :=
  (∀ a, (k0_off1553 v6002) a + S1x1024.size a ≤ S1032x1024.size a)
theorem k0_off1553_inb : ∀ (v6002 : BitVec 32) (k0_hw729 : k0_chk729 v6002), ∀ a, (k0_off1553 v6002) a + S1x1024.size a ≤ S1032x1024.size a := fun v6002 k0_hw729 => k0_hw729

def k0_off1554 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v6008 : Index := Scalar.indexCast v5931
  let c9_3655 : Index := 9#32
  ![v6008.toNat, 9]
def k0_off1555 (v6009 : BitVec 32) : Fin 2 → Nat :=
  let v6011 : Index := Scalar.indexCast v6009
  let c0_3658 : Index := 0#32
  ![v6011.toNat, 0]

def k0_chk730 (v6009 : BitVec 32) : Prop :=
  (∀ a, (k0_off1555 v6009) a + S1x1024.size a ≤ S1032x1024.size a)
theorem k0_off1555_inb : ∀ (v6009 : BitVec 32) (k0_hw730 : k0_chk730 v6009), ∀ a, (k0_off1555 v6009) a + S1x1024.size a ≤ S1032x1024.size a := fun v6009 k0_hw730 => k0_hw730

def k0_off1556 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v6015 : Index := Scalar.indexCast v5931
  let c10_3659 : Index := 10#32
  ![v6015.toNat, 10]
def k0_off1557 (v6016 : BitVec 32) : Fin 2 → Nat :=
  let v6018 : Index := Scalar.indexCast v6016
  let c0_3662 : Index := 0#32
  ![v6018.toNat, 0]

def k0_chk731 (v6016 : BitVec 32) : Prop :=
  (∀ a, (k0_off1557 v6016) a + S1x1024.size a ≤ S1032x1024.size a)
theorem k0_off1557_inb : ∀ (v6016 : BitVec 32) (k0_hw731 : k0_chk731 v6016), ∀ a, (k0_off1557 v6016) a + S1x1024.size a ≤ S1032x1024.size a := fun v6016 k0_hw731 => k0_hw731

def k0_off1558 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v6022 : Index := Scalar.indexCast v5931
  let c11_3663 : Index := 11#32
  ![v6022.toNat, 11]
def k0_off1559 (v6023 : BitVec 32) : Fin 2 → Nat :=
  let v6025 : Index := Scalar.indexCast v6023
  let c0_3666 : Index := 0#32
  ![v6025.toNat, 0]

def k0_chk732 (v6023 : BitVec 32) : Prop :=
  (∀ a, (k0_off1559 v6023) a + S1x1024.size a ≤ S1032x1024.size a)
theorem k0_off1559_inb : ∀ (v6023 : BitVec 32) (k0_hw732 : k0_chk732 v6023), ∀ a, (k0_off1559 v6023) a + S1x1024.size a ≤ S1032x1024.size a := fun v6023 k0_hw732 => k0_hw732

def k0_off1560 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v6029 : Index := Scalar.indexCast v5931
  let c12_3667 : Index := 12#32
  ![v6029.toNat, 12]
def k0_off1561 (v6030 : BitVec 32) : Fin 2 → Nat :=
  let v6032 : Index := Scalar.indexCast v6030
  let c0_3670 : Index := 0#32
  ![v6032.toNat, 0]

def k0_chk733 (v6030 : BitVec 32) : Prop :=
  (∀ a, (k0_off1561 v6030) a + S1x1024.size a ≤ S1032x1024.size a)
theorem k0_off1561_inb : ∀ (v6030 : BitVec 32) (k0_hw733 : k0_chk733 v6030), ∀ a, (k0_off1561 v6030) a + S1x1024.size a ≤ S1032x1024.size a := fun v6030 k0_hw733 => k0_hw733

def k0_off1562 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v6036 : Index := Scalar.indexCast v5931
  let c13_3671 : Index := 13#32
  ![v6036.toNat, 13]
def k0_off1563 (v6037 : BitVec 32) : Fin 2 → Nat :=
  let v6039 : Index := Scalar.indexCast v6037
  let c0_3674 : Index := 0#32
  ![v6039.toNat, 0]

def k0_chk734 (v6037 : BitVec 32) : Prop :=
  (∀ a, (k0_off1563 v6037) a + S1x1024.size a ≤ S1032x1024.size a)
theorem k0_off1563_inb : ∀ (v6037 : BitVec 32) (k0_hw734 : k0_chk734 v6037), ∀ a, (k0_off1563 v6037) a + S1x1024.size a ≤ S1032x1024.size a := fun v6037 k0_hw734 => k0_hw734

def k0_off1564 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v6043 : Index := Scalar.indexCast v5931
  let c14_3675 : Index := 14#32
  ![v6043.toNat, 14]
def k0_off1565 (v6044 : BitVec 32) : Fin 2 → Nat :=
  let v6046 : Index := Scalar.indexCast v6044
  let c0_3678 : Index := 0#32
  ![v6046.toNat, 0]

def k0_chk735 (v6044 : BitVec 32) : Prop :=
  (∀ a, (k0_off1565 v6044) a + S1x1024.size a ≤ S1032x1024.size a)
theorem k0_off1565_inb : ∀ (v6044 : BitVec 32) (k0_hw735 : k0_chk735 v6044), ∀ a, (k0_off1565 v6044) a + S1x1024.size a ≤ S1032x1024.size a := fun v6044 k0_hw735 => k0_hw735

def k0_off1566 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v6050 : Index := Scalar.indexCast v5931
  let c15_3679 : Index := 15#32
  ![v6050.toNat, 15]
def k0_off1567 (v6051 : BitVec 32) : Fin 2 → Nat :=
  let v6053 : Index := Scalar.indexCast v6051
  let c0_3682 : Index := 0#32
  ![v6053.toNat, 0]

def k0_chk736 (v6051 : BitVec 32) : Prop :=
  (∀ a, (k0_off1567 v6051) a + S1x1024.size a ≤ S1032x1024.size a)
theorem k0_off1567_inb : ∀ (v6051 : BitVec 32) (k0_hw736 : k0_chk736 v6051), ∀ a, (k0_off1567 v6051) a + S1x1024.size a ≤ S1032x1024.size a := fun v6051 k0_hw736 => k0_hw736

def k0_off1568 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v6057 : Index := Scalar.indexCast v5931
  let c16_3683 : Index := 16#32
  ![v6057.toNat, 16]
def k0_off1569 (v6058 : BitVec 32) : Fin 2 → Nat :=
  let v6060 : Index := Scalar.indexCast v6058
  let c0_3686 : Index := 0#32
  ![v6060.toNat, 0]

def k0_chk737 (v6058 : BitVec 32) : Prop :=
  (∀ a, (k0_off1569 v6058) a + S1x1024.size a ≤ S1032x1024.size a)
theorem k0_off1569_inb : ∀ (v6058 : BitVec 32) (k0_hw737 : k0_chk737 v6058), ∀ a, (k0_off1569 v6058) a + S1x1024.size a ≤ S1032x1024.size a := fun v6058 k0_hw737 => k0_hw737

def k0_off1570 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v6064 : Index := Scalar.indexCast v5931
  let c17_3687 : Index := 17#32
  ![v6064.toNat, 17]
def k0_off1571 (v6065 : BitVec 32) : Fin 2 → Nat :=
  let v6067 : Index := Scalar.indexCast v6065
  let c0_3690 : Index := 0#32
  ![v6067.toNat, 0]

def k0_chk738 (v6065 : BitVec 32) : Prop :=
  (∀ a, (k0_off1571 v6065) a + S1x1024.size a ≤ S1032x1024.size a)
theorem k0_off1571_inb : ∀ (v6065 : BitVec 32) (k0_hw738 : k0_chk738 v6065), ∀ a, (k0_off1571 v6065) a + S1x1024.size a ≤ S1032x1024.size a := fun v6065 k0_hw738 => k0_hw738

def k0_off1572 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v6071 : Index := Scalar.indexCast v5931
  let c18_3691 : Index := 18#32
  ![v6071.toNat, 18]
def k0_off1573 (v6072 : BitVec 32) : Fin 2 → Nat :=
  let v6074 : Index := Scalar.indexCast v6072
  let c0_3694 : Index := 0#32
  ![v6074.toNat, 0]

def k0_chk739 (v6072 : BitVec 32) : Prop :=
  (∀ a, (k0_off1573 v6072) a + S1x1024.size a ≤ S1032x1024.size a)
theorem k0_off1573_inb : ∀ (v6072 : BitVec 32) (k0_hw739 : k0_chk739 v6072), ∀ a, (k0_off1573 v6072) a + S1x1024.size a ≤ S1032x1024.size a := fun v6072 k0_hw739 => k0_hw739

def k0_off1574 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v6078 : Index := Scalar.indexCast v5931
  let c19_3695 : Index := 19#32
  ![v6078.toNat, 19]
def k0_off1575 (v6079 : BitVec 32) : Fin 2 → Nat :=
  let v6081 : Index := Scalar.indexCast v6079
  let c0_3698 : Index := 0#32
  ![v6081.toNat, 0]

def k0_chk740 (v6079 : BitVec 32) : Prop :=
  (∀ a, (k0_off1575 v6079) a + S1x1024.size a ≤ S1032x1024.size a)
theorem k0_off1575_inb : ∀ (v6079 : BitVec 32) (k0_hw740 : k0_chk740 v6079), ∀ a, (k0_off1575 v6079) a + S1x1024.size a ≤ S1032x1024.size a := fun v6079 k0_hw740 => k0_hw740

def k0_off1576 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v6085 : Index := Scalar.indexCast v5931
  let c20_3699 : Index := 20#32
  ![v6085.toNat, 20]
def k0_off1577 (v6086 : BitVec 32) : Fin 2 → Nat :=
  let v6088 : Index := Scalar.indexCast v6086
  let c0_3702 : Index := 0#32
  ![v6088.toNat, 0]

def k0_chk741 (v6086 : BitVec 32) : Prop :=
  (∀ a, (k0_off1577 v6086) a + S1x1024.size a ≤ S1032x1024.size a)
theorem k0_off1577_inb : ∀ (v6086 : BitVec 32) (k0_hw741 : k0_chk741 v6086), ∀ a, (k0_off1577 v6086) a + S1x1024.size a ≤ S1032x1024.size a := fun v6086 k0_hw741 => k0_hw741

def k0_off1578 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v6092 : Index := Scalar.indexCast v5931
  let c21_3703 : Index := 21#32
  ![v6092.toNat, 21]
def k0_off1579 (v6093 : BitVec 32) : Fin 2 → Nat :=
  let v6095 : Index := Scalar.indexCast v6093
  let c0_3706 : Index := 0#32
  ![v6095.toNat, 0]

def k0_chk742 (v6093 : BitVec 32) : Prop :=
  (∀ a, (k0_off1579 v6093) a + S1x1024.size a ≤ S1032x1024.size a)
theorem k0_off1579_inb : ∀ (v6093 : BitVec 32) (k0_hw742 : k0_chk742 v6093), ∀ a, (k0_off1579 v6093) a + S1x1024.size a ≤ S1032x1024.size a := fun v6093 k0_hw742 => k0_hw742

def k0_off1580 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v6099 : Index := Scalar.indexCast v5931
  let c22_3707 : Index := 22#32
  ![v6099.toNat, 22]
def k0_off1581 (v6100 : BitVec 32) : Fin 2 → Nat :=
  let v6102 : Index := Scalar.indexCast v6100
  let c0_3710 : Index := 0#32
  ![v6102.toNat, 0]

def k0_chk743 (v6100 : BitVec 32) : Prop :=
  (∀ a, (k0_off1581 v6100) a + S1x1024.size a ≤ S1032x1024.size a)
theorem k0_off1581_inb : ∀ (v6100 : BitVec 32) (k0_hw743 : k0_chk743 v6100), ∀ a, (k0_off1581 v6100) a + S1x1024.size a ≤ S1032x1024.size a := fun v6100 k0_hw743 => k0_hw743

def k0_off1582 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3606 : BitVec 32 := 29#32
  let v5929 : BitVec 32 := Scalar.subi v2 c29_i32_3606
  let c32_i32_3607 : BitVec 32 := 32#32
  let v5930 : BitVec 32 := Scalar.addi v5929 c32_i32_3607
  let c32_i32_3608 : BitVec 32 := 32#32
  let v5931 : BitVec 32 := Scalar.remsi v5930 c32_i32_3608
  let v6106 : Index := Scalar.indexCast v5931
  let c23_3711 : Index := 23#32
  ![v6106.toNat, 23]
def k0_off1583 (v6107 : BitVec 32) : Fin 2 → Nat :=
  let v6109 : Index := Scalar.indexCast v6107
  let c0_3714 : Index := 0#32
  ![v6109.toNat, 0]

def k0_chk744 (v6107 : BitVec 32) : Prop :=
  (∀ a, (k0_off1583 v6107) a + S1x1024.size a ≤ S1032x1024.size a)
theorem k0_off1583_inb : ∀ (v6107 : BitVec 32) (k0_hw744 : k0_chk744 v6107), ∀ a, (k0_off1583 v6107) a + S1x1024.size a ≤ S1032x1024.size a := fun v6107 k0_hw744 => k0_hw744

def k0_off1584 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  ![v6115.toNat]
def k0_off1585 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let c0_i32_3720 : BitVec 32 := 0#32
  let c0_i32_3721 : BitVec 32 := 0#32
  ![v6115.toNat, 0, 0]
def k0_off1586 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6122 : Index := Scalar.indexCast v6115
  let c0_3724 : Index := 0#32
  let c0_3725 : Index := 0#32
  ![v6122.toNat, 0, 0]
def k0_off1587 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6129 : Index := Scalar.indexCast v6115
  let c0_3728 : Index := 0#32
  ![v6129.toNat, 0]
def k0_off1588 (v6130 : BitVec 32) : Fin 2 → Nat :=
  let v6132 : Index := Scalar.indexCast v6130
  let c0_3731 : Index := 0#32
  ![v6132.toNat, 0]

def k0_chk745 (v6130 : BitVec 32) : Prop :=
  (∀ a, (k0_off1588 v6130) a + S1x1024.size a ≤ S1032x1024.size a)
theorem k0_off1588_inb : ∀ (v6130 : BitVec 32) (k0_hw745 : k0_chk745 v6130), ∀ a, (k0_off1588 v6130) a + S1x1024.size a ≤ S1032x1024.size a := fun v6130 k0_hw745 => k0_hw745

def k0_off1589 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6136 : Index := Scalar.indexCast v6115
  let c1_3732 : Index := 1#32
  ![v6136.toNat, 1]
def k0_off1590 (v6137 : BitVec 32) : Fin 2 → Nat :=
  let v6139 : Index := Scalar.indexCast v6137
  let c0_3735 : Index := 0#32
  ![v6139.toNat, 0]

def k0_chk746 (v6137 : BitVec 32) : Prop :=
  (∀ a, (k0_off1590 v6137) a + S1x1024.size a ≤ S1032x1024.size a)
theorem k0_off1590_inb : ∀ (v6137 : BitVec 32) (k0_hw746 : k0_chk746 v6137), ∀ a, (k0_off1590 v6137) a + S1x1024.size a ≤ S1032x1024.size a := fun v6137 k0_hw746 => k0_hw746

def k0_off1591 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6143 : Index := Scalar.indexCast v6115
  let c2_3736 : Index := 2#32
  ![v6143.toNat, 2]
def k0_off1592 (v6144 : BitVec 32) : Fin 2 → Nat :=
  let v6146 : Index := Scalar.indexCast v6144
  let c0_3739 : Index := 0#32
  ![v6146.toNat, 0]

def k0_chk747 (v6144 : BitVec 32) : Prop :=
  (∀ a, (k0_off1592 v6144) a + S1x1024.size a ≤ S1032x1024.size a)
theorem k0_off1592_inb : ∀ (v6144 : BitVec 32) (k0_hw747 : k0_chk747 v6144), ∀ a, (k0_off1592 v6144) a + S1x1024.size a ≤ S1032x1024.size a := fun v6144 k0_hw747 => k0_hw747

def k0_off1593 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6150 : Index := Scalar.indexCast v6115
  let c3_3740 : Index := 3#32
  ![v6150.toNat, 3]
def k0_off1594 (v6151 : BitVec 32) : Fin 2 → Nat :=
  let v6153 : Index := Scalar.indexCast v6151
  let c0_3743 : Index := 0#32
  ![v6153.toNat, 0]

def k0_chk748 (v6151 : BitVec 32) : Prop :=
  (∀ a, (k0_off1594 v6151) a + S1x1024.size a ≤ S1032x1024.size a)
theorem k0_off1594_inb : ∀ (v6151 : BitVec 32) (k0_hw748 : k0_chk748 v6151), ∀ a, (k0_off1594 v6151) a + S1x1024.size a ≤ S1032x1024.size a := fun v6151 k0_hw748 => k0_hw748

def k0_off1595 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6157 : Index := Scalar.indexCast v6115
  let c4_3744 : Index := 4#32
  ![v6157.toNat, 4]
def k0_off1596 (v6158 : BitVec 32) : Fin 2 → Nat :=
  let v6160 : Index := Scalar.indexCast v6158
  let c0_3747 : Index := 0#32
  ![v6160.toNat, 0]

def k0_chk749 (v6158 : BitVec 32) : Prop :=
  (∀ a, (k0_off1596 v6158) a + S1x1024.size a ≤ S1032x1024.size a)
theorem k0_off1596_inb : ∀ (v6158 : BitVec 32) (k0_hw749 : k0_chk749 v6158), ∀ a, (k0_off1596 v6158) a + S1x1024.size a ≤ S1032x1024.size a := fun v6158 k0_hw749 => k0_hw749

def k0_off1597 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6164 : Index := Scalar.indexCast v6115
  let c5_3748 : Index := 5#32
  ![v6164.toNat, 5]
def k0_off1598 (v6165 : BitVec 32) : Fin 2 → Nat :=
  let v6167 : Index := Scalar.indexCast v6165
  let c0_3751 : Index := 0#32
  ![v6167.toNat, 0]

def k0_chk750 (v6165 : BitVec 32) : Prop :=
  (∀ a, (k0_off1598 v6165) a + S1x1024.size a ≤ S1032x1024.size a)
theorem k0_off1598_inb : ∀ (v6165 : BitVec 32) (k0_hw750 : k0_chk750 v6165), ∀ a, (k0_off1598 v6165) a + S1x1024.size a ≤ S1032x1024.size a := fun v6165 k0_hw750 => k0_hw750

def k0_off1599 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6171 : Index := Scalar.indexCast v6115
  let c6_3752 : Index := 6#32
  ![v6171.toNat, 6]
def k0_off1600 (v6172 : BitVec 32) : Fin 2 → Nat :=
  let v6174 : Index := Scalar.indexCast v6172
  let c0_3755 : Index := 0#32
  ![v6174.toNat, 0]

def k0_chk751 (v6172 : BitVec 32) : Prop :=
  (∀ a, (k0_off1600 v6172) a + S1x1024.size a ≤ S1032x1024.size a)
theorem k0_off1600_inb : ∀ (v6172 : BitVec 32) (k0_hw751 : k0_chk751 v6172), ∀ a, (k0_off1600 v6172) a + S1x1024.size a ≤ S1032x1024.size a := fun v6172 k0_hw751 => k0_hw751

def k0_off1601 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6178 : Index := Scalar.indexCast v6115
  let c7_3756 : Index := 7#32
  ![v6178.toNat, 7]
def k0_off1602 (v6179 : BitVec 32) : Fin 2 → Nat :=
  let v6181 : Index := Scalar.indexCast v6179
  let c0_3759 : Index := 0#32
  ![v6181.toNat, 0]

def k0_chk752 (v6179 : BitVec 32) : Prop :=
  (∀ a, (k0_off1602 v6179) a + S1x1024.size a ≤ S1032x1024.size a)
theorem k0_off1602_inb : ∀ (v6179 : BitVec 32) (k0_hw752 : k0_chk752 v6179), ∀ a, (k0_off1602 v6179) a + S1x1024.size a ≤ S1032x1024.size a := fun v6179 k0_hw752 => k0_hw752

def k0_off1603 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6185 : Index := Scalar.indexCast v6115
  let c8_3760 : Index := 8#32
  ![v6185.toNat, 8]
def k0_off1604 (v6186 : BitVec 32) : Fin 2 → Nat :=
  let v6188 : Index := Scalar.indexCast v6186
  let c0_3763 : Index := 0#32
  ![v6188.toNat, 0]

def k0_chk753 (v6186 : BitVec 32) : Prop :=
  (∀ a, (k0_off1604 v6186) a + S1x1024.size a ≤ S1032x1024.size a)
theorem k0_off1604_inb : ∀ (v6186 : BitVec 32) (k0_hw753 : k0_chk753 v6186), ∀ a, (k0_off1604 v6186) a + S1x1024.size a ≤ S1032x1024.size a := fun v6186 k0_hw753 => k0_hw753

def k0_off1605 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6192 : Index := Scalar.indexCast v6115
  let c9_3764 : Index := 9#32
  ![v6192.toNat, 9]
def k0_off1606 (v6193 : BitVec 32) : Fin 2 → Nat :=
  let v6195 : Index := Scalar.indexCast v6193
  let c0_3767 : Index := 0#32
  ![v6195.toNat, 0]

def k0_chk754 (v6193 : BitVec 32) : Prop :=
  (∀ a, (k0_off1606 v6193) a + S1x1024.size a ≤ S1032x1024.size a)
theorem k0_off1606_inb : ∀ (v6193 : BitVec 32) (k0_hw754 : k0_chk754 v6193), ∀ a, (k0_off1606 v6193) a + S1x1024.size a ≤ S1032x1024.size a := fun v6193 k0_hw754 => k0_hw754

def k0_off1607 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6199 : Index := Scalar.indexCast v6115
  let c10_3768 : Index := 10#32
  ![v6199.toNat, 10]
def k0_off1608 (v6200 : BitVec 32) : Fin 2 → Nat :=
  let v6202 : Index := Scalar.indexCast v6200
  let c0_3771 : Index := 0#32
  ![v6202.toNat, 0]

def k0_chk755 (v6200 : BitVec 32) : Prop :=
  (∀ a, (k0_off1608 v6200) a + S1x1024.size a ≤ S1032x1024.size a)
theorem k0_off1608_inb : ∀ (v6200 : BitVec 32) (k0_hw755 : k0_chk755 v6200), ∀ a, (k0_off1608 v6200) a + S1x1024.size a ≤ S1032x1024.size a := fun v6200 k0_hw755 => k0_hw755

def k0_off1609 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6206 : Index := Scalar.indexCast v6115
  let c11_3772 : Index := 11#32
  ![v6206.toNat, 11]
def k0_off1610 (v6207 : BitVec 32) : Fin 2 → Nat :=
  let v6209 : Index := Scalar.indexCast v6207
  let c0_3775 : Index := 0#32
  ![v6209.toNat, 0]

def k0_chk756 (v6207 : BitVec 32) : Prop :=
  (∀ a, (k0_off1610 v6207) a + S1x1024.size a ≤ S1032x1024.size a)
theorem k0_off1610_inb : ∀ (v6207 : BitVec 32) (k0_hw756 : k0_chk756 v6207), ∀ a, (k0_off1610 v6207) a + S1x1024.size a ≤ S1032x1024.size a := fun v6207 k0_hw756 => k0_hw756

def k0_off1611 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6213 : Index := Scalar.indexCast v6115
  let c12_3776 : Index := 12#32
  ![v6213.toNat, 12]
def k0_off1612 (v6214 : BitVec 32) : Fin 2 → Nat :=
  let v6216 : Index := Scalar.indexCast v6214
  let c0_3779 : Index := 0#32
  ![v6216.toNat, 0]

def k0_chk757 (v6214 : BitVec 32) : Prop :=
  (∀ a, (k0_off1612 v6214) a + S1x1024.size a ≤ S1032x1024.size a)
theorem k0_off1612_inb : ∀ (v6214 : BitVec 32) (k0_hw757 : k0_chk757 v6214), ∀ a, (k0_off1612 v6214) a + S1x1024.size a ≤ S1032x1024.size a := fun v6214 k0_hw757 => k0_hw757

def k0_off1613 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6220 : Index := Scalar.indexCast v6115
  let c13_3780 : Index := 13#32
  ![v6220.toNat, 13]
def k0_off1614 (v6221 : BitVec 32) : Fin 2 → Nat :=
  let v6223 : Index := Scalar.indexCast v6221
  let c0_3783 : Index := 0#32
  ![v6223.toNat, 0]

def k0_chk758 (v6221 : BitVec 32) : Prop :=
  (∀ a, (k0_off1614 v6221) a + S1x1024.size a ≤ S1032x1024.size a)
theorem k0_off1614_inb : ∀ (v6221 : BitVec 32) (k0_hw758 : k0_chk758 v6221), ∀ a, (k0_off1614 v6221) a + S1x1024.size a ≤ S1032x1024.size a := fun v6221 k0_hw758 => k0_hw758

def k0_off1615 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6227 : Index := Scalar.indexCast v6115
  let c14_3784 : Index := 14#32
  ![v6227.toNat, 14]
def k0_off1616 (v6228 : BitVec 32) : Fin 2 → Nat :=
  let v6230 : Index := Scalar.indexCast v6228
  let c0_3787 : Index := 0#32
  ![v6230.toNat, 0]

def k0_chk759 (v6228 : BitVec 32) : Prop :=
  (∀ a, (k0_off1616 v6228) a + S1x1024.size a ≤ S1032x1024.size a)
theorem k0_off1616_inb : ∀ (v6228 : BitVec 32) (k0_hw759 : k0_chk759 v6228), ∀ a, (k0_off1616 v6228) a + S1x1024.size a ≤ S1032x1024.size a := fun v6228 k0_hw759 => k0_hw759

def k0_off1617 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6234 : Index := Scalar.indexCast v6115
  let c15_3788 : Index := 15#32
  ![v6234.toNat, 15]
def k0_off1618 (v6235 : BitVec 32) : Fin 2 → Nat :=
  let v6237 : Index := Scalar.indexCast v6235
  let c0_3791 : Index := 0#32
  ![v6237.toNat, 0]

def k0_chk760 (v6235 : BitVec 32) : Prop :=
  (∀ a, (k0_off1618 v6235) a + S1x1024.size a ≤ S1032x1024.size a)
theorem k0_off1618_inb : ∀ (v6235 : BitVec 32) (k0_hw760 : k0_chk760 v6235), ∀ a, (k0_off1618 v6235) a + S1x1024.size a ≤ S1032x1024.size a := fun v6235 k0_hw760 => k0_hw760

def k0_off1619 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6241 : Index := Scalar.indexCast v6115
  let c16_3792 : Index := 16#32
  ![v6241.toNat, 16]
def k0_off1620 (v6242 : BitVec 32) : Fin 2 → Nat :=
  let v6244 : Index := Scalar.indexCast v6242
  let c0_3795 : Index := 0#32
  ![v6244.toNat, 0]

def k0_chk761 (v6242 : BitVec 32) : Prop :=
  (∀ a, (k0_off1620 v6242) a + S1x1024.size a ≤ S1032x1024.size a)
theorem k0_off1620_inb : ∀ (v6242 : BitVec 32) (k0_hw761 : k0_chk761 v6242), ∀ a, (k0_off1620 v6242) a + S1x1024.size a ≤ S1032x1024.size a := fun v6242 k0_hw761 => k0_hw761

def k0_off1621 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6248 : Index := Scalar.indexCast v6115
  let c17_3796 : Index := 17#32
  ![v6248.toNat, 17]
def k0_off1622 (v6249 : BitVec 32) : Fin 2 → Nat :=
  let v6251 : Index := Scalar.indexCast v6249
  let c0_3799 : Index := 0#32
  ![v6251.toNat, 0]

def k0_chk762 (v6249 : BitVec 32) : Prop :=
  (∀ a, (k0_off1622 v6249) a + S1x1024.size a ≤ S1032x1024.size a)
theorem k0_off1622_inb : ∀ (v6249 : BitVec 32) (k0_hw762 : k0_chk762 v6249), ∀ a, (k0_off1622 v6249) a + S1x1024.size a ≤ S1032x1024.size a := fun v6249 k0_hw762 => k0_hw762

def k0_off1623 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6255 : Index := Scalar.indexCast v6115
  let c18_3800 : Index := 18#32
  ![v6255.toNat, 18]
def k0_off1624 (v6256 : BitVec 32) : Fin 2 → Nat :=
  let v6258 : Index := Scalar.indexCast v6256
  let c0_3803 : Index := 0#32
  ![v6258.toNat, 0]

def k0_chk763 (v6256 : BitVec 32) : Prop :=
  (∀ a, (k0_off1624 v6256) a + S1x1024.size a ≤ S1032x1024.size a)
theorem k0_off1624_inb : ∀ (v6256 : BitVec 32) (k0_hw763 : k0_chk763 v6256), ∀ a, (k0_off1624 v6256) a + S1x1024.size a ≤ S1032x1024.size a := fun v6256 k0_hw763 => k0_hw763

def k0_off1625 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6262 : Index := Scalar.indexCast v6115
  let c19_3804 : Index := 19#32
  ![v6262.toNat, 19]
def k0_off1626 (v6263 : BitVec 32) : Fin 2 → Nat :=
  let v6265 : Index := Scalar.indexCast v6263
  let c0_3807 : Index := 0#32
  ![v6265.toNat, 0]

def k0_chk764 (v6263 : BitVec 32) : Prop :=
  (∀ a, (k0_off1626 v6263) a + S1x1024.size a ≤ S1032x1024.size a)
theorem k0_off1626_inb : ∀ (v6263 : BitVec 32) (k0_hw764 : k0_chk764 v6263), ∀ a, (k0_off1626 v6263) a + S1x1024.size a ≤ S1032x1024.size a := fun v6263 k0_hw764 => k0_hw764

def k0_off1627 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6269 : Index := Scalar.indexCast v6115
  let c20_3808 : Index := 20#32
  ![v6269.toNat, 20]
def k0_off1628 (v6270 : BitVec 32) : Fin 2 → Nat :=
  let v6272 : Index := Scalar.indexCast v6270
  let c0_3811 : Index := 0#32
  ![v6272.toNat, 0]

def k0_chk765 (v6270 : BitVec 32) : Prop :=
  (∀ a, (k0_off1628 v6270) a + S1x1024.size a ≤ S1032x1024.size a)
theorem k0_off1628_inb : ∀ (v6270 : BitVec 32) (k0_hw765 : k0_chk765 v6270), ∀ a, (k0_off1628 v6270) a + S1x1024.size a ≤ S1032x1024.size a := fun v6270 k0_hw765 => k0_hw765

def k0_off1629 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6276 : Index := Scalar.indexCast v6115
  let c21_3812 : Index := 21#32
  ![v6276.toNat, 21]
def k0_off1630 (v6277 : BitVec 32) : Fin 2 → Nat :=
  let v6279 : Index := Scalar.indexCast v6277
  let c0_3815 : Index := 0#32
  ![v6279.toNat, 0]

def k0_chk766 (v6277 : BitVec 32) : Prop :=
  (∀ a, (k0_off1630 v6277) a + S1x1024.size a ≤ S1032x1024.size a)
theorem k0_off1630_inb : ∀ (v6277 : BitVec 32) (k0_hw766 : k0_chk766 v6277), ∀ a, (k0_off1630 v6277) a + S1x1024.size a ≤ S1032x1024.size a := fun v6277 k0_hw766 => k0_hw766

def k0_off1631 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6283 : Index := Scalar.indexCast v6115
  let c22_3816 : Index := 22#32
  ![v6283.toNat, 22]
def k0_off1632 (v6284 : BitVec 32) : Fin 2 → Nat :=
  let v6286 : Index := Scalar.indexCast v6284
  let c0_3819 : Index := 0#32
  ![v6286.toNat, 0]

def k0_chk767 (v6284 : BitVec 32) : Prop :=
  (∀ a, (k0_off1632 v6284) a + S1x1024.size a ≤ S1032x1024.size a)
theorem k0_off1632_inb : ∀ (v6284 : BitVec 32) (k0_hw767 : k0_chk767 v6284), ∀ a, (k0_off1632 v6284) a + S1x1024.size a ≤ S1032x1024.size a := fun v6284 k0_hw767 => k0_hw767

def k0_off1633 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3715 : BitVec 32 := 30#32
  let v6113 : BitVec 32 := Scalar.subi v2 c30_i32_3715
  let c32_i32_3716 : BitVec 32 := 32#32
  let v6114 : BitVec 32 := Scalar.addi v6113 c32_i32_3716
  let c32_i32_3717 : BitVec 32 := 32#32
  let v6115 : BitVec 32 := Scalar.remsi v6114 c32_i32_3717
  let v6290 : Index := Scalar.indexCast v6115
  let c23_3820 : Index := 23#32
  ![v6290.toNat, 23]
def k0_off1634 (v6291 : BitVec 32) : Fin 2 → Nat :=
  let v6293 : Index := Scalar.indexCast v6291
  let c0_3823 : Index := 0#32
  ![v6293.toNat, 0]

def k0_chk768 (v6291 : BitVec 32) : Prop :=
  (∀ a, (k0_off1634 v6291) a + S1x1024.size a ≤ S1032x1024.size a)
theorem k0_off1634_inb : ∀ (v6291 : BitVec 32) (k0_hw768 : k0_chk768 v6291), ∀ a, (k0_off1634 v6291) a + S1x1024.size a ≤ S1032x1024.size a := fun v6291 k0_hw768 => k0_hw768

def k0_off1635 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  ![v6299.toNat]
def k0_off1636 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let c0_i32_3829 : BitVec 32 := 0#32
  let c0_i32_3830 : BitVec 32 := 0#32
  ![v6299.toNat, 0, 0]
def k0_off1637 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6306 : Index := Scalar.indexCast v6299
  let c0_3833 : Index := 0#32
  let c0_3834 : Index := 0#32
  ![v6306.toNat, 0, 0]
def k0_off1638 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6313 : Index := Scalar.indexCast v6299
  let c0_3837 : Index := 0#32
  ![v6313.toNat, 0]
def k0_off1639 (v6314 : BitVec 32) : Fin 2 → Nat :=
  let v6316 : Index := Scalar.indexCast v6314
  let c0_3840 : Index := 0#32
  ![v6316.toNat, 0]

def k0_chk769 (v6314 : BitVec 32) : Prop :=
  (∀ a, (k0_off1639 v6314) a + S1x1024.size a ≤ S1032x1024.size a)
theorem k0_off1639_inb : ∀ (v6314 : BitVec 32) (k0_hw769 : k0_chk769 v6314), ∀ a, (k0_off1639 v6314) a + S1x1024.size a ≤ S1032x1024.size a := fun v6314 k0_hw769 => k0_hw769

def k0_off1640 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6320 : Index := Scalar.indexCast v6299
  let c1_3841 : Index := 1#32
  ![v6320.toNat, 1]
def k0_off1641 (v6321 : BitVec 32) : Fin 2 → Nat :=
  let v6323 : Index := Scalar.indexCast v6321
  let c0_3844 : Index := 0#32
  ![v6323.toNat, 0]

def k0_chk770 (v6321 : BitVec 32) : Prop :=
  (∀ a, (k0_off1641 v6321) a + S1x1024.size a ≤ S1032x1024.size a)
theorem k0_off1641_inb : ∀ (v6321 : BitVec 32) (k0_hw770 : k0_chk770 v6321), ∀ a, (k0_off1641 v6321) a + S1x1024.size a ≤ S1032x1024.size a := fun v6321 k0_hw770 => k0_hw770

def k0_off1642 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6327 : Index := Scalar.indexCast v6299
  let c2_3845 : Index := 2#32
  ![v6327.toNat, 2]
def k0_off1643 (v6328 : BitVec 32) : Fin 2 → Nat :=
  let v6330 : Index := Scalar.indexCast v6328
  let c0_3848 : Index := 0#32
  ![v6330.toNat, 0]

def k0_chk771 (v6328 : BitVec 32) : Prop :=
  (∀ a, (k0_off1643 v6328) a + S1x1024.size a ≤ S1032x1024.size a)
theorem k0_off1643_inb : ∀ (v6328 : BitVec 32) (k0_hw771 : k0_chk771 v6328), ∀ a, (k0_off1643 v6328) a + S1x1024.size a ≤ S1032x1024.size a := fun v6328 k0_hw771 => k0_hw771

def k0_off1644 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6334 : Index := Scalar.indexCast v6299
  let c3_3849 : Index := 3#32
  ![v6334.toNat, 3]
def k0_off1645 (v6335 : BitVec 32) : Fin 2 → Nat :=
  let v6337 : Index := Scalar.indexCast v6335
  let c0_3852 : Index := 0#32
  ![v6337.toNat, 0]

def k0_chk772 (v6335 : BitVec 32) : Prop :=
  (∀ a, (k0_off1645 v6335) a + S1x1024.size a ≤ S1032x1024.size a)
theorem k0_off1645_inb : ∀ (v6335 : BitVec 32) (k0_hw772 : k0_chk772 v6335), ∀ a, (k0_off1645 v6335) a + S1x1024.size a ≤ S1032x1024.size a := fun v6335 k0_hw772 => k0_hw772

def k0_off1646 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6341 : Index := Scalar.indexCast v6299
  let c4_3853 : Index := 4#32
  ![v6341.toNat, 4]
def k0_off1647 (v6342 : BitVec 32) : Fin 2 → Nat :=
  let v6344 : Index := Scalar.indexCast v6342
  let c0_3856 : Index := 0#32
  ![v6344.toNat, 0]

def k0_chk773 (v6342 : BitVec 32) : Prop :=
  (∀ a, (k0_off1647 v6342) a + S1x1024.size a ≤ S1032x1024.size a)
theorem k0_off1647_inb : ∀ (v6342 : BitVec 32) (k0_hw773 : k0_chk773 v6342), ∀ a, (k0_off1647 v6342) a + S1x1024.size a ≤ S1032x1024.size a := fun v6342 k0_hw773 => k0_hw773

def k0_off1648 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6348 : Index := Scalar.indexCast v6299
  let c5_3857 : Index := 5#32
  ![v6348.toNat, 5]
def k0_off1649 (v6349 : BitVec 32) : Fin 2 → Nat :=
  let v6351 : Index := Scalar.indexCast v6349
  let c0_3860 : Index := 0#32
  ![v6351.toNat, 0]

def k0_chk774 (v6349 : BitVec 32) : Prop :=
  (∀ a, (k0_off1649 v6349) a + S1x1024.size a ≤ S1032x1024.size a)
theorem k0_off1649_inb : ∀ (v6349 : BitVec 32) (k0_hw774 : k0_chk774 v6349), ∀ a, (k0_off1649 v6349) a + S1x1024.size a ≤ S1032x1024.size a := fun v6349 k0_hw774 => k0_hw774

def k0_off1650 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6355 : Index := Scalar.indexCast v6299
  let c6_3861 : Index := 6#32
  ![v6355.toNat, 6]
def k0_off1651 (v6356 : BitVec 32) : Fin 2 → Nat :=
  let v6358 : Index := Scalar.indexCast v6356
  let c0_3864 : Index := 0#32
  ![v6358.toNat, 0]

def k0_chk775 (v6356 : BitVec 32) : Prop :=
  (∀ a, (k0_off1651 v6356) a + S1x1024.size a ≤ S1032x1024.size a)
theorem k0_off1651_inb : ∀ (v6356 : BitVec 32) (k0_hw775 : k0_chk775 v6356), ∀ a, (k0_off1651 v6356) a + S1x1024.size a ≤ S1032x1024.size a := fun v6356 k0_hw775 => k0_hw775

def k0_off1652 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6362 : Index := Scalar.indexCast v6299
  let c7_3865 : Index := 7#32
  ![v6362.toNat, 7]
def k0_off1653 (v6363 : BitVec 32) : Fin 2 → Nat :=
  let v6365 : Index := Scalar.indexCast v6363
  let c0_3868 : Index := 0#32
  ![v6365.toNat, 0]

def k0_chk776 (v6363 : BitVec 32) : Prop :=
  (∀ a, (k0_off1653 v6363) a + S1x1024.size a ≤ S1032x1024.size a)
theorem k0_off1653_inb : ∀ (v6363 : BitVec 32) (k0_hw776 : k0_chk776 v6363), ∀ a, (k0_off1653 v6363) a + S1x1024.size a ≤ S1032x1024.size a := fun v6363 k0_hw776 => k0_hw776

def k0_off1654 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6369 : Index := Scalar.indexCast v6299
  let c8_3869 : Index := 8#32
  ![v6369.toNat, 8]
def k0_off1655 (v6370 : BitVec 32) : Fin 2 → Nat :=
  let v6372 : Index := Scalar.indexCast v6370
  let c0_3872 : Index := 0#32
  ![v6372.toNat, 0]

def k0_chk777 (v6370 : BitVec 32) : Prop :=
  (∀ a, (k0_off1655 v6370) a + S1x1024.size a ≤ S1032x1024.size a)
theorem k0_off1655_inb : ∀ (v6370 : BitVec 32) (k0_hw777 : k0_chk777 v6370), ∀ a, (k0_off1655 v6370) a + S1x1024.size a ≤ S1032x1024.size a := fun v6370 k0_hw777 => k0_hw777

def k0_off1656 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6376 : Index := Scalar.indexCast v6299
  let c9_3873 : Index := 9#32
  ![v6376.toNat, 9]
def k0_off1657 (v6377 : BitVec 32) : Fin 2 → Nat :=
  let v6379 : Index := Scalar.indexCast v6377
  let c0_3876 : Index := 0#32
  ![v6379.toNat, 0]

def k0_chk778 (v6377 : BitVec 32) : Prop :=
  (∀ a, (k0_off1657 v6377) a + S1x1024.size a ≤ S1032x1024.size a)
theorem k0_off1657_inb : ∀ (v6377 : BitVec 32) (k0_hw778 : k0_chk778 v6377), ∀ a, (k0_off1657 v6377) a + S1x1024.size a ≤ S1032x1024.size a := fun v6377 k0_hw778 => k0_hw778

def k0_off1658 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6383 : Index := Scalar.indexCast v6299
  let c10_3877 : Index := 10#32
  ![v6383.toNat, 10]
def k0_off1659 (v6384 : BitVec 32) : Fin 2 → Nat :=
  let v6386 : Index := Scalar.indexCast v6384
  let c0_3880 : Index := 0#32
  ![v6386.toNat, 0]

def k0_chk779 (v6384 : BitVec 32) : Prop :=
  (∀ a, (k0_off1659 v6384) a + S1x1024.size a ≤ S1032x1024.size a)
theorem k0_off1659_inb : ∀ (v6384 : BitVec 32) (k0_hw779 : k0_chk779 v6384), ∀ a, (k0_off1659 v6384) a + S1x1024.size a ≤ S1032x1024.size a := fun v6384 k0_hw779 => k0_hw779

def k0_off1660 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6390 : Index := Scalar.indexCast v6299
  let c11_3881 : Index := 11#32
  ![v6390.toNat, 11]
def k0_off1661 (v6391 : BitVec 32) : Fin 2 → Nat :=
  let v6393 : Index := Scalar.indexCast v6391
  let c0_3884 : Index := 0#32
  ![v6393.toNat, 0]

def k0_chk780 (v6391 : BitVec 32) : Prop :=
  (∀ a, (k0_off1661 v6391) a + S1x1024.size a ≤ S1032x1024.size a)
theorem k0_off1661_inb : ∀ (v6391 : BitVec 32) (k0_hw780 : k0_chk780 v6391), ∀ a, (k0_off1661 v6391) a + S1x1024.size a ≤ S1032x1024.size a := fun v6391 k0_hw780 => k0_hw780

def k0_off1662 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6397 : Index := Scalar.indexCast v6299
  let c12_3885 : Index := 12#32
  ![v6397.toNat, 12]
def k0_off1663 (v6398 : BitVec 32) : Fin 2 → Nat :=
  let v6400 : Index := Scalar.indexCast v6398
  let c0_3888 : Index := 0#32
  ![v6400.toNat, 0]

def k0_chk781 (v6398 : BitVec 32) : Prop :=
  (∀ a, (k0_off1663 v6398) a + S1x1024.size a ≤ S1032x1024.size a)
theorem k0_off1663_inb : ∀ (v6398 : BitVec 32) (k0_hw781 : k0_chk781 v6398), ∀ a, (k0_off1663 v6398) a + S1x1024.size a ≤ S1032x1024.size a := fun v6398 k0_hw781 => k0_hw781

def k0_off1664 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6404 : Index := Scalar.indexCast v6299
  let c13_3889 : Index := 13#32
  ![v6404.toNat, 13]
def k0_off1665 (v6405 : BitVec 32) : Fin 2 → Nat :=
  let v6407 : Index := Scalar.indexCast v6405
  let c0_3892 : Index := 0#32
  ![v6407.toNat, 0]

def k0_chk782 (v6405 : BitVec 32) : Prop :=
  (∀ a, (k0_off1665 v6405) a + S1x1024.size a ≤ S1032x1024.size a)
theorem k0_off1665_inb : ∀ (v6405 : BitVec 32) (k0_hw782 : k0_chk782 v6405), ∀ a, (k0_off1665 v6405) a + S1x1024.size a ≤ S1032x1024.size a := fun v6405 k0_hw782 => k0_hw782

def k0_off1666 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6411 : Index := Scalar.indexCast v6299
  let c14_3893 : Index := 14#32
  ![v6411.toNat, 14]
def k0_off1667 (v6412 : BitVec 32) : Fin 2 → Nat :=
  let v6414 : Index := Scalar.indexCast v6412
  let c0_3896 : Index := 0#32
  ![v6414.toNat, 0]

def k0_chk783 (v6412 : BitVec 32) : Prop :=
  (∀ a, (k0_off1667 v6412) a + S1x1024.size a ≤ S1032x1024.size a)
theorem k0_off1667_inb : ∀ (v6412 : BitVec 32) (k0_hw783 : k0_chk783 v6412), ∀ a, (k0_off1667 v6412) a + S1x1024.size a ≤ S1032x1024.size a := fun v6412 k0_hw783 => k0_hw783

def k0_off1668 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6418 : Index := Scalar.indexCast v6299
  let c15_3897 : Index := 15#32
  ![v6418.toNat, 15]
def k0_off1669 (v6419 : BitVec 32) : Fin 2 → Nat :=
  let v6421 : Index := Scalar.indexCast v6419
  let c0_3900 : Index := 0#32
  ![v6421.toNat, 0]

def k0_chk784 (v6419 : BitVec 32) : Prop :=
  (∀ a, (k0_off1669 v6419) a + S1x1024.size a ≤ S1032x1024.size a)
theorem k0_off1669_inb : ∀ (v6419 : BitVec 32) (k0_hw784 : k0_chk784 v6419), ∀ a, (k0_off1669 v6419) a + S1x1024.size a ≤ S1032x1024.size a := fun v6419 k0_hw784 => k0_hw784

def k0_off1670 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6425 : Index := Scalar.indexCast v6299
  let c16_3901 : Index := 16#32
  ![v6425.toNat, 16]
def k0_off1671 (v6426 : BitVec 32) : Fin 2 → Nat :=
  let v6428 : Index := Scalar.indexCast v6426
  let c0_3904 : Index := 0#32
  ![v6428.toNat, 0]

def k0_chk785 (v6426 : BitVec 32) : Prop :=
  (∀ a, (k0_off1671 v6426) a + S1x1024.size a ≤ S1032x1024.size a)
theorem k0_off1671_inb : ∀ (v6426 : BitVec 32) (k0_hw785 : k0_chk785 v6426), ∀ a, (k0_off1671 v6426) a + S1x1024.size a ≤ S1032x1024.size a := fun v6426 k0_hw785 => k0_hw785

def k0_off1672 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6432 : Index := Scalar.indexCast v6299
  let c17_3905 : Index := 17#32
  ![v6432.toNat, 17]
def k0_off1673 (v6433 : BitVec 32) : Fin 2 → Nat :=
  let v6435 : Index := Scalar.indexCast v6433
  let c0_3908 : Index := 0#32
  ![v6435.toNat, 0]

def k0_chk786 (v6433 : BitVec 32) : Prop :=
  (∀ a, (k0_off1673 v6433) a + S1x1024.size a ≤ S1032x1024.size a)
theorem k0_off1673_inb : ∀ (v6433 : BitVec 32) (k0_hw786 : k0_chk786 v6433), ∀ a, (k0_off1673 v6433) a + S1x1024.size a ≤ S1032x1024.size a := fun v6433 k0_hw786 => k0_hw786

def k0_off1674 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6439 : Index := Scalar.indexCast v6299
  let c18_3909 : Index := 18#32
  ![v6439.toNat, 18]
def k0_off1675 (v6440 : BitVec 32) : Fin 2 → Nat :=
  let v6442 : Index := Scalar.indexCast v6440
  let c0_3912 : Index := 0#32
  ![v6442.toNat, 0]

def k0_chk787 (v6440 : BitVec 32) : Prop :=
  (∀ a, (k0_off1675 v6440) a + S1x1024.size a ≤ S1032x1024.size a)
theorem k0_off1675_inb : ∀ (v6440 : BitVec 32) (k0_hw787 : k0_chk787 v6440), ∀ a, (k0_off1675 v6440) a + S1x1024.size a ≤ S1032x1024.size a := fun v6440 k0_hw787 => k0_hw787

def k0_off1676 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6446 : Index := Scalar.indexCast v6299
  let c19_3913 : Index := 19#32
  ![v6446.toNat, 19]
def k0_off1677 (v6447 : BitVec 32) : Fin 2 → Nat :=
  let v6449 : Index := Scalar.indexCast v6447
  let c0_3916 : Index := 0#32
  ![v6449.toNat, 0]

def k0_chk788 (v6447 : BitVec 32) : Prop :=
  (∀ a, (k0_off1677 v6447) a + S1x1024.size a ≤ S1032x1024.size a)
theorem k0_off1677_inb : ∀ (v6447 : BitVec 32) (k0_hw788 : k0_chk788 v6447), ∀ a, (k0_off1677 v6447) a + S1x1024.size a ≤ S1032x1024.size a := fun v6447 k0_hw788 => k0_hw788

def k0_off1678 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6453 : Index := Scalar.indexCast v6299
  let c20_3917 : Index := 20#32
  ![v6453.toNat, 20]
def k0_off1679 (v6454 : BitVec 32) : Fin 2 → Nat :=
  let v6456 : Index := Scalar.indexCast v6454
  let c0_3920 : Index := 0#32
  ![v6456.toNat, 0]

def k0_chk789 (v6454 : BitVec 32) : Prop :=
  (∀ a, (k0_off1679 v6454) a + S1x1024.size a ≤ S1032x1024.size a)
theorem k0_off1679_inb : ∀ (v6454 : BitVec 32) (k0_hw789 : k0_chk789 v6454), ∀ a, (k0_off1679 v6454) a + S1x1024.size a ≤ S1032x1024.size a := fun v6454 k0_hw789 => k0_hw789

def k0_off1680 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6460 : Index := Scalar.indexCast v6299
  let c21_3921 : Index := 21#32
  ![v6460.toNat, 21]
def k0_off1681 (v6461 : BitVec 32) : Fin 2 → Nat :=
  let v6463 : Index := Scalar.indexCast v6461
  let c0_3924 : Index := 0#32
  ![v6463.toNat, 0]

def k0_chk790 (v6461 : BitVec 32) : Prop :=
  (∀ a, (k0_off1681 v6461) a + S1x1024.size a ≤ S1032x1024.size a)
theorem k0_off1681_inb : ∀ (v6461 : BitVec 32) (k0_hw790 : k0_chk790 v6461), ∀ a, (k0_off1681 v6461) a + S1x1024.size a ≤ S1032x1024.size a := fun v6461 k0_hw790 => k0_hw790

def k0_off1682 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6467 : Index := Scalar.indexCast v6299
  let c22_3925 : Index := 22#32
  ![v6467.toNat, 22]
def k0_off1683 (v6468 : BitVec 32) : Fin 2 → Nat :=
  let v6470 : Index := Scalar.indexCast v6468
  let c0_3928 : Index := 0#32
  ![v6470.toNat, 0]

def k0_chk791 (v6468 : BitVec 32) : Prop :=
  (∀ a, (k0_off1683 v6468) a + S1x1024.size a ≤ S1032x1024.size a)
theorem k0_off1683_inb : ∀ (v6468 : BitVec 32) (k0_hw791 : k0_chk791 v6468), ∀ a, (k0_off1683 v6468) a + S1x1024.size a ≤ S1032x1024.size a := fun v6468 k0_hw791 => k0_hw791

def k0_off1684 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3824 : BitVec 32 := 31#32
  let v6297 : BitVec 32 := Scalar.subi v2 c31_i32_3824
  let c32_i32_3825 : BitVec 32 := 32#32
  let v6298 : BitVec 32 := Scalar.addi v6297 c32_i32_3825
  let c32_i32_3826 : BitVec 32 := 32#32
  let v6299 : BitVec 32 := Scalar.remsi v6298 c32_i32_3826
  let v6474 : Index := Scalar.indexCast v6299
  let c23_3929 : Index := 23#32
  ![v6474.toNat, 23]
def k0_off1685 (v6475 : BitVec 32) : Fin 2 → Nat :=
  let v6477 : Index := Scalar.indexCast v6475
  let c0_3932 : Index := 0#32
  ![v6477.toNat, 0]

def k0_chk792 (v6475 : BitVec 32) : Prop :=
  (∀ a, (k0_off1685 v6475) a + S1x1024.size a ≤ S1032x1024.size a)
theorem k0_off1685_inb : ∀ (v6475 : BitVec 32) (k0_hw792 : k0_chk792 v6475), ∀ a, (k0_off1685 v6475) a + S1x1024.size a ≤ S1032x1024.size a := fun v6475 k0_hw792 => k0_hw792

def k0_off1686 (d0 : Dev nD) (c1_i32_3937 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6483 : BitVec 32 := Scalar.addi v2 c1_i32_3937
  let c32_i32_3938 : BitVec 32 := 32#32
  let v6484 : BitVec 32 := Scalar.remsi v6483 c32_i32_3938
  ![v6484.toNat]
def k0_off1687 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3940 : BitVec 32 := 0#32
  let c0_i32_3941 : BitVec 32 := 0#32
  ![v2.toNat, 0, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32x24 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512x128 : Shape := ⟨2, ![512, 128]⟩
abbrev S1024x1 : Shape := ⟨2, ![1024, 1]⟩
abbrev S128x512x1024 : Shape := ⟨3, ![128, 512, 1024]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩
abbrev S1024x512x1024 : Shape := ⟨3, ![1024, 512, 1024]⟩

abbrev nBuf : Space → Nat
  | .hbm => 39
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x128, .f32⟩
  | .hbm, ⟨2, _⟩ => ⟨S1024x1, .i32⟩
  | .hbm, ⟨3, _⟩ => ⟨S128x512x1024, .f32⟩
  | .hbm, ⟨4, _⟩ => ⟨S1024, .i32⟩
  | .hbm, ⟨5, _⟩ => ⟨S1024, .i32⟩
  | .hbm, ⟨6, _⟩ => ⟨S1024x1, .i32⟩
  | .hbm, ⟨7, _⟩ => ⟨S1x1024, .i32⟩
  | .hbm, ⟨8, _⟩ => ⟨S1024x1024, .i32⟩
  | .hbm, ⟨9, _⟩ => ⟨S1024x1024, .i32⟩
  | .hbm, ⟨10, _⟩ => ⟨S1024x1024, .i1⟩
  | .hbm, ⟨11, _⟩ => ⟨S1x1024, .i32⟩
  | .hbm, ⟨12, _⟩ => ⟨S1024x1, .i32⟩
  | .hbm, ⟨13, _⟩ => ⟨S1024x1024, .i32⟩
  | .hbm, ⟨14, _⟩ => ⟨S1024x1024, .i32⟩
  | .hbm, ⟨15, _⟩ => ⟨S1024x1024, .i1⟩
  | .hbm, ⟨16, _⟩ => ⟨S1024x1024, .i1⟩
  | .hbm, ⟨17, _⟩ => ⟨S1024x1024, .i32⟩
  | .hbm, ⟨18, _⟩ => ⟨S_, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1024x1, .i32⟩
  | .hbm, ⟨28, _⟩ => ⟨S1024x512x1024, .f32⟩
  | .hbm, ⟨29, _⟩ => ⟨S1024x1024, .f32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S1024x1, .i1⟩
  | .hbm, ⟨34, _⟩ => ⟨S_, .f32⟩
  | .hbm, ⟨35, _⟩ => ⟨S_, .f32⟩
  | .hbm, ⟨36, _⟩ => ⟨S1024x1024, .i1⟩
  | .hbm, ⟨37, _⟩ => ⟨S1024x1024, .f32⟩
  | .hbm, ⟨38, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.Base.lean ====
/- Names, contents and the scatter steps of the kernel's body. -/
module

public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.ValueIdx
public import Idealize.ShloMosaic.PureOps
public import Idealize.ShloMosaic.Lib.Pipeline.RegionTalk
public import Idealize.ShloMosaic.Harness.Basic

@[expose] public section

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)
open Cert.KernelIdeal Cert.KernelIdeal.Gen

variable {F : FTy → Type} [FloatOps F]

/-! ## The resource algebra -/

/-- The pipeline's copy of the protocol algebra and the kernel's own, whose duties are named by devices. -/
abbrev UU : Type := UR sig nD τ × URounds (GSem nD τ sig) (Dev nD)

local notation "𝕄" => MT nD τ sig Unit (Elt F) ℕ UU ℕ

/-- The propositions over the machine's resources. -/
abbrev HP (F : FTy → Type) [FloatOps F] : Type := sProp (MT nD τ sig Unit (Elt F) ℕ UU ℕ)

abbrev EP : Emb (UR sig nD τ) (MT nD τ sig Unit (Elt F) ℕ UU ℕ) := embL
abbrev ER : Emb (URounds (GSem nD τ sig) (Dev nD)) (MT nD τ sig Unit (Elt F) ℕ UU ℕ) := embR

abbrev 𝒱₀ : Variants := Variants.none

/-- The weakest precondition of a program of device `c`'s core. -/
abbrev wpc (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## The buffers -/

abbrev xM : Memref sig .tc .vmem S1024x512 .f32 := Memref.whole cc0_stg0_0
abbrev wM : Memref sig .tc .vmem S4x512x1024 .f32 := Memref.whole cc0_stg1_0
abbrev dM : Memref sig .tc .smem S32x24 .i32 := Memref.whole cc0_stg2_0
abbrev oM : Memref sig .tc .vmem S1024x1024 .f32 := Memref.whole cc0_stg3_0
abbrev cM : Memref sig .tc .vmem S32x24x1024 .bf16 := Memref.whole cc0_scratch0
abbrev gM : Memref sig .tc .vmem S24x512 .f32 := Memref.whole cc0_scratch1
abbrev sM : Memref sig .tc .vmem S24x1024 .f32 := Memref.whole cc0_scratch2
abbrev aM : Memref sig .tc .vmem S1032x1024 .f32 := Memref.whole cc0_scratch3

/-- A whole buffer of device `c`, held at the full share at contents `f`. -/
abbrev pt (c : Dev nD) (b : Ref sig .tc) (f : b.ty.Contents (Elt F)) : sProp 𝕄 :=
  ((c : Thread nD τ).loc b) ↦{fullShare} f

/-! ## Reading and writing a whole buffer through a rectangle -/

section Rect

variable (b : Ref sig .tc) (r : Rect b.ty.shape)

theorem readAt_rect (f : b.ty.Contents (Elt F)) (x : r.shape.Idx) :
    (Memref.whole b : Memref sig .tc _ _ _).view.readAt (Elt F) r.toLoadRect f x = f (r.emb x) := rfl

/-- A write through a rectangle leaves the payload at the rectangle's elements, -/
theorem write_hit (f : b.ty.Contents (Elt F)) (w : r.shape.Idx → Elt F b.ty.elt) (x : r.shape.Idx) :
    ((Memref.whole b : Memref sig .tc _ _ _).access r).write (Elt F) f w Finset.univ (r.emb x) = w x :=
  View.write_emb_of_mem (v := (Memref.whole b : Memref sig .tc _ _ _).access r) (Val := Elt F) f w (Finset.mem_univ x)

/-- and the old contents elsewhere. -/
theorem write_miss (f : b.ty.Contents (Elt F)) (w : r.shape.Idx → Elt F b.ty.elt) {i : b.ty.shape.Idx} (h : i ∉ r.set) :
    ((Memref.whole b : Memref sig .tc _ _ _).access r).write (Elt F) f w Finset.univ i = f i :=
  View.write_of_not_mem (v := (Memref.whole b : Memref sig .tc _ _ _).access r) (Val := Elt F) f w Finset.univ
    (by rw [View.setOn_univ]; exact fun h' => h (View.set_slice_whole b r ▸ h'))

/-- The offsets a row access at the word `v` uses. -/
def offTok (v : BitVec 32) : Fin 2 → Nat :=
  let i : Index := Scalar.indexCast v
  let z : Index := 0#32
  ![i.toNat, 0]

theorem offTok_eq (v : BitVec 32) : offTok v = ![v.toNat, 0] := by
  unfold offTok; rfl

/-- A row access stays inside a matrix whose rows are more than the word. -/
theorem offTok_inb {n m : Nat} (v : BitVec 32) (h : v.toNat < n) :
    ∀ a, offTok v a + (⟨2, ![1, m]⟩ : Shape).size a ≤ (⟨2, ![n, m]⟩ : Shape).size a := by
  rw [offTok_eq]; intro a
  match a with
  | ⟨0, _⟩ => show v.toNat + 1 ≤ n; omega
  | ⟨1, _⟩ => show 0 + m ≤ m; omega

/-- Where a one-row rectangle's elements lie. -/
theorem emb_row {n m t : Nat} {off : Fin 2 → Nat} (hoff : off = ![t, 0])
    (inb : ∀ a, off a + (⟨2, ![1, m]⟩ : Shape).size a ≤ (⟨2, ![n, m]⟩ : Shape).size a) (ht : t < n) (h : Fin m) :
    (Rect.unit (s := ⟨2, ![n, m]⟩) off (⟨2, ![1, m]⟩ : Shape).size inb).emb (ix2 (0 : Fin 1) h) = ix2 (⟨t, ht⟩ : Fin n) h := by
  subst hoff
  funext a
  match a with
  | ⟨0, _⟩ => exact Fin.ext (by simp [Rect.emb_apply])
  | ⟨1, _⟩ => exact Fin.ext (by simp [Rect.emb_apply])

/-- A row outside a one-row rectangle. -/
theorem not_mem_row {n m t : Nat} {off : Fin 2 → Nat} (hoff : off = ![t, 0])
    (inb : ∀ a, off a + (⟨2, ![1, m]⟩ : Shape).size a ≤ (⟨2, ![n, m]⟩ : Shape).size a) (i : Fin n) (hi : i.val ≠ t) (h : Fin m) :
    (ix2 i h : (⟨2, ![n, m]⟩ : Shape).Idx) ∉ (Rect.unit (s := ⟨2, ![n, m]⟩) off (⟨2, ![1, m]⟩ : Shape).size inb).set := by
  subst hoff
  rw [Rect.mem_set_unit]
  intro hh
  have h0 := hh 0
  have h1 : t ≤ i.val := h0.1
  have h2 : i.val < t + 1 := h0.2
  omega

end Rect

/-! ## Devices -/

/-- The device `i` places after `c`, and the one `i` places before it. -/
def tgt (c : Dev nD) (i : ℕ) : Dev nD := ⟨(c.val + i) % 32, Nat.mod_lt _ (by decide)⟩
def org (c : Dev nD) (i : ℕ) : Dev nD := ⟨(c.val + (32 - i)) % 32, Nat.mod_lt _ (by decide)⟩

/-! ## The table and the rows -/

abbrev Tab : Type := S32x24.Idx → BitVec 32

/-- A table whose entries are rows of the accumulator, no token's row named twice. -/
structure TableOk (D : Tab) : Prop where
  le : ∀ o j, (D (ix2 o j)).toNat ≤ 1024
  inj : ∀ o j o' j', (D (ix2 o j)).toNat < 1024 → (D (ix2 o j)).toNat = (D (ix2 o' j')).toNat → o = o' ∧ j = j'

/-- The slots handled before slot `j` of the chunk `n`. -/
def Done (n : ℕ) (j : ℕ) (i : ℕ) (j' : Fin 24) : Prop := i < n ∨ (i = n ∧ j'.val < j)

/-- The accumulator while slots are handled: a token's row is what a handled slot naming it holds, zero if none does. -/
def AccInv (c : Dev nD) (D : Tab) (Sl : Dev nD → Fin 24 → (Fin 1024 → Elt F .f32) → Prop) (n j : ℕ)
    (f : S1032x1024.Idx → Elt F .f32) : Prop :=
  ∀ t : Fin 1024,
    (∀ i < 32, ∀ j', Done n j i j' → (D (ix2 (org c i) j')).toNat = t.val →
      Sl (org c i) j' (fun h => f (ix2 (⟨t.val, by omega⟩ : Fin 1032) h)))
    ∧ ((∀ i < 32, ∀ j', Done n j i j' → (D (ix2 (org c i) j')).toNat ≠ t.val) →
      ∀ h, f (ix2 (⟨t.val, by omega⟩ : Fin 1032) h) = FloatOps.ofBits .f32 0x00000000#32)

theorem org_inj (c : Dev nD) {i i' : ℕ} (hi : i < 32) (hi' : i' < 32) (h : org c i = org c i') : i = i' := by
  have := congrArg Fin.val h
  have hc : c.val < 32 := c.isLt
  simp only [org] at this
  omega

theorem AccInv.next {c : Dev nD} {D : Tab} {Sl : Dev nD → Fin 24 → (Fin 1024 → Elt F .f32) → Prop} {n : ℕ}
    {f : S1032x1024.Idx → Elt F .f32} (h : AccInv c D Sl n 24 f) : AccInv c D Sl (n + 1) 0 f := by
  intro t
  have hd : ∀ i (j' : Fin 24), Done (n + 1) 0 i j' ↔ Done n 24 i j' := fun i j' => by
    unfold Done; have := j'.isLt; omega
  simp only [hd]; exact h t

/-- Handling one slot. -/
theorem AccInv.step {c : Dev nD} {D : Tab} (hD : TableOk D) {Sl : Dev nD → Fin 24 → (Fin 1024 → Elt F .f32) → Prop} {n : ℕ} (hn : n < 32)
    {j : Fin 24} {f g : S1032x1024.Idx → Elt F .f32} (h : AccInv c D Sl n j.val f)
    (hhit : ∀ t : Fin 1032, (D (ix2 (org c n) j)).toNat = t.val → Sl (org c n) j (fun h => g (ix2 t h)))
    (hmiss : ∀ t : Fin 1032, (D (ix2 (org c n) j)).toNat ≠ t.val → ∀ h, g (ix2 t h) = f (ix2 t h)) :
    AccInv c D Sl n (j.val + 1) g := by
  intro t
  by_cases ht : (D (ix2 (org c n) j)).toNat = t.val
  · refine ⟨fun i hi j' _ hh => ?_, fun hno => absurd ht (hno n hn j (by unfold Done; omega))⟩
    obtain ⟨h1, h2⟩ := hD.inj (org c i) j' (org c n) j (by have := t.isLt; omega) (hh.trans ht.symm)
    obtain rfl := org_inj c hi hn h1
    subst h2
    exact hhit _ ht
  · have e : (fun h => g (ix2 (⟨t.val, by omega⟩ : Fin 1032) h)) = fun h => f (ix2 (⟨t.val, by omega⟩ : Fin 1032) h) :=
      funext fun h => hmiss _ ht h
    refine ⟨fun i hi j' hd hh => ?_, fun hno h' => ?_⟩
    · rw [e]
      refine (h t).1 i hi j' ?_ hh
      unfold Done at hd ⊢
      rcases hd with hd | ⟨hd, hd'⟩
      · exact .inl hd
      · refine .inr ⟨hd, ?_⟩
        rcases Nat.lt_or_ge j'.val j.val with hl | hl
        · exact hl
        · have hj : j' = j := Fin.ext (by omega)
          subst hj; subst hd; exact absurd hh ht
    · rw [hmiss _ ht]
      refine (h t).2 (fun i hi j' hd => hno i hi j' ?_) h'
      unfold Done at hd ⊢; omega

/-- The zeroed accumulator, before any slot. -/
theorem AccInv.zero (c : Dev nD) (D : Tab) (Sl : Dev nD → Fin 24 → (Fin 1024 → Elt F .f32) → Prop)
    {f : S1032x1024.Idx → Elt F .f32} (hf : ∀ i, f i = FloatOps.ofBits .f32 0x00000000#32) : AccInv c D Sl 0 0 f :=
  fun t => ⟨fun i _ j' hd _ => by unfold Done at hd; omega, fun _ h => hf _⟩

/-! ## The steps of a scatter -/

/-- What the scatter of the chunk `n` holds before slot `j`: the table, the staged rows, the accumulator. -/
def SG (c : Dev nD) (D : Tab) (Sl : Dev nD → Fin 24 → (Fin 1024 → Elt F .f32) → Prop) (n j : ℕ) : HP F :=
  iprop(pt c cc0_stg2_0 D
    ∗ (∃ fs : S24x1024.Idx → Elt F .f32, ⌜∀ j', Sl (org c n) j' (fun h => fs (ix2 j' h))⌝ ∗ pt c cc0_scratch2 fs)
    ∗ ∃ f : S1032x1024.Idx → Elt F .f32, ⌜AccInv c D Sl n j f⌝ ∗ pt c cc0_scratch3 f)

section Steps

variable {c : Dev nD} {D : Tab} {Sl : Dev nD → Fin 24 → (Fin 1024 → Elt F .f32) → Prop} {n j : ℕ}
  {R : HP F} {Q : Unit → HP F}

/-- An offset in its closed form. -/
theorem coff {d : ℕ} {off w : Fin d → ℕ} [i : ClosedOff off] (h : i.form = w) : off = w := i.eq.trans h

/-- Reading the word of the table for the slot at hand. -/
theorem s_tab {off : Fin 2 → Nat} {inb hl} {k : _ → Prog (TpuEff nD τ sig (Elt F) Λ₀ .tc) PUnit}
    (hj : j < 24) (hoff : off = ![(org c n).val, j])
    (h : ∀ r : S1x1.Idx → BitVec 32, (∀ x, r x = D (ix2 (org c n) ⟨j, hj⟩)) → iprop(SG c D Sl n j ∗ R) ⊢ wpc c (k r) Q) :
    iprop(SG c D Sl n j ∗ R) ⊢ wpc c (.op (.load dM (Rect.unit (s := S32x24) off S1x1.size inb).toLoadRect hl) k) Q := by
  unfold SG
  iintro ⟨⟨Hd, Hs, Ha⟩, HR⟩
  iapply (wp_load (defs := defs₀ (F := F)) 𝒱₀ (c : Thread nD τ) none Set.univ (m := dM) (S := Finset.univ) (q := fullShare) (f := D) (Finset.subset_univ _)) $$ [Hd]
  · iexact Hd
  iintro Hd
  iapply (h _ ?_) $$ [Hd Hs Ha HR]
  · intro x
    rw [readAt_rect]
    congr 1
    subst hoff
    funext a
    match a with
    | ⟨0, _⟩ => exact Fin.ext (by have : (x 0).val = 0 := by have := (x 0).isLt; simp at this; omega
                                  simp [Rect.emb_apply, this])
    | ⟨1, _⟩ => exact Fin.ext (by have : (x 1).val = 0 := by have := (x 1).isLt; simp at this; omega
                                  simp [Rect.emb_apply, this])
  · unfold SG
    isplitl [Hd Hs Ha]
    · isplitl [Hd]; · iexact Hd
      isplitl [Hs] <;> iassumption
    · iexact HR

/-- An assumption that holds. -/
theorem s_assume {P : Prop} {d : Decidable P} (h : P) {H : HP F} {k : PLift P → Prog (TpuEff nD τ sig (Elt F) Λ₀ .tc) PUnit}
    (hk : H ⊢ wpc c (k ⟨h⟩) Q) : H ⊢ wpc c (.op (.assume P d) k) Q :=
  hk.trans (wp_assume (defs := defs₀ (F := F)) 𝒱₀ (c : Thread nD τ) none Set.univ h)

/-- A word the table holds names a row of the accumulator. -/
theorem chkRow (hD : TableOk D) {v : BitVec 32} {o : Dev nD} {j' : Fin 24} (hv : v = D (ix2 o j')) :
    ∀ a, offTok v a + S1x1024.size a ≤ S1032x1024.size a :=
  offTok_inb v (by rw [hv]; have := hD.le o j'; omega)

/-- Reading the staged row of the slot at hand. -/
theorem s_row {off : Fin 2 → Nat} {inb hl} {k : _ → Prog (TpuEff nD τ sig (Elt F) Λ₀ .tc) PUnit}
    (hj : j < 24) (hoff : off = ![j, 0])
    (h : ∀ r : S1x1024.Idx → Elt F .f32, Sl (org c n) ⟨j, hj⟩ (fun x => r (ix2 0 x)) → iprop(SG c D Sl n j ∗ R) ⊢ wpc c (k r) Q) :
    iprop(SG c D Sl n j ∗ R) ⊢ wpc c (.op (.load sM (Rect.unit (s := S24x1024) off S1x1024.size inb).toLoadRect hl) k) Q := by
  unfold SG
  iintro ⟨⟨Hd, ⟨%fs, %hS, Hs⟩, Ha⟩, HR⟩
  iapply (wp_load (defs := defs₀ (F := F)) 𝒱₀ (c : Thread nD τ) none Set.univ (m := sM) (S := Finset.univ) (q := fullShare) (f := fs) (Finset.subset_univ _)) $$ [Hs]
  · iexact Hs
  iintro Hs
  iapply (h _ ?_) $$ [Hd Hs Ha HR]
  · have e : (fun x : Fin 1024 => (sM : Memref sig .tc .vmem S24x1024 .f32).view.readAt (Elt F) (Rect.unit (s := S24x1024) off S1x1024.size inb).toLoadRect fs (ix2 0 x))
        = fun x => fs (ix2 (⟨j, hj⟩ : Fin 24) x) := funext fun x => by
      rw [readAt_rect]; exact congrArg fs (emb_row hoff inb hj x)
    rw [e]; exact hS _
  · unfold SG
    isplitl [Hd Hs Ha]
    · isplitl [Hd]; · iexact Hd
      isplitl [Hs]
      · iexists fs; isplitr; · ipureintro; exact hS
        iexact Hs
      · iexact Ha
    · iexact HR

/-- Reading the accumulator, the value unused. -/
theorem s_acc {r : Rect S1032x1024} {hl} {k : _ → Prog (TpuEff nD τ sig (Elt F) Λ₀ .tc) PUnit}
    (h : ∀ x, iprop(SG c D Sl n j ∗ R) ⊢ wpc c (k x) Q) :
    iprop(SG c D Sl n j ∗ R) ⊢ wpc c (.op (.load aM r.toLoadRect hl) k) Q := by
  unfold SG
  iintro ⟨⟨Hd, Hs, %f, %hf, Ha⟩, HR⟩
  iapply (wp_load (defs := defs₀ (F := F)) 𝒱₀ (c : Thread nD τ) none Set.univ (m := aM) (S := Finset.univ) (q := fullShare) (f := f) (Finset.subset_univ _)) $$ [Ha]
  · iexact Ha
  iintro Ha
  iapply (h _) $$ [Hd Hs Ha HR]
  unfold SG
  isplitl [Hd Hs Ha]
  · isplitl [Hd]; · iexact Hd
    isplitl [Hs]; · iexact Hs
    iexists f; isplitr; · ipureintro; exact hf
    iexact Ha
  · iexact HR

/-- Writing a staged row to the accumulator's row that the table names. -/
theorem s_put (hD : TableOk D) (hn : n < 32) (hj : j < 24)
    {v : BitVec 32} (hv : v = D (ix2 (org c n) ⟨j, hj⟩)) {w : S1x1024.Idx → Elt F .f32} (hw : Sl (org c n) ⟨j, hj⟩ (fun x => w (ix2 0 x)))
    {inb hx hm} {k : PUnit → Prog (TpuEff nD τ sig (Elt F) Λ₀ .tc) PUnit}
    (h : iprop(SG c D Sl n (j + 1) ∗ R) ⊢ wpc c (k ⟨⟩) Q) :
    iprop(SG c D Sl n j ∗ R)
      ⊢ wpc c (.op (.store aM (Rect.unit (s := S1032x1024) (offTok v) S1x1024.size inb) w Finset.univ hx hm) k) Q := by
  unfold SG
  iintro ⟨⟨Hd, Hs, %f, %hf, Ha⟩, HR⟩
  iapply (wp_store (defs := defs₀ (F := F)) 𝒱₀ (c : Thread nD τ) none Set.univ (m := aM) (S := Finset.univ) (f := f) (Finset.subset_univ _)) $$ [Ha]
  · iexact Ha
  iintro Ha
  iapply h $$ [Hd Hs Ha HR]
  unfold SG
  isplitl [Hd Hs Ha]
  · isplitl [Hd]; · iexact Hd
    isplitl [Hs]; · iexact Hs
    iexists _; isplitr
    swap; · iexact Ha
    ipureintro
    refine AccInv.step (j := ⟨j, hj⟩) hD hn hf (fun t ht => ?_) (fun t ht x => ?_)
    · rw [← hv] at ht
      have e : ∀ x, ((aM : Memref sig .tc .vmem S1032x1024 .f32).access (Rect.unit (s := S1032x1024) (offTok v) S1x1024.size inb)).write (Elt F) f w Finset.univ (ix2 t x) = w (ix2 0 x) := fun x => by
        rw [← emb_row (n := 1032) (m := 1024) (t := t.val) (by rw [offTok_eq, ht]) inb t.isLt x]
        exact write_hit cc0_scratch3 (Rect.unit (s := S1032x1024) (offTok v) S1x1024.size inb) f w (ix2 0 x)
      have : (fun x => ((aM : Memref sig .tc .vmem S1032x1024 .f32).access (Rect.unit (s := S1032x1024) (offTok v) S1x1024.size inb)).write (Elt F) f w Finset.univ (ix2 t x)) = fun x => w (ix2 0 x) :=
        funext e
      rw [this]; exact hw
    · rw [← hv] at ht
      exact write_miss cc0_scratch3 (Rect.unit (s := S1032x1024) (offTok v) S1x1024.size inb) f w
        (not_mem_row (offTok_eq v) inb t (fun e => ht e.symm) x)
  · iexact HR

end Steps

/-! ## Casts that keep a row -/

/-- A row recast at its own shape. -/
theorem cast_row {α : Type} (r : S1x1024.Idx → α) (h : S1x1024.ShapeCasts S1x1024) : shapeCast S1x1024 r h = r :=
  funext fun i => congrArg r (Shape.reshapeEquiv_self _ i)

theorem slot_cast {α : Type} {P : (Fin 1024 → α) → Prop} {r : S1x1024.Idx → α} {h : S1x1024.ShapeCasts S1x1024}
    (hr : P (fun x => r (ix2 0 x))) : P (fun x => shapeCast S1x1024 r h (ix2 0 x)) := by
  rw [cast_row]; exact hr

end Cert.KernelIdeal.Moe
-- ==== Proof.Talk.lean ====
/- The exchange between the devices: cells, payloads, the schedule and the order of waits. -/
module

public import proofs.«01_k».proof.Proof.Base

@[expose] public section

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

/-! ## Semaphores and cells -/

abbrev barS : Sem sig := sig.barrier 0 rfl
/-- The semaphore of a device's copy to device `t`, and that of the copy from device `o`. -/
def sendS (t : Dev nD) : DmaSem sig := ⟨4 + t.val, by have : t.val < 32 := t.isLt; show 4 + t.val < 68; omega⟩
def recvS (o : Dev nD) : DmaSem sig := ⟨36 + o.val, by have : o.val < 32 := o.isLt; show 36 + o.val < 68; omega⟩

theorem sendS_inj {t t' : Dev nD} (h : sendS t = sendS t') : t = t' := by
  have := congrArg Fin.val h; simp only [sendS] at this; exact Fin.ext (by omega)
theorem recvS_inj {t t' : Dev nD} (h : recvS t = recvS t') : t = t' := by
  have := congrArg Fin.val h; simp only [recvS] at this; exact Fin.ext (by omega)
theorem sendS_ne_recvS (t o : Dev nD) : sendS t ≠ recvS o := fun h => by
  have := congrArg Fin.val h; simp only [sendS, recvS] at this; have : t.val < 32 := t.isLt; omega

theorem rowMajor_one (i : S32.Idx) : (S32.rowMajor i).val = (i 0).val := by
  exact Shape.rowMajor_val_one i

/-- The semaphore a one-element slice of the send array names. -/
theorem sem_send {off : Fin 1 → Nat} {inb h} (t : Dev nD) (hoff : off = ![t.val]) :
    ((cc0_scratch4.slice (Rect.unit (s := S32) off S1.size inb)).squeeze S_ h).sem = sendS t := by
  subst hoff
  refine Fin.ext ?_
  show 4 + (S32.rowMajor _).val = 4 + t.val
  rw [rowMajor_one, Rect.emb_apply]
  have h0 : ∀ y : Fin 1, t.val + 1 * y.val = t.val := fun y => by omega
  exact congrArg (4 + ·) (h0 _)

theorem sem_recv {off : Fin 1 → Nat} {inb h} (t : Dev nD) (hoff : off = ![t.val]) :
    ((cc0_scratch5.slice (Rect.unit (s := S32) off S1.size inb)).squeeze S_ h).sem = recvS t := by
  subst hoff
  refine Fin.ext ?_
  show 36 + (S32.rowMajor _).val = 36 + t.val
  rw [rowMajor_one, Rect.emb_apply]
  have h0 : ∀ y : Fin 1, t.val + 1 * y.val = t.val := fun y => by omega
  exact congrArg (36 + ·) (h0 _)

abbrev barCell (c : Dev nD) : GSem nD τ sig := ((c : Thread nD τ), .reg barS)
abbrev sendCell (c t : Dev nD) : GSem nD τ sig := ((c : Thread nD τ), .dma (sendS t))
abbrev recvCell (c o : Dev nD) : GSem nD τ sig := ((c : Thread nD τ), .dma (recvS o))

/-! ## The rows of the exchange buffer -/

theorem row_inb (o : Dev nD) : ∀ a, (![o.val, 0, 0] : Fin 3 → ℕ) a + S1x24x1024.size a ≤ S32x24x1024.size a := fun a => by
  have : o.val < 32 := o.isLt
  match a with
  | ⟨0, _⟩ => show o.val + 1 ≤ 32; omega
  | ⟨1, _⟩ => show 0 + 24 ≤ 24; omega
  | ⟨2, _⟩ => show 0 + 1024 ≤ 1024; omega

/-- Row `o` of the exchange buffer. -/
abbrev rowM (o : Dev nD) : Memref sig .tc .vmem S1x24x1024 .bf16 :=
  cM.slice (Rect.unit (s := S32x24x1024) ![o.val, 0, 0] S1x24x1024.size (row_inb o)) (fun _ => rfl)

abbrev CB (F : FTy → Type) [FloatOps F] : Type := S32x24x1024.Idx → Elt F .bf16

/-- Row `o` of device `p`'s exchange buffer, at the share `q`. -/
abbrev rowPt (p o : Dev nD) (q : PosShare TreeShare) (f : CB F) : HP F :=
  ((p : Thread nD τ).loc cc0_scratch0) ↦[(rowM o).view.set]{q} f

theorem mem_rowM {o : Dev nD} {i : S32x24x1024.Idx} : i ∈ (rowM o).view.set ↔ (i 0).val = o.val := by
  show i ∈ ((Memref.whole cc0_scratch0 : Memref sig .tc _ _ _).access (Rect.unit (s := S32x24x1024) ![o.val, 0, 0] S1x24x1024.size (row_inb o))).set ↔ _
  rw [View.set_slice_whole cc0_scratch0 (Rect.unit (s := S32x24x1024) ![o.val, 0, 0] S1x24x1024.size (row_inb o))]
  rw [Rect.mem_set_unit]
  constructor
  · intro h
    have h0 := h 0
    have h1 : o.val ≤ (i 0).val := h0.1
    have h2 : (i 0).val < o.val + 1 := h0.2
    omega
  · intro h a
    match a with
    | ⟨0, _⟩ => exact ⟨h.ge, Nat.lt_succ_of_le h.le⟩
    | ⟨1, _⟩ => exact ⟨Nat.zero_le _, by have h1 : (i 1).val < 24 := (i 1).isLt; show (i 1).val < 0 + 24; omega⟩
    | ⟨2, _⟩ => exact ⟨Nat.zero_le _, by have h1 : (i 2).val < 1024 := (i 2).isLt; show (i 2).val < 0 + 1024; omega⟩

abbrev N : ℕ := (rowM 0).view.dmaCredit
theorem N_pos : 0 < N := View.dmaCredit_pos _ (by decide)

/-! ## What the buffers hold when the kernel is entered, and what it makes of them -/

/-- Per device: the tokens, the experts' weights, the table. -/
structure Data (F : FTy → Type) [FloatOps F] where
  x : Dev nD → S1024x512.Idx → Elt F .f32
  e : Dev nD → S4x512x1024.Idx → Elt F .f32
  d : Dev nD → Tab

/-- The product of six gathered tokens with one expert's weights, as the row stores it. -/
def dotRow (cx : S6x512.Idx → Elt F .f32) (ew : S1x512x1024.Idx → Elt F .f32) : S1x6x1024.Idx → Elt F .bf16 :=
  shapeCast S1x6x1024 (truncf .bf16 (matmul (φ₁ := .f32) (φ₂ := .f32) dot_S6x512_S512x1024_S6x1024_1_0_0_1_n_n none cx
    (shapeCast S512x1024 ew Shapes1.Facts₀.shapeCasts_S1x512x1024_S512x1024) (constant S6x1024 .f32 0x00000000#32)) Shapes1.Facts₀.bitsLt_bf16_f32) Shapes1.Facts₀.shapeCasts_S6x1024_S1x6x1024

/-- Row `o` of an exchange buffer holds device `o`'s products, block by block: each block's six gathered rows are the tokens its slots name. -/
def RowOk (A : Data F) (o : Dev nD) (f : CB F) : Prop :=
  ∃ g : S24x512.Idx → Elt F .f32,
    (∀ (j : Fin 24) (t : Fin 1024), (A.d o (ix2 o j)).toNat = t.val → ∀ k : Fin 512, g (ix2 j k) = A.x o (ix2 t k))
    ∧ ∀ (b : Fin 4) (i : Fin 6) (h : Fin 1024), f (ix3 o (⟨6 * b.val + i.val, by omega⟩ : Fin 24) h)
        = dotRow (fun p => g (ix2 (⟨6 * b.val + (p 0).val, by have h6 : (p 0).val < 6 := (p 0).isLt; omega⟩ : Fin 24) (p 1))) (fun p => A.e o (ix3 b (p 1) (p 2))) (ix3 (0 : Fin 1) i h)

theorem RowOk.congr {A : Data F} {o : Dev nD} {f f' : CB F} (h : RowOk A o f) (e : ∀ i ∈ (rowM o).view.set, f' i = f i) : RowOk A o f' := by
  obtain ⟨g, hg, hf⟩ := h
  refine ⟨g, hg, fun b i x => (e _ ?_).trans (hf b i x)⟩
  exact mem_rowM.mpr rfl

/-- What slot `j` of device `o`'s row is, once widened. -/
def Slot (A : Data F) (o : Dev nD) (j : Fin 24) (row : Fin 1024 → Elt F .f32) : Prop :=
  ∃ f : CB F, RowOk A o f ∧ row = fun h => (extf (F := F) (FTy.f32) (shapeCast S24x1024 (fun p : S1x24x1024.Idx => f (ix3 o (p 1) (p 2))) Shapes1.Facts₀.shapeCasts_S1x24x1024_S24x1024)
    Shapes1.Facts₀.bitsLt_bf16_f32 : FVec F S24x1024 .f32) (ix2 j h)

/-! ## The schedule -/

/-- The number of places from `c` to `t`. -/
def dist (c t : Dev nD) : ℕ := (t.val + (32 - c.val)) % 32

theorem tgt_dist (c t : Dev nD) : tgt c (dist c t) = t := by
  have h1 : c.val < 32 := c.isLt
  have h2 : t.val < 32 := t.isLt
  exact Fin.ext (by show (c.val + (t.val + (32 - c.val)) % 32) % 32 = t.val; omega)
theorem dist_tgt (c : Dev nD) {i : ℕ} (hi : i < 32) : dist c (tgt c i) = i := by
  have h1 : c.val < 32 := c.isLt
  show ((c.val + i) % 32 + (32 - c.val)) % 32 = i; omega
theorem tgt_ne (c : Dev nD) {i : ℕ} (h1 : 1 ≤ i) (hi : i < 32) : tgt c i ≠ c := fun h => by
  have := congrArg Fin.val h
  have hc : c.val < 32 := c.isLt
  simp only [tgt] at this; omega
theorem org_ne (c : Dev nD) {i : ℕ} (h1 : 1 ≤ i) (hi : i < 32) : org c i ≠ c := fun h => by
  have := congrArg Fin.val h
  have hc : c.val < 32 := c.isLt
  simp only [org] at this; omega
theorem org_zero (c : Dev nD) : org c 0 = c := Fin.ext (by have hc : c.val < 32 := c.isLt; show (c.val + 32) % 32 = c.val; omega)
theorem tgt_inj (c : Dev nD) {i i' : ℕ} (hi : i < 32) (hi' : i' < 32) (h : tgt c i = tgt c i') : i = i' := by
  rw [← dist_tgt c hi, h, dist_tgt c hi']

theorem image_tgt (c : Dev nD) : (Finset.Ico 1 32).image (tgt c) = Finset.univ.erase c := by
  ext t
  rw [Finset.mem_image, Finset.mem_erase]
  constructor
  · rintro ⟨i, hi, rfl⟩
    exact ⟨tgt_ne c (Finset.mem_Ico.mp hi).1 (Finset.mem_Ico.mp hi).2, Finset.mem_univ _⟩
  · rintro ⟨h, -⟩
    have h1 : c.val < 32 := c.isLt
    have h2 : t.val < 32 := t.isLt
    have h3 : t.val ≠ c.val := fun e => h (Fin.ext e)
    exact ⟨dist c t, Finset.mem_Ico.mpr ⟨by unfold dist; omega, by unfold dist; omega⟩, tgt_dist c t⟩

theorem image_org (c : Dev nD) : (Finset.Ico 1 32).image (org c) = Finset.univ.erase c := by
  ext t
  rw [Finset.mem_image, Finset.mem_erase]
  constructor
  · rintro ⟨i, hi, rfl⟩
    exact ⟨org_ne c (Finset.mem_Ico.mp hi).1 (Finset.mem_Ico.mp hi).2, Finset.mem_univ _⟩
  · rintro ⟨h, -⟩
    have h1 : c.val < 32 := c.isLt
    have h2 : t.val < 32 := t.isLt
    have h3 : t.val ≠ c.val := fun e => h (Fin.ext e)
    exact ⟨dist t c, Finset.mem_Ico.mpr ⟨by unfold dist; omega, by unfold dist; omega⟩,
      Fin.ext (by show (c.val + (32 - (c.val + (32 - t.val)) % 32)) % 32 = t.val; omega)⟩

/-- A family over the other devices, by the steps to them, -/
theorem others_tgt (c : Dev nD) (Φ : Dev nD → HP F) :
    bigSep (Finset.univ.erase c) Φ = bigSep (Finset.Ico 1 32) fun i => Φ (tgt c i) := by
  rw [← bigSep_image_of_injOn (f := tgt c) (s := Finset.Ico 1 32)
    (fun i hi i' hi' h => tgt_inj c (Finset.mem_Ico.mp hi).2 (Finset.mem_Ico.mp hi').2 h), image_tgt]

/-- and by the steps from them. -/
theorem others_org (c : Dev nD) (Φ : Dev nD → HP F) :
    bigSep (Finset.univ.erase c) Φ = bigSep (Finset.Ico 1 32) fun i => Φ (org c i) := by
  rw [← bigSep_image_of_injOn (f := org c) (s := Finset.Ico 1 32)
    (fun i hi i' hi' h => org_inj c (Finset.mem_Ico.mp hi).2 (Finset.mem_Ico.mp hi').2 h), image_org]

/-- Device `p` raises device `c`'s barrier: its row for `c` goes along. -/
def barPay (c p : Dev nD) : HP F := iprop((∃ f, rowPt (F := F) p c fullShare f) ∗ reached ER (recvCell p c) 0)
/-- Device `o`'s copy lands at device `c`. -/
def recvPay (A : Data F) (c o : Dev nD) : HP F := iprop(∃ f, ⌜RowOk A o f⌝ ∗ rowPt c o fullShare f)
/-- Device `c`'s copy to `t` is away: a share of its own row returns. -/
def sendPay (c t : Dev nD) : HP F := iprop(∃ f, rowPt (F := F) c c (shareTokN fullShare (dist c t)) f)

/-- What a cell is for. -/
inductive Kind | bar | send (t : Dev nD) | recv (o : Dev nD) | none
  deriving DecidableEq

/-- The kind of a semaphore. -/
def kindOf : SemLoc sig → Kind
  | .reg s => if s = barS then .bar else .none
  | .dma s => if h : 4 ≤ s.val ∧ s.val < 36 then .send ⟨s.val - 4, by show _ < 32; omega⟩
      else if h : 36 ≤ s.val ∧ s.val < 68 then .recv ⟨s.val - 36, by show _ < 32; omega⟩ else .none

theorem kind_bar : kindOf (.reg barS) = .bar := by show (if barS = barS then Kind.bar else .none) = .bar; exact if_pos rfl
theorem kind_send (t : Dev nD) : kindOf (.dma (sendS t)) = .send t := by
  have : t.val < 32 := t.isLt
  dsimp only [kindOf]
  rw [dif_pos (by simp only [sendS]; omega)]
  congr 1; exact Fin.ext (by simp only [sendS]; omega)
theorem kind_recv (t : Dev nD) : kindOf (.dma (recvS t)) = .recv t := by
  have : t.val < 32 := t.isLt
  dsimp only [kindOf]
  rw [dif_neg (by simp only [recvS]; omega), dif_pos (by simp only [recvS]; omega)]
  congr 1; exact Fin.ext (by simp only [recvS]; omega)

/-- The duties of a cell of a kind, on device `c`. -/
def dutiesOf (c : Dev nD) : Kind → Finset (Dev nD)
  | .bar => Finset.univ.erase c
  | .send t => if t = c then ∅ else {c}
  | .recv o => if o = c then ∅ else {o}
  | .none => ∅

def payOf (A : Data F) (c p : Dev nD) : Kind → HP F
  | .bar => barPay c p
  | .send t => sendPay c t
  | .recv o => recvPay A c o
  | .none => iprop(emp)

/-- One round of every cell. -/
def rd (A : Data F) : Rounds.Schedule (GSem nD τ sig) (Dev nD) 𝕄 where
  duties g r := if r = 0 ∧ g.1.2 = .tc then dutiesOf g.1.1 (kindOf g.2) else ∅
  unitless _ := False
  amount g _ _ := if g.2 = .reg barS then 1 else N
  payload g _ p := payOf A g.1.1 p (kindOf g.2)
  amount_pos g _ _ _ := by
    by_cases h : g.2 = .reg barS
    · rw [if_pos h]; exact Nat.one_pos
    · rw [if_neg h]; exact N_pos

instance rd_storable (A : Data F) (g : GSem nD τ sig) (r : ℕ) (p : Dev nD) :
    BI.Storable (upEmb : UEmb _ 𝕄) ((rd A).payload g r p) := by
  show BI.Storable upEmb (payOf A g.1.1 p (kindOf g.2))
  unfold payOf barPay sendPay recvPay
  split <;> infer_instance

section Sched

variable (A : Data F) (c : Dev nD)

theorem send_ne_bar (t : Dev nD) : (SemLoc.dma (sendS t) : SemLoc sig) ≠ .reg barS := fun h => by cases h
theorem recv_ne_bar (t : Dev nD) : (SemLoc.dma (recvS t) : SemLoc sig) ≠ .reg barS := fun h => by cases h

theorem duties_bar : (rd A).duties (barCell c) 0 = Finset.univ.erase c := by
  dsimp only [rd]; rw [if_pos ⟨rfl, rfl⟩, kind_bar]; rfl
theorem duties_send {t : Dev nD} (h : t ≠ c) : (rd A).duties (sendCell c t) 0 = {c} := by
  dsimp only [rd]; rw [if_pos ⟨rfl, rfl⟩, kind_send]; exact if_neg h
theorem duties_recv {o : Dev nD} (h : o ≠ c) : (rd A).duties (recvCell c o) 0 = {o} := by
  dsimp only [rd]; rw [if_pos ⟨rfl, rfl⟩, kind_recv]; exact if_neg h
theorem duties_send_own : (rd A).duties (sendCell c c) 0 = ∅ := by
  dsimp only [rd]; rw [if_pos ⟨rfl, rfl⟩, kind_send]; exact if_pos rfl
theorem duties_recv_own : (rd A).duties (recvCell c c) 0 = ∅ := by
  dsimp only [rd]; rw [if_pos ⟨rfl, rfl⟩, kind_recv]; exact if_pos rfl
theorem duties_later (g : GSem nD τ sig) : ∀ r, 1 ≤ r → (rd A).duties g r = ∅ :=
  fun r hr => by dsimp only [rd]; rw [if_neg (fun h => by omega)]
theorem duties_none (g : GSem nD τ sig) (h : (rd A).duties g 0 = ∅) : ∀ r, 0 ≤ r → (rd A).duties g r = ∅ :=
  fun r _ => by rcases Nat.eq_zero_or_pos r with rfl | hr; exact h; exact duties_later A g r hr

theorem amount_bar (p : Dev nD) : (rd A).amount (barCell c) 0 p = 1 := by dsimp only [rd]; exact if_pos rfl
theorem amount_send (t p : Dev nD) : (rd A).amount (sendCell c t) 0 p = N := by dsimp only [rd]; exact if_neg (send_ne_bar t)
theorem amount_recv (t p : Dev nD) : (rd A).amount (recvCell c t) 0 p = N := by dsimp only [rd]; exact if_neg (recv_ne_bar t)

theorem expect_bar : (rd A).expect (barCell c) 0 = 31 := by
  unfold Schedule.expect Schedule.amountOf
  rw [duties_bar, Finset.sum_congr rfl fun p _ => amount_bar A c p, Finset.sum_const, Finset.card_erase_of_mem (Finset.mem_univ _)]
  rfl
theorem expect_send {t : Dev nD} (h : t ≠ c) : (rd A).expect (sendCell c t) 0 = N := by
  unfold Schedule.expect Schedule.amountOf; rw [duties_send A c h, Finset.sum_singleton, amount_send]
theorem expect_recv {o : Dev nD} (h : o ≠ c) : (rd A).expect (recvCell c o) 0 = N := by
  unfold Schedule.expect Schedule.amountOf; rw [duties_recv A c h, Finset.sum_singleton, amount_recv]

theorem payload_bar (p : Dev nD) : (rd A).payload (barCell c) 0 p = barPay c p := by dsimp only [rd]; rw [kind_bar]; rfl
theorem payload_send (t p : Dev nD) : (rd A).payload (sendCell c t) 0 p = sendPay c t := by dsimp only [rd]; rw [kind_send]; rfl
theorem payload_recv (o p : Dev nD) : (rd A).payload (recvCell c o) 0 p = recvPay A c o := by dsimp only [rd]; rw [kind_recv]; rfl

theorem rest_bar : bigSep ((rd A).duties (barCell c) 0 \ ∅) (fun p => (rd A).payload (barCell c) 0 p)
    = bigSep (Finset.Ico 1 32) fun i => barPay c (tgt c i) := by
  rw [Finset.sdiff_empty, duties_bar, bigSep_congr fun p _ => payload_bar A c p, others_tgt]
theorem rest_send {t : Dev nD} (h : t ≠ c) : bigSep ((rd A).duties (sendCell c t) 0 \ ∅) (fun p => (rd A).payload (sendCell c t) 0 p) = sendPay c t := by
  rw [Finset.sdiff_empty, duties_send A c h, bigSep_singleton, payload_send]
theorem rest_recv {o : Dev nD} (h : o ≠ c) : bigSep ((rd A).duties (recvCell c o) 0 \ ∅) (fun p => (rd A).payload (recvCell c o) 0 p) = recvPay A c o := by
  rw [Finset.sdiff_empty, duties_recv A c h, bigSep_singleton, payload_recv]

end Sched

/-! ## What each core owes; the levels -/

/-- The barrier units still owed from step `n`, the copies' credits from step `n`. -/
def owBar (c : Dev nD) (n : ℕ) : CellTallies nD τ sig Unit := ∑ i ∈ Finset.Ico n 32, tallyAt (barCell (tgt c i)) () 1
def owRecv (c : Dev nD) (n : ℕ) : CellTallies nD τ sig Unit := ∑ i ∈ Finset.Ico n 32, tallyAt (recvCell (tgt c i) c) () N

theorem owBar_step (c : Dev nD) {n : ℕ} (h : n < 32) : owBar c n = owBar c (n + 1) + tallyAt (barCell (tgt c n)) () 1 := by
  unfold owBar; rw [Finset.sum_eq_sum_Ico_succ_bot h, add_comm]
theorem owRecv_step (c : Dev nD) {n : ℕ} (h : n < 32) : owRecv c n = owRecv c (n + 1) + tallyAt (recvCell (tgt c n) c) () N := by
  unfold owRecv; rw [Finset.sum_eq_sum_Ico_succ_bot h, add_comm]
theorem owBar_end (c : Dev nD) : owBar c 32 = 0 := by unfold owBar; rw [Finset.Ico_self]; rfl
theorem owRecv_end (c : Dev nD) : owRecv c 32 = 0 := by unfold owRecv; rw [Finset.Ico_self]; rfl

/-- Owed at launch. -/
def O₀ (c : Dev nD) : CellTallies nD τ sig Unit := owRecv c 1 + owBar c 1

def L (g : GSem nD τ sig) : Finset Unit := if g.1.2 = .tc then {()} else ∅
/-- Barrier cells at 1, receive cells at 2, the rest at 0. -/
def lv (g : GSem nD τ sig) (_ : Unit) : ℕ := match kindOf g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [kind_bar]
theorem lv_recv (c o : Dev nD) : lv (recvCell c o) () = 2 := by unfold lv; rw [kind_recv]

theorem sum_pos_exists {s : Finset ℕ} {f : ℕ → CellTallies nD τ sig Unit} {g : GSem nD τ sig} {u : Unit}
    (h : 0 < (∑ i ∈ s, f i) g u) : ∃ i ∈ s, 0 < f i g u := by
  by_contra hn
  push Not at hn
  have : (∑ i ∈ s, f i) g u = ∑ i ∈ s, f i g u := by
    rw [Finset.sum_apply, Finsupp.finset_sum_apply]
  rw [this, Finset.sum_eq_zero fun i hi => Nat.le_zero.mp (hn i hi)] at h
  exact Nat.lt_irrefl 0 h

theorem tally_pos {g g' : GSem nD τ sig} {u : Unit} {k : ℕ} (h : 0 < (tallyAt g' () k : CellTallies nD τ sig Unit) g u) : g = g' := by
  rw [tallyAt_apply] at h
  split at h
  · next hg => exact hg.1
  · exact absurd h (Nat.lt_irrefl 0)

theorem owRecv_pos {c : Dev nD} {n : ℕ} {g : GSem nD τ sig} {u : Unit} (h : 0 < owRecv c n g u) : ∃ t, g = recvCell t c := by
  obtain ⟨i, -, hi⟩ := sum_pos_exists h
  exact ⟨_, tally_pos hi⟩
theorem owBar_pos {c : Dev nD} {n : ℕ} {g : GSem nD τ sig} {u : Unit} (h : 0 < owBar c n g u) : ∃ t, g = barCell t := by
  obtain ⟨i, -, hi⟩ := sum_pos_exists h
  exact ⟨_, tally_pos hi⟩

theorem O₀_pos {c : Dev nD} {g : GSem nD τ sig} {u : Unit} (h : 0 < O₀ c g u) : (∃ t, g = recvCell t c) ∨ ∃ t, g = barCell t := by
  unfold O₀ at h
  rw [Pi.add_apply, Finsupp.add_apply] at h
  rcases Nat.add_pos_iff_pos_or_pos.mp h with h | h
  · exact .inl (owRecv_pos h)
  · exact .inr (owBar_pos h)

/-- The barrier may be waited for while copies are owed. -/
theorem mayWait_bar (c : Dev nD) (n : ℕ) :
    (levAts L lv : HP F) ⊢ MayWait (c : Thread nD τ) (.reg barS) () (owRecv c n) :=
  MayOwe.of_cut (L := L) (lev := lv) 1 (fun p hp => by rw [Finset.mem_singleton.mp hp, L_tc]; exact Finset.mem_singleton_self _)
    (fun g u hg => by obtain ⟨t, rfl⟩ := owRecv_pos hg; rw [L_tc]; exact Finset.mem_singleton_self _)
    (fun p hp => by rw [Finset.mem_singleton.mp hp]; exact (lv_bar c).le)
    (fun g u hg => by obtain ⟨t, rfl⟩ := owRecv_pos hg; rw [lv_recv]; decide)

end Cert.KernelIdeal.Moe
-- ==== Proof.Steps.lean ====
/- The steps of the kernel's body before and between the scatters: signals, gathers, products, copies and waits. -/
module

public import proofs.«01_k».proof.Proof.Talk
public import Idealize.SL.BI.BigOpNat

@[expose] public section

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

/-! ## The records every device may consult -/

/-- All invariants under one map of names; round 0 of every barrier cell reached. -/
def recs (A : Data F) (K : GSem nD τ sig → ℕ) : HP F :=
  iprop((bigSep Finset.univ fun c : Dev nD => cellInv ER (rd A) (K (barCell c)) (barCell c))
    ∗ (bigSep Finset.univ fun p : Dev nD × Dev nD => cellInv ER (rd A) (K (sendCell p.1 p.2)) (sendCell p.1 p.2))
    ∗ (bigSep Finset.univ fun p : Dev nD × Dev nD => cellInv ER (rd A) (K (recvCell p.1 p.2)) (recvCell p.1 p.2))
    ∗ bigSep Finset.univ fun c : Dev nD => reached ER (barCell c) 0)

instance recs_persistent (A : Data F) (K : GSem nD τ sig → ℕ) : BI.Persistent (recs A K) := by unfold recs; infer_instance

section Recs

variable {A : Data F} {K : GSem nD τ sig → ℕ}

/-- One member of a family, the others dropped. -/
theorem at_dev (Φ : Dev nD → HP F) (c : Dev nD) : bigSep Finset.univ Φ ⊢ Φ c := bigSep_elim (Finset.mem_univ c)
theorem at_pair (Φ : Dev nD × Dev nD → HP F) (p : Dev nD × Dev nD) : bigSep Finset.univ Φ ⊢ Φ p := bigSep_elim (Finset.mem_univ p)

theorem recs_bar (c : Dev nD) : recs A K ⊢ cellInv ER (rd A) (K (barCell c)) (barCell c) := by
  unfold recs
  iintro ⟨#H, -, -, -⟩
  iapply (at_dev (fun c : Dev nD => cellInv ER (rd A) (K (barCell c)) (barCell c)) c); iexact H
theorem recs_send (c t : Dev nD) : recs A K ⊢ cellInv ER (rd A) (K (sendCell c t)) (sendCell c t) := by
  unfold recs
  iintro ⟨-, #H, -, -⟩
  iapply (at_pair (fun p : Dev nD × Dev nD => cellInv ER (rd A) (K (sendCell p.1 p.2)) (sendCell p.1 p.2)) (c, t)); iexact H
theorem recs_recv (c t : Dev nD) : recs A K ⊢ cellInv ER (rd A) (K (recvCell c t)) (recvCell c t) := by
  unfold recs
  iintro ⟨-, -, #H, -⟩
  iapply (at_pair (fun p : Dev nD × Dev nD => cellInv ER (rd A) (K (recvCell p.1 p.2)) (recvCell p.1 p.2)) (c, t)); iexact H
theorem recs_reached (c : Dev nD) : recs A K ⊢ reached ER (barCell c) 0 := by
  unfold recs
  iintro ⟨-, -, -, #H⟩
  iapply (at_dev (fun c : Dev nD => reached ER (barCell c) 0) c); iexact H

end Recs

/-! ## Blocks -/

section Blocks

variable (A : Data F) (K : GSem nD τ sig → ℕ) (c : Dev nD)

/-- Before signal `n`. -/
def SigB (n : ℕ) : HP F :=
  iprop(recs A K ∗ (∃ W, owes (c : Thread nD τ) (owRecv c 1 + owBar c n) W)
    ∗ bigSep (Finset.Ico n 32) fun i => iprop(dutyTok ER (barCell (tgt c i)) 0 c ∗ barPay (F := F) (tgt c i) c))

/-- Before gather `j`. -/
def GaB (j : ℕ) : HP F :=
  iprop(pt c cc0_stg2_0 (A.d c) ∗ pt c cc0_stg0_0 (A.x c)
    ∗ ∃ g : S24x512.Idx → Elt F .f32, ⌜∀ j' : Fin 24, j'.val < j → ∀ t : Fin 1024, (A.d c (ix2 c j')).toNat = t.val → ∀ k : Fin 512, g (ix2 j' k) = A.x c (ix2 t k)⌝
      ∗ pt c cc0_scratch1 g)

/-- The gathered tokens of block `b`, and the weights of its expert. -/
def cxB (g : S24x512.Idx → Elt F .f32) (b : ℕ) (hb : b < 4) : S6x512.Idx → Elt F .f32 :=
  fun p => g (ix2 (⟨6 * b + (p 0).val, by have h6 : (p 0).val < 6 := (p 0).isLt; omega⟩ : Fin 24) (p 1))
def ewB (b : Fin 4) : S1x512x1024.Idx → Elt F .f32 := fun p => A.e c (ix3 b (p 1) (p 2))

/-- Before the product of block `n`. -/
def DoB (g : S24x512.Idx → Elt F .f32) (n : ℕ) : HP F :=
  iprop(pt c cc0_scratch1 g ∗ pt c cc0_stg1_0 (A.e c)
    ∗ ∃ f : CB F, ⌜∀ b : Fin 4, b.val < n → ∀ (i : Fin 6) (h : Fin 1024),
        f (ix3 c (⟨6 * b.val + i.val, by omega⟩ : Fin 24) h) = dotRow (cxB g b.val b.isLt) (ewB A c b) (ix3 (0 : Fin 1) i h)⌝ ∗ rowPt c c fullShare f)

/-- Before the copy of step `n`. -/
def SeB (f : CB F) (n : ℕ) : HP F :=
  iprop(recs A K ∗ (∃ W, owes (c : Thread nD τ) (owRecv c n) W)
    ∗ (bigSep (Finset.Ico n 32) fun i => iprop(dutyTok ER (sendCell c (tgt c i)) 0 c ∗ reached ER (sendCell c (tgt c i)) 0 ∗ dutyTok ER (recvCell (tgt c i) c) 0 c
        ∗ barPay (F := F) c (tgt c i) ∗ rowPt c c (shareTokN fullShare i) f))
    ∗ bigSep (Finset.Ico 1 n) fun i => cred (tallyAt (sendCell c (tgt c i)) () N))

/-- Before the wait for the row of step `n`. -/
def ReB (n : ℕ) : HP F :=
  iprop(recs A K ∗ (∃ W, owes (c : Thread nD τ) (0 : CellTallies nD τ sig Unit) W)
    ∗ (bigSep (Finset.Ico n 32) fun i => iprop(cred (tallyAt (recvCell c (org c i)) () N) ∗ atPos ER (recvCell c (org c i)) 0 ∅ 0))
    ∗ bigSep (Finset.Ico 1 n) fun i => iprop(atPos ER (recvCell c (org c i)) 1 ∅ 0 ∗ recvPay A c (org c i)))

/-- Before the wait for the copy of step `n`. -/
def SwB (n : ℕ) : HP F :=
  iprop(recs A K ∗ (∃ W, owes (c : Thread nD τ) (0 : CellTallies nD τ sig Unit) W)
    ∗ (bigSep (Finset.Ico n 32) fun i => iprop(cred (tallyAt (sendCell c (tgt c i)) () N) ∗ atPos ER (sendCell c (tgt c i)) 0 ∅ 0))
    ∗ bigSep (Finset.Ico 1 n) fun i => iprop(atPos ER (sendCell c (tgt c i)) 1 ∅ 0 ∗ sendPay (F := F) c (tgt c i)))

/-- Before a chunk is staged: the table, the staging buffer, the accumulator. -/
def SP (D : Tab) (Sl : Dev nD → Fin 24 → (Fin 1024 → Elt F .f32) → Prop) (n : ℕ) : HP F :=
  iprop(pt c cc0_stg2_0 D ∗ (∃ fs : S24x1024.Idx → Elt F .f32, pt c cc0_scratch2 fs)
    ∗ ∃ f : S1032x1024.Idx → Elt F .f32, ⌜AccInv c D Sl n 0 f⌝ ∗ pt c cc0_scratch3 f)

/-- What the kernel's result is: a token's row is what a slot naming it holds, zero if none does. -/
def OutOk (out : S1024x1024.Idx → Elt F .f32) : Prop :=
  ∀ t : Fin 1024, (∀ o j, (A.d c (ix2 o j)).toNat = t.val → Slot A o j (fun h => out (ix2 t h)))
    ∧ ((∀ o j, (A.d c (ix2 o j)).toNat ≠ t.val) → ∀ h, out (ix2 t h) = FloatOps.ofBits .f32 0x00000000#32)

end Blocks

section Steps

variable {A : Data F} {K : GSem nD τ sig → ℕ} {c : Dev nD} {D : Tab} {Sl : Dev nD → Fin 24 → (Fin 1024 → Elt F .f32) → Prop}
  {R : HP F} {Q : Unit → HP F}

theorem cast_self {α : Type} {s : Shape} (r : s.Idx → α) (h : s.ShapeCasts s) : shapeCast s r h = r :=
  funext fun i => congrArg r (Shape.reshapeEquiv_self _ i)

/-- Raising the barrier of the device `n` places on. -/
theorem s_signal {n : ℕ} (h1 : 1 ≤ n) (hn : n < 32) {dst : Thread nD τ} {sem : Sem sig} {a : ℤ}
    {k : PUnit → Prog (TpuEff nD τ sig (Elt F) Λ₀ .tc) PUnit}
    (hd : dst = (tgt c n : Thread nD τ)) (hs : sem = barS) (ha : a = ((1 : ℕ) : ℤ))
    (h : iprop(SigB A K c (n + 1) ∗ R) ⊢ wpc c (k ⟨⟩) Q) :
    iprop(SigB A K c n ∗ R) ⊢ wpc c (.op (.semSignal dst sem a) k) Q := by
  subst hd; subst hs; subst ha
  unfold SigB
  rw [bigSep_Ico_succ_bot hn]
  iintro ⟨⟨#HI, ⟨%W, HO⟩, ⟨Ht, Hp⟩, Hrest⟩, HR⟩
  iapply (Rounds.wp_signal 𝒱₀ ER (rd A) (c : Thread nD τ) none (dst := (tgt c n : Thread nD τ)) (sem := barS) (O₀ := owRecv c 1 + owBar c n) (r := 0) (d := c) (κ := K (barCell (tgt c n)))
      (by rw [duties_bar]; exact Finset.mem_erase.mpr ⟨(tgt_ne c h1 hn).symm, Finset.mem_univ _⟩) (amount_bar A (tgt c n) c) () (owRecv c 1 + owBar c (n + 1))
      (by rw [owBar_step c hn, add_assoc])) $$ [HO Ht Hp]
  · isplitr; · iapply (recs_bar (tgt c n)); iexact HI
    isplitl [HO]; · iexact HO
    isplitl [Ht]; · iexact Ht
    isplitl [Hp]
    · rw [payload_bar]; iexact Hp
    · iapply (recs_reached (tgt c n)); iexact HI
  iintro HO
  iapply h
  unfold SigB
  isplitr [HR]
  · isplitr; · iexact HI
    isplitl [HO]; · iexists W; iexact HO
    iexact Hrest
  · iexact HR

/-! ### Gathers -/

/-- The condition a gather tests. -/
def cndTok (v : BitVec 32) : BitVec 1 := Scalar.cmpi .ne (Scalar.extui (Scalar.cmpi .slt v 1024#32)) 0#32

theorem cndTok_iff {v : BitVec 32} (hv : v.toNat ≤ 1024) : cndTok v = 1#1 ↔ v.toNat < 1024 := by
  have hb : v.slt 1024#32 = decide (v.toNat < 1024) := by
    rw [BitVec.slt_eq_decide]
    have : v.toInt = (v.toNat : ℤ) := by rw [BitVec.toInt_eq_toNat_of_lt]; omega
    rw [this]
    have : (1024#32).toInt = ((1024 : ℕ) : ℤ) := rfl
    rw [this]
    simp only [Nat.cast_lt]
  have hc : Scalar.cmpi .slt v 1024#32 = BitVec.ofBool (v.slt 1024#32) := rfl
  unfold cndTok
  rw [hc, hb]
  by_cases h : v.toNat < 1024
  · simp only [h, decide_true, iff_true]; rfl
  · simp only [h, decide_false, iff_false]; decide

/-- A gather's side condition holds of a word of the table. -/
theorem chkTok (hD : ∀ o, TableOk (A.d o)) {v : BitVec 32} {o : Dev nD} {j' : Fin 24} (hv : v = A.d o (ix2 o j')) :
    ∀ _ : cndTok v = 1#1, ∀ a, offTok v a + S1x512.size a ≤ S1024x512.size a := fun h =>
  offTok_inb v ((cndTok_iff (by rw [hv]; exact (hD o).le o j')).mp h)

/-- Reading the word of the table for a gather. -/
theorem s_gtab {j : ℕ} {off : Fin 2 → Nat} {inb hl} {k : _ → Prog (TpuEff nD τ sig (Elt F) Λ₀ .tc) PUnit}
    (hj : j < 24) (hoff : off = ![c.val, j])
    (h : ∀ r : S1x1.Idx → BitVec 32, (∀ x, r x = A.d c (ix2 c ⟨j, hj⟩)) → iprop(GaB A c j ∗ R) ⊢ wpc c (k r) Q) :
    iprop(GaB A c j ∗ R) ⊢ wpc c (.op (.load dM (Rect.unit (s := S32x24) off S1x1.size inb).toLoadRect hl) k) Q := by
  unfold GaB
  iintro ⟨⟨Hd, Hs, Ha⟩, HR⟩
  iapply (wp_load (defs := defs₀ (F := F)) 𝒱₀ (c : Thread nD τ) none Set.univ (m := dM) (S := Finset.univ) (q := fullShare) (f := A.d c) (Finset.subset_univ _)) $$ [Hd]
  · iexact Hd
  iintro Hd
  iapply (h _ ?_) $$ [Hd Hs Ha HR]
  · intro x
    rw [readAt_rect]
    congr 1
    subst hoff
    funext a
    match a with
    | ⟨0, _⟩ => exact Fin.ext (by have : (x 0).val = 0 := by have := (x 0).isLt; simp at this; omega
                                  simp [Rect.emb_apply, this])
    | ⟨1, _⟩ => exact Fin.ext (by have : (x 1).val = 0 := by have := (x 1).isLt; simp at this; omega
                                  simp [Rect.emb_apply, this])
  · unfold GaB
    isplitl [Hd Hs Ha]
    · isplitl [Hd]; · iexact Hd
      isplitl [Hs] <;> iassumption
    · iexact HR

/-- A conditional whose two branches come to the same. -/
theorem s_if {P : Prop} [Decidable P] {H H' : HP F} {a : P → Prog (TpuEff nD τ sig (Elt F) Λ₀ .tc) PUnit}
    {b : ¬ P → Prog (TpuEff nD τ sig (Elt F) Λ₀ .tc) PUnit} {k : PUnit → Prog (TpuEff nD τ sig (Elt F) Λ₀ .tc) PUnit}
    (ha : ∀ hp, H ⊢ wpc c (a hp) fun _ => H') (hb : ∀ hp, H ⊢ wpc c (b hp) fun _ => H')
    (h : H' ⊢ wpc c (k ⟨⟩) Q) : H ⊢ wpc c (Prog.bind (dite P a b) k) Q := by
  unfold wpc
  change H ⊢ wp frame _ _ (dite P a b >>= k) _
  rw [wp_bind]
  have hk : ∀ u : PUnit, H' ⊢ wpc c (k u) Q := fun _ => h
  by_cases hp : P
  · rw [dif_pos hp]; exact (ha hp).trans (Sem.wp_mono _ _ _ fun u => hk u)
  · rw [dif_neg hp]; exact (hb hp).trans (Sem.wp_mono _ _ _ fun u => hk u)

/-- The end of a branch. -/
theorem s_ret {H : HP F} {H' : HP F} (h : H ⊢ H') : H ⊢ wpc c (.ret ⟨⟩ : Prog (TpuEff nD τ sig (Elt F) Λ₀ .tc) PUnit) fun _ => H' := by
  unfold wpc
  rw [wp_ret]
  exact h.trans fupd_intro

/-- Reading the token's row. -/
theorem s_gx {j : ℕ} {v : BitVec 32} (hlt : v.toNat < 1024) {off : Fin 2 → Nat} {inb hl} {k : _ → Prog (TpuEff nD τ sig (Elt F) Λ₀ .tc) PUnit}
    (hoff : off = offTok v)
    (h : ∀ r : S1x512.Idx → Elt F .f32, (∀ t : Fin 1024, v.toNat = t.val → ∀ x : Fin 512, r (ix2 0 x) = A.x c (ix2 t x)) → iprop(GaB A c j ∗ R) ⊢ wpc c (k r) Q) :
    iprop(GaB A c j ∗ R) ⊢ wpc c (.op (.load xM (Rect.unit (s := S1024x512) off S1x512.size inb).toLoadRect hl) k) Q := by
  unfold GaB
  iintro ⟨⟨Hd, Hs, Ha⟩, HR⟩
  iapply (wp_load (defs := defs₀ (F := F)) 𝒱₀ (c : Thread nD τ) none Set.univ (m := xM) (S := Finset.univ) (q := fullShare) (f := A.x c) (Finset.subset_univ _)) $$ [Hs]
  · iexact Hs
  iintro Hs
  iapply (h _ ?_) $$ [Hd Hs Ha HR]
  · intro t ht x
    rw [readAt_rect]
    exact congrArg (A.x c) (emb_row (n := 1024) (m := 512) (t := t.val) (by rw [hoff, offTok_eq, ht]) inb t.isLt x)
  · unfold GaB
    isplitl [Hd Hs Ha]
    · isplitl [Hd]; · iexact Hd
      isplitl [Hs] <;> iassumption
    · iexact HR

/-- Reading the gathered rows, the value unused. -/
theorem s_gdead {j : ℕ} {r : Rect S24x512} {hl} {k : _ → Prog (TpuEff nD τ sig (Elt F) Λ₀ .tc) PUnit}
    (h : ∀ x, iprop(GaB A c j ∗ R) ⊢ wpc c (k x) Q) :
    iprop(GaB A c j ∗ R) ⊢ wpc c (.op (.load gM r.toLoadRect hl) k) Q := by
  unfold GaB
  iintro ⟨⟨Hd, Hs, %g, %hg, Ha⟩, HR⟩
  iapply (wp_load (defs := defs₀ (F := F)) 𝒱₀ (c : Thread nD τ) none Set.univ (m := gM) (S := Finset.univ) (q := fullShare) (f := g) (Finset.subset_univ _)) $$ [Ha]
  · iexact Ha
  iintro Ha
  iapply (h _) $$ [Hd Hs Ha HR]
  unfold GaB
  isplitl [Hd Hs Ha]
  · isplitl [Hd]; · iexact Hd
    isplitl [Hs]; · iexact Hs
    iexists g; isplitr; · ipureintro; exact hg
    iexact Ha
  · iexact HR

/-- Writing the token's row. -/
theorem s_gput {j : ℕ} (hj : j < 24) {v : BitVec 32} (hv : v = A.d c (ix2 c ⟨j, hj⟩)) {w : S1x512.Idx → Elt F .f32}
    (hw : ∀ t : Fin 1024, v.toNat = t.val → ∀ x : Fin 512, w (ix2 0 x) = A.x c (ix2 t x))
    {off : Fin 2 → Nat} {inb hx hm} {k : PUnit → Prog (TpuEff nD τ sig (Elt F) Λ₀ .tc) PUnit} (hoff : off = ![j, 0])
    (h : iprop(GaB A c (j + 1) ∗ R) ⊢ wpc c (k ⟨⟩) Q) :
    iprop(GaB A c j ∗ R) ⊢ wpc c (.op (.store gM (Rect.unit (s := S24x512) off S1x512.size inb) w Finset.univ hx hm) k) Q := by
  unfold GaB
  iintro ⟨⟨Hd, Hs, %g, %hg, Ha⟩, HR⟩
  iapply (wp_store (defs := defs₀ (F := F)) 𝒱₀ (c : Thread nD τ) none Set.univ (m := gM) (S := Finset.univ) (f := g) (Finset.subset_univ _)) $$ [Ha]
  · iexact Ha
  iintro Ha
  iapply h $$ [Hd Hs Ha HR]
  unfold GaB
  isplitl [Hd Hs Ha]
  · isplitl [Hd]; · iexact Hd
    isplitl [Hs]; · iexact Hs
    iexists _; isplitr
    swap; · iexact Ha
    ipureintro
    intro j' hj' t ht x
    by_cases e : j'.val = j
    · have e' : j' = ⟨j, hj⟩ := Fin.ext e
      rw [← hw t (by rw [hv, ← e']; exact ht) x, e', ← emb_row (n := 24) (m := 512) hoff inb hj x]
      exact write_hit cc0_scratch1 (Rect.unit (s := S24x512) off S1x512.size inb) g w (ix2 0 x)
    · rw [← hg j' (by omega) t ht x]
      exact write_miss cc0_scratch1 (Rect.unit (s := S24x512) off S1x512.size inb) g w (not_mem_row hoff inb j' e x)
  · iexact HR

/-- A slot that names no token gathers nothing. -/
theorem s_gskip {j : ℕ} (hj : j < 24) {v : BitVec 32} (hv : v = A.d c (ix2 c ⟨j, hj⟩)) (hno : ¬ v.toNat < 1024) :
    iprop(GaB A c j ∗ R) ⊢ iprop(GaB A c (j + 1) ∗ R) := by
  unfold GaB
  iintro ⟨⟨Hd, Hs, %g, %hg, Ha⟩, HR⟩
  isplitl [Hd Hs Ha]
  · isplitl [Hd]; · iexact Hd
    isplitl [Hs]; · iexact Hs
    iexists g; isplitr; · ipureintro
                          intro j' hj' t ht x
                          by_cases e : j'.val = j
                          · have e' : j' = ⟨j, hj⟩ := Fin.ext e
                            rw [e', ← hv] at ht
                            exact absurd (ht ▸ t.isLt) hno
                          · exact hg j' (by omega) t ht x
    iexact Ha
  · iexact HR

/-! ### Products -/

/-- Reading the six gathered rows of a block. -/
theorem s_cx {g : S24x512.Idx → Elt F .f32} {n : ℕ} (hn : n < 4) {off : Fin 2 → Nat} {inb hl} {k : _ → Prog (TpuEff nD τ sig (Elt F) Λ₀ .tc) PUnit}
    (hoff : off = ![6 * n, 0]) (h : iprop(DoB A c g n ∗ R) ⊢ wpc c (k (cxB g n hn)) Q) :
    iprop(DoB A c g n ∗ R) ⊢ wpc c (.op (.load gM (Rect.unit (s := S24x512) off S6x512.size inb).toLoadRect hl) k) Q := by
  unfold DoB
  iintro ⟨⟨Hg, He⟩, HR⟩
  iapply (wp_load (defs := defs₀ (F := F)) 𝒱₀ (c : Thread nD τ) none Set.univ (m := gM) (S := Finset.univ) (q := fullShare) (f := g) (Finset.subset_univ _)) $$ [Hg]
  · iexact Hg
  iintro Hg
  have e : (gM : Memref sig .tc .vmem S24x512 .f32).view.readAt (Elt F) (Rect.unit (s := S24x512) off S6x512.size inb).toLoadRect g = cxB g n hn := by
    subst hoff
    funext x
    rw [readAt_rect]
    refine congrArg g (funext fun a => ?_)
    match a with
    | ⟨0, _⟩ => exact Fin.ext (by rw [Rect.emb_apply]; show 6 * n + 1 * (x 0).val = _; rw [one_mul])
    | ⟨1, _⟩ => exact Fin.ext (by rw [Rect.emb_apply]; show 0 + 1 * (x 1).val = _; rw [one_mul, zero_add])
  rw [e]
  iapply h
  unfold DoB
  isplitl [Hg He]
  · isplitl [Hg] <;> iassumption
  · iexact HR

/-- Reading the weights of a block's expert. -/
theorem s_ew {g : S24x512.Idx → Elt F .f32} {n : ℕ} (hn : n < 4) {off : Fin 3 → Nat} {inb hl} {k : _ → Prog (TpuEff nD τ sig (Elt F) Λ₀ .tc) PUnit}
    (hoff : off = ![n, 0, 0]) (h : iprop(DoB A c g n ∗ R) ⊢ wpc c (k (ewB A c ⟨n, hn⟩)) Q) :
    iprop(DoB A c g n ∗ R) ⊢ wpc c (.op (.load wM (Rect.unit (s := S4x512x1024) off S1x512x1024.size inb).toLoadRect hl) k) Q := by
  unfold DoB
  iintro ⟨⟨Hg, He, Hf⟩, HR⟩
  iapply (wp_load (defs := defs₀ (F := F)) 𝒱₀ (c : Thread nD τ) none Set.univ (m := wM) (S := Finset.univ) (q := fullShare) (f := A.e c) (Finset.subset_univ _)) $$ [He]
  · iexact He
  iintro He
  have e : (wM : Memref sig .tc .vmem S4x512x1024 .f32).view.readAt (Elt F) (Rect.unit (s := S4x512x1024) off S1x512x1024.size inb).toLoadRect (A.e c) = ewB A c ⟨n, hn⟩ := by
    subst hoff
    funext x
    rw [readAt_rect]
    refine congrArg (A.e c) (funext fun a => ?_)
    match a with
    | ⟨0, _⟩ => exact Fin.ext (by rw [Rect.emb_apply]; show n + 1 * (x 0).val = n; have h1 : (x 0).val < 1 := (x 0).isLt; omega)
    | ⟨1, _⟩ => exact Fin.ext (by rw [Rect.emb_apply]; show 0 + 1 * (x 1).val = _; rw [one_mul, zero_add])
    | ⟨2, _⟩ => exact Fin.ext (by rw [Rect.emb_apply]; show 0 + 1 * (x 2).val = _; rw [one_mul, zero_add])
  rw [e]
  iapply h
  unfold DoB
  isplitl [Hg He Hf]
  · isplitl [Hg]; · iexact Hg
    isplitl [He] <;> iassumption
  · iexact HR

/-- A block of a row lies in the row. -/
theorem block_sub {off : Fin 3 → Nat} {inb} {m : ℕ} (hoff : off = ![c.val, m, 0]) :
    ((cM : Memref sig .tc .vmem S32x24x1024 .bf16).access (Rect.unit (s := S32x24x1024) off S1x6x1024.size inb)).set ⊆ (rowM c).view.set := by
  intro i hi
  refine mem_rowM.mpr ?_
  rw [View.set_slice_whole cc0_scratch0 (Rect.unit (s := S32x24x1024) off S1x6x1024.size inb), Rect.mem_set_unit] at hi
  have h0 := hi 0
  rw [hoff] at h0
  have h1 : c.val ≤ (i 0).val := h0.1
  have h2 : (i 0).val < c.val + 1 := h0.2
  omega

/-- Reading a block of the own row, the value unused. -/
theorem s_cdead {g : S24x512.Idx → Elt F .f32} {n m : ℕ} {off : Fin 3 → Nat} {inb hl} {k : _ → Prog (TpuEff nD τ sig (Elt F) Λ₀ .tc) PUnit}
    (hoff : off = ![c.val, m, 0]) (h : ∀ x, iprop(DoB A c g n ∗ R) ⊢ wpc c (k x) Q) :
    iprop(DoB A c g n ∗ R) ⊢ wpc c (.op (.load cM (Rect.unit (s := S32x24x1024) off S1x6x1024.size inb).toLoadRect hl) k) Q := by
  unfold DoB
  iintro ⟨⟨Hg, He, %f, %hf, Hf⟩, HR⟩
  iapply (wp_load_rect (defs := defs₀ (F := F)) 𝒱₀ (c : Thread nD τ) none Set.univ (m := cM) (r := Rect.unit (s := S32x24x1024) off S1x6x1024.size inb)
    (S := (rowM c).view.set) (q := fullShare) (f := f) (block_sub hoff)) $$ [Hf]
  · iexact Hf
  iintro Hf
  iapply (h _) $$ [Hg He Hf HR]
  unfold DoB
  isplitl [Hg He Hf]
  · isplitl [Hg]; · iexact Hg
    isplitl [He]; · iexact He
    iexists f; isplitr; · ipureintro; exact hf
    iexact Hf
  · iexact HR

/-- Writing a block of the own row. -/
theorem s_cput {g : S24x512.Idx → Elt F .f32} {n : ℕ} (hn : n < 4) {w : S1x6x1024.Idx → Elt F .bf16} {off : Fin 3 → Nat} {inb hx hm}
    {k : _ → Prog (TpuEff nD τ sig (Elt F) Λ₀ .tc) PUnit} (hoff : off = ![c.val, 6 * n, 0])
    (hw : w = dotRow (cxB g n hn) (ewB A c ⟨n, hn⟩)) (h : iprop(DoB A c g (n + 1) ∗ R) ⊢ wpc c (k ⟨⟩) Q) :
    iprop(DoB A c g n ∗ R) ⊢ wpc c (.op (.store cM (Rect.unit (s := S32x24x1024) off S1x6x1024.size inb) w Finset.univ hx hm) k) Q := by
  unfold DoB
  iintro ⟨⟨Hg, He, %f, %hf, Hf⟩, HR⟩
  iapply (wp_store (defs := defs₀ (F := F)) 𝒱₀ (c : Thread nD τ) none Set.univ (m := cM) (r := Rect.unit (s := S32x24x1024) off S1x6x1024.size inb)
    (S := (rowM c).view.set) (f := f) (by rw [View.setOn_univ]; exact block_sub hoff)) $$ [Hf]
  · iexact Hf
  iintro Hf
  iapply h
  unfold DoB
  isplitl [Hg He Hf]
  · isplitl [Hg]; · iexact Hg
    isplitl [He]; · iexact He
    iexists _; isplitr
    swap; · iexact Hf
    ipureintro
    intro b hb i x
    by_cases e : b.val = n
    · obtain ⟨b, hb4⟩ := b
      dsimp only at e; subst e
      rw [← hw]
      have ei : ix3 c (⟨6 * b + i.val, by omega⟩ : Fin 24) x = (Rect.unit (s := S32x24x1024) off S1x6x1024.size inb).emb (ix3 (0 : Fin 1) i x) := by
        subst hoff
        funext a
        match a with
        | ⟨0, _⟩ => exact Fin.ext (by rw [Rect.emb_apply]; show c.val = c.val + 1 * 0; rfl)
        | ⟨1, _⟩ => exact Fin.ext (by rw [Rect.emb_apply]; show 6 * b + i.val = 6 * b + 1 * i.val; rw [one_mul])
        | ⟨2, _⟩ => exact Fin.ext (by rw [Rect.emb_apply]; show x.val = 0 + 1 * x.val; rw [one_mul, zero_add])
      rw [ei]
      exact write_hit cc0_scratch0 (Rect.unit (s := S32x24x1024) off S1x6x1024.size inb) f w (ix3 (0 : Fin 1) i x)
    · rw [← hf b (by omega) i x]
      refine write_miss cc0_scratch0 (Rect.unit (s := S32x24x1024) off S1x6x1024.size inb) f w (fun hi => ?_)
      rw [Rect.mem_set_unit] at hi
      have h1 := hi 1
      rw [hoff] at h1
      have h2 : 6 * n ≤ 6 * b.val + i.val := h1.1
      have h3 : 6 * b.val + i.val < 6 * n + 6 := h1.2
      omega
  · iexact HR

end Steps

end Cert.KernelIdeal.Moe
-- ==== Proof.Moves.lean ====
/- The waits and copies of the kernel's body, and what surrounds the scatters. -/
module

public import proofs.«01_k».proof.Proof.Steps

@[expose] public section

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

section Facts

variable {A : Data F} {c : Dev nD}

/-- What a copy of a row leaves in the row. -/
theorem RowOk.landed {f : CB F} (hf : RowOk A c f) (fd : CB F) :
    RowOk A c ((rowM c).view.write (Elt F) fd ((rowM c).view.read (Elt F) f) Finset.univ) :=
  hf.congr fun i hi => by
    rw [View.write_read_eq_piecewise]
    exact Finset.piecewise_eq_of_mem _ _ _ (by rw [View.setOn_univ]; exact hi)

/-- The products of all four blocks make the row. -/
theorem rowOk_of {g : S24x512.Idx → Elt F .f32} {f : CB F}
    (hg : ∀ j' : Fin 24, j'.val < 24 → ∀ t : Fin 1024, (A.d c (ix2 c j')).toNat = t.val → ∀ k : Fin 512, g (ix2 j' k) = A.x c (ix2 t k))
    (hf : ∀ b : Fin 4, b.val < 4 → ∀ (i : Fin 6) (h : Fin 1024),
        f (ix3 c (⟨6 * b.val + i.val, by omega⟩ : Fin 24) h) = dotRow (cxB g b.val b.isLt) (ewB A c b) (ix3 (0 : Fin 1) i h)) : RowOk A c f :=
  ⟨g, fun j => hg j j.isLt, fun b => hf b b.isLt⟩

/-- A staged row, recast at its own shape. -/
theorem stage_cast {o : Dev nD} {r : S1x24x1024.Idx → Elt F .bf16} {h1 h2 h3}
    (hr : ∃ f, RowOk A o f ∧ r = fun p => f (ix3 o (p 1) (p 2))) (j : Fin 24) :
    Slot A o j (fun h => shapeCast S24x1024 (extf (F := F) (FTy.f32) (shapeCast S24x1024 r h1) h2 : FVec F S24x1024 .f32) h3 (ix2 j h)) := by
  obtain ⟨f, hf, rfl⟩ := hr
  refine ⟨f, hf, ?_⟩
  rw [cast_self]

/-- A rectangle that is all of a shape addresses each position by itself. -/
theorem whole_emb {s : Shape} {off : Fin s.rank → Nat} {inb} (h0 : ∀ a, off a = 0) (i : s.Idx) : (Rect.unit (s := s) off s.size inb).emb i = i :=
  funext fun a => Fin.ext (by rw [Rect.emb_apply]; show off a + 1 * (i a).val = _; rw [h0, one_mul, zero_add])

/-- Reading a whole row of the exchange buffer. -/
theorem row_read (o : Dev nD) (inb) (f : CB F) :
    ((cM : Memref sig .tc .vmem S32x24x1024 .bf16).access (Rect.unit (s := S32x24x1024) ![o.val, 0, 0] S1x24x1024.size inb)).read (Elt F) f = fun p => f (ix3 o (p 1) (p 2)) := by
  funext p
  refine (readAt_rect cc0_scratch0 (Rect.unit (s := S32x24x1024) ![o.val, 0, 0] S1x24x1024.size inb) f p).trans (congrArg f (funext fun a => ?_))
  match a with
  | ⟨0, _⟩ => exact Fin.ext (by rw [Rect.emb_apply]; show o.val + 1 * (p 0).val = o.val; have h1 : (p 0).val < 1 := (p 0).isLt; omega)
  | ⟨1, _⟩ => exact Fin.ext (by rw [Rect.emb_apply]; show 0 + 1 * (p 1).val = _; rw [one_mul, zero_add])
  | ⟨2, _⟩ => exact Fin.ext (by rw [Rect.emb_apply]; show 0 + 1 * (p 2).val = _; rw [one_mul, zero_add])

theorem zero2 : ∀ a, (![0, 0] : Fin 2 → ℕ) a = 0 := by decide

end Facts

section Steps

variable {A : Data F} {K : GSem nD τ sig → ℕ} {c : Dev nD} {R : HP F} {Q : Unit → HP F}

/-! ### The barrier -/

/-- Before the barrier's wait, and after it. -/
def WaB (A : Data F) (K : GSem nD τ sig → ℕ) (c : Dev nD) : HP F :=
  iprop(recs A K ∗ (∃ W, owes (c : Thread nD τ) (owRecv c 1) W) ∗ cred (tallyAt (barCell c) () 31) ∗ atPos ER (barCell c) 0 ∅ 0 ∗ levAts L lv)
def WaB' (A : Data F) (K : GSem nD τ sig → ℕ) (c : Dev nD) : HP F :=
  iprop(recs A K ∗ (∃ W, owes (c : Thread nD τ) (owRecv c 1) W) ∗ atPos ER (barCell c) 1 ∅ 0 ∗ bigSep (Finset.Ico 1 32) fun i => barPay (F := F) c (tgt c i))

theorem s_bar {sem : Sem sig} {a : ℤ} {k : PUnit → Prog (TpuEff nD τ sig (Elt F) Λ₀ .tc) PUnit}
    (hs : sem = barS) (ha : a = ((31 : ℕ) : ℤ)) (h : iprop(WaB' A K c ∗ R) ⊢ wpc c (k ⟨⟩) Q) :
    iprop(WaB A K c ∗ R) ⊢ wpc c (.op (.semWait sem a) k) Q := by
  subst hs; subst ha
  unfold WaB
  iintro ⟨⟨#HI, ⟨%W, HO⟩, Hc, Hat, #Hlev⟩, HR⟩
  iapply (Rounds.wp_wait_rest_token 𝒱₀ ER (rd A) (c : Thread nD τ) none (κ := K (barCell c))
      (wpE_semWait_eq 𝒱₀ (c : Thread nD τ) none Set.univ) (Set.mem_univ _) () (O := owRecv c 1) (W := W) (R := 0) (m := 0) (T := ∅)
      ((Nat.zero_add 31).trans (expect_bar A c).symm)) $$ [Hc HO Hat]
  · isplitr; · iapply (recs_bar c); iexact HI
    isplitl [Hc]; · iexact Hc
    isplitl [HO]; · iexact HO
    isplitr; · iapply (mayWait_bar c 1); iexact Hlev
    iexact Hat
  iintro ⟨HO, Hat, -, Hpay⟩
  ihave Hp := (Entails.of_eq (rest_bar A c)) $$ Hpay
  iapply h
  unfold WaB'
  isplitr [HR]
  · isplitr; · iexact HI
    isplitl [HO]; · iexists _; iexact HO
    isplitl [Hat]; · iexact Hat
    iexact Hp
  · iexact HR

/-! ### Copies -/

/-- Sending the own row to the device `n` places on. -/
theorem s_copy {f : CB F} (hf : RowOk A c f) {n : ℕ} (h1 : 1 ≤ n) (hn : n < 32) {d : Dev nD} {s r : DmaSem sig} {off off' : Fin 3 → Nat} {inb inb' st st'} {hsc hw1 hw2 hty}
    {k : PUnit → Prog (TpuEff nD τ sig (Elt F) Λ₀ .tc) PUnit}
    (hd : d = tgt c n) (hs : s = sendS (tgt c n)) (hr : r = recvS c) (hoff : off = ![c.val, 0, 0]) (hoff' : off' = ![c.val, 0, 0])
    (h : iprop(SeB A K c f (n + 1) ∗ R) ⊢ wpc c (k ⟨⟩) Q) :
    iprop(SeB A K c f n ∗ R) ⊢ wpc c (.op (.enqueueDma (cM.slice (Rect.unit (s := S32x24x1024) off S1x24x1024.size inb) st)
      (.remote (Dev.tc d) (cM.slice (Rect.unit (s := S32x24x1024) off' S1x24x1024.size inb') st') (.dma s) hsc) (.dma r) hw1 hw2 hty) k) Q := by
  subst hd; subst hs; subst hr; subst hoff; subst hoff'
  unfold SeB
  rw [bigSep_Ico_succ_bot hn]
  unfold barPay
  iintro ⟨⟨#HI, ⟨%W, HO⟩, ⟨⟨HtS, #HrS, HtN, ⟨⟨%fn, HsN⟩, #HrN⟩, Hx⟩, Hrest⟩, Hdone⟩, HR⟩
  iapply (Rounds.wp_send_pointsTo 𝒱₀ ER (rd A) (c : Thread nD τ) none (c' := (tgt c n : Thread nD τ)) (src := rowM c) (dst := rowM c)
      (sS := .dma (sendS (tgt c n))) (sem := .dma (recvS c)) (q := shareTokN fullShare n) (fs := f) (κ₁ := K (sendCell c (tgt c n))) (κ₂ := K (recvCell (tgt c n) c))
      (r₁ := 0) (r₂ := 0) (d₁ := c) (d₂ := c) (fd := fn)
      (by rw [duties_send A c (tgt_ne c h1 hn)]; exact Finset.mem_singleton_self _) (by rw [duties_recv A (tgt c n) (tgt_ne c h1 hn).symm]; exact Finset.mem_singleton_self _)
      () () N rfl (amount_send A c (tgt c n) c) (amount_recv A (tgt c n) c c) (O₀ := owRecv c n) (owRecv c (n + 1)) (owRecv_step c hn) (W := W)
      (by rw [payload_send]; unfold sendPay; rw [dist_tgt c hn]; iintro H; iexists f; iexact H)
      (by rw [payload_recv]; unfold recvPay; iintro H; iexists _; isplitr; · ipureintro; exact hf.landed fn
          iexact H)) $$ [Hx HsN HO HtS HtN]
  · isplitr; · iapply (recs_send c (tgt c n)); iexact HI
    isplitr; · iapply (recs_recv (tgt c n) c); iexact HI
    isplitl [Hx]; · iexact Hx
    isplitl [HsN]; · iexact HsN
    isplitl [HO]; · iexact HO
    isplitl [HtS]; · iexact HtS
    isplitr; · iexact HrS
    isplitl [HtN]; · iexact HtN
    iexact HrN
  iintro ⟨HcS, HO⟩
  iapply h
  unfold SeB
  rw [bigSep_Ico_succ_top h1]
  isplitr [HR]
  · isplitr; · iexact HI
    isplitl [HO]; · iexists W; iexact HO
    isplitl [Hrest]; · iexact Hrest
    isplitl [HcS] <;> iassumption
  · iexact HR

/-! ### Waits -/

/-- The credit of a row's copy. -/
theorem credit_row {off : Fin 3 → Nat} {inb st} {o : Dev nD} (hoff : off = ![o.val, 0, 0]) :
    (cM.slice (Rect.unit (s := S32x24x1024) off S1x24x1024.size inb) st).view.dmaCredit = N := by
  subst hoff; rfl

/-- Waiting for the row of the device `n` places before. -/
theorem s_rwait {n : ℕ} (h1 : 1 ≤ n) (hn : n < 32) {s : DmaSem sig} {off off' : Fin 3 → Nat} {inb inb' st st'} {hw1 hw2}
    {k : PUnit → Prog (TpuEff nD τ sig (Elt F) Λ₀ .tc) PUnit}
    (hs : s = recvS (org c n)) (hoff' : off' = ![(org c n).val, 0, 0])
    (h : iprop(ReB A K c (n + 1) ∗ R) ⊢ wpc c (k ⟨⟩) Q) :
    iprop(ReB A K c n ∗ R) ⊢ wpc c (.op (.waitDma2 s (cM.slice (Rect.unit (s := S32x24x1024) off S1x24x1024.size inb) st)
      (cM.slice (Rect.unit (s := S32x24x1024) off' S1x24x1024.size inb') st') hw1 hw2) k) Q := by
  subst hs; subst hoff'
  unfold ReB
  rw [bigSep_Ico_succ_bot hn]
  iintro ⟨⟨#HI, ⟨%W, HO⟩, ⟨⟨Hc, Hat⟩, Hrest⟩, Hdone⟩, HR⟩
  iapply (Rounds.wp_wait_rest_token 𝒱₀ ER (rd A) (c : Thread nD τ) none (κ := K (recvCell c (org c n))) (k' := N)
      (wpE_waitDma2_eq (dst := rowM (org c n)) 𝒱₀ (c : Thread nD τ) none Set.univ) (Set.mem_univ _) () (O := 0) (W := W) (R := 0) (m := 0) (T := ∅)
      ((Nat.zero_add _).trans (expect_recv A c (org_ne c h1 hn)).symm)) $$ [Hc HO Hat]
  · isplitr; · iapply (recs_recv c (org c n)); iexact HI
    isplitl [Hc]; · iexact Hc
    isplitl [HO]; · iexact HO
    isplitr; · rw [MayWait_zero]; iempintro
    iexact Hat
  iintro ⟨HO, Hat, -, Hpay⟩
  ihave Hp := (Entails.of_eq (rest_recv A c (org_ne c h1 hn))) $$ Hpay
  iapply h
  unfold ReB
  rw [bigSep_Ico_succ_top h1]
  isplitr [HR]
  · isplitr; · iexact HI
    isplitl [HO]; · iexists _; iexact HO
    isplitl [Hrest]; · iexact Hrest
    isplitl [Hat Hp]; · isplitl [Hat] <;> iassumption
    iexact Hdone
  · iexact HR

/-- Waiting until the copy to the device `n` places on is away. -/
theorem s_swait {n : ℕ} (h1 : 1 ≤ n) (hn : n < 32) {s : DmaSem sig} {off off' : Fin 3 → Nat} {inb inb' st st'} {hw1 hw2}
    {k : PUnit → Prog (TpuEff nD τ sig (Elt F) Λ₀ .tc) PUnit}
    (hs : s = sendS (tgt c n)) (hoff' : off' = ![c.val, 0, 0])
    (h : iprop(SwB A K c (n + 1) ∗ R) ⊢ wpc c (k ⟨⟩) Q) :
    iprop(SwB A K c n ∗ R) ⊢ wpc c (.op (.waitDma2 s (cM.slice (Rect.unit (s := S32x24x1024) off S1x24x1024.size inb) st)
      (cM.slice (Rect.unit (s := S32x24x1024) off' S1x24x1024.size inb') st') hw1 hw2) k) Q := by
  subst hs; subst hoff'
  unfold SwB
  rw [bigSep_Ico_succ_bot hn]
  iintro ⟨⟨#HI, ⟨%W, HO⟩, ⟨⟨Hc, Hat⟩, Hrest⟩, Hdone⟩, HR⟩
  iapply (Rounds.wp_wait_rest_token 𝒱₀ ER (rd A) (c : Thread nD τ) none (κ := K (sendCell c (tgt c n))) (k' := N)
      (wpE_waitDma2_eq (dst := rowM c) 𝒱₀ (c : Thread nD τ) none Set.univ) (Set.mem_univ _) () (O := 0) (W := W) (R := 0) (m := 0) (T := ∅)
      ((Nat.zero_add _).trans (expect_send A c (tgt_ne c h1 hn)).symm)) $$ [Hc HO Hat]
  · isplitr; · iapply (recs_send c (tgt c n)); iexact HI
    isplitl [Hc]; · iexact Hc
    isplitl [HO]; · iexact HO
    isplitr; · rw [MayWait_zero]; iempintro
    iexact Hat
  iintro ⟨HO, Hat, -, Hpay⟩
  ihave Hp := (Entails.of_eq (rest_send A c (tgt_ne c h1 hn))) $$ Hpay
  iapply h
  unfold SwB
  rw [bigSep_Ico_succ_top h1]
  isplitr [HR]
  · isplitr; · iexact HI
    isplitl [HO]; · iexists _; iexact HO
    isplitl [Hrest]; · iexact Hrest
    isplitl [Hat Hp]; · isplitl [Hat] <;> iassumption
    iexact Hdone
  · iexact HR

/-! ### The accumulator's start -/

/-- The table, the staging buffer and the accumulator, before the accumulator is cleared. -/
def AcB (A : Data F) (c : Dev nD) : HP F :=
  iprop(pt c cc0_stg2_0 (A.d c) ∗ (∃ fs : S24x1024.Idx → Elt F .f32, pt c cc0_scratch2 fs) ∗ ∃ f : S1032x1024.Idx → Elt F .f32, pt c cc0_scratch3 f)

theorem s_zdead {r : Rect S1032x1024} {hl} {k : _ → Prog (TpuEff nD τ sig (Elt F) Λ₀ .tc) PUnit}
    (h : ∀ x, iprop(AcB A c ∗ R) ⊢ wpc c (k x) Q) :
    iprop(AcB A c ∗ R) ⊢ wpc c (.op (.load aM r.toLoadRect hl) k) Q := by
  unfold AcB
  iintro ⟨⟨Hd, Hs, %f, Ha⟩, HR⟩
  iapply (wp_load (defs := defs₀ (F := F)) 𝒱₀ (c : Thread nD τ) none Set.univ (m := aM) (S := Finset.univ) (q := fullShare) (f := f) (Finset.subset_univ _)) $$ [Ha]
  · iexact Ha
  iintro Ha
  iapply (h _) $$ [Hd Hs Ha HR]
  unfold AcB
  isplitl [Hd Hs Ha]
  · isplitl [Hd]; · iexact Hd
    isplitl [Hs]; · iexact Hs
    iexists f; iexact Ha
  · iexact HR

/-- Clearing the accumulator. -/
theorem s_zput {w : S1032x1024.Idx → Elt F .f32} (hw : ∀ i, w i = FloatOps.ofBits .f32 0x00000000#32) {off : Fin 2 → Nat} {inb hx hm}
    {k : PUnit → Prog (TpuEff nD τ sig (Elt F) Λ₀ .tc) PUnit} (hoff : ∀ a, off a = 0)
    (h : iprop(SP c (A.d c) (Slot A) 0 ∗ R) ⊢ wpc c (k ⟨⟩) Q) :
    iprop(AcB A c ∗ R) ⊢ wpc c (.op (.store aM (Rect.unit (s := S1032x1024) off S1032x1024.size inb) w Finset.univ hx hm) k) Q := by
  unfold AcB
  iintro ⟨⟨Hd, Hs, %f, Ha⟩, HR⟩
  iapply (wp_store (defs := defs₀ (F := F)) 𝒱₀ (c : Thread nD τ) none Set.univ (m := aM) (S := Finset.univ) (f := f) (Finset.subset_univ _)) $$ [Ha]
  · iexact Ha
  iintro Ha
  iapply h $$ [Hd Hs Ha HR]
  unfold SP
  isplitl [Hd Hs Ha]
  · isplitl [Hd]; · iexact Hd
    isplitl [Hs]; · iexact Hs
    iexists _; isplitr
    swap; · iexact Ha
    ipureintro
    refine AccInv.zero c (A.d c) (Slot A) fun i => ?_
    rw [← hw i]
    have := write_hit cc0_scratch3 (Rect.unit (s := S1032x1024) off S1032x1024.size inb) f w i
    rw [whole_emb (s := S1032x1024) hoff i] at this
    exact this
  · iexact HR

/-! ### Staging -/

/-- Reading the own row. -/
theorem s_comm0 {f : CB F} (hf : RowOk A c f) {q : PosShare TreeShare} {S : HP F} {off : Fin 3 → Nat} {inb hl} {k : _ → Prog (TpuEff nD τ sig (Elt F) Λ₀ .tc) PUnit}
    (hoff : off = ![c.val, 0, 0])
    (h : ∀ r : S1x24x1024.Idx → Elt F .bf16, (∃ f, RowOk A (org c 0) f ∧ r = fun p => f (ix3 (org c 0) (p 1) (p 2))) → iprop(S ∗ (rowPt c c q f ∗ R)) ⊢ wpc c (k r) Q) :
    iprop(S ∗ (rowPt c c q f ∗ R)) ⊢ wpc c (.op (.load cM (Rect.unit (s := S32x24x1024) off S1x24x1024.size inb).toLoadRect hl) k) Q := by
  subst hoff
  iintro ⟨HS, Hf, HR⟩
  iapply (wp_load_rect (defs := defs₀ (F := F)) 𝒱₀ (c : Thread nD τ) none Set.univ (m := cM) (r := Rect.unit (s := S32x24x1024) ![c.val, 0, 0] S1x24x1024.size inb)
    (S := (rowM c).view.set) (q := q) (f := f) (Finset.Subset.refl _)) $$ [Hf]
  · iexact Hf
  iintro Hf
  iapply (h _ ?_) $$ [HS Hf HR]
  · rw [org_zero]
    exact ⟨f, hf, row_read c inb f⟩
  · isplitl [HS]; · iexact HS
    isplitl [Hf] <;> iassumption

/-- Reading the row that came from the device `n` places before. -/
theorem s_comm {n : ℕ} (h1 : 1 ≤ n) {S : HP F} {off : Fin 3 → Nat} {inb hl} {k : _ → Prog (TpuEff nD τ sig (Elt F) Λ₀ .tc) PUnit}
    (hoff : off = ![(org c n).val, 0, 0])
    (h : ∀ r : S1x24x1024.Idx → Elt F .bf16, (∃ f, RowOk A (org c n) f ∧ r = fun p => f (ix3 (org c n) (p 1) (p 2))) → iprop(S ∗ (ReB A K c (n + 1) ∗ R)) ⊢ wpc c (k r) Q) :
    iprop(S ∗ (ReB A K c (n + 1) ∗ R)) ⊢ wpc c (.op (.load cM (Rect.unit (s := S32x24x1024) off S1x24x1024.size inb).toLoadRect hl) k) Q := by
  subst hoff
  unfold ReB
  rw [bigSep_Ico_succ_top h1]
  unfold recvPay
  iintro ⟨HS, ⟨HI, HO, Hrest, ⟨Hat, %f, %hf, Hf⟩, Hdone⟩, HR⟩
  iapply (wp_load_rect (defs := defs₀ (F := F)) 𝒱₀ (c : Thread nD τ) none Set.univ (m := cM) (r := Rect.unit (s := S32x24x1024) ![(org c n).val, 0, 0] S1x24x1024.size inb)
    (S := (rowM (org c n)).view.set) (q := fullShare) (f := f) (Finset.Subset.refl _)) $$ [Hf]
  · iexact Hf
  iintro Hf
  iapply (h _ ?_) $$ [HS HI HO Hrest Hat Hf Hdone HR]
  · exact ⟨f, hf, row_read (org c n) inb f⟩
  · unfold ReB
    rw [bigSep_Ico_succ_top h1]
    unfold recvPay
    isplitl [HS]; · iexact HS
    isplitr [HR]
    · isplitl [HI]; · iexact HI
      isplitl [HO]; · iexact HO
      isplitl [Hrest]; · iexact Hrest
      isplitl [Hat Hf]
      · isplitl [Hat]; · iexact Hat
        iexists f; isplitr; · ipureintro; exact hf
        iexact Hf
      · iexact Hdone
    · iexact HR

/-- Reading the staging buffer, the value unused. -/
theorem s_sdead {D : Tab} {Sl : Dev nD → Fin 24 → (Fin 1024 → Elt F .f32) → Prop} {n : ℕ} {r : Rect S24x1024} {hl} {k : _ → Prog (TpuEff nD τ sig (Elt F) Λ₀ .tc) PUnit}
    (h : ∀ x, iprop(SP c D Sl n ∗ R) ⊢ wpc c (k x) Q) :
    iprop(SP c D Sl n ∗ R) ⊢ wpc c (.op (.load sM r.toLoadRect hl) k) Q := by
  unfold SP
  iintro ⟨⟨Hd, ⟨%fs, Hs⟩, Ha⟩, HR⟩
  iapply (wp_load (defs := defs₀ (F := F)) 𝒱₀ (c : Thread nD τ) none Set.univ (m := sM) (S := Finset.univ) (q := fullShare) (f := fs) (Finset.subset_univ _)) $$ [Hs]
  · iexact Hs
  iintro Hs
  iapply (h _) $$ [Hd Hs Ha HR]
  unfold SP
  isplitl [Hd Hs Ha]
  · isplitl [Hd]; · iexact Hd
    isplitl [Hs]; · iexists fs; iexact Hs
    iexact Ha
  · iexact HR

/-- Staging a chunk. -/
theorem s_sput {D : Tab} {Sl : Dev nD → Fin 24 → (Fin 1024 → Elt F .f32) → Prop} {n : ℕ} {w : S24x1024.Idx → Elt F .f32} {off : Fin 2 → Nat} {inb hx hm}
    {k : PUnit → Prog (TpuEff nD τ sig (Elt F) Λ₀ .tc) PUnit} (hoff : ∀ a, off a = 0) (hw : ∀ j', Sl (org c n) j' (fun h => w (ix2 j' h)))
    (h : iprop(SG c D Sl n 0 ∗ R) ⊢ wpc c (k ⟨⟩) Q) :
    iprop(SP c D Sl n ∗ R) ⊢ wpc c (.op (.store sM (Rect.unit (s := S24x1024) off S24x1024.size inb) w Finset.univ hx hm) k) Q := by
  unfold SP
  iintro ⟨⟨Hd, ⟨%fs, Hs⟩, Ha⟩, HR⟩
  iapply (wp_store (defs := defs₀ (F := F)) 𝒱₀ (c : Thread nD τ) none Set.univ (m := sM) (S := Finset.univ) (f := fs) (Finset.subset_univ _)) $$ [Hs]
  · iexact Hs
  iintro Hs
  iapply h $$ [Hd Hs Ha HR]
  unfold SG
  isplitl [Hd Hs Ha]
  · isplitl [Hd]; · iexact Hd
    isplitl [Hs]
    · iexists _; isplitr
      swap; · iexact Hs
      ipureintro
      intro j'
      have e : ∀ x, ((sM : Memref sig .tc .vmem S24x1024 .f32).access (Rect.unit (s := S24x1024) off S24x1024.size inb)).write (Elt F) fs w Finset.univ (ix2 j' x) = w (ix2 j' x) := fun x => by
        have := write_hit cc0_scratch2 (Rect.unit (s := S24x1024) off S24x1024.size inb) fs w (ix2 j' x)
        rw [whole_emb (s := S24x1024) hoff (ix2 j' x)] at this
        exact this
      have e2 : (fun x => ((sM : Memref sig .tc .vmem S24x1024 .f32).access (Rect.unit (s := S24x1024) off S24x1024.size inb)).write (Elt F) fs w Finset.univ (ix2 j' x)) = fun x => w (ix2 j' x) := funext e
      rw [e2]; exact hw j'
    · iexact Ha
  · iexact HR

/-- A chunk whose slots are all handled: the next may be staged. -/
theorem s_next {D : Tab} {Sl : Dev nD → Fin 24 → (Fin 1024 → Elt F .f32) → Prop} {n : ℕ} {p : Prog (TpuEff nD τ sig (Elt F) Λ₀ .tc) PUnit}
    (h : iprop(SP c D Sl (n + 1) ∗ R) ⊢ wpc c p Q) : iprop(SG c D Sl n 24 ∗ R) ⊢ wpc c p Q := by
  refine BIBase.Entails.trans ?_ h
  unfold SG SP
  iintro ⟨⟨Hd, ⟨%fs, -, Hs⟩, %f, %hf, Ha⟩, HR⟩
  isplitl [Hd Hs Ha]
  · isplitl [Hd]; · iexact Hd
    isplitl [Hs]; · iexists fs; iexact Hs
    iexists f; isplitr; · ipureintro; exact hf.next
    iexact Ha
  · iexact HR

/-! ### The result -/

/-- Reading the tokens' rows of the accumulator, every slot handled. -/
theorem s_aout {off : Fin 2 → Nat} {inb hl} {k : _ → Prog (TpuEff nD τ sig (Elt F) Λ₀ .tc) PUnit} (hoff : off = ![0, 0])
    (h : ∀ r : S1024x1024.Idx → Elt F .f32, OutOk A c r → iprop(SP c (A.d c) (Slot A) 32 ∗ R) ⊢ wpc c (k r) Q) :
    iprop(SP c (A.d c) (Slot A) 32 ∗ R) ⊢ wpc c (.op (.load aM (Rect.unit (s := S1032x1024) off S1024x1024.size inb).toLoadRect hl) k) Q := by
  subst hoff
  unfold SP
  iintro ⟨⟨Hd, Hs, %f, %hf, Ha⟩, HR⟩
  iapply (wp_load (defs := defs₀ (F := F)) 𝒱₀ (c : Thread nD τ) none Set.univ (m := aM) (S := Finset.univ) (q := fullShare) (f := f) (Finset.subset_univ _)) $$ [Ha]
  · iexact Ha
  iintro Ha
  iapply (h _ ?_) $$ [Hd Hs Ha HR]
  · intro t
    have e : ∀ x : Fin 1024, (aM : Memref sig .tc .vmem S1032x1024 .f32).view.readAt (Elt F) (Rect.unit (s := S1032x1024) ![0, 0] S1024x1024.size inb).toLoadRect f (ix2 t x)
        = f (ix2 (⟨t.val, by omega⟩ : Fin 1032) x) := fun x => by
      rw [readAt_rect]
      refine congrArg f (funext fun a => ?_)
      match a with
      | ⟨0, _⟩ => exact Fin.ext (by rw [Rect.emb_apply]; show 0 + 1 * t.val = t.val; omega)
      | ⟨1, _⟩ => exact Fin.ext (by rw [Rect.emb_apply]; show 0 + 1 * x.val = x.val; omega)
    have hdone : ∀ i < 32, ∀ j', Done 32 0 i j' := fun i hi j' => .inl hi
    refine ⟨fun o j ho => ?_, fun hno x => ?_⟩
    · have h1 : o.val < 32 := o.isLt
      have h2 : c.val < 32 := c.isLt
      have ho' : org c ((c.val + (32 - o.val)) % 32) = o := Fin.ext (by show (c.val + (32 - (c.val + (32 - o.val)) % 32)) % 32 = o.val; omega)
      have := (hf t).1 ((c.val + (32 - o.val)) % 32) (by omega) j (hdone _ (by omega) _) (by rw [ho']; exact ho)
      rw [ho'] at this
      have e2 : (fun x : Fin 1024 => (aM : Memref sig .tc .vmem S1032x1024 .f32).view.readAt (Elt F) (Rect.unit (s := S1032x1024) ![0, 0] S1024x1024.size inb).toLoadRect f (ix2 t x))
          = fun x => f (ix2 (⟨t.val, by omega⟩ : Fin 1032) x) := funext e
      rw [e2]; exact this
    · rw [e x]; exact (hf t).2 (fun i _ j' _ => hno _ _) x
  · unfold SP
    isplitl [Hd Hs Ha]
    · isplitl [Hd]; · iexact Hd
      isplitl [Hs]; · iexact Hs
      iexists f; isplitr; · ipureintro; exact hf
      iexact Ha
    · iexact HR

/-- Reading the result's buffer, the value unused. -/
theorem s_odead {f : S1024x1024.Idx → Elt F .f32} {r : Rect S1024x1024} {hl} {k : _ → Prog (TpuEff nD τ sig (Elt F) Λ₀ .tc) PUnit}
    (h : ∀ x, iprop(pt c cc0_stg3_0 f ∗ R) ⊢ wpc c (k x) Q) :
    iprop(pt c cc0_stg3_0 f ∗ R) ⊢ wpc c (.op (.load oM r.toLoadRect hl) k) Q := by
  iintro ⟨Ha, HR⟩
  iapply (wp_load (defs := defs₀ (F := F)) 𝒱₀ (c : Thread nD τ) none Set.univ (m := oM) (S := Finset.univ) (q := fullShare) (f := f) (Finset.subset_univ _)) $$ [Ha]
  · iexact Ha
  iintro Ha
  iapply (h _) $$ [Ha HR]
  isplitl [Ha] <;> iassumption

/-- Writing the result. -/
theorem s_oput {f w : S1024x1024.Idx → Elt F .f32} (hw : OutOk A c w) {off : Fin 2 → Nat} {inb hx hm} {k : PUnit → Prog (TpuEff nD τ sig (Elt F) Λ₀ .tc) PUnit}
    (hoff : ∀ a, off a = 0) (h : ∀ o : S1024x1024.Idx → Elt F .f32, OutOk A c o → iprop(pt c cc0_stg3_0 o ∗ R) ⊢ wpc c (k ⟨⟩) Q) :
    iprop(pt c cc0_stg3_0 f ∗ R) ⊢ wpc c (.op (.store oM (Rect.unit (s := S1024x1024) off S1024x1024.size inb) w Finset.univ hx hm) k) Q := by
  iintro ⟨Ha, HR⟩
  iapply (wp_store (defs := defs₀ (F := F)) 𝒱₀ (c : Thread nD τ) none Set.univ (m := oM) (S := Finset.univ) (f := f) (Finset.subset_univ _)) $$ [Ha]
  · iexact Ha
  iintro Ha
  have e : ((oM : Memref sig .tc .vmem S1024x1024 .f32).access (Rect.unit (s := S1024x1024) off S1024x1024.size inb)).write (Elt F) f w Finset.univ = w := funext fun i => by
    have := write_hit cc0_stg3_0 (Rect.unit (s := S1024x1024) off S1024x1024.size inb) f w i
    rw [whole_emb (s := S1024x1024) hoff i] at this
    exact this
  rw [e]
  iapply (h w hw) $$ [Ha HR]
  isplitl [Ha] <;> iassumption

end Steps

end Cert.KernelIdeal.Moe
-- ==== Proof.Stages.lean ====
/- How the assertions of one stage of the kernel's body become the next stage's. -/
module

public import proofs.«01_k».proof.Proof.Moves
public import Idealize.ShloMosaic.Lib.Ring

@[expose] public section

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

section Blocks

variable (A : Data F) (K : GSem nD τ sig → ℕ) (c : Dev nD)

/-- The weights, and the own row before any product. -/
def PrB : HP F := iprop(pt c cc0_stg1_0 (A.e c) ∗ ∃ f, rowPt (F := F) c c fullShare f)
/-- What the barrier's wait spends. -/
def BaB : HP F := iprop(cred (tallyAt (barCell c) () 31) ∗ atPos ER (barCell c) 0 ∅ 0 ∗ levAts L lv)
/-- The duties of the copies. -/
def ToB : HP F := iprop(bigSep (Finset.Ico 1 32) fun i => iprop(dutyTok ER (sendCell c (tgt c i)) 0 c ∗ reached ER (sendCell c (tgt c i)) 0 ∗ dutyTok ER (recvCell (tgt c i) c) 0 c))
/-- The staging buffer and the accumulator, at anything. -/
def StB : HP F := iprop((∃ fs : S24x1024.Idx → Elt F .f32, pt c cc0_scratch2 fs) ∗ ∃ f : S1032x1024.Idx → Elt F .f32, pt c cc0_scratch3 f)
/-- What the waits for the other rows spend. -/
def WrB : HP F := iprop(bigSep (Finset.Ico 1 32) fun i => iprop(cred (tallyAt (recvCell c (org c i)) () N) ∗ atPos ER (recvCell c (org c i)) 0 ∅ 0))
/-- The places of the copies' own cells. -/
def AsB : HP F := iprop(bigSep (Finset.Ico 1 32) fun i => atPos ER (sendCell c (tgt c i)) 0 ∅ 0)
/-- The places of the two cells no copy uses. -/
def NoB : HP F := iprop(atPos ER (sendCell c c) 0 ∅ 0 ∗ atPos ER (recvCell c c) 0 ∅ 0)
/-- What the core still owes, between the barrier and the copies. -/
def OwB (n : ℕ) : HP F := iprop(recs A K ∗ ∃ W, owes (c : Thread nD τ) (owRecv c n) W)
/-- The credits of the copies under way. -/
def CrB : HP F := iprop(bigSep (Finset.Ico 1 32) fun i => cred (tallyAt (sendCell c (tgt c i)) () N))
/-- The tokens, the gathered rows, the weights. -/
def InB : HP F := iprop(pt c cc0_stg0_0 (A.x c) ∗ (∃ g : S24x512.Idx → Elt F .f32, pt c cc0_scratch1 g) ∗ pt c cc0_stg1_0 (A.e c))
/-- What is put aside while the scatters run: the inputs, the barrier's place, the kept shares of the own row, the copies' credits. -/
def AsideB (f : CB F) : HP F :=
  iprop(InB A c ∗ atPos ER (barCell c) 1 ∅ 0 ∗ rowPt c c (shareDrop fullShare 32) f ∗ rowPt c c (shareTokN fullShare 0) f ∗ CrB (F := F) c)

/-- Everything the body starts from. -/
def bodyPre (f₀ : S1024x1024.Idx → Elt F .f32) : HP F :=
  iprop(SigB A K c 1 ∗ (GaB A c 0 ∗ (PrB A c ∗ (BaB (F := F) c ∗ (ToB (F := F) c ∗ (StB (F := F) c ∗ (WrB (F := F) c ∗ (AsB (F := F) c ∗ (pt c cc0_stg3_0 f₀ ∗ NoB (F := F) c)))))))))

/-- Everything the body leaves, its result being `o`. -/
def bodyPost (o : S1024x1024.Idx → Elt F .f32) : HP F :=
  iprop(pt c cc0_stg0_0 (A.x c) ∗ pt c cc0_stg1_0 (A.e c) ∗ pt c cc0_stg2_0 (A.d c) ∗ pt c cc0_stg3_0 o
    ∗ ((∃ f : CB F, pt c cc0_scratch0 f) ∗ (∃ g : S24x512.Idx → Elt F .f32, pt c cc0_scratch1 g) ∗ StB (F := F) c)
    ∗ (semVal (barCell c) 0 ∗ (bigSep Finset.univ fun t => semVal (sendCell c t) 0) ∗ bigSep Finset.univ fun t => semVal (recvCell c t) 0)
    ∗ ∃ W, owes (c : Thread nD τ) (0 : CellTallies nD τ sig Unit) W)

end Blocks

section Stages

variable {A : Data F} {K : GSem nD τ sig → ℕ} {c : Dev nD} {R H H' : HP F} {Q : Unit → HP F} {p : Prog (TpuEff nD τ sig (Elt F) Λ₀ .tc) PUnit}

/-- A family weakened member by member, -/
theorem each_mono {I : Type} {s : Finset I} {Φ Ψ : I → HP F} (h : ∀ i ∈ s, Φ i ⊢ Ψ i) : bigSep s Φ ⊢ bigSep s Ψ := bigSep_mono h
/-- over all devices, with one of them set apart, -/
theorem set_apart (Φ : Dev nD → HP F) (c : Dev nD) : bigSep Finset.univ Φ = iprop(Φ c ∗ bigSep (Finset.univ.erase c) Φ) := bigSep_erase (Finset.mem_univ c)
/-- or one member more. -/
theorem one_more {s : Finset ℕ} {i : ℕ} (hi : i ∉ s) (Φ : ℕ → HP F) : bigSep (insert i s) Φ = iprop(Φ i ∗ bigSep s Φ) := bigSep_insert hi

theorem s_swap (h : iprop(H' ∗ (H ∗ R)) ⊢ wpc c p Q) : iprop(H ∗ (H' ∗ R)) ⊢ wpc c p Q := by
  refine BIBase.Entails.trans ?_ h
  iintro ⟨H1, H2, H3⟩
  isplitl [H2]; · iexact H2
  isplitl [H1] <;> iassumption

/-- All barriers raised: on to the gathers. -/
theorem to_gather (h : iprop(GaB A c 0 ∗ (OwB A K c 1 ∗ R)) ⊢ wpc c p Q) : iprop(SigB A K c 32 ∗ (GaB A c 0 ∗ R)) ⊢ wpc c p Q := by
  refine BIBase.Entails.trans ?_ h
  unfold SigB OwB
  rw [owBar_end, add_zero]
  iintro ⟨⟨HI, HO, -⟩, HG, HR⟩
  isplitl [HG]; · iexact HG
  isplitr [HR]
  · isplitl [HI] <;> iassumption
  · iexact HR

/-- All slots gathered: on to the products. -/
theorem to_products (h : ∀ g : S24x512.Idx → Elt F .f32,
      (∀ j' : Fin 24, j'.val < 24 → ∀ t : Fin 1024, (A.d c (ix2 c j')).toNat = t.val → ∀ k : Fin 512, g (ix2 j' k) = A.x c (ix2 t k)) →
      iprop(DoB A c g 0 ∗ (iprop(pt c cc0_stg2_0 (A.d c) ∗ pt c cc0_stg0_0 (A.x c)) ∗ (H ∗ R))) ⊢ wpc c p Q) :
    iprop(GaB A c 24 ∗ (H ∗ (PrB A c ∗ R))) ⊢ wpc c p Q := by
  unfold GaB PrB
  iintro ⟨⟨Hd, Hx, %g, %hg, Hg⟩, HO, ⟨He, %f, Hf⟩, HR⟩
  iapply (h g hg)
  unfold DoB
  isplitl [Hg He Hf]
  · isplitl [Hg]; · iexact Hg
    isplitl [He]; · iexact He
    iexists f; isplitr; · ipureintro; intro b hb; exact absurd hb (Nat.not_lt_zero _)
    iexact Hf
  isplitl [Hd Hx]
  · isplitl [Hd] <;> iassumption
  isplitl [HO] <;> iassumption

/-- All products made: on to the barrier's wait. -/
theorem to_wait {g : S24x512.Idx → Elt F .f32}
    (hg : ∀ j' : Fin 24, j'.val < 24 → ∀ t : Fin 1024, (A.d c (ix2 c j')).toNat = t.val → ∀ k : Fin 512, g (ix2 j' k) = A.x c (ix2 t k))
    (h : ∀ f, RowOk A c f → iprop(WaB A K c ∗ (iprop(pt c cc0_stg2_0 (A.d c) ∗ InB A c ∗ rowPt c c fullShare f) ∗ R)) ⊢ wpc c p Q) :
    iprop(DoB A c g 4 ∗ (iprop(pt c cc0_stg2_0 (A.d c) ∗ pt c cc0_stg0_0 (A.x c)) ∗ (OwB A K c 1 ∗ (BaB (F := F) c ∗ R)))) ⊢ wpc c p Q := by
  unfold DoB OwB BaB
  iintro ⟨⟨Hg, He, %f, %hf, Hf⟩, ⟨Hd, Hx⟩, ⟨HI, HO⟩, ⟨Hc, Hat, Hl⟩, HR⟩
  iapply (h f (rowOk_of hg hf))
  unfold WaB InB
  isplitl [HI HO Hc Hat Hl]
  · isplitl [HI]; · iexact HI
    isplitl [HO]; · iexact HO
    isplitl [Hc]; · iexact Hc
    isplitl [Hat] <;> iassumption
  isplitr [HR]
  · isplitl [Hd]; · iexact Hd
    isplitr [Hf]
    · isplitl [Hx]; · iexact Hx
      isplitl [Hg]; · iexists g; iexact Hg
      iexact He
    · iexact Hf
  · iexact HR

/-- The own row in pieces: what is kept, a piece per step. -/
theorem row_pieces (f : CB F) : rowPt c c fullShare f ⊣⊢ iprop(rowPt c c (shareDrop fullShare 32) f ∗ rowPt c c (shareTokN fullShare 0) f
    ∗ bigSep (Finset.Ico 1 32) fun i => rowPt c c (shareTokN fullShare i) f) := by
  have e : bigSep (Finset.range 32) (fun i => rowPt (F := F) c c (shareTokN fullShare i) f)
      = iprop(rowPt c c (shareTokN fullShare 0) f ∗ bigSep (Finset.Ico 1 32) fun i => rowPt c c (shareTokN fullShare i) f) := by
    rw [Finset.range_eq_Ico, bigSep_Ico_succ_bot (by decide : 0 < 32)]
  have : rowPt (F := F) c c fullShare f ⊣⊢ iprop(rowPt c c (shareDrop fullShare 32) f ∗ bigSep (Finset.range 32) fun i => rowPt c c (shareTokN fullShare i) f) :=
    pointsTo_toks_range fullShare 32
  rw [e] at this
  exact this

/-- A copy's duties and its two memories, side by side. -/
theorem toks_flat (f : CB F) :
    bigSep (Finset.Ico 1 32) (fun i => iprop(iprop(dutyTok ER (sendCell c (tgt c i)) 0 c ∗ reached ER (sendCell c (tgt c i)) 0 ∗ dutyTok ER (recvCell (tgt c i) c) 0 c)
        ∗ iprop(barPay (F := F) c (tgt c i) ∗ rowPt c c (shareTokN fullShare i) f)))
      ⊢ bigSep (Finset.Ico 1 32) fun i => iprop(dutyTok ER (sendCell c (tgt c i)) 0 c ∗ reached ER (sendCell c (tgt c i)) 0 ∗ dutyTok ER (recvCell (tgt c i) c) 0 c
        ∗ barPay (F := F) c (tgt c i) ∗ rowPt c c (shareTokN fullShare i) f) := by
  refine each_mono fun i _ => ?_
  iintro ⟨⟨H1, H2, H3⟩, H4, H5⟩
  isplitl [H1]; · iexact H1
  isplitl [H2]; · iexact H2
  isplitl [H3]; · iexact H3
  isplitl [H4] <;> iassumption

/-- The barrier passed: on to the copies. -/
theorem to_copies {f : CB F} (h : iprop(SeB A K c f 1 ∗ (iprop(pt c cc0_stg2_0 (A.d c) ∗ InB A c ∗ atPos ER (barCell c) 1 ∅ 0
      ∗ rowPt c c (shareDrop fullShare 32) f ∗ rowPt c c (shareTokN fullShare 0) f) ∗ R)) ⊢ wpc c p Q) :
    iprop(WaB' A K c ∗ (iprop(pt c cc0_stg2_0 (A.d c) ∗ InB A c ∗ rowPt c c fullShare f) ∗ (ToB (F := F) c ∗ R))) ⊢ wpc c p Q := by
  refine BIBase.Entails.trans ?_ h
  unfold WaB' ToB SeB
  iintro ⟨⟨HI, HO, Hat, Hp⟩, ⟨Hd, Hin, Hf⟩, Ht, HR⟩
  ihave Hf := (row_pieces f).1 $$ Hf
  icases Hf with ⟨Hf1, Hf2, Hfs⟩
  isplitl [HI HO Hp Ht Hfs]
  · isplitl [HI]; · iexact HI
    isplitl [HO]; · iexact HO
    isplitl
    · ihave H1 := (Entails.of_eq (bigSep_sep' (s := Finset.Ico 1 32) (Φ := fun i => barPay (F := F) c (tgt c i)) (Ψ := fun i => rowPt c c (shareTokN fullShare i) f)).symm) $$ [Hp Hfs]
      · isplitl [Hp] <;> iassumption
      ihave H2 := (Entails.of_eq (bigSep_sep' (s := Finset.Ico 1 32)
        (Φ := fun i => iprop(dutyTok ER (sendCell c (tgt c i)) 0 c ∗ reached ER (sendCell c (tgt c i)) 0 ∗ dutyTok ER (recvCell (tgt c i) c) 0 c))
        (Ψ := fun i => iprop(barPay (F := F) c (tgt c i) ∗ rowPt c c (shareTokN fullShare i) f))).symm) $$ [Ht H1]
      · isplitl [Ht] <;> iassumption
      iapply (toks_flat f) $$ H2
    · rw [Finset.Ico_self, bigSep_empty]; iempintro
  isplitr [HR]
  · isplitl [Hd]; · iexact Hd
    isplitl [Hin]; · iexact Hin
    isplitl [Hat]; · iexact Hat
    isplitl [Hf1] <;> iassumption
  · iexact HR

/-- All copies under way: on to the scatters. -/
theorem to_scatter {f : CB F} (h : iprop(AcB A c ∗ (rowPt c c (shareTokN fullShare 0) f ∗ (OwB A K c 32
      ∗ (iprop(InB A c ∗ atPos ER (barCell c) 1 ∅ 0 ∗ rowPt c c (shareDrop fullShare 32) f ∗ CrB (F := F) c) ∗ R)))) ⊢ wpc c p Q) :
    iprop(SeB A K c f 32 ∗ (iprop(pt c cc0_stg2_0 (A.d c) ∗ InB A c ∗ atPos ER (barCell c) 1 ∅ 0
      ∗ rowPt c c (shareDrop fullShare 32) f ∗ rowPt c c (shareTokN fullShare 0) f) ∗ (StB (F := F) c ∗ R))) ⊢ wpc c p Q := by
  refine BIBase.Entails.trans ?_ h
  unfold SeB AcB OwB StB CrB
  iintro ⟨⟨HI, HO, -, Hc⟩, ⟨Hd, Hin, Hat, Hf1, Hf2⟩, ⟨Hs, Ha⟩, HR⟩
  isplitl [Hd Hs Ha]
  · isplitl [Hd]; · iexact Hd
    isplitl [Hs] <;> iassumption
  isplitl [Hf2]; · iexact Hf2
  isplitl [HI HO]; · isplitl [HI] <;> iassumption
  isplitr [HR]
  · isplitl [Hin]; · iexact Hin
    isplitl [Hat]; · iexact Hat
    isplitl [Hf1] <;> iassumption
  · iexact HR

/-- The own chunk handled: on to the others'. -/
theorem to_others {f : CB F} {S : HP F} (h : iprop(S ∗ (ReB A K c 1 ∗ (AsideB A c f ∗ R))) ⊢ wpc c p Q) :
    iprop(S ∗ (rowPt c c (shareTokN fullShare 0) f ∗ (OwB A K c 32
      ∗ (iprop(InB A c ∗ atPos ER (barCell c) 1 ∅ 0 ∗ rowPt c c (shareDrop fullShare 32) f ∗ CrB (F := F) c) ∗ (WrB (F := F) c ∗ R))))) ⊢ wpc c p Q := by
  refine BIBase.Entails.trans ?_ h
  unfold ReB OwB WrB AsideB
  rw [owRecv_end]
  iintro ⟨HS, Hf2, ⟨HI, HO⟩, ⟨Hin, Hat, Hf1, Hc⟩, Hw, HR⟩
  isplitl [HS]; · iexact HS
  isplitl [HI HO Hw]
  · isplitl [HI]; · iexact HI
    isplitl [HO]; · iexact HO
    isplitl [Hw]; · iexact Hw
    rw [Finset.Ico_self, bigSep_empty]; iempintro
  isplitr [HR]
  · isplitl [Hin]; · iexact Hin
    isplitl [Hat]; · iexact Hat
    isplitl [Hf1]; · iexact Hf1
    isplitl [Hf2] <;> iassumption
  · iexact HR

/-- The rows received, the inputs and the accumulator, put aside while the copies end. -/
def DoneB (A : Data F) (c : Dev nD) (f : CB F) : HP F :=
  iprop(SP c (A.d c) (Slot A) 32 ∗ (bigSep (Finset.Ico 1 32) fun i => iprop(atPos ER (recvCell c (org c i)) 1 ∅ 0 ∗ recvPay A c (org c i)))
    ∗ InB A c ∗ atPos ER (barCell c) 1 ∅ 0 ∗ rowPt c c (shareDrop fullShare 32) f ∗ rowPt c c (shareTokN fullShare 0) f)

/-- All chunks handled: on to the result. -/
theorem to_result {S A' B' X : HP F} (h : iprop(X ∗ (S ∗ (H ∗ (A' ∗ (B' ∗ R))))) ⊢ wpc c p Q) :
    iprop(S ∗ (H ∗ (A' ∗ (B' ∗ (X ∗ R))))) ⊢ wpc c p Q := by
  refine BIBase.Entails.trans ?_ h
  iintro ⟨HS, HH, HA, HB, HX, HR⟩
  isplitl [HX]; · iexact HX
  isplitl [HS]; · iexact HS
  isplitl [HH]; · iexact HH
  isplitl [HA]; · iexact HA
  isplitl [HB] <;> iassumption

/-- The result written: on to the end of the copies. -/
theorem to_end {f : CB F} {X : HP F} (h : iprop(SwB A K c 1 ∗ (DoneB A c f ∗ (X ∗ R))) ⊢ wpc c p Q) :
    iprop(X ∗ (SP c (A.d c) (Slot A) 32 ∗ (ReB A K c 32 ∗ (AsideB A c f ∗ (AsB (F := F) c ∗ R))))) ⊢ wpc c p Q := by
  refine BIBase.Entails.trans ?_ h
  unfold SwB DoneB ReB AsideB AsB CrB
  iintro ⟨HX, HS, ⟨HI, HO, -, Hre⟩, ⟨Hin, Hat, Hf1, Hf2, Hc⟩, Has, HR⟩
  isplitl [HI HO Hc Has]
  · isplitl [HI]; · iexact HI
    isplitl [HO]; · iexact HO
    isplitl
    · iapply (Entails.of_eq (bigSep_sep' (s := Finset.Ico 1 32) (Φ := fun i => cred (tallyAt (sendCell c (tgt c i)) () N)) (Ψ := fun i => atPos ER (sendCell c (tgt c i)) 0 ∅ 0)).symm)
      isplitl [Hc] <;> iassumption
    · rw [Finset.Ico_self, bigSep_empty]; iempintro
  isplitr [HX HR]
  · isplitl [HS]; · iexact HS
    isplitl [Hre]; · iexact Hre
    isplitl [Hin]; · iexact Hin
    isplitl [Hat]; · iexact Hat
    isplitl [Hf1] <;> iassumption
  isplitl [HX] <;> iassumption

/-! ### The end -/

/-- A cell with nothing left to happen is closed, its counter at zero. -/
theorem close (κ : ℕ) (g : GSem nD τ sig) : iprop(cellInv ER (rd A) κ g ∗ atPos ER g 1 ∅ 0) ⊢ |={Set.univ}=> semVal g 0 :=
  Rounds.cell_close ER (rd A) (Set.mem_univ κ) id (duties_later A g)
theorem close_idle (κ : ℕ) (g : GSem nD τ sig) (h0 : (rd A).duties g 0 = ∅) : iprop(cellInv ER (rd A) κ g ∗ atPos ER g 0 ∅ 0) ⊢ |={Set.univ}=> semVal g 0 :=
  Rounds.cell_close ER (rd A) (Set.mem_univ κ) id (duties_none A g h0)

/-- The copies' cells close, -/
theorem close_sends : iprop(recs A K ∗ (bigSep (Finset.Ico 1 32) fun i => atPos ER (sendCell c (tgt c i)) 1 ∅ 0) ∗ atPos ER (sendCell c c) 0 ∅ 0)
    ⊢ (|={Set.univ}=> bigSep Finset.univ fun t => semVal (sendCell c t) 0 : HP F) := by
  have each := (bigSep_with_persistent (S := Finset.Ico 1 32) (R := recs A K) (Φ := fun i => atPos ER (sendCell c (tgt c i)) 1 ∅ 0)
    (Ψ := fun i => iprop(|={Set.univ}=> semVal (sendCell c (tgt c i)) 0)) (fun i _ =>
      (sep_mono_left (recs_send c (tgt c i))).trans (close (K (sendCell c (tgt c i))) (sendCell c (tgt c i))))).trans (bigSep_fupd _ _)
  rw [set_apart _ c, others_tgt c (fun t => semVal (sendCell c t) 0)]
  iintro ⟨#HI, Hs, H0⟩
  imod (close_idle (K (sendCell c c)) (sendCell c c) (duties_send_own A c)) $$ [H0] with H0
  · isplitr; · iapply (recs_send c c); iexact HI
    iexact H0
  imod each $$ [Hs] with Hs
  · isplitr; · iexact HI
    iexact Hs
  imodintro
  isplitl [H0] <;> iassumption

/-- and the cells the others' copies signal. -/
theorem close_recvs : iprop(recs A K ∗ (bigSep (Finset.Ico 1 32) fun i => atPos ER (recvCell c (org c i)) 1 ∅ 0) ∗ atPos ER (recvCell c c) 0 ∅ 0)
    ⊢ (|={Set.univ}=> bigSep Finset.univ fun t => semVal (recvCell c t) 0 : HP F) := by
  have each := (bigSep_with_persistent (S := Finset.Ico 1 32) (R := recs A K) (Φ := fun i => atPos ER (recvCell c (org c i)) 1 ∅ 0)
    (Ψ := fun i => iprop(|={Set.univ}=> semVal (recvCell c (org c i)) 0)) (fun i _ =>
      (sep_mono_left (recs_recv c (org c i))).trans (close (K (recvCell c (org c i))) (recvCell c (org c i))))).trans (bigSep_fupd _ _)
  rw [set_apart _ c, others_org c (fun t => semVal (recvCell c t) 0)]
  iintro ⟨#HI, Hs, H0⟩
  imod (close_idle (K (recvCell c c)) (recvCell c c) (duties_recv_own A c)) $$ [H0] with H0
  · isplitr; · iapply (recs_recv c c); iexact HI
    iexact H0
  imod each $$ [Hs] with Hs
  · isplitr; · iexact HI
    iexact Hs
  imodintro
  isplitl [H0] <;> iassumption

/-- A family changed member by member with the help of something that stays. -/
theorem each_keeping {P : HP F} {Φ Ψ : ℕ → HP F} (s : Finset ℕ) (h : ∀ i ∈ s, iprop(P ∗ Φ i) ⊢ iprop(P ∗ Ψ i)) :
    iprop(P ∗ bigSep s Φ) ⊢ iprop(P ∗ bigSep s Ψ) := by
  revert h
  refine Finset.induction_on s (fun _ => ?_) fun i s hi ih h => ?_
  · rw [bigSep_empty, bigSep_empty]
  · have h1 := h i (Finset.mem_insert_self i s)
    have h2 := ih fun j hj => h j (Finset.mem_insert_of_mem hj)
    rw [one_more hi, one_more hi]
    iintro ⟨H, H1, Hs⟩
    ihave H := h1 $$ [H H1]
    · isplitl [H] <;> iassumption
    icases H with ⟨H, H1⟩
    ihave H := h2 $$ [H Hs]
    · isplitl [H] <;> iassumption
    icases H with ⟨H, Hs⟩
    isplitl [H]; · iexact H
    isplitl [H1] <;> iassumption

/-- A piece of the own row that came back is at the contents of the piece kept. -/
theorem piece_back (f : CB F) (i : ℕ) (hi : i < 32) :
    iprop(rowPt c c (shareDrop fullShare 32) f ∗ sendPay (F := F) c (tgt c i)) ⊢ iprop(rowPt c c (shareDrop fullShare 32) f ∗ rowPt c c (shareTokN fullShare i) f) := by
  unfold sendPay
  rw [dist_tgt c hi]
  iintro ⟨H, %g, Hg⟩
  have e : iprop(rowPt (F := F) c c (shareDrop fullShare 32) f ∗ rowPt c c (shareTokN fullShare i) g)
      ⊢ iprop(rowPt c c (shareDrop fullShare 32) f ∗ rowPt c c (shareTokN fullShare i) f) :=
    pure_elim _ pointsTo_agree fun h => by
      have e : rowPt (F := F) c c (shareTokN fullShare i) g = rowPt c c (shareTokN fullShare i) f :=
        pointsTo_congr fun j hj => ((h j (Finset.mem_inter.mpr ⟨hj, hj⟩)).1).symm
      rw [e]
  iapply e
  isplitl [H] <;> iassumption

/-- The own row whole again. -/
theorem row_back (f : CB F) : iprop(rowPt c c (shareDrop fullShare 32) f ∗ rowPt c c (shareTokN fullShare 0) f
      ∗ bigSep (Finset.Ico 1 32) fun i => sendPay (F := F) c (tgt c i)) ⊢ rowPt c c fullShare f := by
  have each := each_keeping (P := rowPt (F := F) c c (shareDrop fullShare 32) f) (Φ := fun i => sendPay (F := F) c (tgt c i))
    (Ψ := fun i => rowPt c c (shareTokN fullShare i) f) (Finset.Ico 1 32) fun i hi => piece_back f i (Finset.mem_Ico.mp hi).2
  iintro ⟨H, H0, Hs⟩
  ihave H := each $$ [H Hs]
  · isplitl [H] <;> iassumption
  icases H with ⟨H, Hs⟩
  iapply (row_pieces f).2
  isplitl [H]; · iexact H
  isplitl [H0] <;> iassumption

/-- The indices of row `o` of an exchange buffer. -/
abbrev rowSet (o : Dev nD) : Finset S32x24x1024.Idx := (rowM o).view.set

theorem rowSet_disjoint (b b' : Dev nD) (h : b ≠ b') : Disjoint (rowSet b) (rowSet b') :=
  Finset.disjoint_left.mpr fun i hi hi' => h (Fin.ext ((mem_rowM.mp hi).symm.trans (mem_rowM.mp hi')))

theorem rowSet_all : (Finset.univ : Finset (Dev nD)).biUnion rowSet = Finset.univ := by
  ext i
  refine ⟨fun _ => Finset.mem_univ _, fun _ => Finset.mem_biUnion.mpr ⟨⟨(i 0).val, (i 0).isLt⟩, Finset.mem_univ _, ?_⟩⟩
  exact mem_rowM.mpr rfl

theorem rows_join (f : CB F) : bigSep Finset.univ (fun o => iprop(∃ f : CB F, ((c : Thread nD τ).loc cc0_scratch0) ↦[rowSet o]{fullShare} f)) ⊢ iprop(∃ f : CB F, pt c cc0_scratch0 f) := by
  have h := Ring.pointsTo_blocks_join_exists (Ix := Unit) (Name := ℕ) (U := UU) (Lvl := ℕ) (ℓ := (c : Thread nD τ).loc cc0_scratch0) (Val := Elt F) (B := Dev nD) (q := fullShare) rowSet
  exact h rowSet_disjoint rowSet_all f

/-- The exchange buffer whole again, from its rows. -/
theorem comm_back (f : CB F) : iprop(rowPt c c fullShare f ∗ bigSep (Finset.Ico 1 32) fun i => recvPay A c (org c i)) ⊢ iprop(∃ f : CB F, pt c cc0_scratch0 f) := by
  have rows : bigSep Finset.univ (fun o => iprop(∃ f, rowPt (F := F) c o fullShare f)) ⊢ iprop(∃ f : CB F, pt c cc0_scratch0 f) :=
    rows_join f
  rw [set_apart _ c, others_org c (fun o => iprop(∃ f, rowPt (F := F) c o fullShare f))] at rows
  have weak : bigSep (Finset.Ico 1 32) (fun i => recvPay A c (org c i)) ⊢ bigSep (Finset.Ico 1 32) fun i => iprop(∃ f, rowPt (F := F) c (org c i) fullShare f) :=
    each_mono fun i _ => by
      unfold recvPay
      iintro ⟨%f, -, H⟩
      iexists f; iexact H
  iintro ⟨H, Hs⟩
  iapply rows
  isplitl [H]; · iexists f; iexact H
  iapply weak; iexact Hs

/-- The end: every cell closed, every buffer whole. -/
theorem at_end {f : CB F} {o : S1024x1024.Idx → Elt F .f32} :
    iprop(SwB A K c 32 ∗ (DoneB A c f ∗ (pt c cc0_stg3_0 o ∗ NoB (F := F) c))) ⊢ |={Set.univ}=> bodyPost A c o := by
  unfold SwB DoneB SP InB NoB
  rw [bigSep_sep', bigSep_sep', bigSep_sep']
  iintro ⟨⟨#HI, HO, -, ⟨Has, Hps⟩⟩, ⟨⟨Hd, Hs, %fa, -, Ha⟩, ⟨Har, Hpr⟩, ⟨Hx, Hg, He⟩, Hab, Hf1, Hf2⟩, Ho, ⟨Hs0, Hr0⟩⟩
  imod (close (K (barCell c)) (barCell c)) $$ [Hab] with Hb
  · isplitr; · iapply (recs_bar c); iexact HI
    iexact Hab
  imod (close_sends (A := A) (K := K) (c := c)) $$ [Has Hs0] with Hs1
  · isplitr; · iexact HI
    isplitl [Has] <;> iassumption
  imod (close_recvs (A := A) (K := K) (c := c)) $$ [Har Hr0] with Hr1
  · isplitr; · iexact HI
    isplitl [Har] <;> iassumption
  imodintro
  unfold bodyPost StB
  isplitl [Hx]; · iexact Hx
  isplitl [He]; · iexact He
  isplitl [Hd]; · iexact Hd
  isplitl [Ho]; · iexact Ho
  isplitr [Hb Hs1 Hr1 HO]
  · isplitl [Hf1 Hf2 Hps Hpr]
    · iapply (comm_back f)
      isplitr [Hpr]
      · iapply (row_back f)
        isplitl [Hf1]; · iexact Hf1
        isplitl [Hf2] <;> iassumption
      · iexact Hpr
    isplitl [Hg]; · iexact Hg
    isplitl [Hs]; · iexact Hs
    iexists fa; iexact Ha
  isplitr [HO]
  · isplitl [Hb]; · iexact Hb
    isplitl [Hs1] <;> iassumption
  · iexact HO

end Stages

end Cert.KernelIdeal.Moe
-- ==== Proof.Launch.lean ====
/- The launch: the cells funded, the duties' tokens and the credits dealt to the devices. -/
module

public import proofs.«01_k».proof.Proof.Stages

@[expose] public section

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

/-! ## The cells -/

/-- The copies' semaphores: for each device one its copy to that device signals, one that device's copy signals. -/
def osem (k : Fin 2 × Dev nD) : SemLoc sig := if k.1 = 0 then .dma (sendS k.2) else .dma (recvS k.2)

theorem osem_send (t : Dev nD) : osem (0, t) = .dma (sendS t) := rfl
theorem osem_recv (t : Dev nD) : osem (1, t) = .dma (recvS t) := rfl

theorem dma_inj {s s' : DmaSem sig} (h : (SemLoc.dma s : SemLoc sig) = .dma s') : s = s' := by cases h; rfl

theorem osem_inj : Function.Injective osem := by
  rintro ⟨k, t⟩ ⟨k', t'⟩ h
  match k, k' with
  | 0, 0 => rw [osem_send, osem_send] at h; rw [sendS_inj (dma_inj h)]
  | 1, 1 => rw [osem_recv, osem_recv] at h; rw [recvS_inj (dma_inj h)]
  | 0, 1 => rw [osem_send, osem_recv] at h; exact absurd (dma_inj h) (sendS_ne_recvS _ _)
  | 1, 0 => rw [osem_send, osem_recv] at h; exact absurd (dma_inj h).symm (sendS_ne_recvS _ _)

theorem osem_ne_bar (k : Fin 2 × Dev nD) : osem k ≠ .reg barS := by
  unfold osem; split <;> intro h <;> cases h

theorem osem_facts : Pipeline.OwnSemFacts spec0 osem where
  isScoped := by
    rintro ⟨k, t⟩
    match k with
    | 0 => exact (by decide +kernel : ∀ t : Dev nD, (SemLoc.dma (sendS t) : SemLoc sig).isScoped .tc = true) t
    | 1 => exact (by decide +kernel : ∀ t : Dev nD, (SemLoc.dma (recvS t) : SemLoc sig).isScoped .tc = true) t
  inj := osem_inj
  disj := by
    rintro ⟨k, t⟩
    match k with
    | 0 => exact (by decide +kernel : ∀ (t : Dev nD) (w : Fin 4) (s : Fin (spec0 w).nbuf), (SemLoc.dma (sendS t) : SemLoc sig) ≠ .dma ((spec0 w).sem s)) t
    | 1 => exact (by decide +kernel : ∀ (t : Dev nD) (w : Fin 4) (s : Fin (spec0 w).nbuf), (SemLoc.dma (recvS t) : SemLoc sig) ≠ .dma ((spec0 w).sem s)) t

def barEmb : Dev nD ↪ GSem nD τ sig := ⟨fun c => barCell c, fun _ _ h => congrArg (fun g : GSem nD τ sig => g.1.1) h⟩
def scEmb : Fin 2 × Dev nD × Dev nD ↪ GSem nD τ sig :=
  ⟨fun k => ((k.2.1 : Thread nD τ), osem (k.1, k.2.2)), fun k k' h => by
    have h1 : k.2.1 = k'.2.1 := congrArg (fun g : GSem nD τ sig => g.1.1) h
    have h2 := osem_inj (congrArg Prod.snd h)
    exact Prod.ext (Prod.mk.inj h2).1 (Prod.ext h1 (Prod.mk.inj h2).2)⟩

/-- The barrier cells, funded from their counters; the copies' cells, funded before their counters exist. -/
abbrev barCells : Finset (GSem nD τ sig) := Finset.univ.map barEmb
abbrev scCells : Finset (GSem nD τ sig) := Finset.univ.map scEmb

/-- Every duty a core pays: its signal at a barrier, its copy's credit at its own cell, and at the destination's. -/
def dutyOf (k : Fin 3) (c t : Dev nD) : GSem nD τ sig × ℕ × Dev nD :=
  if k = 0 then (barCell t, 0, c) else if k = 1 then (sendCell c t, 0, c) else (recvCell t c, 0, c)

theorem dutyOf_0 (c t : Dev nD) : dutyOf 0 c t = (barCell t, 0, c) := rfl
theorem dutyOf_1 (c t : Dev nD) : dutyOf 1 c t = (sendCell c t, 0, c) := rfl
theorem dutyOf_2 (c t : Dev nD) : dutyOf 2 c t = (recvCell t c, 0, c) := rfl

def kindNo : Kind → ℕ
  | .bar => 0
  | .send _ => 1
  | .recv _ => 2
  | .none => 3

theorem dutyOf_kind (k : Fin 3) (c t : Dev nD) : kindNo (kindOf (dutyOf k c t).1.2) = k.val := by
  match k with
  | 0 => rw [dutyOf_0, kind_bar]; rfl
  | 1 => rw [dutyOf_1, kind_send]; rfl
  | 2 => rw [dutyOf_2, kind_recv]; rfl

theorem dutyOf_by (k : Fin 3) (c t : Dev nD) : (dutyOf k c t).2.2 = c := by
  match k with
  | 0 => rfl
  | 1 => rfl
  | 2 => rfl

theorem dutyOf_inj : Function.Injective fun x : Fin 3 × Dev nD × Dev nD => dutyOf x.1 x.2.1 x.2.2 := by
  rintro ⟨k, c, t⟩ ⟨k', c', t'⟩ h
  dsimp only at h
  have hk : k = k' := Fin.ext ((dutyOf_kind k c t).symm.trans ((congrArg (fun x : GSem nD τ sig × ℕ × Dev nD => kindNo (kindOf x.1.2)) h).trans (dutyOf_kind k' c' t')))
  have hc : c = c' := (dutyOf_by k c t).symm.trans ((congrArg (fun x : GSem nD τ sig × ℕ × Dev nD => x.2.2) h).trans (dutyOf_by k' c' t'))
  subst hk hc
  have ht : t = t' := by
    match k with
    | 0 => rw [dutyOf_0, dutyOf_0] at h; exact congrArg (fun x : GSem nD τ sig × ℕ × Dev nD => x.1.1.1) h
    | 1 => rw [dutyOf_1, dutyOf_1] at h; exact sendS_inj (dma_inj (congrArg (fun x : GSem nD τ sig × ℕ × Dev nD => x.1.2) h))
    | 2 => rw [dutyOf_2, dutyOf_2] at h; exact congrArg (fun x : GSem nD τ sig × ℕ × Dev nD => x.1.1.1) h
  rw [ht]

def talkToks : Finset (GSem nD τ sig × ℕ × Dev nD) := Finset.univ.map ⟨_, dutyOf_inj⟩

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar (ck.1, ck.2.2) (congrArg Prod.snd h)

theorem bar_mem (c : Dev nD) : barCell c ∈ (barCells ∪ scCells : Finset (GSem nD τ sig)) :=
  Finset.mem_union_left _ (Finset.mem_map_of_mem barEmb (Finset.mem_univ c))
theorem send_mem (c t : Dev nD) : sendCell c t ∈ (barCells ∪ scCells : Finset (GSem nD τ sig)) :=
  Finset.mem_union_right _ (Finset.mem_map_of_mem scEmb (Finset.mem_univ ((0 : Fin 2), c, t)))
theorem recv_mem (c t : Dev nD) : recvCell c t ∈ (barCells ∪ scCells : Finset (GSem nD τ sig)) :=
  Finset.mem_union_right _ (Finset.mem_map_of_mem scEmb (Finset.mem_univ ((1 : Fin 2), c, t)))

/-! ## The launch's resources dealt -/

/-- The launch element: the pipeline's part at the staging cells, the exchange's at the others. -/
def u₀ : UU :=
  (initOf (Pipeline.cells cfgs cellOf_inj) (Pipeline.launchToks cfgs cellOf_inj), launchOf barCells scCells talkToks)

/-- A resource as a family over the devices: all of it on device `c₀`. -/
def onDev (c₀ : Dev nD) (X : HP F) (c : Dev nD) : HP F := if c = c₀ then X else iprop(emp)
theorem bigSep_onDev (c₀ : Dev nD) (X : HP F) : bigSep Finset.univ (onDev c₀ X) = X := by
  rw [set_apart _ c₀, bigSep_congr (s := Finset.univ.erase c₀) (Ψ := fun _ => (BI.emp : HP F))
      fun c hc => by unfold onDev; rw [if_neg (Finset.ne_of_mem_erase hc)]; rfl, BI.bigSep_emp_const]
  unfold onDev; rw [if_pos rfl]
  exact BI.equiv_iff.mp sep_emp

/-- The exchange's part of the launch element, kept by device 0 until it is dealt. -/
def G : Dev nD → HP F := onDev 0 (BI.own (ER (launchOf barCells scCells talkToks)))

/-- The records as the launch hands them out: all the invariants under one map of names, every barrier cell at round 0. -/
def records (A : Data F) (κ : GSem nD τ sig → ℕ) : HP F :=
  iprop((bigSep (barCells ∪ scCells) fun g => cellInv ER (rd A) (κ g) g) ∗ bigSep barCells fun g => reached ER g 0)

instance records_persistent (A : Data F) (κ : GSem nD τ sig → ℕ) : BI.Persistent (records A κ) := by unfold records; infer_instance

variable {A : Data F}

theorem inv_at (κ : GSem nD τ sig → ℕ) {g : GSem nD τ sig} (hg : g ∈ (barCells ∪ scCells : Finset (GSem nD τ sig))) :
    records A κ ⊢ cellInv ER (rd A) (κ g) g := by
  unfold records
  iintro ⟨#H, -⟩
  have e : (bigSep (barCells ∪ scCells) fun g => (cellInv ER (rd A) (κ g) g : HP F)) ⊢ cellInv ER (rd A) (κ g) g := bigSep_elim hg
  iapply e; iexact H

theorem reached_at (κ : GSem nD τ sig → ℕ) (c : Dev nD) : records A κ ⊢ reached ER (barCell c) 0 := by
  unfold records
  iintro ⟨-, #H⟩
  have e : (bigSep barCells fun g => (reached ER g 0 : HP F)) ⊢ reached ER (barCell c) 0 := bigSep_elim (Finset.mem_map_of_mem barEmb (Finset.mem_univ c))
  iapply e; iexact H

/-- Something that stays available makes every member of a family. -/
theorem each_of {I : Type} [DecidableEq I] {s : Finset I} {P : HP F} [BI.Persistent P] {Φ : I → HP F} (h : ∀ i, P ⊢ Φ i) : P ⊢ bigSep s Φ := by
  have e := bigSep_with_persistent (S := s) (R := P) (Φ := fun _ => (BI.emp : HP F)) (Ψ := Φ) fun i _ => by
    iintro ⟨#H, -⟩
    iapply (h i); iexact H
  rw [BI.bigSep_emp_const] at e
  iintro #H
  iapply e
  isplitr; · iexact H
  iempintro

theorem recs_of (κ : GSem nD τ sig → ℕ) : records A κ ⊢ recs A κ := by
  have h1 : records A κ ⊢ bigSep Finset.univ fun c : Dev nD => cellInv ER (rd A) (κ (barCell c)) (barCell c) := each_of fun c => inv_at κ (bar_mem c)
  have h2 : records A κ ⊢ bigSep Finset.univ fun p : Dev nD × Dev nD => cellInv ER (rd A) (κ (sendCell p.1 p.2)) (sendCell p.1 p.2) := each_of fun p => inv_at κ (send_mem p.1 p.2)
  have h3 : records A κ ⊢ bigSep Finset.univ fun p : Dev nD × Dev nD => cellInv ER (rd A) (κ (recvCell p.1 p.2)) (recvCell p.1 p.2) := each_of fun p => inv_at κ (recv_mem p.1 p.2)
  have h4 : records A κ ⊢ bigSep Finset.univ fun c : Dev nD => reached ER (barCell c) 0 := each_of fun c => reached_at κ c
  unfold recs
  iintro #H
  isplitr; · iapply h1; iexact H
  isplitr; · iapply h2; iexact H
  isplitr; · iapply h3; iexact H
  iapply h4; iexact H

/-- The duties of device `c`. -/
def duties (c : Dev nD) : HP F :=
  iprop((bigSep Finset.univ fun t => dutyTok ER (barCell t) 0 c) ∗ (bigSep Finset.univ fun t => dutyTok ER (sendCell c t) 0 c)
    ∗ bigSep Finset.univ fun t => dutyTok ER (recvCell t c) 0 c)
/-- The rights to open its copies' cells. -/
def rights (c : Dev nD) : HP F := iprop((bigSep Finset.univ fun t => openTok ER (sendCell c t)) ∗ bigSep Finset.univ fun t => openTok ER (recvCell c t))
/-- What stays with device `c`. -/
def linear (c : Dev nD) : HP F := iprop(atPos ER (barCell c) 0 ∅ 0 ∗ rights (F := F) c ∗ duties (F := F) c)

theorem fin_three (Φ : Fin 3 → HP F) : bigSep Finset.univ Φ = iprop(Φ 0 ∗ Φ 1 ∗ Φ 2) := by
  rw [show (Finset.univ : Finset (Fin 3)) = {0, 1, 2} from by decide, bigSep_insert (by decide), bigSep_insert (by decide), bigSep_singleton]
  rfl
theorem fin_two (Φ : Fin 2 → HP F) : bigSep Finset.univ Φ = iprop(Φ 0 ∗ Φ 1) := BI.bigSep_fin_two Φ

theorem toks_dealt : bigSep talkToks (fun x => (dutyTok ER x.1 x.2.1 x.2.2 : HP F)) = bigSep Finset.univ fun c : Dev nD => duties c := by
  unfold talkToks duties
  rw [bigSep_map, bigSep_univ_prod, fin_three, bigSep_sep', bigSep_sep', bigSep_univ_prod, bigSep_univ_prod, bigSep_univ_prod]
  rfl

theorem rights_dealt : bigSep scCells (fun g => (openTok ER g : HP F)) = bigSep Finset.univ fun c : Dev nD => rights c := by
  unfold rights
  rw [bigSep_map, bigSep_univ_prod, fin_two, bigSep_sep', bigSep_univ_prod, bigSep_univ_prod]
  rfl

/-! ## The launch's credits -/

theorem sum_at (f : Dev nD → CellTallies nD τ sig Unit) (s : Finset (Dev nD)) (g : GSem nD τ sig) : (∑ p ∈ s, f p) g () = ∑ p ∈ s, f p g () := by
  rw [Finset.sum_apply, Finsupp.finset_sum_apply]

theorem sum_others (d : Dev nD) (f : Dev nD → CellTallies nD τ sig Unit) : (∑ i ∈ Finset.Ico 1 32, f (tgt d i)) = ∑ p ∈ Finset.univ.erase d, f p := by
  rw [← image_tgt d, Finset.sum_image fun i hi i' hi' h => tgt_inj d (Finset.mem_Ico.mp hi).2 (Finset.mem_Ico.mp hi').2 h]

theorem bar_inj {c d : Dev nD} (h : barCell c = barCell d) : c = d := congrArg (fun g : GSem nD τ sig => g.1.1) h

/-- What device `d` owes the barrier of device `c`, -/
theorem owed_bar (d c : Dev nD) : O₀ d (barCell c) () = if d = c then 0 else 1 := by
  unfold O₀
  rw [Pi.add_apply, Finsupp.add_apply]
  have h1 : owRecv d 1 (barCell c) () = 0 := by
    by_contra h
    obtain ⟨t, e⟩ := owRecv_pos (Nat.pos_of_ne_zero h)
    exact recv_ne_bar d (congrArg Prod.snd e).symm
  have h2 : owBar d 1 (barCell c) () = ∑ p ∈ Finset.univ.erase d, if p = c then 1 else 0 := by
    unfold owBar
    rw [sum_others d fun p => tallyAt (barCell p) () 1, sum_at]
    refine Finset.sum_congr rfl fun p _ => ?_
    rw [tallyAt_apply]
    by_cases h : p = c
    · rw [if_pos h, h, if_pos ⟨rfl, rfl⟩]
    · rw [if_neg h, if_neg fun e => h (bar_inj e.1).symm]
  rw [h1, h2, Nat.zero_add, Finset.sum_ite_eq']
  by_cases h : d = c
  · rw [if_pos h, if_neg fun e => (Finset.mem_erase.mp e).1 h.symm]
  · rw [if_neg h, if_pos (Finset.mem_erase.mpr ⟨fun e => h e.symm, Finset.mem_univ _⟩)]

/-- and the cell at which device `o`'s copy lands. -/
theorem owed_recv (d : Dev nD) {c o : Dev nD} (ho : o ≠ c) : O₀ d (recvCell c o) () = if d = o then N else 0 := by
  unfold O₀
  rw [Pi.add_apply, Finsupp.add_apply]
  have h1 : owBar d 1 (recvCell c o) () = 0 := by
    by_contra h
    obtain ⟨t, e⟩ := owBar_pos (Nat.pos_of_ne_zero h)
    exact recv_ne_bar o (congrArg Prod.snd e)
  have h2 : owRecv d 1 (recvCell c o) () = ∑ p ∈ Finset.univ.erase d, if p = c then (if d = o then N else 0) else 0 := by
    unfold owRecv
    rw [sum_others d fun p => tallyAt (recvCell p d) () N, sum_at]
    refine Finset.sum_congr rfl fun p _ => ?_
    rw [tallyAt_apply]
    by_cases h : p = c
    · rw [if_pos h, h]
      by_cases h' : d = o
      · rw [if_pos h', h', if_pos ⟨rfl, rfl⟩]
      · rw [if_neg h', if_neg fun e => h' (recvS_inj (dma_inj (congrArg Prod.snd e.1))).symm]
    · rw [if_neg h, if_neg fun e => h (congrArg (fun g : GSem nD τ sig => g.1.1) e.1).symm]
  rw [h1, h2, Nat.add_zero, Finset.sum_ite_eq']
  by_cases h : d = o
  · rw [if_pos (Finset.mem_erase.mpr ⟨fun e => ho (h.symm.trans e.symm), Finset.mem_univ _⟩)]
  · rw [if_neg h, ite_self]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  exact (by decide +kernel : ∀ c : Dev nD, (∑ d : Dev nD, if d = c then 0 else 1) = 31) c

theorem launch_recv {c o : Dev nD} (ho : o ≠ c) :
    tallyOn (recvCell c o) (launchCredit (Pipeline.owing O₀) 0 (recvCell c o)) = (tallyAt (recvCell c o) () N : CellTallies nD τ sig Unit) := by
  unfold tallyAt; refine congrArg _ (Finsupp.ext fun u => ?_); cases u
  rw [Pipeline.launchCredit_owing, Finsupp.single_eq_same, Finset.sum_congr rfl fun d _ => owed_recv d ho, Finset.sum_ite_eq' Finset.univ o fun _ => N,
    if_pos (Finset.mem_univ _)]

/-- The credits device `c` waits with. -/
def credits (c : Dev nD) : HP F := iprop(cred (tallyAt (barCell c) () 31) ∗ bigSep (Finset.Ico 1 32) fun i => cred (tallyAt (recvCell c (org c i)) () N))

theorem creds (c : Dev nD) : (Pipeline.launchCred O₀ c : HP F) ⊢ credits c := by
  unfold Pipeline.launchCred credits
  rw [bigSep_univ_at _ (SemLoc.reg barS), launch_bar, ← others_org c (fun o => (cred (tallyAt (recvCell c o) () N) : HP F)),
    bigSep_congr (s := Finset.univ.erase c) fun o ho => by rw [← launch_recv (Finset.ne_of_mem_erase ho)]]
  refine sep_mono_right ?_
  rw [← bigSep_image_of_injOn (f := fun o : Dev nD => (SemLoc.dma (recvS o) : SemLoc sig)) (s := Finset.univ.erase c)
    (fun o _ o' _ h => recvS_inj (dma_inj h)) (fun sm => (cred (tallyOn ((c.tc : Thread nD τ), sm) (launchCredit (Pipeline.owing O₀) 0 ((c.tc : Thread nD τ), sm))) : HP F))]
  exact BI.bigSep_subset fun sm h => by
    obtain ⟨o, -, rfl⟩ := Finset.mem_image.mp h
    exact Finset.mem_erase.mpr ⟨recv_ne_bar o, Finset.mem_univ _⟩

end Cert.KernelIdeal.Moe
-- ==== Proof.Walk.lean ====
/- Small steps the walk through the kernel's body uses. -/
module

public import proofs.«01_k».proof.Proof.Stages

@[expose] public section

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

variable {A : Data F} {K : GSem nD τ sig → ℕ} {c : Dev nD} {R : HP F} {Q : Unit → HP F}

theorem to_tgt {c : Dev nD} {n d : ℕ} (hl : d < nD) (h : d = (c.val + n) % 32) : (⟨d, hl⟩ : Dev nD) = tgt c n := Fin.ext h

theorem at_tgt {c : Dev nD} {n d : ℕ} (hl : d < nD) (h : d = (c.val + n) % 32) : ((⟨d, hl⟩ : Dev nD) : Thread nD τ) = (tgt c n : Thread nD τ) :=
  congrArg (fun d : Dev nD => (d : Thread nD τ)) (to_tgt hl h)

/-- An offset in its closed form, at the own row. -/
theorem coff_own {c : Dev nD} {j : ℕ} {off : Fin 2 → ℕ} [i : ClosedOff off] (h : i.form = ![c.val, j]) : off = ![(org c 0).val, j] := by
  rw [org_zero]; exact i.eq.trans h

/-- The core learning which device it is of. -/
theorem s_dev {H : HP F} {k : Dev nD → Prog (TpuEff nD τ sig (Elt F) Λ₀ .tc) PUnit} (h : H ⊢ wpc c (k c) Q) :
    H ⊢ wpc c (.op .deviceId k) Q := by
  unfold wpc at h ⊢
  rw [wp_deviceId]; exact h

/-- A conditional whose skipped branch is what follows it. -/
theorem s_skip {α β : Type} {P : Prop} {d : Decidable P} {H H' : HP F} {a : P → Prog (TpuEff nD τ sig (Elt F) Λ₀ .tc) α}
    {J : Prog (TpuEff nD τ sig (Elt F) Λ₀ .tc) α}
    {k1 : α → Prog (TpuEff nD τ sig (Elt F) Λ₀ .tc) β} {k2 : β → Prog (TpuEff nD τ sig (Elt F) Λ₀ .tc) PUnit}
    (hb : ¬ P → H ⊢ H') (ha : ∀ hp, (H' ⊢ wpc c (Prog.bind (Prog.bind J k1) k2) Q) → H ⊢ wpc c (Prog.bind (Prog.bind (a hp) k1) k2) Q)
    (h : H' ⊢ wpc c (Prog.bind (Prog.bind J k1) k2) Q) : H ⊢ wpc c (Prog.bind (Prog.bind (dite P a fun _ => J) k1) k2) Q := by
  by_cases hp : P
  · rw [dif_pos hp]; exact ha hp h
  · rw [dif_neg hp]; exact (hb hp).trans h

end Cert.KernelIdeal.Moe
-- ==== Proof.Walk1.lean ====
/- The kernel's body, step by step: up to the scatter of the seventh chunk. -/
module

public import proofs.«01_k».proof.Proof.Walk

@[expose] public section

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

variable {A : Data F} {K : GSem nD τ sig → ℕ} {c : Dev nD} {R : HP F} {Q : Unit → HP F}

set_option maxHeartbeats 0
set_option maxRecDepth 100000

/-- The body's first quarter: signals, gathers, products, copies, and the first chunks scattered. -/
theorem walk1 (hD : ∀ o, TableOk (A.d o)) (f₀ : S1024x1024.Idx → Elt F .f32) {k : _ → Prog (TpuEff nD τ sig (Elt F) Λ₀ .tc) PUnit}
    (h : ∀ f v2 w v hw r, v = A.d c (ix2 (org c 6) (⟨22, by decide⟩ : Fin 24)) → Slot A (org c 6) ⟨22, by decide⟩ (fun x => r (ix2 0 x)) →
      iprop(SG c (A.d c) (Slot A) 6 22 ∗ (ReB A K c 7 ∗ (AsideB A c f ∗ (AsB (F := F) c ∗ (pt c cc0_stg3_0 f₀ ∗ NoB (F := F) c))))) ⊢ wpc c (k ⟨c, v2, w, v, hw, r⟩) Q) :
    bodyPre A K c f₀ ⊢ wpc c (Prog.bind (k0_part211 (F := F) xM (hstage0_0 0) wM (hstage0_1 0) dM (hstage0_2 0) oM (hstage0_3 0) cM (Memref.isWhole_whole _) gM (Memref.isWhole_whole _) sM (Memref.isWhole_whole _) aM (Memref.isWhole_whole _) cc0_scratch4 cc0_scratch5) k) Q := by
  unfold bodyPre
  refine s_dev ?_
  refine s_signal (by decide) (by decide) (at_tgt _ (k0_dev1_eq c)) rfl rfl ?_
  refine s_signal (by decide) (by decide) (at_tgt _ (k0_dev2_eq c)) rfl rfl ?_
  refine s_signal (by decide) (by decide) (at_tgt _ (k0_dev3_eq c)) rfl rfl ?_
  refine s_signal (by decide) (by decide) (at_tgt _ (k0_dev4_eq c)) rfl rfl ?_
  refine s_signal (by decide) (by decide) (at_tgt _ (k0_dev5_eq c)) rfl rfl ?_
  refine s_signal (by decide) (by decide) (at_tgt _ (k0_dev6_eq c)) rfl rfl ?_
  refine s_signal (by decide) (by decide) (at_tgt _ (k0_dev7_eq c)) rfl rfl ?_
  refine s_signal (by decide) (by decide) (at_tgt _ (k0_dev8_eq c)) rfl rfl ?_
  refine s_signal (by decide) (by decide) (at_tgt _ (k0_dev9_eq c)) rfl rfl ?_
  refine s_signal (by decide) (by decide) (at_tgt _ (k0_dev10_eq c)) rfl rfl ?_
  refine s_signal (by decide) (by decide) (at_tgt _ (k0_dev11_eq c)) rfl rfl ?_
  refine s_signal (by decide) (by decide) (at_tgt _ (k0_dev12_eq c)) rfl rfl ?_
  refine s_signal (by decide) (by decide) (at_tgt _ (k0_dev13_eq c)) rfl rfl ?_
  refine s_signal (by decide) (by decide) (at_tgt _ (k0_dev14_eq c)) rfl rfl ?_
  refine s_signal (by decide) (by decide) (at_tgt _ (k0_dev15_eq c)) rfl rfl ?_
  refine s_signal (by decide) (by decide) (at_tgt _ (k0_dev16_eq c)) rfl rfl ?_
  refine s_signal (by decide) (by decide) (at_tgt _ (k0_dev17_eq c)) rfl rfl ?_
  refine s_signal (by decide) (by decide) (at_tgt _ (k0_dev18_eq c)) rfl rfl ?_
  refine s_signal (by decide) (by decide) (at_tgt _ (k0_dev19_eq c)) rfl rfl ?_
  refine s_signal (by decide) (by decide) (at_tgt _ (k0_dev20_eq c)) rfl rfl ?_
  refine s_signal (by decide) (by decide) (at_tgt _ (k0_dev21_eq c)) rfl rfl ?_
  refine s_signal (by decide) (by decide) (at_tgt _ (k0_dev22_eq c)) rfl rfl ?_
  refine s_signal (by decide) (by decide) (at_tgt _ (k0_dev23_eq c)) rfl rfl ?_
  refine s_signal (by decide) (by decide) (at_tgt _ (k0_dev24_eq c)) rfl rfl ?_
  refine s_signal (by decide) (by decide) (at_tgt _ (k0_dev25_eq c)) rfl rfl ?_
  refine s_signal (by decide) (by decide) (at_tgt _ (k0_dev26_eq c)) rfl rfl ?_
  refine s_signal (by decide) (by decide) (at_tgt _ (k0_dev27_eq c)) rfl rfl ?_
  refine s_signal (by decide) (by decide) (at_tgt _ (k0_dev28_eq c)) rfl rfl ?_
  refine s_signal (by decide) (by decide) (at_tgt _ (k0_dev29_eq c)) rfl rfl ?_
  refine s_signal (by decide) (by decide) (at_tgt _ (k0_dev30_eq c)) rfl rfl ?_
  refine s_signal (by decide) (by decide) (at_tgt _ (k0_dev31_eq c)) rfl rfl ?_
  refine to_gather ?_
  iterate 24 refine s_gtab (by decide) (coff rfl) fun _ hv => s_assume (chkTok hD (hv _)) (s_skip (fun hp => s_gskip (by decide) (hv _) fun hl => hp ((cndTok_iff (by rw [hv]; exact (hD c).le _ _)).mpr hl))
    (fun hp rest => s_gx ((cndTok_iff (by rw [hv]; exact (hD c).le _ _)).mp hp) rfl fun r hr => s_gdead fun _ => s_gput (by decide) (hv _) (by rw [cast_self, cast_self]; exact hr) rfl rest) ?_)
  refine to_products fun g hg => ?_
  iterate 4 refine s_cx (by decide) rfl (s_ew (by decide) rfl (s_cdead (coff rfl) fun _ => s_cput (by decide) (coff rfl) (cast_self _ _) ?_))
  refine to_wait hg fun f hf => s_bar rfl rfl (to_copies ?_)
  refine s_copy hf (by decide) (by decide) (to_tgt _ (k0_dev32_eq c)) (sem_send (tgt c 1) (coff rfl)) (sem_recv c (coff rfl)) (coff rfl) (coff rfl) ?_
  refine s_copy hf (by decide) (by decide) (to_tgt _ (k0_dev33_eq c)) (sem_send (tgt c 2) (coff rfl)) (sem_recv c (coff rfl)) (coff rfl) (coff rfl) ?_
  refine s_copy hf (by decide) (by decide) (to_tgt _ (k0_dev34_eq c)) (sem_send (tgt c 3) (coff rfl)) (sem_recv c (coff rfl)) (coff rfl) (coff rfl) ?_
  refine s_copy hf (by decide) (by decide) (to_tgt _ (k0_dev35_eq c)) (sem_send (tgt c 4) (coff rfl)) (sem_recv c (coff rfl)) (coff rfl) (coff rfl) ?_
  refine s_copy hf (by decide) (by decide) (to_tgt _ (k0_dev36_eq c)) (sem_send (tgt c 5) (coff rfl)) (sem_recv c (coff rfl)) (coff rfl) (coff rfl) ?_
  refine s_copy hf (by decide) (by decide) (to_tgt _ (k0_dev37_eq c)) (sem_send (tgt c 6) (coff rfl)) (sem_recv c (coff rfl)) (coff rfl) (coff rfl) ?_
  refine s_copy hf (by decide) (by decide) (to_tgt _ (k0_dev38_eq c)) (sem_send (tgt c 7) (coff rfl)) (sem_recv c (coff rfl)) (coff rfl) (coff rfl) ?_
  refine s_copy hf (by decide) (by decide) (to_tgt _ (k0_dev39_eq c)) (sem_send (tgt c 8) (coff rfl)) (sem_recv c (coff rfl)) (coff rfl) (coff rfl) ?_
  refine s_copy hf (by decide) (by decide) (to_tgt _ (k0_dev40_eq c)) (sem_send (tgt c 9) (coff rfl)) (sem_recv c (coff rfl)) (coff rfl) (coff rfl) ?_
  refine s_copy hf (by decide) (by decide) (to_tgt _ (k0_dev41_eq c)) (sem_send (tgt c 10) (coff rfl)) (sem_recv c (coff rfl)) (coff rfl) (coff rfl) ?_
  refine s_copy hf (by decide) (by decide) (to_tgt _ (k0_dev42_eq c)) (sem_send (tgt c 11) (coff rfl)) (sem_recv c (coff rfl)) (coff rfl) (coff rfl) ?_
  refine s_copy hf (by decide) (by decide) (to_tgt _ (k0_dev43_eq c)) (sem_send (tgt c 12) (coff rfl)) (sem_recv c (coff rfl)) (coff rfl) (coff rfl) ?_
  refine s_copy hf (by decide) (by decide) (to_tgt _ (k0_dev44_eq c)) (sem_send (tgt c 13) (coff rfl)) (sem_recv c (coff rfl)) (coff rfl) (coff rfl) ?_
  refine s_copy hf (by decide) (by decide) (to_tgt _ (k0_dev45_eq c)) (sem_send (tgt c 14) (coff rfl)) (sem_recv c (coff rfl)) (coff rfl) (coff rfl) ?_
  refine s_copy hf (by decide) (by decide) (to_tgt _ (k0_dev46_eq c)) (sem_send (tgt c 15) (coff rfl)) (sem_recv c (coff rfl)) (coff rfl) (coff rfl) ?_
  refine s_copy hf (by decide) (by decide) (to_tgt _ (k0_dev47_eq c)) (sem_send (tgt c 16) (coff rfl)) (sem_recv c (coff rfl)) (coff rfl) (coff rfl) ?_
  refine s_copy hf (by decide) (by decide) (to_tgt _ (k0_dev48_eq c)) (sem_send (tgt c 17) (coff rfl)) (sem_recv c (coff rfl)) (coff rfl) (coff rfl) ?_
  refine s_copy hf (by decide) (by decide) (to_tgt _ (k0_dev49_eq c)) (sem_send (tgt c 18) (coff rfl)) (sem_recv c (coff rfl)) (coff rfl) (coff rfl) ?_
  refine s_copy hf (by decide) (by decide) (to_tgt _ (k0_dev50_eq c)) (sem_send (tgt c 19) (coff rfl)) (sem_recv c (coff rfl)) (coff rfl) (coff rfl) ?_
  refine s_copy hf (by decide) (by decide) (to_tgt _ (k0_dev51_eq c)) (sem_send (tgt c 20) (coff rfl)) (sem_recv c (coff rfl)) (coff rfl) (coff rfl) ?_
  refine s_copy hf (by decide) (by decide) (to_tgt _ (k0_dev52_eq c)) (sem_send (tgt c 21) (coff rfl)) (sem_recv c (coff rfl)) (coff rfl) (coff rfl) ?_
  refine s_copy hf (by decide) (by decide) (to_tgt _ (k0_dev53_eq c)) (sem_send (tgt c 22) (coff rfl)) (sem_recv c (coff rfl)) (coff rfl) (coff rfl) ?_
  refine s_copy hf (by decide) (by decide) (to_tgt _ (k0_dev54_eq c)) (sem_send (tgt c 23) (coff rfl)) (sem_recv c (coff rfl)) (coff rfl) (coff rfl) ?_
  refine s_copy hf (by decide) (by decide) (to_tgt _ (k0_dev55_eq c)) (sem_send (tgt c 24) (coff rfl)) (sem_recv c (coff rfl)) (coff rfl) (coff rfl) ?_
  refine s_copy hf (by decide) (by decide) (to_tgt _ (k0_dev56_eq c)) (sem_send (tgt c 25) (coff rfl)) (sem_recv c (coff rfl)) (coff rfl) (coff rfl) ?_
  refine s_copy hf (by decide) (by decide) (to_tgt _ (k0_dev57_eq c)) (sem_send (tgt c 26) (coff rfl)) (sem_recv c (coff rfl)) (coff rfl) (coff rfl) ?_
  refine s_copy hf (by decide) (by decide) (to_tgt _ (k0_dev58_eq c)) (sem_send (tgt c 27) (coff rfl)) (sem_recv c (coff rfl)) (coff rfl) (coff rfl) ?_
  refine s_copy hf (by decide) (by decide) (to_tgt _ (k0_dev59_eq c)) (sem_send (tgt c 28) (coff rfl)) (sem_recv c (coff rfl)) (coff rfl) (coff rfl) ?_
  refine s_copy hf (by decide) (by decide) (to_tgt _ (k0_dev60_eq c)) (sem_send (tgt c 29) (coff rfl)) (sem_recv c (coff rfl)) (coff rfl) (coff rfl) ?_
  refine s_copy hf (by decide) (by decide) (to_tgt _ (k0_dev61_eq c)) (sem_send (tgt c 30) (coff rfl)) (sem_recv c (coff rfl)) (coff rfl) (coff rfl) ?_
  refine s_copy hf (by decide) (by decide) (to_tgt _ (k0_dev62_eq c)) (sem_send (tgt c 31) (coff rfl)) (sem_recv c (coff rfl)) (coff rfl) (coff rfl) ?_
  refine to_scatter (s_zdead fun _ => s_zput (fun i => by rw [cast_self]; rfl) zero2 (s_comm0 hf (coff rfl) fun r hr => s_sdead fun _ => s_sput zero2 (stage_cast hr) ?_))
  iterate 24 refine s_tab (by decide) (coff_own rfl) fun _ hv => s_assume (chkRow (hD c) (hv _)) (s_row (by decide) rfl fun r hr => s_acc fun _ => s_put (hD c) (by decide) (by decide) (hv _) (slot_cast hr) ?_)
  refine to_others ?_
  iterate 5
    refine s_next (s_swap (s_rwait (by decide) (by decide) (sem_recv _ (coff rfl)) (coff rfl) (s_swap (s_comm (by decide) (coff rfl) fun r hr => s_sdead fun _ => s_sput zero2 (stage_cast hr) ?_))))
    iterate 24 refine s_tab (by decide) (coff rfl) fun _ hv => s_assume (chkRow (hD c) (hv _)) (s_row (by decide) rfl fun r hr => s_acc fun _ => s_put (hD c) (by decide) (by decide) (hv _) (slot_cast hr) ?_)
  refine s_next (s_swap (s_rwait (by decide) (by decide) (sem_recv _ (coff rfl)) (coff rfl) (s_swap (s_comm (by decide) (coff rfl) fun r hr => s_sdead fun _ => s_sput zero2 (stage_cast hr) ?_))))
  iterate 22 refine s_tab (by decide) (coff rfl) fun _ hv => s_assume (chkRow (hD c) (hv _)) (s_row (by decide) rfl fun r hr => s_acc fun _ => s_put (hD c) (by decide) (by decide) (hv _) (slot_cast hr) ?_)
  exact s_tab (by decide) (coff rfl) fun _ hv => s_assume (chkRow (hD c) (hv _)) (s_row (by decide) rfl fun r hr => s_acc fun _ => h _ _ _ _ _ _ (hv _) hr)

end Cert.KernelIdeal.Moe
-- ==== Proof.Walk2.lean ====
/- The kernel's body, step by step: the chunks to the eighteenth. -/
module

public import proofs.«01_k».proof.Proof.Walk

@[expose] public section

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

variable {A : Data F} {K : GSem nD τ sig → ℕ} {c : Dev nD} {R : HP F} {Q : Unit → HP F}

set_option maxHeartbeats 0
set_option maxRecDepth 100000

/-- The body's second quarter: the chunks to the eighteenth. -/
theorem walk2 (hD : ∀ o, TableOk (A.d o)) {k : _ → Prog (TpuEff nD τ sig (Elt F) Λ₀ .tc) PUnit} {v2 w v : BitVec 32} {hw} {r : S1x1024.Idx → Elt F .f32}
    (hv : v = A.d c (ix2 (org c 6) (⟨22, by decide⟩ : Fin 24))) (hr : Slot A (org c 6) ⟨22, by decide⟩ (fun x => r (ix2 0 x)))
    (h : ∀ w v hw r, v = A.d c (ix2 (org c 17) (⟨9, by decide⟩ : Fin 24)) → Slot A (org c 17) ⟨9, by decide⟩ (fun x => r (ix2 0 x)) →
      iprop(SG c (A.d c) (Slot A) 17 9 ∗ (ReB A K c 18 ∗ R)) ⊢ wpc c (k ⟨w, v, hw, r⟩) Q) :
    iprop(SG c (A.d c) (Slot A) 6 22 ∗ (ReB A K c 7 ∗ R)) ⊢ wpc c (Prog.bind (k0_part212 (F := F) xM (hstage0_0 0) wM (hstage0_1 0) dM (hstage0_2 0) oM (hstage0_3 0) cM (Memref.isWhole_whole _) gM (Memref.isWhole_whole _) sM (Memref.isWhole_whole _) aM (Memref.isWhole_whole _) cc0_scratch4 cc0_scratch5 c v2 w v hw r) k) Q := by
  refine s_put (hD c) (by decide) (by decide) hv (slot_cast hr) ?_
  iterate 1 refine s_tab (by decide) (coff rfl) fun _ hv => s_assume (chkRow (hD c) (hv _)) (s_row (by decide) rfl fun r hr => s_acc fun _ => s_put (hD c) (by decide) (by decide) (hv _) (slot_cast hr) ?_)
  iterate 10
    refine s_next (s_swap (s_rwait (by decide) (by decide) (sem_recv _ (coff rfl)) (coff rfl) (s_swap (s_comm (by decide) (coff rfl) fun r hr => s_sdead fun _ => s_sput zero2 (stage_cast hr) ?_))))
    iterate 24 refine s_tab (by decide) (coff rfl) fun _ hv => s_assume (chkRow (hD c) (hv _)) (s_row (by decide) rfl fun r hr => s_acc fun _ => s_put (hD c) (by decide) (by decide) (hv _) (slot_cast hr) ?_)
  refine s_next (s_swap (s_rwait (by decide) (by decide) (sem_recv _ (coff rfl)) (coff rfl) (s_swap (s_comm (by decide) (coff rfl) fun r hr => s_sdead fun _ => s_sput zero2 (stage_cast hr) ?_))))
  iterate 9 refine s_tab (by decide) (coff rfl) fun _ hv => s_assume (chkRow (hD c) (hv _)) (s_row (by decide) rfl fun r hr => s_acc fun _ => s_put (hD c) (by decide) (by decide) (hv _) (slot_cast hr) ?_)
  exact s_tab (by decide) (coff rfl) fun _ hv => s_assume (chkRow (hD c) (hv _)) (s_row (by decide) rfl fun r hr => h _ _ _ _ (hv _) hr)

end Cert.KernelIdeal.Moe
-- ==== Proof.Walk3.lean ====
/- The kernel's body, step by step: the chunks to the twenty-eighth. -/
module

public import proofs.«01_k».proof.Proof.Walk

@[expose] public section

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

variable {A : Data F} {K : GSem nD τ sig → ℕ} {c : Dev nD} {R : HP F} {Q : Unit → HP F}

set_option maxHeartbeats 0
set_option maxRecDepth 100000

/-- The body's third quarter: the chunks to the twenty-eighth. -/
theorem walk3 (hD : ∀ o, TableOk (A.d o)) {k : _ → Prog (TpuEff nD τ sig (Elt F) Λ₀ .tc) PUnit} {v2 w v : BitVec 32} {hw} {r : S1x1024.Idx → Elt F .f32}
    (hv : v = A.d c (ix2 (org c 17) (⟨9, by decide⟩ : Fin 24))) (hr : Slot A (org c 17) ⟨9, by decide⟩ (fun x => r (ix2 0 x)))
    (h : ∀ w v hw r, v = A.d c (ix2 (org c 27) (⟨22, by decide⟩ : Fin 24)) → Slot A (org c 27) ⟨22, by decide⟩ (fun x => r (ix2 0 x)) →
      iprop(SG c (A.d c) (Slot A) 27 22 ∗ (ReB A K c 28 ∗ R)) ⊢ wpc c (k ⟨w, v, hw, r⟩) Q) :
    iprop(SG c (A.d c) (Slot A) 17 9 ∗ (ReB A K c 18 ∗ R)) ⊢ wpc c (Prog.bind (k0_part213 (F := F) xM (hstage0_0 0) wM (hstage0_1 0) dM (hstage0_2 0) oM (hstage0_3 0) cM (Memref.isWhole_whole _) gM (Memref.isWhole_whole _) sM (Memref.isWhole_whole _) aM (Memref.isWhole_whole _) cc0_scratch4 cc0_scratch5 c v2 w v hw r) k) Q := by
  refine s_acc fun _ => s_put (hD c) (by decide) (by decide) hv (slot_cast hr) ?_
  iterate 14 refine s_tab (by decide) (coff rfl) fun _ hv => s_assume (chkRow (hD c) (hv _)) (s_row (by decide) rfl fun r hr => s_acc fun _ => s_put (hD c) (by decide) (by decide) (hv _) (slot_cast hr) ?_)
  iterate 9
    refine s_next (s_swap (s_rwait (by decide) (by decide) (sem_recv _ (coff rfl)) (coff rfl) (s_swap (s_comm (by decide) (coff rfl) fun r hr => s_sdead fun _ => s_sput zero2 (stage_cast hr) ?_))))
    iterate 24 refine s_tab (by decide) (coff rfl) fun _ hv => s_assume (chkRow (hD c) (hv _)) (s_row (by decide) rfl fun r hr => s_acc fun _ => s_put (hD c) (by decide) (by decide) (hv _) (slot_cast hr) ?_)
  refine s_next (s_swap (s_rwait (by decide) (by decide) (sem_recv _ (coff rfl)) (coff rfl) (s_swap (s_comm (by decide) (coff rfl) fun r hr => s_sdead fun _ => s_sput zero2 (stage_cast hr) ?_))))
  iterate 22 refine s_tab (by decide) (coff rfl) fun _ hv => s_assume (chkRow (hD c) (hv _)) (s_row (by decide) rfl fun r hr => s_acc fun _ => s_put (hD c) (by decide) (by decide) (hv _) (slot_cast hr) ?_)
  exact s_tab (by decide) (coff rfl) fun _ hv => s_assume (chkRow (hD c) (hv _)) (s_row (by decide) rfl fun r hr => h _ _ _ _ (hv _) hr)

end Cert.KernelIdeal.Moe
-- ==== Proof.Walk4.lean ====
/- The kernel's body, step by step: the last chunks and the result. -/
module

public import proofs.«01_k».proof.Proof.Walk

@[expose] public section

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

variable {A : Data F} {K : GSem nD τ sig → ℕ} {c : Dev nD} {R : HP F} {Q : Unit → HP F}

set_option maxHeartbeats 0
set_option maxRecDepth 100000

/-- The body's last quarter: the last chunks, the result, and the waits for the copies but one. -/
theorem walk4 (hD : ∀ o, TableOk (A.d o)) {f : CB F} (f₀ : S1024x1024.Idx → Elt F .f32) {k : _ → Prog (TpuEff nD τ sig (Elt F) Λ₀ .tc) PUnit} {v2 w v : BitVec 32} {hw} {r : S1x1024.Idx → Elt F .f32}
    (hv : v = A.d c (ix2 (org c 27) (⟨22, by decide⟩ : Fin 24))) (hr : Slot A (org c 27) ⟨22, by decide⟩ (fun x => r (ix2 0 x)))
    (h : ∀ o, OutOk A c o → iprop(SwB A K c 31 ∗ (DoneB A c f ∗ (pt c cc0_stg3_0 o ∗ NoB (F := F) c))) ⊢ wpc c (k ⟨⟩) Q) :
    iprop(SG c (A.d c) (Slot A) 27 22 ∗ (ReB A K c 28 ∗ (AsideB A c f ∗ (AsB (F := F) c ∗ (pt c cc0_stg3_0 f₀ ∗ NoB (F := F) c))))) ⊢ wpc c (Prog.bind (k0_part214 (F := F) xM (hstage0_0 0) wM (hstage0_1 0) dM (hstage0_2 0) oM (hstage0_3 0) cM (Memref.isWhole_whole _) gM (Memref.isWhole_whole _) sM (Memref.isWhole_whole _) aM (Memref.isWhole_whole _) cc0_scratch4 cc0_scratch5 c v2 w v hw r) k) Q := by
  refine s_acc fun _ => s_put (hD c) (by decide) (by decide) hv (slot_cast hr) ?_
  iterate 1 refine s_tab (by decide) (coff rfl) fun _ hv => s_assume (chkRow (hD c) (hv _)) (s_row (by decide) rfl fun r hr => s_acc fun _ => s_put (hD c) (by decide) (by decide) (hv _) (slot_cast hr) ?_)
  iterate 4
    refine s_next (s_swap (s_rwait (by decide) (by decide) (sem_recv _ (coff rfl)) (coff rfl) (s_swap (s_comm (by decide) (coff rfl) fun r hr => s_sdead fun _ => s_sput zero2 (stage_cast hr) ?_))))
    iterate 24 refine s_tab (by decide) (coff rfl) fun _ hv => s_assume (chkRow (hD c) (hv _)) (s_row (by decide) rfl fun r hr => s_acc fun _ => s_put (hD c) (by decide) (by decide) (hv _) (slot_cast hr) ?_)
  refine s_next (s_aout rfl fun r hr => to_result (s_odead fun _ => s_oput hr zero2 fun o ho => to_end ?_))
  iterate 30 refine s_swait (by decide) (by decide) (sem_send _ (coff rfl)) (coff rfl) ?_
  exact h o ho

end Cert.KernelIdeal.Moe
-- ==== Proof.Body.lean ====
/- The kernel's body, step by step: the whole. -/
module

public import proofs.«01_k».proof.Proof.Walk1
public import proofs.«01_k».proof.Proof.Walk2
public import proofs.«01_k».proof.Proof.Walk3
public import proofs.«01_k».proof.Proof.Walk4

@[expose] public section

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

variable {A : Data F} {K : GSem nD τ sig → ℕ} {c : Dev nD} {R : HP F} {Q : Unit → HP F}

set_option maxHeartbeats 0
set_option maxRecDepth 100000

/-- The body runs: from the buffers and the protocol's duties to the result and the cells ready to close. -/
theorem body_runs (hD : ∀ o, TableOk (A.d o)) (f₀ : S1024x1024.Idx → Elt F .f32)
    (h : ∀ f o, OutOk A c o → iprop(SwB A K c 32 ∗ (DoneB A c f ∗ (pt c cc0_stg3_0 o ∗ NoB (F := F) c))) ⊢ wpc c (.ret ⟨⟩) Q) :
    bodyPre A K c f₀ ⊢ wpc c (cc0_body (F := F) xM (hstage0_0 0) wM (hstage0_1 0) dM (hstage0_2 0) oM (hstage0_3 0) cM (Memref.isWhole_whole _) gM (Memref.isWhole_whole _) sM (Memref.isWhole_whole _) aM (Memref.isWhole_whole _) cc0_scratch4 cc0_scratch5) Q := by
  refine walk1 hD f₀ fun f _ _ _ _ _ hv hr => walk2 hD hv hr fun _ _ _ _ hv hr => walk3 hD hv hr fun _ _ _ _ hv hr => walk4 hD f₀ hv hr fun o ho => ?_
  exact s_swait (by decide) (by decide) (sem_send _ (coff rfl)) (coff rfl) (h f o ho)

end Cert.KernelIdeal.Moe
-- ==== Proof.Region.lean ====
/- The kernel's call: what the pipeline's point starts from and leaves, and its record for the run of the program. -/
module

public import proofs.«01_k».proof.Proof.Launch
public import proofs.«01_k».proof.Proof.Body
public import Idealize.ShloMosaic.Lib.Pipeline.FrameBody

@[expose] public section

set_option maxRecDepth 16384

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Idealize.ShloMosaic.Pipeline (Dat Cfg BodyObligation BodyObligationLoose cellOf)
open Cert.KernelIdeal Cert.KernelIdeal.Gen

variable {F : FTy → Type} [FloatOps F]

local notation "𝕄" => MT nD τ sig Unit (Elt F) ℕ UU ℕ

/-! ## Entering the kernel -/

section Enter

variable (A : Data F) (c : Dev nD)

/-- What the launch keeps for the kernel, -/
def Tk : HP F := iprop((∃ K, recs A K) ∗ linear (F := F) c ∗ credits (F := F) c)
/-- and once its copies' cells are open. -/
def Xk : HP F :=
  iprop((∃ K, recs A K) ∗ (atPos ER (barCell c) 0 ∅ 0 ∗ (bigSep Finset.univ fun t => iprop(atPos ER (sendCell c t) 0 ∅ 0 ∗ reached ER (sendCell c t) 0))
      ∗ (bigSep Finset.univ fun t => iprop(atPos ER (recvCell c t) 0 ∅ 0 ∗ reached ER (recvCell c t) 0)) ∗ duties (F := F) c)
    ∗ credits (F := F) c ∗ levAts L lv)
/-- The kernel's cells closed. -/
def Shut : HP F := iprop(semVal (barCell c) 0 ∗ (bigSep Finset.univ fun t => semVal (sendCell c t) 0) ∗ bigSep Finset.univ fun t => semVal (recvCell c t) 0)
/-- The scratch buffers, at anything. -/
def Scr : HP F := iprop((∃ f : CB F, pt c cc0_scratch0 f) ∗ (∃ g : S24x512.Idx → Elt F .f32, pt c cc0_scratch1 g) ∗ StB (F := F) c)

theorem apart_tgt (Φ : Dev nD → HP F) : bigSep Finset.univ Φ = iprop(Φ c ∗ bigSep (Finset.Ico 1 32) fun i => Φ (tgt c i)) := by
  rw [set_apart Φ c, others_tgt]
theorem apart_org (Φ : Dev nD → HP F) : bigSep Finset.univ Φ = iprop(Φ c ∗ bigSep (Finset.Ico 1 32) fun i => Φ (org c i)) := by
  rw [set_apart Φ c, others_org]

theorem ownSems_eq : (Pipeline.ownSems0 osem c : HP F)
    = iprop((bigSep Finset.univ fun t => semVal (sendCell c t) 0) ∗ bigSep Finset.univ fun t => semVal (recvCell c t) 0) := by
  unfold Pipeline.ownSems0
  rw [bigSep_univ_prod, fin_two]
  rfl

variable {A c} in
/-- A family of cells opens. -/
theorem open_each (K : GSem nD τ sig → ℕ) (g : Dev nD → GSem nD τ sig) (h : ∀ t, recs A K ⊢ cellInv ER (rd A) (K (g t)) (g t)) :
    iprop(recs A K ∗ (bigSep Finset.univ fun t => openTok ER (g t)) ∗ bigSep Finset.univ fun t => semVal (g t) 0)
      ⊢ (|={Set.univ}=> bigSep Finset.univ fun t => iprop(atPos ER (g t) 0 ∅ 0 ∗ reached ER (g t) 0) : HP F) := by
  have one (t : Dev nD) : iprop(cellInv ER (rd A) (K (g t)) (g t) ∗ openTok ER (g t) ∗ semVal (g t) 0) ⊢ (|={Set.univ}=> iprop(atPos ER (g t) 0 ∅ 0 ∗ reached ER (g t) 0) : HP F) :=
    Rounds.cell_open ER (rd A) (Set.mem_univ (K (g t)))
  have each := (bigSep_with_persistent (S := Finset.univ) (R := recs A K) (Φ := fun t => iprop(openTok ER (g t) ∗ semVal (g t) 0))
    (Ψ := fun t => iprop(|={Set.univ}=> iprop(atPos ER (g t) 0 ∅ 0 ∗ reached ER (g t) 0))) (fun t _ =>
      (sep_mono_left (h t)).trans (one t))).trans (bigSep_fupd _ _)
  rw [bigSep_sep'] at each
  exact each

theorem opens : iprop(Tk A c ∗ Pipeline.ownSems0 osem c ∗ levAts L lv) ⊢ (|={Set.univ}=> Xk A c : HP F) := by
  rw [ownSems_eq]
  unfold Tk Xk linear rights
  iintro ⟨⟨⟨%K, #HI⟩, ⟨Hb, ⟨Hos, Hor⟩, Hd⟩, Hc⟩, ⟨Hs, Hr⟩, #Hlev⟩
  imod (open_each K (fun t => sendCell c t) (recs_send c)) $$ [Hos Hs] with Hs
  · isplitr; · iexact HI
    isplitl [Hos] <;> iassumption
  imod (open_each K (fun t => recvCell c t) (recs_recv c)) $$ [Hor Hr] with Hr
  · isplitr; · iexact HI
    isplitl [Hor] <;> iassumption
  imodintro
  isplitr; · iexists K; iexact HI
  isplitr [Hc]
  · isplitl [Hb]; · iexact Hb
    isplitl [Hs]; · iexact Hs
    isplitl [Hr] <;> iassumption
  isplitl [Hc]; · iexact Hc
  iexact Hlev

theorem comm_rows (f : CB F) : (pt c cc0_scratch0 f : HP F) = iprop(rowPt c c fullShare f ∗ bigSep (Finset.Ico 1 32) fun i => rowPt c (tgt c i) fullShare f) := by
  rw [← apart_tgt c fun o => rowPt c o fullShare f]
  exact Ring.pointsTo_blocks (Ix := Unit) (Name := ℕ) (U := UU) (Lvl := ℕ) (ℓ := (c : Thread nD τ).loc cc0_scratch0) (Val := Elt F) (B := Dev nD) (q := fullShare) rowSet
    rowSet_disjoint rowSet_all f

theorem rows_any (f : CB F) : (bigSep (Finset.Ico 1 32) fun i => rowPt c (tgt c i) fullShare f) ⊢ bigSep (Finset.Ico 1 32) fun i => iprop(∃ f, rowPt (F := F) c (tgt c i) fullShare f) :=
  each_mono fun i _ => by
    iintro H
    iexists f; iexact H

theorem enter (f₀ : S1024x1024.Idx → Elt F .f32) :
    iprop(Xk A c ∗ Scr (F := F) c ∗ (∃ W, owes (c : Thread nD τ) (O₀ c) W) ∗ pt c cc0_stg0_0 (A.x c) ∗ pt c cc0_stg1_0 (A.e c) ∗ pt c cc0_stg2_0 (A.d c) ∗ pt c cc0_stg3_0 f₀)
      ⊢ iprop(∃ K, bodyPre A K c f₀) := by
  unfold Xk Scr duties credits
  rw [bigSep_sep', bigSep_sep', apart_tgt c fun t => (dutyTok ER (barCell t) 0 c : HP F), apart_tgt c fun t => (dutyTok ER (sendCell c t) 0 c : HP F),
    apart_tgt c fun t => (dutyTok ER (recvCell t c) 0 c : HP F), apart_tgt c fun t => (atPos ER (sendCell c t) 0 ∅ 0 : HP F), apart_tgt c fun t => (reached ER (sendCell c t) 0 : HP F),
    apart_org c fun t => (atPos ER (recvCell c t) 0 ∅ 0 : HP F), apart_tgt c fun t => (reached ER (recvCell c t) 0 : HP F)]
  unfold bodyPre SigB GaB PrB BaB ToB WrB AsB NoB barPay
  simp only [bigSep_sep']
  iintro ⟨⟨⟨%K, #HI⟩, ⟨Hb, ⟨⟨Hs0, Hs⟩, ⟨-, Hsr⟩⟩, ⟨⟨Hr0, Hr⟩, ⟨-, Hrr⟩⟩, ⟨-, Hd0⟩, ⟨-, Hd1⟩, ⟨-, Hd2⟩⟩, ⟨Hc0, Hc1⟩, #Hlev⟩, ⟨⟨%f, Hf⟩, ⟨%g, Hg⟩, Hst⟩, HO, Hx, He, Hd, Ho⟩
  ihave Hf := (Entails.of_eq (comm_rows c f)) $$ Hf
  icases Hf with ⟨Hf0, Hf⟩
  ihave Hf := (rows_any c f) $$ Hf
  iexists K
  isplitl [HO Hd0 Hf Hrr]
  · isplitr; · iexact HI
    isplitl [HO]; · iexact HO
    isplitl [Hd0]; · iexact Hd0
    isplitl [Hf] <;> iassumption
  isplitl [Hd Hx Hg]
  · isplitl [Hd]; · iexact Hd
    isplitl [Hx]; · iexact Hx
    iexists g
    isplitr; · ipureintro; exact fun j' h => absurd h (Nat.not_lt_zero _)
    iexact Hg
  isplitl [He Hf0]
  · isplitl [He]; · iexact He
    iexists f; iexact Hf0
  isplitl [Hc0 Hb]
  · isplitl [Hc0]; · iexact Hc0
    isplitl [Hb]; · iexact Hb
    iexact Hlev
  isplitl [Hd1 Hsr Hd2]
  · isplitl [Hd1]; · iexact Hd1
    isplitl [Hsr] <;> iassumption
  isplitl [Hst]; · iexact Hst
  isplitl [Hc1 Hr]
  · isplitl [Hc1] <;> iassumption
  isplitl [Hs]; · iexact Hs
  isplitl [Ho]; · iexact Ho
  isplitl [Hs0] <;> iassumption

end Enter

/-! ## The pipeline's point -/

variable (m : (ℓ : Loc nD τ sig) → Buf (Elt F) ℓ) (out : Dev nD → S1024x1024.Idx → Elt F .f32)

/-- What the kernel finds: the staged blocks. -/
def A : Data F where
  x c := iblk m c 0 t0_0
  e c := iblk m c 1 t0_0
  d c := iblk m c 2 t0_0

/-- The pipeline's data: the inputs' blocks stay, the result's is `out c`. -/
def dat (c : Dev nD) : Dat τ (Elt F) Unit ℕ UU ℕ cfg0 c where
  A w := V m c (Pipeline.arrRef spec0 w)
  after := fun
    | 0 => fun t => iblk m c 0 t
    | 1 => fun t => iblk m c 1 t
    | 2 => fun t => iblk m c 2 t
    | 3 => fun _ => out c
    | ⟨_ + 4, h⟩ => absurd h (Nat.not_lt.2 (Nat.le_add_left _ _))
  Φ := fun
    | ⟨0, _⟩ => iprop(Xk (A m) c ∗ Scr (F := F) c ∗ ∃ r, prngReg c r)
    | ⟨_ + 1, _⟩ => iprop(Shut (F := F) c ∗ Scr (F := F) c ∗ ∃ r, prngReg c r)
  q _ := fullShare
  owed := fun
    | ⟨0, _⟩ => O₀ c
    | ⟨_ + 1, _⟩ => 0

abbrev adm : (p : Fin 1) → (pcfgs (F := F) p).Adm := fun p => (cfgs p).toPCfg_adm

def pdats : (p : Fin 1) → (c : Dev nD) → Dat τ (Elt F) Unit ℕ UU ℕ (Pipeline.pin (pcfgs (F := F)) adm p) c
  | 0 => dat m out

theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (W : Waits sig Unit) (hr : dat.recorded t = Set.univ) :
    (owes (c : Thread nD τ) O W : HP F) ⊢ (dat.owesAt () t : HP F) := by
  unfold Dat.owesAt Pipeline.owesWithin Dat.bound; rw [h0, hr]
  iintro HO; iexists W; isplitr; · ipureintro; exact fun _ _ => Or.inl trivial
  iexact HO
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : HP F) ⊢ iprop(∃ W, owes (c : Thread nD τ) O W) := by
  unfold Dat.owesAt Pipeline.owesWithin; rw [h0]
  iintro ⟨%W, -, HO⟩; iexists W; iexact HO

section Point

variable (c : Dev nD)

theorem phi_first : (dat m out c).Φ t0_0.castSucc = iprop(Xk (A m) c ∗ Scr (F := F) c ∗ ∃ r, prngReg c r) := rfl
theorem phi_last : (dat m out c).Φ t0_0.succ = iprop(Shut (F := F) c ∗ Scr (F := F) c ∗ ∃ r, prngReg c r) := rfl
theorem owed_first : (dat m out c).owed t0_0.castSucc = O₀ c := rfl
theorem owed_last : (dat m out c).owed t0_0.succ = 0 := rfl

theorem before_x (D : Dat τ (Elt F) Unit ℕ UU ℕ cfg0 c) (hA : D.A 0 = V m c (Pipeline.arrRef spec0 0))
    (hafter : ∀ t, D.after 0 t = iblk m c 0 t) (t : Fin cfg0.N) (d) : D.before 0 t d = iblk m c 0 t :=
  (D.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_e (D : Dat τ (Elt F) Unit ℕ UU ℕ cfg0 c) (hA : D.A 1 = V m c (Pipeline.arrRef spec0 1))
    (hafter : ∀ t, D.after 1 t = iblk m c 1 t) (t : Fin cfg0.N) (d) : D.before 1 t d = iblk m c 1 t :=
  (D.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_d (D : Dat τ (Elt F) Unit ℕ UU ℕ cfg0 c) (hA : D.A 2 = V m c (Pipeline.arrRef spec0 2))
    (hafter : ∀ t, D.after 2 t = iblk m c 2 t) (t : Fin cfg0.N) (d) : D.before 2 t d = iblk m c 2 t :=
  (D.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem own_x (X : S1024x512.Idx → Elt F .f32) : (owns (c : Thread nD τ) (st0_0 t0_0) fullShare X : HP F) = pt c cc0_stg0_0 X := owns_whole _ _ _ _
theorem own_e (X : S4x512x1024.Idx → Elt F .f32) : (owns (c : Thread nD τ) (st0_1 t0_0) fullShare X : HP F) = pt c cc0_stg1_0 X := owns_whole _ _ _ _
theorem own_d (X : Tab) : (owns (c : Thread nD τ) (st0_2 t0_0) fullShare X : HP F) = pt c cc0_stg2_0 X := owns_whole _ _ _ _
theorem own_o (X : S1024x1024.Idx → Elt F .f32) : (owns (c : Thread nD τ) (st0_3 t0_0) fullShare X : HP F) = pt c cc0_stg3_0 X := owns_whole _ _ _ _

/-- The body at the point, with something kept aside. -/
theorem point_runs (hD : ∀ o, TableOk ((A m).d o)) (R : HP F) :
    iprop((∃ f₀ K, bodyPre (A m) K c f₀) ∗ R) ⊢ wpc c (bodyAt0 t0_0) fun _ => iprop((∃ o, ⌜OutOk (A m) c o⌝ ∗ bodyPost (A m) c o) ∗ R) := by
  have run : iprop(∃ f₀ K, bodyPre (A m) K c f₀) ⊢ wpc c (bodyAt0 t0_0) fun _ => iprop(∃ o, ⌜OutOk (A m) c o⌝ ∗ bodyPost (A m) c o) := by
    iintro ⟨%f₀, %K, H⟩
    have b : bodyPre (A m) K c f₀ ⊢ wpc c (bodyAt0 t0_0) fun _ => iprop(∃ o, ⌜OutOk (A m) c o⌝ ∗ bodyPost (A m) c o) :=
      body_runs (A := A m) (K := K) (c := c) hD f₀ fun f o ho => by
        unfold wpc
        rw [wp_ret]
        refine at_end.trans (fupd_mono ?_)
        iintro H
        iexists o
        isplitr; · ipureintro; exact ho
        iexact H
    iapply b; iexact H
  exact (sep_mono_left run).trans (wp_frame_r _ _ _)

end Point

end Cert.KernelIdeal.Moe
-- ==== Proof.Call.lean ====
/- The kernel's call as a region of the run: its body's obligation, what it starts from and what it leaves. -/
module

public import proofs.«01_k».proof.Proof.Region

@[expose] public section

set_option maxRecDepth 16384

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Idealize.ShloMosaic.Pipeline (Dat Cfg BodyObligation BodyObligationLoose cellOf)
open Cert.KernelIdeal Cert.KernelIdeal.Gen

variable {F : FTy → Type} [FloatOps F]

local notation "𝕄" => MT nD τ sig Unit (Elt F) ℕ UU ℕ

/-! ## Entering the kernel -/

variable (m : (ℓ : Loc nD τ sig) → Buf (Elt F) ℓ) (out : Dev nD → S1024x1024.Idx → Elt F .f32) (fg : Bool)

/-- The window whose value may be forgotten: the result's. -/
def forget (w : Fin 4) : Bool := decide (w = 3) && fg

section Point

variable (c : Dev nD)

/-- What the point starts from, -/
theorem point_in : iprop((Xk (A m) c ∗ Scr (F := F) c ∗ ∃ r, prngReg c r) ∗ (dat m out c).owesAt () t0_0.castSucc
      ∗ pt c cc0_stg0_0 ((A m).x c) ∗ pt c cc0_stg1_0 ((A m).e c) ∗ pt c cc0_stg2_0 ((A m).d c) ∗ ∃ f₀ : S1024x1024.Idx → Elt F .f32, pt c cc0_stg3_0 f₀)
    ⊢ iprop((∃ f₀ K, bodyPre (A m) K c f₀) ∗ ∃ r, prngReg c r) := by
  iintro ⟨⟨HX, Hs, Hp⟩, HO, Hx, He, Hd, ⟨%f₀, Ho⟩⟩
  ihave HO := (owesAt_elim (dat m out c) t0_0.castSucc (O₀ c) (owed_first m out c)) $$ HO
  isplitr [Hp]
  · iexists f₀
    iapply (enter (A m) c f₀)
    isplitl [HX]; · iexact HX
    isplitl [Hs]; · iexact Hs
    isplitl [HO]; · iexact HO
    isplitl [Hx]; · iexact Hx
    isplitl [He]; · iexact He
    isplitl [Hd] <;> iassumption
  iexact Hp

/-- and what it leaves. -/
theorem point_out : iprop((∃ o, ⌜OutOk (A m) c o⌝ ∗ bodyPost (A m) c o) ∗ ∃ r, prngReg c r)
    ⊢ iprop((Shut (F := F) c ∗ Scr (F := F) c ∗ ∃ r, prngReg c r) ∗ (dat m out c).owesAt () t0_0.succ
      ∗ pt c cc0_stg0_0 ((A m).x c) ∗ pt c cc0_stg1_0 ((A m).e c) ∗ pt c cc0_stg2_0 ((A m).d c) ∗ ∃ o, ⌜OutOk (A m) c o⌝ ∗ pt c cc0_stg3_0 o) := by
  unfold bodyPost Shut Scr
  iintro ⟨⟨%o, %ho, Hx, He, Hd, Ho, Hs, Hz, ⟨%W, HO⟩⟩, Hp⟩
  isplitl [Hz Hs Hp]
  · isplitl [Hz]; · iexact Hz
    isplitl [Hs] <;> iassumption
  isplitl [HO]
  · iapply (owesAt_intro (dat m out c) t0_0.succ 0 (owed_last m out c) W rfl); iexact HO
  isplitl [Hx]; · iexact Hx
  isplitl [He]; · iexact He
  isplitl [Hd]; · iexact Hd
  iexists o
  isplitr; · ipureintro; exact ho
  iexact Ho

/-- The point run, its result's value forgotten or not. -/
theorem point (hD : ∀ o, TableOk ((A m).d o)) :
    iprop((Xk (A m) c ∗ Scr (F := F) c ∗ ∃ r, prngReg c r) ∗ (dat m out c).owesAt () t0_0.castSucc
      ∗ pt c cc0_stg0_0 ((A m).x c) ∗ pt c cc0_stg1_0 ((A m).e c) ∗ pt c cc0_stg2_0 ((A m).d c) ∗ ∃ f₀ : S1024x1024.Idx → Elt F .f32, pt c cc0_stg3_0 f₀)
    ⊢ wpc c (bodyAt0 t0_0) fun _ => iprop((Shut (F := F) c ∗ Scr (F := F) c ∗ ∃ r, prngReg c r) ∗ (dat m out c).owesAt () t0_0.succ
      ∗ pt c cc0_stg0_0 ((A m).x c) ∗ pt c cc0_stg1_0 ((A m).e c) ∗ pt c cc0_stg2_0 ((A m).d c) ∗ ∃ o, ⌜OutOk (A m) c o⌝ ∗ pt c cc0_stg3_0 o) :=
  (point_in m out c).trans ((point_runs m c hD _).trans (wp_mono _ _ _ fun _ => point_out m out c))

theorem dat_A (w : Fin cfg0.W) : (dat m out c).A w = V m c (Pipeline.arrRef spec0 w) := rfl
theorem after_x (t : Fin cfg0.N) : (dat m out c).after 0 t = iblk m c 0 t := rfl
theorem after_e (t : Fin cfg0.N) : (dat m out c).after 1 t = iblk m c 1 t := rfl
theorem after_d (t : Fin cfg0.N) : (dat m out c).after 2 t = iblk m c 2 t := by
  unfold dat; with_reducible rfl
theorem A_d : (A m).d c = iblk m c 2 t0_0 := by unfold A; with_reducible rfl
theorem staged_x : iprop(∃ d, owns (c : Thread nD τ) (st0_0 t0_0) fullShare ((dat m out c).before 0 t0_0 d)) ⊢ (pt c cc0_stg0_0 ((A m).x c) : HP F) := by
  iintro ⟨%d, H⟩
  ihave H := (Entails.of_eq (show (owns (c : Thread nD τ) (st0_0 t0_0) fullShare ((dat m out c).before 0 t0_0 d) : HP F) = pt c cc0_stg0_0 ((A m).x c) by
    rw [before_x m c (dat m out c) (dat_A m out c _) (after_x m out c)]; exact own_x c _)) $$ H
  iexact H
theorem staged_e : iprop(∃ d, owns (c : Thread nD τ) (st0_1 t0_0) fullShare ((dat m out c).before 1 t0_0 d)) ⊢ (pt c cc0_stg1_0 ((A m).e c) : HP F) := by
  iintro ⟨%d, H⟩
  ihave H := (Entails.of_eq (show (owns (c : Thread nD τ) (st0_1 t0_0) fullShare ((dat m out c).before 1 t0_0 d) : HP F) = pt c cc0_stg1_0 ((A m).e c) by
    rw [before_e m c (dat m out c) (dat_A m out c _) (after_e m out c)]; exact own_e c _)) $$ H
  iexact H
theorem staged_d : iprop(∃ d, owns (c : Thread nD τ) (st0_2 t0_0) fullShare ((dat m out c).before 2 t0_0 d)) ⊢ (pt c cc0_stg2_0 ((A m).d c) : HP F) := by
  iintro ⟨%d, H⟩
  ihave H := (Entails.of_eq (show (owns (c : Thread nD τ) (st0_2 t0_0) fullShare ((dat m out c).before 2 t0_0 d) : HP F) = pt c cc0_stg2_0 ((A m).d c) by
    rw [before_d m c (dat m out c) (dat_A m out c _) (after_d m out c), A_d]; exact own_d c (iblk m c 2 t0_0))) $$ H
  iexact H

end Point

/-- The body's obligation to the pipeline, where the result is the one named unless it is forgotten. -/
theorem body_ob (hD : ∀ o, TableOk ((A m).d o)) (hout : fg = false → ∀ c f, OutOk (A m) c f → f = out c) (c : Dev nD) :
    BodyObligationLoose (dat m out c) defs₀ 𝒱₀ () Set.univ (forget fg) := fun t => by
  obtain rfl := fin_N0 t
  rw [phi_first, phi_last, bigSep_W0, bigSep_W0]
  have main := point m out c hD
  cases fg
  · show iprop((Xk (A m) c ∗ Scr (F := F) c ∗ ∃ r, prngReg c r) ∗ (dat m out c).owesAt () t0_0.castSucc
      ∗ (∃ d, owns (c : Thread nD τ) (st0_0 t0_0) fullShare ((dat m out c).before 0 t0_0 d)) ∗ (∃ d, owns (c : Thread nD τ) (st0_1 t0_0) fullShare ((dat m out c).before 1 t0_0 d))
      ∗ (∃ d, owns (c : Thread nD τ) (st0_2 t0_0) fullShare ((dat m out c).before 2 t0_0 d)) ∗ (∃ d, owns (c : Thread nD τ) (st0_3 t0_0) fullShare ((dat m out c).before 3 t0_0 d)))
      ⊢ wpc c (bodyAt0 t0_0) fun _ => iprop((Shut (F := F) c ∗ Scr (F := F) c ∗ ∃ r, prngReg c r) ∗ (dat m out c).owesAt () t0_0.succ
      ∗ owns (c : Thread nD τ) (st0_0 t0_0) fullShare ((A m).x c) ∗ owns (c : Thread nD τ) (st0_1 t0_0) fullShare ((A m).e c)
      ∗ owns (c : Thread nD τ) (st0_2 t0_0) fullShare ((A m).d c) ∗ owns (c : Thread nD τ) (st0_3 t0_0) fullShare (out c))
    refine BIBase.Entails.trans ?_ (main.trans (wp_mono _ _ _ fun _ => ?_))
    · iintro ⟨HΦ, HO, Hx, He, Hd, ⟨%d, Ho⟩⟩
      isplitl [HΦ]; · iexact HΦ
      isplitl [HO]; · iexact HO
      isplitl [Hx]; · iapply (staged_x m out c); iexact Hx
      isplitl [He]; · iapply (staged_e m out c); iexact He
      isplitl [Hd]; · iapply (staged_d m out c); iexact Hd
      iexists _
      iapply (Entails.of_eq (own_o c _)); iexact Ho
    · rw [own_x, own_e, own_d, own_o]
      iintro ⟨HΦ, HO, Hx, He, Hd, ⟨%o, %ho, Ho⟩⟩
      obtain rfl := hout rfl c o ho
      isplitl [HΦ]; · iexact HΦ
      isplitl [HO]; · iexact HO
      isplitl [Hx]; · iexact Hx
      isplitl [He]; · iexact He
      isplitl [Hd] <;> iassumption
  · show iprop((Xk (A m) c ∗ Scr (F := F) c ∗ ∃ r, prngReg c r) ∗ (dat m out c).owesAt () t0_0.castSucc
      ∗ (∃ d, owns (c : Thread nD τ) (st0_0 t0_0) fullShare ((dat m out c).before 0 t0_0 d)) ∗ (∃ d, owns (c : Thread nD τ) (st0_1 t0_0) fullShare ((dat m out c).before 1 t0_0 d))
      ∗ (∃ d, owns (c : Thread nD τ) (st0_2 t0_0) fullShare ((dat m out c).before 2 t0_0 d)) ∗ (∃ X, owns (c : Thread nD τ) (st0_3 t0_0) fullShare X))
      ⊢ wpc c (bodyAt0 t0_0) fun _ => iprop((Shut (F := F) c ∗ Scr (F := F) c ∗ ∃ r, prngReg c r) ∗ (dat m out c).owesAt () t0_0.succ
      ∗ owns (c : Thread nD τ) (st0_0 t0_0) fullShare ((A m).x c) ∗ owns (c : Thread nD τ) (st0_1 t0_0) fullShare ((A m).e c)
      ∗ owns (c : Thread nD τ) (st0_2 t0_0) fullShare ((A m).d c) ∗ ∃ X, owns (c : Thread nD τ) (st0_3 t0_0) fullShare X)
    refine BIBase.Entails.trans ?_ (main.trans (wp_mono _ _ _ fun _ => ?_))
    · iintro ⟨HΦ, HO, Hx, He, Hd, ⟨%d, Ho⟩⟩
      isplitl [HΦ]; · iexact HΦ
      isplitl [HO]; · iexact HO
      isplitl [Hx]; · iapply (staged_x m out c); iexact Hx
      isplitl [He]; · iapply (staged_e m out c); iexact He
      isplitl [Hd]; · iapply (staged_d m out c); iexact Hd
      iexists _
      iapply (Entails.of_eq (own_o c _)); iexact Ho
    · rw [own_x, own_e, own_d]
      iintro ⟨HΦ, HO, Hx, He, Hd, ⟨%o, %ho, Ho⟩⟩
      isplitl [HΦ]; · iexact HΦ
      isplitl [HO]; · iexact HO
      isplitl [Hx]; · iexact Hx
      isplitl [He]; · iexact He
      isplitl [Hd]; · iexact Hd
      iexists o
      iapply (Entails.of_eq (own_o c _).symm); iexact Ho

/-! ## The region -/

/-- The run's forgotten windows. -/
def forgets : (p : Fin 1) → Fin (Pipeline.pin (pcfgs (F := F)) adm p).W → Bool
  | 0 => forget fg

/-- Every device's buffers as the kernel finds them, -/
abbrev Wv (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- and those that no window stages. -/
abbrev rest : Finset (DevRef τ sig) := Pipeline.ucRefs τ sig \ Pipeline.arrRefs (τ := τ) spec0

theorem staging_low : ∀ (w : Fin 4) (s : Fin ((spec0 w).nbuf)), (match kindOf (.dma ((spec0 w).sem s)) with | .bar => 1 | .recv _ => 2 | _ => 0 : ℕ) ≤ 0 := by decide

theorem owed_pos (c : Dev nD) (t : Fin (cfg0.N + 1)) (g : GSem nD τ sig) (i : Unit) (h : 0 < (dat m out c).owed t g i) : 0 < O₀ c g i := by
  rcases t with ⟨_ | n, ht⟩
  · exact h
  · exact absurd h (Nat.lt_irrefl 0)

theorem owed_at (c : Dev nD) (g : GSem nD τ sig) (i : Unit) (h : 0 < O₀ c g i) : i ∈ L g ∧ (0 : ℕ) < lv g i := by
  cases i
  rcases O₀_pos h with ⟨t, rfl⟩ | ⟨t, rfl⟩
  · exact ⟨by rw [L_tc]; exact Finset.mem_singleton_self _, by rw [lv_recv]; decide⟩
  · exact ⟨by rw [L_tc]; exact Finset.mem_singleton_self _, by rw [lv_bar]; decide⟩

theorem entered (c : Dev nD) : iprop(Pipeline.scopedRest spec0 c ∗ (∃ r, prngReg c r) ∗ StableHlo.held (c.tc : Thread nD τ) ∅ (Wv m c) ∗ Xk (A m) c)
    ⊢ iprop(Xk (A m) c ∗ Scr (F := F) c ∗ ∃ r, prngReg c r) := by
  rw [scopedRest0_eq]
  unfold Scr StB
  iintro ⟨Hs, Hp, -, HX⟩
  isplitl [HX]; · iexact HX
  isplitl [Hs] <;> iassumption

include m in
theorem left (c : Dev nD) : iprop(Shut (F := F) c ∗ Scr (F := F) c ∗ ∃ r, prngReg c r)
    ⊢ iprop(Pipeline.scopedRest spec0 c ∗ (∃ r, prngReg c r) ∗ (∃ W' : Valuation τ sig (Elt F), ⌜True⌝ ∗ StableHlo.held (c.tc : Thread nD τ) ∅ W')
      ∗ Pipeline.ownSems0 osem c ∗ semVal (barCell c) 0) := by
  rw [scopedRest0_eq, ownSems_eq]
  unfold Shut Scr StB
  iintro ⟨⟨Hb, Hz⟩, Hs, Hp⟩
  isplitl [Hs]; · iexact Hs
  isplitl [Hp]; · iexact Hp
  isplitr
  · iexists Wv m c
    isplitr; · ipureintro; trivial
    unfold StableHlo.held
    rw [BI.bigSep_empty]
    iempintro
  isplitl [Hz] <;> iassumption

variable {m out fg}

set_option backward.isDefEq.respectTransparency.types false in
/-- The kernel's call as the run's region. -/
def region [∀ e, Nonempty (Elt F e)] (hD : ∀ o, TableOk ((A m).d o)) (hout : fg = false → ∀ c f, OutOk (A m) c f → f = out c) :
    Pipeline.RDat.RegionSeg (pcfgs (F := F)) adm (Pipeline.toRsF (pcfgs (F := F)) adm (pdats m out) (forgets (F := F) fg)) () defs₀ 𝒱₀ L lv 0 :=
  Pipeline.RDat.RegionSeg.ofTalkF (pcfgs (F := F)) adm (pdats m out) () defs₀ 𝒱₀ L lv 0 (forgets (F := F) fg) osem osem_facts
    ∅ rest (Finset.empty_subset _) launch0.toP rfl (fun c => body_ob m out fg hD hout c)
    (fun _ => 0) O₀ (fun c => (zero_add (O₀ c)).symm) (fun _ => rfl) (fun _ => rfl) (fun _ w => ite_self _)
    (Wv m) (fun _ _ => True)
    (Tk (A m)) (fun c => semVal (barCell c) 0) (Xk (A m)) (fun c => semVal (barCell c) 0) (opens (A m)) (entered m)
    (left m)
    (fun c => by iintro H; imodintro; iexact H)
    (fun _ => 0)
    ⟨fun c w s => by rw [L_tc]; exact Finset.mem_singleton_self _, fun _ w s => staging_low w s, fun c t g i h => owed_at c g i (owed_pos m out c t g i h)⟩
    (fun _ => iprop(emp))
    (fun _ w => rfl)

end Cert.KernelIdeal.Moe
-- ==== Proof.Run.lean ====
/- The run of the whole program, from any memory: the launch, the host operations, the kernel's call. -/
module

public import proofs.«01_k».proof.Proof.Call
public import Idealize.ShloMosaic.Lib.Pipeline.ValueKit

@[expose] public section

set_option maxRecDepth 16384

noncomputable section

namespace Cert.KernelIdeal.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx
open Idealize.ShloMosaic.Pipeline (Dat Cfg BodyObligation BodyObligationLoose cellOf)
open Cert.KernelIdeal Cert.KernelIdeal.Gen

variable {F : FTy → Type} [FloatOps F]

local notation "𝕄" => MT nD τ sig Unit (Elt F) ℕ UU ℕ

/-! ## Entering the kernel -/

variable (m : (ℓ : Loc nD τ sig) → Buf (Elt F) ℓ) (out : Dev nD → S1024x1024.Idx → Elt F .f32) (fg : Bool)

variable (m : (ℓ : Loc nD τ sig) → Buf (Elt F) ℓ) (ρ : Dev nD → PrngReg) (out : Dev nD → S1024x1024.Idx → Elt F .f32) (fg : Bool)

/-- The operations before the kernel's call. -/
abbrev ops : List (HloOp τ sig (Elt F)) :=
  List.flatten [hostOps0, hostOps0_1, hostOps0_2, hostOps0_3, hostOps0_4, hostOps0_5, hostOps0_6, hostOps0_7, hostOps0_8]

theorem ops_each {P : HloOp τ sig (Elt F) → Prop}
    (h : List.Forall (fun l => List.Forall P l) [hostOps0, hostOps0_1, hostOps0_2, hostOps0_3, hostOps0_4, hostOps0_5, hostOps0_6, hostOps0_7, hostOps0_8]) :
    ∀ op ∈ (ops : List (HloOp τ sig (Elt F))), P op := fun op hop => by
  obtain ⟨l, hl, hop⟩ := List.mem_flatten.mp hop
  exact List.forall_iff_forall_mem.mp (List.forall_iff_forall_mem.mp h l hl) op hop

theorem ops_sub : ∀ op ∈ (ops : List (HloOp τ sig (Elt F))), op.bufs ⊆ Pipeline.ucRefs τ sig := fun op hop =>
  Pipeline.sub_ucRefs op (ops_each (P := fun op => op.bufs ⊆ StableHlo.tcRefs τ sig)
    ⟨hostOps0_sub, hostOps0_1_sub, hostOps0_2_sub, hostOps0_3_sub, hostOps0_4_sub, hostOps0_5_sub, hostOps0_6_sub, hostOps0_7_sub, hostOps0_8_sub⟩ op hop)

theorem ops_fresh : ∀ op ∈ (ops : List (HloOp τ sig (Elt F))), op.fresh = ∅ :=
  ops_each (P := fun op => op.fresh = ∅)
    ⟨hostOps0_fresh, hostOps0_1_fresh, hostOps0_2_fresh, hostOps0_3_fresh, hostOps0_4_fresh, hostOps0_5_fresh, hostOps0_6_fresh, hostOps0_7_fresh, hostOps0_8_fresh⟩

/-- The launched buffers. -/
abbrev V₀ (c : Dev nD) : Valuation τ sig (Elt F) := fun b => m (c, b)
/-- What rides beside the buffers up to the call. -/
def R (c : Dev nD) : HP F := iprop(Tk (A m) c ∗ (∃ W, owes (c : Thread nD τ) (O₀ c) W) ∗ ∃ r, prngReg c r)

/-- The operations before the call, as the run's first segment. -/
def host : Pipeline.HostSeg (Name := ℕ) (U := UU) (pcfgs (F := F)) defs₀ 𝒱₀ L lv :=
  Pipeline.HostSeg.ofOps _ _ _ _ _ (Pipeline.ucRefs τ sig) ops ops_sub ops_fresh (V₀ m) (R m)

/-- A device's part at the start, -/
abbrev T₀ (c : Dev nD) : HP F := iprop(StableHlo.held (c : Thread nD τ) (Pipeline.ucRefs τ sig) (V₀ m c) ∗ R m c)
/-- and at the end. -/
def Tₙ (c : Dev nD) : HP F :=
  iprop((∃ G : (w : Fin cfg0.W) → Buf (Elt F) ((cfg0.win w).arr.view.loc (c.tc : Thread nD τ)),
      ⌜∀ w, forget fg w = false → G w = (dat m out c).arrAt w cfg0.N⌝ ∗ (dat m out c).arrays G)
    ∗ StableHlo.held (c.tc : Thread nD τ) rest (Wv m c) ∗ semVal (barCell c) 0)

/-- A device's part of the launch beside the exchange's. -/
def bundle (c : Dev nD) : HP F :=
  iprop(StableHlo.held (c : Thread nD τ) (Pipeline.ucRefs τ sig) (V₀ m c) ∗ credits (F := F) c ∗ owes (c : Thread nD τ) (O₀ c) ∅ ∗ ∃ r, prngReg c r)

theorem T₀_intro (κ : GSem nD τ sig → ℕ) (c : Dev nD) : iprop(records (A m) κ ∗ (linear (F := F) c ∗ bundle m c)) ⊢ T₀ m c := by
  unfold bundle T₀ R Tk
  iintro ⟨#HR, Hl, Hh, Hc, HO, Hp⟩
  isplitl [Hh]; · iexact Hh
  isplitl [Hl Hc]
  · isplitr
    · iexists κ
      iapply (recs_of κ); iexact HR
    isplitl [Hl] <;> iassumption
  isplitl [HO]
  · iexists ∅; iexact HO
  iexact Hp

theorem unscopedSems_eq (c : Dev nD) : (unscopedSems0 c : HP F) = semVal (barCell c) 0 := by
  unfold unscopedSems0
  rw [show (Finset.univ.filter fun sm : SemLoc sig => ¬ sm.isScoped .tc) = {SemLoc.reg barS} from by decide, BI.bigSep_singleton]

theorem unpair {Φ Ψ : Dev nD → HP F} : bigSep Finset.univ (fun c => iprop(Φ c ∗ Ψ c)) ⊢ iprop(bigSep Finset.univ Φ ∗ bigSep Finset.univ Ψ) :=
  Entails.of_eq (bigSep_sep' _ _ _)
theorem pair {Φ Ψ : Dev nD → HP F} : iprop(bigSep Finset.univ Φ ∗ bigSep Finset.univ Ψ) ⊢ bigSep Finset.univ (fun c => iprop(Φ c ∗ Ψ c)) :=
  Entails.of_eq (bigSep_sep' _ _ _).symm

/-- The launch gives every device its part. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : HP F) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G (F := F) c)
      ⊢ (iprop(bundle m c ∗ (semVal (barCell c) 0 ∗ G (F := F) c)) : HP F) := by
    rw [show (unscopedBufs c (fun b => m ((c : Thread nD τ).loc b)) : HP F) = StableHlo.held (c : Thread nD τ) (Pipeline.ucRefs τ sig) (V₀ m c) from Pipeline.unscopedBufs_held c (V₀ m c),
      unscopedSems_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : HP F)) ⊢ bigSep barCells (fun g => (semVal g 0 : HP F)) :=
    Entails.of_eq (bigSep_map (s := Finset.univ) barEmb (Φ := fun g : GSem nD τ sig => (semVal g 0 : HP F))).symm
  have hat : bigSep barCells (fun g => (atPos ER g 0 ∅ 0 : HP F)) ⊢ bigSep Finset.univ (fun c : Dev nD => (atPos ER (barCell c) 0 ∅ 0 : HP F)) :=
    Entails.of_eq (bigSep_map (s := Finset.univ) barEmb (Φ := fun g : GSem nD τ sig => (atPos ER g 0 ∅ 0 : HP F)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(bundle m c ∗ (semVal (barCell c) 0 ∗ G (F := F) c)) : HP F) from bigSep_mono fun c _ => hcore c) $$ H
  ihave H2 := unpair $$ H'; icases H2 with ⟨HB, H3⟩
  ihave H4 := unpair $$ H3; icases H4 with ⟨Hv, HG⟩
  ihave Hu := (show bigSep Finset.univ (G (F := F)) ⊢ BI.own (ER (launchOf barCells scCells talkToks)) from
    Entails.of_eq (bigSep_onDev (F := F) 0 (BI.own (ER (launchOf barCells scCells talkToks))))) $$ HG
  imod (Rounds.fund_launch ER (rd (A m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records (A m) κ) (Φ := fun c => iprop(linear (F := F) c ∗ bundle m c)) fun c _ => T₀_intro m κ c)
  isplitr
  · unfold records
    isplitr; · iexact Hinv
    iexact Hr
  iapply pair
  isplitr [HB]
  · unfold linear
    iapply pair; isplitl [Hat]; · iapply hat $$ Hat
    iapply pair; isplitl [Hopen]; · iapply (Entails.of_eq (rights_dealt (F := F))) $$ Hopen
    iapply (Entails.of_eq (toks_dealt (F := F))) $$ Htok
  · iexact HB

variable {m out fg}

set_option backward.isDefEq.respectTransparency.types false in
/-- @main as its two segments. -/
def segs [∀ e, Nonempty (Elt F e)] (hD : ∀ o, TableOk ((A m).d o)) (hout : fg = false → ∀ c f, OutOk (A m) c f → f = out c) :
    List (Pipeline.RDat.Seg (pcfgs (F := F)) adm (Pipeline.toRsF (pcfgs (F := F)) adm (pdats m out) (forgets (F := F) fg)) () defs₀ 𝒱₀ L lv) :=
  [.host (host m), .region (region hD hout)]

theorem main_eq [∀ e, Nonempty (Elt F e)] (hD : ∀ o, TableOk ((A m).d o)) (hout : fg = false → ∀ c f, OutOk (A m) c f → f = out c) (c : Dev nD) :
    main (F := F) c = Pipeline.RDat.Seg.run (segs hD hout) := by
  rw [main_chain, Pipeline.RDat.Seg.run_eq_chain]
  exact StableHlo.chain_map_seq_append [hostOps0, hostOps0_1, hostOps0_2, hostOps0_3, hostOps0_4, hostOps0_5, hostOps0_6, hostOps0_7, hostOps0_8]
    [Prog.lift (.customCall (Pipeline.entry 0) ())]

theorem enters (c : Dev nD) : iprop(StableHlo.held (c : Thread nD τ) (Pipeline.ucRefs τ sig) (Wv m c) ∗ R m c)
    ⊢ iprop(StableHlo.held (c.tc : Thread nD τ) (Pipeline.arrRefs (τ := τ) spec0) (Wv m c) ∗ (∃ r, prngReg c r)
      ∗ (StableHlo.held (c.tc : Thread nD τ) rest (Wv m c) ∗ emp) ∗ Tk (A m) c ∗ ∃ Wd, owes (c : Thread nD τ) (0 + O₀ c) Wd) := by
  rw [zero_add, StableHlo.held_sub_split (c : Thread nD τ) (Pipeline.arrRefs_sub_ucRefs spec0 winFacts0.arr_unscoped) (Wv m c)]
  unfold R
  iintro ⟨⟨Ha, Hr⟩, HT, HO, Hp⟩
  isplitl [Ha]; · iexact Ha
  isplitl [Hp]; · iexact Hp
  isplitl [Hr]
  · isplitl [Hr]; · iexact Hr
    iempintro
  isplitl [HT] <;> iassumption

theorem leaves (c : Dev nD) :
    iprop((∃ G : (w : Fin cfg0.W) → Buf (Elt F) ((cfg0.win w).arr.view.loc (c.tc : Thread nD τ)),
        ⌜∀ w, forget fg w = false → G w = (dat m out c).arrAt w cfg0.N⌝ ∗ (dat m out c).arrays G) ∗ (∃ r, prngReg c r)
      ∗ ((∃ W' : Valuation τ sig (Elt F), ⌜True⌝ ∗ StableHlo.held (c.tc : Thread nD τ) ∅ W') ∗ StableHlo.held (c.tc : Thread nD τ) (rest \ ∅) (Wv m c) ∗ emp)
      ∗ semVal (barCell c) 0 ∗ ∃ Wd, owes (c : Thread nD τ) 0 Wd)
    ⊢ iprop(Tₙ m out fg c ∗ ∃ W, owes (c : Thread nD τ) (0 : CellTallies nD τ sig Unit) W) := by
  rw [Finset.sdiff_empty]
  unfold Tₙ
  iintro ⟨Ha, -, ⟨-, Hr, -⟩, Hb, HO⟩
  isplitr [HO]
  · isplitl [Ha]; · iexact Ha
    isplitl [Hr] <;> iassumption
  iexact HO

variable (m out fg)

/-- What a final state is read for. -/
def Reads (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ (fg = false → s.mem ((c.tc : Thread nD τ).loc main_v37) = out c))
  ∧ s.sem (barCell c) = 0

theorem arr_in0 (c : Dev nD) : (dat m out c).arrAt 0 cfg0.N = m ((c.tc : Thread nD τ).loc main_arg0) :=
  ((dat m out c).arrAt_in 0 rfl _).trans ((dat_A m out c 0).trans (V_main_arg0 m c))
theorem arr_in1 (c : Dev nD) : (dat m out c).arrAt 1 cfg0.N = m ((c.tc : Thread nD τ).loc main_arg3) :=
  ((dat m out c).arrAt_in 1 rfl _).trans ((dat_A m out c 1).trans (V_main_arg3 m c))
theorem arr_out (c : Dev nD) : (dat m out c).arrAt 3 cfg0.N = out c :=
  (dat m out c).arrAt_eq_of_after_last 3 t0_0 (by decide +kernel) (out c) fun j => rfl

theorem arrays_split (c : Dev nD) (G : (w : Fin cfg0.W) → Buf (Elt F) ((cfg0.win w).arr.view.loc (c.tc : Thread nD τ))) :
    ((dat m out c).arrays G : HP F) = iprop((((c.tc : Thread nD τ).loc main_arg0) ↦{fullShare} G 0) ∗ (((c.tc : Thread nD τ).loc main_arg3) ↦{fullShare} G 1)
      ∗ (((c.tc : Thread nD τ).loc main_v36) ↦{fullShare} G 2) ∗ (((c.tc : Thread nD τ).loc main_v37) ↦{fullShare} G 3)) := by
  rw [show ((dat m out c).arrays G : HP F) = bigSep Finset.univ fun w => (((c.tc : Thread nD τ).loc (Pipeline.arrRef spec0 w)) ↦{fullShare} G w : HP F) from
    Pipeline.arrays_eq (fun _ : Fin 1 => cfg0) (fun (p : Fin 1) c => (dat m out c)) 0 c arr_whole0 (fun w => ite_self _) G, bigSep_W0]

theorem rest_args (c : Dev nD) : (StableHlo.held (c.tc : Thread nD τ) rest (Wv m c) : HP F)
    ⊢ iprop((((c.tc : Thread nD τ).loc main_arg1) ↦{fullShare} m ((c.tc : Thread nD τ).loc main_arg1)) ∗ (((c.tc : Thread nD τ).loc main_arg2) ↦{fullShare} m ((c.tc : Thread nD τ).loc main_arg2))) := by
  have h : (({Proc.devRef .tc main_arg1, Proc.devRef .tc main_arg2} : Finset (DevRef τ sig))) ⊆ rest := by decide
  have e : (StableHlo.held (c.tc : Thread nD τ) rest (Wv m c) : HP F) ⊢ StableHlo.held (c.tc : Thread nD τ) {Proc.devRef .tc main_arg1, Proc.devRef .tc main_arg2} (Wv m c) :=
    BI.bigSep_subset h
  refine e.trans (Entails.of_eq ?_)
  unfold StableHlo.held
  rw [bigSep_insert (by decide), bigSep_singleton, show Wv m c (Proc.devRef .tc main_arg1) = m ((c.tc : Thread nD τ).loc main_arg1) from V_main_arg1 m c,
    show Wv m c (Proc.devRef .tc main_arg2) = m ((c.tc : Thread nD τ).loc main_arg2) from V_main_arg2 m c]
  rfl

theorem reads (c : Dev nD) (s' : Phys nD τ sig (Elt F)) : iprop(Tₙ m out fg c ∗ SI s') ⊢ (|={Set.univ}=> iprop(⌜Reads m out fg c s'.mem⌝ ∗ SI s') : HP F) := by
  unfold Tₙ
  iintro ⟨⟨⟨%G, %hG, Ha⟩, Hr, Hb⟩, HSI⟩
  ihave Ha := (Entails.of_eq (arrays_split m out c G)) $$ Ha
  icases Ha with ⟨H0, H3, -, Ho⟩
  ihave Hr := (rest_args m c) $$ Hr
  icases Hr with ⟨H1, H2⟩
  icombine HSI H0 gives %h0
  icombine HSI H1 gives %h1
  icombine HSI H2 gives %h2
  icombine HSI H3 gives %h3
  icombine HSI Ho gives %ho
  icombine HSI Hb gives %hb
  imodintro
  isplitr
  · ipureintro
    exact ⟨⟨(Buf.eq_of_forall_mem_univ h0).trans ((hG 0 rfl).trans (arr_in0 m out c)), Buf.eq_of_forall_mem_univ h1, Buf.eq_of_forall_mem_univ h2,
      (Buf.eq_of_forall_mem_univ h3).trans ((hG 1 rfl).trans (arr_in1 m out c)),
      fun e => (Buf.eq_of_forall_mem_univ ho).trans ((hG 3 (by rw [e]; rfl)).trans (arr_out m out c))⟩, by simpa using hb⟩
  iexact HSI

theorem unscoped_eq : ∀ sm : SemLoc sig, sm.isScoped .tc = false → sm = .reg barS := by decide

variable {m out fg}

set_option backward.isDefEq.respectTransparency.types false in
/-- THE RUN: from any memory whose tables the kernel can follow, every fair execution of @main on the 32 devices ends, with the
    arguments unchanged, the result as named unless it is forgotten, and every counter at zero. -/
theorem run_main [∀ e, Nonempty (Elt F e)] (hD : ∀ o, TableOk ((A m).d o)) (hout : fg = false → ∀ c f, OutOk (A m) c f → f = out c) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ (fg = false → r.2.mem ((c.tc : Thread nD τ).loc main_v37) = out c)) ∧ r.2.sem = fun _ => 0) :=
  Pipeline.RDat.θ_run_regions_kit_sems (pcfgs (F := F)) adm (Pipeline.toRsF (pcfgs (F := F)) adm (pdats m out) (forgets (F := F) fg)) () cellOf_inj EP defs₀ 𝒱₀ L lv m ρ main (segs hD hout)
    (fun c Q => by rw [main_eq hD hout c])
    (by simp only [segs, Pipeline.RDat.Seg.pipes_host, Pipeline.RDat.Seg.pipes_region, Pipeline.RDat.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m out fg)
    (hch := ⟨fun c => .rfl, fun c => enters c, fun c => leaves c⟩)
    (hinit := init m ρ)
    (QY := Reads m out fg)
    (hfin := reads m out fg)
    (hQ := fun s h hs => ⟨fun c => (h c).1, sem_eq_zero hs fun c sm hsm => by
        obtain rfl := unscoped_eq sm hsm
        exact (h c).2⟩)

end Cert.KernelIdeal.Moe
-- ==== Proof.Ranks.lean ====
/- Tokens of one expert in their order: a token's rank among the tokens of its expert, as the host's operations count it. -/
module

public import Idealize.ShloMosaic.Lib.Routing.OpsOne
public import Idealize.ShloMosaic.Lib.WordSum
public import Idealize.ShloMosaic.Lib.WordCmp
public import Idealize.ShloMosaic.Lib.ReduceAll

@[expose] public section

noncomputable section

namespace Cert.Ranks

open Idealize.ShloMosaic Idealize.ShloMosaic.ValueIdx Idealize.ShloMosaic.Routing

/-! ## Words and sums -/

/-- A comparison's bit widened to a word. -/
theorem bit_word (p : Prop) [Decidable p] : (BitVec.ofBool (decide p)).setWidth 32 = if p then 1#32 else 0#32 := by
  by_cases h : p <;> simp [h]

/-- As many ones as there are indices with a property. -/
theorem sum_ones {n : ℕ} (p : Fin n → Prop) [DecidablePred p] :
    (∑ i : Fin n, if p i then 1#32 else 0#32) = BitVec.ofNat 32 (Finset.univ.filter p).card := by
  have h := Finset.sum_boole (R := BitVec 32) p Finset.univ
  exact h

/-- The sum from zero along the rows of a matrix of words. -/
theorem reduce_rows {n k : ℕ} (x : IVec (shape2 n k) 32) (h : (shape2 n k).ReducesTo [1] (shape1 n)) (hu : 0 < shape0.numel) (i : Fin n) :
    Host.reduce IntOp.addi x (constantI shape0 32 0#32) h hu (ix1 i) = ∑ q : Fin k, x (ix2 i q) := by
  rw [Host.reduce_eq_fold]
  have hdrop : ∀ a : (shape2 n k).Idx, h.drop a = ix1 i ↔ a 0 = i := by
    intro a
    have hv : (h.drop a 0 : ℕ) = a 0 := Shape.ReducesTo.drop_apply_val h a 0
    constructor
    · intro e; rw [e] at hv; exact Fin.ext hv.symm
    · intro e; funext b; have hb : b = 0 := Subsingleton.elim _ _; subst hb; exact Fin.ext (by rw [hv, e]; rfl)
  have hfold : ∀ S : Finset (shape2 n k).Idx, S.fold IntOp.addi 0#32 x = ∑ a ∈ S, x a := fun S => (Finset.sum_eq_fold (M := BitVec 32) S x).symm
  refine (hfold _).trans ?_
  refine Finset.sum_bij' (fun a _ => a 1) (fun q _ => ix2 i q) (fun _ _ => Finset.mem_univ _)
    (fun q _ => Finset.mem_filter.2 ⟨Finset.mem_univ _, (hdrop _).2 rfl⟩) ?_ (fun _ _ => rfl) ?_
  · intro a ha
    have h0 := (hdrop a).1 (Finset.mem_filter.1 ha).2
    funext b
    match b with
    | ⟨0, _⟩ => exact h0.symm
    | ⟨1, _⟩ => rfl
  · intro a ha
    have h0 := (hdrop a).1 (Finset.mem_filter.1 ha).2
    refine congrArg x (funext fun b => ?_)
    match b with
    | ⟨0, _⟩ => exact h0
    | ⟨1, _⟩ => rfl

/-! ## The rank -/

/-- How many tokens before this one have its expert. -/
def rk (e : Fin 1024 → BitVec 32) (t : Fin 1024) : ℕ := (Finset.univ.filter fun i : Fin 1024 => i < t ∧ e i = e t).card

theorem rk_le (e : Fin 1024 → BitVec 32) (t : Fin 1024) : rk e t ≤ 1024 :=
  (Finset.card_le_univ _).trans (by simp)

/-- Of two tokens of one expert the later has the larger rank. -/
theorem rk_lt (e : Fin 1024 → BitVec 32) {t t' : Fin 1024} (he : e t = e t') (h : t < t') : rk e t < rk e t' := by
  refine Finset.card_lt_card ((Finset.ssubset_iff_of_subset fun i hi => ?_).2 ⟨t, ?_, ?_⟩)
  · have := (Finset.mem_filter.1 hi).2
    exact Finset.mem_filter.2 ⟨Finset.mem_univ _, this.1.trans h, this.2.trans he⟩
  · exact Finset.mem_filter.2 ⟨Finset.mem_univ _, h, he⟩
  · intro hi; exact lt_irrefl _ (Finset.mem_filter.1 hi).2.1

/-- No two tokens of one expert have one rank. -/
theorem rk_inj (e : Fin 1024 → BitVec 32) {t t' : Fin 1024} (he : e t = e t') (h : rk e t = rk e t') : t = t' := by
  rcases lt_trichotomy t t' with hl | hl | hl
  · exact absurd h (rk_lt e he hl).ne
  · exact hl
  · exact absurd h (rk_lt e he.symm hl).ne'

/-- The count of the earlier tokens of one expert, as a sum of words, is the rank. -/
theorem sum_rk (e : Fin 1024 → BitVec 32) (t : Fin 1024) :
    (∑ i : Fin 1024, if i < t then (if e i = e t then 1#32 else 0#32) else 0#32) = BitVec.ofNat 32 (rk e t) := by
  refine Eq.trans (Finset.sum_congr rfl fun i _ => ?_) (sum_ones fun i : Fin 1024 => i < t ∧ e i = e t)
  by_cases h : i < t
  · simp [h]
  · simp [h]

end Cert.Ranks
-- ==== Proof.Table.lean ====
/- The table the host builds: which token's row sits in which slot of which device. -/
module

public import proofs.«01_k».proof.Proof.Run
public import proofs.«01_k».proof.Proof.Ranks
public import Idealize.ShloMosaic.Lib.StableHlo.RunRead
public import proofs.«01_k».proof.Defs
public import proofs.«01_k».proof.Proof.Gen.Pre_in_range_Kernel

@[expose] public section

set_option maxRecDepth 16384

noncomputable section

namespace Cert.KernelIdeal.Moe

open Idealize.ShloMosaic hiding ix1 ix2 ix3
open Idealize.ShloMosaic.TcCoe
open Idealize.ShloMosaic.ValueIdx
open Idealize.ShloMosaic.Routing
open Cert.KernelIdeal Cert.KernelIdeal.Gen
open Idealize.ShloMosaic.WordCmp
open Cert.Ranks
open Facts₀ Facts

variable {F : FTy → Type} [FloatOps F]

/-! ## The host's operations as functions -/

/-- The tokens' experts as a vector. -/
def ids (a : IVec S1024x1 32) : IVec S1024 32 := shapeCast S1024 a shapeCasts_S1024x1_S1024

/-- Which token has which expert. -/
def hot (e : IVec S1024 32) : IVec S1024x128 32 :=
  extui 32 (cmpi .eq (broadcastInDim S1024x128 ![0, 1] bcast_S1024x1_S1024x128_0_1 (broadcastInDim S1024x1 ![0] bcast_S1024_S1024x1_0 e))
    (broadcastInDim S1024x128 ![0, 1] bcast_S1x128_S1024x128_0_1 (broadcastInDim S1x128 ![1] bcast_S128_S1x128_1 (iotaInDim S128 32 0)))) natLt_1_32

/-- The tokens' ranks. -/
def ranks (e : IVec S1024 32) : IVec S1024 32 :=
  subi (Host.reduce IntOp.addi (muli (Host.reduceWindow IntOp.addi ![1024, 1] ![1, 1] ![1023, 0] ![0, 0] (hot e)
      (broadcastInDim S_ ![] bcast_S_S_ (constantI S_ 32 0#32)) reduceWindows_S1024x128_S1024x128_w1024s1p1023_0_w1s1p0_0 h_S_) (hot e))
      (constantI S_ 32 0#32) reducesTo_S1024x128_S1024_d1 h_S_) (broadcastInDim S1024 ![] bcast_S_S1024 (constantI S_ 32 1#32))

/-- The tokens' slots, minus one for a token past its expert's capacity. -/
def slots (e : IVec S1024 32) : IVec S1024 32 :=
  select (cmpi .slt (ranks e) (broadcastInDim S1024 ![] bcast_S_S1024 (constantI S_ 32 6#32)))
    (addi (muli e (broadcastInDim S1024 ![] bcast_S_S1024 (constantI S_ 32 6#32))) (ranks e))
    (broadcastInDim S1024 ![] bcast_S_S1024 (constantI S_ 32 4294967295#32))

/-- One more than the token in each slot, zero for an empty slot. -/
def found (e : IVec S1024 32) : IVec S768 32 :=
  Host.reduce IntOp.addi (select (cmpi .eq
      (broadcastInDim S768x1024 ![0, 1] bcast_S1x1024_S768x1024_0_1 (broadcastInDim S1x1024 ![1] bcast_S1024_S1x1024_1 (slots e)))
      (broadcastInDim S768x1024 ![0, 1] bcast_S768x1_S768x1024_0_1 (broadcastInDim S768x1 ![0] bcast_S768_S768x1_0 (iotaInDim S768 32 0))))
    (broadcastInDim S768x1024 ![1] bcast_S1024_S768x1024_1
      (addi (broadcastInDim S1024 ![] bcast_S_S1024 (constantI S_ 32 1#32)) (iotaInDim S1024 32 0)))
    (broadcastInDim S768x1024 ![] bcast_S_S768x1024 (constantI S_ 32 0#32))) (constantI S_ 32 0#32) reducesTo_S768x1024_S768_d1 h_S_

/-- The token in each slot, 1024 for an empty slot. -/
def dests (e : IVec S1024 32) : IVec S768 32 :=
  select (cmpi .slt (subi (found e) (broadcastInDim S768 ![] bcast_S_S768 (constantI S_ 32 1#32)))
      (broadcastInDim S768 ![] bcast_S_S768 (constantI S_ 32 0#32)))
    (broadcastInDim S768 ![] bcast_S_S768 (constantI S_ 32 1024#32))
    (subi (found e) (broadcastInDim S768 ![] bcast_S_S768 (constantI S_ 32 1#32)))

/-- The table: the slots in one row per device. -/
def table (a : IVec S1024x1 32) : Tab := shapeCast S32x24 (dests (ids a)) shapeCasts_S768_S32x24

set_option maxHeartbeats 4000000 in
/-- What the host's operations leave in the table's buffer. -/
theorem table_eq (m : (ℓ : Loc nD τ sig) → Buf (Elt F) ℓ) (c : Dev nD) :
    V m c main_v36 = table (m ((c.tc : Thread nD τ).loc main_arg2)) := by
  unfold V
  simp only [List.flatten_cons, List.flatten_nil, List.append_nil]
  dsimp only [hostOps0, hostOps0_1, hostOps0_2, hostOps0_3, hostOps0_4, hostOps0_5, hostOps0_6, hostOps0_7, hostOps0_8, List.cons_append, List.nil_append]
  after_reads_simp
  simp -implicitDefEqProofs only [StableHlo.TRef.toBuf, StableHlo.TRef.ofBuf, cast_cast, cast_eq]
  rfl

/-! ## What they compute -/

/-- The tokens' experts by number. -/
def ex (a : IVec S1024x1 32) (t : Fin 1024) : BitVec 32 := a (ix2 t (0 : Fin 1))

theorem ids_at (a : IVec S1024x1 32) (t : Fin 1024) : ids a (ix1 t) = ex a t :=
  cast21 a shapeCasts_S1024x1_S1024 t (0 : Fin 1) t (by show t.val = t.val * 1 + 0; omega)

theorem hot_at (e : IVec S1024 32) (t : Fin 1024) (k : Fin 128) :
    hot e (ix2 t k) = if e (ix1 t) = BitVec.ofNat 32 k.val then 1#32 else 0#32 := by
  rw [← bit_word, ← cmpi_eq_eq]
  refine congrArg (BitVec.setWidth 32) (congrArg₂ (IntOp.cmpi .eq) ?_ ?_)
  · exact bcRows bcast_S1024_S1024x1_0 bcast_S1024x1_S1024x128_0_1 e t k
  · exact bcCols bcast_S128_S1x128_1 bcast_S1x128_S1024x128_0_1 (iotaInDim S128 32 0) t k

/-- The host's rank is the rank. -/
theorem ranks_at (e : IVec S1024 32) (he : ∀ t : Fin 1024, (e (ix1 t)).toNat < 128) (t : Fin 1024) :
    ranks e (ix1 t) = BitVec.ofNat 32 (rk (fun i => e (ix1 i)) t) := by
  have hcum : ∀ k : Fin 128, Host.reduceWindow IntOp.addi ![1024, 1] ![1, 1] ![1023, 0] ![0, 0] (hot e)
      (broadcastInDim S_ ![] bcast_S_S_ (constantI S_ 32 0#32)) reduceWindows_S1024x128_S1024x128_w1024s1p1023_0_w1s1p0_0 h_S_ (ix2 t k)
      = ∑ i : Fin 1024, if i ≤ t then hot e (ix2 i k) else 0 := fun k =>
    cumsum_rows_sum (A := 1024) (Am1 := 1023) (N := 128) rfl (hot e) _ (bc0 bcast_S_S_ _ _) _ _ t k
  have hsum : Host.reduce IntOp.addi (muli (Host.reduceWindow IntOp.addi ![1024, 1] ![1, 1] ![1023, 0] ![0, 0] (hot e)
      (broadcastInDim S_ ![] bcast_S_S_ (constantI S_ 32 0#32)) reduceWindows_S1024x128_S1024x128_w1024s1p1023_0_w1s1p0_0 h_S_) (hot e))
      (constantI S_ 32 0#32) reducesTo_S1024x128_S1024_d1 h_S_ (ix1 t)
      = ∑ i : Fin 1024, if i ≤ t then (if e (ix1 i) = e (ix1 t) then 1#32 else 0#32) else 0 := by
    refine (reduce_rows (n := 1024) (k := 128) _ reducesTo_S1024x128_S1024_d1 h_S_ t).trans ?_
    have hk : e (ix1 t) = BitVec.ofNat 32 (⟨(e (ix1 t)).toNat, he t⟩ : Fin 128).val := by simp
    refine (Finset.sum_eq_single (⟨(e (ix1 t)).toNat, he t⟩ : Fin 128) (fun k _ hne => ?_) (fun h => absurd (Finset.mem_univ _) h)).trans ?_
    · refine Eq.trans (congrArg (_ * ·) (hot_at e t k)) ?_
      rw [if_neg (fun h => hne ?_)]
      · exact mul_zero _
      · refine Fin.ext ?_
        have := congrArg BitVec.toNat h
        rw [BitVec.toNat_ofNat, Nat.mod_eq_of_lt (by have := k.isLt; omega)] at this
        exact this.symm
    · refine Eq.trans (congrArg₂ (· * ·) (hcum _) (hot_at e t _)) ?_
      rw [if_pos hk]
      refine (mul_one _).trans (Finset.sum_congr rfl fun i _ => ?_)
      rw [hot_at, ← hk]
  refine Eq.trans (congrArg₂ (· - ·) hsum (bc0 bcast_S_S1024 _ _)) ?_
  have := prefix_sub_last (fun i : Fin 1024 => if e (ix1 i) = e (ix1 t) then 1#32 else 0#32) t
  rw [if_pos rfl] at this
  exact this.trans (sum_rk (fun i => e (ix1 i)) t)

/-- A token's slot. -/
theorem slots_at (e : IVec S1024 32) (he : ∀ t : Fin 1024, (e (ix1 t)).toNat < 128) (t : Fin 1024) :
    (slots e (ix1 t)).toNat = if rk (fun i => e (ix1 i)) t < 6 then (e (ix1 t)).toNat * 6 + rk (fun i => e (ix1 i)) t else 4294967295 := by
  have hr := ranks_at e he t
  have hl := rk_le (fun i => e (ix1 i)) t
  have hsel : slots e (ix1 t) = if IntOp.cmpi .slt (ranks e (ix1 t)) 6#32 = 1#1 then e (ix1 t) * 6#32 + ranks e (ix1 t) else 4294967295#32 := by
    unfold slots
    show (if IntOp.cmpi .slt (ranks e (ix1 t)) (broadcastInDim S1024 ![] bcast_S_S1024 (constantI S_ 32 6#32) (ix1 t)) = 1#1
      then e (ix1 t) * (broadcastInDim S1024 ![] bcast_S_S1024 (constantI S_ 32 6#32) (ix1 t)) + ranks e (ix1 t)
      else (broadcastInDim S1024 ![] bcast_S_S1024 (constantI S_ 32 4294967295#32) (ix1 t))) = _
    rw [bc0, bc0]; rfl
  rw [hsel, hr]
  have hc : IntOp.cmpi .slt (BitVec.ofNat 32 (rk (fun i => e (ix1 i)) t)) 6#32 = 1#1 ↔ rk (fun i => e (ix1 i)) t < 6 :=
    cmpi_slt_ofNat_eq_one_iff (by omega) (by decide)
  have h2 := he t
  by_cases h : rk (fun i => e (ix1 i)) t < 6
  · rw [if_pos (hc.2 h), if_pos h, BitVec.toNat_add, BitVec.toNat_mul, BitVec.toNat_ofNat, BitVec.toNat_ofNat]
    omega
  · rw [if_neg (fun q => h (hc.1 q)), if_neg h]; rfl

/-- A selection on two words being one, read at an index. -/
theorem pick_eq {s : Shape} (x y p q : IVec s 32) (i : s.Idx) :
    select (cmpi .eq x y) p q i = if IntOp.cmpi .eq (x i) (y i) = 1#1 then p i else q i := rfl

/-- The sum over the tokens in a slot. -/
theorem found_at (e : IVec S1024 32) (s : Fin 768) :
    found e (ix1 s) = ∑ t : Fin 1024, if slots e (ix1 t) = BitVec.ofNat 32 s.val then 1#32 + BitVec.ofNat 32 t.val else 0#32 := by
  refine (reduce_rows (n := 768) (k := 1024) _ reducesTo_S768x1024_S768_d1 h_S_ s).trans (Finset.sum_congr rfl fun t _ => ?_)
  have h1 : (broadcastInDim S768x1024 ![0, 1] bcast_S1x1024_S768x1024_0_1 (broadcastInDim S1x1024 ![1] bcast_S1024_S1x1024_1 (slots e))) (ix2 s t)
      = slots e (ix1 t) := bcCols bcast_S1024_S1x1024_1 bcast_S1x1024_S768x1024_0_1 (slots e) s t
  have h2 : (broadcastInDim S768x1024 ![0, 1] bcast_S768x1_S768x1024_0_1 (broadcastInDim S768x1 ![0] bcast_S768_S768x1_0 (iotaInDim S768 32 0))) (ix2 s t)
      = BitVec.ofNat 32 s.val := bcRows bcast_S768_S768x1_0 bcast_S768x1_S768x1024_0_1 (iotaInDim S768 32 0) s t
  have h3 : (broadcastInDim S768x1024 ![1] bcast_S1024_S768x1024_1
      (addi (broadcastInDim S1024 ![] bcast_S_S1024 (constantI S_ 32 1#32)) (iotaInDim S1024 32 0))) (ix2 s t)
      = 1#32 + BitVec.ofNat 32 t.val := by
    refine (broadcastInDim_apply _ _ _ _ (ix1 t) fun a => ?_).trans (congrArg (· + _) (bc0 bcast_S_S1024 _ _))
    match a with
    | ⟨0, _⟩ => rfl
  have h4 : (broadcastInDim S768x1024 ![] bcast_S_S768x1024 (constantI S_ 32 0#32)) (ix2 s t) = 0#32 := bc0 bcast_S_S768x1024 _ _
  refine (pick_eq _ _ _ _ (ix2 s t)).trans ?_
  rw [h1, h2, h3, h4, cmpi_eq_eq]
  by_cases h : slots e (ix1 t) = BitVec.ofNat 32 s.val <;> simp [h]

/-- What a slot holds: the one token it belongs to, or 1024. -/
theorem dests_at (e : IVec S1024 32) (he : ∀ t : Fin 1024, (e (ix1 t)).toNat < 128) (s : Fin 768) :
    (∃ t : Fin 1024, (dests e (ix1 s)).toNat = t.val ∧ rk (fun i => e (ix1 i)) t < 6 ∧ (e (ix1 t)).toNat * 6 + rk (fun i => e (ix1 i)) t = s.val)
      ∨ ((dests e (ix1 s)).toNat = 1024 ∧ ∀ t : Fin 1024, rk (fun i => e (ix1 i)) t < 6 → (e (ix1 t)).toNat * 6 + rk (fun i => e (ix1 i)) t ≠ s.val) := by
  have hs := s.isLt
  have hslot : ∀ t, slots e (ix1 t) = BitVec.ofNat 32 s.val ↔ rk (fun i => e (ix1 i)) t < 6 ∧ (e (ix1 t)).toNat * 6 + rk (fun i => e (ix1 i)) t = s.val := by
    intro t
    rw [← BitVec.toNat_inj, slots_at e he, BitVec.toNat_ofNat, Nat.mod_eq_of_lt (by omega)]
    by_cases h : rk (fun i => e (ix1 i)) t < 6
    · simp [h]
    · simp [h]; omega
  have hd : dests e (ix1 s) = if IntOp.cmpi .slt (found e (ix1 s) - 1#32) 0#32 = 1#1 then 1024#32 else found e (ix1 s) - 1#32 := by
    unfold dests
    show (if IntOp.cmpi .slt (found e (ix1 s) - broadcastInDim S768 ![] bcast_S_S768 (constantI S_ 32 1#32) (ix1 s))
        (broadcastInDim S768 ![] bcast_S_S768 (constantI S_ 32 0#32) (ix1 s)) = 1#1
      then (broadcastInDim S768 ![] bcast_S_S768 (constantI S_ 32 1024#32) (ix1 s))
      else (found e (ix1 s) - broadcastInDim S768 ![] bcast_S_S768 (constantI S_ 32 1#32) (ix1 s))) = _
    rw [bc0, bc0, bc0]; rfl
  rw [hd, found_at]
  by_cases h : ∃ t, slots e (ix1 t) = BitVec.ofNat 32 s.val
  · obtain ⟨t, ht⟩ := h
    have hu : ∀ t', slots e (ix1 t') = BitVec.ofNat 32 s.val → t' = t := by
      intro t' ht'
      have h1 := (hslot t).1 ht; have h2 := (hslot t').1 ht'
      have h3 : e (ix1 t') = e (ix1 t) := BitVec.eq_of_toNat_eq (by omega)
      exact rk_inj (fun i => e (ix1 i)) h3 (by omega)
    have hsum : (∑ t : Fin 1024, if slots e (ix1 t) = BitVec.ofNat 32 s.val then 1#32 + BitVec.ofNat 32 t.val else 0#32) = 1#32 + BitVec.ofNat 32 t.val := by
      refine (Finset.sum_eq_single t (fun t' _ hne => ?_) (fun q => absurd (Finset.mem_univ _) q)).trans (if_pos ht)
      exact if_neg fun q => hne (hu t' q)
    have hsub : (1#32 + BitVec.ofNat 32 t.val) - 1#32 = BitVec.ofNat 32 t.val := add_sub_cancel_left _ _
    have hlt := t.isLt
    rw [hsum, hsub, if_neg (fun q => ?_)]
    · refine .inl ⟨t, ?_, (hslot t).1 ht⟩
      rw [BitVec.toNat_ofNat, Nat.mod_eq_of_lt (by omega)]
    · have := (cmpi_slt_ofNat_eq_one_iff (w := 32) (a := t.val) (b := 0) (by omega) (by decide)).1 q
      omega
  · have hsum : (∑ t : Fin 1024, if slots e (ix1 t) = BitVec.ofNat 32 s.val then 1#32 + BitVec.ofNat 32 t.val else 0#32) = 0#32 :=
      Finset.sum_eq_zero fun t _ => if_neg fun q => h ⟨t, q⟩
    rw [hsum]
    refine .inr ⟨by decide, fun t h1 h2 => h ⟨t, (hslot t).2 ⟨h1, h2⟩⟩⟩

/-- The table's entries: slot `j` of device `o` holds the one token whose expert and rank give that slot, or 1024. -/
theorem table_at (a : IVec S1024x1 32) (he : ∀ t : Fin 1024, (ex a t).toNat < 128) (o : Fin 32) (j : Fin 24) :
    (∃ t : Fin 1024, (table a (ix2 o j)).toNat = t.val ∧ rk (ex a) t < 6 ∧ (ex a t).toNat * 6 + rk (ex a) t = o.val * 24 + j.val)
      ∨ ((table a (ix2 o j)).toNat = 1024 ∧ ∀ t : Fin 1024, rk (ex a) t < 6 → (ex a t).toNat * 6 + rk (ex a) t ≠ o.val * 24 + j.val) := by
  have ho := o.isLt
  have hj := j.isLt
  have hc : table a (ix2 o j) = dests (ids a) (ix1 (⟨o.val * 24 + j.val, by omega⟩ : Fin 768)) :=
    cast12 (a := 32) (b := 24) (n := 768) (dests (ids a)) shapeCasts_S768_S32x24 o j _ rfl
  have hi : (fun i : Fin 1024 => ids a (ix1 i)) = ex a := funext (ids_at a)
  have := dests_at (ids a) (fun t => by rw [ids_at]; exact he t) (⟨o.val * 24 + j.val, by omega⟩ : Fin 768)
  rw [hi] at this
  simp only [ids_at] at this
  rw [hc]
  exact this

/-- The table names rows of the accumulator, no token's row twice. -/
theorem table_ok (a : IVec S1024x1 32) (he : ∀ t : Fin 1024, (ex a t).toNat < 128) : TableOk (table a) := by
  refine ⟨fun o j => ?_, fun o j o' j' hlt heq => ?_⟩
  · rcases table_at a he o j with ⟨t, h, _⟩ | ⟨h, _⟩
    · rw [h]; exact t.isLt.le
    · rw [h]
  · rcases table_at a he o j with ⟨t, h, _, h1⟩ | ⟨h, _⟩
    · rcases table_at a he o' j' with ⟨t', h', _, h1'⟩ | ⟨h', _⟩
      · have ht : t = t' := Fin.ext (by omega)
        subst ht
        have := j.isLt; have := j'.isLt
        exact ⟨Fin.ext (by omega), Fin.ext (by omega)⟩
      · have := t.isLt; omega
    · omega

end Cert.KernelIdeal.Moe
-- ==== Proof.Frames.lean ====
/- The kernel's frames: every token's expert in range, it runs to the end, its arguments are as before and no counter is up. -/
module

public import proofs.«01_k».proof.Proof.Table

@[expose] public section

set_option maxRecDepth 16384

noncomputable section

namespace Cert.KernelIdeal.Moe

open Idealize.ShloMosaic hiding ix1 ix2 ix3
open Idealize.ShloMosaic.TcCoe
open Idealize.ShloMosaic.ValueIdx
open Idealize.SL.Sem
open Cert.KernelIdeal Cert.KernelIdeal.Gen

attribute [local instance] Cert.Pre_in_range_Kernel.Gen.facts

variable {F : FTy → Type} [FloatOps F]

/-- The precondition on the arguments: every token's expert is one of the 128. -/
theorem in_range (a0 : FVec F S1024x512 .f32) (a1 : FVec F Cert.Pre_in_range_Kernel.S512x128 .f32) (a2 : IVec S1024x1 32) (a3 : FVec F S4x512x1024 .f32)
    (h : Cert.Pre_in_range_Kernel.fn (F := F) a0 a1 a2 a3 = fun _ => 1#1) (t : Fin 1024) : (ex a2 t).toNat < 128 := by
  have h1 := Host.reduce_andi_all _ _ _ _ (fun a => a.elim0) (congrFun h fun a => a.elim0) (ix2 t (0 : Fin 1))
  have h2 : BitVec.ofBool ((0#32).sle (a2 (ix2 t (0 : Fin 1)))) &&& BitVec.ofBool ((a2 (ix2 t (0 : Fin 1))).slt 128#32) = 1#1 := h1
  unfold ex
  generalize a2 (ix2 t (0 : Fin 1)) = x at h2 ⊢
  have h3 : (0#32).sle x = true ∧ x.slt 128#32 = true := by
    revert h2
    cases (0#32).sle x <;> cases x.slt 128#32 <;> decide
  have h4 := BitVec.sle_iff_toInt_le.1 h3.1
  have h5 := BitVec.slt_iff_toInt_lt.1 h3.2
  have h6 : (128#32 : BitVec 32).toInt = 128 := by decide
  have h7 : (0#32 : BitVec 32).toInt = 0 := by decide
  rw [h6] at h5; rw [h7] at h4
  rw [BitVec.toInt_eq_toNat_cond] at h4 h5
  have := x.isLt
  split at h4 <;> omega

variable (m : (ℓ : Loc nD τ sig) → Buf (Elt F) ℓ)

/-- The windows' block indices are nought. -/
theorem at_0 : ∀ t : Fin cfg0.N, win0_0.index t = ![0, 0] := (by decide +kernel : ∀ t : Fin grid0.N, _)
theorem at_1 : ∀ t : Fin cfg0.N, win0_1.index t = ![0, 0, 0] := (by decide +kernel : ∀ t : Fin grid0.N, _)
theorem at_2 : ∀ t : Fin cfg0.N, win0_2.index t = ![0, 0] := (by decide +kernel : ∀ t : Fin grid0.N, _)

/-- The rows' one block is the whole of it. -/
theorem whole_0 (c : Dev nD) (X : Buf (Elt F) ((c.tc : Thread nD τ).loc (Pipeline.arrRef spec0 0))) (y) :
    ((cfg0.win 0).blk t0_0).view.read (Elt F) X y = X y := by
  blk_ext [at_0 t0_0]

/-- The matrices' one block is the whole of it. -/
theorem whole_1 (c : Dev nD) (X : Buf (Elt F) ((c.tc : Thread nD τ).loc (Pipeline.arrRef spec0 1))) (y) :
    ((cfg0.win 1).blk t0_0).view.read (Elt F) X y = X y := by
  blk_ext [at_1 t0_0]

/-- The table's one block is the whole of it. -/
theorem whole_2 (c : Dev nD) (X : Buf (Elt F) ((c.tc : Thread nD τ).loc (Pipeline.arrRef spec0 2))) (y) :
    ((cfg0.win 2).blk t0_0).view.read (Elt F) X y = X y := by
  blk_ext [at_2 t0_0]

/-- A device's table as the kernel finds it is the one the host built. -/
theorem table_of (c : Dev nD) : (A m).d c = table (m ((c.tc : Thread nD τ).loc main_arg2)) := by
  rw [A_d]
  unfold iblk
  exact (funext (whole_2 c (V m c (Pipeline.arrRef spec0 2)))).trans (table_eq m c)

/-- A device's rows as the kernel finds them are its first argument. -/
theorem rows_of (c : Dev nD) : (A m).x c = m ((c.tc : Thread nD τ).loc main_arg0) := by
  show iblk m c 0 t0_0 = _
  unfold iblk
  exact (funext (whole_0 c (V m c (Pipeline.arrRef spec0 0)))).trans (V_main_arg0 m c)

/-- A device's matrices as the kernel finds them are its last argument. -/
theorem mats_of (c : Dev nD) : (A m).e c = m ((c.tc : Thread nD τ).loc main_arg3) := by
  show iblk m c 1 t0_0 = _
  unfold iblk
  exact (funext (whole_1 c (V m c (Pipeline.arrRef spec0 1)))).trans (V_main_arg3 m c)

/-- Every device's experts being in range, the tables are good. -/
theorem tables_ok (h : ∀ (c : Dev nD) t, (ex (m ((c.tc : Thread nD τ).loc main_arg2)) t).toNat < 128) (o : Dev nD) : TableOk ((A m).d o) := by
  rw [table_of]; exact table_ok _ (h o)

/-- The run with the values dropped. -/
theorem frame_of (ρ : Dev nD → PrngReg) [∀ e, Nonempty (Elt F e)]
    (h : ∀ (c : Dev nD) t, (ex (m ((c.tc : Thread nD τ).loc main_arg2)) t).toNat < 128) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ k => ⟨fun c => ⟨(k.1 c).1, (k.1 c).2.1, (k.1 c).2.2.1, (k.1 c).2.2.2.1⟩, k.2⟩)
    (run_main ρ (m := m) (out := fun _ _ => Classical.choice inferInstance) (fg := true) (tables_ok m h) (fun q => absurd q (by decide)))

/-- The frame of the idealised kernel. -/
theorem frame_ideal : Cert.quiescent_KernelIdeal := fun m ρ hp =>
  frame_of m ρ fun c t => in_range _ _ _ _ (hp c) t

end Cert.KernelIdeal.Moe
-- ==== Proof.Ref.lean ====
/- The reference's run: a line of host operations, each buffer at what the line leaves in it. -/
module

public import proofs.«01_k».proof.Defs
public import proofs.«01_k».proof.Proof.Gen.ReferenceIdeal
public import proofs.«01_k».proof.Proof.Gen.Pre_in_range_ReferenceIdeal
public import Idealize.ShloMosaic.Lib.StableHlo.Run
public import Idealize.ShloMosaic.Lib.StableHlo.RunHlo
public import Idealize.ShloMosaic.Lib.StableHlo.ReadAt
public import Idealize.ShloMosaic.Lib.StableHlo.RunRead
public import Idealize.ShloMosaic.Lib.Quiescent

@[expose] public section

set_option maxRecDepth 16384

noncomputable section

namespace Cert.ReferenceIdeal.Plain

open Idealize.ShloMosaic
open Idealize.ShloMosaic.TcCoe
open Idealize.SL.Sem
open Cert.ReferenceIdeal
open Facts₀ Facts

attribute [local instance] Cert.ReferenceIdeal.Gen.facts

variable {F : FTy → Type} [FloatOps F]

/-- The reference's operations, in order. -/
abbrev ops : List (HloOp τ sig (Elt F)) :=
  [ StableHlo.reshape main_arg2 main_v0 (rfl : (.i32 : EltTy) = .i32) shapeCasts_S1024x1_S1024,
    StableHlo.nullary main_v1 (iotaInDim S1024 32 0),
    StableHlo.unary main_v0 main_v2 (broadcastInDim S1024x1 ![0] bcast_S1024_S1024x1_0 : (⟨S1024, .i32⟩ : BufTy).Contents (Elt F) → (⟨S1024x1, .i32⟩ : BufTy).Contents (Elt F)),
    StableHlo.unary main_v0 main_v3 (broadcastInDim S1x1024 ![1] bcast_S1024_S1x1024_1 : (⟨S1024, .i32⟩ : BufTy).Contents (Elt F) → (⟨S1x1024, .i32⟩ : BufTy).Contents (Elt F)),
    StableHlo.unary main_v2 main_v4 (broadcastInDim S1024x1024 ![0, 1] bcast_S1024x1_S1024x1024_0_1 : (⟨S1024x1, .i32⟩ : BufTy).Contents (Elt F) → (⟨S1024x1024, .i32⟩ : BufTy).Contents (Elt F)),
    StableHlo.unary main_v3 main_v5 (broadcastInDim S1024x1024 ![0, 1] bcast_S1x1024_S1024x1024_0_1 : (⟨S1x1024, .i32⟩ : BufTy).Contents (Elt F) → (⟨S1024x1024, .i32⟩ : BufTy).Contents (Elt F)),
    StableHlo.binary main_v4 main_v5 main_v6 (cmpi .eq : (⟨S1024x1024, .i32⟩ : BufTy).Contents (Elt F) → (⟨S1024x1024, .i32⟩ : BufTy).Contents (Elt F) → (⟨S1024x1024, .i1⟩ : BufTy).Contents (Elt F)),
    StableHlo.unary main_v1 main_v7 (broadcastInDim S1x1024 ![1] bcast_S1024_S1x1024_1 : (⟨S1024, .i32⟩ : BufTy).Contents (Elt F) → (⟨S1x1024, .i32⟩ : BufTy).Contents (Elt F)),
    StableHlo.unary main_v1 main_v8 (broadcastInDim S1024x1 ![0] bcast_S1024_S1024x1_0 : (⟨S1024, .i32⟩ : BufTy).Contents (Elt F) → (⟨S1024x1, .i32⟩ : BufTy).Contents (Elt F)),
    StableHlo.unary main_v7 main_v9 (broadcastInDim S1024x1024 ![0, 1] bcast_S1x1024_S1024x1024_0_1 : (⟨S1x1024, .i32⟩ : BufTy).Contents (Elt F) → (⟨S1024x1024, .i32⟩ : BufTy).Contents (Elt F)),
    StableHlo.unary main_v8 main_v10 (broadcastInDim S1024x1024 ![0, 1] bcast_S1024x1_S1024x1024_0_1 : (⟨S1024x1, .i32⟩ : BufTy).Contents (Elt F) → (⟨S1024x1024, .i32⟩ : BufTy).Contents (Elt F)),
    StableHlo.binary main_v9 main_v10 main_v11 (cmpi .slt : (⟨S1024x1024, .i32⟩ : BufTy).Contents (Elt F) → (⟨S1024x1024, .i32⟩ : BufTy).Contents (Elt F) → (⟨S1024x1024, .i1⟩ : BufTy).Contents (Elt F)),
    StableHlo.binary main_v6 main_v11 main_v12 (andi : (⟨S1024x1024, .i1⟩ : BufTy).Contents (Elt F) → (⟨S1024x1024, .i1⟩ : BufTy).Contents (Elt F) → (⟨S1024x1024, .i1⟩ : BufTy).Contents (Elt F)),
    StableHlo.unary main_v12 main_v13 ((extui 32 · natLt_1_32) : (⟨S1024x1024, .i1⟩ : BufTy).Contents (Elt F) → (⟨S1024x1024, .i32⟩ : BufTy).Contents (Elt F)),
    StableHlo.nullary main_c (constantI S_ 32 0#32),
    StableHlo.binary main_v13 main_c main_v14 ((fun x v => Host.reduce IntOp.addi x v reducesTo_S1024x1024_S1024_d1 h_S_) : (⟨S1024x1024, .i32⟩ : BufTy).Contents (Elt F) → (⟨S_, .i32⟩ : BufTy).Contents (Elt F) → (⟨S1024, .i32⟩ : BufTy).Contents (Elt F)),
    StableHlo.nullary main_c_0 (constantI S_ 32 0#32),
    StableHlo.unary main_c_0 main_v15 (broadcastInDim S1024 ![] bcast_S_S1024 : (⟨S_, .i32⟩ : BufTy).Contents (Elt F) → (⟨S1024, .i32⟩ : BufTy).Contents (Elt F)),
    StableHlo.binary main_v0 main_v15 main_v16 (cmpi .slt : (⟨S1024, .i32⟩ : BufTy).Contents (Elt F) → (⟨S1024, .i32⟩ : BufTy).Contents (Elt F) → (⟨S1024, .i1⟩ : BufTy).Contents (Elt F)),
    StableHlo.nullary main_c_1 (constantI S_ 32 128#32),
    StableHlo.unary main_c_1 main_v17 (broadcastInDim S1024 ![] bcast_S_S1024 : (⟨S_, .i32⟩ : BufTy).Contents (Elt F) → (⟨S1024, .i32⟩ : BufTy).Contents (Elt F)),
    StableHlo.binary main_v0 main_v17 main_v18 (addi : (⟨S1024, .i32⟩ : BufTy).Contents (Elt F) → (⟨S1024, .i32⟩ : BufTy).Contents (Elt F) → (⟨S1024, .i32⟩ : BufTy).Contents (Elt F)),
    StableHlo.ternary main_v16 main_v18 main_v0 main_v19 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v19 main_v20 (broadcastInDim S1024x1 ![0] bcast_S1024_S1024x1_0 : (⟨S1024, .i32⟩ : BufTy).Contents (Elt F) → (⟨S1024x1, .i32⟩ : BufTy).Contents (Elt F)),
    StableHlo.binary main_arg3 main_v20 main_v21 ((fun x i => Host.gather gather_S128x512x1024_S1024x1_S1024x512x1024_12_0_n_n_0_1_15121024 x i) : (⟨S128x512x1024, .f32⟩ : BufTy).Contents (Elt F) → (⟨S1024x1, .i32⟩ : BufTy).Contents (Elt F) → (⟨S1024x512x1024, .f32⟩ : BufTy).Contents (Elt F)),
    StableHlo.binary main_arg0 main_v21 main_v22 ((fun l r => Host.dotGeneral dot_S1024x512_S1024x512x1024_S1024x1024_1_1_n_2_0_0 none l r) : (⟨S1024x512, .f32⟩ : BufTy).Contents (Elt F) → (⟨S1024x512x1024, .f32⟩ : BufTy).Contents (Elt F) → (⟨S1024x1024, .f32⟩ : BufTy).Contents (Elt F)),
    StableHlo.nullary main_c_2 (constantI S_ 32 6#32),
    StableHlo.unary main_c_2 main_v23 (broadcastInDim S1024 ![] bcast_S_S1024 : (⟨S_, .i32⟩ : BufTy).Contents (Elt F) → (⟨S1024, .i32⟩ : BufTy).Contents (Elt F)),
    StableHlo.binary main_v14 main_v23 main_v24 (cmpi .slt : (⟨S1024, .i32⟩ : BufTy).Contents (Elt F) → (⟨S1024, .i32⟩ : BufTy).Contents (Elt F) → (⟨S1024, .i1⟩ : BufTy).Contents (Elt F)),
    StableHlo.unary main_v24 main_v25 (broadcastInDim S1024x1 ![0] bcast_S1024_S1024x1_0 : (⟨S1024, .i1⟩ : BufTy).Contents (Elt F) → (⟨S1024x1, .i1⟩ : BufTy).Contents (Elt F)),
    StableHlo.nullary main_cst (constant S_ .f32 0x00000000#32),
    StableHlo.TRef.unary (.of main_cst : StableHlo.TRef sig ⟨S_, .f32⟩) (.of main_call0_v0 : StableHlo.TRef sig ⟨S_, .f32⟩) id,
    StableHlo.TRef.unary (.of main_v25 : StableHlo.TRef sig ⟨S1024x1, .i1⟩) (.of main_call0_v1 : StableHlo.TRef sig ⟨S1024x1024, .i1⟩) (broadcastInDim S1024x1024 ![0, 1] bcast_S1024x1_S1024x1024_0_1),
    StableHlo.TRef.unary (.of main_call0_v0 : StableHlo.TRef sig ⟨S_, .f32⟩) (.of main_call0_v2 : StableHlo.TRef sig ⟨S1024x1024, .f32⟩) (broadcastInDim S1024x1024 ![] bcast_S_S1024x1024),
    StableHlo.TRef.ternary (.of main_call0_v1 : StableHlo.TRef sig ⟨S1024x1024, .i1⟩) (.of main_v22 : StableHlo.TRef sig ⟨S1024x1024, .f32⟩) (.of main_call0_v2 : StableHlo.TRef sig ⟨S1024x1024, .f32⟩) (.of main_v26 : StableHlo.TRef sig ⟨S1024x1024, .f32⟩) select ]

/-- The reference's main function is those operations. -/
theorem main_eq (d : Dev nD) : main (F := F) d = StableHlo.seq ops := by
  unfold main fn_where.body
  chain_rfl

/-- Each of them touches buffers of the TensorCore only. -/
theorem ops_sub : (ops (F := F)).Forall fun op => op.bufs ⊆ StableHlo.tcRefs τ sig :=
  ⟨StableHlo.reshape_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub ..⟩

/-- The reference runs to the end; every buffer of its device is then at what the operations leave in it, and no counter is up. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = StableHlo.after ops (StableHlo.launchContents m d) (Proc.devRef .tc b))
        ∧ r.2.sem = fun _ => 0 :=
  (θ_run defs _ _).mono (fun r h => ⟨h, sem_eq_zero_of_no_sems (by decide) r.2⟩)
    (StableHlo.run_seq (by decide) (by decide) defs main (fun _ => ops) main_eq (fun _ => ops_sub) m ρ)

/-- No operation writes an argument. -/
theorem kept (V : Valuation τ sig (Elt F)) :
    StableHlo.after ops V (Proc.devRef .tc main_arg0) = V (Proc.devRef .tc main_arg0)
      ∧ StableHlo.after ops V (Proc.devRef .tc main_arg1) = V (Proc.devRef .tc main_arg1)
      ∧ StableHlo.after ops V (Proc.devRef .tc main_arg2) = V (Proc.devRef .tc main_arg2)
      ∧ StableHlo.after ops V (Proc.devRef .tc main_arg3) = V (Proc.devRef .tc main_arg3) := by
  refine ⟨?_, ?_, ?_, ?_⟩ <;> after_reads_simp

end Cert.ReferenceIdeal.Plain
-- ==== Proof.Same.lean ====
/- The kernel at its own number format and the idealised program are the same program there. -/
module

public import Idealize.ShloMosaic.PureOps.BitExact
public import proofs.«01_k».proof.Proof.Gen.Kernel
public import proofs.«01_k».proof.Proof.Gen.KernelIdeal

@[expose] public section

noncomputable section

namespace Cert.Moe

open Idealize.ShloMosaic

set_option maxRecDepth 100000
set_option maxHeartbeats 0

/-- The host program is the same. -/
theorem same_main : Cert.Kernel.main (F := Bits) = Cert.KernelIdeal.main (F := Bits) := rfl

theorem same_scatters : Cert.Kernel.k0_part211 (F := Bits) = Cert.KernelIdeal.k0_part211 (F := Bits) := rfl
theorem same_waits : Cert.Kernel.k0_part214 (F := Bits) = Cert.KernelIdeal.k0_part214 (F := Bits) := rfl

/-- The kernel's body is the same. -/
theorem same_body : Cert.Kernel.cc0_body (F := Bits) = Cert.KernelIdeal.cc0_body (F := Bits) := rfl

end Cert.Moe
-- ==== Proof.SameDefs.lean ====
/- The bodies the two programs call are the same. -/
module

public import proofs.«01_k».proof.Proof.Same

@[expose] public section

noncomputable section

namespace Cert.Moe

open Idealize.ShloMosaic

set_option maxRecDepth 100000
set_option maxHeartbeats 0

open Cert.KernelIdeal Cert.KernelIdeal.K0.Facts₀ in
/-- The table of bodies made of one body. -/
def table (b : type_of% (Cert.KernelIdeal.cc0_body (F := Bits))) : Defs nD τ sig (Elt Bits) Λ₀ := Defs.onTc fun
  | 0, (_, s) => b (win0_0.stage (s 0)) (hstage0_0 0) (win0_1.stage (s 1)) (hstage0_1 0) (win0_2.stage (s 2)) (hstage0_2 0) (win0_3.stage (s 3)) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5
  | ⟨_ + 1, h⟩, _ => absurd h (Nat.not_lt.2 (Nat.le_add_left _ _))

theorem table_left : Cert.Kernel.defs₀ (F := Bits) = table (Cert.Kernel.cc0_body (F := Bits)) := by
  unfold Cert.Kernel.defs₀ table
  refine congrArg Defs.onTc ?_
  funext l a
  match l, a with
  | 0, (_, _) => rfl
theorem table_right : Cert.KernelIdeal.defs₀ (F := Bits) = table (Cert.KernelIdeal.cc0_body (F := Bits)) := by
  unfold Cert.KernelIdeal.defs₀ table
  refine congrArg Defs.onTc ?_
  funext l a
  match l, a with
  | 0, (_, _) => rfl

/-- The bodies the program calls are the same. -/
theorem same_defs₀ : Cert.Kernel.defs₀ (F := Bits) = Cert.KernelIdeal.defs₀ (F := Bits) :=
  table_left.trans ((congrArg table same_body).trans table_right.symm)

/-- The whole table of definitions is the same. -/
theorem same_defs : Cert.Kernel.defs (F := Bits) = Cert.KernelIdeal.defs (F := Bits) := by
  unfold Cert.Kernel.defs Cert.KernelIdeal.defs
  exact congrArg (Pipeline.defs (Cert.KernelIdeal.pcfgs (F := Bits))) same_defs₀

end Cert.Moe
-- ==== Proof.Frame.lean ====
/- The frames of the kernel as printed and of the reference. -/
module

public import proofs.«01_k».proof.Proof.Frames
public import proofs.«01_k».proof.Proof.Ref
public import proofs.«01_k».proof.Proof.SameDefs

@[expose] public section

noncomputable section

namespace Cert.Moe

open Idealize.ShloMosaic
open Idealize.ShloMosaic.TcCoe
open Idealize.SL.Sem

attribute [local instance] Cert.Kernel.Gen.facts Cert.KernelIdeal.Gen.facts Cert.ReferenceIdeal.Gen.facts Cert.Pre_in_range_Kernel.Gen.facts Cert.Pre_in_range_ReferenceIdeal.Gen.facts

/-- The kernel's frame: it is the idealised program at the kernel's own numbers. -/
theorem frame_kernel : Cert.quiescent_Kernel := fun m ρ hp => by
  rw [same_defs, same_main]
  exact Cert.KernelIdeal.Moe.frame_of (F := Bits) m ρ fun c t => Cert.KernelIdeal.Moe.in_range _ _ _ _ (hp c) t

/-- The reference's frame. -/
theorem frame_reference : Cert.quiescent_ReferenceIdeal := fun m ρ _ =>
  (θ_run (Cert.ReferenceIdeal.defs (F := Ideal)) _ _).mono
    (fun _ h => ⟨fun c => by
      have k := Cert.ReferenceIdeal.Plain.kept (F := Ideal) (StableHlo.launchContents m c)
      exact ⟨(h.1 c _).trans k.1, (h.1 c _).trans k.2.1, (h.1 c _).trans k.2.2.1, (h.1 c _).trans k.2.2.2⟩, h.2⟩)
    (Cert.ReferenceIdeal.Plain.run m ρ)

/-- The reference's frame on the inputs in range. -/
theorem frame_reference_in_range : Cert.quiescent_ReferenceIdeal_pre_in_range_ReferenceIdeal := fun m ρ _ =>
  frame_reference m ρ trivial

end Cert.Moe
-- ==== Proof.Value.lean ====
/- What the kernel's result is: each kept token's row through its expert, nought for the others. -/
module

public import proofs.«01_k».proof.Proof.Frames

@[expose] public section

set_option maxRecDepth 16384

noncomputable section

namespace Cert.KernelIdeal.Moe

open Idealize.ShloMosaic hiding ix1 ix2 ix3
open Idealize.ShloMosaic.TcCoe
open Idealize.ShloMosaic.ValueIdx
open Idealize.SL.Sem
open Cert.KernelIdeal Cert.KernelIdeal.Gen
open Cert.Ranks

/-- A stored product at an index: the sum over the contraction. -/
theorem dotRow_at (cx : S6x512.Idx → Elt Ideal .f32) (ew : S1x512x1024.Idx → Elt Ideal .f32) (i : Fin 6) (h : Fin 1024) :
    dotRow (F := Ideal) cx ew (ix3 (0 : Fin 1) i h) = ∑ k : Fin 512, (cx (ix2 i k) * ew (ix3 (0 : Fin 1) k h) : EReal) := by
  unfold dotRow
  pointwise
  exact Finset.sum_congr rfl fun k _ => congrArg₂ _ (congrArg cx (funext fun a => match a with | 0 => rfl | 1 => rfl))
    (congrArg ew (funext fun a => match a with | 0 => rfl | 1 => rfl | 2 => rfl))

/-- A slot's row at an index: the token that the slot names through the block's expert. -/
theorem slot_at {A : Data Ideal} {o : Dev nD} {j : Fin 24} {row : Fin 1024 → Elt Ideal .f32} (hs : Slot A o j row) (t : Fin 1024)
    (ht : (A.d o (ix2 o j)).toNat = t.val) (h : Fin 1024) :
    row h = ∑ k : Fin 512, (A.x o (ix2 t k) * A.e o (ix3 (⟨j.val / 6, by omega⟩ : Fin 4) k h) : EReal) := by
  obtain ⟨f, ⟨g, hg, hf⟩, rfl⟩ := hs
  have h1 := hf (⟨j.val / 6, by omega⟩ : Fin 4) (⟨j.val % 6, by omega⟩ : Fin 6) h
  have hj : (⟨6 * (j.val / 6) + j.val % 6, by omega⟩ : Fin 24) = j := Fin.ext (by show 6 * (j.val / 6) + j.val % 6 = j.val; omega)
  rw [dotRow_at] at h1
  have h2 : extf (F := Ideal) (FTy.f32) (shapeCast S24x1024 (fun p : S1x24x1024.Idx => f (ix3 o (p 1) (p 2))) Shapes1.Facts₀.shapeCasts_S1x24x1024_S24x1024)
    Shapes1.Facts₀.bitsLt_bf16_f32 (ix2 j h) = f (ix3 o j h) := by pointwise
  refine (h2.trans (congrArg (fun q => f (ix3 o q h)) hj.symm)).trans (h1.trans (Finset.sum_congr rfl fun k _ => ?_))
  refine congrArg₂ _ ?_ rfl
  exact (congrArg (fun q => g (ix2 q k)) hj).trans (hg j t ht k)

/-- The result: a token among its expert's first six has its row through the expert, another nought. -/
def want (x : S1024x512.Idx → Elt Ideal .f32) (a : IVec S1024x1 32) (W : (⟨3, ![128, 512, 1024]⟩ : Shape).Idx → Elt Ideal .f32) : S1024x1024.Idx → Elt Ideal .f32 :=
  fun i => if rk (ex a) (i 0) < 6 then
    ∑ k : Fin 512, (x (ix2 (i 0) k) * W (ix3 (⟨(ex a (i 0)).toNat % 128, Nat.mod_lt _ (by decide)⟩ : Fin 128) k (i 1)) : EReal) else (0 : EReal)

/-- Whatever agrees with the exchanged rows is the result. -/
theorem want_of {A : Data Ideal} {x : S1024x512.Idx → Elt Ideal .f32} {a : IVec S1024x1 32} {W : (⟨3, ![128, 512, 1024]⟩ : Shape).Idx → Elt Ideal .f32}
    (hx : ∀ o, A.x o = x) (hd : ∀ o, A.d o = table a)
    (hW : ∀ (o : Dev nD) (b : Fin 4) k h, A.e o (ix3 b k h) = W (ix3 (⟨4 * o.val + b.val, by have : o.val < 32 := o.isLt; omega⟩ : Fin 128) k h))
    (he : ∀ t, (ex a t).toNat < 128) {c : Dev nD} {f : S1024x1024.Idx → Elt Ideal .f32} (hf : OutOk A c f) : f = want x a W := by
  funext i
  obtain ⟨t, h, rfl⟩ : ∃ (t : Fin 1024) (h : Fin 1024), i = ix2 t h := ⟨i 0, i 1, funext fun a => match a with | 0 => rfl | 1 => rfl⟩
  show _ = if rk (ex a) t < 6 then
    ∑ k : Fin 512, (x (ix2 t k) * W (ix3 (⟨(ex a t).toNat % 128, Nat.mod_lt _ (by decide)⟩ : Fin 128) k h) : EReal) else (0 : EReal)
  have ht := hf t
  by_cases hr : rk (ex a) t < 6
  · rw [if_pos hr]
    have h1 := he t
    have hq : (ex a t).toNat * 6 + rk (ex a) t < 768 := by omega
    generalize hn : (ex a t).toNat * 6 + rk (ex a) t = n at hq
    have ho : n / 24 < 32 := by omega
    have hj : n % 24 < 24 := by omega
    have hs : (table a (ix2 (⟨n / 24, ho⟩ : Fin 32) (⟨n % 24, hj⟩ : Fin 24))).toNat = t.val := by
      rcases table_at a he ⟨n / 24, ho⟩ ⟨n % 24, hj⟩ with ⟨t', ht', hr', hn'⟩ | ⟨_, hno⟩
      · have e' : (ex a t').toNat * 6 + rk (ex a) t' = n := hn'.trans (by show n / 24 * 24 + n % 24 = n; omega)
        have e : ex a t' = ex a t := BitVec.eq_of_toNat_eq (by omega)
        have : t' = t := rk_inj _ e (by omega)
        rw [ht', this]
      · exact absurd (hn.trans (by show n = n / 24 * 24 + n % 24; omega)) (hno t hr)
    have h2 := slot_at (ht.1 (⟨n / 24, ho⟩ : Fin 32) ⟨n % 24, hj⟩ (by rw [hd]; exact hs)) t (by rw [hd]; exact hs) h
    refine h2.trans (Finset.sum_congr rfl fun k _ => congrArg₂ _ (by rw [hx]) ((hW _ _ k h).trans (congrArg (fun q => W (ix3 q k h)) (Fin.ext ?_))))
    show 4 * (n / 24) + n % 24 / 6 = (ex a t).toNat % 128
    omega
  · rw [if_neg hr]
    refine (ht.2 (fun o j hh => ?_) h).trans Ideal.ofBits_zero_f32
    rw [hd] at hh
    rcases table_at a he o j with ⟨t', ht', hr', _⟩ | ⟨h1, _⟩
    · exact hr ((Fin.ext (ht'.symm.trans hh) : t' = t) ▸ hr')
    · have := t.isLt; omega

end Cert.KernelIdeal.Moe
-- ==== Proof.RefValue.lean ====
/- What the reference's result is: the same rows. -/
module

public import proofs.«01_k».proof.Proof.Ref
public import proofs.«01_k».proof.Proof.Value

@[expose] public section

set_option maxRecDepth 16384

noncomputable section

namespace Cert.ReferenceIdeal.Plain

open Idealize.ShloMosaic hiding ix1 ix2 ix3
open Idealize.ShloMosaic.TcCoe
open Idealize.ShloMosaic.ValueIdx
open Idealize.ShloMosaic.Routing
open Idealize.ShloMosaic.WordCmp
open Idealize.SL.Sem
open Cert.ReferenceIdeal
open Cert.Ranks
open Cert.KernelIdeal.Moe (ex want)
open Facts₀ Facts

attribute [local instance] Cert.ReferenceIdeal.Gen.facts

variable {F : FTy → Type} [FloatOps F]

/-- The tokens' experts as a vector. -/
def ids (a : IVec S1024x1 32) : IVec S1024 32 := shapeCast S1024 a shapeCasts_S1024x1_S1024

/-- Which tokens come before which, of the same expert. -/
def earlier (e : IVec S1024 32) : IVec S1024x1024 32 :=
  extui 32 (andi
    (cmpi .eq (broadcastInDim S1024x1024 ![0, 1] bcast_S1024x1_S1024x1024_0_1 (broadcastInDim S1024x1 ![0] bcast_S1024_S1024x1_0 e))
      (broadcastInDim S1024x1024 ![0, 1] bcast_S1x1024_S1024x1024_0_1 (broadcastInDim S1x1024 ![1] bcast_S1024_S1x1024_1 e)))
    (cmpi .slt (broadcastInDim S1024x1024 ![0, 1] bcast_S1x1024_S1024x1024_0_1 (broadcastInDim S1x1024 ![1] bcast_S1024_S1x1024_1 (iotaInDim S1024 32 0)))
      (broadcastInDim S1024x1024 ![0, 1] bcast_S1024x1_S1024x1024_0_1 (broadcastInDim S1024x1 ![0] bcast_S1024_S1024x1_0 (iotaInDim S1024 32 0))))) natLt_1_32

/-- The tokens' ranks. -/
def ranks (e : IVec S1024 32) : IVec S1024 32 :=
  Host.reduce IntOp.addi (earlier e) (constantI S_ 32 0#32) reducesTo_S1024x1024_S1024_d1 h_S_

/-- The experts as the rows to gather. -/
def picks (e : IVec S1024 32) : IVec S1024x1 32 :=
  broadcastInDim S1024x1 ![0] bcast_S1024_S1024x1_0 (select (cmpi .slt e (broadcastInDim S1024 ![] bcast_S_S1024 (constantI S_ 32 0#32)))
    (addi e (broadcastInDim S1024 ![] bcast_S_S1024 (constantI S_ 32 128#32))) e)

/-- The result. -/
def result (x : FVec F S1024x512 .f32) (a : IVec S1024x1 32) (W : FVec F S128x512x1024 .f32) : FVec F S1024x1024 .f32 :=
  select (broadcastInDim S1024x1024 ![0, 1] bcast_S1024x1_S1024x1024_0_1 (broadcastInDim S1024x1 ![0] bcast_S1024_S1024x1_0
      (cmpi .slt (ranks (ids a)) (broadcastInDim S1024 ![] bcast_S_S1024 (constantI S_ 32 6#32)))))
    (Host.dotGeneral dot_S1024x512_S1024x512x1024_S1024x1024_1_1_n_2_0_0 none x
      (Host.gather gather_S128x512x1024_S1024x1_S1024x512x1024_12_0_n_n_0_1_15121024 W (picks (ids a))))
    (broadcastInDim S1024x1024 ![] bcast_S_S1024x1024 (constant S_ .f32 0x00000000#32))

set_option maxHeartbeats 4000000 in
/-- What the operations leave in the result's buffer. -/
theorem result_eq (V : Valuation τ sig (Elt F)) :
    StableHlo.after ops V (Proc.devRef .tc main_v26)
      = result (V (Proc.devRef .tc main_arg0)) (V (Proc.devRef .tc main_arg2)) (V (Proc.devRef .tc main_arg3)) := by
  after_reads_simp
  try simp -implicitDefEqProofs only [StableHlo.TRef.toBuf, StableHlo.TRef.ofBuf, cast_cast, cast_eq]
  rfl

theorem ids_at (a : IVec S1024x1 32) (t : Fin 1024) : ids a (ix1 t) = ex a t :=
  cast21 a shapeCasts_S1024x1_S1024 t (0 : Fin 1) t (by show t.val = t.val * 1 + 0; omega)

theorem earlier_at (e : IVec S1024 32) (t q : Fin 1024) :
    earlier e (ix2 t q) = if q < t ∧ e (ix1 q) = e (ix1 t) then 1#32 else 0#32 := by
  have h1 := bcRows bcast_S1024_S1024x1_0 bcast_S1024x1_S1024x1024_0_1 e t q
  have h2 := bcCols bcast_S1024_S1x1024_1 bcast_S1x1024_S1024x1024_0_1 e t q
  have h3 := bcCols bcast_S1024_S1x1024_1 bcast_S1x1024_S1024x1024_0_1 (iotaInDim S1024 32 0) t q
  have h4 := bcRows bcast_S1024_S1024x1_0 bcast_S1024x1_S1024x1024_0_1 (iotaInDim S1024 32 0) t q
  have h5 : earlier e (ix2 t q) = BitVec.setWidth 32 (IntOp.andi (IntOp.cmpi .eq (e (ix1 t)) (e (ix1 q))) (IntOp.cmpi .slt (BitVec.ofNat 32 q.val) (BitVec.ofNat 32 t.val))) :=
    congrArg (BitVec.setWidth 32) (congrArg₂ IntOp.andi (congrArg₂ (IntOp.cmpi .eq) h1 h2) (congrArg₂ (IntOp.cmpi .slt) h3 h4))
  have hlt : IntOp.cmpi .slt (BitVec.ofNat 32 q.val) (BitVec.ofNat 32 t.val) = 1#1 ↔ q.val < t.val :=
    cmpi_slt_ofNat_eq_one_iff (by have := q.isLt; omega) (by have := t.isLt; omega)
  rw [h5, cmpi_eq_eq]
  by_cases hq : q < t
  · rw [hlt.2 hq]
    by_cases he : e (ix1 q) = e (ix1 t)
    · rw [if_pos ⟨hq, he⟩, decide_eq_true he.symm]; rfl
    · rw [if_neg (fun h => he h.2), decide_eq_false (fun h => he h.symm)]; rfl
  · rw [if_neg (fun h => hq h.1)]
    have h0 : IntOp.cmpi .slt (BitVec.ofNat 32 q.val) (BitVec.ofNat 32 t.val) = 0#1 := by
      have h6 := mt hlt.1 hq
      revert h6
      generalize IntOp.cmpi .slt (BitVec.ofNat 32 q.val) (BitVec.ofNat 32 t.val) = w
      revert w; decide
    rw [h0]
    by_cases he : e (ix1 t) = e (ix1 q)
    · rw [decide_eq_true he]; rfl
    · rw [decide_eq_false he]; rfl

/-- The reference's rank is the rank. -/
theorem ranks_at (e : IVec S1024 32) (t : Fin 1024) : ranks e (ix1 t) = BitVec.ofNat 32 (rk (fun i => e (ix1 i)) t) := by
  refine (reduce_rows (n := 1024) (k := 1024) _ reducesTo_S1024x1024_S1024_d1 h_S_ t).trans ?_
  exact (Finset.sum_congr rfl fun q _ => earlier_at e t q).trans (sum_ones fun i : Fin 1024 => i < t ∧ e (ix1 i) = e (ix1 t))

theorem picks_at (e : IVec S1024 32) (t : Fin 1024) (he : (e (ix1 t)).toNat < 128) : picks e (ix2 t (0 : Fin 1)) = BitVec.ofNat 32 (e (ix1 t)).toNat := by
  have h1 : picks e (ix2 t (0 : Fin 1)) = if IntOp.cmpi .slt (e (ix1 t)) 0#32 = 1#1 then e (ix1 t) + 128#32 else e (ix1 t) := by
    refine (bcCol bcast_S1024_S1024x1_0 _ t).trans ?_
    show (if IntOp.cmpi .slt (e (ix1 t)) (broadcastInDim S1024 ![] bcast_S_S1024 (constantI S_ 32 0#32) (ix1 t)) = 1#1
      then e (ix1 t) + (broadcastInDim S1024 ![] bcast_S_S1024 (constantI S_ 32 128#32) (ix1 t)) else e (ix1 t)) = _
    rw [bc0, bc0]; rfl
  rw [h1, cmpi_slt_zero, decide_eq_false (by omega), if_neg (by decide)]
  simp

/-- A gathered matrix at an index. -/
theorem gather_at (W : FVec F S128x512x1024 .f32) (p : IVec S1024x1 32) (t : Fin 1024) (k : Fin 512) (h : Fin 1024) (b : Fin 128)
    (hb : p (ix2 t (0 : Fin 1)) = BitVec.ofNat 32 b.val) :
    Host.gather gather_S128x512x1024_S1024x1_S1024x512x1024_12_0_n_n_0_1_15121024 W p (ix3 t k h) = W (ix3 b k h) := by
  unfold Host.gather
  refine congrArg W (funext fun a => Fin.ext ?_)
  have hbN : ∀ a', a' ∉ gather_S128x512x1024_S1024x1_S1024x512x1024_12_0_n_n_0_1_15121024.operandBatchingDims := fun _ => List.not_mem_nil
  match a with
  | ⟨0, _⟩ =>
    show GatherDims.start gather_S128x512x1024_S1024x1_S1024x512x1024_12_0_n_n_0_1_15121024 (ix3 t k h) p 0
      + GatherDims.batchCoord gather_S128x512x1024_S1024x1_S1024x512x1024_12_0_n_n_0_1_15121024 (ix3 t k h) 0
      + GatherDims.offCoord gather_S128x512x1024_S1024x1_S1024x512x1024_12_0_n_n_0_1_15121024 (ix3 t k h) 0 = b.val
    rw [GatherDims.batchCoord_eq_zero _ _ _ (hbN 0), GatherDims.offCoord_eq_zero _ _ _ (fun q => ((GatherDims.mem_sKept _ _).mp q).1 (List.mem_singleton.mpr rfl))]
    unfold GatherDims.start
    rw [dif_pos (show (0 : Fin 3) ∈ gather_S128x512x1024_S1024x1_S1024x512x1024_12_0_n_n_0_1_15121024.startIndexMap from List.mem_singleton.mpr rfl)]
    have hsi : GatherDims.siIdx gather_S128x512x1024_S1024x1_S1024x512x1024_12_0_n_n_0_1_15121024 (ix3 t k h)
        ⟨List.idxOf (0 : Fin 3) gather_S128x512x1024_S1024x1_S1024x512x1024_12_0_n_n_0_1_15121024.startIndexMap, List.idxOf_lt_length_iff.2 (List.mem_singleton.mpr rfl)⟩
        = ix2 t (0 : Fin 1) := funext fun a' => Fin.ext (match a' with | ⟨0, _⟩ => rfl | ⟨1, _⟩ => rfl)
    rw [hsi, hb]
    have hl := b.isLt
    have ht : (BitVec.ofNat 32 b.val).toInt = (b.val : Int) := by
      rw [BitVec.toInt_eq_toNat_cond, BitVec.toNat_ofNat, Nat.mod_eq_of_lt (by omega), if_pos (by omega)]
    rw [ht]
    show min ((b.val : Int)).toNat 127 + 0 + 0 = b.val
    omega
  | ⟨1, _⟩ =>
    show GatherDims.start gather_S128x512x1024_S1024x1_S1024x512x1024_12_0_n_n_0_1_15121024 (ix3 t k h) p 1
      + GatherDims.batchCoord gather_S128x512x1024_S1024x1_S1024x512x1024_12_0_n_n_0_1_15121024 (ix3 t k h) 1
      + GatherDims.offCoord gather_S128x512x1024_S1024x1_S1024x512x1024_12_0_n_n_0_1_15121024 (ix3 t k h) 1 = k.val
    rw [GatherDims.batchCoord_eq_zero _ _ _ (hbN 1), Nat.add_zero]
    unfold GatherDims.start GatherDims.offCoord
    rw [dif_neg (show (1 : Fin 3) ∉ gather_S128x512x1024_S1024x1_S1024x512x1024_12_0_n_n_0_1_15121024.startIndexMap from (by decide : (1 : Fin 3) ∉ ([0] : List (Fin 3)))),
      dif_pos ((GatherDims.mem_sKept _ _).mpr ⟨(by decide : (1 : Fin 3) ∉ ([0] : List (Fin 3))), hbN 1⟩), Nat.zero_add]
    rfl
  | ⟨2, _⟩ =>
    show GatherDims.start gather_S128x512x1024_S1024x1_S1024x512x1024_12_0_n_n_0_1_15121024 (ix3 t k h) p 2
      + GatherDims.batchCoord gather_S128x512x1024_S1024x1_S1024x512x1024_12_0_n_n_0_1_15121024 (ix3 t k h) 2
      + GatherDims.offCoord gather_S128x512x1024_S1024x1_S1024x512x1024_12_0_n_n_0_1_15121024 (ix3 t k h) 2 = h.val
    rw [GatherDims.batchCoord_eq_zero _ _ _ (hbN 2), Nat.add_zero]
    unfold GatherDims.start GatherDims.offCoord
    rw [dif_neg (show (2 : Fin 3) ∉ gather_S128x512x1024_S1024x1_S1024x512x1024_12_0_n_n_0_1_15121024.startIndexMap from (by decide : (2 : Fin 3) ∉ ([0] : List (Fin 3)))),
      dif_pos ((GatherDims.mem_sKept _ _).mpr ⟨(by decide : (2 : Fin 3) ∉ ([0] : List (Fin 3))), hbN 2⟩), Nat.zero_add]
    rfl

/-- A choice at an index. -/
theorem pick_eq {α : Type} {s : Shape} (c : IVec s 1) (x y : s.Idx → α) (i : s.Idx) : select c x y i = if c i = 1#1 then x i else y i := rfl

/-- The reference's result is the rows wanted. -/
theorem result_want (x : FVec Ideal S1024x512 .f32) (a : IVec S1024x1 32) (W : FVec Ideal S128x512x1024 .f32) (he : ∀ t, (ex a t).toNat < 128) :
    result x a W = want x a W := by
  funext i
  obtain ⟨t, h, rfl⟩ : ∃ (t : Fin 1024) (h : Fin 1024), i = ix2 t h := ⟨i 0, i 1, funext fun a => match a with | 0 => rfl | 1 => rfl⟩
  have hid : (fun i => ids a (ix1 i)) = ex a := funext (ids_at a)
  have hr : cmpi .slt (ranks (ids a)) (broadcastInDim S1024 ![] bcast_S_S1024 (constantI S_ 32 6#32)) (ix1 t) = 1#1 ↔ rk (ex a) t < 6 := by
    have e : cmpi .slt (ranks (ids a)) (broadcastInDim S1024 ![] bcast_S_S1024 (constantI S_ 32 6#32)) (ix1 t)
        = IntOp.cmpi .slt (BitVec.ofNat 32 (rk (ex a) t)) 6#32 := congrArg₂ (IntOp.cmpi .slt) ((ranks_at (ids a) t).trans (by rw [hid])) (bc0 bcast_S_S1024 _ _)
    rw [e]
    exact cmpi_slt_ofNat_eq_one_iff (by have := rk_le (ex a) t; omega) (by decide)
  have hb := bcRows bcast_S1024_S1024x1_0 bcast_S1024x1_S1024x1024_0_1
    (cmpi .slt (ranks (ids a)) (broadcastInDim S1024 ![] bcast_S_S1024 (constantI S_ 32 6#32))) t h
  have hd : Host.dotGeneral (F := Ideal) dot_S1024x512_S1024x512x1024_S1024x1024_1_1_n_2_0_0 none x
      (Host.gather gather_S128x512x1024_S1024x1_S1024x512x1024_12_0_n_n_0_1_15121024 W (picks (ids a))) (ix2 t h)
      = ∑ k : Fin 512, (x (ix2 t k) * W (ix3 (⟨(ex a t).toNat % 128, Nat.mod_lt _ (by decide)⟩ : Fin 128) k h) : EReal) := by
    have hg : ∀ k, Host.gather gather_S128x512x1024_S1024x1_S1024x512x1024_12_0_n_n_0_1_15121024 W (picks (ids a)) (ix3 t k h)
        = W (ix3 (⟨(ex a t).toNat % 128, Nat.mod_lt _ (by decide)⟩ : Fin 128) k h) := fun k => by
      refine gather_at W _ t k h _ ((picks_at (ids a) t (by rw [ids_at]; exact he t)).trans ?_)
      rw [ids_at]
      exact congrArg (BitVec.ofNat 32) (Nat.mod_eq_of_lt (he t)).symm
    generalize Host.gather gather_S128x512x1024_S1024x1_S1024x512x1024_12_0_n_n_0_1_15121024 W (picks (ids a)) = G at hg
    refine Eq.trans (b := ∑ k : Fin 512, (x (ix2 t k) * G (ix3 t k h) : EReal)) ?_ (Finset.sum_congr rfl fun k _ => by rw [hg k])
    pointwise
    exact Finset.sum_congr rfl fun k _ => congrArg₂ _ (congrArg x (funext fun a => match a with | 0 => rfl | 1 => rfl))
      (congrArg G (funext fun a => match a with | 0 => rfl | 1 => rfl | 2 => rfl))
  unfold result
  refine (pick_eq _ _ _ _).trans ?_
  refine Eq.trans (ite_congr (congrArg (· = 1#1) hb) (fun _ => hd) (fun _ => bc0 bcast_S_S1024x1024 _ _)) ?_
  show _ = if rk (ex a) t < 6 then
    ∑ k : Fin 512, (x (ix2 t k) * W (ix3 (⟨(ex a t).toNat % 128, Nat.mod_lt _ (by decide)⟩ : Fin 128) k h) : EReal) else (0 : EReal)
  by_cases hk : rk (ex a) t < 6
  · rw [if_pos hk, if_pos (hr.2 hk)]
  · rw [if_neg hk, if_neg (fun q => hk (hr.1 q))]
    exact Ideal.ofBits_zero_f32

end Cert.ReferenceIdeal.Plain
-- ==== Proof.Algebraic.lean ====
/- Over exact numbers the kernel's result is the reference's. -/
module

public import proofs.«01_k».proof.Proof.RefValue

@[expose] public section

set_option maxRecDepth 16384

noncomputable section

namespace Cert.Moe

open Idealize.ShloMosaic hiding ix1 ix2 ix3
open Idealize.ShloMosaic.TcCoe
open Idealize.ShloMosaic.ValueIdx
open Idealize.SL.Sem
open Cert.KernelIdeal.Moe (ex want want_of in_range tables_ok table_of rows_of mats_of run_main)
open Cert.ReferenceIdeal.Plain (result result_eq result_want)

attribute [local instance] Cert.KernelIdeal.Gen.facts Cert.ReferenceIdeal.Gen.facts Cert.Pre_in_range_Kernel.Gen.facts

/-- Block `b` of device `o`'s matrices is matrix `4 o + b` of the whole. -/
theorem block_at (W : (⟨3, ![128, 512, 1024]⟩ : Shape).Idx → Elt Ideal .f32) (o : Fin 32) (b : Fin 4) (k : Fin 512) (h : Fin 1024) :
    Layout.block ⟨3, ![4, 512, 1024]⟩ ⟨3, ![128, 512, 1024]⟩ 0 32 o W (by decide) (ix3 b k h) = W (ix3 (⟨4 * o.val + b.val, by omega⟩ : Fin 128) k h) := by
  refine congrArg W (funext fun a => Fin.ext ?_)
  match a with
  | ⟨0, _⟩ => show o.val * 4 + b.val = 4 * o.val + b.val; omega
  | ⟨1, _⟩ => rfl
  | ⟨2, _⟩ => rfl

/-- On inputs in range every device's result is the reference's, over exact numbers; the arguments are as before. -/
theorem algebraic : Cert.algebraic_KernelIdeal_ReferenceIdeal := fun m ρ m' ρ' hp hag => by
  have he : ∀ (c : Dev Cert.KernelIdeal.nD) t, (ex (m ((c.tc : Thread Cert.KernelIdeal.nD Cert.KernelIdeal.τ).loc Cert.KernelIdeal.main_arg2)) t).toNat < 128 :=
    fun c t => in_range _ _ _ _ (hp c) t
  have he' : ∀ t, (ex (m' (((0 : Dev Cert.ReferenceIdeal.nD).tc : Thread Cert.ReferenceIdeal.nD Cert.ReferenceIdeal.τ).loc Cert.ReferenceIdeal.main_arg2)) t).toNat < 128 := by
    rw [← (hag 0).2.2.1]; exact he 0
  refine ⟨result (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · rw [result_want _ _ _ he']
    refine (θ_run (Cert.KernelIdeal.defs (F := Ideal)) _ _).mono
      (fun _ k c => ⟨(k.1 c).2.2.2.2 rfl, (k.1 c).1, (k.1 c).2.1, (k.1 c).2.2.1, (k.1 c).2.2.2.1⟩)
      (run_main ρ (m := m) (out := fun _ => _) (fg := false) (tables_ok m he) (fun _ c f hf => want_of (fun o => ?_) (fun o => ?_) (fun o b k h => ?_) he' hf))
    · rw [rows_of]; exact (hag o).1
    · rw [table_of]; exact congrArg _ (hag o).2.2.1
    · rw [mats_of]; exact (congrFun (hag o).2.2.2 (ix3 b k h)).trans (block_at _ o b k h)
  · refine (θ_run (Cert.ReferenceIdeal.defs (F := Ideal)) _ _).mono (fun _ h => ?_) (Cert.ReferenceIdeal.Plain.run m' ρ')
    have k := Cert.ReferenceIdeal.Plain.kept (F := Ideal) (StableHlo.launchContents m' 0)
    exact ⟨(h.1 0 _).trans (result_eq _), (h.1 0 _).trans k.1, (h.1 0 _).trans k.2.1, (h.1 0 _).trans k.2.2.1, (h.1 0 _).trans k.2.2.2⟩

end Cert.Moe
-- ==== Proof.lean ====
module

public import proofs.«01_k».proof.Defs
public import proofs.«01_k».proof.Proof.Frame
public import proofs.«01_k».proof.Proof.Algebraic

@[expose] public section

noncomputable section

namespace Cert.Proof

/-- All the claims of this certificate. -/
theorem claim : Cert.Claim := ⟨Cert.Kernel.Gen.facts, Cert.KernelIdeal.Gen.facts, Cert.ReferenceIdeal.Gen.facts, Cert.Pre_in_range_Kernel.Gen.facts, Cert.Pre_in_range_ReferenceIdeal.Gen.facts,
  Cert.Moe.frame_kernel, Cert.KernelIdeal.Moe.frame_ideal, Cert.Moe.frame_reference, Cert.Moe.frame_reference_in_range, trivial, Cert.Moe.algebraic⟩

end Cert.Proof

end
